-- ==== Defs.lean ====
def Pre_Pw2 (m : (ℓ : Loc Cert.Pw2.nD Cert.Pw2.τ Cert.Pw2.sig) → Buf (Elt Bits) ℓ) : Prop :=
  True

def Pre_Pw2Ideal (m : (ℓ : Loc Cert.Pw2Ideal.nD Cert.Pw2Ideal.τ Cert.Pw2Ideal.sig) → Buf (Elt Ideal) ℓ) : Prop :=
  True

def Pre_Pw2Ideal_finite_pw2 [hPre_finite_pw2 : Cert.Pre_finite_pw2.Facts] (m : (ℓ : Loc Cert.Pw2Ideal.nD Cert.Pw2Ideal.τ Cert.Pw2Ideal.sig) → Buf (Elt Ideal) ℓ) : Prop :=
  ∀ c : Dev Cert.Pw2Ideal.nD,
    (Cert.Pre_finite_pw2.fn (F := Ideal) (m ((c.tc : Thread Cert.Pw2Ideal.nD Cert.Pw2Ideal.τ).loc Cert.Pw2Ideal.main_arg0)) (m ((c.tc : Thread Cert.Pw2Ideal.nD Cert.Pw2Ideal.τ).loc Cert.Pw2Ideal.main_arg1)) (m ((c.tc : Thread Cert.Pw2Ideal.nD Cert.Pw2Ideal.τ).loc Cert.Pw2Ideal.main_arg2)) (m ((c.tc : Thread Cert.Pw2Ideal.nD Cert.Pw2Ideal.τ).loc Cert.Pw2Ideal.main_arg3))) = (fun _ => 1#1)

def Pre_Pw2RefIdeal (m : (ℓ : Loc Cert.Pw2RefIdeal.nD Cert.Pw2RefIdeal.τ Cert.Pw2RefIdeal.sig) → Buf (Elt Ideal) ℓ) : Prop :=
  True

def Pre_Pw2RefIdeal_finite_pw2 [hPre_finite_pw2 : Cert.Pre_finite_pw2.Facts] (m : (ℓ : Loc Cert.Pw2RefIdeal.nD Cert.Pw2RefIdeal.τ Cert.Pw2RefIdeal.sig) → Buf (Elt Ideal) ℓ) : Prop :=
  ∀ c : Dev Cert.Pw2RefIdeal.nD,
    (Cert.Pre_finite_pw2.fn (F := Ideal) (m ((c.tc : Thread Cert.Pw2RefIdeal.nD Cert.Pw2RefIdeal.τ).loc Cert.Pw2RefIdeal.main_arg0)) (m ((c.tc : Thread Cert.Pw2RefIdeal.nD Cert.Pw2RefIdeal.τ).loc Cert.Pw2RefIdeal.main_arg1)) (m ((c.tc : Thread Cert.Pw2RefIdeal.nD Cert.Pw2RefIdeal.τ).loc Cert.Pw2RefIdeal.main_arg2)) (m ((c.tc : Thread Cert.Pw2RefIdeal.nD Cert.Pw2RefIdeal.τ).loc Cert.Pw2RefIdeal.main_arg3))) = (fun _ => 1#1)

def Pre_SguIn (m : (ℓ : Loc Cert.SguIn.nD Cert.SguIn.τ Cert.SguIn.sig) → Buf (Elt Bits) ℓ) : Prop :=
  True

def Pre_SguInIdeal (m : (ℓ : Loc Cert.SguInIdeal.nD Cert.SguInIdeal.τ Cert.SguInIdeal.sig) → Buf (Elt Ideal) ℓ) : Prop :=
  True

def Pre_SguInIdeal_finite_sgu_in [hPre_finite_sgu_in : Cert.Pre_finite_sgu_in.Facts] (m : (ℓ : Loc Cert.SguInIdeal.nD Cert.SguInIdeal.τ Cert.SguInIdeal.sig) → Buf (Elt Ideal) ℓ) : Prop :=
  ∀ c : Dev Cert.SguInIdeal.nD,
    (Cert.Pre_finite_sgu_in.fn (F := Ideal) (m ((c.tc : Thread Cert.SguInIdeal.nD Cert.SguInIdeal.τ).loc Cert.SguInIdeal.main_arg0)) (m ((c.tc : Thread Cert.SguInIdeal.nD Cert.SguInIdeal.τ).loc Cert.SguInIdeal.main_arg1)) (m ((c.tc : Thread Cert.SguInIdeal.nD Cert.SguInIdeal.τ).loc Cert.SguInIdeal.main_arg2)) (m ((c.tc : Thread Cert.SguInIdeal.nD Cert.SguInIdeal.τ).loc Cert.SguInIdeal.main_arg3)) (m ((c.tc : Thread Cert.SguInIdeal.nD Cert.SguInIdeal.τ).loc Cert.SguInIdeal.main_arg4))) = (fun _ => 1#1)

def Pre_SguInRefIdeal (m : (ℓ : Loc Cert.SguInRefIdeal.nD Cert.SguInRefIdeal.τ Cert.SguInRefIdeal.sig) → Buf (Elt Ideal) ℓ) : Prop :=
  True

def Pre_SguInRefIdeal_finite_sgu_in [hPre_finite_sgu_in : Cert.Pre_finite_sgu_in.Facts] (m : (ℓ : Loc Cert.SguInRefIdeal.nD Cert.SguInRefIdeal.τ Cert.SguInRefIdeal.sig) → Buf (Elt Ideal) ℓ) : Prop :=
  ∀ c : Dev Cert.SguInRefIdeal.nD,
    (Cert.Pre_finite_sgu_in.fn (F := Ideal) (m ((c.tc : Thread Cert.SguInRefIdeal.nD Cert.SguInRefIdeal.τ).loc Cert.SguInRefIdeal.main_arg0)) (m ((c.tc : Thread Cert.SguInRefIdeal.nD Cert.SguInRefIdeal.τ).loc Cert.SguInRefIdeal.main_arg1)) (m ((c.tc : Thread Cert.SguInRefIdeal.nD Cert.SguInRefIdeal.τ).loc Cert.SguInRefIdeal.main_arg2)) (m ((c.tc : Thread Cert.SguInRefIdeal.nD Cert.SguInRefIdeal.τ).loc Cert.SguInRefIdeal.main_arg3)) (m ((c.tc : Thread Cert.SguInRefIdeal.nD Cert.SguInRefIdeal.τ).loc Cert.SguInRefIdeal.main_arg4))) = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_finite_sgu [hPre_finite_sgu : Cert.Pre_finite_sgu.Facts] (m : (ℓ : Loc Cert.SguIdeal.nD Cert.SguIdeal.τ Cert.SguIdeal.sig) → Buf (Elt Ideal) ℓ) : Prop :=
  ∀ c : Dev Cert.SguIdeal.nD,
    (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6)) (m ((c.tc : Thread Cert.SguIdeal.nD Cert.SguIdeal.τ).loc Cert.SguIdeal.main_arg7))) = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_finite_sgu [hPre_finite_sgu : Cert.Pre_finite_sgu.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6)) (m ((c.tc : Thread Cert.SguRefIdeal.nD Cert.SguRefIdeal.τ).loc Cert.SguRefIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Pw1 (m : (ℓ : Loc Cert.Pw1.nD Cert.Pw1.τ Cert.Pw1.sig) → Buf (Elt Bits) ℓ) : Prop :=
  True

def Pre_Pw1Ideal (m : (ℓ : Loc Cert.Pw1Ideal.nD Cert.Pw1Ideal.τ Cert.Pw1Ideal.sig) → Buf (Elt Ideal) ℓ) : Prop :=
  True

def Pre_Pw1Ideal_finite_pw1 [hPre_finite_pw1 : Cert.Pre_finite_pw1.Facts] (m : (ℓ : Loc Cert.Pw1Ideal.nD Cert.Pw1Ideal.τ Cert.Pw1Ideal.sig) → Buf (Elt Ideal) ℓ) : Prop :=
  ∀ c : Dev Cert.Pw1Ideal.nD,
    (Cert.Pre_finite_pw1.fn (F := Ideal) (m ((c.tc : Thread Cert.Pw1Ideal.nD Cert.Pw1Ideal.τ).loc Cert.Pw1Ideal.main_arg0)) (m ((c.tc : Thread Cert.Pw1Ideal.nD Cert.Pw1Ideal.τ).loc Cert.Pw1Ideal.main_arg1)) (m ((c.tc : Thread Cert.Pw1Ideal.nD Cert.Pw1Ideal.τ).loc Cert.Pw1Ideal.main_arg2)) (m ((c.tc : Thread Cert.Pw1Ideal.nD Cert.Pw1Ideal.τ).loc Cert.Pw1Ideal.main_arg3)) (m ((c.tc : Thread Cert.Pw1Ideal.nD Cert.Pw1Ideal.τ).loc Cert.Pw1Ideal.main_arg4))) = (fun _ => 1#1)

def Pre_Pw1RefIdeal (m : (ℓ : Loc Cert.Pw1RefIdeal.nD Cert.Pw1RefIdeal.τ Cert.Pw1RefIdeal.sig) → Buf (Elt Ideal) ℓ) : Prop :=
  True

def Pre_Pw1RefIdeal_finite_pw1 [hPre_finite_pw1 : Cert.Pre_finite_pw1.Facts] (m : (ℓ : Loc Cert.Pw1RefIdeal.nD Cert.Pw1RefIdeal.τ Cert.Pw1RefIdeal.sig) → Buf (Elt Ideal) ℓ) : Prop :=
  ∀ c : Dev Cert.Pw1RefIdeal.nD,
    (Cert.Pre_finite_pw1.fn (F := Ideal) (m ((c.tc : Thread Cert.Pw1RefIdeal.nD Cert.Pw1RefIdeal.τ).loc Cert.Pw1RefIdeal.main_arg0)) (m ((c.tc : Thread Cert.Pw1RefIdeal.nD Cert.Pw1RefIdeal.τ).loc Cert.Pw1RefIdeal.main_arg1)) (m ((c.tc : Thread Cert.Pw1RefIdeal.nD Cert.Pw1RefIdeal.τ).loc Cert.Pw1RefIdeal.main_arg2)) (m ((c.tc : Thread Cert.Pw1RefIdeal.nD Cert.Pw1RefIdeal.τ).loc Cert.Pw1RefIdeal.main_arg3)) (m ((c.tc : Thread Cert.Pw1RefIdeal.nD Cert.Pw1RefIdeal.τ).loc Cert.Pw1RefIdeal.main_arg4))) = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite_out [hPre_finite_out : Cert.Pre_finite_out.Facts] (m : (ℓ : Loc Cert.OutIdeal.nD Cert.OutIdeal.τ Cert.OutIdeal.sig) → Buf (Elt Ideal) ℓ) : Prop :=
  ∀ c : Dev Cert.OutIdeal.nD,
    (Cert.Pre_finite_out.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite_out [hPre_finite_out : Cert.Pre_finite_out.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite_out.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3))) = (fun _ => 1#1)

def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossIdeal_finite_out_loss [hPre_finite_out_loss : Cert.Pre_finite_out_loss.Facts] (m : (ℓ : Loc Cert.OutLossIdeal.nD Cert.OutLossIdeal.τ Cert.OutLossIdeal.sig) → Buf (Elt Ideal) ℓ) : Prop :=
  ∀ c : Dev Cert.OutLossIdeal.nD,
    (Cert.Pre_finite_out_loss.fn (F := Ideal) (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4))) = (fun _ => 1#1)

def Pre_OutLossRefIdeal (m : (ℓ : Loc Cert.OutLossRefIdeal.nD Cert.OutLossRefIdeal.τ Cert.OutLossRefIdeal.sig) → Buf (Elt Ideal) ℓ) : Prop :=
  True

def Pre_OutLossRefIdeal_finite_out_loss [hPre_finite_out_loss : Cert.Pre_finite_out_loss.Facts] (m : (ℓ : Loc Cert.OutLossRefIdeal.nD Cert.OutLossRefIdeal.τ Cert.OutLossRefIdeal.sig) → Buf (Elt Ideal) ℓ) : Prop :=
  ∀ c : Dev Cert.OutLossRefIdeal.nD,
    (Cert.Pre_finite_out_loss.fn (F := Ideal) (m ((c.tc : Thread Cert.OutLossRefIdeal.nD Cert.OutLossRefIdeal.τ).loc Cert.OutLossRefIdeal.main_arg0)) (m ((c.tc : Thread Cert.OutLossRefIdeal.nD Cert.OutLossRefIdeal.τ).loc Cert.OutLossRefIdeal.main_arg1)) (m ((c.tc : Thread Cert.OutLossRefIdeal.nD Cert.OutLossRefIdeal.τ).loc Cert.OutLossRefIdeal.main_arg2)) (m ((c.tc : Thread Cert.OutLossRefIdeal.nD Cert.OutLossRefIdeal.τ).loc Cert.OutLossRefIdeal.main_arg3)) (m ((c.tc : Thread Cert.OutLossRefIdeal.nD Cert.OutLossRefIdeal.τ).loc Cert.OutLossRefIdeal.main_arg4))) = (fun _ => 1#1)

def Pre_Pw2Out (m : (ℓ : Loc Cert.Pw2Out.nD Cert.Pw2Out.τ Cert.Pw2Out.sig) → Buf (Elt Bits) ℓ) : Prop :=
  True

def Pre_Pw2OutIdeal (m : (ℓ : Loc Cert.Pw2OutIdeal.nD Cert.Pw2OutIdeal.τ Cert.Pw2OutIdeal.sig) → Buf (Elt Ideal) ℓ) : Prop :=
  True

def Pre_Pw2OutIdeal_finite_pw2_out [hPre_finite_pw2_out : Cert.Pre_finite_pw2_out.Facts] (m : (ℓ : Loc Cert.Pw2OutIdeal.nD Cert.Pw2OutIdeal.τ Cert.Pw2OutIdeal.sig) → Buf (Elt Ideal) ℓ) : Prop :=
  ∀ c : Dev Cert.Pw2OutIdeal.nD,
    (Cert.Pre_finite_pw2_out.fn (F := Ideal) (m ((c.tc : Thread Cert.Pw2OutIdeal.nD Cert.Pw2OutIdeal.τ).loc Cert.Pw2OutIdeal.main_arg0)) (m ((c.tc : Thread Cert.Pw2OutIdeal.nD Cert.Pw2OutIdeal.τ).loc Cert.Pw2OutIdeal.main_arg1)) (m ((c.tc : Thread Cert.Pw2OutIdeal.nD Cert.Pw2OutIdeal.τ).loc Cert.Pw2OutIdeal.main_arg2)) (m ((c.tc : Thread Cert.Pw2OutIdeal.nD Cert.Pw2OutIdeal.τ).loc Cert.Pw2OutIdeal.main_arg3))) = (fun _ => 1#1)

def Pre_Pw2OutRefIdeal (m : (ℓ : Loc Cert.Pw2OutRefIdeal.nD Cert.Pw2OutRefIdeal.τ Cert.Pw2OutRefIdeal.sig) → Buf (Elt Ideal) ℓ) : Prop :=
  True

def Pre_Pw2OutRefIdeal_finite_pw2_out [hPre_finite_pw2_out : Cert.Pre_finite_pw2_out.Facts] (m : (ℓ : Loc Cert.Pw2OutRefIdeal.nD Cert.Pw2OutRefIdeal.τ Cert.Pw2OutRefIdeal.sig) → Buf (Elt Ideal) ℓ) : Prop :=
  ∀ c : Dev Cert.Pw2OutRefIdeal.nD,
    (Cert.Pre_finite_pw2_out.fn (F := Ideal) (m ((c.tc : Thread Cert.Pw2OutRefIdeal.nD Cert.Pw2OutRefIdeal.τ).loc Cert.Pw2OutRefIdeal.main_arg0)) (m ((c.tc : Thread Cert.Pw2OutRefIdeal.nD Cert.Pw2OutRefIdeal.τ).loc Cert.Pw2OutRefIdeal.main_arg1)) (m ((c.tc : Thread Cert.Pw2OutRefIdeal.nD Cert.Pw2OutRefIdeal.τ).loc Cert.Pw2OutRefIdeal.main_arg2)) (m ((c.tc : Thread Cert.Pw2OutRefIdeal.nD Cert.Pw2OutRefIdeal.τ).loc Cert.Pw2OutRefIdeal.main_arg3))) = (fun _ => 1#1)

def Pre_SguOut (m : (ℓ : Loc Cert.SguOut.nD Cert.SguOut.τ Cert.SguOut.sig) → Buf (Elt Bits) ℓ) : Prop :=
  True

def Pre_SguOutIdeal (m : (ℓ : Loc Cert.SguOutIdeal.nD Cert.SguOutIdeal.τ Cert.SguOutIdeal.sig) → Buf (Elt Ideal) ℓ) : Prop :=
  True

def Pre_SguOutIdeal_finite_sgu_out [hPre_finite_sgu_out : Cert.Pre_finite_sgu_out.Facts] (m : (ℓ : Loc Cert.SguOutIdeal.nD Cert.SguOutIdeal.τ Cert.SguOutIdeal.sig) → Buf (Elt Ideal) ℓ) : Prop :=
  ∀ c : Dev Cert.SguOutIdeal.nD,
    (Cert.Pre_finite_sgu_out.fn (F := Ideal) (m ((c.tc : Thread Cert.SguOutIdeal.nD Cert.SguOutIdeal.τ).loc Cert.SguOutIdeal.main_arg0)) (m ((c.tc : Thread Cert.SguOutIdeal.nD Cert.SguOutIdeal.τ).loc Cert.SguOutIdeal.main_arg1)) (m ((c.tc : Thread Cert.SguOutIdeal.nD Cert.SguOutIdeal.τ).loc Cert.SguOutIdeal.main_arg2)) (m ((c.tc : Thread Cert.SguOutIdeal.nD Cert.SguOutIdeal.τ).loc Cert.SguOutIdeal.main_arg3))) = (fun _ => 1#1)

def Pre_SguOutRefIdeal (m : (ℓ : Loc Cert.SguOutRefIdeal.nD Cert.SguOutRefIdeal.τ Cert.SguOutRefIdeal.sig) → Buf (Elt Ideal) ℓ) : Prop :=
  True

def Pre_SguOutRefIdeal_finite_sgu_out [hPre_finite_sgu_out : Cert.Pre_finite_sgu_out.Facts] (m : (ℓ : Loc Cert.SguOutRefIdeal.nD Cert.SguOutRefIdeal.τ Cert.SguOutRefIdeal.sig) → Buf (Elt Ideal) ℓ) : Prop :=
  ∀ c : Dev Cert.SguOutRefIdeal.nD,
    (Cert.Pre_finite_sgu_out.fn (F := Ideal) (m ((c.tc : Thread Cert.SguOutRefIdeal.nD Cert.SguOutRefIdeal.τ).loc Cert.SguOutRefIdeal.main_arg0)) (m ((c.tc : Thread Cert.SguOutRefIdeal.nD Cert.SguOutRefIdeal.τ).loc Cert.SguOutRefIdeal.main_arg1)) (m ((c.tc : Thread Cert.SguOutRefIdeal.nD Cert.SguOutRefIdeal.τ).loc Cert.SguOutRefIdeal.main_arg2)) (m ((c.tc : Thread Cert.SguOutRefIdeal.nD Cert.SguOutRefIdeal.τ).loc Cert.SguOutRefIdeal.main_arg3))) = (fun _ => 1#1)

def Pre_SguInFwd (m : (ℓ : Loc Cert.SguInFwd.nD Cert.SguInFwd.τ Cert.SguInFwd.sig) → Buf (Elt Bits) ℓ) : Prop :=
  True

def Pre_SguInFwdIdeal (m : (ℓ : Loc Cert.SguInFwdIdeal.nD Cert.SguInFwdIdeal.τ Cert.SguInFwdIdeal.sig) → Buf (Elt Ideal) ℓ) : Prop :=
  True

def Pre_SguInFwdIdeal_finite_sgu_in_fwd [hPre_finite_sgu_in_fwd : Cert.Pre_finite_sgu_in_fwd.Facts] (m : (ℓ : Loc Cert.SguInFwdIdeal.nD Cert.SguInFwdIdeal.τ Cert.SguInFwdIdeal.sig) → Buf (Elt Ideal) ℓ) : Prop :=
  ∀ c : Dev Cert.SguInFwdIdeal.nD,
    (Cert.Pre_finite_sgu_in_fwd.fn (F := Ideal) (m ((c.tc : Thread Cert.SguInFwdIdeal.nD Cert.SguInFwdIdeal.τ).loc Cert.SguInFwdIdeal.main_arg0)) (m ((c.tc : Thread Cert.SguInFwdIdeal.nD Cert.SguInFwdIdeal.τ).loc Cert.SguInFwdIdeal.main_arg1)) (m ((c.tc : Thread Cert.SguInFwdIdeal.nD Cert.SguInFwdIdeal.τ).loc Cert.SguInFwdIdeal.main_arg2))) = (fun _ => 1#1)

def Pre_SguInFwdRefIdeal (m : (ℓ : Loc Cert.SguInFwdRefIdeal.nD Cert.SguInFwdRefIdeal.τ Cert.SguInFwdRefIdeal.sig) → Buf (Elt Ideal) ℓ) : Prop :=
  True

def Pre_SguInFwdRefIdeal_finite_sgu_in_fwd [hPre_finite_sgu_in_fwd : Cert.Pre_finite_sgu_in_fwd.Facts] (m : (ℓ : Loc Cert.SguInFwdRefIdeal.nD Cert.SguInFwdRefIdeal.τ Cert.SguInFwdRefIdeal.sig) → Buf (Elt Ideal) ℓ) : Prop :=
  ∀ c : Dev Cert.SguInFwdRefIdeal.nD,
    (Cert.Pre_finite_sgu_in_fwd.fn (F := Ideal) (m ((c.tc : Thread Cert.SguInFwdRefIdeal.nD Cert.SguInFwdRefIdeal.τ).loc Cert.SguInFwdRefIdeal.main_arg0)) (m ((c.tc : Thread Cert.SguInFwdRefIdeal.nD Cert.SguInFwdRefIdeal.τ).loc Cert.SguInFwdRefIdeal.main_arg1)) (m ((c.tc : Thread Cert.SguInFwdRefIdeal.nD Cert.SguInFwdRefIdeal.τ).loc Cert.SguInFwdRefIdeal.main_arg2))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def quiescent_Pw2 [hPw2 : Cert.Pw2.Facts] : Prop :=
  ∀ (m : (ℓ : Loc Cert.Pw2.nD Cert.Pw2.τ Cert.Pw2.sig) → Buf (Elt Bits) ℓ) (g : Dev Cert.Pw2.nD → PrngReg), Pre_Pw2 m →
    θ_run (Cert.Pw2.defs (F := Bits)) (onTc (τ := Cert.Pw2.τ) (Cert.Pw2.main (F := Bits))) ⟨m, fun _ => 0, g⟩ (fun r => (∀ c : Dev Cert.Pw2.nD,
      r.2.mem ((c.tc : Thread Cert.Pw2.nD Cert.Pw2.τ).loc Cert.Pw2.main_arg0) = m ((c.tc : Thread Cert.Pw2.nD Cert.Pw2.τ).loc Cert.Pw2.main_arg0)
      ∧ r.2.mem ((c.tc : Thread Cert.Pw2.nD Cert.Pw2.τ).loc Cert.Pw2.main_arg1) = m ((c.tc : Thread Cert.Pw2.nD Cert.Pw2.τ).loc Cert.Pw2.main_arg1)
      ∧ r.2.mem ((c.tc : Thread Cert.Pw2.nD Cert.Pw2.τ).loc Cert.Pw2.main_arg2) = m ((c.tc : Thread Cert.Pw2.nD Cert.Pw2.τ).loc Cert.Pw2.main_arg2)
      ∧ r.2.mem ((c.tc : Thread Cert.Pw2.nD Cert.Pw2.τ).loc Cert.Pw2.main_arg3) = m ((c.tc : Thread Cert.Pw2.nD Cert.Pw2.τ).loc Cert.Pw2.main_arg3))
      ∧ r.2.sem = fun _ => 0)

def quiescent_Pw2Ideal [hPw2Ideal : Cert.Pw2Ideal.Facts] : Prop :=
  ∀ (m : (ℓ : Loc Cert.Pw2Ideal.nD Cert.Pw2Ideal.τ Cert.Pw2Ideal.sig) → Buf (Elt Ideal) ℓ) (g : Dev Cert.Pw2Ideal.nD → PrngReg), Pre_Pw2Ideal m →
    θ_run (Cert.Pw2Ideal.defs (F := Ideal)) (onTc (τ := Cert.Pw2Ideal.τ) (Cert.Pw2Ideal.main (F := Ideal))) ⟨m, fun _ => 0, g⟩ (fun r => (∀ c : Dev Cert.Pw2Ideal.nD,
      r.2.mem ((c.tc : Thread Cert.Pw2Ideal.nD Cert.Pw2Ideal.τ).loc Cert.Pw2Ideal.main_arg0) = m ((c.tc : Thread Cert.Pw2Ideal.nD Cert.Pw2Ideal.τ).loc Cert.Pw2Ideal.main_arg0)
      ∧ r.2.mem ((c.tc : Thread Cert.Pw2Ideal.nD Cert.Pw2Ideal.τ).loc Cert.Pw2Ideal.main_arg1) = m ((c.tc : Thread Cert.Pw2Ideal.nD Cert.Pw2Ideal.τ).loc Cert.Pw2Ideal.main_arg1)
      ∧ r.2.mem ((c.tc : Thread Cert.Pw2Ideal.nD Cert.Pw2Ideal.τ).loc Cert.Pw2Ideal.main_arg2) = m ((c.tc : Thread Cert.Pw2Ideal.nD Cert.Pw2Ideal.τ).loc Cert.Pw2Ideal.main_arg2)
      ∧ r.2.mem ((c.tc : Thread Cert.Pw2Ideal.nD Cert.Pw2Ideal.τ).loc Cert.Pw2Ideal.main_arg3) = m ((c.tc : Thread Cert.Pw2Ideal.nD Cert.Pw2Ideal.τ).loc Cert.Pw2Ideal.main_arg3))
      ∧ r.2.sem = fun _ => 0)

def quiescent_Pw2Ideal_pre_finite_pw2 [hPw2Ideal : Cert.Pw2Ideal.Facts] [hPre_finite_pw2 : Cert.Pre_finite_pw2.Facts] : Prop :=
  ∀ (m : (ℓ : Loc Cert.Pw2Ideal.nD Cert.Pw2Ideal.τ Cert.Pw2Ideal.sig) → Buf (Elt Ideal) ℓ) (g : Dev Cert.Pw2Ideal.nD → PrngReg), Pre_Pw2Ideal_finite_pw2 m →
    θ_run (Cert.Pw2Ideal.defs (F := Ideal)) (onTc (τ := Cert.Pw2Ideal.τ) (Cert.Pw2Ideal.main (F := Ideal))) ⟨m, fun _ => 0, g⟩ (fun r => (∀ c : Dev Cert.Pw2Ideal.nD,
      r.2.mem ((c.tc : Thread Cert.Pw2Ideal.nD Cert.Pw2Ideal.τ).loc Cert.Pw2Ideal.main_arg0) = m ((c.tc : Thread Cert.Pw2Ideal.nD Cert.Pw2Ideal.τ).loc Cert.Pw2Ideal.main_arg0)
      ∧ r.2.mem ((c.tc : Thread Cert.Pw2Ideal.nD Cert.Pw2Ideal.τ).loc Cert.Pw2Ideal.main_arg1) = m ((c.tc : Thread Cert.Pw2Ideal.nD Cert.Pw2Ideal.τ).loc Cert.Pw2Ideal.main_arg1)
      ∧ r.2.mem ((c.tc : Thread Cert.Pw2Ideal.nD Cert.Pw2Ideal.τ).loc Cert.Pw2Ideal.main_arg2) = m ((c.tc : Thread Cert.Pw2Ideal.nD Cert.Pw2Ideal.τ).loc Cert.Pw2Ideal.main_arg2)
      ∧ r.2.mem ((c.tc : Thread Cert.Pw2Ideal.nD Cert.Pw2Ideal.τ).loc Cert.Pw2Ideal.main_arg3) = m ((c.tc : Thread Cert.Pw2Ideal.nD Cert.Pw2Ideal.τ).loc Cert.Pw2Ideal.main_arg3))
      ∧ r.2.sem = fun _ => 0)

def quiescent_Pw2RefIdeal [hPw2RefIdeal : Cert.Pw2RefIdeal.Facts] : Prop :=
  ∀ (m : (ℓ : Loc Cert.Pw2RefIdeal.nD Cert.Pw2RefIdeal.τ Cert.Pw2RefIdeal.sig) → Buf (Elt Ideal) ℓ) (g : Dev Cert.Pw2RefIdeal.nD → PrngReg), Pre_Pw2RefIdeal m →
    θ_run (Cert.Pw2RefIdeal.defs (F := Ideal)) (onTc (τ := Cert.Pw2RefIdeal.τ) (Cert.Pw2RefIdeal.main (F := Ideal))) ⟨m, fun _ => 0, g⟩ (fun r => (∀ c : Dev Cert.Pw2RefIdeal.nD,
      r.2.mem ((c.tc : Thread Cert.Pw2RefIdeal.nD Cert.Pw2RefIdeal.τ).loc Cert.Pw2RefIdeal.main_arg0) = m ((c.tc : Thread Cert.Pw2RefIdeal.nD Cert.Pw2RefIdeal.τ).loc Cert.Pw2RefIdeal.main_arg0)
      ∧ r.2.mem ((c.tc : Thread Cert.Pw2RefIdeal.nD Cert.Pw2RefIdeal.τ).loc Cert.Pw2RefIdeal.main_arg1) = m ((c.tc : Thread Cert.Pw2RefIdeal.nD Cert.Pw2RefIdeal.τ).loc Cert.Pw2RefIdeal.main_arg1)
      ∧ r.2.mem ((c.tc : Thread Cert.Pw2RefIdeal.nD Cert.Pw2RefIdeal.τ).loc Cert.Pw2RefIdeal.main_arg2) = m ((c.tc : Thread Cert.Pw2RefIdeal.nD Cert.Pw2RefIdeal.τ).loc Cert.Pw2RefIdeal.main_arg2)
      ∧ r.2.mem ((c.tc : Thread Cert.Pw2RefIdeal.nD Cert.Pw2RefIdeal.τ).loc Cert.Pw2RefIdeal.main_arg3) = m ((c.tc : Thread Cert.Pw2RefIdeal.nD Cert.Pw2RefIdeal.τ).loc Cert.Pw2RefIdeal.main_arg3))
      ∧ r.2.sem = fun _ => 0)

def quiescent_Pw2RefIdeal_pre_finite_pw2 [hPw2RefIdeal : Cert.Pw2RefIdeal.Facts] [hPre_finite_pw2 : Cert.Pre_finite_pw2.Facts] : Prop :=
  ∀ (m : (ℓ : Loc Cert.Pw2RefIdeal.nD Cert.Pw2RefIdeal.τ Cert.Pw2RefIdeal.sig) → Buf (Elt Ideal) ℓ) (g : Dev Cert.Pw2RefIdeal.nD → PrngReg), Pre_Pw2RefIdeal_finite_pw2 m →
    θ_run (Cert.Pw2RefIdeal.defs (F := Ideal)) (onTc (τ := Cert.Pw2RefIdeal.τ) (Cert.Pw2RefIdeal.main (F := Ideal))) ⟨m, fun _ => 0, g⟩ (fun r => (∀ c : Dev Cert.Pw2RefIdeal.nD,
      r.2.mem ((c.tc : Thread Cert.Pw2RefIdeal.nD Cert.Pw2RefIdeal.τ).loc Cert.Pw2RefIdeal.main_arg0) = m ((c.tc : Thread Cert.Pw2RefIdeal.nD Cert.Pw2RefIdeal.τ).loc Cert.Pw2RefIdeal.main_arg0)
      ∧ r.2.mem ((c.tc : Thread Cert.Pw2RefIdeal.nD Cert.Pw2RefIdeal.τ).loc Cert.Pw2RefIdeal.main_arg1) = m ((c.tc : Thread Cert.Pw2RefIdeal.nD Cert.Pw2RefIdeal.τ).loc Cert.Pw2RefIdeal.main_arg1)
      ∧ r.2.mem ((c.tc : Thread Cert.Pw2RefIdeal.nD Cert.Pw2RefIdeal.τ).loc Cert.Pw2RefIdeal.main_arg2) = m ((c.tc : Thread Cert.Pw2RefIdeal.nD Cert.Pw2RefIdeal.τ).loc Cert.Pw2RefIdeal.main_arg2)
      ∧ r.2.mem ((c.tc : Thread Cert.Pw2RefIdeal.nD Cert.Pw2RefIdeal.τ).loc Cert.Pw2RefIdeal.main_arg3) = m ((c.tc : Thread Cert.Pw2RefIdeal.nD Cert.Pw2RefIdeal.τ).loc Cert.Pw2RefIdeal.main_arg3))
      ∧ r.2.sem = fun _ => 0)

def quiescent_SguIn [hSguIn : Cert.SguIn.Facts] : Prop :=
  ∀ (m : (ℓ : Loc Cert.SguIn.nD Cert.SguIn.τ Cert.SguIn.sig) → Buf (Elt Bits) ℓ) (g : Dev Cert.SguIn.nD → PrngReg), Pre_SguIn m →
    θ_run (Cert.SguIn.defs (F := Bits)) (onTc (τ := Cert.SguIn.τ) (Cert.SguIn.main (F := Bits))) ⟨m, fun _ => 0, g⟩ (fun r => (∀ c : Dev Cert.SguIn.nD,
      r.2.mem ((c.tc : Thread Cert.SguIn.nD Cert.SguIn.τ).loc Cert.SguIn.main_arg0) = m ((c.tc : Thread Cert.SguIn.nD Cert.SguIn.τ).loc Cert.SguIn.main_arg0)
      ∧ r.2.mem ((c.tc : Thread Cert.SguIn.nD Cert.SguIn.τ).loc Cert.SguIn.main_arg1) = m ((c.tc : Thread Cert.SguIn.nD Cert.SguIn.τ).loc Cert.SguIn.main_arg1)
      ∧ r.2.mem ((c.tc : Thread Cert.SguIn.nD Cert.SguIn.τ).loc Cert.SguIn.main_arg2) = m ((c.tc : Thread Cert.SguIn.nD Cert.SguIn.τ).loc Cert.SguIn.main_arg2)
      ∧ r.2.mem ((c.tc : Thread Cert.SguIn.nD Cert.SguIn.τ).loc Cert.SguIn.main_arg3) = m ((c.tc : Thread Cert.SguIn.nD Cert.SguIn.τ).loc Cert.SguIn.main_arg3)
      ∧ r.2.mem ((c.tc : Thread Cert.SguIn.nD Cert.SguIn.τ).loc Cert.SguIn.main_arg4) = m ((c.tc : Thread Cert.SguIn.nD Cert.SguIn.τ).loc Cert.SguIn.main_arg4))
      ∧ r.2.sem = fun _ => 0)

def quiescent_SguInIdeal [hSguInIdeal : Cert.SguInIdeal.Facts] : Prop :=
  ∀ (m : (ℓ : Loc Cert.SguInIdeal.nD Cert.SguInIdeal.τ Cert.SguInIdeal.sig) → Buf (Elt Ideal) ℓ) (g : Dev Cert.SguInIdeal.nD → PrngReg), Pre_SguInIdeal m →
    θ_run (Cert.SguInIdeal.defs (F := Ideal)) (onTc (τ := Cert.SguInIdeal.τ) (Cert.SguInIdeal.main (F := Ideal))) ⟨m, fun _ => 0, g⟩ (fun r => (∀ c : Dev Cert.SguInIdeal.nD,
      r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
      ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1)
      ∧ r.2.mem ((c.tc : Thread Cert.SguInIdeal.nD Cert.SguInIdeal.τ).loc Cert.SguInIdeal.main_arg2) = m ((c.tc : Thread Cert.SguInIdeal.nD Cert.SguInIdeal.τ).loc Cert.SguInIdeal.main_arg2)
      ∧ r.2.mem ((c.tc : Thread Cert.SguInIdeal.nD Cert.SguInIdeal.τ).loc Cert.SguInIdeal.main_arg3) = m ((c.tc : Thread Cert.SguInIdeal.nD Cert.SguInIdeal.τ).loc Cert.SguInIdeal.main_arg3)
      ∧ r.2.mem ((c.tc : Thread Cert.SguInIdeal.nD Cert.SguInIdeal.τ).loc Cert.SguInIdeal.main_arg4) = m ((c.tc : Thread Cert.SguInIdeal.nD Cert.SguInIdeal.τ).loc Cert.SguInIdeal.main_arg4))
      ∧ r.2.sem = fun _ => 0)

def quiescent_SguInIdeal_pre_finite_sgu_in [hSguInIdeal : Cert.SguInIdeal.Facts] [hPre_finite_sgu_in : Cert.Pre_finite_sgu_in.Facts] : Prop :=
  ∀ (m : (ℓ : Loc Cert.SguInIdeal.nD Cert.SguInIdeal.τ Cert.SguInIdeal.sig) → Buf (Elt Ideal) ℓ) (g : Dev Cert.SguInIdeal.nD → PrngReg), Pre_SguInIdeal_finite_sgu_in m →
    θ_run (Cert.SguInIdeal.defs (F := Ideal)) (onTc (τ := Cert.SguInIdeal.τ) (Cert.SguInIdeal.main (F := Ideal))) ⟨m, fun _ => 0, g⟩ (fun r => (∀ c : Dev Cert.SguInIdeal.nD,
      r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
      ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1)
      ∧ r.2.mem ((c.tc : Thread Cert.SguInIdeal.nD Cert.SguInIdeal.τ).loc Cert.SguInIdeal.main_arg2) = m ((c.tc : Thread Cert.SguInIdeal.nD Cert.SguInIdeal.τ).loc Cert.SguInIdeal.main_arg2)
      ∧ r.2.mem ((c.tc : Thread Cert.SguInIdeal.nD Cert.SguInIdeal.τ).loc Cert.SguInIdeal.main_arg3) = m ((c.tc : Thread Cert.SguInIdeal.nD Cert.SguInIdeal.τ).loc Cert.SguInIdeal.main_arg3)
      ∧ r.2.mem ((c.tc : Thread Cert.SguInIdeal.nD Cert.SguInIdeal.τ).loc Cert.SguInIdeal.main_arg4) = m ((c.tc : Thread Cert.SguInIdeal.nD Cert.SguInIdeal.τ).loc Cert.SguInIdeal.main_arg4))
      ∧ r.2.sem = fun _ => 0)

def quiescent_SguInRefIdeal [hSguInRefIdeal : Cert.SguInRefIdeal.Facts] : Prop :=
  ∀ (m : (ℓ : Loc Cert.SguInRefIdeal.nD Cert.SguInRefIdeal.τ Cert.SguInRefIdeal.sig) → Buf (Elt Ideal) ℓ) (g : Dev Cert.SguInRefIdeal.nD → PrngReg), Pre_SguInRefIdeal m →
    θ_run (Cert.SguInRefIdeal.defs (F := Ideal)) (onTc (τ := Cert.SguInRefIdeal.τ) (Cert.SguInRefIdeal.main (F := Ideal))) ⟨m, fun _ => 0, g⟩ (fun r => (∀ c : Dev Cert.SguInRefIdeal.nD,
      r.2.mem ((c.tc : Thread Cert.SguInRefIdeal.nD Cert.SguInRefIdeal.τ).loc Cert.SguInRefIdeal.main_arg0) = m ((c.tc : Thread Cert.SguInRefIdeal.nD Cert.SguInRefIdeal.τ).loc Cert.SguInRefIdeal.main_arg0)
      ∧ r.2.mem ((c.tc : Thread Cert.SguInRefIdeal.nD Cert.SguInRefIdeal.τ).loc Cert.SguInRefIdeal.main_arg1) = m ((c.tc : Thread Cert.SguInRefIdeal.nD Cert.SguInRefIdeal.τ).loc Cert.SguInRefIdeal.main_arg1)
      ∧ r.2.mem ((c.tc : Thread Cert.SguInRefIdeal.nD Cert.SguInRefIdeal.τ).loc Cert.SguInRefIdeal.main_arg2) = m ((c.tc : Thread Cert.SguInRefIdeal.nD Cert.SguInRefIdeal.τ).loc Cert.SguInRefIdeal.main_arg2)
      ∧ r.2.mem ((c.tc : Thread Cert.SguInRefIdeal.nD Cert.SguInRefIdeal.τ).loc Cert.SguInRefIdeal.main_arg3) = m ((c.tc : Thread Cert.SguInRefIdeal.nD Cert.SguInRefIdeal.τ).loc Cert.SguInRefIdeal.main_arg3)
      ∧ r.2.mem ((c.tc : Thread Cert.SguInRefIdeal.nD Cert.SguInRefIdeal.τ).loc Cert.SguInRefIdeal.main_arg4) = m ((c.tc : Thread Cert.SguInRefIdeal.nD Cert.SguInRefIdeal.τ).loc Cert.SguInRefIdeal.main_arg4))
      ∧ r.2.sem = fun _ => 0)

def quiescent_SguInRefIdeal_pre_finite_sgu_in [hSguInRefIdeal : Cert.SguInRefIdeal.Facts] [hPre_finite_sgu_in : Cert.Pre_finite_sgu_in.Facts] : Prop :=
  ∀ (m : (ℓ : Loc Cert.SguInRefIdeal.nD Cert.SguInRefIdeal.τ Cert.SguInRefIdeal.sig) → Buf (Elt Ideal) ℓ) (g : Dev Cert.SguInRefIdeal.nD → PrngReg), Pre_SguInRefIdeal_finite_sgu_in m →
    θ_run (Cert.SguInRefIdeal.defs (F := Ideal)) (onTc (τ := Cert.SguInRefIdeal.τ) (Cert.SguInRefIdeal.main (F := Ideal))) ⟨m, fun _ => 0, g⟩ (fun r => (∀ c : Dev Cert.SguInRefIdeal.nD,
      r.2.mem ((c.tc : Thread Cert.SguInRefIdeal.nD Cert.SguInRefIdeal.τ).loc Cert.SguInRefIdeal.main_arg0) = m ((c.tc : Thread Cert.SguInRefIdeal.nD Cert.SguInRefIdeal.τ).loc Cert.SguInRefIdeal.main_arg0)
      ∧ r.2.mem ((c.tc : Thread Cert.SguInRefIdeal.nD Cert.SguInRefIdeal.τ).loc Cert.SguInRefIdeal.main_arg1) = m ((c.tc : Thread Cert.SguInRefIdeal.nD Cert.SguInRefIdeal.τ).loc Cert.SguInRefIdeal.main_arg1)
      ∧ r.2.mem ((c.tc : Thread Cert.SguInRefIdeal.nD Cert.SguInRefIdeal.τ).loc Cert.SguInRefIdeal.main_arg2) = m ((c.tc : Thread Cert.SguInRefIdeal.nD Cert.SguInRefIdeal.τ).loc Cert.SguInRefIdeal.main_arg2)
      ∧ r.2.mem ((c.tc : Thread Cert.SguInRefIdeal.nD Cert.SguInRefIdeal.τ).loc Cert.SguInRefIdeal.main_arg3) = m ((c.tc : Thread Cert.SguInRefIdeal.nD Cert.SguInRefIdeal.τ).loc Cert.SguInRefIdeal.main_arg3)
      ∧ r.2.mem ((c.tc : Thread Cert.SguInRefIdeal.nD Cert.SguInRefIdeal.τ).loc Cert.SguInRefIdeal.main_arg4) = m ((c.tc : Thread Cert.SguInRefIdeal.nD Cert.SguInRefIdeal.τ).loc Cert.SguInRefIdeal.main_arg4))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6)
      ∧ r.2.mem ((c.tc : Thread Cert.Sgu.nD Cert.Sgu.τ).loc Cert.Sgu.main_arg7) = m ((c.tc : Thread Cert.Sgu.nD Cert.Sgu.τ).loc Cert.Sgu.main_arg7))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7))
      ∧ r.2.sem = fun _ => 0)

def quiescent_SguIdeal_pre_finite_sgu [hSguIdeal : Cert.SguIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg), Pre_SguIdeal_finite_sgu m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6)
      ∧ r.2.mem ((c.tc : Thread Cert.SguRefIdeal.nD Cert.SguRefIdeal.τ).loc Cert.SguRefIdeal.main_arg7) = m ((c.tc : Thread Cert.SguRefIdeal.nD Cert.SguRefIdeal.τ).loc Cert.SguRefIdeal.main_arg7))
      ∧ r.2.sem = fun _ => 0)

def quiescent_SguRefIdeal_pre_finite_sgu [hSguRefIdeal : Cert.SguRefIdeal.Facts] [hPre_finite_sgu : Cert.Pre_finite_sgu.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_finite_sgu m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6)
      ∧ r.2.mem ((c.tc : Thread Cert.SguRefIdeal.nD Cert.SguRefIdeal.τ).loc Cert.SguRefIdeal.main_arg7) = m ((c.tc : Thread Cert.SguRefIdeal.nD Cert.SguRefIdeal.τ).loc Cert.SguRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Pw1 [hPw1 : Cert.Pw1.Facts] : Prop :=
  ∀ (m : (ℓ : Loc Cert.Pw1.nD Cert.Pw1.τ Cert.Pw1.sig) → Buf (Elt Bits) ℓ) (g : Dev Cert.Pw1.nD → PrngReg), Pre_Pw1 m →
    θ_run (Cert.Pw1.defs (F := Bits)) (onTc (τ := Cert.Pw1.τ) (Cert.Pw1.main (F := Bits))) ⟨m, fun _ => 0, g⟩ (fun r => (∀ c : Dev Cert.Pw1.nD,
      r.2.mem ((c.tc : Thread Cert.Pw1.nD Cert.Pw1.τ).loc Cert.Pw1.main_arg0) = m ((c.tc : Thread Cert.Pw1.nD Cert.Pw1.τ).loc Cert.Pw1.main_arg0)
      ∧ r.2.mem ((c.tc : Thread Cert.Pw1.nD Cert.Pw1.τ).loc Cert.Pw1.main_arg1) = m ((c.tc : Thread Cert.Pw1.nD Cert.Pw1.τ).loc Cert.Pw1.main_arg1)
      ∧ r.2.mem ((c.tc : Thread Cert.Pw1.nD Cert.Pw1.τ).loc Cert.Pw1.main_arg2) = m ((c.tc : Thread Cert.Pw1.nD Cert.Pw1.τ).loc Cert.Pw1.main_arg2)
      ∧ r.2.mem ((c.tc : Thread Cert.Pw1.nD Cert.Pw1.τ).loc Cert.Pw1.main_arg3) = m ((c.tc : Thread Cert.Pw1.nD Cert.Pw1.τ).loc Cert.Pw1.main_arg3)
      ∧ r.2.mem ((c.tc : Thread Cert.Pw1.nD Cert.Pw1.τ).loc Cert.Pw1.main_arg4) = m ((c.tc : Thread Cert.Pw1.nD Cert.Pw1.τ).loc Cert.Pw1.main_arg4))
      ∧ r.2.sem = fun _ => 0)

def quiescent_Pw1Ideal [hPw1Ideal : Cert.Pw1Ideal.Facts] : Prop :=
  ∀ (m : (ℓ : Loc Cert.Pw1Ideal.nD Cert.Pw1Ideal.τ Cert.Pw1Ideal.sig) → Buf (Elt Ideal) ℓ) (g : Dev Cert.Pw1Ideal.nD → PrngReg), Pre_Pw1Ideal m →
    θ_run (Cert.Pw1Ideal.defs (F := Ideal)) (onTc (τ := Cert.Pw1Ideal.τ) (Cert.Pw1Ideal.main (F := Ideal))) ⟨m, fun _ => 0, g⟩ (fun r => (∀ c : Dev Cert.Pw1Ideal.nD,
      r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
      ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
      ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2)
      ∧ r.2.mem ((c.tc : Thread Cert.Pw1Ideal.nD Cert.Pw1Ideal.τ).loc Cert.Pw1Ideal.main_arg3) = m ((c.tc : Thread Cert.Pw1Ideal.nD Cert.Pw1Ideal.τ).loc Cert.Pw1Ideal.main_arg3)
      ∧ r.2.mem ((c.tc : Thread Cert.Pw1Ideal.nD Cert.Pw1Ideal.τ).loc Cert.Pw1Ideal.main_arg4) = m ((c.tc : Thread Cert.Pw1Ideal.nD Cert.Pw1Ideal.τ).loc Cert.Pw1Ideal.main_arg4))
      ∧ r.2.sem = fun _ => 0)

def quiescent_Pw1Ideal_pre_finite_pw1 [hPw1Ideal : Cert.Pw1Ideal.Facts] [hPre_finite_pw1 : Cert.Pre_finite_pw1.Facts] : Prop :=
  ∀ (m : (ℓ : Loc Cert.Pw1Ideal.nD Cert.Pw1Ideal.τ Cert.Pw1Ideal.sig) → Buf (Elt Ideal) ℓ) (g : Dev Cert.Pw1Ideal.nD → PrngReg), Pre_Pw1Ideal_finite_pw1 m →
    θ_run (Cert.Pw1Ideal.defs (F := Ideal)) (onTc (τ := Cert.Pw1Ideal.τ) (Cert.Pw1Ideal.main (F := Ideal))) ⟨m, fun _ => 0, g⟩ (fun r => (∀ c : Dev Cert.Pw1Ideal.nD,
      r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
      ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
      ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2)
      ∧ r.2.mem ((c.tc : Thread Cert.Pw1Ideal.nD Cert.Pw1Ideal.τ).loc Cert.Pw1Ideal.main_arg3) = m ((c.tc : Thread Cert.Pw1Ideal.nD Cert.Pw1Ideal.τ).loc Cert.Pw1Ideal.main_arg3)
      ∧ r.2.mem ((c.tc : Thread Cert.Pw1Ideal.nD Cert.Pw1Ideal.τ).loc Cert.Pw1Ideal.main_arg4) = m ((c.tc : Thread Cert.Pw1Ideal.nD Cert.Pw1Ideal.τ).loc Cert.Pw1Ideal.main_arg4))
      ∧ r.2.sem = fun _ => 0)

def quiescent_Pw1RefIdeal [hPw1RefIdeal : Cert.Pw1RefIdeal.Facts] : Prop :=
  ∀ (m : (ℓ : Loc Cert.Pw1RefIdeal.nD Cert.Pw1RefIdeal.τ Cert.Pw1RefIdeal.sig) → Buf (Elt Ideal) ℓ) (g : Dev Cert.Pw1RefIdeal.nD → PrngReg), Pre_Pw1RefIdeal m →
    θ_run (Cert.Pw1RefIdeal.defs (F := Ideal)) (onTc (τ := Cert.Pw1RefIdeal.τ) (Cert.Pw1RefIdeal.main (F := Ideal))) ⟨m, fun _ => 0, g⟩ (fun r => (∀ c : Dev Cert.Pw1RefIdeal.nD,
      r.2.mem ((c.tc : Thread Cert.Pw1RefIdeal.nD Cert.Pw1RefIdeal.τ).loc Cert.Pw1RefIdeal.main_arg0) = m ((c.tc : Thread Cert.Pw1RefIdeal.nD Cert.Pw1RefIdeal.τ).loc Cert.Pw1RefIdeal.main_arg0)
      ∧ r.2.mem ((c.tc : Thread Cert.Pw1RefIdeal.nD Cert.Pw1RefIdeal.τ).loc Cert.Pw1RefIdeal.main_arg1) = m ((c.tc : Thread Cert.Pw1RefIdeal.nD Cert.Pw1RefIdeal.τ).loc Cert.Pw1RefIdeal.main_arg1)
      ∧ r.2.mem ((c.tc : Thread Cert.Pw1RefIdeal.nD Cert.Pw1RefIdeal.τ).loc Cert.Pw1RefIdeal.main_arg2) = m ((c.tc : Thread Cert.Pw1RefIdeal.nD Cert.Pw1RefIdeal.τ).loc Cert.Pw1RefIdeal.main_arg2)
      ∧ r.2.mem ((c.tc : Thread Cert.Pw1RefIdeal.nD Cert.Pw1RefIdeal.τ).loc Cert.Pw1RefIdeal.main_arg3) = m ((c.tc : Thread Cert.Pw1RefIdeal.nD Cert.Pw1RefIdeal.τ).loc Cert.Pw1RefIdeal.main_arg3)
      ∧ r.2.mem ((c.tc : Thread Cert.Pw1RefIdeal.nD Cert.Pw1RefIdeal.τ).loc Cert.Pw1RefIdeal.main_arg4) = m ((c.tc : Thread Cert.Pw1RefIdeal.nD Cert.Pw1RefIdeal.τ).loc Cert.Pw1RefIdeal.main_arg4))
      ∧ r.2.sem = fun _ => 0)

def quiescent_Pw1RefIdeal_pre_finite_pw1 [hPw1RefIdeal : Cert.Pw1RefIdeal.Facts] [hPre_finite_pw1 : Cert.Pre_finite_pw1.Facts] : Prop :=
  ∀ (m : (ℓ : Loc Cert.Pw1RefIdeal.nD Cert.Pw1RefIdeal.τ Cert.Pw1RefIdeal.sig) → Buf (Elt Ideal) ℓ) (g : Dev Cert.Pw1RefIdeal.nD → PrngReg), Pre_Pw1RefIdeal_finite_pw1 m →
    θ_run (Cert.Pw1RefIdeal.defs (F := Ideal)) (onTc (τ := Cert.Pw1RefIdeal.τ) (Cert.Pw1RefIdeal.main (F := Ideal))) ⟨m, fun _ => 0, g⟩ (fun r => (∀ c : Dev Cert.Pw1RefIdeal.nD,
      r.2.mem ((c.tc : Thread Cert.Pw1RefIdeal.nD Cert.Pw1RefIdeal.τ).loc Cert.Pw1RefIdeal.main_arg0) = m ((c.tc : Thread Cert.Pw1RefIdeal.nD Cert.Pw1RefIdeal.τ).loc Cert.Pw1RefIdeal.main_arg0)
      ∧ r.2.mem ((c.tc : Thread Cert.Pw1RefIdeal.nD Cert.Pw1RefIdeal.τ).loc Cert.Pw1RefIdeal.main_arg1) = m ((c.tc : Thread Cert.Pw1RefIdeal.nD Cert.Pw1RefIdeal.τ).loc Cert.Pw1RefIdeal.main_arg1)
      ∧ r.2.mem ((c.tc : Thread Cert.Pw1RefIdeal.nD Cert.Pw1RefIdeal.τ).loc Cert.Pw1RefIdeal.main_arg2) = m ((c.tc : Thread Cert.Pw1RefIdeal.nD Cert.Pw1RefIdeal.τ).loc Cert.Pw1RefIdeal.main_arg2)
      ∧ r.2.mem ((c.tc : Thread Cert.Pw1RefIdeal.nD Cert.Pw1RefIdeal.τ).loc Cert.Pw1RefIdeal.main_arg3) = m ((c.tc : Thread Cert.Pw1RefIdeal.nD Cert.Pw1RefIdeal.τ).loc Cert.Pw1RefIdeal.main_arg3)
      ∧ r.2.mem ((c.tc : Thread Cert.Pw1RefIdeal.nD Cert.Pw1RefIdeal.τ).loc Cert.Pw1RefIdeal.main_arg4) = m ((c.tc : Thread Cert.Pw1RefIdeal.nD Cert.Pw1RefIdeal.τ).loc Cert.Pw1RefIdeal.main_arg4))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutIdeal_pre_finite_out [hOutIdeal : Cert.OutIdeal.Facts] [hPre_finite_out : Cert.Pre_finite_out.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite_out m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_OutRefIdeal_pre_finite_out [hOutRefIdeal : Cert.OutRefIdeal.Facts] [hPre_finite_out : Cert.Pre_finite_out.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite_out m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3)
      ∧ r.2.mem ((c.tc : Thread Cert.OutLoss.nD Cert.OutLoss.τ).loc Cert.OutLoss.main_arg4) = m ((c.tc : Thread Cert.OutLoss.nD Cert.OutLoss.τ).loc Cert.OutLoss.main_arg4))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ r.2.sem = fun _ => 0)

def quiescent_OutLossIdeal_pre_finite_out_loss [hOutLossIdeal : Cert.OutLossIdeal.Facts] [hPre_finite_out_loss : Cert.Pre_finite_out_loss.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal_finite_out_loss m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4))
      ∧ r.2.sem = fun _ => 0)

def quiescent_OutLossRefIdeal_pre_finite_out_loss [hOutLossRefIdeal : Cert.OutLossRefIdeal.Facts] [hPre_finite_out_loss : Cert.Pre_finite_out_loss.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal_finite_out_loss m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4))
      ∧ r.2.sem = fun _ => 0)

def quiescent_Pw2Out [hPw2Out : Cert.Pw2Out.Facts] : Prop :=
  ∀ (m : (ℓ : Loc Cert.Pw2Out.nD Cert.Pw2Out.τ Cert.Pw2Out.sig) → Buf (Elt Bits) ℓ) (g : Dev Cert.Pw2Out.nD → PrngReg), Pre_Pw2Out m →
    θ_run (Cert.Pw2Out.defs (F := Bits)) (onTc (τ := Cert.Pw2Out.τ) (Cert.Pw2Out.main (F := Bits))) ⟨m, fun _ => 0, g⟩ (fun r => (∀ c : Dev Cert.Pw2Out.nD,
      r.2.mem ((c.tc : Thread Cert.Pw2Out.nD Cert.Pw2Out.τ).loc Cert.Pw2Out.main_arg0) = m ((c.tc : Thread Cert.Pw2Out.nD Cert.Pw2Out.τ).loc Cert.Pw2Out.main_arg0)
      ∧ r.2.mem ((c.tc : Thread Cert.Pw2Out.nD Cert.Pw2Out.τ).loc Cert.Pw2Out.main_arg1) = m ((c.tc : Thread Cert.Pw2Out.nD Cert.Pw2Out.τ).loc Cert.Pw2Out.main_arg1)
      ∧ r.2.mem ((c.tc : Thread Cert.Pw2Out.nD Cert.Pw2Out.τ).loc Cert.Pw2Out.main_arg2) = m ((c.tc : Thread Cert.Pw2Out.nD Cert.Pw2Out.τ).loc Cert.Pw2Out.main_arg2)
      ∧ r.2.mem ((c.tc : Thread Cert.Pw2Out.nD Cert.Pw2Out.τ).loc Cert.Pw2Out.main_arg3) = m ((c.tc : Thread Cert.Pw2Out.nD Cert.Pw2Out.τ).loc Cert.Pw2Out.main_arg3))
      ∧ r.2.sem = fun _ => 0)

def quiescent_Pw2OutIdeal [hPw2OutIdeal : Cert.Pw2OutIdeal.Facts] : Prop :=
  ∀ (m : (ℓ : Loc Cert.Pw2OutIdeal.nD Cert.Pw2OutIdeal.τ Cert.Pw2OutIdeal.sig) → Buf (Elt Ideal) ℓ) (g : Dev Cert.Pw2OutIdeal.nD → PrngReg), Pre_Pw2OutIdeal m →
    θ_run (Cert.Pw2OutIdeal.defs (F := Ideal)) (onTc (τ := Cert.Pw2OutIdeal.τ) (Cert.Pw2OutIdeal.main (F := Ideal))) ⟨m, fun _ => 0, g⟩ (fun r => (∀ c : Dev Cert.Pw2OutIdeal.nD,
      r.2.mem ((c.tc : Thread Cert.Pw2OutIdeal.nD Cert.Pw2OutIdeal.τ).loc Cert.Pw2OutIdeal.main_arg0) = m ((c.tc : Thread Cert.Pw2OutIdeal.nD Cert.Pw2OutIdeal.τ).loc Cert.Pw2OutIdeal.main_arg0)
      ∧ r.2.mem ((c.tc : Thread Cert.Pw2OutIdeal.nD Cert.Pw2OutIdeal.τ).loc Cert.Pw2OutIdeal.main_arg1) = m ((c.tc : Thread Cert.Pw2OutIdeal.nD Cert.Pw2OutIdeal.τ).loc Cert.Pw2OutIdeal.main_arg1)
      ∧ r.2.mem ((c.tc : Thread Cert.Pw2OutIdeal.nD Cert.Pw2OutIdeal.τ).loc Cert.Pw2OutIdeal.main_arg2) = m ((c.tc : Thread Cert.Pw2OutIdeal.nD Cert.Pw2OutIdeal.τ).loc Cert.Pw2OutIdeal.main_arg2)
      ∧ r.2.mem ((c.tc : Thread Cert.Pw2OutIdeal.nD Cert.Pw2OutIdeal.τ).loc Cert.Pw2OutIdeal.main_arg3) = m ((c.tc : Thread Cert.Pw2OutIdeal.nD Cert.Pw2OutIdeal.τ).loc Cert.Pw2OutIdeal.main_arg3))
      ∧ r.2.sem = fun _ => 0)

def quiescent_Pw2OutIdeal_pre_finite_pw2_out [hPw2OutIdeal : Cert.Pw2OutIdeal.Facts] [hPre_finite_pw2_out : Cert.Pre_finite_pw2_out.Facts] : Prop :=
  ∀ (m : (ℓ : Loc Cert.Pw2OutIdeal.nD Cert.Pw2OutIdeal.τ Cert.Pw2OutIdeal.sig) → Buf (Elt Ideal) ℓ) (g : Dev Cert.Pw2OutIdeal.nD → PrngReg), Pre_Pw2OutIdeal_finite_pw2_out m →
    θ_run (Cert.Pw2OutIdeal.defs (F := Ideal)) (onTc (τ := Cert.Pw2OutIdeal.τ) (Cert.Pw2OutIdeal.main (F := Ideal))) ⟨m, fun _ => 0, g⟩ (fun r => (∀ c : Dev Cert.Pw2OutIdeal.nD,
      r.2.mem ((c.tc : Thread Cert.Pw2OutIdeal.nD Cert.Pw2OutIdeal.τ).loc Cert.Pw2OutIdeal.main_arg0) = m ((c.tc : Thread Cert.Pw2OutIdeal.nD Cert.Pw2OutIdeal.τ).loc Cert.Pw2OutIdeal.main_arg0)
      ∧ r.2.mem ((c.tc : Thread Cert.Pw2OutIdeal.nD Cert.Pw2OutIdeal.τ).loc Cert.Pw2OutIdeal.main_arg1) = m ((c.tc : Thread Cert.Pw2OutIdeal.nD Cert.Pw2OutIdeal.τ).loc Cert.Pw2OutIdeal.main_arg1)
      ∧ r.2.mem ((c.tc : Thread Cert.Pw2OutIdeal.nD Cert.Pw2OutIdeal.τ).loc Cert.Pw2OutIdeal.main_arg2) = m ((c.tc : Thread Cert.Pw2OutIdeal.nD Cert.Pw2OutIdeal.τ).loc Cert.Pw2OutIdeal.main_arg2)
      ∧ r.2.mem ((c.tc : Thread Cert.Pw2OutIdeal.nD Cert.Pw2OutIdeal.τ).loc Cert.Pw2OutIdeal.main_arg3) = m ((c.tc : Thread Cert.Pw2OutIdeal.nD Cert.Pw2OutIdeal.τ).loc Cert.Pw2OutIdeal.main_arg3))
      ∧ r.2.sem = fun _ => 0)

def quiescent_Pw2OutRefIdeal [hPw2OutRefIdeal : Cert.Pw2OutRefIdeal.Facts] : Prop :=
  ∀ (m : (ℓ : Loc Cert.Pw2OutRefIdeal.nD Cert.Pw2OutRefIdeal.τ Cert.Pw2OutRefIdeal.sig) → Buf (Elt Ideal) ℓ) (g : Dev Cert.Pw2OutRefIdeal.nD → PrngReg), Pre_Pw2OutRefIdeal m →
    θ_run (Cert.Pw2OutRefIdeal.defs (F := Ideal)) (onTc (τ := Cert.Pw2OutRefIdeal.τ) (Cert.Pw2OutRefIdeal.main (F := Ideal))) ⟨m, fun _ => 0, g⟩ (fun r => (∀ c : Dev Cert.Pw2OutRefIdeal.nD,
      r.2.mem ((c.tc : Thread Cert.Pw2OutRefIdeal.nD Cert.Pw2OutRefIdeal.τ).loc Cert.Pw2OutRefIdeal.main_arg0) = m ((c.tc : Thread Cert.Pw2OutRefIdeal.nD Cert.Pw2OutRefIdeal.τ).loc Cert.Pw2OutRefIdeal.main_arg0)
      ∧ r.2.mem ((c.tc : Thread Cert.Pw2OutRefIdeal.nD Cert.Pw2OutRefIdeal.τ).loc Cert.Pw2OutRefIdeal.main_arg1) = m ((c.tc : Thread Cert.Pw2OutRefIdeal.nD Cert.Pw2OutRefIdeal.τ).loc Cert.Pw2OutRefIdeal.main_arg1)
      ∧ r.2.mem ((c.tc : Thread Cert.Pw2OutRefIdeal.nD Cert.Pw2OutRefIdeal.τ).loc Cert.Pw2OutRefIdeal.main_arg2) = m ((c.tc : Thread Cert.Pw2OutRefIdeal.nD Cert.Pw2OutRefIdeal.τ).loc Cert.Pw2OutRefIdeal.main_arg2)
      ∧ r.2.mem ((c.tc : Thread Cert.Pw2OutRefIdeal.nD Cert.Pw2OutRefIdeal.τ).loc Cert.Pw2OutRefIdeal.main_arg3) = m ((c.tc : Thread Cert.Pw2OutRefIdeal.nD Cert.Pw2OutRefIdeal.τ).loc Cert.Pw2OutRefIdeal.main_arg3))
      ∧ r.2.sem = fun _ => 0)

def quiescent_Pw2OutRefIdeal_pre_finite_pw2_out [hPw2OutRefIdeal : Cert.Pw2OutRefIdeal.Facts] [hPre_finite_pw2_out : Cert.Pre_finite_pw2_out.Facts] : Prop :=
  ∀ (m : (ℓ : Loc Cert.Pw2OutRefIdeal.nD Cert.Pw2OutRefIdeal.τ Cert.Pw2OutRefIdeal.sig) → Buf (Elt Ideal) ℓ) (g : Dev Cert.Pw2OutRefIdeal.nD → PrngReg), Pre_Pw2OutRefIdeal_finite_pw2_out m →
    θ_run (Cert.Pw2OutRefIdeal.defs (F := Ideal)) (onTc (τ := Cert.Pw2OutRefIdeal.τ) (Cert.Pw2OutRefIdeal.main (F := Ideal))) ⟨m, fun _ => 0, g⟩ (fun r => (∀ c : Dev Cert.Pw2OutRefIdeal.nD,
      r.2.mem ((c.tc : Thread Cert.Pw2OutRefIdeal.nD Cert.Pw2OutRefIdeal.τ).loc Cert.Pw2OutRefIdeal.main_arg0) = m ((c.tc : Thread Cert.Pw2OutRefIdeal.nD Cert.Pw2OutRefIdeal.τ).loc Cert.Pw2OutRefIdeal.main_arg0)
      ∧ r.2.mem ((c.tc : Thread Cert.Pw2OutRefIdeal.nD Cert.Pw2OutRefIdeal.τ).loc Cert.Pw2OutRefIdeal.main_arg1) = m ((c.tc : Thread Cert.Pw2OutRefIdeal.nD Cert.Pw2OutRefIdeal.τ).loc Cert.Pw2OutRefIdeal.main_arg1)
      ∧ r.2.mem ((c.tc : Thread Cert.Pw2OutRefIdeal.nD Cert.Pw2OutRefIdeal.τ).loc Cert.Pw2OutRefIdeal.main_arg2) = m ((c.tc : Thread Cert.Pw2OutRefIdeal.nD Cert.Pw2OutRefIdeal.τ).loc Cert.Pw2OutRefIdeal.main_arg2)
      ∧ r.2.mem ((c.tc : Thread Cert.Pw2OutRefIdeal.nD Cert.Pw2OutRefIdeal.τ).loc Cert.Pw2OutRefIdeal.main_arg3) = m ((c.tc : Thread Cert.Pw2OutRefIdeal.nD Cert.Pw2OutRefIdeal.τ).loc Cert.Pw2OutRefIdeal.main_arg3))
      ∧ r.2.sem = fun _ => 0)

def quiescent_SguOut [hSguOut : Cert.SguOut.Facts] : Prop :=
  ∀ (m : (ℓ : Loc Cert.SguOut.nD Cert.SguOut.τ Cert.SguOut.sig) → Buf (Elt Bits) ℓ) (g : Dev Cert.SguOut.nD → PrngReg), Pre_SguOut m →
    θ_run (Cert.SguOut.defs (F := Bits)) (onTc (τ := Cert.SguOut.τ) (Cert.SguOut.main (F := Bits))) ⟨m, fun _ => 0, g⟩ (fun r => (∀ c : Dev Cert.SguOut.nD,
      r.2.mem ((c.tc : Thread Cert.SguOut.nD Cert.SguOut.τ).loc Cert.SguOut.main_arg0) = m ((c.tc : Thread Cert.SguOut.nD Cert.SguOut.τ).loc Cert.SguOut.main_arg0)
      ∧ r.2.mem ((c.tc : Thread Cert.SguOut.nD Cert.SguOut.τ).loc Cert.SguOut.main_arg1) = m ((c.tc : Thread Cert.SguOut.nD Cert.SguOut.τ).loc Cert.SguOut.main_arg1)
      ∧ r.2.mem ((c.tc : Thread Cert.SguOut.nD Cert.SguOut.τ).loc Cert.SguOut.main_arg2) = m ((c.tc : Thread Cert.SguOut.nD Cert.SguOut.τ).loc Cert.SguOut.main_arg2)
      ∧ r.2.mem ((c.tc : Thread Cert.SguOut.nD Cert.SguOut.τ).loc Cert.SguOut.main_arg3) = m ((c.tc : Thread Cert.SguOut.nD Cert.SguOut.τ).loc Cert.SguOut.main_arg3))
      ∧ r.2.sem = fun _ => 0)

def quiescent_SguOutIdeal [hSguOutIdeal : Cert.SguOutIdeal.Facts] : Prop :=
  ∀ (m : (ℓ : Loc Cert.SguOutIdeal.nD Cert.SguOutIdeal.τ Cert.SguOutIdeal.sig) → Buf (Elt Ideal) ℓ) (g : Dev Cert.SguOutIdeal.nD → PrngReg), Pre_SguOutIdeal m →
    θ_run (Cert.SguOutIdeal.defs (F := Ideal)) (onTc (τ := Cert.SguOutIdeal.τ) (Cert.SguOutIdeal.main (F := Ideal))) ⟨m, fun _ => 0, g⟩ (fun r => (∀ c : Dev Cert.SguOutIdeal.nD,
      r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
      ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1)
      ∧ r.2.mem ((c.tc : Thread Cert.SguOutIdeal.nD Cert.SguOutIdeal.τ).loc Cert.SguOutIdeal.main_arg2) = m ((c.tc : Thread Cert.SguOutIdeal.nD Cert.SguOutIdeal.τ).loc Cert.SguOutIdeal.main_arg2)
      ∧ r.2.mem ((c.tc : Thread Cert.SguOutIdeal.nD Cert.SguOutIdeal.τ).loc Cert.SguOutIdeal.main_arg3) = m ((c.tc : Thread Cert.SguOutIdeal.nD Cert.SguOutIdeal.τ).loc Cert.SguOutIdeal.main_arg3))
      ∧ r.2.sem = fun _ => 0)

def quiescent_SguOutIdeal_pre_finite_sgu_out [hSguOutIdeal : Cert.SguOutIdeal.Facts] [hPre_finite_sgu_out : Cert.Pre_finite_sgu_out.Facts] : Prop :=
  ∀ (m : (ℓ : Loc Cert.SguOutIdeal.nD Cert.SguOutIdeal.τ Cert.SguOutIdeal.sig) → Buf (Elt Ideal) ℓ) (g : Dev Cert.SguOutIdeal.nD → PrngReg), Pre_SguOutIdeal_finite_sgu_out m →
    θ_run (Cert.SguOutIdeal.defs (F := Ideal)) (onTc (τ := Cert.SguOutIdeal.τ) (Cert.SguOutIdeal.main (F := Ideal))) ⟨m, fun _ => 0, g⟩ (fun r => (∀ c : Dev Cert.SguOutIdeal.nD,
      r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
      ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1)
      ∧ r.2.mem ((c.tc : Thread Cert.SguOutIdeal.nD Cert.SguOutIdeal.τ).loc Cert.SguOutIdeal.main_arg2) = m ((c.tc : Thread Cert.SguOutIdeal.nD Cert.SguOutIdeal.τ).loc Cert.SguOutIdeal.main_arg2)
      ∧ r.2.mem ((c.tc : Thread Cert.SguOutIdeal.nD Cert.SguOutIdeal.τ).loc Cert.SguOutIdeal.main_arg3) = m ((c.tc : Thread Cert.SguOutIdeal.nD Cert.SguOutIdeal.τ).loc Cert.SguOutIdeal.main_arg3))
      ∧ r.2.sem = fun _ => 0)

def quiescent_SguOutRefIdeal [hSguOutRefIdeal : Cert.SguOutRefIdeal.Facts] : Prop :=
  ∀ (m : (ℓ : Loc Cert.SguOutRefIdeal.nD Cert.SguOutRefIdeal.τ Cert.SguOutRefIdeal.sig) → Buf (Elt Ideal) ℓ) (g : Dev Cert.SguOutRefIdeal.nD → PrngReg), Pre_SguOutRefIdeal m →
    θ_run (Cert.SguOutRefIdeal.defs (F := Ideal)) (onTc (τ := Cert.SguOutRefIdeal.τ) (Cert.SguOutRefIdeal.main (F := Ideal))) ⟨m, fun _ => 0, g⟩ (fun r => (∀ c : Dev Cert.SguOutRefIdeal.nD,
      r.2.mem ((c.tc : Thread Cert.SguOutRefIdeal.nD Cert.SguOutRefIdeal.τ).loc Cert.SguOutRefIdeal.main_arg0) = m ((c.tc : Thread Cert.SguOutRefIdeal.nD Cert.SguOutRefIdeal.τ).loc Cert.SguOutRefIdeal.main_arg0)
      ∧ r.2.mem ((c.tc : Thread Cert.SguOutRefIdeal.nD Cert.SguOutRefIdeal.τ).loc Cert.SguOutRefIdeal.main_arg1) = m ((c.tc : Thread Cert.SguOutRefIdeal.nD Cert.SguOutRefIdeal.τ).loc Cert.SguOutRefIdeal.main_arg1)
      ∧ r.2.mem ((c.tc : Thread Cert.SguOutRefIdeal.nD Cert.SguOutRefIdeal.τ).loc Cert.SguOutRefIdeal.main_arg2) = m ((c.tc : Thread Cert.SguOutRefIdeal.nD Cert.SguOutRefIdeal.τ).loc Cert.SguOutRefIdeal.main_arg2)
      ∧ r.2.mem ((c.tc : Thread Cert.SguOutRefIdeal.nD Cert.SguOutRefIdeal.τ).loc Cert.SguOutRefIdeal.main_arg3) = m ((c.tc : Thread Cert.SguOutRefIdeal.nD Cert.SguOutRefIdeal.τ).loc Cert.SguOutRefIdeal.main_arg3))
      ∧ r.2.sem = fun _ => 0)

def quiescent_SguOutRefIdeal_pre_finite_sgu_out [hSguOutRefIdeal : Cert.SguOutRefIdeal.Facts] [hPre_finite_sgu_out : Cert.Pre_finite_sgu_out.Facts] : Prop :=
  ∀ (m : (ℓ : Loc Cert.SguOutRefIdeal.nD Cert.SguOutRefIdeal.τ Cert.SguOutRefIdeal.sig) → Buf (Elt Ideal) ℓ) (g : Dev Cert.SguOutRefIdeal.nD → PrngReg), Pre_SguOutRefIdeal_finite_sgu_out m →
    θ_run (Cert.SguOutRefIdeal.defs (F := Ideal)) (onTc (τ := Cert.SguOutRefIdeal.τ) (Cert.SguOutRefIdeal.main (F := Ideal))) ⟨m, fun _ => 0, g⟩ (fun r => (∀ c : Dev Cert.SguOutRefIdeal.nD,
      r.2.mem ((c.tc : Thread Cert.SguOutRefIdeal.nD Cert.SguOutRefIdeal.τ).loc Cert.SguOutRefIdeal.main_arg0) = m ((c.tc : Thread Cert.SguOutRefIdeal.nD Cert.SguOutRefIdeal.τ).loc Cert.SguOutRefIdeal.main_arg0)
      ∧ r.2.mem ((c.tc : Thread Cert.SguOutRefIdeal.nD Cert.SguOutRefIdeal.τ).loc Cert.SguOutRefIdeal.main_arg1) = m ((c.tc : Thread Cert.SguOutRefIdeal.nD Cert.SguOutRefIdeal.τ).loc Cert.SguOutRefIdeal.main_arg1)
      ∧ r.2.mem ((c.tc : Thread Cert.SguOutRefIdeal.nD Cert.SguOutRefIdeal.τ).loc Cert.SguOutRefIdeal.main_arg2) = m ((c.tc : Thread Cert.SguOutRefIdeal.nD Cert.SguOutRefIdeal.τ).loc Cert.SguOutRefIdeal.main_arg2)
      ∧ r.2.mem ((c.tc : Thread Cert.SguOutRefIdeal.nD Cert.SguOutRefIdeal.τ).loc Cert.SguOutRefIdeal.main_arg3) = m ((c.tc : Thread Cert.SguOutRefIdeal.nD Cert.SguOutRefIdeal.τ).loc Cert.SguOutRefIdeal.main_arg3))
      ∧ r.2.sem = fun _ => 0)

def quiescent_SguInFwd [hSguInFwd : Cert.SguInFwd.Facts] : Prop :=
  ∀ (m : (ℓ : Loc Cert.SguInFwd.nD Cert.SguInFwd.τ Cert.SguInFwd.sig) → Buf (Elt Bits) ℓ) (g : Dev Cert.SguInFwd.nD → PrngReg), Pre_SguInFwd m →
    θ_run (Cert.SguInFwd.defs (F := Bits)) (onTc (τ := Cert.SguInFwd.τ) (Cert.SguInFwd.main (F := Bits))) ⟨m, fun _ => 0, g⟩ (fun r => (∀ c : Dev Cert.SguInFwd.nD,
      r.2.mem ((c.tc : Thread Cert.SguInFwd.nD Cert.SguInFwd.τ).loc Cert.SguInFwd.main_arg0) = m ((c.tc : Thread Cert.SguInFwd.nD Cert.SguInFwd.τ).loc Cert.SguInFwd.main_arg0)
      ∧ r.2.mem ((c.tc : Thread Cert.SguInFwd.nD Cert.SguInFwd.τ).loc Cert.SguInFwd.main_arg1) = m ((c.tc : Thread Cert.SguInFwd.nD Cert.SguInFwd.τ).loc Cert.SguInFwd.main_arg1)
      ∧ r.2.mem ((c.tc : Thread Cert.SguInFwd.nD Cert.SguInFwd.τ).loc Cert.SguInFwd.main_arg2) = m ((c.tc : Thread Cert.SguInFwd.nD Cert.SguInFwd.τ).loc Cert.SguInFwd.main_arg2))
      ∧ r.2.sem = fun _ => 0)

def quiescent_SguInFwdIdeal [hSguInFwdIdeal : Cert.SguInFwdIdeal.Facts] : Prop :=
  ∀ (m : (ℓ : Loc Cert.SguInFwdIdeal.nD Cert.SguInFwdIdeal.τ Cert.SguInFwdIdeal.sig) → Buf (Elt Ideal) ℓ) (g : Dev Cert.SguInFwdIdeal.nD → PrngReg), Pre_SguInFwdIdeal m →
    θ_run (Cert.SguInFwdIdeal.defs (F := Ideal)) (onTc (τ := Cert.SguInFwdIdeal.τ) (Cert.SguInFwdIdeal.main (F := Ideal))) ⟨m, fun _ => 0, g⟩ (fun r => (∀ c : Dev Cert.SguInFwdIdeal.nD,
      r.2.mem ((c.tc : Thread Cert.SguInFwdIdeal.nD Cert.SguInFwdIdeal.τ).loc Cert.SguInFwdIdeal.main_arg0) = m ((c.tc : Thread Cert.SguInFwdIdeal.nD Cert.SguInFwdIdeal.τ).loc Cert.SguInFwdIdeal.main_arg0)
      ∧ r.2.mem ((c.tc : Thread Cert.SguInFwdIdeal.nD Cert.SguInFwdIdeal.τ).loc Cert.SguInFwdIdeal.main_arg1) = m ((c.tc : Thread Cert.SguInFwdIdeal.nD Cert.SguInFwdIdeal.τ).loc Cert.SguInFwdIdeal.main_arg1)
      ∧ r.2.mem ((c.tc : Thread Cert.SguInFwdIdeal.nD Cert.SguInFwdIdeal.τ).loc Cert.SguInFwdIdeal.main_arg2) = m ((c.tc : Thread Cert.SguInFwdIdeal.nD Cert.SguInFwdIdeal.τ).loc Cert.SguInFwdIdeal.main_arg2))
      ∧ r.2.sem = fun _ => 0)

def quiescent_SguInFwdIdeal_pre_finite_sgu_in_fwd [hSguInFwdIdeal : Cert.SguInFwdIdeal.Facts] [hPre_finite_sgu_in_fwd : Cert.Pre_finite_sgu_in_fwd.Facts] : Prop :=
  ∀ (m : (ℓ : Loc Cert.SguInFwdIdeal.nD Cert.SguInFwdIdeal.τ Cert.SguInFwdIdeal.sig) → Buf (Elt Ideal) ℓ) (g : Dev Cert.SguInFwdIdeal.nD → PrngReg), Pre_SguInFwdIdeal_finite_sgu_in_fwd m →
    θ_run (Cert.SguInFwdIdeal.defs (F := Ideal)) (onTc (τ := Cert.SguInFwdIdeal.τ) (Cert.SguInFwdIdeal.main (F := Ideal))) ⟨m, fun _ => 0, g⟩ (fun r => (∀ c : Dev Cert.SguInFwdIdeal.nD,
      r.2.mem ((c.tc : Thread Cert.SguInFwdIdeal.nD Cert.SguInFwdIdeal.τ).loc Cert.SguInFwdIdeal.main_arg0) = m ((c.tc : Thread Cert.SguInFwdIdeal.nD Cert.SguInFwdIdeal.τ).loc Cert.SguInFwdIdeal.main_arg0)
      ∧ r.2.mem ((c.tc : Thread Cert.SguInFwdIdeal.nD Cert.SguInFwdIdeal.τ).loc Cert.SguInFwdIdeal.main_arg1) = m ((c.tc : Thread Cert.SguInFwdIdeal.nD Cert.SguInFwdIdeal.τ).loc Cert.SguInFwdIdeal.main_arg1)
      ∧ r.2.mem ((c.tc : Thread Cert.SguInFwdIdeal.nD Cert.SguInFwdIdeal.τ).loc Cert.SguInFwdIdeal.main_arg2) = m ((c.tc : Thread Cert.SguInFwdIdeal.nD Cert.SguInFwdIdeal.τ).loc Cert.SguInFwdIdeal.main_arg2))
      ∧ r.2.sem = fun _ => 0)

def quiescent_SguInFwdRefIdeal [hSguInFwdRefIdeal : Cert.SguInFwdRefIdeal.Facts] : Prop :=
  ∀ (m : (ℓ : Loc Cert.SguInFwdRefIdeal.nD Cert.SguInFwdRefIdeal.τ Cert.SguInFwdRefIdeal.sig) → Buf (Elt Ideal) ℓ) (g : Dev Cert.SguInFwdRefIdeal.nD → PrngReg), Pre_SguInFwdRefIdeal m →
    θ_run (Cert.SguInFwdRefIdeal.defs (F := Ideal)) (onTc (τ := Cert.SguInFwdRefIdeal.τ) (Cert.SguInFwdRefIdeal.main (F := Ideal))) ⟨m, fun _ => 0, g⟩ (fun r => (∀ c : Dev Cert.SguInFwdRefIdeal.nD,
      r.2.mem ((c.tc : Thread Cert.SguInFwdRefIdeal.nD Cert.SguInFwdRefIdeal.τ).loc Cert.SguInFwdRefIdeal.main_arg0) = m ((c.tc : Thread Cert.SguInFwdRefIdeal.nD Cert.SguInFwdRefIdeal.τ).loc Cert.SguInFwdRefIdeal.main_arg0)
      ∧ r.2.mem ((c.tc : Thread Cert.SguInFwdRefIdeal.nD Cert.SguInFwdRefIdeal.τ).loc Cert.SguInFwdRefIdeal.main_arg1) = m ((c.tc : Thread Cert.SguInFwdRefIdeal.nD Cert.SguInFwdRefIdeal.τ).loc Cert.SguInFwdRefIdeal.main_arg1)
      ∧ r.2.mem ((c.tc : Thread Cert.SguInFwdRefIdeal.nD Cert.SguInFwdRefIdeal.τ).loc Cert.SguInFwdRefIdeal.main_arg2) = m ((c.tc : Thread Cert.SguInFwdRefIdeal.nD Cert.SguInFwdRefIdeal.τ).loc Cert.SguInFwdRefIdeal.main_arg2))
      ∧ r.2.sem = fun _ => 0)

def quiescent_SguInFwdRefIdeal_pre_finite_sgu_in_fwd [hSguInFwdRefIdeal : Cert.SguInFwdRefIdeal.Facts] [hPre_finite_sgu_in_fwd : Cert.Pre_finite_sgu_in_fwd.Facts] : Prop :=
  ∀ (m : (ℓ : Loc Cert.SguInFwdRefIdeal.nD Cert.SguInFwdRefIdeal.τ Cert.SguInFwdRefIdeal.sig) → Buf (Elt Ideal) ℓ) (g : Dev Cert.SguInFwdRefIdeal.nD → PrngReg), Pre_SguInFwdRefIdeal_finite_sgu_in_fwd m →
    θ_run (Cert.SguInFwdRefIdeal.defs (F := Ideal)) (onTc (τ := Cert.SguInFwdRefIdeal.τ) (Cert.SguInFwdRefIdeal.main (F := Ideal))) ⟨m, fun _ => 0, g⟩ (fun r => (∀ c : Dev Cert.SguInFwdRefIdeal.nD,
      r.2.mem ((c.tc : Thread Cert.SguInFwdRefIdeal.nD Cert.SguInFwdRefIdeal.τ).loc Cert.SguInFwdRefIdeal.main_arg0) = m ((c.tc : Thread Cert.SguInFwdRefIdeal.nD Cert.SguInFwdRefIdeal.τ).loc Cert.SguInFwdRefIdeal.main_arg0)
      ∧ r.2.mem ((c.tc : Thread Cert.SguInFwdRefIdeal.nD Cert.SguInFwdRefIdeal.τ).loc Cert.SguInFwdRefIdeal.main_arg1) = m ((c.tc : Thread Cert.SguInFwdRefIdeal.nD Cert.SguInFwdRefIdeal.τ).loc Cert.SguInFwdRefIdeal.main_arg1)
      ∧ r.2.mem ((c.tc : Thread Cert.SguInFwdRefIdeal.nD Cert.SguInFwdRefIdeal.τ).loc Cert.SguInFwdRefIdeal.main_arg2) = m ((c.tc : Thread Cert.SguInFwdRefIdeal.nD Cert.SguInFwdRefIdeal.τ).loc Cert.SguInFwdRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def preserves_Pw2_Pw2Ideal : Prop :=
  True

def algebraic_Pw2Ideal_Pw2RefIdeal_pre_finite_pw2 [hPw2Ideal : Cert.Pw2Ideal.Facts] [hPw2RefIdeal : Cert.Pw2RefIdeal.Facts] [hPre_finite_pw2 : Cert.Pre_finite_pw2.Facts] : Prop :=
  ∀ (m : (ℓ : Loc Cert.Pw2Ideal.nD Cert.Pw2Ideal.τ Cert.Pw2Ideal.sig) → Buf (Elt Ideal) ℓ) (g : Dev Cert.Pw2Ideal.nD → PrngReg)
    (m' : (ℓ : Loc Cert.Pw2RefIdeal.nD Cert.Pw2RefIdeal.τ Cert.Pw2RefIdeal.sig) → Buf (Elt Ideal) ℓ) (g' : Dev Cert.Pw2RefIdeal.nD → PrngReg), Pre_Pw2Ideal_finite_pw2 m →
    (∀ c : Dev Cert.Pw2Ideal.nD,
      m' ((c.tc : Thread Cert.Pw2RefIdeal.nD Cert.Pw2RefIdeal.τ).loc Cert.Pw2RefIdeal.main_arg0) = m ((c.tc : Thread Cert.Pw2Ideal.nD Cert.Pw2Ideal.τ).loc Cert.Pw2Ideal.main_arg0)
      ∧ m' ((c.tc : Thread Cert.Pw2RefIdeal.nD Cert.Pw2RefIdeal.τ).loc Cert.Pw2RefIdeal.main_arg1) = m ((c.tc : Thread Cert.Pw2Ideal.nD Cert.Pw2Ideal.τ).loc Cert.Pw2Ideal.main_arg1)
      ∧ m' ((c.tc : Thread Cert.Pw2RefIdeal.nD Cert.Pw2RefIdeal.τ).loc Cert.Pw2RefIdeal.main_arg2) = m ((c.tc : Thread Cert.Pw2Ideal.nD Cert.Pw2Ideal.τ).loc Cert.Pw2Ideal.main_arg2)
      ∧ m' ((c.tc : Thread Cert.Pw2RefIdeal.nD Cert.Pw2RefIdeal.τ).loc Cert.Pw2RefIdeal.main_arg3) = m ((c.tc : Thread Cert.Pw2Ideal.nD Cert.Pw2Ideal.τ).loc Cert.Pw2Ideal.main_arg3)) →
    ∃ (v0 : (c : Dev Cert.Pw2Ideal.nD) → Buf (Elt Ideal) ((c.tc : Thread Cert.Pw2Ideal.nD Cert.Pw2Ideal.τ).loc Cert.Pw2Ideal.main_v4_0)) (v1 : (c : Dev Cert.Pw2Ideal.nD) → Buf (Elt Ideal) ((c.tc : Thread Cert.Pw2Ideal.nD Cert.Pw2Ideal.τ).loc Cert.Pw2Ideal.main_v5)) (v2 : (c : Dev Cert.Pw2Ideal.nD) → Buf (Elt Ideal) ((c.tc : Thread Cert.Pw2Ideal.nD Cert.Pw2Ideal.τ).loc Cert.Pw2Ideal.main_v4_2)),
      θ_run (Cert.Pw2Ideal.defs (F := Ideal)) (onTc (τ := Cert.Pw2Ideal.τ) (Cert.Pw2Ideal.main (F := Ideal))) ⟨m, fun _ => 0, g⟩ (fun r => ∀ c : Dev Cert.Pw2Ideal.nD,
          r.2.mem ((c.tc : Thread Cert.Pw2Ideal.nD Cert.Pw2Ideal.τ).loc Cert.Pw2Ideal.main_v4_0) = v0 c
          ∧ r.2.mem ((c.tc : Thread Cert.Pw2Ideal.nD Cert.Pw2Ideal.τ).loc Cert.Pw2Ideal.main_v5) = v1 c
          ∧ r.2.mem ((c.tc : Thread Cert.Pw2Ideal.nD Cert.Pw2Ideal.τ).loc Cert.Pw2Ideal.main_v4_2) = v2 c
          ∧ r.2.mem ((c.tc : Thread Cert.Pw2Ideal.nD Cert.Pw2Ideal.τ).loc Cert.Pw2Ideal.main_arg0) = m ((c.tc : Thread Cert.Pw2Ideal.nD Cert.Pw2Ideal.τ).loc Cert.Pw2Ideal.main_arg0)
          ∧ r.2.mem ((c.tc : Thread Cert.Pw2Ideal.nD Cert.Pw2Ideal.τ).loc Cert.Pw2Ideal.main_arg1) = m ((c.tc : Thread Cert.Pw2Ideal.nD Cert.Pw2Ideal.τ).loc Cert.Pw2Ideal.main_arg1)
          ∧ r.2.mem ((c.tc : Thread Cert.Pw2Ideal.nD Cert.Pw2Ideal.τ).loc Cert.Pw2Ideal.main_arg2) = m ((c.tc : Thread Cert.Pw2Ideal.nD Cert.Pw2Ideal.τ).loc Cert.Pw2Ideal.main_arg2)
          ∧ r.2.mem ((c.tc : Thread Cert.Pw2Ideal.nD Cert.Pw2Ideal.τ).loc Cert.Pw2Ideal.main_arg3) = m ((c.tc : Thread Cert.Pw2Ideal.nD Cert.Pw2Ideal.τ).loc Cert.Pw2Ideal.main_arg3))
      ∧ θ_run (Cert.Pw2RefIdeal.defs (F := Ideal)) (onTc (τ := Cert.Pw2RefIdeal.τ) (Cert.Pw2RefIdeal.main (F := Ideal))) ⟨m', fun _ => 0, g'⟩ (fun r => ∀ c : Dev Cert.Pw2RefIdeal.nD,
          r.2.mem ((c.tc : Thread Cert.Pw2RefIdeal.nD Cert.Pw2RefIdeal.τ).loc Cert.Pw2RefIdeal.main_v38) = v0 c
          ∧ r.2.mem ((c.tc : Thread Cert.Pw2RefIdeal.nD Cert.Pw2RefIdeal.τ).loc Cert.Pw2RefIdeal.main_v22) = v1 c
          ∧ r.2.mem ((c.tc : Thread Cert.Pw2RefIdeal.nD Cert.Pw2RefIdeal.τ).loc Cert.Pw2RefIdeal.main_v39) = v2 c
          ∧ r.2.mem ((c.tc : Thread Cert.Pw2RefIdeal.nD Cert.Pw2RefIdeal.τ).loc Cert.Pw2RefIdeal.main_arg0) = m' ((c.tc : Thread Cert.Pw2RefIdeal.nD Cert.Pw2RefIdeal.τ).loc Cert.Pw2RefIdeal.main_arg0)
          ∧ r.2.mem ((c.tc : Thread Cert.Pw2RefIdeal.nD Cert.Pw2RefIdeal.τ).loc Cert.Pw2RefIdeal.main_arg1) = m' ((c.tc : Thread Cert.Pw2RefIdeal.nD Cert.Pw2RefIdeal.τ).loc Cert.Pw2RefIdeal.main_arg1)
          ∧ r.2.mem ((c.tc : Thread Cert.Pw2RefIdeal.nD Cert.Pw2RefIdeal.τ).loc Cert.Pw2RefIdeal.main_arg2) = m' ((c.tc : Thread Cert.Pw2RefIdeal.nD Cert.Pw2RefIdeal.τ).loc Cert.Pw2RefIdeal.main_arg2)
          ∧ r.2.mem ((c.tc : Thread Cert.Pw2RefIdeal.nD Cert.Pw2RefIdeal.τ).loc Cert.Pw2RefIdeal.main_arg3) = m' ((c.tc : Thread Cert.Pw2RefIdeal.nD Cert.Pw2RefIdeal.τ).loc Cert.Pw2RefIdeal.main_arg3))

def preserves_SguIn_SguInIdeal : Prop :=
  True

def algebraic_SguInIdeal_SguInRefIdeal_pre_finite_sgu_in [hSguInIdeal : Cert.SguInIdeal.Facts] [hSguInRefIdeal : Cert.SguInRefIdeal.Facts] [hPre_finite_sgu_in : Cert.Pre_finite_sgu_in.Facts] : Prop :=
  ∀ (m : (ℓ : Loc Cert.SguInIdeal.nD Cert.SguInIdeal.τ Cert.SguInIdeal.sig) → Buf (Elt Ideal) ℓ) (g : Dev Cert.SguInIdeal.nD → PrngReg)
    (m' : (ℓ : Loc Cert.SguInRefIdeal.nD Cert.SguInRefIdeal.τ Cert.SguInRefIdeal.sig) → Buf (Elt Ideal) ℓ) (g' : Dev Cert.SguInRefIdeal.nD → PrngReg), Pre_SguInIdeal_finite_sgu_in m →
    (∀ c : Dev Cert.SguInIdeal.nD,
      m' ((c.tc : Thread Cert.SguInRefIdeal.nD Cert.SguInRefIdeal.τ).loc Cert.SguInRefIdeal.main_arg0) = m ((c.tc : Thread Cert.SguInIdeal.nD Cert.SguInIdeal.τ).loc Cert.SguInIdeal.main_arg0)
      ∧ m' ((c.tc : Thread Cert.SguInRefIdeal.nD Cert.SguInRefIdeal.τ).loc Cert.SguInRefIdeal.main_arg1) = m ((c.tc : Thread Cert.SguInIdeal.nD Cert.SguInIdeal.τ).loc Cert.SguInIdeal.main_arg1)
      ∧ m' ((c.tc : Thread Cert.SguInRefIdeal.nD Cert.SguInRefIdeal.τ).loc Cert.SguInRefIdeal.main_arg2) = m ((c.tc : Thread Cert.SguInIdeal.nD Cert.SguInIdeal.τ).loc Cert.SguInIdeal.main_arg2)
      ∧ m' ((c.tc : Thread Cert.SguInRefIdeal.nD Cert.SguInRefIdeal.τ).loc Cert.SguInRefIdeal.main_arg3) = m ((c.tc : Thread Cert.SguInIdeal.nD Cert.SguInIdeal.τ).loc Cert.SguInIdeal.main_arg3)
      ∧ m' ((c.tc : Thread Cert.SguInRefIdeal.nD Cert.SguInRefIdeal.τ).loc Cert.SguInRefIdeal.main_arg4) = m ((c.tc : Thread Cert.SguInIdeal.nD Cert.SguInIdeal.τ).loc Cert.SguInIdeal.main_arg4)) →
    ∃ (v0 : (c : Dev Cert.SguInIdeal.nD) → Buf (Elt Ideal) ((c.tc : Thread Cert.SguInIdeal.nD Cert.SguInIdeal.τ).loc Cert.SguInIdeal.main_v4_0)) (v1 : (c : Dev Cert.SguInIdeal.nD) → Buf (Elt Ideal) ((c.tc : Thread Cert.SguInIdeal.nD Cert.SguInIdeal.τ).loc Cert.SguInIdeal.main_v4_1)) (v2 : (c : Dev Cert.SguInIdeal.nD) → Buf (Elt Ideal) ((c.tc : Thread Cert.SguInIdeal.nD Cert.SguInIdeal.τ).loc Cert.SguInIdeal.main_v5)),
      θ_run (Cert.SguInIdeal.defs (F := Ideal)) (onTc (τ := Cert.SguInIdeal.τ) (Cert.SguInIdeal.main (F := Ideal))) ⟨m, fun _ => 0, g⟩ (fun r => ∀ c : Dev Cert.SguInIdeal.nD,
          r.2.mem ((c.tc : Thread Cert.SguInIdeal.nD Cert.SguInIdeal.τ).loc Cert.SguInIdeal.main_v4_0) = v0 c
          ∧ r.2.mem ((c.tc : Thread Cert.SguInIdeal.nD Cert.SguInIdeal.τ).loc Cert.SguInIdeal.main_v4_1) = v1 c
          ∧ r.2.mem ((c.tc : Thread Cert.SguInIdeal.nD Cert.SguInIdeal.τ).loc Cert.SguInIdeal.main_v5) = v2 c
          ∧ r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
          ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1)
          ∧ r.2.mem ((c.tc : Thread Cert.SguInIdeal.nD Cert.SguInIdeal.τ).loc Cert.SguInIdeal.main_arg2) = m ((c.tc : Thread Cert.SguInIdeal.nD Cert.SguInIdeal.τ).loc Cert.SguInIdeal.main_arg2)
          ∧ r.2.mem ((c.tc : Thread Cert.SguInIdeal.nD Cert.SguInIdeal.τ).loc Cert.SguInIdeal.main_arg3) = m ((c.tc : Thread Cert.SguInIdeal.nD Cert.SguInIdeal.τ).loc Cert.SguInIdeal.main_arg3)
          ∧ r.2.mem ((c.tc : Thread Cert.SguInIdeal.nD Cert.SguInIdeal.τ).loc Cert.SguInIdeal.main_arg4) = m ((c.tc : Thread Cert.SguInIdeal.nD Cert.SguInIdeal.τ).loc Cert.SguInIdeal.main_arg4))
      ∧ θ_run (Cert.SguInRefIdeal.defs (F := Ideal)) (onTc (τ := Cert.SguInRefIdeal.τ) (Cert.SguInRefIdeal.main (F := Ideal))) ⟨m', fun _ => 0, g'⟩ (fun r => ∀ c : Dev Cert.SguInRefIdeal.nD,
          r.2.mem ((c.tc : Thread Cert.SguInRefIdeal.nD Cert.SguInRefIdeal.τ).loc Cert.SguInRefIdeal.main_v38) = v0 c
          ∧ r.2.mem ((c.tc : Thread Cert.SguInRefIdeal.nD Cert.SguInRefIdeal.τ).loc Cert.SguInRefIdeal.main_v39) = v1 c
          ∧ r.2.mem ((c.tc : Thread Cert.SguInRefIdeal.nD Cert.SguInRefIdeal.τ).loc Cert.SguInRefIdeal.main_v23) = v2 c
          ∧ r.2.mem ((c.tc : Thread Cert.SguInRefIdeal.nD Cert.SguInRefIdeal.τ).loc Cert.SguInRefIdeal.main_arg0) = m' ((c.tc : Thread Cert.SguInRefIdeal.nD Cert.SguInRefIdeal.τ).loc Cert.SguInRefIdeal.main_arg0)
          ∧ r.2.mem ((c.tc : Thread Cert.SguInRefIdeal.nD Cert.SguInRefIdeal.τ).loc Cert.SguInRefIdeal.main_arg1) = m' ((c.tc : Thread Cert.SguInRefIdeal.nD Cert.SguInRefIdeal.τ).loc Cert.SguInRefIdeal.main_arg1)
          ∧ r.2.mem ((c.tc : Thread Cert.SguInRefIdeal.nD Cert.SguInRefIdeal.τ).loc Cert.SguInRefIdeal.main_arg2) = m' ((c.tc : Thread Cert.SguInRefIdeal.nD Cert.SguInRefIdeal.τ).loc Cert.SguInRefIdeal.main_arg2)
          ∧ r.2.mem ((c.tc : Thread Cert.SguInRefIdeal.nD Cert.SguInRefIdeal.τ).loc Cert.SguInRefIdeal.main_arg3) = m' ((c.tc : Thread Cert.SguInRefIdeal.nD Cert.SguInRefIdeal.τ).loc Cert.SguInRefIdeal.main_arg3)
          ∧ r.2.mem ((c.tc : Thread Cert.SguInRefIdeal.nD Cert.SguInRefIdeal.τ).loc Cert.SguInRefIdeal.main_arg4) = m' ((c.tc : Thread Cert.SguInRefIdeal.nD Cert.SguInRefIdeal.τ).loc Cert.SguInRefIdeal.main_arg4))

def preserves_Sgu_SguIdeal : Prop :=
  IdealRules.named_const.Statement Cert.SguIdeal.κ "gelu_c01" .f32 0x3D122279#32 ((80338380498831 / 2251799813685248 : ℝ) : EReal)
  ∧ IdealRules.named_const.Statement Cert.SguIdeal.κ "gelu_3c01" .f32 0x3D5B33B6#32 ((241015141496493 / 4503599627370496 : ℝ) : EReal)

def algebraic_SguIdeal_SguRefIdeal_pre_finite_sgu [hSguIdeal : Cert.SguIdeal.Facts] [hSguRefIdeal : Cert.SguRefIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_finite_sgu m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)
      ∧ m' ((c.tc : Thread Cert.SguRefIdeal.nD Cert.SguRefIdeal.τ).loc Cert.SguRefIdeal.main_arg7) = m ((c.tc : Thread Cert.SguIdeal.nD Cert.SguIdeal.τ).loc Cert.SguIdeal.main_arg7)) →
    ∃ (v0 : (c : Dev Cert.SguIdeal.nD) → Buf (Elt Ideal) ((c.tc : Thread Cert.SguIdeal.nD Cert.SguIdeal.τ).loc Cert.SguIdeal.main_v12)) (v1 : (c : Dev Cert.SguIdeal.nD) → Buf (Elt Ideal) ((c.tc : Thread Cert.SguIdeal.nD Cert.SguIdeal.τ).loc Cert.SguIdeal.main_v18_0)) (v2 : (c : Dev Cert.SguIdeal.nD) → Buf (Elt Ideal) ((c.tc : Thread Cert.SguIdeal.nD Cert.SguIdeal.τ).loc Cert.SguIdeal.main_v24)) (v3 : (c : Dev Cert.SguIdeal.nD) → Buf (Elt Ideal) ((c.tc : Thread Cert.SguIdeal.nD Cert.SguIdeal.τ).loc Cert.SguIdeal.main_v18_2)) (v4 : (c : Dev Cert.SguIdeal.nD) → Buf (Elt Ideal) ((c.tc : Thread Cert.SguIdeal.nD Cert.SguIdeal.τ).loc Cert.SguIdeal.main_v20)) (v5 : (c : Dev Cert.SguIdeal.nD) → Buf (Elt Ideal) ((c.tc : Thread Cert.SguIdeal.nD Cert.SguIdeal.τ).loc Cert.SguIdeal.main_v23)) (v6 : (c : Dev Cert.SguIdeal.nD) → Buf (Elt Ideal) ((c.tc : Thread Cert.SguIdeal.nD Cert.SguIdeal.τ).loc Cert.SguIdeal.main_v25)) (v7 : (c : Dev Cert.SguIdeal.nD) → Buf (Elt Ideal) ((c.tc : Thread Cert.SguIdeal.nD Cert.SguIdeal.τ).loc Cert.SguIdeal.main_v26)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v12) = v0 c
          ∧ r.2.mem ((c.tc : Thread Cert.SguIdeal.nD Cert.SguIdeal.τ).loc Cert.SguIdeal.main_v18_0) = v1 c
          ∧ r.2.mem ((c.tc : Thread Cert.SguIdeal.nD Cert.SguIdeal.τ).loc Cert.SguIdeal.main_v24) = v2 c
          ∧ r.2.mem ((c.tc : Thread Cert.SguIdeal.nD Cert.SguIdeal.τ).loc Cert.SguIdeal.main_v18_2) = v3 c
          ∧ r.2.mem ((c.tc : Thread Cert.SguIdeal.nD Cert.SguIdeal.τ).loc Cert.SguIdeal.main_v20) = v4 c
          ∧ r.2.mem ((c.tc : Thread Cert.SguIdeal.nD Cert.SguIdeal.τ).loc Cert.SguIdeal.main_v23) = v5 c
          ∧ r.2.mem ((c.tc : Thread Cert.SguIdeal.nD Cert.SguIdeal.τ).loc Cert.SguIdeal.main_v25) = v6 c
          ∧ r.2.mem ((c.tc : Thread Cert.SguIdeal.nD Cert.SguIdeal.τ).loc Cert.SguIdeal.main_v26) = v7 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
          ∧ r.2.mem ((c.tc : Thread Cert.SguIdeal.nD Cert.SguIdeal.τ).loc Cert.SguIdeal.main_arg7) = m ((c.tc : Thread Cert.SguIdeal.nD Cert.SguIdeal.τ).loc Cert.SguIdeal.main_arg7))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v156) = v0 c
          ∧ r.2.mem ((c.tc : Thread Cert.SguRefIdeal.nD Cert.SguRefIdeal.τ).loc Cert.SguRefIdeal.main_v157) = v1 c
          ∧ r.2.mem ((c.tc : Thread Cert.SguRefIdeal.nD Cert.SguRefIdeal.τ).loc Cert.SguRefIdeal.main_v83) = v2 c
          ∧ r.2.mem ((c.tc : Thread Cert.SguRefIdeal.nD Cert.SguRefIdeal.τ).loc Cert.SguRefIdeal.main_v158) = v3 c
          ∧ r.2.mem ((c.tc : Thread Cert.SguRefIdeal.nD Cert.SguRefIdeal.τ).loc Cert.SguRefIdeal.main_v110) = v4 c
          ∧ r.2.mem ((c.tc : Thread Cert.SguRefIdeal.nD Cert.SguRefIdeal.τ).loc Cert.SguRefIdeal.main_v105) = v5 c
          ∧ r.2.mem ((c.tc : Thread Cert.SguRefIdeal.nD Cert.SguRefIdeal.τ).loc Cert.SguRefIdeal.main_v120) = v6 c
          ∧ r.2.mem ((c.tc : Thread Cert.SguRefIdeal.nD Cert.SguRefIdeal.τ).loc Cert.SguRefIdeal.main_v114) = v7 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6)
          ∧ r.2.mem ((c.tc : Thread Cert.SguRefIdeal.nD Cert.SguRefIdeal.τ).loc Cert.SguRefIdeal.main_arg7) = m' ((c.tc : Thread Cert.SguRefIdeal.nD Cert.SguRefIdeal.τ).loc Cert.SguRefIdeal.main_arg7))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v6_2)) (v1 : (c : Dev Cert.FfnIdeal.nD) → Buf (Elt Ideal) ((c.tc : Thread Cert.FfnIdeal.nD Cert.FfnIdeal.τ).loc Cert.FfnIdeal.main_v11_0)) (v2 : (c : Dev Cert.FfnIdeal.nD) → Buf (Elt Ideal) ((c.tc : Thread Cert.FfnIdeal.nD Cert.FfnIdeal.τ).loc Cert.FfnIdeal.main_v12)) (v3 : (c : Dev Cert.FfnIdeal.nD) → Buf (Elt Ideal) ((c.tc : Thread Cert.FfnIdeal.nD Cert.FfnIdeal.τ).loc Cert.FfnIdeal.main_v11_2)) (v4 : (c : Dev Cert.FfnIdeal.nD) → Buf (Elt Ideal) ((c.tc : Thread Cert.FfnIdeal.nD Cert.FfnIdeal.τ).loc Cert.FfnIdeal.main_v11_3)) (v5 : (c : Dev Cert.FfnIdeal.nD) → Buf (Elt Ideal) ((c.tc : Thread Cert.FfnIdeal.nD Cert.FfnIdeal.τ).loc Cert.FfnIdeal.main_v11_4)) (v6 : (c : Dev Cert.FfnIdeal.nD) → Buf (Elt Ideal) ((c.tc : Thread Cert.FfnIdeal.nD Cert.FfnIdeal.τ).loc Cert.FfnIdeal.main_v11_5)) (v7 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_2) = v0 c
          ∧ r.2.mem ((c.tc : Thread Cert.FfnIdeal.nD Cert.FfnIdeal.τ).loc Cert.FfnIdeal.main_v11_0) = v1 c
          ∧ r.2.mem ((c.tc : Thread Cert.FfnIdeal.nD Cert.FfnIdeal.τ).loc Cert.FfnIdeal.main_v12) = v2 c
          ∧ r.2.mem ((c.tc : Thread Cert.FfnIdeal.nD Cert.FfnIdeal.τ).loc Cert.FfnIdeal.main_v11_2) = v3 c
          ∧ r.2.mem ((c.tc : Thread Cert.FfnIdeal.nD Cert.FfnIdeal.τ).loc Cert.FfnIdeal.main_v11_3) = v4 c
          ∧ r.2.mem ((c.tc : Thread Cert.FfnIdeal.nD Cert.FfnIdeal.τ).loc Cert.FfnIdeal.main_v11_4) = v5 c
          ∧ r.2.mem ((c.tc : Thread Cert.FfnIdeal.nD Cert.FfnIdeal.τ).loc Cert.FfnIdeal.main_v11_5) = v6 c
          ∧ r.2.mem ((c.tc : Thread Cert.FfnIdeal.nD Cert.FfnIdeal.τ).loc Cert.FfnIdeal.main_v13) = v7 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v90) = v0 c
          ∧ r.2.mem ((c.tc : Thread Cert.FfnRefIdeal.nD Cert.FfnRefIdeal.τ).loc Cert.FfnRefIdeal.main_v91) = v1 c
          ∧ r.2.mem ((c.tc : Thread Cert.FfnRefIdeal.nD Cert.FfnRefIdeal.τ).loc Cert.FfnRefIdeal.main_v48) = v2 c
          ∧ r.2.mem ((c.tc : Thread Cert.FfnRefIdeal.nD Cert.FfnRefIdeal.τ).loc Cert.FfnRefIdeal.main_v92) = v3 c
          ∧ r.2.mem ((c.tc : Thread Cert.FfnRefIdeal.nD Cert.FfnRefIdeal.τ).loc Cert.FfnRefIdeal.main_v93) = v4 c
          ∧ r.2.mem ((c.tc : Thread Cert.FfnRefIdeal.nD Cert.FfnRefIdeal.τ).loc Cert.FfnRefIdeal.main_v94) = v5 c
          ∧ r.2.mem ((c.tc : Thread Cert.FfnRefIdeal.nD Cert.FfnRefIdeal.τ).loc Cert.FfnRefIdeal.main_v95) = v6 c
          ∧ r.2.mem ((c.tc : Thread Cert.FfnRefIdeal.nD Cert.FfnRefIdeal.τ).loc Cert.FfnRefIdeal.main_v75) = v7 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Pw1_Pw1Ideal : Prop :=
  True

def algebraic_Pw1Ideal_Pw1RefIdeal_pre_finite_pw1 [hPw1Ideal : Cert.Pw1Ideal.Facts] [hPw1RefIdeal : Cert.Pw1RefIdeal.Facts] [hPre_finite_pw1 : Cert.Pre_finite_pw1.Facts] : Prop :=
  ∀ (m : (ℓ : Loc Cert.Pw1Ideal.nD Cert.Pw1Ideal.τ Cert.Pw1Ideal.sig) → Buf (Elt Ideal) ℓ) (g : Dev Cert.Pw1Ideal.nD → PrngReg)
    (m' : (ℓ : Loc Cert.Pw1RefIdeal.nD Cert.Pw1RefIdeal.τ Cert.Pw1RefIdeal.sig) → Buf (Elt Ideal) ℓ) (g' : Dev Cert.Pw1RefIdeal.nD → PrngReg), Pre_Pw1Ideal_finite_pw1 m →
    (∀ c : Dev Cert.Pw1Ideal.nD,
      m' ((c.tc : Thread Cert.Pw1RefIdeal.nD Cert.Pw1RefIdeal.τ).loc Cert.Pw1RefIdeal.main_arg0) = m ((c.tc : Thread Cert.Pw1Ideal.nD Cert.Pw1Ideal.τ).loc Cert.Pw1Ideal.main_arg0)
      ∧ m' ((c.tc : Thread Cert.Pw1RefIdeal.nD Cert.Pw1RefIdeal.τ).loc Cert.Pw1RefIdeal.main_arg1) = m ((c.tc : Thread Cert.Pw1Ideal.nD Cert.Pw1Ideal.τ).loc Cert.Pw1Ideal.main_arg1)
      ∧ m' ((c.tc : Thread Cert.Pw1RefIdeal.nD Cert.Pw1RefIdeal.τ).loc Cert.Pw1RefIdeal.main_arg2) = m ((c.tc : Thread Cert.Pw1Ideal.nD Cert.Pw1Ideal.τ).loc Cert.Pw1Ideal.main_arg2)
      ∧ m' ((c.tc : Thread Cert.Pw1RefIdeal.nD Cert.Pw1RefIdeal.τ).loc Cert.Pw1RefIdeal.main_arg3) = m ((c.tc : Thread Cert.Pw1Ideal.nD Cert.Pw1Ideal.τ).loc Cert.Pw1Ideal.main_arg3)
      ∧ m' ((c.tc : Thread Cert.Pw1RefIdeal.nD Cert.Pw1RefIdeal.τ).loc Cert.Pw1RefIdeal.main_arg4) = m ((c.tc : Thread Cert.Pw1Ideal.nD Cert.Pw1Ideal.τ).loc Cert.Pw1Ideal.main_arg4)) →
    ∃ (v0 : (c : Dev Cert.Pw1Ideal.nD) → Buf (Elt Ideal) ((c.tc : Thread Cert.Pw1Ideal.nD Cert.Pw1Ideal.τ).loc Cert.Pw1Ideal.main_v3)) (v1 : (c : Dev Cert.Pw1Ideal.nD) → Buf (Elt Ideal) ((c.tc : Thread Cert.Pw1Ideal.nD Cert.Pw1Ideal.τ).loc Cert.Pw1Ideal.main_v5_0)) (v2 : (c : Dev Cert.Pw1Ideal.nD) → Buf (Elt Ideal) ((c.tc : Thread Cert.Pw1Ideal.nD Cert.Pw1Ideal.τ).loc Cert.Pw1Ideal.main_v5_1)) (v3 : (c : Dev Cert.Pw1Ideal.nD) → Buf (Elt Ideal) ((c.tc : Thread Cert.Pw1Ideal.nD Cert.Pw1Ideal.τ).loc Cert.Pw1Ideal.main_v6)),
      θ_run (Cert.Pw1Ideal.defs (F := Ideal)) (onTc (τ := Cert.Pw1Ideal.τ) (Cert.Pw1Ideal.main (F := Ideal))) ⟨m, fun _ => 0, g⟩ (fun r => ∀ c : Dev Cert.Pw1Ideal.nD,
          r.2.mem ((c.tc : Thread Cert.Pw1Ideal.nD Cert.Pw1Ideal.τ).loc Cert.Pw1Ideal.main_v3) = v0 c
          ∧ r.2.mem ((c.tc : Thread Cert.Pw1Ideal.nD Cert.Pw1Ideal.τ).loc Cert.Pw1Ideal.main_v5_0) = v1 c
          ∧ r.2.mem ((c.tc : Thread Cert.Pw1Ideal.nD Cert.Pw1Ideal.τ).loc Cert.Pw1Ideal.main_v5_1) = v2 c
          ∧ r.2.mem ((c.tc : Thread Cert.Pw1Ideal.nD Cert.Pw1Ideal.τ).loc Cert.Pw1Ideal.main_v6) = v3 c
          ∧ r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
          ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
          ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2)
          ∧ r.2.mem ((c.tc : Thread Cert.Pw1Ideal.nD Cert.Pw1Ideal.τ).loc Cert.Pw1Ideal.main_arg3) = m ((c.tc : Thread Cert.Pw1Ideal.nD Cert.Pw1Ideal.τ).loc Cert.Pw1Ideal.main_arg3)
          ∧ r.2.mem ((c.tc : Thread Cert.Pw1Ideal.nD Cert.Pw1Ideal.τ).loc Cert.Pw1Ideal.main_arg4) = m ((c.tc : Thread Cert.Pw1Ideal.nD Cert.Pw1Ideal.τ).loc Cert.Pw1Ideal.main_arg4))
      ∧ θ_run (Cert.Pw1RefIdeal.defs (F := Ideal)) (onTc (τ := Cert.Pw1RefIdeal.τ) (Cert.Pw1RefIdeal.main (F := Ideal))) ⟨m', fun _ => 0, g'⟩ (fun r => ∀ c : Dev Cert.Pw1RefIdeal.nD,
          r.2.mem ((c.tc : Thread Cert.Pw1RefIdeal.nD Cert.Pw1RefIdeal.τ).loc Cert.Pw1RefIdeal.main_v38) = v0 c
          ∧ r.2.mem ((c.tc : Thread Cert.Pw1RefIdeal.nD Cert.Pw1RefIdeal.τ).loc Cert.Pw1RefIdeal.main_v39) = v1 c
          ∧ r.2.mem ((c.tc : Thread Cert.Pw1RefIdeal.nD Cert.Pw1RefIdeal.τ).loc Cert.Pw1RefIdeal.main_v40) = v2 c
          ∧ r.2.mem ((c.tc : Thread Cert.Pw1RefIdeal.nD Cert.Pw1RefIdeal.τ).loc Cert.Pw1RefIdeal.main_v23) = v3 c
          ∧ r.2.mem ((c.tc : Thread Cert.Pw1RefIdeal.nD Cert.Pw1RefIdeal.τ).loc Cert.Pw1RefIdeal.main_arg0) = m' ((c.tc : Thread Cert.Pw1RefIdeal.nD Cert.Pw1RefIdeal.τ).loc Cert.Pw1RefIdeal.main_arg0)
          ∧ r.2.mem ((c.tc : Thread Cert.Pw1RefIdeal.nD Cert.Pw1RefIdeal.τ).loc Cert.Pw1RefIdeal.main_arg1) = m' ((c.tc : Thread Cert.Pw1RefIdeal.nD Cert.Pw1RefIdeal.τ).loc Cert.Pw1RefIdeal.main_arg1)
          ∧ r.2.mem ((c.tc : Thread Cert.Pw1RefIdeal.nD Cert.Pw1RefIdeal.τ).loc Cert.Pw1RefIdeal.main_arg2) = m' ((c.tc : Thread Cert.Pw1RefIdeal.nD Cert.Pw1RefIdeal.τ).loc Cert.Pw1RefIdeal.main_arg2)
          ∧ r.2.mem ((c.tc : Thread Cert.Pw1RefIdeal.nD Cert.Pw1RefIdeal.τ).loc Cert.Pw1RefIdeal.main_arg3) = m' ((c.tc : Thread Cert.Pw1RefIdeal.nD Cert.Pw1RefIdeal.τ).loc Cert.Pw1RefIdeal.main_arg3)
          ∧ r.2.mem ((c.tc : Thread Cert.Pw1RefIdeal.nD Cert.Pw1RefIdeal.τ).loc Cert.Pw1RefIdeal.main_arg4) = m' ((c.tc : Thread Cert.Pw1RefIdeal.nD Cert.Pw1RefIdeal.τ).loc Cert.Pw1RefIdeal.main_arg4))

def preserves_ConvBwd_ConvBwdIdeal : Prop :=
  True

def preserves_Out_OutIdeal : Prop :=
  True

def algebraic_OutIdeal_OutRefIdeal_pre_finite_out [hOutIdeal : Cert.OutIdeal.Facts] [hOutRefIdeal : Cert.OutRefIdeal.Facts] [hPre_finite_out : Cert.Pre_finite_out.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_finite_out m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v16) = v0 c
          ∧ r.2.mem ((c.tc : Thread Cert.OutRefIdeal.nD Cert.OutRefIdeal.τ).loc Cert.OutRefIdeal.main_v17) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_OutLoss_OutLossIdeal : Prop :=
  True

def algebraic_OutLossIdeal_OutLossRefIdeal_pre_finite_out_loss [hOutLossIdeal : Cert.OutLossIdeal.Facts] [hOutLossRefIdeal : Cert.OutLossRefIdeal.Facts] [hPre_finite_out_loss : Cert.Pre_finite_out_loss.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal_finite_out_loss m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)
      ∧ m' ((c.tc : Thread Cert.OutLossRefIdeal.nD Cert.OutLossRefIdeal.τ).loc Cert.OutLossRefIdeal.main_arg4) = m ((c.tc : Thread Cert.OutLossIdeal.nD Cert.OutLossIdeal.τ).loc Cert.OutLossIdeal.main_arg4)) →
    ∃ (v0 : (c : Dev Cert.OutLossIdeal.nD) → Buf (Elt Ideal) ((c.tc : Thread Cert.OutLossIdeal.nD Cert.OutLossIdeal.τ).loc Cert.OutLossIdeal.main_v3_0)) (v1 : (c : Dev Cert.OutLossIdeal.nD) → Buf (Elt Ideal) ((c.tc : Thread Cert.OutLossIdeal.nD Cert.OutLossIdeal.τ).loc Cert.OutLossIdeal.main_v3_1)) (v2 : (c : Dev Cert.OutLossIdeal.nD) → Buf (Elt Ideal) ((c.tc : Thread Cert.OutLossIdeal.nD Cert.OutLossIdeal.τ).loc Cert.OutLossIdeal.main_v6)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v3_0) = v0 c
          ∧ r.2.mem ((c.tc : Thread Cert.OutLossIdeal.nD Cert.OutLossIdeal.τ).loc Cert.OutLossIdeal.main_v3_1) = v1 c
          ∧ r.2.mem ((c.tc : Thread Cert.OutLossIdeal.nD Cert.OutLossIdeal.τ).loc Cert.OutLossIdeal.main_v6) = v2 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
          ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v31) = v0 c
          ∧ r.2.mem ((c.tc : Thread Cert.OutLossRefIdeal.nD Cert.OutLossRefIdeal.τ).loc Cert.OutLossRefIdeal.main_v32) = v1 c
          ∧ r.2.mem ((c.tc : Thread Cert.OutLossRefIdeal.nD Cert.OutLossRefIdeal.τ).loc Cert.OutLossRefIdeal.main_v25) = v2 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3)
          ∧ r.2.mem ((c.tc : Thread Cert.OutLossRefIdeal.nD Cert.OutLossRefIdeal.τ).loc Cert.OutLossRefIdeal.main_arg4) = m' ((c.tc : Thread Cert.OutLossRefIdeal.nD Cert.OutLossRefIdeal.τ).loc Cert.OutLossRefIdeal.main_arg4))

def preserves_Pw2Out_Pw2OutIdeal : Prop :=
  True

def algebraic_Pw2OutIdeal_Pw2OutRefIdeal_pre_finite_pw2_out [hPw2OutIdeal : Cert.Pw2OutIdeal.Facts] [hPw2OutRefIdeal : Cert.Pw2OutRefIdeal.Facts] [hPre_finite_pw2_out : Cert.Pre_finite_pw2_out.Facts] : Prop :=
  ∀ (m : (ℓ : Loc Cert.Pw2OutIdeal.nD Cert.Pw2OutIdeal.τ Cert.Pw2OutIdeal.sig) → Buf (Elt Ideal) ℓ) (g : Dev Cert.Pw2OutIdeal.nD → PrngReg)
    (m' : (ℓ : Loc Cert.Pw2OutRefIdeal.nD Cert.Pw2OutRefIdeal.τ Cert.Pw2OutRefIdeal.sig) → Buf (Elt Ideal) ℓ) (g' : Dev Cert.Pw2OutRefIdeal.nD → PrngReg), Pre_Pw2OutIdeal_finite_pw2_out m →
    (∀ c : Dev Cert.Pw2OutIdeal.nD,
      m' ((c.tc : Thread Cert.Pw2OutRefIdeal.nD Cert.Pw2OutRefIdeal.τ).loc Cert.Pw2OutRefIdeal.main_arg0) = m ((c.tc : Thread Cert.Pw2OutIdeal.nD Cert.Pw2OutIdeal.τ).loc Cert.Pw2OutIdeal.main_arg0)
      ∧ m' ((c.tc : Thread Cert.Pw2OutRefIdeal.nD Cert.Pw2OutRefIdeal.τ).loc Cert.Pw2OutRefIdeal.main_arg1) = m ((c.tc : Thread Cert.Pw2OutIdeal.nD Cert.Pw2OutIdeal.τ).loc Cert.Pw2OutIdeal.main_arg1)
      ∧ m' ((c.tc : Thread Cert.Pw2OutRefIdeal.nD Cert.Pw2OutRefIdeal.τ).loc Cert.Pw2OutRefIdeal.main_arg2) = m ((c.tc : Thread Cert.Pw2OutIdeal.nD Cert.Pw2OutIdeal.τ).loc Cert.Pw2OutIdeal.main_arg2)
      ∧ m' ((c.tc : Thread Cert.Pw2OutRefIdeal.nD Cert.Pw2OutRefIdeal.τ).loc Cert.Pw2OutRefIdeal.main_arg3) = m ((c.tc : Thread Cert.Pw2OutIdeal.nD Cert.Pw2OutIdeal.τ).loc Cert.Pw2OutIdeal.main_arg3)) →
    ∃ (v0 : (c : Dev Cert.Pw2OutIdeal.nD) → Buf (Elt Ideal) ((c.tc : Thread Cert.Pw2OutIdeal.nD Cert.Pw2OutIdeal.τ).loc Cert.Pw2OutIdeal.main_v3_0)) (v1 : (c : Dev Cert.Pw2OutIdeal.nD) → Buf (Elt Ideal) ((c.tc : Thread Cert.Pw2OutIdeal.nD Cert.Pw2OutIdeal.τ).loc Cert.Pw2OutIdeal.main_v3_1)),
      θ_run (Cert.Pw2OutIdeal.defs (F := Ideal)) (onTc (τ := Cert.Pw2OutIdeal.τ) (Cert.Pw2OutIdeal.main (F := Ideal))) ⟨m, fun _ => 0, g⟩ (fun r => ∀ c : Dev Cert.Pw2OutIdeal.nD,
          r.2.mem ((c.tc : Thread Cert.Pw2OutIdeal.nD Cert.Pw2OutIdeal.τ).loc Cert.Pw2OutIdeal.main_v3_0) = v0 c
          ∧ r.2.mem ((c.tc : Thread Cert.Pw2OutIdeal.nD Cert.Pw2OutIdeal.τ).loc Cert.Pw2OutIdeal.main_v3_1) = v1 c
          ∧ r.2.mem ((c.tc : Thread Cert.Pw2OutIdeal.nD Cert.Pw2OutIdeal.τ).loc Cert.Pw2OutIdeal.main_arg0) = m ((c.tc : Thread Cert.Pw2OutIdeal.nD Cert.Pw2OutIdeal.τ).loc Cert.Pw2OutIdeal.main_arg0)
          ∧ r.2.mem ((c.tc : Thread Cert.Pw2OutIdeal.nD Cert.Pw2OutIdeal.τ).loc Cert.Pw2OutIdeal.main_arg1) = m ((c.tc : Thread Cert.Pw2OutIdeal.nD Cert.Pw2OutIdeal.τ).loc Cert.Pw2OutIdeal.main_arg1)
          ∧ r.2.mem ((c.tc : Thread Cert.Pw2OutIdeal.nD Cert.Pw2OutIdeal.τ).loc Cert.Pw2OutIdeal.main_arg2) = m ((c.tc : Thread Cert.Pw2OutIdeal.nD Cert.Pw2OutIdeal.τ).loc Cert.Pw2OutIdeal.main_arg2)
          ∧ r.2.mem ((c.tc : Thread Cert.Pw2OutIdeal.nD Cert.Pw2OutIdeal.τ).loc Cert.Pw2OutIdeal.main_arg3) = m ((c.tc : Thread Cert.Pw2OutIdeal.nD Cert.Pw2OutIdeal.τ).loc Cert.Pw2OutIdeal.main_arg3))
      ∧ θ_run (Cert.Pw2OutRefIdeal.defs (F := Ideal)) (onTc (τ := Cert.Pw2OutRefIdeal.τ) (Cert.Pw2OutRefIdeal.main (F := Ideal))) ⟨m', fun _ => 0, g'⟩ (fun r => ∀ c : Dev Cert.Pw2OutRefIdeal.nD,
          r.2.mem ((c.tc : Thread Cert.Pw2OutRefIdeal.nD Cert.Pw2OutRefIdeal.τ).loc Cert.Pw2OutRefIdeal.main_v14) = v0 c
          ∧ r.2.mem ((c.tc : Thread Cert.Pw2OutRefIdeal.nD Cert.Pw2OutRefIdeal.τ).loc Cert.Pw2OutRefIdeal.main_v15) = v1 c
          ∧ r.2.mem ((c.tc : Thread Cert.Pw2OutRefIdeal.nD Cert.Pw2OutRefIdeal.τ).loc Cert.Pw2OutRefIdeal.main_arg0) = m' ((c.tc : Thread Cert.Pw2OutRefIdeal.nD Cert.Pw2OutRefIdeal.τ).loc Cert.Pw2OutRefIdeal.main_arg0)
          ∧ r.2.mem ((c.tc : Thread Cert.Pw2OutRefIdeal.nD Cert.Pw2OutRefIdeal.τ).loc Cert.Pw2OutRefIdeal.main_arg1) = m' ((c.tc : Thread Cert.Pw2OutRefIdeal.nD Cert.Pw2OutRefIdeal.τ).loc Cert.Pw2OutRefIdeal.main_arg1)
          ∧ r.2.mem ((c.tc : Thread Cert.Pw2OutRefIdeal.nD Cert.Pw2OutRefIdeal.τ).loc Cert.Pw2OutRefIdeal.main_arg2) = m' ((c.tc : Thread Cert.Pw2OutRefIdeal.nD Cert.Pw2OutRefIdeal.τ).loc Cert.Pw2OutRefIdeal.main_arg2)
          ∧ r.2.mem ((c.tc : Thread Cert.Pw2OutRefIdeal.nD Cert.Pw2OutRefIdeal.τ).loc Cert.Pw2OutRefIdeal.main_arg3) = m' ((c.tc : Thread Cert.Pw2OutRefIdeal.nD Cert.Pw2OutRefIdeal.τ).loc Cert.Pw2OutRefIdeal.main_arg3))

def preserves_SguOut_SguOutIdeal : Prop :=
  True

def algebraic_SguOutIdeal_SguOutRefIdeal_pre_finite_sgu_out [hSguOutIdeal : Cert.SguOutIdeal.Facts] [hSguOutRefIdeal : Cert.SguOutRefIdeal.Facts] [hPre_finite_sgu_out : Cert.Pre_finite_sgu_out.Facts] : Prop :=
  ∀ (m : (ℓ : Loc Cert.SguOutIdeal.nD Cert.SguOutIdeal.τ Cert.SguOutIdeal.sig) → Buf (Elt Ideal) ℓ) (g : Dev Cert.SguOutIdeal.nD → PrngReg)
    (m' : (ℓ : Loc Cert.SguOutRefIdeal.nD Cert.SguOutRefIdeal.τ Cert.SguOutRefIdeal.sig) → Buf (Elt Ideal) ℓ) (g' : Dev Cert.SguOutRefIdeal.nD → PrngReg), Pre_SguOutIdeal_finite_sgu_out m →
    (∀ c : Dev Cert.SguOutIdeal.nD,
      m' ((c.tc : Thread Cert.SguOutRefIdeal.nD Cert.SguOutRefIdeal.τ).loc Cert.SguOutRefIdeal.main_arg0) = m ((c.tc : Thread Cert.SguOutIdeal.nD Cert.SguOutIdeal.τ).loc Cert.SguOutIdeal.main_arg0)
      ∧ m' ((c.tc : Thread Cert.SguOutRefIdeal.nD Cert.SguOutRefIdeal.τ).loc Cert.SguOutRefIdeal.main_arg1) = m ((c.tc : Thread Cert.SguOutIdeal.nD Cert.SguOutIdeal.τ).loc Cert.SguOutIdeal.main_arg1)
      ∧ m' ((c.tc : Thread Cert.SguOutRefIdeal.nD Cert.SguOutRefIdeal.τ).loc Cert.SguOutRefIdeal.main_arg2) = m ((c.tc : Thread Cert.SguOutIdeal.nD Cert.SguOutIdeal.τ).loc Cert.SguOutIdeal.main_arg2)
      ∧ m' ((c.tc : Thread Cert.SguOutRefIdeal.nD Cert.SguOutRefIdeal.τ).loc Cert.SguOutRefIdeal.main_arg3) = m ((c.tc : Thread Cert.SguOutIdeal.nD Cert.SguOutIdeal.τ).loc Cert.SguOutIdeal.main_arg3)) →
    ∃ (v0 : (c : Dev Cert.SguOutIdeal.nD) → Buf (Elt Ideal) ((c.tc : Thread Cert.SguOutIdeal.nD Cert.SguOutIdeal.τ).loc Cert.SguOutIdeal.main_v3_0)) (v1 : (c : Dev Cert.SguOutIdeal.nD) → Buf (Elt Ideal) ((c.tc : Thread Cert.SguOutIdeal.nD Cert.SguOutIdeal.τ).loc Cert.SguOutIdeal.main_v3_1)),
      θ_run (Cert.SguOutIdeal.defs (F := Ideal)) (onTc (τ := Cert.SguOutIdeal.τ) (Cert.SguOutIdeal.main (F := Ideal))) ⟨m, fun _ => 0, g⟩ (fun r => ∀ c : Dev Cert.SguOutIdeal.nD,
          r.2.mem ((c.tc : Thread Cert.SguOutIdeal.nD Cert.SguOutIdeal.τ).loc Cert.SguOutIdeal.main_v3_0) = v0 c
          ∧ r.2.mem ((c.tc : Thread Cert.SguOutIdeal.nD Cert.SguOutIdeal.τ).loc Cert.SguOutIdeal.main_v3_1) = v1 c
          ∧ r.2.mem ((c.tc : Thread Cert.SguOutIdeal.nD Cert.SguOutIdeal.τ).loc Cert.SguOutIdeal.main_arg0) = m ((c.tc : Thread Cert.SguOutIdeal.nD Cert.SguOutIdeal.τ).loc Cert.SguOutIdeal.main_arg0)
          ∧ r.2.mem ((c.tc : Thread Cert.SguOutIdeal.nD Cert.SguOutIdeal.τ).loc Cert.SguOutIdeal.main_arg1) = m ((c.tc : Thread Cert.SguOutIdeal.nD Cert.SguOutIdeal.τ).loc Cert.SguOutIdeal.main_arg1)
          ∧ r.2.mem ((c.tc : Thread Cert.SguOutIdeal.nD Cert.SguOutIdeal.τ).loc Cert.SguOutIdeal.main_arg2) = m ((c.tc : Thread Cert.SguOutIdeal.nD Cert.SguOutIdeal.τ).loc Cert.SguOutIdeal.main_arg2)
          ∧ r.2.mem ((c.tc : Thread Cert.SguOutIdeal.nD Cert.SguOutIdeal.τ).loc Cert.SguOutIdeal.main_arg3) = m ((c.tc : Thread Cert.SguOutIdeal.nD Cert.SguOutIdeal.τ).loc Cert.SguOutIdeal.main_arg3))
      ∧ θ_run (Cert.SguOutRefIdeal.defs (F := Ideal)) (onTc (τ := Cert.SguOutRefIdeal.τ) (Cert.SguOutRefIdeal.main (F := Ideal))) ⟨m', fun _ => 0, g'⟩ (fun r => ∀ c : Dev Cert.SguOutRefIdeal.nD,
          r.2.mem ((c.tc : Thread Cert.SguOutRefIdeal.nD Cert.SguOutRefIdeal.τ).loc Cert.SguOutRefIdeal.main_v14) = v0 c
          ∧ r.2.mem ((c.tc : Thread Cert.SguOutRefIdeal.nD Cert.SguOutRefIdeal.τ).loc Cert.SguOutRefIdeal.main_v15) = v1 c
          ∧ r.2.mem ((c.tc : Thread Cert.SguOutRefIdeal.nD Cert.SguOutRefIdeal.τ).loc Cert.SguOutRefIdeal.main_arg0) = m' ((c.tc : Thread Cert.SguOutRefIdeal.nD Cert.SguOutRefIdeal.τ).loc Cert.SguOutRefIdeal.main_arg0)
          ∧ r.2.mem ((c.tc : Thread Cert.SguOutRefIdeal.nD Cert.SguOutRefIdeal.τ).loc Cert.SguOutRefIdeal.main_arg1) = m' ((c.tc : Thread Cert.SguOutRefIdeal.nD Cert.SguOutRefIdeal.τ).loc Cert.SguOutRefIdeal.main_arg1)
          ∧ r.2.mem ((c.tc : Thread Cert.SguOutRefIdeal.nD Cert.SguOutRefIdeal.τ).loc Cert.SguOutRefIdeal.main_arg2) = m' ((c.tc : Thread Cert.SguOutRefIdeal.nD Cert.SguOutRefIdeal.τ).loc Cert.SguOutRefIdeal.main_arg2)
          ∧ r.2.mem ((c.tc : Thread Cert.SguOutRefIdeal.nD Cert.SguOutRefIdeal.τ).loc Cert.SguOutRefIdeal.main_arg3) = m' ((c.tc : Thread Cert.SguOutRefIdeal.nD Cert.SguOutRefIdeal.τ).loc Cert.SguOutRefIdeal.main_arg3))

def preserves_SguInFwd_SguInFwdIdeal : Prop :=
  True

def algebraic_SguInFwdIdeal_SguInFwdRefIdeal_pre_finite_sgu_in_fwd [hSguInFwdIdeal : Cert.SguInFwdIdeal.Facts] [hSguInFwdRefIdeal : Cert.SguInFwdRefIdeal.Facts] [hPre_finite_sgu_in_fwd : Cert.Pre_finite_sgu_in_fwd.Facts] : Prop :=
  ∀ (m : (ℓ : Loc Cert.SguInFwdIdeal.nD Cert.SguInFwdIdeal.τ Cert.SguInFwdIdeal.sig) → Buf (Elt Ideal) ℓ) (g : Dev Cert.SguInFwdIdeal.nD → PrngReg)
    (m' : (ℓ : Loc Cert.SguInFwdRefIdeal.nD Cert.SguInFwdRefIdeal.τ Cert.SguInFwdRefIdeal.sig) → Buf (Elt Ideal) ℓ) (g' : Dev Cert.SguInFwdRefIdeal.nD → PrngReg), Pre_SguInFwdIdeal_finite_sgu_in_fwd m →
    (∀ c : Dev Cert.SguInFwdIdeal.nD,
      m' ((c.tc : Thread Cert.SguInFwdRefIdeal.nD Cert.SguInFwdRefIdeal.τ).loc Cert.SguInFwdRefIdeal.main_arg0) = m ((c.tc : Thread Cert.SguInFwdIdeal.nD Cert.SguInFwdIdeal.τ).loc Cert.SguInFwdIdeal.main_arg0)
      ∧ m' ((c.tc : Thread Cert.SguInFwdRefIdeal.nD Cert.SguInFwdRefIdeal.τ).loc Cert.SguInFwdRefIdeal.main_arg1) = m ((c.tc : Thread Cert.SguInFwdIdeal.nD Cert.SguInFwdIdeal.τ).loc Cert.SguInFwdIdeal.main_arg1)
      ∧ m' ((c.tc : Thread Cert.SguInFwdRefIdeal.nD Cert.SguInFwdRefIdeal.τ).loc Cert.SguInFwdRefIdeal.main_arg2) = m ((c.tc : Thread Cert.SguInFwdIdeal.nD Cert.SguInFwdIdeal.τ).loc Cert.SguInFwdIdeal.main_arg2)) →
    ∃ (v0 : (c : Dev Cert.SguInFwdIdeal.nD) → Buf (Elt Ideal) ((c.tc : Thread Cert.SguInFwdIdeal.nD Cert.SguInFwdIdeal.τ).loc Cert.SguInFwdIdeal.main_v3)),
      θ_run (Cert.SguInFwdIdeal.defs (F := Ideal)) (onTc (τ := Cert.SguInFwdIdeal.τ) (Cert.SguInFwdIdeal.main (F := Ideal))) ⟨m, fun _ => 0, g⟩ (fun r => ∀ c : Dev Cert.SguInFwdIdeal.nD,
          r.2.mem ((c.tc : Thread Cert.SguInFwdIdeal.nD Cert.SguInFwdIdeal.τ).loc Cert.SguInFwdIdeal.main_v3) = v0 c
          ∧ r.2.mem ((c.tc : Thread Cert.SguInFwdIdeal.nD Cert.SguInFwdIdeal.τ).loc Cert.SguInFwdIdeal.main_arg0) = m ((c.tc : Thread Cert.SguInFwdIdeal.nD Cert.SguInFwdIdeal.τ).loc Cert.SguInFwdIdeal.main_arg0)
          ∧ r.2.mem ((c.tc : Thread Cert.SguInFwdIdeal.nD Cert.SguInFwdIdeal.τ).loc Cert.SguInFwdIdeal.main_arg1) = m ((c.tc : Thread Cert.SguInFwdIdeal.nD Cert.SguInFwdIdeal.τ).loc Cert.SguInFwdIdeal.main_arg1)
          ∧ r.2.mem ((c.tc : Thread Cert.SguInFwdIdeal.nD Cert.SguInFwdIdeal.τ).loc Cert.SguInFwdIdeal.main_arg2) = m ((c.tc : Thread Cert.SguInFwdIdeal.nD Cert.SguInFwdIdeal.τ).loc Cert.SguInFwdIdeal.main_arg2))
      ∧ θ_run (Cert.SguInFwdRefIdeal.defs (F := Ideal)) (onTc (τ := Cert.SguInFwdRefIdeal.τ) (Cert.SguInFwdRefIdeal.main (F := Ideal))) ⟨m', fun _ => 0, g'⟩ (fun r => ∀ c : Dev Cert.SguInFwdRefIdeal.nD,
          r.2.mem ((c.tc : Thread Cert.SguInFwdRefIdeal.nD Cert.SguInFwdRefIdeal.τ).loc Cert.SguInFwdRefIdeal.main_v14) = v0 c
          ∧ r.2.mem ((c.tc : Thread Cert.SguInFwdRefIdeal.nD Cert.SguInFwdRefIdeal.τ).loc Cert.SguInFwdRefIdeal.main_arg0) = m' ((c.tc : Thread Cert.SguInFwdRefIdeal.nD Cert.SguInFwdRefIdeal.τ).loc Cert.SguInFwdRefIdeal.main_arg0)
          ∧ r.2.mem ((c.tc : Thread Cert.SguInFwdRefIdeal.nD Cert.SguInFwdRefIdeal.τ).loc Cert.SguInFwdRefIdeal.main_arg1) = m' ((c.tc : Thread Cert.SguInFwdRefIdeal.nD Cert.SguInFwdRefIdeal.τ).loc Cert.SguInFwdRefIdeal.main_arg1)
          ∧ r.2.mem ((c.tc : Thread Cert.SguInFwdRefIdeal.nD Cert.SguInFwdRefIdeal.τ).loc Cert.SguInFwdRefIdeal.main_arg2) = m' ((c.tc : Thread Cert.SguInFwdRefIdeal.nD Cert.SguInFwdRefIdeal.τ).loc Cert.SguInFwdRefIdeal.main_arg2))

def preserves_ConvFwd_ConvFwdIdeal : Prop :=
  True

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v2) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v2) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def Claim : Prop :=
  ∃ (hPw2 : Cert.Pw2.Facts) (hPw2Ideal : Cert.Pw2Ideal.Facts) (hPw2RefIdeal : Cert.Pw2RefIdeal.Facts) (hSguIn : Cert.SguIn.Facts) (hSguInIdeal : Cert.SguInIdeal.Facts) (hSguInRefIdeal : Cert.SguInRefIdeal.Facts) (hSgu : Cert.Sgu.Facts) (hSguIdeal : Cert.SguIdeal.Facts) (hSguRefIdeal : Cert.SguRefIdeal.Facts) (hFfn : Cert.Ffn.Facts) (hFfnIdeal : Cert.FfnIdeal.Facts) (hFfnRefIdeal : Cert.FfnRefIdeal.Facts) (hPw1 : Cert.Pw1.Facts) (hPw1Ideal : Cert.Pw1Ideal.Facts) (hPw1RefIdeal : Cert.Pw1RefIdeal.Facts) (hConvBwd : Cert.ConvBwd.Facts) (hConvBwdIdeal : Cert.ConvBwdIdeal.Facts) (hOut : Cert.Out.Facts) (hOutIdeal : Cert.OutIdeal.Facts) (hOutRefIdeal : Cert.OutRefIdeal.Facts) (hOutLoss : Cert.OutLoss.Facts) (hOutLossIdeal : Cert.OutLossIdeal.Facts) (hOutLossRefIdeal : Cert.OutLossRefIdeal.Facts) (hPw2Out : Cert.Pw2Out.Facts) (hPw2OutIdeal : Cert.Pw2OutIdeal.Facts) (hPw2OutRefIdeal : Cert.Pw2OutRefIdeal.Facts) (hSguOut : Cert.SguOut.Facts) (hSguOutIdeal : Cert.SguOutIdeal.Facts) (hSguOutRefIdeal : Cert.SguOutRefIdeal.Facts) (hSguInFwd : Cert.SguInFwd.Facts) (hSguInFwdIdeal : Cert.SguInFwdIdeal.Facts) (hSguInFwdRefIdeal : Cert.SguInFwdRefIdeal.Facts) (hConvFwd : Cert.ConvFwd.Facts) (hConvFwdIdeal : Cert.ConvFwdIdeal.Facts) (hWgrad : Cert.Wgrad.Facts) (hWgradIdeal : Cert.WgradIdeal.Facts) (hWgradRefIdeal : Cert.WgradRefIdeal.Facts) (hPre_finite_pw2 : Cert.Pre_finite_pw2.Facts) (hPre_finite_sgu_in : Cert.Pre_finite_sgu_in.Facts) (hPre_finite_sgu : Cert.Pre_finite_sgu.Facts) (hPre_finite_ffn : Cert.Pre_finite_ffn.Facts) (hPre_finite_pw1 : Cert.Pre_finite_pw1.Facts) (hPre_finite_out : Cert.Pre_finite_out.Facts) (hPre_finite_out_loss : Cert.Pre_finite_out_loss.Facts) (hPre_finite_pw2_out : Cert.Pre_finite_pw2_out.Facts) (hPre_finite_sgu_out : Cert.Pre_finite_sgu_out.Facts) (hPre_finite_sgu_in_fwd : Cert.Pre_finite_sgu_in_fwd.Facts),
    quiescent_Pw2 (hPw2 := hPw2)
    ∧ quiescent_Pw2Ideal (hPw2Ideal := hPw2Ideal)
    ∧ quiescent_Pw2Ideal_pre_finite_pw2 (hPw2Ideal := hPw2Ideal) (hPre_finite_pw2 := hPre_finite_pw2)
    ∧ quiescent_Pw2RefIdeal (hPw2RefIdeal := hPw2RefIdeal)
    ∧ quiescent_Pw2RefIdeal_pre_finite_pw2 (hPw2RefIdeal := hPw2RefIdeal) (hPre_finite_pw2 := hPre_finite_pw2)
    ∧ quiescent_SguIn (hSguIn := hSguIn)
    ∧ quiescent_SguInIdeal (hSguInIdeal := hSguInIdeal)
    ∧ quiescent_SguInIdeal_pre_finite_sgu_in (hSguInIdeal := hSguInIdeal) (hPre_finite_sgu_in := hPre_finite_sgu_in)
    ∧ quiescent_SguInRefIdeal (hSguInRefIdeal := hSguInRefIdeal)
    ∧ quiescent_SguInRefIdeal_pre_finite_sgu_in (hSguInRefIdeal := hSguInRefIdeal) (hPre_finite_sgu_in := hPre_finite_sgu_in)
    ∧ quiescent_Sgu (hSgu := hSgu)
    ∧ quiescent_SguIdeal (hSguIdeal := hSguIdeal)
    ∧ quiescent_SguIdeal_pre_finite_sgu (hSguIdeal := hSguIdeal) (hPre_finite_sgu := hPre_finite_sgu)
    ∧ quiescent_SguRefIdeal (hSguRefIdeal := hSguRefIdeal)
    ∧ quiescent_SguRefIdeal_pre_finite_sgu (hSguRefIdeal := hSguRefIdeal) (hPre_finite_sgu := hPre_finite_sgu)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Pw1 (hPw1 := hPw1)
    ∧ quiescent_Pw1Ideal (hPw1Ideal := hPw1Ideal)
    ∧ quiescent_Pw1Ideal_pre_finite_pw1 (hPw1Ideal := hPw1Ideal) (hPre_finite_pw1 := hPre_finite_pw1)
    ∧ quiescent_Pw1RefIdeal (hPw1RefIdeal := hPw1RefIdeal)
    ∧ quiescent_Pw1RefIdeal_pre_finite_pw1 (hPw1RefIdeal := hPw1RefIdeal) (hPre_finite_pw1 := hPre_finite_pw1)
    ∧ quiescent_ConvBwd (hConvBwd := hConvBwd)
    ∧ quiescent_ConvBwdIdeal (hConvBwdIdeal := hConvBwdIdeal)
    ∧ quiescent_Out (hOut := hOut)
    ∧ quiescent_OutIdeal (hOutIdeal := hOutIdeal)
    ∧ quiescent_OutIdeal_pre_finite_out (hOutIdeal := hOutIdeal) (hPre_finite_out := hPre_finite_out)
    ∧ quiescent_OutRefIdeal (hOutRefIdeal := hOutRefIdeal)
    ∧ quiescent_OutRefIdeal_pre_finite_out (hOutRefIdeal := hOutRefIdeal) (hPre_finite_out := hPre_finite_out)
    ∧ quiescent_OutLoss (hOutLoss := hOutLoss)
    ∧ quiescent_OutLossIdeal (hOutLossIdeal := hOutLossIdeal)
    ∧ quiescent_OutLossIdeal_pre_finite_out_loss (hOutLossIdeal := hOutLossIdeal) (hPre_finite_out_loss := hPre_finite_out_loss)
    ∧ quiescent_OutLossRefIdeal (hOutLossRefIdeal := hOutLossRefIdeal)
    ∧ quiescent_OutLossRefIdeal_pre_finite_out_loss (hOutLossRefIdeal := hOutLossRefIdeal) (hPre_finite_out_loss := hPre_finite_out_loss)
    ∧ quiescent_Pw2Out (hPw2Out := hPw2Out)
    ∧ quiescent_Pw2OutIdeal (hPw2OutIdeal := hPw2OutIdeal)
    ∧ quiescent_Pw2OutIdeal_pre_finite_pw2_out (hPw2OutIdeal := hPw2OutIdeal) (hPre_finite_pw2_out := hPre_finite_pw2_out)
    ∧ quiescent_Pw2OutRefIdeal (hPw2OutRefIdeal := hPw2OutRefIdeal)
    ∧ quiescent_Pw2OutRefIdeal_pre_finite_pw2_out (hPw2OutRefIdeal := hPw2OutRefIdeal) (hPre_finite_pw2_out := hPre_finite_pw2_out)
    ∧ quiescent_SguOut (hSguOut := hSguOut)
    ∧ quiescent_SguOutIdeal (hSguOutIdeal := hSguOutIdeal)
    ∧ quiescent_SguOutIdeal_pre_finite_sgu_out (hSguOutIdeal := hSguOutIdeal) (hPre_finite_sgu_out := hPre_finite_sgu_out)
    ∧ quiescent_SguOutRefIdeal (hSguOutRefIdeal := hSguOutRefIdeal)
    ∧ quiescent_SguOutRefIdeal_pre_finite_sgu_out (hSguOutRefIdeal := hSguOutRefIdeal) (hPre_finite_sgu_out := hPre_finite_sgu_out)
    ∧ quiescent_SguInFwd (hSguInFwd := hSguInFwd)
    ∧ quiescent_SguInFwdIdeal (hSguInFwdIdeal := hSguInFwdIdeal)
    ∧ quiescent_SguInFwdIdeal_pre_finite_sgu_in_fwd (hSguInFwdIdeal := hSguInFwdIdeal) (hPre_finite_sgu_in_fwd := hPre_finite_sgu_in_fwd)
    ∧ quiescent_SguInFwdRefIdeal (hSguInFwdRefIdeal := hSguInFwdRefIdeal)
    ∧ quiescent_SguInFwdRefIdeal_pre_finite_sgu_in_fwd (hSguInFwdRefIdeal := hSguInFwdRefIdeal) (hPre_finite_sgu_in_fwd := hPre_finite_sgu_in_fwd)
    ∧ quiescent_ConvFwd (hConvFwd := hConvFwd)
    ∧ quiescent_ConvFwdIdeal (hConvFwdIdeal := hConvFwdIdeal)
    ∧ quiescent_Wgrad (hWgrad := hWgrad)
    ∧ quiescent_WgradIdeal (hWgradIdeal := hWgradIdeal)
    ∧ quiescent_WgradRefIdeal (hWgradRefIdeal := hWgradRefIdeal)
    ∧ preserves_Pw2_Pw2Ideal
    ∧ algebraic_Pw2Ideal_Pw2RefIdeal_pre_finite_pw2 (hPw2Ideal := hPw2Ideal) (hPw2RefIdeal := hPw2RefIdeal) (hPre_finite_pw2 := hPre_finite_pw2)
    ∧ preserves_SguIn_SguInIdeal
    ∧ algebraic_SguInIdeal_SguInRefIdeal_pre_finite_sgu_in (hSguInIdeal := hSguInIdeal) (hSguInRefIdeal := hSguInRefIdeal) (hPre_finite_sgu_in := hPre_finite_sgu_in)
    ∧ preserves_Sgu_SguIdeal
    ∧ algebraic_SguIdeal_SguRefIdeal_pre_finite_sgu (hSguIdeal := hSguIdeal) (hSguRefIdeal := hSguRefIdeal) (hPre_finite_sgu := hPre_finite_sgu)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Pw1_Pw1Ideal
    ∧ algebraic_Pw1Ideal_Pw1RefIdeal_pre_finite_pw1 (hPw1Ideal := hPw1Ideal) (hPw1RefIdeal := hPw1RefIdeal) (hPre_finite_pw1 := hPre_finite_pw1)
    ∧ preserves_ConvBwd_ConvBwdIdeal
    ∧ preserves_Out_OutIdeal
    ∧ algebraic_OutIdeal_OutRefIdeal_pre_finite_out (hOutIdeal := hOutIdeal) (hOutRefIdeal := hOutRefIdeal) (hPre_finite_out := hPre_finite_out)
    ∧ preserves_OutLoss_OutLossIdeal
    ∧ algebraic_OutLossIdeal_OutLossRefIdeal_pre_finite_out_loss (hOutLossIdeal := hOutLossIdeal) (hOutLossRefIdeal := hOutLossRefIdeal) (hPre_finite_out_loss := hPre_finite_out_loss)
    ∧ preserves_Pw2Out_Pw2OutIdeal
    ∧ algebraic_Pw2OutIdeal_Pw2OutRefIdeal_pre_finite_pw2_out (hPw2OutIdeal := hPw2OutIdeal) (hPw2OutRefIdeal := hPw2OutRefIdeal) (hPre_finite_pw2_out := hPre_finite_pw2_out)
    ∧ preserves_SguOut_SguOutIdeal
    ∧ algebraic_SguOutIdeal_SguOutRefIdeal_pre_finite_sgu_out (hSguOutIdeal := hSguOutIdeal) (hSguOutRefIdeal := hSguOutRefIdeal) (hPre_finite_sgu_out := hPre_finite_sgu_out)
    ∧ preserves_SguInFwd_SguInFwdIdeal
    ∧ algebraic_SguInFwdIdeal_SguInFwdRefIdeal_pre_finite_sgu_in_fwd (hSguInFwdIdeal := hSguInFwdIdeal) (hSguInFwdRefIdeal := hSguInFwdRefIdeal) (hPre_finite_sgu_in_fwd := hPre_finite_sgu_in_fwd)
    ∧ preserves_ConvFwd_ConvFwdIdeal
    ∧ preserves_Wgrad_WgradIdeal
    ∧ algebraic_WgradIdeal_WgradRefIdeal (hWgradIdeal := hWgradIdeal) (hWgradRefIdeal := hWgradRefIdeal)
-- ==== Pre_finite_ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S1024 .f32) (main_arg6 : FVec F S16384x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S16384x1024 .f32 := Host.absf main_arg6
  let main_cst_10 : FVec F S_ .f32 := constant S_ .f32 0x7F800000#32
  let main_v25 : FVec F S16384x1024 .f32 := broadcastInDim S16384x1024 ![] bcast_S_S16384x1024 main_cst_10
  let main_v26 : IVec S16384x1024 1 := cmpf .olt main_v24 main_v25
  let main_c_11 : IVec S_ 1 := constantI S_ 1 1#1
  let main_v27 : IVec S_ 1 := (fun x v => Host.reduce IntOp.andi x v reducesTo_S16384x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S16384x1024 .f32) (main_arg1 : FVec F S1024 .f32) (main_arg2 : FVec F S1024x2816 .f32) (main_arg3 : FVec F S1024x2816 .f32) (main_arg4 : FVec F S2816x1024 .f32) (main_arg5 : FVec F S1024 .f32) (main_arg6 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg6 main_v3 main_v7 main_v11 main_v15
-- ==== Pre_finite_out.lean ====
abbrev S16384x1024 : Shape := ⟨2, ![16384, 1024]⟩
abbrev S16384x2816 : Shape := ⟨2, ![16384, 2816]⟩
abbrev S2816x1024 : Shape := ⟨2, ![2816, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2816 : S_.BroadcastsInDim S16384x2816 (![] : Fin 0 → Fin S16384x2816.rank)
  reducesTo_S16384x2816_S_d0_1 : S16384x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x1024 .f32) (main_arg1 : FVec F S16384x2816 .f32) (main_arg2 : FVec F S2816x1024 .f32) (main_arg3 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2816 .f32 := Host.absf main_arg1
  let main_cst_0 : FVec F S_ .f32 := constant S_ .f32 0x7F800000#32
  let main_v5 : FVec F S16384x2816 .f32 := broadcastInDim S16384x2816 ![] bcast_S_S16384x2816 main_cst_0
  let main_v6 : IVec S16384x2816 1 := cmpf .olt main_v4 main_v5
  let main_c_1 : IVec S_ 1 := constantI S_ 1 1#1
  let main_v7 : IVec S_ 1 := (fun x v => Host.reduce IntOp.andi x v reducesTo_S16384x2816_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_v3 main_v7 main_v11 main_v15
-- ==== Pre_finite_out_loss.lean ====
abbrev S16384x1024 : Shape := ⟨2, ![16384, 1024]⟩
abbrev S16384x2816 : Shape := ⟨2, ![16384, 2816]⟩
abbrev S2816x1024 : Shape := ⟨2, ![2816, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2816 : S_.BroadcastsInDim S16384x2816 (![] : Fin 0 → Fin S16384x2816.rank)
  reducesTo_S16384x2816_S_d0_1 : S16384x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S16384x1024 .f32) (main_v3 : IVec S_ 1) (main_v7 : IVec S_ 1) (main_v11 : IVec S_ 1) (main_v15 : IVec S_ 1) : IVec S_ 1 :=
  let main_v16 : FVec F S16384x1024 .f32 := Host.absf main_arg4
  let main_cst_6 : FVec F S_ .f32 := constant S_ .f32 0x7F800000#32
  let main_v17 : FVec F S16384x1024 .f32 := broadcastInDim S16384x1024 ![] bcast_S_S16384x1024 main_cst_6
  let main_v18 : IVec S16384x1024 1 := cmpf .olt main_v16 main_v17
  let main_c_7 : IVec S_ 1 := constantI S_ 1 1#1
  let main_v19 : IVec S_ 1 := (fun x v => Host.reduce IntOp.andi x v reducesTo_S16384x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x1024 .f32) (main_arg1 : FVec F S16384x2816 .f32) (main_arg2 : FVec F S2816x1024 .f32) (main_arg3 : FVec F S1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2816 .f32 := Host.absf main_arg1
  let main_cst_0 : FVec F S_ .f32 := constant S_ .f32 0x7F800000#32
  let main_v5 : FVec F S16384x2816 .f32 := broadcastInDim S16384x2816 ![] bcast_S_S16384x2816 main_cst_0
  let main_v6 : IVec S16384x2816 1 := cmpf .olt main_v4 main_v5
  let main_c_1 : IVec S_ 1 := constantI S_ 1 1#1
  let main_v7 : IVec S_ 1 := (fun x v => Host.reduce IntOp.andi x v reducesTo_S16384x2816_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_v3 main_v7 main_v11 main_v15
-- ==== Pre_finite_pw1.lean ====
abbrev S16384x1024 : Shape := ⟨2, ![16384, 1024]⟩
abbrev S1024 : Shape := ⟨1, ![1024]⟩
abbrev S1024x2048 : Shape := ⟨2, ![1024, 2048]⟩
abbrev S16384x2048 : Shape := ⟨2, ![16384, 2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S16384x2048 : S_.BroadcastsInDim S16384x2048 (![] : Fin 0 → Fin S16384x2048.rank)
  reducesTo_S16384x2048_S_d0_1 : S16384x2048.ReducesTo [0, 1] S_

variable [Facts]

def fn_part1 {F : FTy → Type} [FloatOps F] (main_arg4 : FVec F S16384x2048 .f32) (main_v3 : IVec S_ 1) (main_v7 : IVec S_ 1) (main_v11 : IVec S_ 1) (main_v15 : IVec S_ 1) : IVec S_ 1 :=
  let main_v16 : FVec F S16384x2048 .f32 := Host.absf main_arg4
  let main_cst_6 : FVec F S_ .f32 := constant S_ .f32 0x7F800000#32
  let main_v17 : FVec F S16384x2048 .f32 := broadcastInDim S16384x2048 ![] bcast_S_S16384x2048 main_cst_6
  let main_v18 : IVec S16384x2048 1 := cmpf .olt main_v16 main_v17
  let main_c_7 : IVec S_ 1 := constantI S_ 1 1#1
  let main_v19 : IVec S_ 1 := (fun x v => Host.reduce IntOp.andi x v reducesTo_S16384x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x1024 .f32) (main_arg1 : FVec F S1024 .f32) (main_arg2 : FVec F S1024x2048 .f32) (main_arg3 : FVec F S16384x1024 .f32) (main_arg4 : FVec F S16384x2048 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2048 .f32 := Host.absf main_arg2
  let main_cst_2 : FVec F S_ .f32 := constant S_ .f32 0x7F800000#32
  let main_v9 : FVec F S1024x2048 .f32 := broadcastInDim S1024x2048 ![] bcast_S_S1024x2048 main_cst_2
  let main_v10 : IVec S1024x2048 1 := cmpf .olt main_v8 main_v9
  let main_c_3 : IVec S_ 1 := constantI S_ 1 1#1
  let main_v11 : IVec S_ 1 := (fun x v => Host.reduce IntOp.andi x v reducesTo_S1024x2048_S_d0_1 h_S_) main_v10 main_c_3
  let main_v12 : FVec F S16384x1024 .f32 := Host.absf main_arg3
  let main_cst_4 : FVec F S_ .f32 := constant S_ .f32 0x7F800000#32
  let main_v13 : FVec F S16384x1024 .f32 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_arg4 main_v3 main_v7 main_v11 main_v15
-- ==== Pre_finite_pw2.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x1024 .f32) (main_arg1 : FVec F S1024x1024 .f32) (main_arg2 : FVec F S1024 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S16384x1024 .f32 := Host.absf main_arg3
  let main_cst_4 : FVec F S_ .f32 := constant S_ .f32 0x7F800000#32
  let main_v13 : FVec F S16384x1024 .f32 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_v3 main_v7 main_v11 main_v15
-- ==== Pre_finite_pw2_out.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x1024 .f32) (main_arg1 : FVec F S16384x1024 .f32) (main_arg2 : FVec F S1024x1024 .f32) (main_arg3 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_v3 main_v7 main_v11 main_v15
-- ==== Pre_finite_sgu.lean ====
abbrev S16384x4096 : Shape := ⟨2, ![16384, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S16384x1024 : Shape := ⟨2, ![16384, 1024]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S2048 : S_.BroadcastsInDim S2048 (![] : Fin 0 → Fin S2048.rank)
  reducesTo_S2048_S_d0 : S2048.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S16384x1024 : S_.BroadcastsInDim S16384x1024 (![] : Fin 0 → Fin S16384x1024.rank)
  reducesTo_S16384x1024_S_d0_1 : S16384x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S8x128 .f32) (main_arg5 : FVec F S2048x1024 .f32) (main_arg6 : FVec F S1024 .f32) (main_arg7 : FVec F S16384x1024 .f32) (main_v3 : IVec S_ 1) (main_v7 : IVec S_ 1) (main_v11 : IVec S_ 1) (main_v15 : IVec S_ 1) : IVec S_ 1 :=
  let main_v16 : FVec F S8x128 .f32 := Host.absf main_arg4
  let main_cst_6 : FVec F S_ .f32 := constant S_ .f32 0x7F800000#32
  let main_v17 : FVec F S8x128 .f32 := broadcastInDim S8x128 ![] bcast_S_S8x128 main_cst_6
  let main_v18 : IVec S8x128 1 := cmpf .olt main_v16 main_v17
  let main_c_7 : IVec S_ 1 := constantI S_ 1 1#1
  let main_v19 : IVec S_ 1 := (fun x v => Host.reduce IntOp.andi x v reducesTo_S8x128_S_d0_1 h_S_) main_v18 main_c_7
  let main_v20 : FVec F S2048x1024 .f32 := Host.absf main_arg5
  let main_cst_8 : FVec F S_ .f32 := constant S_ .f32 0x7F800000#32
  let main_v21 : FVec F S2048x1024 .f32 := broadcastInDim S2048x1024 ![] bcast_S_S2048x1024 main_cst_8
  let main_v22 : IVec S2048x1024 1 := cmpf .olt main_v20 main_v21
  let main_c_9 : IVec S_ 1 := constantI S_ 1 1#1
  let main_v23 : IVec S_ 1 := (fun x v => Host.reduce IntOp.andi x v reducesTo_S2048x1024_S_d0_1 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : FVec F S16384x1024 .f32 := Host.absf main_arg7
  let main_cst_12 : FVec F S_ .f32 := constant S_ .f32 0x7F800000#32
  let main_v29 : FVec F S16384x1024 .f32 := broadcastInDim S16384x1024 ![] bcast_S_S16384x1024 main_cst_12
  let main_v30 : IVec S16384x1024 1 := cmpf .olt main_v28 main_v29
  let main_c_13 : IVec S_ 1 := constantI S_ 1 1#1
  let main_v31 : IVec S_ 1 := (fun x v => Host.reduce IntOp.andi x v reducesTo_S16384x1024_S_d0_1 h_S_) main_v30 main_c_13
  fn_part2 (F := F) main_v3 main_v7 main_v11 main_v15 main_v19 main_v23 main_v27 main_v31

def fn {F : FTy → Type} [FloatOps F] (main_arg0 : FVec F S16384x4096 .f32) (main_arg1 : FVec F S2048 .f32) (main_arg2 : FVec F S2048 .f32) (main_arg3 : FVec F S8x128x128 .f32) (main_arg4 : FVec F S8x128 .f32) (main_arg5 : FVec F S2048x1024 .f32) (main_arg6 : FVec F S1024 .f32) (main_arg7 : FVec F S16384x1024 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : FVec F S2048 .f32 := Host.absf main_arg2
  let main_cst_2 : FVec F S_ .f32 := constant S_ .f32 0x7F800000#32
  let main_v9 : FVec F S2048 .f32 := broadcastInDim S2048 ![] bcast_S_S2048 main_cst_2
  let main_v10 : IVec S2048 1 := cmpf .olt main_v8 main_v9
  let main_c_3 : IVec S_ 1 := constantI S_ 1 1#1
  let main_v11 : IVec S_ 1 := (fun x v => Host.reduce IntOp.andi x v reducesTo_S2048_S_d0 h_S_) main_v10 main_c_3
  let main_v12 : FVec F S8x128x128 .f32 := Host.absf main_arg3
  let main_cst_4 : FVec F S_ .f32 := constant S_ .f32 0x7F800000#32
  let main_v13 : FVec F S8x128x128 .f32 := broadcastInDim S8x128x128 ![] bcast_S_S8x128x128 main_cst_4
  let main_v14 : IVec S8x128x128 1 := cmpf .olt main_v12 main_v13
  let main_c_5 : IVec S_ 1 := constantI S_ 1 1#1
  let main_v15 : IVec S_ 1 := (fun x v => Host.reduce IntOp.andi x v reducesTo_S8x128x128_S_d0_1_2 h_S_) main_v14 main_c_5
  fn_part1 (F := F) main_arg4 main_arg5 main_arg6 main_arg7 main_v3 main_v7 main_v11 main_v15
-- ==== Pre_finite_sgu_in.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S16384x4096 : S_.BroadcastsInDim S16384x4096 (![] : Fin 0 → Fin S16384x4096.rank)
  reducesTo_S16384x4096_S_d0_1 : S16384x4096.ReducesTo [0, 1] S_

variable [Facts]

def fn_part1 {F : FTy → Type} [FloatOps F] (main_arg4 : FVec F S16384x4096 .f32) (main_v3 : IVec S_ 1) (main_v7 : IVec S_ 1) (main_v11 : IVec S_ 1) (main_v15 : IVec S_ 1) : IVec S_ 1 :=
  let main_v16 : FVec F S16384x4096 .f32 := Host.absf main_arg4
  let main_cst_6 : FVec F S_ .f32 := constant S_ .f32 0x7F800000#32
  let main_v17 : FVec F S16384x4096 .f32 := broadcastInDim S16384x4096 ![] bcast_S_S16384x4096 main_cst_6
  let main_v18 : IVec S16384x4096 1 := cmpf .olt main_v16 main_v17
  let main_c_7 : IVec S_ 1 := constantI S_ 1 1#1
  let main_v19 : IVec S_ 1 := (fun x v => Host.reduce IntOp.andi x v reducesTo_S16384x4096_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x1024 .f32) (main_arg1 : FVec F S1024 .f32) (main_arg2 : FVec F S1024x4096 .f32) (main_arg3 : FVec F S16384x1024 .f32) (main_arg4 : FVec F S16384x4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x4096 .f32 := Host.absf main_arg2
  let main_cst_2 : FVec F S_ .f32 := constant S_ .f32 0x7F800000#32
  let main_v9 : FVec F S1024x4096 .f32 := broadcastInDim S1024x4096 ![] bcast_S_S1024x4096 main_cst_2
  let main_v10 : IVec S1024x4096 1 := cmpf .olt main_v8 main_v9
  let main_c_3 : IVec S_ 1 := constantI S_ 1 1#1
  let main_v11 : IVec S_ 1 := (fun x v => Host.reduce IntOp.andi x v reducesTo_S1024x4096_S_d0_1 h_S_) main_v10 main_c_3
  let main_v12 : FVec F S16384x1024 .f32 := Host.absf main_arg3
  let main_cst_4 : FVec F S_ .f32 := constant S_ .f32 0x7F800000#32
  let main_v13 : FVec F S16384x1024 .f32 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_arg4 main_v3 main_v7 main_v11 main_v15
-- ==== Pre_finite_sgu_in_fwd.lean ====
abbrev S16384x1024 : Shape := ⟨2, ![16384, 1024]⟩
abbrev S1024 : Shape := ⟨1, ![1024]⟩
abbrev S1024x4096 : Shape := ⟨2, ![1024, 4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S16384x1024 .f32) (main_arg1 : FVec F S1024 .f32) (main_arg2 : FVec F S1024x4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x4096 .f32 := Host.absf main_arg2
  let main_cst_2 : FVec F S_ .f32 := constant S_ .f32 0x7F800000#32
  let main_v9 : FVec F S1024x4096 .f32 := broadcastInDim S1024x4096 ![] bcast_S_S1024x4096 main_cst_2
  let main_v10 : IVec S1024x4096 1 := cmpf .olt main_v8 main_v9
  let main_c_3 : IVec S_ 1 := constantI S_ 1 1#1
  let main_v11 : IVec S_ 1 := (fun x v => Host.reduce IntOp.andi x v reducesTo_S1024x4096_S_d0_1 h_S_) main_v10 main_c_3
  let main_v12 : IVec S_ 1 := andi main_v3 main_v7
  let main_v13 : IVec S_ 1 := andi main_v12 main_v11
  main_v13
-- ==== Pre_finite_sgu_out.lean ====
abbrev S16384x1024 : Shape := ⟨2, ![16384, 1024]⟩
abbrev S16384x2048 : Shape := ⟨2, ![16384, 2048]⟩
abbrev S2048x1024 : Shape := ⟨2, ![2048, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x1024 .f32) (main_arg1 : FVec F S16384x2048 .f32) (main_arg2 : FVec F S2048x1024 .f32) (main_arg3 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : FVec F S2048x1024 .f32 := Host.absf main_arg2
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_c_3 : IVec S_ 1 := constantI S_ 1 1#1
  let main_v11 : IVec S_ 1 := (fun x v => Host.reduce IntOp.andi x v reducesTo_S2048x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_v3 main_v7 main_v11 main_v15
-- ==== Pw2.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S1x1024, .f32⟩
  | .hbm, ⟨7, _⟩ => ⟨S1024x1024, .bf16⟩
  | .hbm, ⟨8, _⟩ => ⟨S16384x1024, .bf16⟩
  | .hbm, ⟨9, _⟩ => ⟨S8x1024, .f32⟩
  | .hbm, ⟨10, _⟩ => ⟨S16384x1024, .bf16⟩
  | .hbm, ⟨11, _⟩ => ⟨S_, .f32⟩
  | .hbm, ⟨12, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S8x1024, .f32⟩
  | .local _ .vmem, ⟨9, _⟩ => ⟨S512x1024, .bf16⟩
  | .local _ .vmem, ⟨10, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_cst : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Pw2RefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .bf16⟩
  | .hbm, ⟨52, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== SguIn.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S1x1024 : Shape := ⟨2, ![1, 1024]⟩
abbrev S4096x1024 : Shape := ⟨2, ![4096, 1024]⟩
abbrev S8x1024 : Shape := ⟨2, ![8, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 14
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S16384x4096, .f32⟩
  | .hbm, ⟨5, _⟩ => ⟨S1x1024, .f32⟩
  | .hbm, ⟨6, _⟩ => ⟨S16384x4096, .bf16⟩
  | .hbm, ⟨7, _⟩ => ⟨S4096x1024, .f32⟩
  | .hbm, ⟨8, _⟩ => ⟨S4096x1024, .bf16⟩
  | .hbm, ⟨9, _⟩ => ⟨S16384x1024, .f32⟩
  | .hbm, ⟨10, _⟩ => ⟨S16384x1024, .bf16⟩
  | .hbm, ⟨11, _⟩ => ⟨S8x1024, .f32⟩
  | .hbm, ⟨12, _⟩ => ⟨S_, .f32⟩
  | .hbm, ⟨13, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x4096, .bf16⟩
  | .local _ .vmem, ⟨6, _⟩ => ⟨S512x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_cst : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SguInRefIdeal.lean ====
abbrev S16384x1024 : Shape := ⟨2, ![16384, 1024]⟩
abbrev S1024 : Shape := ⟨1, ![1024]⟩
abbrev S1024x4096 : Shape := ⟨2, ![1024, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S16384x4096, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Sgu.lean ====
abbrev S16384x4096 : Shape := ⟨2, ![16384, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S16384x1024 : Shape := ⟨2, ![16384, 1024]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x256 : Shape := ⟨3, ![128, 8, 256]⟩
abbrev S128x2048 : Shape := ⟨2, ![128, 2048]⟩
abbrev S1x2048 : Shape := ⟨2, ![1, 2048]⟩
abbrev S16384x2048 : Shape := ⟨2, ![16384, 2048]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S128x256 : Shape := ⟨2, ![128, 256]⟩
abbrev S1x1024 : Shape := ⟨2, ![1, 1024]⟩
abbrev S8x1024 : Shape := ⟨2, ![8, 1024]⟩
abbrev S8x2048 : Shape := ⟨2, ![8, 2048]⟩
abbrev S256x1024 : Shape := ⟨2, ![256, 1024]⟩
abbrev S32x8x1024 : Shape := ⟨3, ![32, 8, 1024]⟩
abbrev S32x8x2048 : Shape := ⟨3, ![32, 8, 2048]⟩

abbrev nBuf : Space → Nat
  | .hbm => 62
  | .vmem => 33
  | .smem => 0
  | _ => 0

abbrev bufTy : (tb : Table) → Fin (tcTables nBuf tb) → BufTy
  | .hbm, ⟨0, _⟩ => ⟨S16384x4096, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S2048x1024, .f32⟩
  | .hbm, ⟨6, _⟩ => ⟨S1024, .f32⟩
  | .hbm, ⟨7, _⟩ => ⟨S16384x1024, .f32⟩
  | .hbm, ⟨8, _⟩ => ⟨S_, .i1⟩
  | .hbm, ⟨9, _⟩ => ⟨S128x128, .i1⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .i1⟩
  | .hbm, ⟨17, _⟩ => ⟨S128x128, .i1⟩
  | .hbm, ⟨18, _⟩ => ⟨S128x128, .i1⟩
  | .hbm, ⟨19, _⟩ => ⟨S1x128x128, .i1⟩
  | .hbm, ⟨20, _⟩ => ⟨S_, .i32⟩
  | .hbm, ⟨21, _⟩ => ⟨S_, .f32⟩
  | .hbm, ⟨22, _⟩ => ⟨S8x128x128, .i1⟩
  | .hbm, ⟨23, _⟩ => ⟨S8x128x128, .f32⟩
  | .hbm, ⟨24, _⟩ => ⟨S8x128x128, .f32⟩
  | .hbm, ⟨25, _⟩ => ⟨S8x128x128, .bf16⟩
  | .hbm, ⟨26, _⟩ => ⟨S8x128x128, .bf16⟩
  | .hbm, ⟨27, _⟩ => ⟨S128x8, .f32⟩
  | .hbm, ⟨28, _⟩ => ⟨S128x8x256, .f32⟩
  | .hbm, ⟨29, _⟩ => ⟨S128x2048, .f32⟩
  | .hbm, ⟨30, _⟩ => ⟨S16384x4096, .bf16⟩
  | .hbm, ⟨31, _⟩ => ⟨S1x2048, .f32⟩
  | .hbm, ⟨32, _⟩ => ⟨S1x2048, .f32⟩
  | .hbm, ⟨33, _⟩ => ⟨S16384x2048, .bf16⟩
  | .hbm, ⟨34, _⟩ => ⟨S16384x2048, .f32⟩
  | .hbm, ⟨35, _⟩ => ⟨S16384x1024, .f32⟩
  | .hbm, ⟨36, _⟩ => ⟨S16384x1024, .bf16⟩
  | .hbm, ⟨37, _⟩ => ⟨S1x1024, .f32⟩
  | .hbm, ⟨38, _⟩ => ⟨S2048x1024, .bf16⟩
  | .hbm, ⟨39, _⟩ => ⟨S16384x1024, .bf16⟩
  | .hbm, ⟨40, _⟩ => ⟨S8x1024, .f32⟩
  | .hbm, ⟨41, _⟩ => ⟨S16384x4096, .bf16⟩
  | .hbm, ⟨42, _⟩ => ⟨S8x128x128, .f32⟩
  | .hbm, ⟨43, _⟩ => ⟨S128x2048, .f32⟩
  | .hbm, ⟨44, _⟩ => ⟨S8x2048, .f32⟩
  | .hbm, ⟨45, _⟩ => ⟨S8x2048, .f32⟩
  | .hbm, ⟨46, _⟩ => ⟨S1x128x128, .i1⟩
  | .hbm, ⟨47, _⟩ => ⟨S_, .f32⟩
  | .hbm, ⟨48, _⟩ => ⟨S_, .f32⟩
  | .hbm, ⟨49, _⟩ => ⟨S8x128x128, .i1⟩
  | .hbm, ⟨50, _⟩ => ⟨S8x128x128, .f32⟩
  | .hbm, ⟨51, _⟩ => ⟨S8x128x128, .f32⟩
  | .hbm, ⟨52, _⟩ => ⟨S128x8x256, .f32⟩
  | .hbm, ⟨53, _⟩ => ⟨S_, .f32⟩
  | .hbm, ⟨54, _⟩ => ⟨S128x8, .f32⟩
  | .hbm, ⟨55, _⟩ => ⟨S8x128, .f32⟩
  | .hbm, ⟨56, _⟩ => ⟨S_, .f32⟩
  | .hbm, ⟨57, _⟩ => ⟨S1024, .f32⟩
  | .hbm, ⟨58, _⟩ => ⟨S_, .f32⟩
  | .hbm, ⟨59, _⟩ => ⟨S2048, .f32⟩
  | .hbm, ⟨60, _⟩ => ⟨S_, .f32⟩
  | .hbm, ⟨61, _⟩ => ⟨S2048, .f32⟩
  | .local _ .vmem, ⟨0, _⟩ => ⟨S256x4096, .bf16⟩
  | .local _ .vmem, ⟨1, _⟩ => ⟨S256x4096, .bf16⟩
  | .local _ .vmem, ⟨2, _⟩ => ⟨S1x2048, .f32⟩
  | .local _ .vmem, ⟨3, _⟩ => ⟨S1x2048, .f32⟩
  | .local _ .vmem, ⟨4, _⟩ => ⟨S8x128x128, .bf16⟩
  | .local _ .vmem, ⟨5, _⟩ => ⟨S128x2048, .f32⟩
  | .local _ .vmem, ⟨6, _⟩ => ⟨S256x2048, .bf16⟩
  | .local _ .vmem, ⟨7, _⟩ => ⟨S256x2048, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S2048x1024, .bf16⟩
  | .local _ .vmem, ⟨14, _⟩ => ⟨S256x4096, .bf16⟩
  | .local _ .vmem, ⟨15, _⟩ => ⟨S256x4096, .bf16⟩
  | .local _ .vmem, ⟨16, _⟩ => ⟨S1x2048, .f32⟩
  | .local _ .vmem, ⟨17, _⟩ => ⟨S1x2048, .f32⟩
  | .local _ .vmem, ⟨18, _⟩ => ⟨S8x128x128, .bf16⟩
  | .local _ .vmem, ⟨19, _⟩ => ⟨S8x128x128, .bf16⟩
  | .local _ .vmem, ⟨20, _⟩ => ⟨S128x2048, .f32⟩
  | .local _ .vmem, ⟨21, _⟩ => ⟨S256x1024, .bf16⟩
  | .local _ .vmem, ⟨22, _⟩ => ⟨S256x1024, .bf16⟩
  | .local _ .vmem, ⟨23, _⟩ => ⟨S8x1024, .f32⟩
  | .local _ .vmem, ⟨24, _⟩ => ⟨S256x4096, .bf16⟩
  | .local _ .vmem, ⟨25, _⟩ => ⟨S256x4096, .bf16⟩
  | .local _ .vmem, ⟨26, _⟩ => ⟨S8x128x128, .f32⟩
  | .local _ .vmem, ⟨27, _⟩ => ⟨S128x2048, .f32⟩
  | .local _ .vmem, ⟨28, _⟩ => ⟨S8x2048, .f32⟩
  | .local _ .vmem, ⟨29, _⟩ => ⟨S8x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev main_v18_2 : Ref sig .tc := ⟨.hbm, 41, rfl⟩
abbrev main_v18_3 : Ref sig .tc := ⟨.hbm, 42, rfl⟩
abbrev main_v18_4 : Ref sig .tc := ⟨.hbm, 43, rfl⟩
abbrev main_v18_5 : Ref sig .tc := ⟨.hbm, 44, rfl⟩
abbrev main_v18_6 : Ref sig .tc := ⟨.hbm, 45, rfl⟩
abbrev main_v19 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v20 : Ref sig .tc := ⟨.hbm, 51, rfl⟩
abbrev main_v21 : Ref sig .tc := ⟨.hbm, 52, rfl⟩
abbrev main_cst_1 : Ref sig .tc := ⟨.hbm, 53, rfl⟩
abbrev main_v22 : Ref sig .tc := ⟨.hbm, 54, rfl⟩
abbrev main_v23 : Ref sig .tc := ⟨.hbm, 55, rfl⟩
abbrev main_cst_2 : Ref sig .tc := ⟨.hbm, 56, rfl⟩
abbrev main_v24 : Ref sig .tc := ⟨.hbm, 57, rfl⟩
abbrev main_cst_3 : Ref sig .tc := ⟨.hbm, 58, rfl⟩
abbrev main_v25 : Ref sig .tc := ⟨.hbm, 59, rfl⟩
abbrev main_cst_4 : Ref sig .tc := ⟨.hbm, 60, rfl⟩
abbrev main_v26 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg12_1 : Ref sig .tc := ⟨.vmem, 25, rfl⟩
abbrev cc1_stg13_0 : Ref sig .tc := ⟨.vmem, 26, rfl⟩
abbrev cc1_stg14_0 : Ref sig .tc := ⟨.vmem, 27, rfl⟩
abbrev cc1_stg15_0 : Ref sig .tc := ⟨.vmem, 28, rfl⟩
abbrev cc1_stg16_0 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem10_1 : DmaSem sig := 22
abbrev cc1_sem11_0 : DmaSem sig := 23
abbrev cc1_sem12_0 : DmaSem sig := 24
abbrev cc1_sem12_1 : DmaSem sig := 25
abbrev cc1_sem13_0 : DmaSem sig := 26
abbrev cc1_sem14_0 : DmaSem sig := 27
abbrev cc1_sem15_0 : DmaSem sig := 28
abbrev cc1_sem16_0 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S8x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S256x4096 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S8x128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128x2048 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S8x2048 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S8x2048 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]
-- ==== SguIdeal.lean ====
variable {F : FTy → Type} [FloatOps F] [Named F]
def κ : String → Option EReal := fun
  | "gelu_3c01" => some ((241015141496493 / 4503599627370496 : ℝ) : EReal)
  | "gelu_c01" => some ((80338380498831 / 2251799813685248 : ℝ) : EReal)
  | _ => none
-- ==== SguRefIdeal.lean ====
abbrev S16384x4096 : Shape := ⟨2, ![16384, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S16384x1024 : Shape := ⟨2, ![16384, 1024]⟩
abbrev S_ : Shape := ⟨0, ![]⟩
abbrev S16384x2048 : Shape := ⟨2, ![16384, 2048]⟩
abbrev S16384 : Shape := ⟨1, ![16384]⟩
abbrev S16384x1 : Shape := ⟨2, ![16384, 1]⟩
abbrev S1x2048 : Shape := ⟨2, ![1, 2048]⟩
abbrev S128x128x8x256 : Shape := ⟨4, ![128, 128, 8, 256]⟩
abbrev S128x128 : Shape := ⟨2, ![128, 128]⟩
abbrev S1x128x128 : Shape := ⟨3, ![1, 128, 128]⟩
abbrev S8x128x256x128 : Shape := ⟨4, ![8, 128, 256, 128]⟩
abbrev S128x8 : Shape := ⟨2, ![128, 8]⟩
abbrev S1x128x8x1 : Shape := ⟨4, ![1, 128, 8, 1]⟩
abbrev S1x1024 : Shape := ⟨2, ![1, 1024]⟩

abbrev nBuf : Space → Nat
  | .hbm => 221
  | .vmem => 0
  | .smem => 0
  | _ => 0

abbrev hbmTy0_0 (i : Nat) : BufTy := match i % 128 with
  | 0 => ⟨S16384x4096, .f32⟩
  | 1 => ⟨S2048, .f32⟩
  | 2 => ⟨S2048, .f32⟩
  | 3 => ⟨S8x128x128, .f32⟩
  | 4 => ⟨S8x128, .f32⟩
  | 5 => ⟨S2048x1024, .f32⟩
  | 6 => ⟨S1024, .f32⟩
  | 7 => ⟨S16384x1024, .f32⟩
  | 8 => ⟨S16384x4096, .f32⟩
  | 9 => ⟨S16384x4096, .f32⟩
  | 10 => ⟨S16384x4096, .f32⟩
  | 11 => ⟨S_, .f32⟩
  | 12 => ⟨S16384x4096, .f32⟩
  | 13 => ⟨S16384x4096, .f32⟩
  | 14 => ⟨S_, .f32⟩
  | 15 => ⟨S16384x4096, .f32⟩
  | 16 => ⟨S16384x4096, .f32⟩
  | 17 => ⟨S16384x4096, .f32⟩
  | 18 => ⟨S_, .f32⟩
  | 19 => ⟨S16384x4096, .f32⟩
  | 20 => ⟨S16384x4096, .f32⟩
  | 21 => ⟨S16384x4096, .f32⟩
  | 22 => ⟨S_, .f32⟩
  | 23 => ⟨S16384x4096, .f32⟩
  | 24 => ⟨S16384x4096, .f32⟩
  | 25 => ⟨S_, .f32⟩
  | 26 => ⟨S16384x4096, .f32⟩
  | 27 => ⟨S16384x4096, .f32⟩
  | 28 => ⟨S16384x4096, .f32⟩
  | 29 => ⟨S_, .f32⟩
  | 30 => ⟨S16384x4096, .f32⟩
  | 31 => ⟨S16384x4096, .f32⟩
  | 32 => ⟨S_, .f32⟩
  | 33 => ⟨S16384x4096, .f32⟩
  | 34 => ⟨S16384x4096, .f32⟩
  | 35 => ⟨S16384x4096, .f32⟩
  | 36 => ⟨S16384x2048, .f32⟩
  | 37 => ⟨S16384x2048, .f32⟩
  | 38 => ⟨S_, .f32⟩
  | 39 => ⟨S16384, .f32⟩
  | 40 => ⟨S16384x1, .f32⟩
  | 41 => ⟨S_, .f32⟩
  | 42 => ⟨S16384x1, .f32⟩
  | 43 => ⟨S16384x1, .f32⟩
  | 44 => ⟨S16384x2048, .f32⟩
  | 45 => ⟨S16384x2048, .f32⟩
  | 46 => ⟨S16384x2048, .f32⟩
  | 47 => ⟨S_, .f32⟩
  | 48 => ⟨S16384, .f32⟩
  | 49 => ⟨S16384x1, .f32⟩
  | 50 => ⟨S_, .f32⟩
  | 51 => ⟨S16384x1, .f32⟩
  | 52 => ⟨S16384x1, .f32⟩
  | 53 => ⟨S_, .f32⟩
  | 54 => ⟨S16384x1, .f32⟩
  | 55 => ⟨S16384x1, .f32⟩
  | 56 => ⟨S16384x1, .f32⟩
  | 57 => ⟨S16384x1, .f32⟩
  | 58 => ⟨S_, .f32⟩
  | 59 => ⟨S16384x1, .f32⟩
  | 60 => ⟨S16384x1, .f32⟩
  | 61 => ⟨S16384x2048, .f32⟩
  | 62 => ⟨S16384x2048, .f32⟩
  | 63 => ⟨S1x2048, .f32⟩
  | 64 => ⟨S16384x2048, .f32⟩
  | 65 => ⟨S16384x2048, .f32⟩
  | 66 => ⟨S1x2048, .f32⟩
  | 67 => ⟨S16384x2048, .f32⟩
  | 68 => ⟨S16384x2048, .f32⟩
  | 69 => ⟨S128x128x8x256, .f32⟩
  | 70 => ⟨S_, .i1⟩
  | 71 => ⟨S128x128, .i1⟩
  | 72 => ⟨S128x128, .i32⟩
  | 73 => ⟨S_, .i32⟩
  | 74 => ⟨S128x128, .i32⟩
  | 75 => ⟨S128x128, .i32⟩
  | 76 => ⟨S128x128, .i32⟩
  | 77 => ⟨S128x128, .i1⟩
  | 78 => ⟨S_, .i1⟩
  | 79 => ⟨S128x128, .i1⟩
  | 80 => ⟨S128x128, .i1⟩
  | 81 => ⟨S1x128x128, .i1⟩
  | 82 => ⟨S_, .i32⟩
  | 83 => ⟨S_, .f32⟩
  | 84 => ⟨S8x128x128, .i1⟩
  | 85 => ⟨S8x128x128, .f32⟩
  | 86 => ⟨S8x128x128, .f32⟩
  | 87 => ⟨S_, .f32⟩
  | 88 => ⟨S8x128x128, .f32⟩
  | 89 => ⟨S8x128x256x128, .f32⟩
  | 90 => ⟨S128x128x8x256, .f32⟩
  | 91 => ⟨S128x8, .f32⟩
  | 92 => ⟨S1x128x8x1, .f32⟩
  | 93 => ⟨S128x128x8x256, .f32⟩
  | 94 => ⟨S128x128x8x256, .f32⟩
  | 95 => ⟨S16384x2048, .f32⟩
  | 96 => ⟨S16384x2048, .f32⟩
  | 97 => ⟨S16384x1024, .f32⟩
  | 98 => ⟨S16384x1024, .f32⟩
  | 99 => ⟨S_, .f32⟩
  | 100 => ⟨S16384, .f32⟩
  | 101 => ⟨S16384x1, .f32⟩
  | 102 => ⟨S_, .f32⟩
  | 103 => ⟨S16384x1, .f32⟩
  | 104 => ⟨S16384x1, .f32⟩
  | 105 => ⟨S_, .f32⟩
  | 106 => ⟨S16384x1, .f32⟩
  | 107 => ⟨S16384x1, .f32⟩
  | 108 => ⟨S16384x1, .f32⟩
  | 109 => ⟨S16384x1, .f32⟩
  | 110 => ⟨S_, .f32⟩
  | 111 => ⟨S16384x1, .f32⟩
  | 112 => ⟨S16384x1, .f32⟩
  | 113 => ⟨S16384x1024, .f32⟩
  | 114 => ⟨S16384x1024, .f32⟩
  | 115 => ⟨S1x1024, .f32⟩
  | 116 => ⟨S16384x1024, .f32⟩
  | 117 => ⟨S16384x1024, .f32⟩
  | 118 => ⟨S16384x1024, .f32⟩
  | 119 => ⟨S_, .f32⟩
  | 120 => ⟨S1024, .f32⟩
  | 121 => ⟨S1x1024, .f32⟩
  | 122 => ⟨S16384x1024, .f32⟩
  | 123 => ⟨S16384x1024, .f32⟩
  | 124 => ⟨S_, .f32⟩
  | 125 => ⟨S1024, .f32⟩
  | 126 => ⟨S16384x1024, .f32⟩
  | 127 => ⟨S_, .f32⟩
  | _ => ⟨S16384x4096, .f32⟩

abbrev hbmTy0_1 (i : Nat) : BufTy := match i % 128 with
  | 0 => ⟨S16384, .f32⟩
  | 1 => ⟨S16384x1, .f32⟩
  | 2 => ⟨S16384x1024, .f32⟩
  | 3 => ⟨S16384x1024, .f32⟩
  | 4 => ⟨S16384x1, .f32⟩
  | 5 => ⟨S_, .f32⟩
  | 6 => ⟨S16384x1, .f32⟩
  | 7 => ⟨S16384x1, .f32⟩
  | 8 => ⟨S_, .f32⟩
  | 9 => ⟨S16384, .f32⟩
  | 10 => ⟨S16384x1024, .f32⟩
  | 11 => ⟨S16384x1024, .f32⟩
  | 12 => ⟨S16384x1024, .f32⟩
  | 13 => ⟨S16384x1024, .f32⟩
  | 14 => ⟨S16384x1024, .f32⟩
  | 15 => ⟨S16384x2048, .f32⟩
  | 16 => ⟨S16384x2048, .f32⟩
  | 17 => ⟨S16384x2048, .f32⟩
  | 18 => ⟨S128x128x8x256, .f32⟩
  | 19 => ⟨S_, .f32⟩
  | 20 => ⟨S128x8, .f32⟩
  | 21 => ⟨S1x128x8x1, .f32⟩
  | 22 => ⟨S_, .f32⟩
  | 23 => ⟨S128x8, .f32⟩
  | 24 => ⟨S8x128, .f32⟩
  | 25 => ⟨S8x128x256x128, .f32⟩
  | 26 => ⟨S8x128x128, .f32⟩
  | 27 => ⟨S8x128x256x128, .f32⟩
  | 28 => ⟨S128x128x8x256, .f32⟩
  | 29 => ⟨S_, .f32⟩
  | 30 => ⟨S8x128x128, .f32⟩
  | 31 => ⟨S8x128x128, .f32⟩
  | 32 => ⟨S16384x2048, .f32⟩
  | 33 => ⟨S_, .f32⟩
  | 34 => ⟨S2048, .f32⟩
  | 35 => ⟨S1x2048, .f32⟩
  | 36 => ⟨S_, .f32⟩
  | 37 => ⟨S2048, .f32⟩
  | 38 => ⟨S16384x2048, .f32⟩
  | 39 => ⟨S_, .f32⟩
  | 40 => ⟨S2048, .f32⟩
  | 41 => ⟨S1x2048, .f32⟩
  | 42 => ⟨S16384x2048, .f32⟩
  | 43 => ⟨S16384x2048, .f32⟩
  | 44 => ⟨S_, .f32⟩
  | 45 => ⟨S2048, .f32⟩
  | 46 => ⟨S16384x2048, .f32⟩
  | 47 => ⟨S_, .f32⟩
  | 48 => ⟨S16384, .f32⟩
  | 49 => ⟨S16384x1, .f32⟩
  | 50 => ⟨S16384x2048, .f32⟩
  | 51 => ⟨S16384x2048, .f32⟩
  | 52 => ⟨S16384x1, .f32⟩
  | 53 => ⟨S_, .f32⟩
  | 54 => ⟨S16384x1, .f32⟩
  | 55 => ⟨S16384x1, .f32⟩
  | 56 => ⟨S_, .f32⟩
  | 57 => ⟨S16384, .f32⟩
  | 58 => ⟨S16384x2048, .f32⟩
  | 59 => ⟨S16384x2048, .f32⟩
  | 60 => ⟨S16384x2048, .f32⟩
  | 61 => ⟨S16384x2048, .f32⟩
  | 62 => ⟨S16384x2048, .f32⟩
  | 63 => ⟨S16384x2048, .f32⟩
  | 64 => ⟨S_, .f32⟩
  | 65 => ⟨S16384, .f32⟩
  | 66 => ⟨S16384x1, .f32⟩
  | 67 => ⟨S_, .f32⟩
  | 68 => ⟨S16384x1, .f32⟩
  | 69 => ⟨S16384x1, .f32⟩
  | 70 => ⟨S_, .f32⟩
  | 71 => ⟨S16384, .f32⟩
  | 72 => ⟨S16384x2048, .f32⟩
  | 73 => ⟨S16384x2048, .f32⟩
  | 74 => ⟨S16384x4096, .f32⟩
  | 75 => ⟨S16384x4096, .f32⟩
  | 76 => ⟨S16384x4096, .f32⟩
  | 77 => ⟨S_, .f32⟩
  | 78 => ⟨S16384x4096, .f32⟩
  | 79 => ⟨S16384x4096, .f32⟩
  | 80 => ⟨S16384x4096, .f32⟩
  | 81 => ⟨S_, .f32⟩
  | 82 => ⟨S16384x4096, .f32⟩
  | 83 => ⟨S16384x4096, .f32⟩
  | 84 => ⟨S16384x4096, .f32⟩
  | 85 => ⟨S_, .f32⟩
  | 86 => ⟨S16384x4096, .f32⟩
  | 87 => ⟨S16384x4096, .f32⟩
  | 88 => ⟨S16384x4096, .f32⟩
  | 89 => ⟨S16384x4096, .f32⟩
  | 90 => ⟨S16384x2048, .bf16⟩
  | 91 => ⟨S16384x1024, .bf16⟩
  | 92 => ⟨S16384x4096, .bf16⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_11 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c : Ref sig .tc := ⟨.hbm, 70, rfl⟩
abbrev main_v49 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_c_0 : Ref sig .tc := ⟨.hbm, 78, rfl⟩
abbrev main_call0_v5 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_call1_v0 : Ref sig .tc := ⟨.hbm, 83, rfl⟩
abbrev main_v52_1 : Ref sig .tc := ⟨.hbm, 84, rfl⟩
abbrev main_call1_v2 : Ref sig .tc := ⟨.hbm, 85, rfl⟩
abbrev main_v52_0 : Ref sig .tc := ⟨.hbm, 86, rfl⟩
abbrev main_call1_cst : Ref sig .tc := ⟨.hbm, 87, rfl⟩
abbrev main_v52_2 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_13 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_cst_15 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_16 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_17 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_18 : Ref sig .tc := ⟨.hbm, 124, rfl⟩
abbrev main_v83 : Ref sig .tc := ⟨.hbm, 125, rfl⟩
abbrev main_v84 : Ref sig .tc := ⟨.hbm, 126, rfl⟩
abbrev main_cst_19 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_20 : Ref sig .tc := ⟨.hbm, 133, rfl⟩
abbrev main_v90 : Ref sig .tc := ⟨.hbm, 134, rfl⟩
abbrev main_v91 : Ref sig .tc := ⟨.hbm, 135, rfl⟩
abbrev main_cst_21 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_22 : Ref sig .tc := ⟨.hbm, 147, rfl⟩
abbrev main_v102 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_call2_cst : Ref sig .tc := ⟨.hbm, 157, rfl⟩
abbrev main_call2_v0 : Ref sig .tc := ⟨.hbm, 158, rfl⟩
abbrev main_v110 : Ref sig .tc := ⟨.hbm, 159, rfl⟩
abbrev main_v111 : Ref sig .tc := ⟨.hbm, 160, rfl⟩
abbrev main_cst_24 : Ref sig .tc := ⟨.hbm, 161, rfl⟩
abbrev main_v112 : Ref sig .tc := ⟨.hbm, 162, rfl⟩
abbrev main_v113 : Ref sig .tc := ⟨.hbm, 163, rfl⟩
abbrev main_cst_25 : Ref sig .tc := ⟨.hbm, 164, rfl⟩
abbrev main_v114 : Ref sig .tc := ⟨.hbm, 165, rfl⟩
abbrev main_v115 : Ref sig .tc := ⟨.hbm, 166, rfl⟩
abbrev main_cst_26 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_27 : Ref sig .tc := ⟨.hbm, 172, rfl⟩
abbrev main_v120 : Ref sig .tc := ⟨.hbm, 173, rfl⟩
abbrev main_v121 : Ref sig .tc := ⟨.hbm, 174, rfl⟩
abbrev main_cst_28 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_29 : Ref sig .tc := ⟨.hbm, 181, rfl⟩
abbrev main_v127 : Ref sig .tc := ⟨.hbm, 182, rfl⟩
abbrev main_v128 : Ref sig .tc := ⟨.hbm, 183, rfl⟩
abbrev main_cst_30 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_31 : Ref sig .tc := ⟨.hbm, 192, rfl⟩
abbrev main_v136 : Ref sig .tc := ⟨.hbm, 193, rfl⟩
abbrev main_v137 : Ref sig .tc := ⟨.hbm, 194, rfl⟩
abbrev main_cst_32 : Ref sig .tc := ⟨.hbm, 195, rfl⟩
abbrev main_v138 : Ref sig .tc := ⟨.hbm, 196, rfl⟩
abbrev main_v139 : Ref sig .tc := ⟨.hbm, 197, rfl⟩
abbrev main_cst_33 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_34 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_cst_35 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_cst_36 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩

abbrev nD : Nat := 1
abbrev τ : Topo := Topo.v7x

variable {F : FTy → Type} [FloatOps F]

def κ : String → Option EReal := fun
  | "gelu_3c01" => some ((241015141496493 / 4503599627370496 : ℝ) : EReal)
  | "gelu_c01" => some ((80338380498831 / 2251799813685248 : ℝ) : EReal)
  | _ => none
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S16384x2816 : Shape := ⟨2, ![16384, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S8x1024 : Shape := ⟨2, ![8, 1024]⟩
abbrev S256x2816 : Shape := ⟨2, ![256, 2816]⟩
abbrev S256 : Shape := ⟨1, ![256]⟩
abbrev S256x1 : Shape := ⟨2, ![256, 1]⟩
abbrev S32x8x1024 : Shape := ⟨3, ![32, 8, 1024]⟩
abbrev S256x256 : Shape := ⟨2, ![256, 256]⟩
abbrev S_ : Shape := ⟨0, ![]⟩

abbrev nBuf : Space → Nat
  | .hbm => 31
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S16384x2816, .bf16⟩
  | .hbm, ⟨14, _⟩ => ⟨S16384x2816, .bf16⟩
  | .hbm, ⟨15, _⟩ => ⟨S16384x2816, .bf16⟩
  | .hbm, ⟨16, _⟩ => ⟨S16384x2816, .f32⟩
  | .hbm, ⟨17, _⟩ => ⟨S16384x1024, .f32⟩
  | .hbm, ⟨18, _⟩ => ⟨S16384x1024, .bf16⟩
  | .hbm, ⟨19, _⟩ => ⟨S1x1024, .f32⟩
  | .hbm, ⟨20, _⟩ => ⟨S16384x1024, .bf16⟩
  | .hbm, ⟨21, _⟩ => ⟨S8x1024, .f32⟩
  | .hbm, ⟨22, _⟩ => ⟨S16384x2816, .bf16⟩
  | .hbm, ⟨23, _⟩ => ⟨S16384x2816, .bf16⟩
  | .hbm, ⟨24, _⟩ => ⟨S16384x1024, .f32⟩
  | .hbm, ⟨25, _⟩ => ⟨S16384x1024, .bf16⟩
  | .hbm, ⟨26, _⟩ => ⟨S8x1024, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S2816x1024, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | .local _ .vmem, ⟨24, _⟩ => ⟨S2816x1024, .bf16⟩
  | .local _ .vmem, ⟨25, _⟩ => ⟨S2816x1024, .bf16⟩
  | .local _ .vmem, ⟨26, _⟩ => ⟨S256x1024, .bf16⟩
  | .local _ .vmem, ⟨27, _⟩ => ⟨S256x1024, .bf16⟩
  | .local _ .vmem, ⟨28, _⟩ => ⟨S8x1024, .f32⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x1024, .f32⟩
  | .local _ .vmem, ⟨34, _⟩ => ⟨S256x1024, .f32⟩
  | .local _ .vmem, ⟨35, _⟩ => ⟨S256x1024, .bf16⟩
  | .local _ .vmem, ⟨36, _⟩ => ⟨S256x1024, .bf16⟩
  | .local _ .vmem, ⟨37, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v11_6 : Ref sig .tc := ⟨.hbm, 26, rfl⟩
abbrev main_cst : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg12_1 : Ref sig .tc := ⟨.vmem, 30, rfl⟩
abbrev cc1_stg13_0 : Ref sig .tc := ⟨.vmem, 31, rfl⟩
abbrev cc1_stg13_1 : Ref sig .tc := ⟨.vmem, 32, rfl⟩
abbrev cc1_stg14_0 : Ref sig .tc := ⟨.vmem, 33, rfl⟩
abbrev cc1_stg14_1 : Ref sig .tc := ⟨.vmem, 34, rfl⟩
abbrev cc1_stg15_0 : Ref sig .tc := ⟨.vmem, 35, rfl⟩
abbrev cc1_stg15_1 : Ref sig .tc := ⟨.vmem, 36, rfl⟩
abbrev cc1_stg16_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc1_sem11_0 : DmaSem sig := 28
abbrev cc1_sem12_0 : DmaSem sig := 29
abbrev cc1_sem12_1 : DmaSem sig := 30
abbrev cc1_sem13_0 : DmaSem sig := 31
abbrev cc1_sem13_1 : DmaSem sig := 32
abbrev cc1_sem14_0 : DmaSem sig := 33
abbrev cc1_sem14_1 : DmaSem sig := 34
abbrev cc1_sem15_0 : DmaSem sig := 35
abbrev cc1_sem15_1 : DmaSem sig := 36
abbrev cc1_sem16_0 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2816x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2816x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2816x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S8x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S256x2816 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x2816 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 1 → Memref sig .tc .vmem S8x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 138
  | .vmem => 0
  | .smem => 0
  | _ => 0

abbrev hbmTy0_0 (i : Nat) : BufTy := match i % 128 with
  | 0 => ⟨S16384x1024, .f32⟩
  | 1 => ⟨S1024, .f32⟩
  | 2 => ⟨S1024x2816, .f32⟩
  | 3 => ⟨S1024x2816, .f32⟩
  | 4 => ⟨S2816x1024, .f32⟩
  | 5 => ⟨S1024, .f32⟩
  | 6 => ⟨S16384x1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S16384x2816, .f32⟩
  | 28 => ⟨S16384x2816, .f32⟩
  | 29 => ⟨S16384x2816, .f32⟩
  | 30 => ⟨S16384x2816, .f32⟩
  | 31 => ⟨S_, .f32⟩
  | 32 => ⟨S16384x2816, .f32⟩
  | 33 => ⟨S16384x2816, .f32⟩
  | 34 => ⟨S_, .f32⟩
  | 35 => ⟨S16384x2816, .f32⟩
  | 36 => ⟨S16384x2816, .f32⟩
  | 37 => ⟨S_, .f32⟩
  | 38 => ⟨S16384x2816, .f32⟩
  | 39 => ⟨S16384x2816, .f32⟩
  | 40 => ⟨S16384x2816, .f32⟩
  | 41 => ⟨S16384x2816, .f32⟩
  | 42 => ⟨S16384x2816, .f32⟩
  | 43 => ⟨S16384x1024, .f32⟩
  | 44 => ⟨S16384x1024, .f32⟩
  | 45 => ⟨S_, .f32⟩
  | 46 => ⟨S16384, .f32⟩
  | 47 => ⟨S16384x1, .f32⟩
  | 48 => ⟨S_, .f32⟩
  | 49 => ⟨S16384x1, .f32⟩
  | 50 => ⟨S16384x1, .f32⟩
  | 51 => ⟨S_, .f32⟩
  | 52 => ⟨S16384x1, .f32⟩
  | 53 => ⟨S16384x1, .f32⟩
  | 54 => ⟨S16384x1, .f32⟩
  | 55 => ⟨S16384x1, .f32⟩
  | 56 => ⟨S_, .f32⟩
  | 57 => ⟨S16384x1, .f32⟩
  | 58 => ⟨S16384x1, .f32⟩
  | 59 => ⟨S16384x1024, .f32⟩
  | 60 => ⟨S16384x1024, .f32⟩
  | 61 => ⟨S1x1024, .f32⟩
  | 62 => ⟨S16384x1024, .f32⟩
  | 63 => ⟨S16384x1024, .f32⟩
  | 64 => ⟨S_, .f32⟩
  | 65 => ⟨S16384x1024, .f32⟩
  | 66 => ⟨S16384x1024, .f32⟩
  | 67 => ⟨S16384x1024, .f32⟩
  | 68 => ⟨S16384x1024, .f32⟩
  | 69 => ⟨S_, .f32⟩
  | 70 => ⟨S16384x1024, .f32⟩
  | 71 => ⟨S16384x1024, .f32⟩
  | 72 => ⟨S16384x1024, .f32⟩
  | 73 => ⟨S_, .f32⟩
  | 74 => ⟨S1024, .f32⟩
  | 75 => ⟨S1x1024, .f32⟩
  | 76 => ⟨S16384x1024, .f32⟩
  | 77 => ⟨S16384x1024, .f32⟩
  | 78 => ⟨S_, .f32⟩
  | 79 => ⟨S1024, .f32⟩
  | 80 => ⟨S16384x1024, .f32⟩
  | 81 => ⟨S_, .f32⟩
  | 82 => ⟨S16384, .f32⟩
  | 83 => ⟨S16384x1, .f32⟩
  | 84 => ⟨S16384x1024, .f32⟩
  | 85 => ⟨S16384x1024, .f32⟩
  | 86 => ⟨S16384x1, .f32⟩
  | 87 => ⟨S_, .f32⟩
  | 88 => ⟨S16384x1, .f32⟩
  | 89 => ⟨S16384x1, .f32⟩
  | 90 => ⟨S_, .f32⟩
  | 91 => ⟨S16384, .f32⟩
  | 92 => ⟨S16384x1024, .f32⟩
  | 93 => ⟨S16384x1024, .f32⟩
  | 94 => ⟨S16384x1024, .f32⟩
  | 95 => ⟨S16384x1024, .f32⟩
  | 96 => ⟨S16384x1024, .f32⟩
  | 97 => ⟨S16384x2816, .f32⟩
  | 98 => ⟨S16384x2816, .f32⟩
  | 99 => ⟨S16384x2816, .f32⟩
  | 100 => ⟨S16384x2816, .f32⟩
  | 101 => ⟨S16384x2816, .f32⟩
  | 102 => ⟨S16384x2816, .f32⟩
  | 103 => ⟨S16384x2816, .f32⟩
  | 104 => ⟨S16384x1024, .f32⟩
  | 105 => ⟨S16384x1024, .f32⟩
  | 106 => ⟨S16384x1024, .f32⟩
  | 107 => ⟨S16384x1024, .f32⟩
  | 108 => ⟨S_, .f32⟩
  | 109 => ⟨S1024, .f32⟩
  | 110 => ⟨S1x1024, .f32⟩
  | 111 => ⟨S16384x1024, .f32⟩
  | 112 => ⟨S16384x1024, .f32⟩
  | 113 => ⟨S_, .f32⟩
  | 114 => ⟨S1024, .f32⟩
  | 115 => ⟨S16384x1024, .f32⟩
  | 116 => ⟨S_, .f32⟩
  | 117 => ⟨S16384, .f32⟩
  | 118 => ⟨S16384x1, .f32⟩
  | 119 => ⟨S16384x1024, .f32⟩
  | 120 => ⟨S16384x1024, .f32⟩
  | 121 => ⟨S16384x1, .f32⟩
  | 122 => ⟨S_, .f32⟩
  | 123 => ⟨S16384x1, .f32⟩
  | 124 => ⟨S16384x1, .f32⟩
  | 125 => ⟨S_, .f32⟩
  | 126 => ⟨S16384, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S16384x2816, .bf16⟩
  | 5 => ⟨S16384x1024, .bf16⟩
  | 6 => ⟨S16384x2816, .bf16⟩
  | 7 => ⟨S16384x2816, .bf16⟩
  | 8 => ⟨S16384x1024, .f32⟩
  | 9 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v18_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v18_1 : Ref sig .tc := ⟨.hbm, 40, rfl⟩
abbrev main_v18_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_15 : Ref sig .tc := ⟨.hbm, 113, rfl⟩
abbrev main_v75 : Ref sig .tc := ⟨.hbm, 114, rfl⟩
abbrev main_v76 : Ref sig .tc := ⟨.hbm, 115, rfl⟩
abbrev main_cst_16 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_17 : Ref sig .tc := ⟨.hbm, 122, rfl⟩
abbrev main_v82 : Ref sig .tc := ⟨.hbm, 123, rfl⟩
abbrev main_v83 : Ref sig .tc := ⟨.hbm, 124, rfl⟩
abbrev main_cst_18 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩

abbrev nD : Nat := 1
abbrev τ : Topo := Topo.v7x

variable {F : FTy → Type} [FloatOps F]
-- ==== Pw1.lean ====
abbrev S16384x1024 : Shape := ⟨2, ![16384, 1024]⟩
abbrev S1024 : Shape := ⟨1, ![1024]⟩
abbrev S1024x2048 : Shape := ⟨2, ![1024, 2048]⟩
abbrev S16384x2048 : Shape := ⟨2, ![16384, 2048]⟩
abbrev S2048x1024 : Shape := ⟨2, ![2048, 1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩
abbrev S8x1024 : Shape := ⟨2, ![8, 1024]⟩
abbrev S64x8x1024 : Shape := ⟨3, ![64, 8, 1024]⟩
abbrev S_ : Shape := ⟨0, ![]⟩

abbrev nBuf : Space → Nat
  | .hbm => 15
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S16384x1024, .f32⟩
  | .hbm, ⟨4, _⟩ => ⟨S16384x2048, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S16384x2048, .bf16⟩
  | .hbm, ⟨9, _⟩ => ⟨S16384x2048, .bf16⟩
  | .hbm, ⟨10, _⟩ => ⟨S16384x1024, .f32⟩
  | .hbm, ⟨11, _⟩ => ⟨S16384x1024, .bf16⟩
  | .hbm, ⟨12, _⟩ => ⟨S8x1024, .f32⟩
  | .hbm, ⟨13, _⟩ => ⟨S_, .f32⟩
  | .hbm, ⟨14, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2048x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x2048, .bf16⟩
  | .local _ .vmem, ⟨12, _⟩ => ⟨S512x2048, .bf16⟩
  | .local _ .vmem, ⟨13, _⟩ => ⟨S2048x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_cst : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S8x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== Pw1RefIdeal.lean ====
abbrev S16384x1024 : Shape := ⟨2, ![16384, 1024]⟩
abbrev S1024 : Shape := ⟨1, ![1024]⟩
abbrev S1024x2048 : Shape := ⟨2, ![1024, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S16384x1024, .f32⟩
  | .hbm, ⟨4, _⟩ => ⟨S16384x2048, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x2048, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x2048, .bf16⟩
  | .hbm, ⟨53, _⟩ => ⟨S16384x1024, .f32⟩
  | .hbm, ⟨54, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== ConvBwd.lean ====
abbrev S16384x2048 : Shape := ⟨2, ![16384, 2048]⟩
abbrev S31x1024 : Shape := ⟨2, ![31, 1024]⟩
abbrev S1024 : Shape := ⟨1, ![1024]⟩
abbrev S16384x1024 : Shape := ⟨2, ![16384, 1024]⟩
abbrev S_ : Shape := ⟨0, ![]⟩
abbrev S30x1024 : Shape := ⟨2, ![30, 1024]⟩
abbrev S16414x1024 : Shape := ⟨2, ![16414, 1024]⟩
abbrev S1x1024 : Shape := ⟨2, ![1, 1024]⟩
abbrev S32x1024 : Shape := ⟨2, ![32, 1024]⟩
abbrev S256x1024 : Shape := ⟨2, ![256, 1024]⟩
abbrev S8x1024 : Shape := ⟨2, ![8, 1024]⟩
abbrev S512x1024 : Shape := ⟨2, ![512, 1024]⟩
abbrev S512x2048 : Shape := ⟨2, ![512, 2048]⟩
abbrev S8x544x1024 : Shape := ⟨3, ![8, 544, 1024]⟩
abbrev S1x32x1024 : Shape := ⟨3, ![1, 32, 1024]⟩
abbrev S512 : Shape := ⟨1, ![512]⟩
abbrev S512x1 : Shape := ⟨2, ![512, 1]⟩
abbrev S64x8x1024 : Shape := ⟨3, ![64, 8, 1024]⟩
abbrev S1x512x1024 : Shape := ⟨3, ![1, 512, 1024]⟩
abbrev S1x536x1024 : Shape := ⟨3, ![1, 536, 1024]⟩
abbrev S536x1024 : Shape := ⟨2, ![536, 1024]⟩
abbrev S1x128 : Shape := ⟨2, ![1, 128]⟩
abbrev S8x128 : Shape := ⟨2, ![8, 128]⟩
abbrev S1x8x128 : Shape := ⟨3, ![1, 8, 128]⟩
abbrev S32x8x1024 : Shape := ⟨3, ![32, 8, 1024]⟩

abbrev nBuf : Space → Nat
  | .hbm => 264
  | .vmem => 18
  | .smem => 0
  | _ => 0

abbrev hbmTy0_0 (i : Nat) : BufTy := match i % 128 with
  | 0 => ⟨S16384x2048, .f32⟩
  | 1 => ⟨S31x1024, .f32⟩
  | 2 => ⟨S1024, .f32⟩
  | 3 => ⟨S1024, .f32⟩
  | 4 => ⟨S1024, .f32⟩
  | 5 => ⟨S16384x1024, .f32⟩
  | 6 => ⟨S16384x1024, .f32⟩
  | 7 => ⟨S16384x1024, .f32⟩
  | 8 => ⟨S_, .f32⟩
  | 9 => ⟨S30x1024, .f32⟩
  | 10 => ⟨S16384x1024, .f32⟩
  | 11 => ⟨S16384x1024, .f32⟩
  | 12 => ⟨S_, .f32⟩
  | 13 => ⟨S16384x1024, .f32⟩
  | 14 => ⟨S16384x1024, .f32⟩
  | 15 => ⟨S_, .f32⟩
  | 16 => ⟨S16384x1024, .f32⟩
  | 17 => ⟨S16384x1024, .f32⟩
  | 18 => ⟨S16384x1024, .f32⟩
  | 19 => ⟨S16414x1024, .f32⟩
  | 20 => ⟨S16384x1024, .f32⟩
  | 21 => ⟨S1x1024, .f32⟩
  | 22 => ⟨S1024, .f32⟩
  | 23 => ⟨S1x1024, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S16384x1024, .f32⟩
  | 30 => ⟨S1x1024, .f32⟩
  | 31 => ⟨S1024, .f32⟩
  | 32 => ⟨S1x1024, .f32⟩
  | 33 => ⟨S16384x1024, .f32⟩
  | 34 => ⟨S16384x1024, .f32⟩
  | 35 => ⟨S16384x1024, .f32⟩
  | 36 => ⟨S16384x1024, .f32⟩
  | 37 => ⟨S1x1024, .f32⟩
  | 38 => ⟨S1024, .f32⟩
  | 39 => ⟨S1x1024, .f32⟩
  | 40 => ⟨S16384x1024, .f32⟩
  | 41 => ⟨S16384x1024, .f32⟩
  | 42 => ⟨S16384x1024, .f32⟩
  | 43 => ⟨S16384x1024, .f32⟩
  | 44 => ⟨S1x1024, .f32⟩
  | 45 => ⟨S1024, .f32⟩
  | 46 => ⟨S1x1024, .f32⟩
  | 47 => ⟨S16384x1024, .f32⟩
  | 48 => ⟨S16384x1024, .f32⟩
  | 49 => ⟨S16384x1024, .f32⟩
  | 50 => ⟨S16384x1024, .f32⟩
  | 51 => ⟨S1x1024, .f32⟩
  | 52 => ⟨S1024, .f32⟩
  | 53 => ⟨S1x1024, .f32⟩
  | 54 => ⟨S16384x1024, .f32⟩
  | 55 => ⟨S16384x1024, .f32⟩
  | 56 => ⟨S16384x1024, .f32⟩
  | 57 => ⟨S16384x1024, .f32⟩
  | 58 => ⟨S1x1024, .f32⟩
  | 59 => ⟨S1024, .f32⟩
  | 60 => ⟨S1x1024, .f32⟩
  | 61 => ⟨S16384x1024, .f32⟩
  | 62 => ⟨S16384x1024, .f32⟩
  | 63 => ⟨S16384x1024, .f32⟩
  | 64 => ⟨S16384x1024, .f32⟩
  | 65 => ⟨S1x1024, .f32⟩
  | 66 => ⟨S1024, .f32⟩
  | 67 => ⟨S1x1024, .f32⟩
  | 68 => ⟨S16384x1024, .f32⟩
  | 69 => ⟨S16384x1024, .f32⟩
  | 70 => ⟨S16384x1024, .f32⟩
  | 71 => ⟨S16384x1024, .f32⟩
  | 72 => ⟨S1x1024, .f32⟩
  | 73 => ⟨S1024, .f32⟩
  | 74 => ⟨S1x1024, .f32⟩
  | 75 => ⟨S16384x1024, .f32⟩
  | 76 => ⟨S16384x1024, .f32⟩
  | 77 => ⟨S16384x1024, .f32⟩
  | 78 => ⟨S16384x1024, .f32⟩
  | 79 => ⟨S1x1024, .f32⟩
  | 80 => ⟨S1024, .f32⟩
  | 81 => ⟨S1x1024, .f32⟩
  | 82 => ⟨S16384x1024, .f32⟩
  | 83 => ⟨S16384x1024, .f32⟩
  | 84 => ⟨S16384x1024, .f32⟩
  | 85 => ⟨S16384x1024, .f32⟩
  | 86 => ⟨S1x1024, .f32⟩
  | 87 => ⟨S1024, .f32⟩
  | 88 => ⟨S1x1024, .f32⟩
  | 89 => ⟨S16384x1024, .f32⟩
  | 90 => ⟨S16384x1024, .f32⟩
  | 91 => ⟨S16384x1024, .f32⟩
  | 92 => ⟨S16384x1024, .f32⟩
  | 93 => ⟨S1x1024, .f32⟩
  | 94 => ⟨S1024, .f32⟩
  | 95 => ⟨S1x1024, .f32⟩
  | 96 => ⟨S16384x1024, .f32⟩
  | 97 => ⟨S16384x1024, .f32⟩
  | 98 => ⟨S16384x1024, .f32⟩
  | 99 => ⟨S16384x1024, .f32⟩
  | 100 => ⟨S1x1024, .f32⟩
  | 101 => ⟨S1024, .f32⟩
  | 102 => ⟨S1x1024, .f32⟩
  | 103 => ⟨S16384x1024, .f32⟩
  | 104 => ⟨S16384x1024, .f32⟩
  | 105 => ⟨S16384x1024, .f32⟩
  | 106 => ⟨S16384x1024, .f32⟩
  | 107 => ⟨S1x1024, .f32⟩
  | 108 => ⟨S1024, .f32⟩
  | 109 => ⟨S1x1024, .f32⟩
  | 110 => ⟨S16384x1024, .f32⟩
  | 111 => ⟨S16384x1024, .f32⟩
  | 112 => ⟨S16384x1024, .f32⟩
  | 113 => ⟨S16384x1024, .f32⟩
  | 114 => ⟨S1x1024, .f32⟩
  | 115 => ⟨S1024, .f32⟩
  | 116 => ⟨S1x1024, .f32⟩
  | 117 => ⟨S16384x1024, .f32⟩
  | 118 => ⟨S16384x1024, .f32⟩
  | 119 => ⟨S16384x1024, .f32⟩
  | 120 => ⟨S16384x1024, .f32⟩
  | 121 => ⟨S1x1024, .f32⟩
  | 122 => ⟨S1024, .f32⟩
  | 123 => ⟨S1x1024, .f32⟩
  | 124 => ⟨S16384x1024, .f32⟩
  | 125 => ⟨S16384x1024, .f32⟩
  | 126 => ⟨S16384x1024, .f32⟩
  | 127 => ⟨S16384x1024, .f32⟩
  | _ => ⟨S16384x2048, .f32⟩

abbrev hbmTy0_1 (i : Nat) : BufTy := match i % 128 with
  | 0 => ⟨S1x1024, .f32⟩
  | 1 => ⟨S1024, .f32⟩
  | 2 => ⟨S1x1024, .f32⟩
  | 3 => ⟨S16384x1024, .f32⟩
  | 4 => ⟨S16384x1024, .f32⟩
  | 5 => ⟨S16384x1024, .f32⟩
  | 6 => ⟨S16384x1024, .f32⟩
  | 7 => ⟨S1x1024, .f32⟩
  | 8 => ⟨S1024, .f32⟩
  | 9 => ⟨S1x1024, .f32⟩
  | 10 => ⟨S16384x1024, .f32⟩
  | 11 => ⟨S16384x1024, .f32⟩
  | 12 => ⟨S16384x1024, .f32⟩
  | 13 => ⟨S16384x1024, .f32⟩
  | 14 => ⟨S1x1024, .f32⟩
  | 15 => ⟨S1024, .f32⟩
  | 16 => ⟨S1x1024, .f32⟩
  | 17 => ⟨S16384x1024, .f32⟩
  | 18 => ⟨S16384x1024, .f32⟩
  | 19 => ⟨S16384x1024, .f32⟩
  | 20 => ⟨S16384x1024, .f32⟩
  | 21 => ⟨S1x1024, .f32⟩
  | 22 => ⟨S1024, .f32⟩
  | 23 => ⟨S1x1024, .f32⟩
  | 24 => ⟨S16384x1024, .f32⟩
  | 25 => ⟨S16384x1024, .f32⟩
  | 26 => ⟨S16384x1024, .f32⟩
  | 27 => ⟨S16384x1024, .f32⟩
  | 28 => ⟨S1x1024, .f32⟩
  | 29 => ⟨S1024, .f32⟩
  | 30 => ⟨S1x1024, .f32⟩
  | 31 => ⟨S16384x1024, .f32⟩
  | 32 => ⟨S16384x1024, .f32⟩
  | 33 => ⟨S16384x1024, .f32⟩
  | 34 => ⟨S16384x1024, .f32⟩
  | 35 => ⟨S1x1024, .f32⟩
  | 36 => ⟨S1024, .f32⟩
  | 37 => ⟨S1x1024, .f32⟩
  | 38 => ⟨S16384x1024, .f32⟩
  | 39 => ⟨S16384x1024, .f32⟩
  | 40 => ⟨S16384x1024, .f32⟩
  | 41 => ⟨S16384x1024, .f32⟩
  | 42 => ⟨S1x1024, .f32⟩
  | 43 => ⟨S1024, .f32⟩
  | 44 => ⟨S1x1024, .f32⟩
  | 45 => ⟨S16384x1024, .f32⟩
  | 46 => ⟨S16384x1024, .f32⟩
  | 47 => ⟨S16384x1024, .f32⟩
  | 48 => ⟨S16384x1024, .f32⟩
  | 49 => ⟨S1x1024, .f32⟩
  | 50 => ⟨S1024, .f32⟩
  | 51 => ⟨S1x1024, .f32⟩
  | 52 => ⟨S16384x1024, .f32⟩
  | 53 => ⟨S16384x1024, .f32⟩
  | 54 => ⟨S16384x1024, .f32⟩
  | 55 => ⟨S16384x1024, .f32⟩
  | 56 => ⟨S1x1024, .f32⟩
  | 57 => ⟨S1024, .f32⟩
  | 58 => ⟨S1x1024, .f32⟩
  | 59 => ⟨S16384x1024, .f32⟩
  | 60 => ⟨S16384x1024, .f32⟩
  | 61 => ⟨S16384x1024, .f32⟩
  | 62 => ⟨S16384x1024, .f32⟩
  | 63 => ⟨S1x1024, .f32⟩
  | 64 => ⟨S1024, .f32⟩
  | 65 => ⟨S1x1024, .f32⟩
  | 66 => ⟨S16384x1024, .f32⟩
  | 67 => ⟨S16384x1024, .f32⟩
  | 68 => ⟨S16384x1024, .f32⟩
  | 69 => ⟨S16384x1024, .f32⟩
  | 70 => ⟨S1x1024, .f32⟩
  | 71 => ⟨S1024, .f32⟩
  | 72 => ⟨S1x1024, .f32⟩
  | 73 => ⟨S16384x1024, .f32⟩
  | 74 => ⟨S16384x1024, .f32⟩
  | 75 => ⟨S16384x1024, .f32⟩
  | 76 => ⟨S16384x1024, .f32⟩
  | 77 => ⟨S1x1024, .f32⟩
  | 78 => ⟨S1024, .f32⟩
  | 79 => ⟨S1x1024, .f32⟩
  | 80 => ⟨S16384x1024, .f32⟩
  | 81 => ⟨S16384x1024, .f32⟩
  | 82 => ⟨S16384x1024, .f32⟩
  | 83 => ⟨S16384x1024, .f32⟩
  | 84 => ⟨S1x1024, .f32⟩
  | 85 => ⟨S1024, .f32⟩
  | 86 => ⟨S1x1024, .f32⟩
  | 87 => ⟨S16384x1024, .f32⟩
  | 88 => ⟨S16384x1024, .f32⟩
  | 89 => ⟨S16384x1024, .f32⟩
  | 90 => ⟨S16384x1024, .f32⟩
  | 91 => ⟨S1x1024, .f32⟩
  | 92 => ⟨S1024, .f32⟩
  | 93 => ⟨S1x1024, .f32⟩
  | 94 => ⟨S16384x1024, .f32⟩
  | 95 => ⟨S16384x1024, .f32⟩
  | 96 => ⟨S16384x1024, .f32⟩
  | 97 => ⟨S16384x1024, .f32⟩
  | 98 => ⟨S1x1024, .f32⟩
  | 99 => ⟨S1024, .f32⟩
  | 100 => ⟨S1x1024, .f32⟩
  | 101 => ⟨S16384x1024, .f32⟩
  | 102 => ⟨S16384x1024, .f32⟩
  | 103 => ⟨S16384x1024, .f32⟩
  | 104 => ⟨S16384x1024, .f32⟩
  | 105 => ⟨S1x1024, .f32⟩
  | 106 => ⟨S1024, .f32⟩
  | 107 => ⟨S1x1024, .f32⟩
  | 108 => ⟨S16384x1024, .f32⟩
  | 109 => ⟨S16384x1024, .f32⟩
  | 110 => ⟨S16384x1024, .f32⟩
  | 111 => ⟨S1x1024, .f32⟩
  | 112 => ⟨S16384x1024, .f32⟩
  | 113 => ⟨S16384x1024, .f32⟩
  | 114 => ⟨S_, .i32⟩
  | 115 => ⟨S_, .f32⟩
  | 116 => ⟨S32x1024, .f32⟩
  | 117 => ⟨S1x1024, .f32⟩
  | 118 => ⟨S1x1024, .f32⟩
  | 119 => ⟨S16384x1024, .bf16⟩
  | 120 => ⟨S16384x2048, .bf16⟩
  | 121 => ⟨S16384x2048, .bf16⟩
  | 122 => ⟨S256x1024, .f32⟩
  | 123 => ⟨S8x1024, .f32⟩
  | 124 => ⟨S8x1024, .f32⟩
  | 125 => ⟨S8x1024, .f32⟩
  | 126 => ⟨S32x8x1024, .f32⟩
  | 127 => ⟨S_, .f32⟩
  | _ => ⟨S16384x2048, .f32⟩

abbrev hbmTy0_2 (i : Nat) : BufTy := match i % 128 with
  | 0 => ⟨S32x1024, .f32⟩
  | 1 => ⟨S31x1024, .f32⟩
  | 2 => ⟨S_, .f32⟩
  | 3 => ⟨S1024, .f32⟩
  | 4 => ⟨S_, .f32⟩
  | 5 => ⟨S1024, .f32⟩
  | 6 => ⟨S_, .f32⟩
  | 7 => ⟨S1024, .f32⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | .local _ .vmem, ⟨6, _⟩ => ⟨S32x1024, .f32⟩
  | .local _ .vmem, ⟨7, _⟩ => ⟨S1x1024, .f32⟩
  | .local _ .vmem, ⟨8, _⟩ => ⟨S1x1024, .f32⟩
  | .local _ .vmem, ⟨9, _⟩ => ⟨S512x2048, .bf16⟩
  | .local _ .vmem, ⟨10, _⟩ => ⟨S512x2048, .bf16⟩
  | .local _ .vmem, ⟨11, _⟩ => ⟨S256x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x544x1024, .f32⟩
  | .local _ .vmem, ⟨16, _⟩ => ⟨S512x1024, .f32⟩
  | .local _ .vmem, ⟨17, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_c : Ref sig .tc := ⟨.hbm, 242, rfl⟩
abbrev main_call0_v0 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237_0 : Ref sig .tc := ⟨.hbm, 249, rfl⟩
abbrev main_v237_1 : Ref sig .tc := ⟨.hbm, 250, rfl⟩
abbrev main_v237_2 : Ref sig .tc := ⟨.hbm, 251, rfl⟩
abbrev main_v237_3 : Ref sig .tc := ⟨.hbm, 252, rfl⟩
abbrev main_v237_4 : Ref sig .tc := ⟨.hbm, 253, rfl⟩
abbrev main_v238 : Ref sig .tc := ⟨.hbm, 254, rfl⟩
abbrev main_cst_3 : Ref sig .tc := ⟨.hbm, 255, rfl⟩
abbrev main_v239 : Ref sig .tc := ⟨.hbm, 256, rfl⟩
abbrev main_v240 : Ref sig .tc := ⟨.hbm, 257, rfl⟩
abbrev main_cst_4 : Ref sig .tc := ⟨.hbm, 258, rfl⟩
abbrev main_v241 : Ref sig .tc := ⟨.hbm, 259, rfl⟩
abbrev main_cst_5 : Ref sig .tc := ⟨.hbm, 260, rfl⟩
abbrev main_v242 : Ref sig .tc := ⟨.hbm, 261, rfl⟩
abbrev main_cst_6 : Ref sig .tc := ⟨.hbm, 262, rfl⟩
abbrev main_v243 : Ref sig .tc := ⟨.hbm, 263, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_115 : BitVec 32 := 0#32
  let c16_i32 : BitVec 32 := 16#32
  let v203 : BitVec 32 := Scalar.addi c0_i32_115 c16_i32
  let c1_i32 : BitVec 32 := 1#32
  ⟨c0_i32_115, v203, c1_i32⟩
def k0_mult1 (k0_t1 : Fin k0_t1_loop.trips) : BitVec 32 :=
  let c0_i32_115 : BitVec 32 := 0#32
  let c1_i32 : BitVec 32 := 1#32
  let arg15 : BitVec 32 := Scf.iv c0_i32_115 c1_i32 k0_t1
  let c32_i32 : BitVec 32 := 32#32
  let v2403 : BitVec 32 := Scalar.muli arg15 c32_i32
  v2403
def k0_off1 (k0_t1 : Fin k0_t1_loop.trips) (c0_i32_1826 : BitVec 32) : Fin 2 → Nat :=
  let c0_i32_115 : BitVec 32 := 0#32
  let c1_i32 : BitVec 32 := 1#32
  let arg15 : BitVec 32 := Scf.iv c0_i32_115 c1_i32 k0_t1
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c0_1827 : Index := 0#32
  ![v2407.toNat, 0]
def k0_off2 (k0_t1 : Fin k0_t1_loop.trips) (c24_i32_1832 : BitVec 32) : Fin 3 → Nat :=
  let c6_1833 : Index := 6#32
  let c0_i32_115 : BitVec 32 := 0#32
  let c1_i32 : BitVec 32 := 1#32
  let arg15 : BitVec 32 := Scf.iv c0_i32_115 c1_i32 k0_t1
  let c32_i32 : BitVec 32 := 32#32
  let v2403 : BitVec 32 := Scalar.muli arg15 c32_i32
  let v2404 : BitVec 32 := v2403
  let v2418 : BitVec 32 := Scalar.addi v2404 c24_i32_1832
  let v2419 : Index := Scalar.indexCast v2418
  let c0_1834 : Index := 0#32
  ![6, v2419.toNat, 0]
def k0_off3 (k0_t1 : Fin k0_t1_loop.trips) (c24_i32_1842 : BitVec 32) : Fin 3 → Nat :=
  let c5_1843 : Index := 5#32
  let c0_i32_115 : BitVec 32 := 0#32
  let c1_i32 : BitVec 32 := 1#32
  let arg15 : BitVec 32 := Scf.iv c0_i32_115 c1_i32 k0_t1
  let c32_i32 : BitVec 32 := 32#32
  let v2403 : BitVec 32 := Scalar.muli arg15 c32_i32
  let v2404 : BitVec 32 := v2403
  let v2450 : BitVec 32 := Scalar.addi v2404 c24_i32_1842
  let v2451 : Index := Scalar.indexCast v2450
  let c0_1844 : Index := 0#32
  ![5, v2451.toNat, 0]
def k0_off4 (k0_t1 : Fin k0_t1_loop.trips) (c24_i32_1854 : BitVec 32) : Fin 3 → Nat :=
  let c4_1855 : Index := 4#32
  let c0_i32_115 : BitVec 32 := 0#32
  let c1_i32 : BitVec 32 := 1#32
  let arg15 : BitVec 32 := Scf.iv c0_i32_115 c1_i32 k0_t1
  let c32_i32 : BitVec 32 := 32#32
  let v2403 : BitVec 32 := Scalar.muli arg15 c32_i32
  let v2404 : BitVec 32 := v2403
  let v2482 : BitVec 32 := Scalar.addi v2404 c24_i32_1854
  let v2483 : Index := Scalar.indexCast v2482
  let c0_1856 : Index := 0#32
  ![4, v2483.toNat, 0]
def k0_off5 (k0_t1 : Fin k0_t1_loop.trips) (c24_i32_1866 : BitVec 32) : Fin 3 → Nat :=
  let c3_1867 : Index := 3#32
  let c0_i32_115 : BitVec 32 := 0#32
  let c1_i32 : BitVec 32 := 1#32
  let arg15 : BitVec 32 := Scf.iv c0_i32_115 c1_i32 k0_t1
  let c32_i32 : BitVec 32 := 32#32
  let v2403 : BitVec 32 := Scalar.muli arg15 c32_i32
  let v2404 : BitVec 32 := v2403
  let v2514 : BitVec 32 := Scalar.addi v2404 c24_i32_1866
  let v2515 : Index := Scalar.indexCast v2514
  let c0_1868 : Index := 0#32
  ![3, v2515.toNat, 0]
def k0_off6 (k0_t1 : Fin k0_t1_loop.trips) (c24_i32_1878 : BitVec 32) : Fin 3 → Nat :=
  let c2_1879 : Index := 2#32
  let c0_i32_115 : BitVec 32 := 0#32
  let c1_i32 : BitVec 32 := 1#32
  let arg15 : BitVec 32 := Scf.iv c0_i32_115 c1_i32 k0_t1
  let c32_i32 : BitVec 32 := 32#32
  let v2403 : BitVec 32 := Scalar.muli arg15 c32_i32
  let v2404 : BitVec 32 := v2403
  let v2546 : BitVec 32 := Scalar.addi v2404 c24_i32_1878
  let v2547 : Index := Scalar.indexCast v2546
  let c0_1880 : Index := 0#32
  ![2, v2547.toNat, 0]
def k0_off7 (k0_t1 : Fin k0_t1_loop.trips) (c24_i32_1890 : BitVec 32) : Fin 3 → Nat :=
  let c1_1891 : Index := 1#32
  let c0_i32_115 : BitVec 32 := 0#32
  let c1_i32 : BitVec 32 := 1#32
  let arg15 : BitVec 32 := Scf.iv c0_i32_115 c1_i32 k0_t1
  let c32_i32 : BitVec 32 := 32#32
  let v2403 : BitVec 32 := Scalar.muli arg15 c32_i32
  let v2404 : BitVec 32 := v2403
  let v2578 : BitVec 32 := Scalar.addi v2404 c24_i32_1890
  let v2579 : Index := Scalar.indexCast v2578
  let c0_1892 : Index := 0#32
  ![1, v2579.toNat, 0]
def k0_off8 (k0_t1 : Fin k0_t1_loop.trips) (c24_i32_1902 : BitVec 32) : Fin 3 → Nat :=
  let c0_1903 : Index := 0#32
  let c0_i32_115 : BitVec 32 := 0#32
  let c1_i32 : BitVec 32 := 1#32
  let arg15 : BitVec 32 := Scf.iv c0_i32_115 c1_i32 k0_t1
  let c32_i32 : BitVec 32 := 32#32
  let v2403 : BitVec 32 := Scalar.muli arg15 c32_i32
  let v2404 : BitVec 32 := v2403
  let v2610 : BitVec 32 := Scalar.addi v2404 c24_i32_1902
  let v2611 : Index := Scalar.indexCast v2610
  let c0_1904 : Index := 0#32
  ![0, v2611.toNat, 0]
def k0_off9 (k0_t1 : Fin k0_t1_loop.trips) (c16_i32_1914 : BitVec 32) : Fin 3 → Nat :=
  let c7_1915 : Index := 7#32
  let c0_i32_115 : BitVec 32 := 0#32
  let c1_i32 : BitVec 32 := 1#32
  let arg15 : BitVec 32 := Scf.iv c0_i32_115 c1_i32 k0_t1
  let c32_i32 : BitVec 32 := 32#32
  let v2403 : BitVec 32 := Scalar.muli arg15 c32_i32
  let v2404 : BitVec 32 := v2403
  let v2642 : BitVec 32 := Scalar.addi v2404 c16_i32_1914
  let v2643 : Index := Scalar.indexCast v2642
  let c0_1916 : Index := 0#32
  ![7, v2643.toNat, 0]
@[reducible] def k0_t2_loop : Scf.Loop 32 :=
  let c0_i32_198 : BitVec 32 := 0#32
  let c16_i32_199 : BitVec 32 := 16#32
  let v345 : BitVec 32 := Scalar.addi c0_i32_198 c16_i32_199
  let c1_i32_200 : BitVec 32 := 1#32
  ⟨c0_i32_198, v345, c1_i32_200⟩
def k0_mult2 (k0_t2 : Fin k0_t2_loop.trips) : BitVec 32 :=
  let c0_i32_198 : BitVec 32 := 0#32
  let c1_i32_200 : BitVec 32 := 1#32
  let arg15 : BitVec 32 := Scf.iv c0_i32_198 c1_i32_200 k0_t2
  let c32_i32 : BitVec 32 := 32#32
  let v2403 : BitVec 32 := Scalar.muli arg15 c32_i32
  v2403
def k0_off10 (k0_t2 : Fin k0_t2_loop.trips) (c0_i32_1826 : BitVec 32) : Fin 2 → Nat :=
  let c0_i32_198 : BitVec 32 := 0#32
  let c1_i32_200 : BitVec 32 := 1#32
  let arg15 : BitVec 32 := Scf.iv c0_i32_198 c1_i32_200 k0_t2
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c0_1827 : Index := 0#32
  ![v2407.toNat, 0]
def k0_off11 (k0_t2 : Fin k0_t2_loop.trips) (c8_i32_1836 : BitVec 32) : Fin 3 → Nat :=
  let c7_1837 : Index := 7#32
  let c0_i32_198 : BitVec 32 := 0#32
  let c1_i32_200 : BitVec 32 := 1#32
  let arg15 : BitVec 32 := Scf.iv c0_i32_198 c1_i32_200 k0_t2
  let c32_i32 : BitVec 32 := 32#32
  let v2403 : BitVec 32 := Scalar.muli arg15 c32_i32
  let v2404 : BitVec 32 := v2403
  let v2426 : BitVec 32 := Scalar.addi v2404 c8_i32_1836
  let v2427 : Index := Scalar.indexCast v2426
  let c0_1838 : Index := 0#32
  ![7, v2427.toNat, 0]
def k0_off12 (k0_t2 : Fin k0_t2_loop.trips) (c8_i32_1848 : BitVec 32) : Fin 3 → Nat :=
  let c6_1849 : Index := 6#32
  let c0_i32_198 : BitVec 32 := 0#32
  let c1_i32_200 : BitVec 32 := 1#32
  let arg15 : BitVec 32 := Scf.iv c0_i32_198 c1_i32_200 k0_t2
  let c32_i32 : BitVec 32 := 32#32
  let v2403 : BitVec 32 := Scalar.muli arg15 c32_i32
  let v2404 : BitVec 32 := v2403
  let v2458 : BitVec 32 := Scalar.addi v2404 c8_i32_1848
  let v2459 : Index := Scalar.indexCast v2458
  let c0_1850 : Index := 0#32
  ![6, v2459.toNat, 0]
def k0_off13 (k0_t2 : Fin k0_t2_loop.trips) (c8_i32_1860 : BitVec 32) : Fin 3 → Nat :=
  let c5_1861 : Index := 5#32
  let c0_i32_198 : BitVec 32 := 0#32
  let c1_i32_200 : BitVec 32 := 1#32
  let arg15 : BitVec 32 := Scf.iv c0_i32_198 c1_i32_200 k0_t2
  let c32_i32 : BitVec 32 := 32#32
  let v2403 : BitVec 32 := Scalar.muli arg15 c32_i32
  let v2404 : BitVec 32 := v2403
  let v2490 : BitVec 32 := Scalar.addi v2404 c8_i32_1860
  let v2491 : Index := Scalar.indexCast v2490
  let c0_1862 : Index := 0#32
  ![5, v2491.toNat, 0]
def k0_off14 (k0_t2 : Fin k0_t2_loop.trips) (c8_i32_1872 : BitVec 32) : Fin 3 → Nat :=
  let c4_1873 : Index := 4#32
  let c0_i32_198 : BitVec 32 := 0#32
  let c1_i32_200 : BitVec 32 := 1#32
  let arg15 : BitVec 32 := Scf.iv c0_i32_198 c1_i32_200 k0_t2
  let c32_i32 : BitVec 32 := 32#32
  let v2403 : BitVec 32 := Scalar.muli arg15 c32_i32
  let v2404 : BitVec 32 := v2403
  let v2522 : BitVec 32 := Scalar.addi v2404 c8_i32_1872
  let v2523 : Index := Scalar.indexCast v2522
  let c0_1874 : Index := 0#32
  ![4, v2523.toNat, 0]
def k0_off15 (k0_t2 : Fin k0_t2_loop.trips) (c8_i32_1884 : BitVec 32) : Fin 3 → Nat :=
  let c3_1885 : Index := 3#32
  let c0_i32_198 : BitVec 32 := 0#32
  let c1_i32_200 : BitVec 32 := 1#32
  let arg15 : BitVec 32 := Scf.iv c0_i32_198 c1_i32_200 k0_t2
  let c32_i32 : BitVec 32 := 32#32
  let v2403 : BitVec 32 := Scalar.muli arg15 c32_i32
  let v2404 : BitVec 32 := v2403
  let v2554 : BitVec 32 := Scalar.addi v2404 c8_i32_1884
  let v2555 : Index := Scalar.indexCast v2554
  let c0_1886 : Index := 0#32
  ![3, v2555.toNat, 0]
def k0_off16 (k0_t2 : Fin k0_t2_loop.trips) (c8_i32_1896 : BitVec 32) : Fin 3 → Nat :=
  let c2_1897 : Index := 2#32
  let c0_i32_198 : BitVec 32 := 0#32
  let c1_i32_200 : BitVec 32 := 1#32
  let arg15 : BitVec 32 := Scf.iv c0_i32_198 c1_i32_200 k0_t2
  let c32_i32 : BitVec 32 := 32#32
  let v2403 : BitVec 32 := Scalar.muli arg15 c32_i32
  let v2404 : BitVec 32 := v2403
  let v2586 : BitVec 32 := Scalar.addi v2404 c8_i32_1896
  let v2587 : Index := Scalar.indexCast v2586
  let c0_1898 : Index := 0#32
  ![2, v2587.toNat, 0]
def k0_off17 (k0_t2 : Fin k0_t2_loop.trips) (c8_i32_1908 : BitVec 32) : Fin 3 → Nat :=
  let c1_1909 : Index := 1#32
  let c0_i32_198 : BitVec 32 := 0#32
  let c1_i32_200 : BitVec 32 := 1#32
  let arg15 : BitVec 32 := Scf.iv c0_i32_198 c1_i32_200 k0_t2
  let c32_i32 : BitVec 32 := 32#32
  let v2403 : BitVec 32 := Scalar.muli arg15 c32_i32
  let v2404 : BitVec 32 := v2403
  let v2618 : BitVec 32 := Scalar.addi v2404 c8_i32_1908
  let v2619 : Index := Scalar.indexCast v2618
  let c0_1910 : Index := 0#32
  ![1, v2619.toNat, 0]
def k0_off18 (k0_t2 : Fin k0_t2_loop.trips) (c8_i32_1920 : BitVec 32) : Fin 3 → Nat :=
  let c0_1921 : Index := 0#32
  let c0_i32_198 : BitVec 32 := 0#32
  let c1_i32_200 : BitVec 32 := 1#32
  let arg15 : BitVec 32 := Scf.iv c0_i32_198 c1_i32_200 k0_t2
  let c32_i32 : BitVec 32 := 32#32
  let v2403 : BitVec 32 := Scalar.muli arg15 c32_i32
  let v2404 : BitVec 32 := v2403
  let v2650 : BitVec 32 := Scalar.addi v2404 c8_i32_1920
  let v2651 : Index := Scalar.indexCast v2650
  let c0_1922 : Index := 0#32
  ![0, v2651.toNat, 0]
@[reducible] def k0_t3_loop : Scf.Loop 32 :=
  let c0_i32_295 : BitVec 32 := 0#32
  let c16_i32_296 : BitVec 32 := 16#32
  let v486 : BitVec 32 := Scalar.addi c0_i32_295 c16_i32_296
  let c1_i32_297 : BitVec 32 := 1#32
  ⟨c0_i32_295, v486, c1_i32_297⟩
def k0_mult3 (k0_t3 : Fin k0_t3_loop.trips) : BitVec 32 :=
  let c0_i32_295 : BitVec 32 := 0#32
  let c1_i32_297 : BitVec 32 := 1#32
  let arg15 : BitVec 32 := Scf.iv c0_i32_295 c1_i32_297 k0_t3
  let c32_i32 : BitVec 32 := 32#32
  let v2403 : BitVec 32 := Scalar.muli arg15 c32_i32
  v2403
def k0_off19 (k0_t3 : Fin k0_t3_loop.trips) (c0_i32_1826 : BitVec 32) : Fin 2 → Nat :=
  let c0_i32_295 : BitVec 32 := 0#32
  let c1_i32_297 : BitVec 32 := 1#32
  let arg15 : BitVec 32 := Scf.iv c0_i32_295 c1_i32_297 k0_t3
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c128_1827 : Index := 128#32
  ![v2407.toNat, 128]
def k0_off20 (k0_t3 : Fin k0_t3_loop.trips) (c24_i32_1832 : BitVec 32) : Fin 3 → Nat :=
  let c6_1833 : Index := 6#32
  let c0_i32_295 : BitVec 32 := 0#32
  let c1_i32_297 : BitVec 32 := 1#32
  let arg15 : BitVec 32 := Scf.iv c0_i32_295 c1_i32_297 k0_t3
  let c32_i32 : BitVec 32 := 32#32
  let v2403 : BitVec 32 := Scalar.muli arg15 c32_i32
  let v2404 : BitVec 32 := v2403
  let v2418 : BitVec 32 := Scalar.addi v2404 c24_i32_1832
  let v2419 : Index := Scalar.indexCast v2418
  let c128_1834 : Index := 128#32
  ![6, v2419.toNat, 128]
def k0_off21 (k0_t3 : Fin k0_t3_loop.trips) (c24_i32_1842 : BitVec 32) : Fin 3 → Nat :=
  let c5_1843 : Index := 5#32
  let c0_i32_295 : BitVec 32 := 0#32
  let c1_i32_297 : BitVec 32 := 1#32
  let arg15 : BitVec 32 := Scf.iv c0_i32_295 c1_i32_297 k0_t3
  let c32_i32 : BitVec 32 := 32#32
  let v2403 : BitVec 32 := Scalar.muli arg15 c32_i32
  let v2404 : BitVec 32 := v2403
  let v2450 : BitVec 32 := Scalar.addi v2404 c24_i32_1842
  let v2451 : Index := Scalar.indexCast v2450
  let c128_1844 : Index := 128#32
  ![5, v2451.toNat, 128]
def k0_off22 (k0_t3 : Fin k0_t3_loop.trips) (c24_i32_1854 : BitVec 32) : Fin 3 → Nat :=
  let c4_1855 : Index := 4#32
  let c0_i32_295 : BitVec 32 := 0#32
  let c1_i32_297 : BitVec 32 := 1#32
  let arg15 : BitVec 32 := Scf.iv c0_i32_295 c1_i32_297 k0_t3
  let c32_i32 : BitVec 32 := 32#32
  let v2403 : BitVec 32 := Scalar.muli arg15 c32_i32
  let v2404 : BitVec 32 := v2403
  let v2482 : BitVec 32 := Scalar.addi v2404 c24_i32_1854
  let v2483 : Index := Scalar.indexCast v2482
  let c128_1856 : Index := 128#32
  ![4, v2483.toNat, 128]
def k0_off23 (k0_t3 : Fin k0_t3_loop.trips) (c24_i32_1866 : BitVec 32) : Fin 3 → Nat :=
  let c3_1867 : Index := 3#32
  let c0_i32_295 : BitVec 32 := 0#32
  let c1_i32_297 : BitVec 32 := 1#32
  let arg15 : BitVec 32 := Scf.iv c0_i32_295 c1_i32_297 k0_t3
  let c32_i32 : BitVec 32 := 32#32
  let v2403 : BitVec 32 := Scalar.muli arg15 c32_i32
  let v2404 : BitVec 32 := v2403
  let v2514 : BitVec 32 := Scalar.addi v2404 c24_i32_1866
  let v2515 : Index := Scalar.indexCast v2514
  let c128_1868 : Index := 128#32
  ![3, v2515.toNat, 128]
def k0_off24 (k0_t3 : Fin k0_t3_loop.trips) (c24_i32_1878 : BitVec 32) : Fin 3 → Nat :=
  let c2_1879 : Index := 2#32
  let c0_i32_295 : BitVec 32 := 0#32
  let c1_i32_297 : BitVec 32 := 1#32
  let arg15 : BitVec 32 := Scf.iv c0_i32_295 c1_i32_297 k0_t3
  let c32_i32 : BitVec 32 := 32#32
  let v2403 : BitVec 32 := Scalar.muli arg15 c32_i32
  let v2404 : BitVec 32 := v2403
  let v2546 : BitVec 32 := Scalar.addi v2404 c24_i32_1878
  let v2547 : Index := Scalar.indexCast v2546
  let c128_1880 : Index := 128#32
  ![2, v2547.toNat, 128]
def k0_off25 (k0_t3 : Fin k0_t3_loop.trips) (c24_i32_1890 : BitVec 32) : Fin 3 → Nat :=
  let c1_1891 : Index := 1#32
  let c0_i32_295 : BitVec 32 := 0#32
  let c1_i32_297 : BitVec 32 := 1#32
  let arg15 : BitVec 32 := Scf.iv c0_i32_295 c1_i32_297 k0_t3
  let c32_i32 : BitVec 32 := 32#32
  let v2403 : BitVec 32 := Scalar.muli arg15 c32_i32
  let v2404 : BitVec 32 := v2403
  let v2578 : BitVec 32 := Scalar.addi v2404 c24_i32_1890
  let v2579 : Index := Scalar.indexCast v2578
  let c128_1892 : Index := 128#32
  ![1, v2579.toNat, 128]
def k0_off26 (k0_t3 : Fin k0_t3_loop.trips) (c24_i32_1902 : BitVec 32) : Fin 3 → Nat :=
  let c0_1903 : Index := 0#32
  let c0_i32_295 : BitVec 32 := 0#32
  let c1_i32_297 : BitVec 32 := 1#32
  let arg15 : BitVec 32 := Scf.iv c0_i32_295 c1_i32_297 k0_t3
  let c32_i32 : BitVec 32 := 32#32
  let v2403 : BitVec 32 := Scalar.muli arg15 c32_i32
  let v2404 : BitVec 32 := v2403
  let v2610 : BitVec 32 := Scalar.addi v2404 c24_i32_1902
  let v2611 : Index := Scalar.indexCast v2610
  let c128_1904 : Index := 128#32
  ![0, v2611.toNat, 128]
def k0_off27 (k0_t3 : Fin k0_t3_loop.trips) (c16_i32_1914 : BitVec 32) : Fin 3 → Nat :=
  let c7_1915 : Index := 7#32
  let c0_i32_295 : BitVec 32 := 0#32
  let c1_i32_297 : BitVec 32 := 1#32
  let arg15 : BitVec 32 := Scf.iv c0_i32_295 c1_i32_297 k0_t3
  let c32_i32 : BitVec 32 := 32#32
  let v2403 : BitVec 32 := Scalar.muli arg15 c32_i32
  let v2404 : BitVec 32 := v2403
  let v2642 : BitVec 32 := Scalar.addi v2404 c16_i32_1914
  let v2643 : Index := Scalar.indexCast v2642
  let c128_1916 : Index := 128#32
  ![7, v2643.toNat, 128]
@[reducible] def k0_t4_loop : Scf.Loop 32 :=
  let c0_i32_407 : BitVec 32 := 0#32
  let c16_i32_408 : BitVec 32 := 16#32
  let v628 : BitVec 32 := Scalar.addi c0_i32_407 c16_i32_408
  let c1_i32_409 : BitVec 32 := 1#32
  ⟨c0_i32_407, v628, c1_i32_409⟩
def k0_mult4 (k0_t4 : Fin k0_t4_loop.trips) : BitVec 32 :=
  let c0_i32_407 : BitVec 32 := 0#32
  let c1_i32_409 : BitVec 32 := 1#32
  let arg15 : BitVec 32 := Scf.iv c0_i32_407 c1_i32_409 k0_t4
  let c32_i32 : BitVec 32 := 32#32
  let v2403 : BitVec 32 := Scalar.muli arg15 c32_i32
  v2403
def k0_off28 (k0_t4 : Fin k0_t4_loop.trips) (c0_i32_1826 : BitVec 32) : Fin 2 → Nat :=
  let c0_i32_407 : BitVec 32 := 0#32
  let c1_i32_409 : BitVec 32 := 1#32
  let arg15 : BitVec 32 := Scf.iv c0_i32_407 c1_i32_409 k0_t4
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c128_1827 : Index := 128#32
  ![v2407.toNat, 128]
def k0_off29 (k0_t4 : Fin k0_t4_loop.trips) (c8_i32_1836 : BitVec 32) : Fin 3 → Nat :=
  let c7_1837 : Index := 7#32
  let c0_i32_407 : BitVec 32 := 0#32
  let c1_i32_409 : BitVec 32 := 1#32
  let arg15 : BitVec 32 := Scf.iv c0_i32_407 c1_i32_409 k0_t4
  let c32_i32 : BitVec 32 := 32#32
  let v2403 : BitVec 32 := Scalar.muli arg15 c32_i32
  let v2404 : BitVec 32 := v2403
  let v2426 : BitVec 32 := Scalar.addi v2404 c8_i32_1836
  let v2427 : Index := Scalar.indexCast v2426
  let c128_1838 : Index := 128#32
  ![7, v2427.toNat, 128]
def k0_off30 (k0_t4 : Fin k0_t4_loop.trips) (c8_i32_1848 : BitVec 32) : Fin 3 → Nat :=
  let c6_1849 : Index := 6#32
  let c0_i32_407 : BitVec 32 := 0#32
  let c1_i32_409 : BitVec 32 := 1#32
  let arg15 : BitVec 32 := Scf.iv c0_i32_407 c1_i32_409 k0_t4
  let c32_i32 : BitVec 32 := 32#32
  let v2403 : BitVec 32 := Scalar.muli arg15 c32_i32
  let v2404 : BitVec 32 := v2403
  let v2458 : BitVec 32 := Scalar.addi v2404 c8_i32_1848
  let v2459 : Index := Scalar.indexCast v2458
  let c128_1850 : Index := 128#32
  ![6, v2459.toNat, 128]
def k0_off31 (k0_t4 : Fin k0_t4_loop.trips) (c8_i32_1860 : BitVec 32) : Fin 3 → Nat :=
  let c5_1861 : Index := 5#32
  let c0_i32_407 : BitVec 32 := 0#32
  let c1_i32_409 : BitVec 32 := 1#32
  let arg15 : BitVec 32 := Scf.iv c0_i32_407 c1_i32_409 k0_t4
  let c32_i32 : BitVec 32 := 32#32
  let v2403 : BitVec 32 := Scalar.muli arg15 c32_i32
  let v2404 : BitVec 32 := v2403
  let v2490 : BitVec 32 := Scalar.addi v2404 c8_i32_1860
  let v2491 : Index := Scalar.indexCast v2490
  let c128_1862 : Index := 128#32
  ![5, v2491.toNat, 128]
def k0_off32 (k0_t4 : Fin k0_t4_loop.trips) (c8_i32_1872 : BitVec 32) : Fin 3 → Nat :=
  let c4_1873 : Index := 4#32
  let c0_i32_407 : BitVec 32 := 0#32
  let c1_i32_409 : BitVec 32 := 1#32
  let arg15 : BitVec 32 := Scf.iv c0_i32_407 c1_i32_409 k0_t4
  let c32_i32 : BitVec 32 := 32#32
  let v2403 : BitVec 32 := Scalar.muli arg15 c32_i32
  let v2404 : BitVec 32 := v2403
  let v2522 : BitVec 32 := Scalar.addi v2404 c8_i32_1872
  let v2523 : Index := Scalar.indexCast v2522
  let c128_1874 : Index := 128#32
  ![4, v2523.toNat, 128]
def k0_off33 (k0_t4 : Fin k0_t4_loop.trips) (c8_i32_1884 : BitVec 32) : Fin 3 → Nat :=
  let c3_1885 : Index := 3#32
  let c0_i32_407 : BitVec 32 := 0#32
  let c1_i32_409 : BitVec 32 := 1#32
  let arg15 : BitVec 32 := Scf.iv c0_i32_407 c1_i32_409 k0_t4
  let c32_i32 : BitVec 32 := 32#32
  let v2403 : BitVec 32 := Scalar.muli arg15 c32_i32
  let v2404 : BitVec 32 := v2403
  let v2554 : BitVec 32 := Scalar.addi v2404 c8_i32_1884
  let v2555 : Index := Scalar.indexCast v2554
  let c128_1886 : Index := 128#32
  ![3, v2555.toNat, 128]
def k0_off34 (k0_t4 : Fin k0_t4_loop.trips) (c8_i32_1896 : BitVec 32) : Fin 3 → Nat :=
  let c2_1897 : Index := 2#32
  let c0_i32_407 : BitVec 32 := 0#32
  let c1_i32_409 : BitVec 32 := 1#32
  let arg15 : BitVec 32 := Scf.iv c0_i32_407 c1_i32_409 k0_t4
  let c32_i32 : BitVec 32 := 32#32
  let v2403 : BitVec 32 := Scalar.muli arg15 c32_i32
  let v2404 : BitVec 32 := v2403
  let v2586 : BitVec 32 := Scalar.addi v2404 c8_i32_1896
  let v2587 : Index := Scalar.indexCast v2586
  let c128_1898 : Index := 128#32
  ![2, v2587.toNat, 128]
def k0_off35 (k0_t4 : Fin k0_t4_loop.trips) (c8_i32_1908 : BitVec 32) : Fin 3 → Nat :=
  let c1_1909 : Index := 1#32
  let c0_i32_407 : BitVec 32 := 0#32
  let c1_i32_409 : BitVec 32 := 1#32
  let arg15 : BitVec 32 := Scf.iv c0_i32_407 c1_i32_409 k0_t4
  let c32_i32 : BitVec 32 := 32#32
  let v2403 : BitVec 32 := Scalar.muli arg15 c32_i32
  let v2404 : BitVec 32 := v2403
  let v2618 : BitVec 32 := Scalar.addi v2404 c8_i32_1908
  let v2619 : Index := Scalar.indexCast v2618
  let c128_1910 : Index := 128#32
  ![1, v2619.toNat, 128]
def k0_off36 (k0_t4 : Fin k0_t4_loop.trips) (c8_i32_1920 : BitVec 32) : Fin 3 → Nat :=
  let c0_1921 : Index := 0#32
  let c0_i32_407 : BitVec 32 := 0#32
  let c1_i32_409 : BitVec 32 := 1#32
  let arg15 : BitVec 32 := Scf.iv c0_i32_407 c1_i32_409 k0_t4
  let c32_i32 : BitVec 32 := 32#32
  let v2403 : BitVec 32 := Scalar.muli arg15 c32_i32
  let v2404 : BitVec 32 := v2403
  let v2650 : BitVec 32 := Scalar.addi v2404 c8_i32_1920
  let v2651 : Index := Scalar.indexCast v2650
  let c128_1922 : Index := 128#32
  ![0, v2651.toNat, 128]
@[reducible] def k0_t5_loop : Scf.Loop 32 :=
  let c0_i32_519 : BitVec 32 := 0#32
  let c16_i32_520 : BitVec 32 := 16#32
  let v769 : BitVec 32 := Scalar.addi c0_i32_519 c16_i32_520
  let c1_i32_521 : BitVec 32 := 1#32
  ⟨c0_i32_519, v769, c1_i32_521⟩
def k0_mult5 (k0_t5 : Fin k0_t5_loop.trips) : BitVec 32 :=
  let c0_i32_519 : BitVec 32 := 0#32
  let c1_i32_521 : BitVec 32 := 1#32
  let arg15 : BitVec 32 := Scf.iv c0_i32_519 c1_i32_521 k0_t5
  let c32_i32 : BitVec 32 := 32#32
  let v2403 : BitVec 32 := Scalar.muli arg15 c32_i32
  v2403
def k0_off37 (k0_t5 : Fin k0_t5_loop.trips) (c0_i32_1826 : BitVec 32) : Fin 2 → Nat :=
  let c0_i32_519 : BitVec 32 := 0#32
  let c1_i32_521 : BitVec 32 := 1#32
  let arg15 : BitVec 32 := Scf.iv c0_i32_519 c1_i32_521 k0_t5
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c256_1827 : Index := 256#32
  ![v2407.toNat, 256]
def k0_off38 (k0_t5 : Fin k0_t5_loop.trips) (c24_i32_1832 : BitVec 32) : Fin 3 → Nat :=
  let c6_1833 : Index := 6#32
  let c0_i32_519 : BitVec 32 := 0#32
  let c1_i32_521 : BitVec 32 := 1#32
  let arg15 : BitVec 32 := Scf.iv c0_i32_519 c1_i32_521 k0_t5
  let c32_i32 : BitVec 32 := 32#32
  let v2403 : BitVec 32 := Scalar.muli arg15 c32_i32
  let v2404 : BitVec 32 := v2403
  let v2418 : BitVec 32 := Scalar.addi v2404 c24_i32_1832
  let v2419 : Index := Scalar.indexCast v2418
  let c256_1834 : Index := 256#32
  ![6, v2419.toNat, 256]
def k0_off39 (k0_t5 : Fin k0_t5_loop.trips) (c24_i32_1842 : BitVec 32) : Fin 3 → Nat :=
  let c5_1843 : Index := 5#32
  let c0_i32_519 : BitVec 32 := 0#32
  let c1_i32_521 : BitVec 32 := 1#32
  let arg15 : BitVec 32 := Scf.iv c0_i32_519 c1_i32_521 k0_t5
  let c32_i32 : BitVec 32 := 32#32
  let v2403 : BitVec 32 := Scalar.muli arg15 c32_i32
  let v2404 : BitVec 32 := v2403
  let v2450 : BitVec 32 := Scalar.addi v2404 c24_i32_1842
  let v2451 : Index := Scalar.indexCast v2450
  let c256_1844 : Index := 256#32
  ![5, v2451.toNat, 256]
def k0_off40 (k0_t5 : Fin k0_t5_loop.trips) (c24_i32_1854 : BitVec 32) : Fin 3 → Nat :=
  let c4_1855 : Index := 4#32
  let c0_i32_519 : BitVec 32 := 0#32
  let c1_i32_521 : BitVec 32 := 1#32
  let arg15 : BitVec 32 := Scf.iv c0_i32_519 c1_i32_521 k0_t5
  let c32_i32 : BitVec 32 := 32#32
  let v2403 : BitVec 32 := Scalar.muli arg15 c32_i32
  let v2404 : BitVec 32 := v2403
  let v2482 : BitVec 32 := Scalar.addi v2404 c24_i32_1854
  let v2483 : Index := Scalar.indexCast v2482
  let c256_1856 : Index := 256#32
  ![4, v2483.toNat, 256]
def k0_off41 (k0_t5 : Fin k0_t5_loop.trips) (c24_i32_1866 : BitVec 32) : Fin 3 → Nat :=
  let c3_1867 : Index := 3#32
  let c0_i32_519 : BitVec 32 := 0#32
  let c1_i32_521 : BitVec 32 := 1#32
  let arg15 : BitVec 32 := Scf.iv c0_i32_519 c1_i32_521 k0_t5
  let c32_i32 : BitVec 32 := 32#32
  let v2403 : BitVec 32 := Scalar.muli arg15 c32_i32
  let v2404 : BitVec 32 := v2403
  let v2514 : BitVec 32 := Scalar.addi v2404 c24_i32_1866
  let v2515 : Index := Scalar.indexCast v2514
  let c256_1868 : Index := 256#32
  ![3, v2515.toNat, 256]
def k0_off42 (k0_t5 : Fin k0_t5_loop.trips) (c24_i32_1878 : BitVec 32) : Fin 3 → Nat :=
  let c2_1879 : Index := 2#32
  let c0_i32_519 : BitVec 32 := 0#32
  let c1_i32_521 : BitVec 32 := 1#32
  let arg15 : BitVec 32 := Scf.iv c0_i32_519 c1_i32_521 k0_t5
  let c32_i32 : BitVec 32 := 32#32
  let v2403 : BitVec 32 := Scalar.muli arg15 c32_i32
  let v2404 : BitVec 32 := v2403
  let v2546 : BitVec 32 := Scalar.addi v2404 c24_i32_1878
  let v2547 : Index := Scalar.indexCast v2546
  let c256_1880 : Index := 256#32
  ![2, v2547.toNat, 256]
def k0_off43 (k0_t5 : Fin k0_t5_loop.trips) (c24_i32_1890 : BitVec 32) : Fin 3 → Nat :=
  let c1_1891 : Index := 1#32
  let c0_i32_519 : BitVec 32 := 0#32
  let c1_i32_521 : BitVec 32 := 1#32
  let arg15 : BitVec 32 := Scf.iv c0_i32_519 c1_i32_521 k0_t5
  let c32_i32 : BitVec 32 := 32#32
  let v2403 : BitVec 32 := Scalar.muli arg15 c32_i32
  let v2404 : BitVec 32 := v2403
  let v2578 : BitVec 32 := Scalar.addi v2404 c24_i32_1890
  let v2579 : Index := Scalar.indexCast v2578
  let c256_1892 : Index := 256#32
  ![1, v2579.toNat, 256]
def k0_off44 (k0_t5 : Fin k0_t5_loop.trips) (c24_i32_1902 : BitVec 32) : Fin 3 → Nat :=
  let c0_1903 : Index := 0#32
  let c0_i32_519 : BitVec 32 := 0#32
  let c1_i32_521 : BitVec 32 := 1#32
  let arg15 : BitVec 32 := Scf.iv c0_i32_519 c1_i32_521 k0_t5
  let c32_i32 : BitVec 32 := 32#32
  let v2403 : BitVec 32 := Scalar.muli arg15 c32_i32
  let v2404 : BitVec 32 := v2403
  let v2610 : BitVec 32 := Scalar.addi v2404 c24_i32_1902
  let v2611 : Index := Scalar.indexCast v2610
  let c256_1904 : Index := 256#32
  ![0, v2611.toNat, 256]
def k0_off45 (k0_t5 : Fin k0_t5_loop.trips) (c16_i32_1914 : BitVec 32) : Fin 3 → Nat :=
  let c7_1915 : Index := 7#32
  let c0_i32_519 : BitVec 32 := 0#32
  let c1_i32_521 : BitVec 32 := 1#32
  let arg15 : BitVec 32 := Scf.iv c0_i32_519 c1_i32_521 k0_t5
  let c32_i32 : BitVec 32 := 32#32
  let v2403 : BitVec 32 := Scalar.muli arg15 c32_i32
  let v2404 : BitVec 32 := v2403
  let v2642 : BitVec 32 := Scalar.addi v2404 c16_i32_1914
  let v2643 : Index := Scalar.indexCast v2642
  let c256_1916 : Index := 256#32
  ![7, v2643.toNat, 256]
@[reducible] def k0_t6_loop : Scf.Loop 32 :=
  let c0_i32_631 : BitVec 32 := 0#32
  let c16_i32_632 : BitVec 32 := 16#32
  let v911 : BitVec 32 := Scalar.addi c0_i32_631 c16_i32_632
  let c1_i32_633 : BitVec 32 := 1#32
  ⟨c0_i32_631, v911, c1_i32_633⟩
def k0_mult6 (k0_t6 : Fin k0_t6_loop.trips) : BitVec 32 :=
  let c0_i32_631 : BitVec 32 := 0#32
  let c1_i32_633 : BitVec 32 := 1#32
  let arg15 : BitVec 32 := Scf.iv c0_i32_631 c1_i32_633 k0_t6
  let c32_i32 : BitVec 32 := 32#32
  let v2403 : BitVec 32 := Scalar.muli arg15 c32_i32
  v2403
def k0_off46 (k0_t6 : Fin k0_t6_loop.trips) (c0_i32_1826 : BitVec 32) : Fin 2 → Nat :=
  let c0_i32_631 : BitVec 32 := 0#32
  let c1_i32_633 : BitVec 32 := 1#32
  let arg15 : BitVec 32 := Scf.iv c0_i32_631 c1_i32_633 k0_t6
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c256_1827 : Index := 256#32
  ![v2407.toNat, 256]
def k0_off47 (k0_t6 : Fin k0_t6_loop.trips) (c8_i32_1836 : BitVec 32) : Fin 3 → Nat :=
  let c7_1837 : Index := 7#32
  let c0_i32_631 : BitVec 32 := 0#32
  let c1_i32_633 : BitVec 32 := 1#32
  let arg15 : BitVec 32 := Scf.iv c0_i32_631 c1_i32_633 k0_t6
  let c32_i32 : BitVec 32 := 32#32
  let v2403 : BitVec 32 := Scalar.muli arg15 c32_i32
  let v2404 : BitVec 32 := v2403
  let v2426 : BitVec 32 := Scalar.addi v2404 c8_i32_1836
  let v2427 : Index := Scalar.indexCast v2426
  let c256_1838 : Index := 256#32
  ![7, v2427.toNat, 256]
def k0_off48 (k0_t6 : Fin k0_t6_loop.trips) (c8_i32_1848 : BitVec 32) : Fin 3 → Nat :=
  let c6_1849 : Index := 6#32
  let c0_i32_631 : BitVec 32 := 0#32
  let c1_i32_633 : BitVec 32 := 1#32
  let arg15 : BitVec 32 := Scf.iv c0_i32_631 c1_i32_633 k0_t6
  let c32_i32 : BitVec 32 := 32#32
  let v2403 : BitVec 32 := Scalar.muli arg15 c32_i32
  let v2404 : BitVec 32 := v2403
  let v2458 : BitVec 32 := Scalar.addi v2404 c8_i32_1848
  let v2459 : Index := Scalar.indexCast v2458
  let c256_1850 : Index := 256#32
  ![6, v2459.toNat, 256]
def k0_off49 (k0_t6 : Fin k0_t6_loop.trips) (c8_i32_1860 : BitVec 32) : Fin 3 → Nat :=
  let c5_1861 : Index := 5#32
  let c0_i32_631 : BitVec 32 := 0#32
  let c1_i32_633 : BitVec 32 := 1#32
  let arg15 : BitVec 32 := Scf.iv c0_i32_631 c1_i32_633 k0_t6
  let c32_i32 : BitVec 32 := 32#32
  let v2403 : BitVec 32 := Scalar.muli arg15 c32_i32
  let v2404 : BitVec 32 := v2403
  let v2490 : BitVec 32 := Scalar.addi v2404 c8_i32_1860
  let v2491 : Index := Scalar.indexCast v2490
  let c256_1862 : Index := 256#32
  ![5, v2491.toNat, 256]
def k0_off50 (k0_t6 : Fin k0_t6_loop.trips) (c8_i32_1872 : BitVec 32) : Fin 3 → Nat :=
  let c4_1873 : Index := 4#32
  let c0_i32_631 : BitVec 32 := 0#32
  let c1_i32_633 : BitVec 32 := 1#32
  let arg15 : BitVec 32 := Scf.iv c0_i32_631 c1_i32_633 k0_t6
  let c32_i32 : BitVec 32 := 32#32
  let v2403 : BitVec 32 := Scalar.muli arg15 c32_i32
  let v2404 : BitVec 32 := v2403
  let v2522 : BitVec 32 := Scalar.addi v2404 c8_i32_1872
  let v2523 : Index := Scalar.indexCast v2522
  let c256_1874 : Index := 256#32
  ![4, v2523.toNat, 256]
def k0_off51 (k0_t6 : Fin k0_t6_loop.trips) (c8_i32_1884 : BitVec 32) : Fin 3 → Nat :=
  let c3_1885 : Index := 3#32
  let c0_i32_631 : BitVec 32 := 0#32
  let c1_i32_633 : BitVec 32 := 1#32
  let arg15 : BitVec 32 := Scf.iv c0_i32_631 c1_i32_633 k0_t6
  let c32_i32 : BitVec 32 := 32#32
  let v2403 : BitVec 32 := Scalar.muli arg15 c32_i32
  let v2404 : BitVec 32 := v2403
  let v2554 : BitVec 32 := Scalar.addi v2404 c8_i32_1884
  let v2555 : Index := Scalar.indexCast v2554
  let c256_1886 : Index := 256#32
  ![3, v2555.toNat, 256]
def k0_off52 (k0_t6 : Fin k0_t6_loop.trips) (c8_i32_1896 : BitVec 32) : Fin 3 → Nat :=
  let c2_1897 : Index := 2#32
  let c0_i32_631 : BitVec 32 := 0#32
  let c1_i32_633 : BitVec 32 := 1#32
  let arg15 : BitVec 32 := Scf.iv c0_i32_631 c1_i32_633 k0_t6
  let c32_i32 : BitVec 32 := 32#32
  let v2403 : BitVec 32 := Scalar.muli arg15 c32_i32
  let v2404 : BitVec 32 := v2403
  let v2586 : BitVec 32 := Scalar.addi v2404 c8_i32_1896
  let v2587 : Index := Scalar.indexCast v2586
  let c256_1898 : Index := 256#32
  ![2, v2587.toNat, 256]
def k0_off53 (k0_t6 : Fin k0_t6_loop.trips) (c8_i32_1908 : BitVec 32) : Fin 3 → Nat :=
  let c1_1909 : Index := 1#32
  let c0_i32_631 : BitVec 32 := 0#32
  let c1_i32_633 : BitVec 32 := 1#32
  let arg15 : BitVec 32 := Scf.iv c0_i32_631 c1_i32_633 k0_t6
  let c32_i32 : BitVec 32 := 32#32
  let v2403 : BitVec 32 := Scalar.muli arg15 c32_i32
  let v2404 : BitVec 32 := v2403
  let v2618 : BitVec 32 := Scalar.addi v2404 c8_i32_1908
  let v2619 : Index := Scalar.indexCast v2618
  let c256_1910 : Index := 256#32
  ![1, v2619.toNat, 256]
def k0_off54 (k0_t6 : Fin k0_t6_loop.trips) (c8_i32_1920 : BitVec 32) : Fin 3 → Nat :=
  let c0_1921 : Index := 0#32
  let c0_i32_631 : BitVec 32 := 0#32
  let c1_i32_633 : BitVec 32 := 1#32
  let arg15 : BitVec 32 := Scf.iv c0_i32_631 c1_i32_633 k0_t6
  let c32_i32 : BitVec 32 := 32#32
  let v2403 : BitVec 32 := Scalar.muli arg15 c32_i32
  let v2404 : BitVec 32 := v2403
  let v2650 : BitVec 32 := Scalar.addi v2404 c8_i32_1920
  let v2651 : Index := Scalar.indexCast v2650
  let c256_1922 : Index := 256#32
  ![0, v2651.toNat, 256]
@[reducible] def k0_t7_loop : Scf.Loop 32 :=
  let c0_i32_743 : BitVec 32 := 0#32
  let c16_i32_744 : BitVec 32 := 16#32
  let v1052 : BitVec 32 := Scalar.addi c0_i32_743 c16_i32_744
  let c1_i32_745 : BitVec 32 := 1#32
  ⟨c0_i32_743, v1052, c1_i32_745⟩
def k0_mult7 (k0_t7 : Fin k0_t7_loop.trips) : BitVec 32 :=
  let c0_i32_743 : BitVec 32 := 0#32
  let c1_i32_745 : BitVec 32 := 1#32
  let arg15 : BitVec 32 := Scf.iv c0_i32_743 c1_i32_745 k0_t7
  let c32_i32 : BitVec 32 := 32#32
  let v2403 : BitVec 32 := Scalar.muli arg15 c32_i32
  v2403
def k0_off55 (k0_t7 : Fin k0_t7_loop.trips) (c0_i32_1826 : BitVec 32) : Fin 2 → Nat :=
  let c0_i32_743 : BitVec 32 := 0#32
  let c1_i32_745 : BitVec 32 := 1#32
  let arg15 : BitVec 32 := Scf.iv c0_i32_743 c1_i32_745 k0_t7
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c384_1827 : Index := 384#32
  ![v2407.toNat, 384]
def k0_off56 (k0_t7 : Fin k0_t7_loop.trips) (c24_i32_1832 : BitVec 32) : Fin 3 → Nat :=
  let c6_1833 : Index := 6#32
  let c0_i32_743 : BitVec 32 := 0#32
  let c1_i32_745 : BitVec 32 := 1#32
  let arg15 : BitVec 32 := Scf.iv c0_i32_743 c1_i32_745 k0_t7
  let c32_i32 : BitVec 32 := 32#32
  let v2403 : BitVec 32 := Scalar.muli arg15 c32_i32
  let v2404 : BitVec 32 := v2403
  let v2418 : BitVec 32 := Scalar.addi v2404 c24_i32_1832
  let v2419 : Index := Scalar.indexCast v2418
  let c384_1834 : Index := 384#32
  ![6, v2419.toNat, 384]
def k0_off57 (k0_t7 : Fin k0_t7_loop.trips) (c24_i32_1842 : BitVec 32) : Fin 3 → Nat :=
  let c5_1843 : Index := 5#32
  let c0_i32_743 : BitVec 32 := 0#32
  let c1_i32_745 : BitVec 32 := 1#32
  let arg15 : BitVec 32 := Scf.iv c0_i32_743 c1_i32_745 k0_t7
  let c32_i32 : BitVec 32 := 32#32
  let v2403 : BitVec 32 := Scalar.muli arg15 c32_i32
  let v2404 : BitVec 32 := v2403
  let v2450 : BitVec 32 := Scalar.addi v2404 c24_i32_1842
  let v2451 : Index := Scalar.indexCast v2450
  let c384_1844 : Index := 384#32
  ![5, v2451.toNat, 384]
def k0_off58 (k0_t7 : Fin k0_t7_loop.trips) (c24_i32_1854 : BitVec 32) : Fin 3 → Nat :=
  let c4_1855 : Index := 4#32
  let c0_i32_743 : BitVec 32 := 0#32
  let c1_i32_745 : BitVec 32 := 1#32
  let arg15 : BitVec 32 := Scf.iv c0_i32_743 c1_i32_745 k0_t7
  let c32_i32 : BitVec 32 := 32#32
  let v2403 : BitVec 32 := Scalar.muli arg15 c32_i32
  let v2404 : BitVec 32 := v2403
  let v2482 : BitVec 32 := Scalar.addi v2404 c24_i32_1854
  let v2483 : Index := Scalar.indexCast v2482
  let c384_1856 : Index := 384#32
  ![4, v2483.toNat, 384]
def k0_off59 (k0_t7 : Fin k0_t7_loop.trips) (c24_i32_1866 : BitVec 32) : Fin 3 → Nat :=
  let c3_1867 : Index := 3#32
  let c0_i32_743 : BitVec 32 := 0#32
  let c1_i32_745 : BitVec 32 := 1#32
  let arg15 : BitVec 32 := Scf.iv c0_i32_743 c1_i32_745 k0_t7
  let c32_i32 : BitVec 32 := 32#32
  let v2403 : BitVec 32 := Scalar.muli arg15 c32_i32
  let v2404 : BitVec 32 := v2403
  let v2514 : BitVec 32 := Scalar.addi v2404 c24_i32_1866
  let v2515 : Index := Scalar.indexCast v2514
  let c384_1868 : Index := 384#32
  ![3, v2515.toNat, 384]
def k0_off60 (k0_t7 : Fin k0_t7_loop.trips) (c24_i32_1878 : BitVec 32) : Fin 3 → Nat :=
  let c2_1879 : Index := 2#32
  let c0_i32_743 : BitVec 32 := 0#32
  let c1_i32_745 : BitVec 32 := 1#32
  let arg15 : BitVec 32 := Scf.iv c0_i32_743 c1_i32_745 k0_t7
  let c32_i32 : BitVec 32 := 32#32
  let v2403 : BitVec 32 := Scalar.muli arg15 c32_i32
  let v2404 : BitVec 32 := v2403
  let v2546 : BitVec 32 := Scalar.addi v2404 c24_i32_1878
  let v2547 : Index := Scalar.indexCast v2546
  let c384_1880 : Index := 384#32
  ![2, v2547.toNat, 384]
def k0_off61 (k0_t7 : Fin k0_t7_loop.trips) (c24_i32_1890 : BitVec 32) : Fin 3 → Nat :=
  let c1_1891 : Index := 1#32
  let c0_i32_743 : BitVec 32 := 0#32
  let c1_i32_745 : BitVec 32 := 1#32
  let arg15 : BitVec 32 := Scf.iv c0_i32_743 c1_i32_745 k0_t7
  let c32_i32 : BitVec 32 := 32#32
  let v2403 : BitVec 32 := Scalar.muli arg15 c32_i32
  let v2404 : BitVec 32 := v2403
  let v2578 : BitVec 32 := Scalar.addi v2404 c24_i32_1890
  let v2579 : Index := Scalar.indexCast v2578
  let c384_1892 : Index := 384#32
  ![1, v2579.toNat, 384]
def k0_off62 (k0_t7 : Fin k0_t7_loop.trips) (c24_i32_1902 : BitVec 32) : Fin 3 → Nat :=
  let c0_1903 : Index := 0#32
  let c0_i32_743 : BitVec 32 := 0#32
  let c1_i32_745 : BitVec 32 := 1#32
  let arg15 : BitVec 32 := Scf.iv c0_i32_743 c1_i32_745 k0_t7
  let c32_i32 : BitVec 32 := 32#32
  let v2403 : BitVec 32 := Scalar.muli arg15 c32_i32
  let v2404 : BitVec 32 := v2403
  let v2610 : BitVec 32 := Scalar.addi v2404 c24_i32_1902
  let v2611 : Index := Scalar.indexCast v2610
  let c384_1904 : Index := 384#32
  ![0, v2611.toNat, 384]
def k0_off63 (k0_t7 : Fin k0_t7_loop.trips) (c16_i32_1914 : BitVec 32) : Fin 3 → Nat :=
  let c7_1915 : Index := 7#32
  let c0_i32_743 : BitVec 32 := 0#32
  let c1_i32_745 : BitVec 32 := 1#32
  let arg15 : BitVec 32 := Scf.iv c0_i32_743 c1_i32_745 k0_t7
  let c32_i32 : BitVec 32 := 32#32
  let v2403 : BitVec 32 := Scalar.muli arg15 c32_i32
  let v2404 : BitVec 32 := v2403
  let v2642 : BitVec 32 := Scalar.addi v2404 c16_i32_1914
  let v2643 : Index := Scalar.indexCast v2642
  let c384_1916 : Index := 384#32
  ![7, v2643.toNat, 384]
@[reducible] def k0_t8_loop : Scf.Loop 32 :=
  let c0_i32_855 : BitVec 32 := 0#32
  let c16_i32_856 : BitVec 32 := 16#32
  let v1194 : BitVec 32 := Scalar.addi c0_i32_855 c16_i32_856
  let c1_i32_857 : BitVec 32 := 1#32
  ⟨c0_i32_855, v1194, c1_i32_857⟩
def k0_mult8 (k0_t8 : Fin k0_t8_loop.trips) : BitVec 32 :=
  let c0_i32_855 : BitVec 32 := 0#32
  let c1_i32_857 : BitVec 32 := 1#32
  let arg15 : BitVec 32 := Scf.iv c0_i32_855 c1_i32_857 k0_t8
  let c32_i32 : BitVec 32 := 32#32
  let v2403 : BitVec 32 := Scalar.muli arg15 c32_i32
  v2403
def k0_off64 (k0_t8 : Fin k0_t8_loop.trips) (c0_i32_1826 : BitVec 32) : Fin 2 → Nat :=
  let c0_i32_855 : BitVec 32 := 0#32
  let c1_i32_857 : BitVec 32 := 1#32
  let arg15 : BitVec 32 := Scf.iv c0_i32_855 c1_i32_857 k0_t8
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c384_1827 : Index := 384#32
  ![v2407.toNat, 384]
def k0_off65 (k0_t8 : Fin k0_t8_loop.trips) (c8_i32_1836 : BitVec 32) : Fin 3 → Nat :=
  let c7_1837 : Index := 7#32
  let c0_i32_855 : BitVec 32 := 0#32
  let c1_i32_857 : BitVec 32 := 1#32
  let arg15 : BitVec 32 := Scf.iv c0_i32_855 c1_i32_857 k0_t8
  let c32_i32 : BitVec 32 := 32#32
  let v2403 : BitVec 32 := Scalar.muli arg15 c32_i32
  let v2404 : BitVec 32 := v2403
  let v2426 : BitVec 32 := Scalar.addi v2404 c8_i32_1836
  let v2427 : Index := Scalar.indexCast v2426
  let c384_1838 : Index := 384#32
  ![7, v2427.toNat, 384]
def k0_off66 (k0_t8 : Fin k0_t8_loop.trips) (c8_i32_1848 : BitVec 32) : Fin 3 → Nat :=
  let c6_1849 : Index := 6#32
  let c0_i32_855 : BitVec 32 := 0#32
  let c1_i32_857 : BitVec 32 := 1#32
  let arg15 : BitVec 32 := Scf.iv c0_i32_855 c1_i32_857 k0_t8
  let c32_i32 : BitVec 32 := 32#32
  let v2403 : BitVec 32 := Scalar.muli arg15 c32_i32
  let v2404 : BitVec 32 := v2403
  let v2458 : BitVec 32 := Scalar.addi v2404 c8_i32_1848
  let v2459 : Index := Scalar.indexCast v2458
  let c384_1850 : Index := 384#32
  ![6, v2459.toNat, 384]
def k0_off67 (k0_t8 : Fin k0_t8_loop.trips) (c8_i32_1860 : BitVec 32) : Fin 3 → Nat :=
  let c5_1861 : Index := 5#32
  let c0_i32_855 : BitVec 32 := 0#32
  let c1_i32_857 : BitVec 32 := 1#32
  let arg15 : BitVec 32 := Scf.iv c0_i32_855 c1_i32_857 k0_t8
  let c32_i32 : BitVec 32 := 32#32
  let v2403 : BitVec 32 := Scalar.muli arg15 c32_i32
  let v2404 : BitVec 32 := v2403
  let v2490 : BitVec 32 := Scalar.addi v2404 c8_i32_1860
  let v2491 : Index := Scalar.indexCast v2490
  let c384_1862 : Index := 384#32
  ![5, v2491.toNat, 384]
def k0_off68 (k0_t8 : Fin k0_t8_loop.trips) (c8_i32_1872 : BitVec 32) : Fin 3 → Nat :=
  let c4_1873 : Index := 4#32
  let c0_i32_855 : BitVec 32 := 0#32
  let c1_i32_857 : BitVec 32 := 1#32
  let arg15 : BitVec 32 := Scf.iv c0_i32_855 c1_i32_857 k0_t8
  let c32_i32 : BitVec 32 := 32#32
  let v2403 : BitVec 32 := Scalar.muli arg15 c32_i32
  let v2404 : BitVec 32 := v2403
  let v2522 : BitVec 32 := Scalar.addi v2404 c8_i32_1872
  let v2523 : Index := Scalar.indexCast v2522
  let c384_1874 : Index := 384#32
  ![4, v2523.toNat, 384]
def k0_off69 (k0_t8 : Fin k0_t8_loop.trips) (c8_i32_1884 : BitVec 32) : Fin 3 → Nat :=
  let c3_1885 : Index := 3#32
  let c0_i32_855 : BitVec 32 := 0#32
  let c1_i32_857 : BitVec 32 := 1#32
  let arg15 : BitVec 32 := Scf.iv c0_i32_855 c1_i32_857 k0_t8
  let c32_i32 : BitVec 32 := 32#32
  let v2403 : BitVec 32 := Scalar.muli arg15 c32_i32
  let v2404 : BitVec 32 := v2403
  let v2554 : BitVec 32 := Scalar.addi v2404 c8_i32_1884
  let v2555 : Index := Scalar.indexCast v2554
  let c384_1886 : Index := 384#32
  ![3, v2555.toNat, 384]
def k0_off70 (k0_t8 : Fin k0_t8_loop.trips) (c8_i32_1896 : BitVec 32) : Fin 3 → Nat :=
  let c2_1897 : Index := 2#32
  let c0_i32_855 : BitVec 32 := 0#32
  let c1_i32_857 : BitVec 32 := 1#32
  let arg15 : BitVec 32 := Scf.iv c0_i32_855 c1_i32_857 k0_t8
  let c32_i32 : BitVec 32 := 32#32
  let v2403 : BitVec 32 := Scalar.muli arg15 c32_i32
  let v2404 : BitVec 32 := v2403
  let v2586 : BitVec 32 := Scalar.addi v2404 c8_i32_1896
  let v2587 : Index := Scalar.indexCast v2586
  let c384_1898 : Index := 384#32
  ![2, v2587.toNat, 384]
def k0_off71 (k0_t8 : Fin k0_t8_loop.trips) (c8_i32_1908 : BitVec 32) : Fin 3 → Nat :=
  let c1_1909 : Index := 1#32
  let c0_i32_855 : BitVec 32 := 0#32
  let c1_i32_857 : BitVec 32 := 1#32
  let arg15 : BitVec 32 := Scf.iv c0_i32_855 c1_i32_857 k0_t8
  let c32_i32 : BitVec 32 := 32#32
  let v2403 : BitVec 32 := Scalar.muli arg15 c32_i32
  let v2404 : BitVec 32 := v2403
  let v2618 : BitVec 32 := Scalar.addi v2404 c8_i32_1908
  let v2619 : Index := Scalar.indexCast v2618
  let c384_1910 : Index := 384#32
  ![1, v2619.toNat, 384]
def k0_off72 (k0_t8 : Fin k0_t8_loop.trips) (c8_i32_1920 : BitVec 32) : Fin 3 → Nat :=
  let c0_1921 : Index := 0#32
  let c0_i32_855 : BitVec 32 := 0#32
  let c1_i32_857 : BitVec 32 := 1#32
  let arg15 : BitVec 32 := Scf.iv c0_i32_855 c1_i32_857 k0_t8
  let c32_i32 : BitVec 32 := 32#32
  let v2403 : BitVec 32 := Scalar.muli arg15 c32_i32
  let v2404 : BitVec 32 := v2403
  let v2650 : BitVec 32 := Scalar.addi v2404 c8_i32_1920
  let v2651 : Index := Scalar.indexCast v2650
  let c384_1922 : Index := 384#32
  ![0, v2651.toNat, 384]
@[reducible] def k0_t9_loop : Scf.Loop 32 :=
  let c0_i32_967 : BitVec 32 := 0#32
  let c16_i32_968 : BitVec 32 := 16#32
  let v1335 : BitVec 32 := Scalar.addi c0_i32_967 c16_i32_968
  let c1_i32_969 : BitVec 32 := 1#32
  ⟨c0_i32_967, v1335, c1_i32_969⟩
def k0_mult9 (k0_t9 : Fin k0_t9_loop.trips) : BitVec 32 :=
  let c0_i32_967 : BitVec 32 := 0#32
  let c1_i32_969 : BitVec 32 := 1#32
  let arg15 : BitVec 32 := Scf.iv c0_i32_967 c1_i32_969 k0_t9
  let c32_i32 : BitVec 32 := 32#32
  let v2403 : BitVec 32 := Scalar.muli arg15 c32_i32
  v2403
def k0_off73 (k0_t9 : Fin k0_t9_loop.trips) (c0_i32_1826 : BitVec 32) : Fin 2 → Nat :=
  let c0_i32_967 : BitVec 32 := 0#32
  let c1_i32_969 : BitVec 32 := 1#32
  let arg15 : BitVec 32 := Scf.iv c0_i32_967 c1_i32_969 k0_t9
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c512_1827 : Index := 512#32
  ![v2407.toNat, 512]
def k0_off74 (k0_t9 : Fin k0_t9_loop.trips) (c24_i32_1832 : BitVec 32) : Fin 3 → Nat :=
  let c6_1833 : Index := 6#32
  let c0_i32_967 : BitVec 32 := 0#32
  let c1_i32_969 : BitVec 32 := 1#32
  let arg15 : BitVec 32 := Scf.iv c0_i32_967 c1_i32_969 k0_t9
  let c32_i32 : BitVec 32 := 32#32
  let v2403 : BitVec 32 := Scalar.muli arg15 c32_i32
  let v2404 : BitVec 32 := v2403
  let v2418 : BitVec 32 := Scalar.addi v2404 c24_i32_1832
  let v2419 : Index := Scalar.indexCast v2418
  let c512_1834 : Index := 512#32
  ![6, v2419.toNat, 512]
def k0_off75 (k0_t9 : Fin k0_t9_loop.trips) (c24_i32_1842 : BitVec 32) : Fin 3 → Nat :=
  let c5_1843 : Index := 5#32
  let c0_i32_967 : BitVec 32 := 0#32
  let c1_i32_969 : BitVec 32 := 1#32
  let arg15 : BitVec 32 := Scf.iv c0_i32_967 c1_i32_969 k0_t9
  let c32_i32 : BitVec 32 := 32#32
  let v2403 : BitVec 32 := Scalar.muli arg15 c32_i32
  let v2404 : BitVec 32 := v2403
  let v2450 : BitVec 32 := Scalar.addi v2404 c24_i32_1842
  let v2451 : Index := Scalar.indexCast v2450
  let c512_1844 : Index := 512#32
  ![5, v2451.toNat, 512]
def k0_off76 (k0_t9 : Fin k0_t9_loop.trips) (c24_i32_1854 : BitVec 32) : Fin 3 → Nat :=
  let c4_1855 : Index := 4#32
  let c0_i32_967 : BitVec 32 := 0#32
  let c1_i32_969 : BitVec 32 := 1#32
  let arg15 : BitVec 32 := Scf.iv c0_i32_967 c1_i32_969 k0_t9
  let c32_i32 : BitVec 32 := 32#32
  let v2403 : BitVec 32 := Scalar.muli arg15 c32_i32
  let v2404 : BitVec 32 := v2403
  let v2482 : BitVec 32 := Scalar.addi v2404 c24_i32_1854
  let v2483 : Index := Scalar.indexCast v2482
  let c512_1856 : Index := 512#32
  ![4, v2483.toNat, 512]
def k0_off77 (k0_t9 : Fin k0_t9_loop.trips) (c24_i32_1866 : BitVec 32) : Fin 3 → Nat :=
  let c3_1867 : Index := 3#32
  let c0_i32_967 : BitVec 32 := 0#32
  let c1_i32_969 : BitVec 32 := 1#32
  let arg15 : BitVec 32 := Scf.iv c0_i32_967 c1_i32_969 k0_t9
  let c32_i32 : BitVec 32 := 32#32
  let v2403 : BitVec 32 := Scalar.muli arg15 c32_i32
  let v2404 : BitVec 32 := v2403
  let v2514 : BitVec 32 := Scalar.addi v2404 c24_i32_1866
  let v2515 : Index := Scalar.indexCast v2514
  let c512_1868 : Index := 512#32
  ![3, v2515.toNat, 512]
def k0_off78 (k0_t9 : Fin k0_t9_loop.trips) (c24_i32_1878 : BitVec 32) : Fin 3 → Nat :=
  let c2_1879 : Index := 2#32
  let c0_i32_967 : BitVec 32 := 0#32
  let c1_i32_969 : BitVec 32 := 1#32
  let arg15 : BitVec 32 := Scf.iv c0_i32_967 c1_i32_969 k0_t9
  let c32_i32 : BitVec 32 := 32#32
  let v2403 : BitVec 32 := Scalar.muli arg15 c32_i32
  let v2404 : BitVec 32 := v2403
  let v2546 : BitVec 32 := Scalar.addi v2404 c24_i32_1878
  let v2547 : Index := Scalar.indexCast v2546
  let c512_1880 : Index := 512#32
  ![2, v2547.toNat, 512]
def k0_off79 (k0_t9 : Fin k0_t9_loop.trips) (c24_i32_1890 : BitVec 32) : Fin 3 → Nat :=
  let c1_1891 : Index := 1#32
  let c0_i32_967 : BitVec 32 := 0#32
  let c1_i32_969 : BitVec 32 := 1#32
  let arg15 : BitVec 32 := Scf.iv c0_i32_967 c1_i32_969 k0_t9
  let c32_i32 : BitVec 32 := 32#32
  let v2403 : BitVec 32 := Scalar.muli arg15 c32_i32
  let v2404 : BitVec 32 := v2403
  let v2578 : BitVec 32 := Scalar.addi v2404 c24_i32_1890
  let v2579 : Index := Scalar.indexCast v2578
  let c512_1892 : Index := 512#32
  ![1, v2579.toNat, 512]
def k0_off80 (k0_t9 : Fin k0_t9_loop.trips) (c24_i32_1902 : BitVec 32) : Fin 3 → Nat :=
  let c0_1903 : Index := 0#32
  let c0_i32_967 : BitVec 32 := 0#32
  let c1_i32_969 : BitVec 32 := 1#32
  let arg15 : BitVec 32 := Scf.iv c0_i32_967 c1_i32_969 k0_t9
  let c32_i32 : BitVec 32 := 32#32
  let v2403 : BitVec 32 := Scalar.muli arg15 c32_i32
  let v2404 : BitVec 32 := v2403
  let v2610 : BitVec 32 := Scalar.addi v2404 c24_i32_1902
  let v2611 : Index := Scalar.indexCast v2610
  let c512_1904 : Index := 512#32
  ![0, v2611.toNat, 512]
def k0_off81 (k0_t9 : Fin k0_t9_loop.trips) (c16_i32_1914 : BitVec 32) : Fin 3 → Nat :=
  let c7_1915 : Index := 7#32
  let c0_i32_967 : BitVec 32 := 0#32
  let c1_i32_969 : BitVec 32 := 1#32
  let arg15 : BitVec 32 := Scf.iv c0_i32_967 c1_i32_969 k0_t9
  let c32_i32 : BitVec 32 := 32#32
  let v2403 : BitVec 32 := Scalar.muli arg15 c32_i32
  let v2404 : BitVec 32 := v2403
  let v2642 : BitVec 32 := Scalar.addi v2404 c16_i32_1914
  let v2643 : Index := Scalar.indexCast v2642
  let c512_1916 : Index := 512#32
  ![7, v2643.toNat, 512]
@[reducible] def k0_t10_loop : Scf.Loop 32 :=
  let c0_i32_1079 : BitVec 32 := 0#32
  let c16_i32_1080 : BitVec 32 := 16#32
  let v1477 : BitVec 32 := Scalar.addi c0_i32_1079 c16_i32_1080
  let c1_i32_1081 : BitVec 32 := 1#32
  ⟨c0_i32_1079, v1477, c1_i32_1081⟩
def k0_mult10 (k0_t10 : Fin k0_t10_loop.trips) : BitVec 32 :=
  let c0_i32_1079 : BitVec 32 := 0#32
  let c1_i32_1081 : BitVec 32 := 1#32
  let arg15 : BitVec 32 := Scf.iv c0_i32_1079 c1_i32_1081 k0_t10
  let c32_i32 : BitVec 32 := 32#32
  let v2403 : BitVec 32 := Scalar.muli arg15 c32_i32
  v2403
def k0_off82 (k0_t10 : Fin k0_t10_loop.trips) (c0_i32_1826 : BitVec 32) : Fin 2 → Nat :=
  let c0_i32_1079 : BitVec 32 := 0#32
  let c1_i32_1081 : BitVec 32 := 1#32
  let arg15 : BitVec 32 := Scf.iv c0_i32_1079 c1_i32_1081 k0_t10
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c512_1827 : Index := 512#32
  ![v2407.toNat, 512]
def k0_off83 (k0_t10 : Fin k0_t10_loop.trips) (c8_i32_1836 : BitVec 32) : Fin 3 → Nat :=
  let c7_1837 : Index := 7#32
  let c0_i32_1079 : BitVec 32 := 0#32
  let c1_i32_1081 : BitVec 32 := 1#32
  let arg15 : BitVec 32 := Scf.iv c0_i32_1079 c1_i32_1081 k0_t10
  let c32_i32 : BitVec 32 := 32#32
  let v2403 : BitVec 32 := Scalar.muli arg15 c32_i32
  let v2404 : BitVec 32 := v2403
  let v2426 : BitVec 32 := Scalar.addi v2404 c8_i32_1836
  let v2427 : Index := Scalar.indexCast v2426
  let c512_1838 : Index := 512#32
  ![7, v2427.toNat, 512]
def k0_off84 (k0_t10 : Fin k0_t10_loop.trips) (c8_i32_1848 : BitVec 32) : Fin 3 → Nat :=
  let c6_1849 : Index := 6#32
  let c0_i32_1079 : BitVec 32 := 0#32
  let c1_i32_1081 : BitVec 32 := 1#32
  let arg15 : BitVec 32 := Scf.iv c0_i32_1079 c1_i32_1081 k0_t10
  let c32_i32 : BitVec 32 := 32#32
  let v2403 : BitVec 32 := Scalar.muli arg15 c32_i32
  let v2404 : BitVec 32 := v2403
  let v2458 : BitVec 32 := Scalar.addi v2404 c8_i32_1848
  let v2459 : Index := Scalar.indexCast v2458
  let c512_1850 : Index := 512#32
  ![6, v2459.toNat, 512]
def k0_off85 (k0_t10 : Fin k0_t10_loop.trips) (c8_i32_1860 : BitVec 32) : Fin 3 → Nat :=
  let c5_1861 : Index := 5#32
  let c0_i32_1079 : BitVec 32 := 0#32
  let c1_i32_1081 : BitVec 32 := 1#32
  let arg15 : BitVec 32 := Scf.iv c0_i32_1079 c1_i32_1081 k0_t10
  let c32_i32 : BitVec 32 := 32#32
  let v2403 : BitVec 32 := Scalar.muli arg15 c32_i32
  let v2404 : BitVec 32 := v2403
  let v2490 : BitVec 32 := Scalar.addi v2404 c8_i32_1860
  let v2491 : Index := Scalar.indexCast v2490
  let c512_1862 : Index := 512#32
  ![5, v2491.toNat, 512]
def k0_off86 (k0_t10 : Fin k0_t10_loop.trips) (c8_i32_1872 : BitVec 32) : Fin 3 → Nat :=
  let c4_1873 : Index := 4#32
  let c0_i32_1079 : BitVec 32 := 0#32
  let c1_i32_1081 : BitVec 32 := 1#32
  let arg15 : BitVec 32 := Scf.iv c0_i32_1079 c1_i32_1081 k0_t10
  let c32_i32 : BitVec 32 := 32#32
  let v2403 : BitVec 32 := Scalar.muli arg15 c32_i32
  let v2404 : BitVec 32 := v2403
  let v2522 : BitVec 32 := Scalar.addi v2404 c8_i32_1872
  let v2523 : Index := Scalar.indexCast v2522
  let c512_1874 : Index := 512#32
  ![4, v2523.toNat, 512]
def k0_off87 (k0_t10 : Fin k0_t10_loop.trips) (c8_i32_1884 : BitVec 32) : Fin 3 → Nat :=
  let c3_1885 : Index := 3#32
  let c0_i32_1079 : BitVec 32 := 0#32
  let c1_i32_1081 : BitVec 32 := 1#32
  let arg15 : BitVec 32 := Scf.iv c0_i32_1079 c1_i32_1081 k0_t10
  let c32_i32 : BitVec 32 := 32#32
  let v2403 : BitVec 32 := Scalar.muli arg15 c32_i32
  let v2404 : BitVec 32 := v2403
  let v2554 : BitVec 32 := Scalar.addi v2404 c8_i32_1884
  let v2555 : Index := Scalar.indexCast v2554
  let c512_1886 : Index := 512#32
  ![3, v2555.toNat, 512]
def k0_off88 (k0_t10 : Fin k0_t10_loop.trips) (c8_i32_1896 : BitVec 32) : Fin 3 → Nat :=
  let c2_1897 : Index := 2#32
  let c0_i32_1079 : BitVec 32 := 0#32
  let c1_i32_1081 : BitVec 32 := 1#32
  let arg15 : BitVec 32 := Scf.iv c0_i32_1079 c1_i32_1081 k0_t10
  let c32_i32 : BitVec 32 := 32#32
  let v2403 : BitVec 32 := Scalar.muli arg15 c32_i32
  let v2404 : BitVec 32 := v2403
  let v2586 : BitVec 32 := Scalar.addi v2404 c8_i32_1896
  let v2587 : Index := Scalar.indexCast v2586
  let c512_1898 : Index := 512#32
  ![2, v2587.toNat, 512]
def k0_off89 (k0_t10 : Fin k0_t10_loop.trips) (c8_i32_1908 : BitVec 32) : Fin 3 → Nat :=
  let c1_1909 : Index := 1#32
  let c0_i32_1079 : BitVec 32 := 0#32
  let c1_i32_1081 : BitVec 32 := 1#32
  let arg15 : BitVec 32 := Scf.iv c0_i32_1079 c1_i32_1081 k0_t10
  let c32_i32 : BitVec 32 := 32#32
  let v2403 : BitVec 32 := Scalar.muli arg15 c32_i32
  let v2404 : BitVec 32 := v2403
  let v2618 : BitVec 32 := Scalar.addi v2404 c8_i32_1908
  let v2619 : Index := Scalar.indexCast v2618
  let c512_1910 : Index := 512#32
  ![1, v2619.toNat, 512]
def k0_off90 (k0_t10 : Fin k0_t10_loop.trips) (c8_i32_1920 : BitVec 32) : Fin 3 → Nat :=
  let c0_1921 : Index := 0#32
  let c0_i32_1079 : BitVec 32 := 0#32
  let c1_i32_1081 : BitVec 32 := 1#32
  let arg15 : BitVec 32 := Scf.iv c0_i32_1079 c1_i32_1081 k0_t10
  let c32_i32 : BitVec 32 := 32#32
  let v2403 : BitVec 32 := Scalar.muli arg15 c32_i32
  let v2404 : BitVec 32 := v2403
  let v2650 : BitVec 32 := Scalar.addi v2404 c8_i32_1920
  let v2651 : Index := Scalar.indexCast v2650
  let c512_1922 : Index := 512#32
  ![0, v2651.toNat, 512]
@[reducible] def k0_t11_loop : Scf.Loop 32 :=
  let c0_i32_1191 : BitVec 32 := 0#32
  let c16_i32_1192 : BitVec 32 := 16#32
  let v1618 : BitVec 32 := Scalar.addi c0_i32_1191 c16_i32_1192
  let c1_i32_1193 : BitVec 32 := 1#32
  ⟨c0_i32_1191, v1618, c1_i32_1193⟩
def k0_mult11 (k0_t11 : Fin k0_t11_loop.trips) : BitVec 32 :=
  let c0_i32_1191 : BitVec 32 := 0#32
  let c1_i32_1193 : BitVec 32 := 1#32
  let arg15 : BitVec 32 := Scf.iv c0_i32_1191 c1_i32_1193 k0_t11
  let c32_i32 : BitVec 32 := 32#32
  let v2403 : BitVec 32 := Scalar.muli arg15 c32_i32
  v2403
def k0_off91 (k0_t11 : Fin k0_t11_loop.trips) (c0_i32_1826 : BitVec 32) : Fin 2 → Nat :=
  let c0_i32_1191 : BitVec 32 := 0#32
  let c1_i32_1193 : BitVec 32 := 1#32
  let arg15 : BitVec 32 := Scf.iv c0_i32_1191 c1_i32_1193 k0_t11
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c640_1827 : Index := 640#32
  ![v2407.toNat, 640]
def k0_off92 (k0_t11 : Fin k0_t11_loop.trips) (c24_i32_1832 : BitVec 32) : Fin 3 → Nat :=
  let c6_1833 : Index := 6#32
  let c0_i32_1191 : BitVec 32 := 0#32
  let c1_i32_1193 : BitVec 32 := 1#32
  let arg15 : BitVec 32 := Scf.iv c0_i32_1191 c1_i32_1193 k0_t11
  let c32_i32 : BitVec 32 := 32#32
  let v2403 : BitVec 32 := Scalar.muli arg15 c32_i32
  let v2404 : BitVec 32 := v2403
  let v2418 : BitVec 32 := Scalar.addi v2404 c24_i32_1832
  let v2419 : Index := Scalar.indexCast v2418
  let c640_1834 : Index := 640#32
  ![6, v2419.toNat, 640]
def k0_off93 (k0_t11 : Fin k0_t11_loop.trips) (c24_i32_1842 : BitVec 32) : Fin 3 → Nat :=
  let c5_1843 : Index := 5#32
  let c0_i32_1191 : BitVec 32 := 0#32
  let c1_i32_1193 : BitVec 32 := 1#32
  let arg15 : BitVec 32 := Scf.iv c0_i32_1191 c1_i32_1193 k0_t11
  let c32_i32 : BitVec 32 := 32#32
  let v2403 : BitVec 32 := Scalar.muli arg15 c32_i32
  let v2404 : BitVec 32 := v2403
  let v2450 : BitVec 32 := Scalar.addi v2404 c24_i32_1842
  let v2451 : Index := Scalar.indexCast v2450
  let c640_1844 : Index := 640#32
  ![5, v2451.toNat, 640]
def k0_off94 (k0_t11 : Fin k0_t11_loop.trips) (c24_i32_1854 : BitVec 32) : Fin 3 → Nat :=
  let c4_1855 : Index := 4#32
  let c0_i32_1191 : BitVec 32 := 0#32
  let c1_i32_1193 : BitVec 32 := 1#32
  let arg15 : BitVec 32 := Scf.iv c0_i32_1191 c1_i32_1193 k0_t11
  let c32_i32 : BitVec 32 := 32#32
  let v2403 : BitVec 32 := Scalar.muli arg15 c32_i32
  let v2404 : BitVec 32 := v2403
  let v2482 : BitVec 32 := Scalar.addi v2404 c24_i32_1854
  let v2483 : Index := Scalar.indexCast v2482
  let c640_1856 : Index := 640#32
  ![4, v2483.toNat, 640]
def k0_off95 (k0_t11 : Fin k0_t11_loop.trips) (c24_i32_1866 : BitVec 32) : Fin 3 → Nat :=
  let c3_1867 : Index := 3#32
  let c0_i32_1191 : BitVec 32 := 0#32
  let c1_i32_1193 : BitVec 32 := 1#32
  let arg15 : BitVec 32 := Scf.iv c0_i32_1191 c1_i32_1193 k0_t11
  let c32_i32 : BitVec 32 := 32#32
  let v2403 : BitVec 32 := Scalar.muli arg15 c32_i32
  let v2404 : BitVec 32 := v2403
  let v2514 : BitVec 32 := Scalar.addi v2404 c24_i32_1866
  let v2515 : Index := Scalar.indexCast v2514
  let c640_1868 : Index := 640#32
  ![3, v2515.toNat, 640]
def k0_off96 (k0_t11 : Fin k0_t11_loop.trips) (c24_i32_1878 : BitVec 32) : Fin 3 → Nat :=
  let c2_1879 : Index := 2#32
  let c0_i32_1191 : BitVec 32 := 0#32
  let c1_i32_1193 : BitVec 32 := 1#32
  let arg15 : BitVec 32 := Scf.iv c0_i32_1191 c1_i32_1193 k0_t11
  let c32_i32 : BitVec 32 := 32#32
  let v2403 : BitVec 32 := Scalar.muli arg15 c32_i32
  let v2404 : BitVec 32 := v2403
  let v2546 : BitVec 32 := Scalar.addi v2404 c24_i32_1878
  let v2547 : Index := Scalar.indexCast v2546
  let c640_1880 : Index := 640#32
  ![2, v2547.toNat, 640]
def k0_off97 (k0_t11 : Fin k0_t11_loop.trips) (c24_i32_1890 : BitVec 32) : Fin 3 → Nat :=
  let c1_1891 : Index := 1#32
  let c0_i32_1191 : BitVec 32 := 0#32
  let c1_i32_1193 : BitVec 32 := 1#32
  let arg15 : BitVec 32 := Scf.iv c0_i32_1191 c1_i32_1193 k0_t11
  let c32_i32 : BitVec 32 := 32#32
  let v2403 : BitVec 32 := Scalar.muli arg15 c32_i32
  let v2404 : BitVec 32 := v2403
  let v2578 : BitVec 32 := Scalar.addi v2404 c24_i32_1890
  let v2579 : Index := Scalar.indexCast v2578
  let c640_1892 : Index := 640#32
  ![1, v2579.toNat, 640]
def k0_off98 (k0_t11 : Fin k0_t11_loop.trips) (c24_i32_1902 : BitVec 32) : Fin 3 → Nat :=
  let c0_1903 : Index := 0#32
  let c0_i32_1191 : BitVec 32 := 0#32
  let c1_i32_1193 : BitVec 32 := 1#32
  let arg15 : BitVec 32 := Scf.iv c0_i32_1191 c1_i32_1193 k0_t11
  let c32_i32 : BitVec 32 := 32#32
  let v2403 : BitVec 32 := Scalar.muli arg15 c32_i32
  let v2404 : BitVec 32 := v2403
  let v2610 : BitVec 32 := Scalar.addi v2404 c24_i32_1902
  let v2611 : Index := Scalar.indexCast v2610
  let c640_1904 : Index := 640#32
  ![0, v2611.toNat, 640]
def k0_off99 (k0_t11 : Fin k0_t11_loop.trips) (c16_i32_1914 : BitVec 32) : Fin 3 → Nat :=
  let c7_1915 : Index := 7#32
  let c0_i32_1191 : BitVec 32 := 0#32
  let c1_i32_1193 : BitVec 32 := 1#32
  let arg15 : BitVec 32 := Scf.iv c0_i32_1191 c1_i32_1193 k0_t11
  let c32_i32 : BitVec 32 := 32#32
  let v2403 : BitVec 32 := Scalar.muli arg15 c32_i32
  let v2404 : BitVec 32 := v2403
  let v2642 : BitVec 32 := Scalar.addi v2404 c16_i32_1914
  let v2643 : Index := Scalar.indexCast v2642
  let c640_1916 : Index := 640#32
  ![7, v2643.toNat, 640]
@[reducible] def k0_t12_loop : Scf.Loop 32 :=
  let c0_i32_1303 : BitVec 32 := 0#32
  let c16_i32_1304 : BitVec 32 := 16#32
  let v1760 : BitVec 32 := Scalar.addi c0_i32_1303 c16_i32_1304
  let c1_i32_1305 : BitVec 32 := 1#32
  ⟨c0_i32_1303, v1760, c1_i32_1305⟩
def k0_mult12 (k0_t12 : Fin k0_t12_loop.trips) : BitVec 32 :=
  let c0_i32_1303 : BitVec 32 := 0#32
  let c1_i32_1305 : BitVec 32 := 1#32
  let arg15 : BitVec 32 := Scf.iv c0_i32_1303 c1_i32_1305 k0_t12
  let c32_i32 : BitVec 32 := 32#32
  let v2403 : BitVec 32 := Scalar.muli arg15 c32_i32
  v2403
def k0_off100 (k0_t12 : Fin k0_t12_loop.trips) (c0_i32_1826 : BitVec 32) : Fin 2 → Nat :=
  let c0_i32_1303 : BitVec 32 := 0#32
  let c1_i32_1305 : BitVec 32 := 1#32
  let arg15 : BitVec 32 := Scf.iv c0_i32_1303 c1_i32_1305 k0_t12
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c640_1827 : Index := 640#32
  ![v2407.toNat, 640]
def k0_off101 (k0_t12 : Fin k0_t12_loop.trips) (c8_i32_1836 : BitVec 32) : Fin 3 → Nat :=
  let c7_1837 : Index := 7#32
  let c0_i32_1303 : BitVec 32 := 0#32
  let c1_i32_1305 : BitVec 32 := 1#32
  let arg15 : BitVec 32 := Scf.iv c0_i32_1303 c1_i32_1305 k0_t12
  let c32_i32 : BitVec 32 := 32#32
  let v2403 : BitVec 32 := Scalar.muli arg15 c32_i32
  let v2404 : BitVec 32 := v2403
  let v2426 : BitVec 32 := Scalar.addi v2404 c8_i32_1836
  let v2427 : Index := Scalar.indexCast v2426
  let c640_1838 : Index := 640#32
  ![7, v2427.toNat, 640]
def k0_off102 (k0_t12 : Fin k0_t12_loop.trips) (c8_i32_1848 : BitVec 32) : Fin 3 → Nat :=
  let c6_1849 : Index := 6#32
  let c0_i32_1303 : BitVec 32 := 0#32
  let c1_i32_1305 : BitVec 32 := 1#32
  let arg15 : BitVec 32 := Scf.iv c0_i32_1303 c1_i32_1305 k0_t12
  let c32_i32 : BitVec 32 := 32#32
  let v2403 : BitVec 32 := Scalar.muli arg15 c32_i32
  let v2404 : BitVec 32 := v2403
  let v2458 : BitVec 32 := Scalar.addi v2404 c8_i32_1848
  let v2459 : Index := Scalar.indexCast v2458
  let c640_1850 : Index := 640#32
  ![6, v2459.toNat, 640]
def k0_off103 (k0_t12 : Fin k0_t12_loop.trips) (c8_i32_1860 : BitVec 32) : Fin 3 → Nat :=
  let c5_1861 : Index := 5#32
  let c0_i32_1303 : BitVec 32 := 0#32
  let c1_i32_1305 : BitVec 32 := 1#32
  let arg15 : BitVec 32 := Scf.iv c0_i32_1303 c1_i32_1305 k0_t12
  let c32_i32 : BitVec 32 := 32#32
  let v2403 : BitVec 32 := Scalar.muli arg15 c32_i32
  let v2404 : BitVec 32 := v2403
  let v2490 : BitVec 32 := Scalar.addi v2404 c8_i32_1860
  let v2491 : Index := Scalar.indexCast v2490
  let c640_1862 : Index := 640#32
  ![5, v2491.toNat, 640]
def k0_off104 (k0_t12 : Fin k0_t12_loop.trips) (c8_i32_1872 : BitVec 32) : Fin 3 → Nat :=
  let c4_1873 : Index := 4#32
  let c0_i32_1303 : BitVec 32 := 0#32
  let c1_i32_1305 : BitVec 32 := 1#32
  let arg15 : BitVec 32 := Scf.iv c0_i32_1303 c1_i32_1305 k0_t12
  let c32_i32 : BitVec 32 := 32#32
  let v2403 : BitVec 32 := Scalar.muli arg15 c32_i32
  let v2404 : BitVec 32 := v2403
  let v2522 : BitVec 32 := Scalar.addi v2404 c8_i32_1872
  let v2523 : Index := Scalar.indexCast v2522
  let c640_1874 : Index := 640#32
  ![4, v2523.toNat, 640]
def k0_off105 (k0_t12 : Fin k0_t12_loop.trips) (c8_i32_1884 : BitVec 32) : Fin 3 → Nat :=
  let c3_1885 : Index := 3#32
  let c0_i32_1303 : BitVec 32 := 0#32
  let c1_i32_1305 : BitVec 32 := 1#32
  let arg15 : BitVec 32 := Scf.iv c0_i32_1303 c1_i32_1305 k0_t12
  let c32_i32 : BitVec 32 := 32#32
  let v2403 : BitVec 32 := Scalar.muli arg15 c32_i32
  let v2404 : BitVec 32 := v2403
  let v2554 : BitVec 32 := Scalar.addi v2404 c8_i32_1884
  let v2555 : Index := Scalar.indexCast v2554
  let c640_1886 : Index := 640#32
  ![3, v2555.toNat, 640]
def k0_off106 (k0_t12 : Fin k0_t12_loop.trips) (c8_i32_1896 : BitVec 32) : Fin 3 → Nat :=
  let c2_1897 : Index := 2#32
  let c0_i32_1303 : BitVec 32 := 0#32
  let c1_i32_1305 : BitVec 32 := 1#32
  let arg15 : BitVec 32 := Scf.iv c0_i32_1303 c1_i32_1305 k0_t12
  let c32_i32 : BitVec 32 := 32#32
  let v2403 : BitVec 32 := Scalar.muli arg15 c32_i32
  let v2404 : BitVec 32 := v2403
  let v2586 : BitVec 32 := Scalar.addi v2404 c8_i32_1896
  let v2587 : Index := Scalar.indexCast v2586
  let c640_1898 : Index := 640#32
  ![2, v2587.toNat, 640]
def k0_off107 (k0_t12 : Fin k0_t12_loop.trips) (c8_i32_1908 : BitVec 32) : Fin 3 → Nat :=
  let c1_1909 : Index := 1#32
  let c0_i32_1303 : BitVec 32 := 0#32
  let c1_i32_1305 : BitVec 32 := 1#32
  let arg15 : BitVec 32 := Scf.iv c0_i32_1303 c1_i32_1305 k0_t12
  let c32_i32 : BitVec 32 := 32#32
  let v2403 : BitVec 32 := Scalar.muli arg15 c32_i32
  let v2404 : BitVec 32 := v2403
  let v2618 : BitVec 32 := Scalar.addi v2404 c8_i32_1908
  let v2619 : Index := Scalar.indexCast v2618
  let c640_1910 : Index := 640#32
  ![1, v2619.toNat, 640]
def k0_off108 (k0_t12 : Fin k0_t12_loop.trips) (c8_i32_1920 : BitVec 32) : Fin 3 → Nat :=
  let c0_1921 : Index := 0#32
  let c0_i32_1303 : BitVec 32 := 0#32
  let c1_i32_1305 : BitVec 32 := 1#32
  let arg15 : BitVec 32 := Scf.iv c0_i32_1303 c1_i32_1305 k0_t12
  let c32_i32 : BitVec 32 := 32#32
  let v2403 : BitVec 32 := Scalar.muli arg15 c32_i32
  let v2404 : BitVec 32 := v2403
  let v2650 : BitVec 32 := Scalar.addi v2404 c8_i32_1920
  let v2651 : Index := Scalar.indexCast v2650
  let c640_1922 : Index := 640#32
  ![0, v2651.toNat, 640]
@[reducible] def k0_t13_loop : Scf.Loop 32 :=
  let c0_i32_1415 : BitVec 32 := 0#32
  let c16_i32_1416 : BitVec 32 := 16#32
  let v1901 : BitVec 32 := Scalar.addi c0_i32_1415 c16_i32_1416
  let c1_i32_1417 : BitVec 32 := 1#32
  ⟨c0_i32_1415, v1901, c1_i32_1417⟩
def k0_mult13 (k0_t13 : Fin k0_t13_loop.trips) : BitVec 32 :=
  let c0_i32_1415 : BitVec 32 := 0#32
  let c1_i32_1417 : BitVec 32 := 1#32
  let arg15 : BitVec 32 := Scf.iv c0_i32_1415 c1_i32_1417 k0_t13
  let c32_i32 : BitVec 32 := 32#32
  let v2403 : BitVec 32 := Scalar.muli arg15 c32_i32
  v2403
def k0_off109 (k0_t13 : Fin k0_t13_loop.trips) (c0_i32_1826 : BitVec 32) : Fin 2 → Nat :=
  let c0_i32_1415 : BitVec 32 := 0#32
  let c1_i32_1417 : BitVec 32 := 1#32
  let arg15 : BitVec 32 := Scf.iv c0_i32_1415 c1_i32_1417 k0_t13
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c768_1827 : Index := 768#32
  ![v2407.toNat, 768]
def k0_off110 (k0_t13 : Fin k0_t13_loop.trips) (c24_i32_1832 : BitVec 32) : Fin 3 → Nat :=
  let c6_1833 : Index := 6#32
  let c0_i32_1415 : BitVec 32 := 0#32
  let c1_i32_1417 : BitVec 32 := 1#32
  let arg15 : BitVec 32 := Scf.iv c0_i32_1415 c1_i32_1417 k0_t13
  let c32_i32 : BitVec 32 := 32#32
  let v2403 : BitVec 32 := Scalar.muli arg15 c32_i32
  let v2404 : BitVec 32 := v2403
  let v2418 : BitVec 32 := Scalar.addi v2404 c24_i32_1832
  let v2419 : Index := Scalar.indexCast v2418
  let c768_1834 : Index := 768#32
  ![6, v2419.toNat, 768]
def k0_off111 (k0_t13 : Fin k0_t13_loop.trips) (c24_i32_1842 : BitVec 32) : Fin 3 → Nat :=
  let c5_1843 : Index := 5#32
  let c0_i32_1415 : BitVec 32 := 0#32
  let c1_i32_1417 : BitVec 32 := 1#32
  let arg15 : BitVec 32 := Scf.iv c0_i32_1415 c1_i32_1417 k0_t13
  let c32_i32 : BitVec 32 := 32#32
  let v2403 : BitVec 32 := Scalar.muli arg15 c32_i32
  let v2404 : BitVec 32 := v2403
  let v2450 : BitVec 32 := Scalar.addi v2404 c24_i32_1842
  let v2451 : Index := Scalar.indexCast v2450
  let c768_1844 : Index := 768#32
  ![5, v2451.toNat, 768]
def k0_off112 (k0_t13 : Fin k0_t13_loop.trips) (c24_i32_1854 : BitVec 32) : Fin 3 → Nat :=
  let c4_1855 : Index := 4#32
  let c0_i32_1415 : BitVec 32 := 0#32
  let c1_i32_1417 : BitVec 32 := 1#32
  let arg15 : BitVec 32 := Scf.iv c0_i32_1415 c1_i32_1417 k0_t13
  let c32_i32 : BitVec 32 := 32#32
  let v2403 : BitVec 32 := Scalar.muli arg15 c32_i32
  let v2404 : BitVec 32 := v2403
  let v2482 : BitVec 32 := Scalar.addi v2404 c24_i32_1854
  let v2483 : Index := Scalar.indexCast v2482
  let c768_1856 : Index := 768#32
  ![4, v2483.toNat, 768]
def k0_off113 (k0_t13 : Fin k0_t13_loop.trips) (c24_i32_1866 : BitVec 32) : Fin 3 → Nat :=
  let c3_1867 : Index := 3#32
  let c0_i32_1415 : BitVec 32 := 0#32
  let c1_i32_1417 : BitVec 32 := 1#32
  let arg15 : BitVec 32 := Scf.iv c0_i32_1415 c1_i32_1417 k0_t13
  let c32_i32 : BitVec 32 := 32#32
  let v2403 : BitVec 32 := Scalar.muli arg15 c32_i32
  let v2404 : BitVec 32 := v2403
  let v2514 : BitVec 32 := Scalar.addi v2404 c24_i32_1866
  let v2515 : Index := Scalar.indexCast v2514
  let c768_1868 : Index := 768#32
  ![3, v2515.toNat, 768]
def k0_off114 (k0_t13 : Fin k0_t13_loop.trips) (c24_i32_1878 : BitVec 32) : Fin 3 → Nat :=
  let c2_1879 : Index := 2#32
  let c0_i32_1415 : BitVec 32 := 0#32
  let c1_i32_1417 : BitVec 32 := 1#32
  let arg15 : BitVec 32 := Scf.iv c0_i32_1415 c1_i32_1417 k0_t13
  let c32_i32 : BitVec 32 := 32#32
  let v2403 : BitVec 32 := Scalar.muli arg15 c32_i32
  let v2404 : BitVec 32 := v2403
  let v2546 : BitVec 32 := Scalar.addi v2404 c24_i32_1878
  let v2547 : Index := Scalar.indexCast v2546
  let c768_1880 : Index := 768#32
  ![2, v2547.toNat, 768]
def k0_off115 (k0_t13 : Fin k0_t13_loop.trips) (c24_i32_1890 : BitVec 32) : Fin 3 → Nat :=
  let c1_1891 : Index := 1#32
  let c0_i32_1415 : BitVec 32 := 0#32
  let c1_i32_1417 : BitVec 32 := 1#32
  let arg15 : BitVec 32 := Scf.iv c0_i32_1415 c1_i32_1417 k0_t13
  let c32_i32 : BitVec 32 := 32#32
  let v2403 : BitVec 32 := Scalar.muli arg15 c32_i32
  let v2404 : BitVec 32 := v2403
  let v2578 : BitVec 32 := Scalar.addi v2404 c24_i32_1890
  let v2579 : Index := Scalar.indexCast v2578
  let c768_1892 : Index := 768#32
  ![1, v2579.toNat, 768]
def k0_off116 (k0_t13 : Fin k0_t13_loop.trips) (c24_i32_1902 : BitVec 32) : Fin 3 → Nat :=
  let c0_1903 : Index := 0#32
  let c0_i32_1415 : BitVec 32 := 0#32
  let c1_i32_1417 : BitVec 32 := 1#32
  let arg15 : BitVec 32 := Scf.iv c0_i32_1415 c1_i32_1417 k0_t13
  let c32_i32 : BitVec 32 := 32#32
  let v2403 : BitVec 32 := Scalar.muli arg15 c32_i32
  let v2404 : BitVec 32 := v2403
  let v2610 : BitVec 32 := Scalar.addi v2404 c24_i32_1902
  let v2611 : Index := Scalar.indexCast v2610
  let c768_1904 : Index := 768#32
  ![0, v2611.toNat, 768]
def k0_off117 (k0_t13 : Fin k0_t13_loop.trips) (c16_i32_1914 : BitVec 32) : Fin 3 → Nat :=
  let c7_1915 : Index := 7#32
  let c0_i32_1415 : BitVec 32 := 0#32
  let c1_i32_1417 : BitVec 32 := 1#32
  let arg15 : BitVec 32 := Scf.iv c0_i32_1415 c1_i32_1417 k0_t13
  let c32_i32 : BitVec 32 := 32#32
  let v2403 : BitVec 32 := Scalar.muli arg15 c32_i32
  let v2404 : BitVec 32 := v2403
  let v2642 : BitVec 32 := Scalar.addi v2404 c16_i32_1914
  let v2643 : Index := Scalar.indexCast v2642
  let c768_1916 : Index := 768#32
  ![7, v2643.toNat, 768]
@[reducible] def k0_t14_loop : Scf.Loop 32 :=
  let c0_i32_1527 : BitVec 32 := 0#32
  let c16_i32_1528 : BitVec 32 := 16#32
  let v2043 : BitVec 32 := Scalar.addi c0_i32_1527 c16_i32_1528
  let c1_i32_1529 : BitVec 32 := 1#32
  ⟨c0_i32_1527, v2043, c1_i32_1529⟩
def k0_mult14 (k0_t14 : Fin k0_t14_loop.trips) : BitVec 32 :=
  let c0_i32_1527 : BitVec 32 := 0#32
  let c1_i32_1529 : BitVec 32 := 1#32
  let arg15 : BitVec 32 := Scf.iv c0_i32_1527 c1_i32_1529 k0_t14
  let c32_i32 : BitVec 32 := 32#32
  let v2403 : BitVec 32 := Scalar.muli arg15 c32_i32
  v2403
def k0_off118 (k0_t14 : Fin k0_t14_loop.trips) (c0_i32_1826 : BitVec 32) : Fin 2 → Nat :=
  let c0_i32_1527 : BitVec 32 := 0#32
  let c1_i32_1529 : BitVec 32 := 1#32
  let arg15 : BitVec 32 := Scf.iv c0_i32_1527 c1_i32_1529 k0_t14
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c768_1827 : Index := 768#32
  ![v2407.toNat, 768]
def k0_off119 (k0_t14 : Fin k0_t14_loop.trips) (c8_i32_1836 : BitVec 32) : Fin 3 → Nat :=
  let c7_1837 : Index := 7#32
  let c0_i32_1527 : BitVec 32 := 0#32
  let c1_i32_1529 : BitVec 32 := 1#32
  let arg15 : BitVec 32 := Scf.iv c0_i32_1527 c1_i32_1529 k0_t14
  let c32_i32 : BitVec 32 := 32#32
  let v2403 : BitVec 32 := Scalar.muli arg15 c32_i32
  let v2404 : BitVec 32 := v2403
  let v2426 : BitVec 32 := Scalar.addi v2404 c8_i32_1836
  let v2427 : Index := Scalar.indexCast v2426
  let c768_1838 : Index := 768#32
  ![7, v2427.toNat, 768]
def k0_off120 (k0_t14 : Fin k0_t14_loop.trips) (c8_i32_1848 : BitVec 32) : Fin 3 → Nat :=
  let c6_1849 : Index := 6#32
  let c0_i32_1527 : BitVec 32 := 0#32
  let c1_i32_1529 : BitVec 32 := 1#32
  let arg15 : BitVec 32 := Scf.iv c0_i32_1527 c1_i32_1529 k0_t14
  let c32_i32 : BitVec 32 := 32#32
  let v2403 : BitVec 32 := Scalar.muli arg15 c32_i32
  let v2404 : BitVec 32 := v2403
  let v2458 : BitVec 32 := Scalar.addi v2404 c8_i32_1848
  let v2459 : Index := Scalar.indexCast v2458
  let c768_1850 : Index := 768#32
  ![6, v2459.toNat, 768]
def k0_off121 (k0_t14 : Fin k0_t14_loop.trips) (c8_i32_1860 : BitVec 32) : Fin 3 → Nat :=
  let c5_1861 : Index := 5#32
  let c0_i32_1527 : BitVec 32 := 0#32
  let c1_i32_1529 : BitVec 32 := 1#32
  let arg15 : BitVec 32 := Scf.iv c0_i32_1527 c1_i32_1529 k0_t14
  let c32_i32 : BitVec 32 := 32#32
  let v2403 : BitVec 32 := Scalar.muli arg15 c32_i32
  let v2404 : BitVec 32 := v2403
  let v2490 : BitVec 32 := Scalar.addi v2404 c8_i32_1860
  let v2491 : Index := Scalar.indexCast v2490
  let c768_1862 : Index := 768#32
  ![5, v2491.toNat, 768]
def k0_off122 (k0_t14 : Fin k0_t14_loop.trips) (c8_i32_1872 : BitVec 32) : Fin 3 → Nat :=
  let c4_1873 : Index := 4#32
  let c0_i32_1527 : BitVec 32 := 0#32
  let c1_i32_1529 : BitVec 32 := 1#32
  let arg15 : BitVec 32 := Scf.iv c0_i32_1527 c1_i32_1529 k0_t14
  let c32_i32 : BitVec 32 := 32#32
  let v2403 : BitVec 32 := Scalar.muli arg15 c32_i32
  let v2404 : BitVec 32 := v2403
  let v2522 : BitVec 32 := Scalar.addi v2404 c8_i32_1872
  let v2523 : Index := Scalar.indexCast v2522
  let c768_1874 : Index := 768#32
  ![4, v2523.toNat, 768]
def k0_off123 (k0_t14 : Fin k0_t14_loop.trips) (c8_i32_1884 : BitVec 32) : Fin 3 → Nat :=
  let c3_1885 : Index := 3#32
  let c0_i32_1527 : BitVec 32 := 0#32
  let c1_i32_1529 : BitVec 32 := 1#32
  let arg15 : BitVec 32 := Scf.iv c0_i32_1527 c1_i32_1529 k0_t14
  let c32_i32 : BitVec 32 := 32#32
  let v2403 : BitVec 32 := Scalar.muli arg15 c32_i32
  let v2404 : BitVec 32 := v2403
  let v2554 : BitVec 32 := Scalar.addi v2404 c8_i32_1884
  let v2555 : Index := Scalar.indexCast v2554
  let c768_1886 : Index := 768#32
  ![3, v2555.toNat, 768]
def k0_off124 (k0_t14 : Fin k0_t14_loop.trips) (c8_i32_1896 : BitVec 32) : Fin 3 → Nat :=
  let c2_1897 : Index := 2#32
  let c0_i32_1527 : BitVec 32 := 0#32
  let c1_i32_1529 : BitVec 32 := 1#32
  let arg15 : BitVec 32 := Scf.iv c0_i32_1527 c1_i32_1529 k0_t14
  let c32_i32 : BitVec 32 := 32#32
  let v2403 : BitVec 32 := Scalar.muli arg15 c32_i32
  let v2404 : BitVec 32 := v2403
  let v2586 : BitVec 32 := Scalar.addi v2404 c8_i32_1896
  let v2587 : Index := Scalar.indexCast v2586
  let c768_1898 : Index := 768#32
  ![2, v2587.toNat, 768]
def k0_off125 (k0_t14 : Fin k0_t14_loop.trips) (c8_i32_1908 : BitVec 32) : Fin 3 → Nat :=
  let c1_1909 : Index := 1#32
  let c0_i32_1527 : BitVec 32 := 0#32
  let c1_i32_1529 : BitVec 32 := 1#32
  let arg15 : BitVec 32 := Scf.iv c0_i32_1527 c1_i32_1529 k0_t14
  let c32_i32 : BitVec 32 := 32#32
  let v2403 : BitVec 32 := Scalar.muli arg15 c32_i32
  let v2404 : BitVec 32 := v2403
  let v2618 : BitVec 32 := Scalar.addi v2404 c8_i32_1908
  let v2619 : Index := Scalar.indexCast v2618
  let c768_1910 : Index := 768#32
  ![1, v2619.toNat, 768]
def k0_off126 (k0_t14 : Fin k0_t14_loop.trips) (c8_i32_1920 : BitVec 32) : Fin 3 → Nat :=
  let c0_1921 : Index := 0#32
  let c0_i32_1527 : BitVec 32 := 0#32
  let c1_i32_1529 : BitVec 32 := 1#32
  let arg15 : BitVec 32 := Scf.iv c0_i32_1527 c1_i32_1529 k0_t14
  let c32_i32 : BitVec 32 := 32#32
  let v2403 : BitVec 32 := Scalar.muli arg15 c32_i32
  let v2404 : BitVec 32 := v2403
  let v2650 : BitVec 32 := Scalar.addi v2404 c8_i32_1920
  let v2651 : Index := Scalar.indexCast v2650
  let c768_1922 : Index := 768#32
  ![0, v2651.toNat, 768]
@[reducible] def k0_t15_loop : Scf.Loop 32 :=
  let c0_i32_1639 : BitVec 32 := 0#32
  let c16_i32_1640 : BitVec 32 := 16#32
  let v2184 : BitVec 32 := Scalar.addi c0_i32_1639 c16_i32_1640
  let c1_i32_1641 : BitVec 32 := 1#32
  ⟨c0_i32_1639, v2184, c1_i32_1641⟩
def k0_mult15 (k0_t15 : Fin k0_t15_loop.trips) : BitVec 32 :=
  let c0_i32_1639 : BitVec 32 := 0#32
  let c1_i32_1641 : BitVec 32 := 1#32
  let arg15 : BitVec 32 := Scf.iv c0_i32_1639 c1_i32_1641 k0_t15
  let c32_i32 : BitVec 32 := 32#32
  let v2403 : BitVec 32 := Scalar.muli arg15 c32_i32
  v2403
def k0_off127 (k0_t15 : Fin k0_t15_loop.trips) (c0_i32_1826 : BitVec 32) : Fin 2 → Nat :=
  let c0_i32_1639 : BitVec 32 := 0#32
  let c1_i32_1641 : BitVec 32 := 1#32
  let arg15 : BitVec 32 := Scf.iv c0_i32_1639 c1_i32_1641 k0_t15
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c896_1827 : Index := 896#32
  ![v2407.toNat, 896]
def k0_off128 (k0_t15 : Fin k0_t15_loop.trips) (c24_i32_1832 : BitVec 32) : Fin 3 → Nat :=
  let c6_1833 : Index := 6#32
  let c0_i32_1639 : BitVec 32 := 0#32
  let c1_i32_1641 : BitVec 32 := 1#32
  let arg15 : BitVec 32 := Scf.iv c0_i32_1639 c1_i32_1641 k0_t15
  let c32_i32 : BitVec 32 := 32#32
  let v2403 : BitVec 32 := Scalar.muli arg15 c32_i32
  let v2404 : BitVec 32 := v2403
  let v2418 : BitVec 32 := Scalar.addi v2404 c24_i32_1832
  let v2419 : Index := Scalar.indexCast v2418
  let c896_1834 : Index := 896#32
  ![6, v2419.toNat, 896]
def k0_off129 (k0_t15 : Fin k0_t15_loop.trips) (c24_i32_1842 : BitVec 32) : Fin 3 → Nat :=
  let c5_1843 : Index := 5#32
  let c0_i32_1639 : BitVec 32 := 0#32
  let c1_i32_1641 : BitVec 32 := 1#32
  let arg15 : BitVec 32 := Scf.iv c0_i32_1639 c1_i32_1641 k0_t15
  let c32_i32 : BitVec 32 := 32#32
  let v2403 : BitVec 32 := Scalar.muli arg15 c32_i32
  let v2404 : BitVec 32 := v2403
  let v2450 : BitVec 32 := Scalar.addi v2404 c24_i32_1842
  let v2451 : Index := Scalar.indexCast v2450
  let c896_1844 : Index := 896#32
  ![5, v2451.toNat, 896]
def k0_off130 (k0_t15 : Fin k0_t15_loop.trips) (c24_i32_1854 : BitVec 32) : Fin 3 → Nat :=
  let c4_1855 : Index := 4#32
  let c0_i32_1639 : BitVec 32 := 0#32
  let c1_i32_1641 : BitVec 32 := 1#32
  let arg15 : BitVec 32 := Scf.iv c0_i32_1639 c1_i32_1641 k0_t15
  let c32_i32 : BitVec 32 := 32#32
  let v2403 : BitVec 32 := Scalar.muli arg15 c32_i32
  let v2404 : BitVec 32 := v2403
  let v2482 : BitVec 32 := Scalar.addi v2404 c24_i32_1854
  let v2483 : Index := Scalar.indexCast v2482
  let c896_1856 : Index := 896#32
  ![4, v2483.toNat, 896]
def k0_off131 (k0_t15 : Fin k0_t15_loop.trips) (c24_i32_1866 : BitVec 32) : Fin 3 → Nat :=
  let c3_1867 : Index := 3#32
  let c0_i32_1639 : BitVec 32 := 0#32
  let c1_i32_1641 : BitVec 32 := 1#32
  let arg15 : BitVec 32 := Scf.iv c0_i32_1639 c1_i32_1641 k0_t15
  let c32_i32 : BitVec 32 := 32#32
  let v2403 : BitVec 32 := Scalar.muli arg15 c32_i32
  let v2404 : BitVec 32 := v2403
  let v2514 : BitVec 32 := Scalar.addi v2404 c24_i32_1866
  let v2515 : Index := Scalar.indexCast v2514
  let c896_1868 : Index := 896#32
  ![3, v2515.toNat, 896]
def k0_off132 (k0_t15 : Fin k0_t15_loop.trips) (c24_i32_1878 : BitVec 32) : Fin 3 → Nat :=
  let c2_1879 : Index := 2#32
  let c0_i32_1639 : BitVec 32 := 0#32
  let c1_i32_1641 : BitVec 32 := 1#32
  let arg15 : BitVec 32 := Scf.iv c0_i32_1639 c1_i32_1641 k0_t15
  let c32_i32 : BitVec 32 := 32#32
  let v2403 : BitVec 32 := Scalar.muli arg15 c32_i32
  let v2404 : BitVec 32 := v2403
  let v2546 : BitVec 32 := Scalar.addi v2404 c24_i32_1878
  let v2547 : Index := Scalar.indexCast v2546
  let c896_1880 : Index := 896#32
  ![2, v2547.toNat, 896]
def k0_off133 (k0_t15 : Fin k0_t15_loop.trips) (c24_i32_1890 : BitVec 32) : Fin 3 → Nat :=
  let c1_1891 : Index := 1#32
  let c0_i32_1639 : BitVec 32 := 0#32
  let c1_i32_1641 : BitVec 32 := 1#32
  let arg15 : BitVec 32 := Scf.iv c0_i32_1639 c1_i32_1641 k0_t15
  let c32_i32 : BitVec 32 := 32#32
  let v2403 : BitVec 32 := Scalar.muli arg15 c32_i32
  let v2404 : BitVec 32 := v2403
  let v2578 : BitVec 32 := Scalar.addi v2404 c24_i32_1890
  let v2579 : Index := Scalar.indexCast v2578
  let c896_1892 : Index := 896#32
  ![1, v2579.toNat, 896]
def k0_off134 (k0_t15 : Fin k0_t15_loop.trips) (c24_i32_1902 : BitVec 32) : Fin 3 → Nat :=
  let c0_1903 : Index := 0#32
  let c0_i32_1639 : BitVec 32 := 0#32
  let c1_i32_1641 : BitVec 32 := 1#32
  let arg15 : BitVec 32 := Scf.iv c0_i32_1639 c1_i32_1641 k0_t15
  let c32_i32 : BitVec 32 := 32#32
  let v2403 : BitVec 32 := Scalar.muli arg15 c32_i32
  let v2404 : BitVec 32 := v2403
  let v2610 : BitVec 32 := Scalar.addi v2404 c24_i32_1902
  let v2611 : Index := Scalar.indexCast v2610
  let c896_1904 : Index := 896#32
  ![0, v2611.toNat, 896]
def k0_off135 (k0_t15 : Fin k0_t15_loop.trips) (c16_i32_1914 : BitVec 32) : Fin 3 → Nat :=
  let c7_1915 : Index := 7#32
  let c0_i32_1639 : BitVec 32 := 0#32
  let c1_i32_1641 : BitVec 32 := 1#32
  let arg15 : BitVec 32 := Scf.iv c0_i32_1639 c1_i32_1641 k0_t15
  let c32_i32 : BitVec 32 := 32#32
  let v2403 : BitVec 32 := Scalar.muli arg15 c32_i32
  let v2404 : BitVec 32 := v2403
  let v2642 : BitVec 32 := Scalar.addi v2404 c16_i32_1914
  let v2643 : Index := Scalar.indexCast v2642
  let c896_1916 : Index := 896#32
  ![7, v2643.toNat, 896]
@[reducible] def k0_t16_loop : Scf.Loop 32 :=
  let c0_i32_1751 : BitVec 32 := 0#32
  let c16_i32_1752 : BitVec 32 := 16#32
  let v2326 : BitVec 32 := Scalar.addi c0_i32_1751 c16_i32_1752
  let c1_i32_1753 : BitVec 32 := 1#32
  ⟨c0_i32_1751, v2326, c1_i32_1753⟩
def k0_mult16 (k0_t16 : Fin k0_t16_loop.trips) : BitVec 32 :=
  let c0_i32_1751 : BitVec 32 := 0#32
  let c1_i32_1753 : BitVec 32 := 1#32
  let arg15 : BitVec 32 := Scf.iv c0_i32_1751 c1_i32_1753 k0_t16
  let c32_i32 : BitVec 32 := 32#32
  let v2403 : BitVec 32 := Scalar.muli arg15 c32_i32
  v2403
def k0_off136 (k0_t16 : Fin k0_t16_loop.trips) (c0_i32_1826 : BitVec 32) : Fin 2 → Nat :=
  let c0_i32_1751 : BitVec 32 := 0#32
  let c1_i32_1753 : BitVec 32 := 1#32
  let arg15 : BitVec 32 := Scf.iv c0_i32_1751 c1_i32_1753 k0_t16
  let c32_i32 : BitVec 32 := 32#32
  let v2403 : BitVec 32 := Scalar.muli arg15 c32_i32
  let v2404 : BitVec 32 := v2403
  let v2406 : BitVec 32 := Scalar.addi v2404 c0_i32_1826
  let v2407 : Index := Scalar.indexCast v2406
  let c896_1827 : Index := 896#32
  ![v2407.toNat, 896]
def k0_off137 (k0_t16 : Fin k0_t16_loop.trips) (c8_i32_1836 : BitVec 32) : Fin 3 → Nat :=
  let c7_1837 : Index := 7#32
  let c0_i32_1751 : BitVec 32 := 0#32
  let c1_i32_1753 : BitVec 32 := 1#32
  let arg15 : BitVec 32 := Scf.iv c0_i32_1751 c1_i32_1753 k0_t16
  let c32_i32 : BitVec 32 := 32#32
  let v2403 : BitVec 32 := Scalar.muli arg15 c32_i32
  let v2404 : BitVec 32 := v2403
  let v2426 : BitVec 32 := Scalar.addi v2404 c8_i32_1836
  let v2427 : Index := Scalar.indexCast v2426
  let c896_1838 : Index := 896#32
  ![7, v2427.toNat, 896]
def k0_off138 (k0_t16 : Fin k0_t16_loop.trips) (c8_i32_1848 : BitVec 32) : Fin 3 → Nat :=
  let c6_1849 : Index := 6#32
  let c0_i32_1751 : BitVec 32 := 0#32
  let c1_i32_1753 : BitVec 32 := 1#32
  let arg15 : BitVec 32 := Scf.iv c0_i32_1751 c1_i32_1753 k0_t16
  let c32_i32 : BitVec 32 := 32#32
  let v2403 : BitVec 32 := Scalar.muli arg15 c32_i32
  let v2404 : BitVec 32 := v2403
  let v2458 : BitVec 32 := Scalar.addi v2404 c8_i32_1848
  let v2459 : Index := Scalar.indexCast v2458
  let c896_1850 : Index := 896#32
  ![6, v2459.toNat, 896]
def k0_off139 (k0_t16 : Fin k0_t16_loop.trips) (c8_i32_1860 : BitVec 32) : Fin 3 → Nat :=
  let c5_1861 : Index := 5#32
  let c0_i32_1751 : BitVec 32 := 0#32
  let c1_i32_1753 : BitVec 32 := 1#32
  let arg15 : BitVec 32 := Scf.iv c0_i32_1751 c1_i32_1753 k0_t16
  let c32_i32 : BitVec 32 := 32#32
  let v2403 : BitVec 32 := Scalar.muli arg15 c32_i32
  let v2404 : BitVec 32 := v2403
  let v2490 : BitVec 32 := Scalar.addi v2404 c8_i32_1860
  let v2491 : Index := Scalar.indexCast v2490
  let c896_1862 : Index := 896#32
  ![5, v2491.toNat, 896]
def k0_off140 (k0_t16 : Fin k0_t16_loop.trips) (c8_i32_1872 : BitVec 32) : Fin 3 → Nat :=
  let c4_1873 : Index := 4#32
  let c0_i32_1751 : BitVec 32 := 0#32
  let c1_i32_1753 : BitVec 32 := 1#32
  let arg15 : BitVec 32 := Scf.iv c0_i32_1751 c1_i32_1753 k0_t16
  let c32_i32 : BitVec 32 := 32#32
  let v2403 : BitVec 32 := Scalar.muli arg15 c32_i32
  let v2404 : BitVec 32 := v2403
  let v2522 : BitVec 32 := Scalar.addi v2404 c8_i32_1872
  let v2523 : Index := Scalar.indexCast v2522
  let c896_1874 : Index := 896#32
  ![4, v2523.toNat, 896]
def k0_off141 (k0_t16 : Fin k0_t16_loop.trips) (c8_i32_1884 : BitVec 32) : Fin 3 → Nat :=
  let c3_1885 : Index := 3#32
  let c0_i32_1751 : BitVec 32 := 0#32
  let c1_i32_1753 : BitVec 32 := 1#32
  let arg15 : BitVec 32 := Scf.iv c0_i32_1751 c1_i32_1753 k0_t16
  let c32_i32 : BitVec 32 := 32#32
  let v2403 : BitVec 32 := Scalar.muli arg15 c32_i32
  let v2404 : BitVec 32 := v2403
  let v2554 : BitVec 32 := Scalar.addi v2404 c8_i32_1884
  let v2555 : Index := Scalar.indexCast v2554
  let c896_1886 : Index := 896#32
  ![3, v2555.toNat, 896]
def k0_off142 (k0_t16 : Fin k0_t16_loop.trips) (c8_i32_1896 : BitVec 32) : Fin 3 → Nat :=
  let c2_1897 : Index := 2#32
  let c0_i32_1751 : BitVec 32 := 0#32
  let c1_i32_1753 : BitVec 32 := 1#32
  let arg15 : BitVec 32 := Scf.iv c0_i32_1751 c1_i32_1753 k0_t16
  let c32_i32 : BitVec 32 := 32#32
  let v2403 : BitVec 32 := Scalar.muli arg15 c32_i32
  let v2404 : BitVec 32 := v2403
  let v2586 : BitVec 32 := Scalar.addi v2404 c8_i32_1896
  let v2587 : Index := Scalar.indexCast v2586
  let c896_1898 : Index := 896#32
  ![2, v2587.toNat, 896]
def k0_off143 (k0_t16 : Fin k0_t16_loop.trips) (c8_i32_1908 : BitVec 32) : Fin 3 → Nat :=
  let c1_1909 : Index := 1#32
  let c0_i32_1751 : BitVec 32 := 0#32
  let c1_i32_1753 : BitVec 32 := 1#32
  let arg15 : BitVec 32 := Scf.iv c0_i32_1751 c1_i32_1753 k0_t16
  let c32_i32 : BitVec 32 := 32#32
  let v2403 : BitVec 32 := Scalar.muli arg15 c32_i32
  let v2404 : BitVec 32 := v2403
  let v2618 : BitVec 32 := Scalar.addi v2404 c8_i32_1908
  let v2619 : Index := Scalar.indexCast v2618
  let c896_1910 : Index := 896#32
  ![1, v2619.toNat, 896]
def k0_off144 (k0_t16 : Fin k0_t16_loop.trips) (c8_i32_1920 : BitVec 32) : Fin 3 → Nat :=
  let c0_1921 : Index := 0#32
  let c0_i32_1751 : BitVec 32 := 0#32
  let c1_i32_1753 : BitVec 32 := 1#32
  let arg15 : BitVec 32 := Scf.iv c0_i32_1751 c1_i32_1753 k0_t16
  let c32_i32 : BitVec 32 := 32#32
  let v2403 : BitVec 32 := Scalar.muli arg15 c32_i32
  let v2404 : BitVec 32 := v2403
  let v2650 : BitVec 32 := Scalar.addi v2404 c8_i32_1920
  let v2651 : Index := Scalar.indexCast v2650
  let c896_1922 : Index := 896#32
  ![0, v2651.toNat, 896]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Out.lean ====
abbrev S16384x1024 : Shape := ⟨2, ![16384, 1024]⟩
abbrev S16384x2816 : Shape := ⟨2, ![16384, 2816]⟩
abbrev S2816x1024 : Shape := ⟨2, ![2816, 1024]⟩
abbrev S1024 : Shape := ⟨1, ![1024]⟩
abbrev S1x1024 : Shape := ⟨2, ![1, 1024]⟩
abbrev S1024x1024 : Shape := ⟨2, ![1024, 1024]⟩
abbrev S1024x2816 : Shape := ⟨2, ![1024, 2816]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S2816x1024, .f32⟩
  | .hbm, ⟨3, _⟩ => ⟨S1024, .f32⟩
  | .hbm, ⟨4, _⟩ => ⟨S16384x2816, .bf16⟩
  | .hbm, ⟨5, _⟩ => ⟨S2816x1024, .bf16⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S16384x1024 : Shape := ⟨2, ![16384, 1024]⟩
abbrev S16384x2816 : Shape := ⟨2, ![16384, 2816]⟩
abbrev S2816x1024 : Shape := ⟨2, ![2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S2816x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== OutLoss.lean ====
abbrev S16384x1024 : Shape := ⟨2, ![16384, 1024]⟩
abbrev S16384x2816 : Shape := ⟨2, ![16384, 2816]⟩
abbrev S2816x1024 : Shape := ⟨2, ![2816, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 17
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S2816x1024, .f32⟩
  | .hbm, ⟨3, _⟩ => ⟨S1024, .f32⟩
  | .hbm, ⟨4, _⟩ => ⟨S16384x1024, .f32⟩
  | .hbm, ⟨5, _⟩ => ⟨S16384x2816, .bf16⟩
  | .hbm, ⟨6, _⟩ => ⟨S2816x1024, .bf16⟩
  | .hbm, ⟨7, _⟩ => ⟨S1x1024, .f32⟩
  | .hbm, ⟨8, _⟩ => ⟨S16384x1024, .f32⟩
  | .hbm, ⟨9, _⟩ => ⟨S16384x1024, .bf16⟩
  | .hbm, ⟨10, _⟩ => ⟨S8x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OutLossRefIdeal.lean ====
abbrev S16384x1024 : Shape := ⟨2, ![16384, 1024]⟩
abbrev S16384x2816 : Shape := ⟨2, ![16384, 2816]⟩
abbrev S2816x1024 : Shape := ⟨2, ![2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S2816x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Pw2Out.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S16384x1024, .bf16⟩
  | .hbm, ⟨5, _⟩ => ⟨S1024x1024, .bf16⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Pw2OutRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== SguOut.lean ====
abbrev S16384x1024 : Shape := ⟨2, ![16384, 1024]⟩
abbrev S16384x2048 : Shape := ⟨2, ![16384, 2048]⟩
abbrev S2048x1024 : Shape := ⟨2, ![2048, 1024]⟩
abbrev S1024 : Shape := ⟨1, ![1024]⟩
abbrev S1x1024 : Shape := ⟨2, ![1, 1024]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S2048x1024, .f32⟩
  | .hbm, ⟨3, _⟩ => ⟨S1024, .f32⟩
  | .hbm, ⟨4, _⟩ => ⟨S16384x2048, .bf16⟩
  | .hbm, ⟨5, _⟩ => ⟨S2048x1024, .bf16⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguOutRefIdeal.lean ====
abbrev S16384x1024 : Shape := ⟨2, ![16384, 1024]⟩
abbrev S16384x2048 : Shape := ⟨2, ![16384, 2048]⟩
abbrev S2048x1024 : Shape := ⟨2, ![2048, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S2048x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== SguInFwd.lean ====
abbrev S16384x1024 : Shape := ⟨2, ![16384, 1024]⟩
abbrev S1024 : Shape := ⟨1, ![1024]⟩
abbrev S1024x4096 : Shape := ⟨2, ![1024, 4096]⟩
abbrev S1x1024 : Shape := ⟨2, ![1, 1024]⟩
abbrev S4096x1024 : Shape := ⟨2, ![4096, 1024]⟩
abbrev S16384x4096 : Shape := ⟨2, ![16384, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S16384x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4096x1024, .bf16⟩
  | .local _ .vmem, ⟨4, _⟩ => ⟨S512x4096, .bf16⟩
  | .local _ .vmem, ⟨5, _⟩ => ⟨S512x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SguInFwdRefIdeal.lean ====
abbrev S16384x1024 : Shape := ⟨2, ![16384, 1024]⟩
abbrev S1024 : Shape := ⟨1, ![1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ConvFwd.lean ====
abbrev S16384x2048 : Shape := ⟨2, ![16384, 2048]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩
abbrev S16384x1024 : Shape := ⟨2, ![16384, 1024]⟩
abbrev S512x2048 : Shape := ⟨2, ![512, 2048]⟩
abbrev S512x1024 : Shape := ⟨2, ![512, 1024]⟩
abbrev S8x544x1024 : Shape := ⟨3, ![8, 544, 1024]⟩
abbrev S1x32x1024 : Shape := ⟨3, ![1, 32, 1024]⟩
abbrev S1x512x1024 : Shape := ⟨3, ![1, 512, 1024]⟩
abbrev S1x536x1024 : Shape := ⟨3, ![1, 536, 1024]⟩
abbrev S536x1024 : Shape := ⟨2, ![536, 1024]⟩
abbrev S1x128 : Shape := ⟨2, ![1, 128]⟩
abbrev S8x128 : Shape := ⟨2, ![8, 128]⟩
abbrev S1x8x128 : Shape := ⟨3, ![1, 8, 128]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S16384x2048, .bf16⟩
  | .hbm, ⟨12, _⟩ => ⟨S16384x1024, .f32⟩
  | .hbm, ⟨13, _⟩ => ⟨S16384x1024, .bf16⟩
  | .local _ .vmem, ⟨0, _⟩ => ⟨S512x2048, .bf16⟩
  | .local _ .vmem, ⟨1, _⟩ => ⟨S512x2048, .bf16⟩
  | .local _ .vmem, ⟨2, _⟩ => ⟨S32x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x544x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_82 : BitVec 32 := 0#32
  let c16_i32 : BitVec 32 := 16#32
  let v179 : BitVec 32 := Scalar.addi c0_i32_82 c16_i32
  let c1_i32 : BitVec 32 := 1#32
  ⟨c0_i32_82, v179, c1_i32⟩
def k0_mult1 (k0_t1 : Fin k0_t1_loop.trips) : BitVec 32 :=
  let c0_i32_82 : BitVec 32 := 0#32
  let c1_i32 : BitVec 32 := 1#32
  let arg9 : BitVec 32 := Scf.iv c0_i32_82 c1_i32 k0_t1
  let c32_i32 : BitVec 32 := 32#32
  let v1113 : BitVec 32 := Scalar.muli arg9 c32_i32
  v1113
def k0_off1 (k0_t1 : Fin k0_t1_loop.trips) (c0_i32_569 : BitVec 32) : Fin 3 → Nat :=
  let c2_570 : Index := 2#32
  let c0_i32_82 : BitVec 32 := 0#32
  let c1_i32 : BitVec 32 := 1#32
  let arg9 : BitVec 32 := Scf.iv c0_i32_82 c1_i32 k0_t1
  let c32_i32 : BitVec 32 := 32#32
  let v1113 : BitVec 32 := Scalar.muli arg9 c32_i32
  let v1114 : BitVec 32 := v1113
  let v1119 : BitVec 32 := Scalar.addi v1114 c0_i32_569
  let v1120 : Index := Scalar.indexCast v1119
  let c0_571 : Index := 0#32
  ![2, v1120.toNat, 0]
def k0_off2 (k0_t1 : Fin k0_t1_loop.trips) (c0_i32_579 : BitVec 32) : Fin 3 → Nat :=
  let c3_580 : Index := 3#32
  let c0_i32_82 : BitVec 32 := 0#32
  let c1_i32 : BitVec 32 := 1#32
  let arg9 : BitVec 32 := Scf.iv c0_i32_82 c1_i32 k0_t1
  let c32_i32 : BitVec 32 := 32#32
  let v1113 : BitVec 32 := Scalar.muli arg9 c32_i32
  let v1114 : BitVec 32 := v1113
  let v1143 : BitVec 32 := Scalar.addi v1114 c0_i32_579
  let v1144 : Index := Scalar.indexCast v1143
  let c0_581 : Index := 0#32
  ![3, v1144.toNat, 0]
def k0_off3 (k0_t1 : Fin k0_t1_loop.trips) (c0_i32_591 : BitVec 32) : Fin 3 → Nat :=
  let c4_592 : Index := 4#32
  let c0_i32_82 : BitVec 32 := 0#32
  let c1_i32 : BitVec 32 := 1#32
  let arg9 : BitVec 32 := Scf.iv c0_i32_82 c1_i32 k0_t1
  let c32_i32 : BitVec 32 := 32#32
  let v1113 : BitVec 32 := Scalar.muli arg9 c32_i32
  let v1114 : BitVec 32 := v1113
  let v1167 : BitVec 32 := Scalar.addi v1114 c0_i32_591
  let v1168 : Index := Scalar.indexCast v1167
  let c0_593 : Index := 0#32
  ![4, v1168.toNat, 0]
def k0_off4 (k0_t1 : Fin k0_t1_loop.trips) (c0_i32_603 : BitVec 32) : Fin 3 → Nat :=
  let c5_604 : Index := 5#32
  let c0_i32_82 : BitVec 32 := 0#32
  let c1_i32 : BitVec 32 := 1#32
  let arg9 : BitVec 32 := Scf.iv c0_i32_82 c1_i32 k0_t1
  let c32_i32 : BitVec 32 := 32#32
  let v1113 : BitVec 32 := Scalar.muli arg9 c32_i32
  let v1114 : BitVec 32 := v1113
  let v1191 : BitVec 32 := Scalar.addi v1114 c0_i32_603
  let v1192 : Index := Scalar.indexCast v1191
  let c0_605 : Index := 0#32
  ![5, v1192.toNat, 0]
def k0_off5 (k0_t1 : Fin k0_t1_loop.trips) (c0_i32_615 : BitVec 32) : Fin 3 → Nat :=
  let c6_616 : Index := 6#32
  let c0_i32_82 : BitVec 32 := 0#32
  let c1_i32 : BitVec 32 := 1#32
  let arg9 : BitVec 32 := Scf.iv c0_i32_82 c1_i32 k0_t1
  let c32_i32 : BitVec 32 := 32#32
  let v1113 : BitVec 32 := Scalar.muli arg9 c32_i32
  let v1114 : BitVec 32 := v1113
  let v1215 : BitVec 32 := Scalar.addi v1114 c0_i32_615
  let v1216 : Index := Scalar.indexCast v1215
  let c0_617 : Index := 0#32
  ![6, v1216.toNat, 0]
def k0_off6 (k0_t1 : Fin k0_t1_loop.trips) (c0_i32_627 : BitVec 32) : Fin 3 → Nat :=
  let c7_628 : Index := 7#32
  let c0_i32_82 : BitVec 32 := 0#32
  let c1_i32 : BitVec 32 := 1#32
  let arg9 : BitVec 32 := Scf.iv c0_i32_82 c1_i32 k0_t1
  let c32_i32 : BitVec 32 := 32#32
  let v1113 : BitVec 32 := Scalar.muli arg9 c32_i32
  let v1114 : BitVec 32 := v1113
  let v1239 : BitVec 32 := Scalar.addi v1114 c0_i32_627
  let v1240 : Index := Scalar.indexCast v1239
  let c0_629 : Index := 0#32
  ![7, v1240.toNat, 0]
def k0_off7 (k0_t1 : Fin k0_t1_loop.trips) (c8_i32_639 : BitVec 32) : Fin 3 → Nat :=
  let c0_640 : Index := 0#32
  let c0_i32_82 : BitVec 32 := 0#32
  let c1_i32 : BitVec 32 := 1#32
  let arg9 : BitVec 32 := Scf.iv c0_i32_82 c1_i32 k0_t1
  let c32_i32 : BitVec 32 := 32#32
  let v1113 : BitVec 32 := Scalar.muli arg9 c32_i32
  let v1114 : BitVec 32 := v1113
  let v1263 : BitVec 32 := Scalar.addi v1114 c8_i32_639
  let v1264 : Index := Scalar.indexCast v1263
  let c0_641 : Index := 0#32
  ![0, v1264.toNat, 0]
def k0_off8 (k0_t1 : Fin k0_t1_loop.trips) (c8_i32_651 : BitVec 32) : Fin 3 → Nat :=
  let c1_652 : Index := 1#32
  let c0_i32_82 : BitVec 32 := 0#32
  let c1_i32 : BitVec 32 := 1#32
  let arg9 : BitVec 32 := Scf.iv c0_i32_82 c1_i32 k0_t1
  let c32_i32 : BitVec 32 := 32#32
  let v1113 : BitVec 32 := Scalar.muli arg9 c32_i32
  let v1114 : BitVec 32 := v1113
  let v1287 : BitVec 32 := Scalar.addi v1114 c8_i32_651
  let v1288 : Index := Scalar.indexCast v1287
  let c0_653 : Index := 0#32
  ![1, v1288.toNat, 0]
def k0_off9 (k0_t1 : Fin k0_t1_loop.trips) (c0_i32_936 : BitVec 32) : Fin 2 → Nat :=
  let c0_i32_82 : BitVec 32 := 0#32
  let c1_i32 : BitVec 32 := 1#32
  let arg9 : BitVec 32 := Scf.iv c0_i32_82 c1_i32 k0_t1
  let c32_i32 : BitVec 32 := 32#32
  let v1113 : BitVec 32 := Scalar.muli arg9 c32_i32
  let v1114 : BitVec 32 := v1113
  let v1864 : BitVec 32 := Scalar.addi v1114 c0_i32_936
  let v1865 : Index := Scalar.indexCast v1864
  let c0_937 : Index := 0#32
  ![v1865.toNat, 0]
@[reducible] def k0_t2_loop : Scf.Loop 32 :=
  let c0_i32_147 : BitVec 32 := 0#32
  let c16_i32_148 : BitVec 32 := 16#32
  let v308 : BitVec 32 := Scalar.addi c0_i32_147 c16_i32_148
  let c1_i32_149 : BitVec 32 := 1#32
  ⟨c0_i32_147, v308, c1_i32_149⟩
def k0_mult2 (k0_t2 : Fin k0_t2_loop.trips) : BitVec 32 :=
  let c0_i32_147 : BitVec 32 := 0#32
  let c1_i32_149 : BitVec 32 := 1#32
  let arg9 : BitVec 32 := Scf.iv c0_i32_147 c1_i32_149 k0_t2
  let c32_i32 : BitVec 32 := 32#32
  let v1113 : BitVec 32 := Scalar.muli arg9 c32_i32
  v1113
def k0_off10 (k0_t2 : Fin k0_t2_loop.trips) (c0_i32_569 : BitVec 32) : Fin 3 → Nat :=
  let c2_570 : Index := 2#32
  let c0_i32_147 : BitVec 32 := 0#32
  let c1_i32_149 : BitVec 32 := 1#32
  let arg9 : BitVec 32 := Scf.iv c0_i32_147 c1_i32_149 k0_t2
  let c32_i32 : BitVec 32 := 32#32
  let v1113 : BitVec 32 := Scalar.muli arg9 c32_i32
  let v1114 : BitVec 32 := v1113
  let v1119 : BitVec 32 := Scalar.addi v1114 c0_i32_569
  let v1120 : Index := Scalar.indexCast v1119
  let c128_571 : Index := 128#32
  ![2, v1120.toNat, 128]
def k0_off11 (k0_t2 : Fin k0_t2_loop.trips) (c0_i32_579 : BitVec 32) : Fin 3 → Nat :=
  let c3_580 : Index := 3#32
  let c0_i32_147 : BitVec 32 := 0#32
  let c1_i32_149 : BitVec 32 := 1#32
  let arg9 : BitVec 32 := Scf.iv c0_i32_147 c1_i32_149 k0_t2
  let c32_i32 : BitVec 32 := 32#32
  let v1113 : BitVec 32 := Scalar.muli arg9 c32_i32
  let v1114 : BitVec 32 := v1113
  let v1143 : BitVec 32 := Scalar.addi v1114 c0_i32_579
  let v1144 : Index := Scalar.indexCast v1143
  let c128_581 : Index := 128#32
  ![3, v1144.toNat, 128]
def k0_off12 (k0_t2 : Fin k0_t2_loop.trips) (c0_i32_591 : BitVec 32) : Fin 3 → Nat :=
  let c4_592 : Index := 4#32
  let c0_i32_147 : BitVec 32 := 0#32
  let c1_i32_149 : BitVec 32 := 1#32
  let arg9 : BitVec 32 := Scf.iv c0_i32_147 c1_i32_149 k0_t2
  let c32_i32 : BitVec 32 := 32#32
  let v1113 : BitVec 32 := Scalar.muli arg9 c32_i32
  let v1114 : BitVec 32 := v1113
  let v1167 : BitVec 32 := Scalar.addi v1114 c0_i32_591
  let v1168 : Index := Scalar.indexCast v1167
  let c128_593 : Index := 128#32
  ![4, v1168.toNat, 128]
def k0_off13 (k0_t2 : Fin k0_t2_loop.trips) (c0_i32_603 : BitVec 32) : Fin 3 → Nat :=
  let c5_604 : Index := 5#32
  let c0_i32_147 : BitVec 32 := 0#32
  let c1_i32_149 : BitVec 32 := 1#32
  let arg9 : BitVec 32 := Scf.iv c0_i32_147 c1_i32_149 k0_t2
  let c32_i32 : BitVec 32 := 32#32
  let v1113 : BitVec 32 := Scalar.muli arg9 c32_i32
  let v1114 : BitVec 32 := v1113
  let v1191 : BitVec 32 := Scalar.addi v1114 c0_i32_603
  let v1192 : Index := Scalar.indexCast v1191
  let c128_605 : Index := 128#32
  ![5, v1192.toNat, 128]
def k0_off14 (k0_t2 : Fin k0_t2_loop.trips) (c0_i32_615 : BitVec 32) : Fin 3 → Nat :=
  let c6_616 : Index := 6#32
  let c0_i32_147 : BitVec 32 := 0#32
  let c1_i32_149 : BitVec 32 := 1#32
  let arg9 : BitVec 32 := Scf.iv c0_i32_147 c1_i32_149 k0_t2
  let c32_i32 : BitVec 32 := 32#32
  let v1113 : BitVec 32 := Scalar.muli arg9 c32_i32
  let v1114 : BitVec 32 := v1113
  let v1215 : BitVec 32 := Scalar.addi v1114 c0_i32_615
  let v1216 : Index := Scalar.indexCast v1215
  let c128_617 : Index := 128#32
  ![6, v1216.toNat, 128]
def k0_off15 (k0_t2 : Fin k0_t2_loop.trips) (c0_i32_627 : BitVec 32) : Fin 3 → Nat :=
  let c7_628 : Index := 7#32
  let c0_i32_147 : BitVec 32 := 0#32
  let c1_i32_149 : BitVec 32 := 1#32
  let arg9 : BitVec 32 := Scf.iv c0_i32_147 c1_i32_149 k0_t2
  let c32_i32 : BitVec 32 := 32#32
  let v1113 : BitVec 32 := Scalar.muli arg9 c32_i32
  let v1114 : BitVec 32 := v1113
  let v1239 : BitVec 32 := Scalar.addi v1114 c0_i32_627
  let v1240 : Index := Scalar.indexCast v1239
  let c128_629 : Index := 128#32
  ![7, v1240.toNat, 128]
def k0_off16 (k0_t2 : Fin k0_t2_loop.trips) (c8_i32_639 : BitVec 32) : Fin 3 → Nat :=
  let c0_640 : Index := 0#32
  let c0_i32_147 : BitVec 32 := 0#32
  let c1_i32_149 : BitVec 32 := 1#32
  let arg9 : BitVec 32 := Scf.iv c0_i32_147 c1_i32_149 k0_t2
  let c32_i32 : BitVec 32 := 32#32
  let v1113 : BitVec 32 := Scalar.muli arg9 c32_i32
  let v1114 : BitVec 32 := v1113
  let v1263 : BitVec 32 := Scalar.addi v1114 c8_i32_639
  let v1264 : Index := Scalar.indexCast v1263
  let c128_641 : Index := 128#32
  ![0, v1264.toNat, 128]
def k0_off17 (k0_t2 : Fin k0_t2_loop.trips) (c8_i32_651 : BitVec 32) : Fin 3 → Nat :=
  let c1_652 : Index := 1#32
  let c0_i32_147 : BitVec 32 := 0#32
  let c1_i32_149 : BitVec 32 := 1#32
  let arg9 : BitVec 32 := Scf.iv c0_i32_147 c1_i32_149 k0_t2
  let c32_i32 : BitVec 32 := 32#32
  let v1113 : BitVec 32 := Scalar.muli arg9 c32_i32
  let v1114 : BitVec 32 := v1113
  let v1287 : BitVec 32 := Scalar.addi v1114 c8_i32_651
  let v1288 : Index := Scalar.indexCast v1287
  let c128_653 : Index := 128#32
  ![1, v1288.toNat, 128]
def k0_off18 (k0_t2 : Fin k0_t2_loop.trips) (c0_i32_936 : BitVec 32) : Fin 2 → Nat :=
  let c0_i32_147 : BitVec 32 := 0#32
  let c1_i32_149 : BitVec 32 := 1#32
  let arg9 : BitVec 32 := Scf.iv c0_i32_147 c1_i32_149 k0_t2
  let c32_i32 : BitVec 32 := 32#32
  let v1113 : BitVec 32 := Scalar.muli arg9 c32_i32
  let v1114 : BitVec 32 := v1113
  let v1864 : BitVec 32 := Scalar.addi v1114 c0_i32_936
  let v1865 : Index := Scalar.indexCast v1864
  let c128_937 : Index := 128#32
  ![v1865.toNat, 128]
@[reducible] def k0_t3_loop : Scf.Loop 32 :=
  let c0_i32_214 : BitVec 32 := 0#32
  let c16_i32_215 : BitVec 32 := 16#32
  let v437 : BitVec 32 := Scalar.addi c0_i32_214 c16_i32_215
  let c1_i32_216 : BitVec 32 := 1#32
  ⟨c0_i32_214, v437, c1_i32_216⟩
def k0_mult3 (k0_t3 : Fin k0_t3_loop.trips) : BitVec 32 :=
  let c0_i32_214 : BitVec 32 := 0#32
  let c1_i32_216 : BitVec 32 := 1#32
  let arg9 : BitVec 32 := Scf.iv c0_i32_214 c1_i32_216 k0_t3
  let c32_i32 : BitVec 32 := 32#32
  let v1113 : BitVec 32 := Scalar.muli arg9 c32_i32
  v1113
def k0_off19 (k0_t3 : Fin k0_t3_loop.trips) (c0_i32_569 : BitVec 32) : Fin 3 → Nat :=
  let c2_570 : Index := 2#32
  let c0_i32_214 : BitVec 32 := 0#32
  let c1_i32_216 : BitVec 32 := 1#32
  let arg9 : BitVec 32 := Scf.iv c0_i32_214 c1_i32_216 k0_t3
  let c32_i32 : BitVec 32 := 32#32
  let v1113 : BitVec 32 := Scalar.muli arg9 c32_i32
  let v1114 : BitVec 32 := v1113
  let v1119 : BitVec 32 := Scalar.addi v1114 c0_i32_569
  let v1120 : Index := Scalar.indexCast v1119
  let c256_571 : Index := 256#32
  ![2, v1120.toNat, 256]
def k0_off20 (k0_t3 : Fin k0_t3_loop.trips) (c0_i32_579 : BitVec 32) : Fin 3 → Nat :=
  let c3_580 : Index := 3#32
  let c0_i32_214 : BitVec 32 := 0#32
  let c1_i32_216 : BitVec 32 := 1#32
  let arg9 : BitVec 32 := Scf.iv c0_i32_214 c1_i32_216 k0_t3
  let c32_i32 : BitVec 32 := 32#32
  let v1113 : BitVec 32 := Scalar.muli arg9 c32_i32
  let v1114 : BitVec 32 := v1113
  let v1143 : BitVec 32 := Scalar.addi v1114 c0_i32_579
  let v1144 : Index := Scalar.indexCast v1143
  let c256_581 : Index := 256#32
  ![3, v1144.toNat, 256]
def k0_off21 (k0_t3 : Fin k0_t3_loop.trips) (c0_i32_591 : BitVec 32) : Fin 3 → Nat :=
  let c4_592 : Index := 4#32
  let c0_i32_214 : BitVec 32 := 0#32
  let c1_i32_216 : BitVec 32 := 1#32
  let arg9 : BitVec 32 := Scf.iv c0_i32_214 c1_i32_216 k0_t3
  let c32_i32 : BitVec 32 := 32#32
  let v1113 : BitVec 32 := Scalar.muli arg9 c32_i32
  let v1114 : BitVec 32 := v1113
  let v1167 : BitVec 32 := Scalar.addi v1114 c0_i32_591
  let v1168 : Index := Scalar.indexCast v1167
  let c256_593 : Index := 256#32
  ![4, v1168.toNat, 256]
def k0_off22 (k0_t3 : Fin k0_t3_loop.trips) (c0_i32_603 : BitVec 32) : Fin 3 → Nat :=
  let c5_604 : Index := 5#32
  let c0_i32_214 : BitVec 32 := 0#32
  let c1_i32_216 : BitVec 32 := 1#32
  let arg9 : BitVec 32 := Scf.iv c0_i32_214 c1_i32_216 k0_t3
  let c32_i32 : BitVec 32 := 32#32
  let v1113 : BitVec 32 := Scalar.muli arg9 c32_i32
  let v1114 : BitVec 32 := v1113
  let v1191 : BitVec 32 := Scalar.addi v1114 c0_i32_603
  let v1192 : Index := Scalar.indexCast v1191
  let c256_605 : Index := 256#32
  ![5, v1192.toNat, 256]
def k0_off23 (k0_t3 : Fin k0_t3_loop.trips) (c0_i32_615 : BitVec 32) : Fin 3 → Nat :=
  let c6_616 : Index := 6#32
  let c0_i32_214 : BitVec 32 := 0#32
  let c1_i32_216 : BitVec 32 := 1#32
  let arg9 : BitVec 32 := Scf.iv c0_i32_214 c1_i32_216 k0_t3
  let c32_i32 : BitVec 32 := 32#32
  let v1113 : BitVec 32 := Scalar.muli arg9 c32_i32
  let v1114 : BitVec 32 := v1113
  let v1215 : BitVec 32 := Scalar.addi v1114 c0_i32_615
  let v1216 : Index := Scalar.indexCast v1215
  let c256_617 : Index := 256#32
  ![6, v1216.toNat, 256]
def k0_off24 (k0_t3 : Fin k0_t3_loop.trips) (c0_i32_627 : BitVec 32) : Fin 3 → Nat :=
  let c7_628 : Index := 7#32
  let c0_i32_214 : BitVec 32 := 0#32
  let c1_i32_216 : BitVec 32 := 1#32
  let arg9 : BitVec 32 := Scf.iv c0_i32_214 c1_i32_216 k0_t3
  let c32_i32 : BitVec 32 := 32#32
  let v1113 : BitVec 32 := Scalar.muli arg9 c32_i32
  let v1114 : BitVec 32 := v1113
  let v1239 : BitVec 32 := Scalar.addi v1114 c0_i32_627
  let v1240 : Index := Scalar.indexCast v1239
  let c256_629 : Index := 256#32
  ![7, v1240.toNat, 256]
def k0_off25 (k0_t3 : Fin k0_t3_loop.trips) (c8_i32_639 : BitVec 32) : Fin 3 → Nat :=
  let c0_640 : Index := 0#32
  let c0_i32_214 : BitVec 32 := 0#32
  let c1_i32_216 : BitVec 32 := 1#32
  let arg9 : BitVec 32 := Scf.iv c0_i32_214 c1_i32_216 k0_t3
  let c32_i32 : BitVec 32 := 32#32
  let v1113 : BitVec 32 := Scalar.muli arg9 c32_i32
  let v1114 : BitVec 32 := v1113
  let v1263 : BitVec 32 := Scalar.addi v1114 c8_i32_639
  let v1264 : Index := Scalar.indexCast v1263
  let c256_641 : Index := 256#32
  ![0, v1264.toNat, 256]
def k0_off26 (k0_t3 : Fin k0_t3_loop.trips) (c8_i32_651 : BitVec 32) : Fin 3 → Nat :=
  let c1_652 : Index := 1#32
  let c0_i32_214 : BitVec 32 := 0#32
  let c1_i32_216 : BitVec 32 := 1#32
  let arg9 : BitVec 32 := Scf.iv c0_i32_214 c1_i32_216 k0_t3
  let c32_i32 : BitVec 32 := 32#32
  let v1113 : BitVec 32 := Scalar.muli arg9 c32_i32
  let v1114 : BitVec 32 := v1113
  let v1287 : BitVec 32 := Scalar.addi v1114 c8_i32_651
  let v1288 : Index := Scalar.indexCast v1287
  let c256_653 : Index := 256#32
  ![1, v1288.toNat, 256]
def k0_off27 (k0_t3 : Fin k0_t3_loop.trips) (c0_i32_936 : BitVec 32) : Fin 2 → Nat :=
  let c0_i32_214 : BitVec 32 := 0#32
  let c1_i32_216 : BitVec 32 := 1#32
  let arg9 : BitVec 32 := Scf.iv c0_i32_214 c1_i32_216 k0_t3
  let c32_i32 : BitVec 32 := 32#32
  let v1113 : BitVec 32 := Scalar.muli arg9 c32_i32
  let v1114 : BitVec 32 := v1113
  let v1864 : BitVec 32 := Scalar.addi v1114 c0_i32_936
  let v1865 : Index := Scalar.indexCast v1864
  let c256_937 : Index := 256#32
  ![v1865.toNat, 256]
@[reducible] def k0_t4_loop : Scf.Loop 32 :=
  let c0_i32_281 : BitVec 32 := 0#32
  let c16_i32_282 : BitVec 32 := 16#32
  let v566 : BitVec 32 := Scalar.addi c0_i32_281 c16_i32_282
  let c1_i32_283 : BitVec 32 := 1#32
  ⟨c0_i32_281, v566, c1_i32_283⟩
def k0_mult4 (k0_t4 : Fin k0_t4_loop.trips) : BitVec 32 :=
  let c0_i32_281 : BitVec 32 := 0#32
  let c1_i32_283 : BitVec 32 := 1#32
  let arg9 : BitVec 32 := Scf.iv c0_i32_281 c1_i32_283 k0_t4
  let c32_i32 : BitVec 32 := 32#32
  let v1113 : BitVec 32 := Scalar.muli arg9 c32_i32
  v1113
def k0_off28 (k0_t4 : Fin k0_t4_loop.trips) (c0_i32_569 : BitVec 32) : Fin 3 → Nat :=
  let c2_570 : Index := 2#32
  let c0_i32_281 : BitVec 32 := 0#32
  let c1_i32_283 : BitVec 32 := 1#32
  let arg9 : BitVec 32 := Scf.iv c0_i32_281 c1_i32_283 k0_t4
  let c32_i32 : BitVec 32 := 32#32
  let v1113 : BitVec 32 := Scalar.muli arg9 c32_i32
  let v1114 : BitVec 32 := v1113
  let v1119 : BitVec 32 := Scalar.addi v1114 c0_i32_569
  let v1120 : Index := Scalar.indexCast v1119
  let c384_571 : Index := 384#32
  ![2, v1120.toNat, 384]
def k0_off29 (k0_t4 : Fin k0_t4_loop.trips) (c0_i32_579 : BitVec 32) : Fin 3 → Nat :=
  let c3_580 : Index := 3#32
  let c0_i32_281 : BitVec 32 := 0#32
  let c1_i32_283 : BitVec 32 := 1#32
  let arg9 : BitVec 32 := Scf.iv c0_i32_281 c1_i32_283 k0_t4
  let c32_i32 : BitVec 32 := 32#32
  let v1113 : BitVec 32 := Scalar.muli arg9 c32_i32
  let v1114 : BitVec 32 := v1113
  let v1143 : BitVec 32 := Scalar.addi v1114 c0_i32_579
  let v1144 : Index := Scalar.indexCast v1143
  let c384_581 : Index := 384#32
  ![3, v1144.toNat, 384]
def k0_off30 (k0_t4 : Fin k0_t4_loop.trips) (c0_i32_591 : BitVec 32) : Fin 3 → Nat :=
  let c4_592 : Index := 4#32
  let c0_i32_281 : BitVec 32 := 0#32
  let c1_i32_283 : BitVec 32 := 1#32
  let arg9 : BitVec 32 := Scf.iv c0_i32_281 c1_i32_283 k0_t4
  let c32_i32 : BitVec 32 := 32#32
  let v1113 : BitVec 32 := Scalar.muli arg9 c32_i32
  let v1114 : BitVec 32 := v1113
  let v1167 : BitVec 32 := Scalar.addi v1114 c0_i32_591
  let v1168 : Index := Scalar.indexCast v1167
  let c384_593 : Index := 384#32
  ![4, v1168.toNat, 384]
def k0_off31 (k0_t4 : Fin k0_t4_loop.trips) (c0_i32_603 : BitVec 32) : Fin 3 → Nat :=
  let c5_604 : Index := 5#32
  let c0_i32_281 : BitVec 32 := 0#32
  let c1_i32_283 : BitVec 32 := 1#32
  let arg9 : BitVec 32 := Scf.iv c0_i32_281 c1_i32_283 k0_t4
  let c32_i32 : BitVec 32 := 32#32
  let v1113 : BitVec 32 := Scalar.muli arg9 c32_i32
  let v1114 : BitVec 32 := v1113
  let v1191 : BitVec 32 := Scalar.addi v1114 c0_i32_603
  let v1192 : Index := Scalar.indexCast v1191
  let c384_605 : Index := 384#32
  ![5, v1192.toNat, 384]
def k0_off32 (k0_t4 : Fin k0_t4_loop.trips) (c0_i32_615 : BitVec 32) : Fin 3 → Nat :=
  let c6_616 : Index := 6#32
  let c0_i32_281 : BitVec 32 := 0#32
  let c1_i32_283 : BitVec 32 := 1#32
  let arg9 : BitVec 32 := Scf.iv c0_i32_281 c1_i32_283 k0_t4
  let c32_i32 : BitVec 32 := 32#32
  let v1113 : BitVec 32 := Scalar.muli arg9 c32_i32
  let v1114 : BitVec 32 := v1113
  let v1215 : BitVec 32 := Scalar.addi v1114 c0_i32_615
  let v1216 : Index := Scalar.indexCast v1215
  let c384_617 : Index := 384#32
  ![6, v1216.toNat, 384]
def k0_off33 (k0_t4 : Fin k0_t4_loop.trips) (c0_i32_627 : BitVec 32) : Fin 3 → Nat :=
  let c7_628 : Index := 7#32
  let c0_i32_281 : BitVec 32 := 0#32
  let c1_i32_283 : BitVec 32 := 1#32
  let arg9 : BitVec 32 := Scf.iv c0_i32_281 c1_i32_283 k0_t4
  let c32_i32 : BitVec 32 := 32#32
  let v1113 : BitVec 32 := Scalar.muli arg9 c32_i32
  let v1114 : BitVec 32 := v1113
  let v1239 : BitVec 32 := Scalar.addi v1114 c0_i32_627
  let v1240 : Index := Scalar.indexCast v1239
  let c384_629 : Index := 384#32
  ![7, v1240.toNat, 384]
def k0_off34 (k0_t4 : Fin k0_t4_loop.trips) (c8_i32_639 : BitVec 32) : Fin 3 → Nat :=
  let c0_640 : Index := 0#32
  let c0_i32_281 : BitVec 32 := 0#32
  let c1_i32_283 : BitVec 32 := 1#32
  let arg9 : BitVec 32 := Scf.iv c0_i32_281 c1_i32_283 k0_t4
  let c32_i32 : BitVec 32 := 32#32
  let v1113 : BitVec 32 := Scalar.muli arg9 c32_i32
  let v1114 : BitVec 32 := v1113
  let v1263 : BitVec 32 := Scalar.addi v1114 c8_i32_639
  let v1264 : Index := Scalar.indexCast v1263
  let c384_641 : Index := 384#32
  ![0, v1264.toNat, 384]
def k0_off35 (k0_t4 : Fin k0_t4_loop.trips) (c8_i32_651 : BitVec 32) : Fin 3 → Nat :=
  let c1_652 : Index := 1#32
  let c0_i32_281 : BitVec 32 := 0#32
  let c1_i32_283 : BitVec 32 := 1#32
  let arg9 : BitVec 32 := Scf.iv c0_i32_281 c1_i32_283 k0_t4
  let c32_i32 : BitVec 32 := 32#32
  let v1113 : BitVec 32 := Scalar.muli arg9 c32_i32
  let v1114 : BitVec 32 := v1113
  let v1287 : BitVec 32 := Scalar.addi v1114 c8_i32_651
  let v1288 : Index := Scalar.indexCast v1287
  let c384_653 : Index := 384#32
  ![1, v1288.toNat, 384]
def k0_off36 (k0_t4 : Fin k0_t4_loop.trips) (c0_i32_936 : BitVec 32) : Fin 2 → Nat :=
  let c0_i32_281 : BitVec 32 := 0#32
  let c1_i32_283 : BitVec 32 := 1#32
  let arg9 : BitVec 32 := Scf.iv c0_i32_281 c1_i32_283 k0_t4
  let c32_i32 : BitVec 32 := 32#32
  let v1113 : BitVec 32 := Scalar.muli arg9 c32_i32
  let v1114 : BitVec 32 := v1113
  let v1864 : BitVec 32 := Scalar.addi v1114 c0_i32_936
  let v1865 : Index := Scalar.indexCast v1864
  let c384_937 : Index := 384#32
  ![v1865.toNat, 384]
@[reducible] def k0_t5_loop : Scf.Loop 32 :=
  let c0_i32_348 : BitVec 32 := 0#32
  let c16_i32_349 : BitVec 32 := 16#32
  let v695 : BitVec 32 := Scalar.addi c0_i32_348 c16_i32_349
  let c1_i32_350 : BitVec 32 := 1#32
  ⟨c0_i32_348, v695, c1_i32_350⟩
def k0_mult5 (k0_t5 : Fin k0_t5_loop.trips) : BitVec 32 :=
  let c0_i32_348 : BitVec 32 := 0#32
  let c1_i32_350 : BitVec 32 := 1#32
  let arg9 : BitVec 32 := Scf.iv c0_i32_348 c1_i32_350 k0_t5
  let c32_i32 : BitVec 32 := 32#32
  let v1113 : BitVec 32 := Scalar.muli arg9 c32_i32
  v1113
def k0_off37 (k0_t5 : Fin k0_t5_loop.trips) (c0_i32_569 : BitVec 32) : Fin 3 → Nat :=
  let c2_570 : Index := 2#32
  let c0_i32_348 : BitVec 32 := 0#32
  let c1_i32_350 : BitVec 32 := 1#32
  let arg9 : BitVec 32 := Scf.iv c0_i32_348 c1_i32_350 k0_t5
  let c32_i32 : BitVec 32 := 32#32
  let v1113 : BitVec 32 := Scalar.muli arg9 c32_i32
  let v1114 : BitVec 32 := v1113
  let v1119 : BitVec 32 := Scalar.addi v1114 c0_i32_569
  let v1120 : Index := Scalar.indexCast v1119
  let c512_571 : Index := 512#32
  ![2, v1120.toNat, 512]
def k0_off38 (k0_t5 : Fin k0_t5_loop.trips) (c0_i32_579 : BitVec 32) : Fin 3 → Nat :=
  let c3_580 : Index := 3#32
  let c0_i32_348 : BitVec 32 := 0#32
  let c1_i32_350 : BitVec 32 := 1#32
  let arg9 : BitVec 32 := Scf.iv c0_i32_348 c1_i32_350 k0_t5
  let c32_i32 : BitVec 32 := 32#32
  let v1113 : BitVec 32 := Scalar.muli arg9 c32_i32
  let v1114 : BitVec 32 := v1113
  let v1143 : BitVec 32 := Scalar.addi v1114 c0_i32_579
  let v1144 : Index := Scalar.indexCast v1143
  let c512_581 : Index := 512#32
  ![3, v1144.toNat, 512]
def k0_off39 (k0_t5 : Fin k0_t5_loop.trips) (c0_i32_591 : BitVec 32) : Fin 3 → Nat :=
  let c4_592 : Index := 4#32
  let c0_i32_348 : BitVec 32 := 0#32
  let c1_i32_350 : BitVec 32 := 1#32
  let arg9 : BitVec 32 := Scf.iv c0_i32_348 c1_i32_350 k0_t5
  let c32_i32 : BitVec 32 := 32#32
  let v1113 : BitVec 32 := Scalar.muli arg9 c32_i32
  let v1114 : BitVec 32 := v1113
  let v1167 : BitVec 32 := Scalar.addi v1114 c0_i32_591
  let v1168 : Index := Scalar.indexCast v1167
  let c512_593 : Index := 512#32
  ![4, v1168.toNat, 512]
def k0_off40 (k0_t5 : Fin k0_t5_loop.trips) (c0_i32_603 : BitVec 32) : Fin 3 → Nat :=
  let c5_604 : Index := 5#32
  let c0_i32_348 : BitVec 32 := 0#32
  let c1_i32_350 : BitVec 32 := 1#32
  let arg9 : BitVec 32 := Scf.iv c0_i32_348 c1_i32_350 k0_t5
  let c32_i32 : BitVec 32 := 32#32
  let v1113 : BitVec 32 := Scalar.muli arg9 c32_i32
  let v1114 : BitVec 32 := v1113
  let v1191 : BitVec 32 := Scalar.addi v1114 c0_i32_603
  let v1192 : Index := Scalar.indexCast v1191
  let c512_605 : Index := 512#32
  ![5, v1192.toNat, 512]
def k0_off41 (k0_t5 : Fin k0_t5_loop.trips) (c0_i32_615 : BitVec 32) : Fin 3 → Nat :=
  let c6_616 : Index := 6#32
  let c0_i32_348 : BitVec 32 := 0#32
  let c1_i32_350 : BitVec 32 := 1#32
  let arg9 : BitVec 32 := Scf.iv c0_i32_348 c1_i32_350 k0_t5
  let c32_i32 : BitVec 32 := 32#32
  let v1113 : BitVec 32 := Scalar.muli arg9 c32_i32
  let v1114 : BitVec 32 := v1113
  let v1215 : BitVec 32 := Scalar.addi v1114 c0_i32_615
  let v1216 : Index := Scalar.indexCast v1215
  let c512_617 : Index := 512#32
  ![6, v1216.toNat, 512]
def k0_off42 (k0_t5 : Fin k0_t5_loop.trips) (c0_i32_627 : BitVec 32) : Fin 3 → Nat :=
  let c7_628 : Index := 7#32
  let c0_i32_348 : BitVec 32 := 0#32
  let c1_i32_350 : BitVec 32 := 1#32
  let arg9 : BitVec 32 := Scf.iv c0_i32_348 c1_i32_350 k0_t5
  let c32_i32 : BitVec 32 := 32#32
  let v1113 : BitVec 32 := Scalar.muli arg9 c32_i32
  let v1114 : BitVec 32 := v1113
  let v1239 : BitVec 32 := Scalar.addi v1114 c0_i32_627
  let v1240 : Index := Scalar.indexCast v1239
  let c512_629 : Index := 512#32
  ![7, v1240.toNat, 512]
def k0_off43 (k0_t5 : Fin k0_t5_loop.trips) (c8_i32_639 : BitVec 32) : Fin 3 → Nat :=
  let c0_640 : Index := 0#32
  let c0_i32_348 : BitVec 32 := 0#32
  let c1_i32_350 : BitVec 32 := 1#32
  let arg9 : BitVec 32 := Scf.iv c0_i32_348 c1_i32_350 k0_t5
  let c32_i32 : BitVec 32 := 32#32
  let v1113 : BitVec 32 := Scalar.muli arg9 c32_i32
  let v1114 : BitVec 32 := v1113
  let v1263 : BitVec 32 := Scalar.addi v1114 c8_i32_639
  let v1264 : Index := Scalar.indexCast v1263
  let c512_641 : Index := 512#32
  ![0, v1264.toNat, 512]
def k0_off44 (k0_t5 : Fin k0_t5_loop.trips) (c8_i32_651 : BitVec 32) : Fin 3 → Nat :=
  let c1_652 : Index := 1#32
  let c0_i32_348 : BitVec 32 := 0#32
  let c1_i32_350 : BitVec 32 := 1#32
  let arg9 : BitVec 32 := Scf.iv c0_i32_348 c1_i32_350 k0_t5
  let c32_i32 : BitVec 32 := 32#32
  let v1113 : BitVec 32 := Scalar.muli arg9 c32_i32
  let v1114 : BitVec 32 := v1113
  let v1287 : BitVec 32 := Scalar.addi v1114 c8_i32_651
  let v1288 : Index := Scalar.indexCast v1287
  let c512_653 : Index := 512#32
  ![1, v1288.toNat, 512]
def k0_off45 (k0_t5 : Fin k0_t5_loop.trips) (c0_i32_936 : BitVec 32) : Fin 2 → Nat :=
  let c0_i32_348 : BitVec 32 := 0#32
  let c1_i32_350 : BitVec 32 := 1#32
  let arg9 : BitVec 32 := Scf.iv c0_i32_348 c1_i32_350 k0_t5
  let c32_i32 : BitVec 32 := 32#32
  let v1113 : BitVec 32 := Scalar.muli arg9 c32_i32
  let v1114 : BitVec 32 := v1113
  let v1864 : BitVec 32 := Scalar.addi v1114 c0_i32_936
  let v1865 : Index := Scalar.indexCast v1864
  let c512_937 : Index := 512#32
  ![v1865.toNat, 512]
@[reducible] def k0_t6_loop : Scf.Loop 32 :=
  let c0_i32_415 : BitVec 32 := 0#32
  let c16_i32_416 : BitVec 32 := 16#32
  let v824 : BitVec 32 := Scalar.addi c0_i32_415 c16_i32_416
  let c1_i32_417 : BitVec 32 := 1#32
  ⟨c0_i32_415, v824, c1_i32_417⟩
def k0_mult6 (k0_t6 : Fin k0_t6_loop.trips) : BitVec 32 :=
  let c0_i32_415 : BitVec 32 := 0#32
  let c1_i32_417 : BitVec 32 := 1#32
  let arg9 : BitVec 32 := Scf.iv c0_i32_415 c1_i32_417 k0_t6
  let c32_i32 : BitVec 32 := 32#32
  let v1113 : BitVec 32 := Scalar.muli arg9 c32_i32
  v1113
def k0_off46 (k0_t6 : Fin k0_t6_loop.trips) (c0_i32_569 : BitVec 32) : Fin 3 → Nat :=
  let c2_570 : Index := 2#32
  let c0_i32_415 : BitVec 32 := 0#32
  let c1_i32_417 : BitVec 32 := 1#32
  let arg9 : BitVec 32 := Scf.iv c0_i32_415 c1_i32_417 k0_t6
  let c32_i32 : BitVec 32 := 32#32
  let v1113 : BitVec 32 := Scalar.muli arg9 c32_i32
  let v1114 : BitVec 32 := v1113
  let v1119 : BitVec 32 := Scalar.addi v1114 c0_i32_569
  let v1120 : Index := Scalar.indexCast v1119
  let c640_571 : Index := 640#32
  ![2, v1120.toNat, 640]
def k0_off47 (k0_t6 : Fin k0_t6_loop.trips) (c0_i32_579 : BitVec 32) : Fin 3 → Nat :=
  let c3_580 : Index := 3#32
  let c0_i32_415 : BitVec 32 := 0#32
  let c1_i32_417 : BitVec 32 := 1#32
  let arg9 : BitVec 32 := Scf.iv c0_i32_415 c1_i32_417 k0_t6
  let c32_i32 : BitVec 32 := 32#32
  let v1113 : BitVec 32 := Scalar.muli arg9 c32_i32
  let v1114 : BitVec 32 := v1113
  let v1143 : BitVec 32 := Scalar.addi v1114 c0_i32_579
  let v1144 : Index := Scalar.indexCast v1143
  let c640_581 : Index := 640#32
  ![3, v1144.toNat, 640]
def k0_off48 (k0_t6 : Fin k0_t6_loop.trips) (c0_i32_591 : BitVec 32) : Fin 3 → Nat :=
  let c4_592 : Index := 4#32
  let c0_i32_415 : BitVec 32 := 0#32
  let c1_i32_417 : BitVec 32 := 1#32
  let arg9 : BitVec 32 := Scf.iv c0_i32_415 c1_i32_417 k0_t6
  let c32_i32 : BitVec 32 := 32#32
  let v1113 : BitVec 32 := Scalar.muli arg9 c32_i32
  let v1114 : BitVec 32 := v1113
  let v1167 : BitVec 32 := Scalar.addi v1114 c0_i32_591
  let v1168 : Index := Scalar.indexCast v1167
  let c640_593 : Index := 640#32
  ![4, v1168.toNat, 640]
def k0_off49 (k0_t6 : Fin k0_t6_loop.trips) (c0_i32_603 : BitVec 32) : Fin 3 → Nat :=
  let c5_604 : Index := 5#32
  let c0_i32_415 : BitVec 32 := 0#32
  let c1_i32_417 : BitVec 32 := 1#32
  let arg9 : BitVec 32 := Scf.iv c0_i32_415 c1_i32_417 k0_t6
  let c32_i32 : BitVec 32 := 32#32
  let v1113 : BitVec 32 := Scalar.muli arg9 c32_i32
  let v1114 : BitVec 32 := v1113
  let v1191 : BitVec 32 := Scalar.addi v1114 c0_i32_603
  let v1192 : Index := Scalar.indexCast v1191
  let c640_605 : Index := 640#32
  ![5, v1192.toNat, 640]
def k0_off50 (k0_t6 : Fin k0_t6_loop.trips) (c0_i32_615 : BitVec 32) : Fin 3 → Nat :=
  let c6_616 : Index := 6#32
  let c0_i32_415 : BitVec 32 := 0#32
  let c1_i32_417 : BitVec 32 := 1#32
  let arg9 : BitVec 32 := Scf.iv c0_i32_415 c1_i32_417 k0_t6
  let c32_i32 : BitVec 32 := 32#32
  let v1113 : BitVec 32 := Scalar.muli arg9 c32_i32
  let v1114 : BitVec 32 := v1113
  let v1215 : BitVec 32 := Scalar.addi v1114 c0_i32_615
  let v1216 : Index := Scalar.indexCast v1215
  let c640_617 : Index := 640#32
  ![6, v1216.toNat, 640]
def k0_off51 (k0_t6 : Fin k0_t6_loop.trips) (c0_i32_627 : BitVec 32) : Fin 3 → Nat :=
  let c7_628 : Index := 7#32
  let c0_i32_415 : BitVec 32 := 0#32
  let c1_i32_417 : BitVec 32 := 1#32
  let arg9 : BitVec 32 := Scf.iv c0_i32_415 c1_i32_417 k0_t6
  let c32_i32 : BitVec 32 := 32#32
  let v1113 : BitVec 32 := Scalar.muli arg9 c32_i32
  let v1114 : BitVec 32 := v1113
  let v1239 : BitVec 32 := Scalar.addi v1114 c0_i32_627
  let v1240 : Index := Scalar.indexCast v1239
  let c640_629 : Index := 640#32
  ![7, v1240.toNat, 640]
def k0_off52 (k0_t6 : Fin k0_t6_loop.trips) (c8_i32_639 : BitVec 32) : Fin 3 → Nat :=
  let c0_640 : Index := 0#32
  let c0_i32_415 : BitVec 32 := 0#32
  let c1_i32_417 : BitVec 32 := 1#32
  let arg9 : BitVec 32 := Scf.iv c0_i32_415 c1_i32_417 k0_t6
  let c32_i32 : BitVec 32 := 32#32
  let v1113 : BitVec 32 := Scalar.muli arg9 c32_i32
  let v1114 : BitVec 32 := v1113
  let v1263 : BitVec 32 := Scalar.addi v1114 c8_i32_639
  let v1264 : Index := Scalar.indexCast v1263
  let c640_641 : Index := 640#32
  ![0, v1264.toNat, 640]
def k0_off53 (k0_t6 : Fin k0_t6_loop.trips) (c8_i32_651 : BitVec 32) : Fin 3 → Nat :=
  let c1_652 : Index := 1#32
  let c0_i32_415 : BitVec 32 := 0#32
  let c1_i32_417 : BitVec 32 := 1#32
  let arg9 : BitVec 32 := Scf.iv c0_i32_415 c1_i32_417 k0_t6
  let c32_i32 : BitVec 32 := 32#32
  let v1113 : BitVec 32 := Scalar.muli arg9 c32_i32
  let v1114 : BitVec 32 := v1113
  let v1287 : BitVec 32 := Scalar.addi v1114 c8_i32_651
  let v1288 : Index := Scalar.indexCast v1287
  let c640_653 : Index := 640#32
  ![1, v1288.toNat, 640]
def k0_off54 (k0_t6 : Fin k0_t6_loop.trips) (c0_i32_936 : BitVec 32) : Fin 2 → Nat :=
  let c0_i32_415 : BitVec 32 := 0#32
  let c1_i32_417 : BitVec 32 := 1#32
  let arg9 : BitVec 32 := Scf.iv c0_i32_415 c1_i32_417 k0_t6
  let c32_i32 : BitVec 32 := 32#32
  let v1113 : BitVec 32 := Scalar.muli arg9 c32_i32
  let v1114 : BitVec 32 := v1113
  let v1864 : BitVec 32 := Scalar.addi v1114 c0_i32_936
  let v1865 : Index := Scalar.indexCast v1864
  let c640_937 : Index := 640#32
  ![v1865.toNat, 640]
@[reducible] def k0_t7_loop : Scf.Loop 32 :=
  let c0_i32_482 : BitVec 32 := 0#32
  let c16_i32_483 : BitVec 32 := 16#32
  let v953 : BitVec 32 := Scalar.addi c0_i32_482 c16_i32_483
  let c1_i32_484 : BitVec 32 := 1#32
  ⟨c0_i32_482, v953, c1_i32_484⟩
def k0_mult7 (k0_t7 : Fin k0_t7_loop.trips) : BitVec 32 :=
  let c0_i32_482 : BitVec 32 := 0#32
  let c1_i32_484 : BitVec 32 := 1#32
  let arg9 : BitVec 32 := Scf.iv c0_i32_482 c1_i32_484 k0_t7
  let c32_i32 : BitVec 32 := 32#32
  let v1113 : BitVec 32 := Scalar.muli arg9 c32_i32
  v1113
def k0_off55 (k0_t7 : Fin k0_t7_loop.trips) (c0_i32_569 : BitVec 32) : Fin 3 → Nat :=
  let c2_570 : Index := 2#32
  let c0_i32_482 : BitVec 32 := 0#32
  let c1_i32_484 : BitVec 32 := 1#32
  let arg9 : BitVec 32 := Scf.iv c0_i32_482 c1_i32_484 k0_t7
  let c32_i32 : BitVec 32 := 32#32
  let v1113 : BitVec 32 := Scalar.muli arg9 c32_i32
  let v1114 : BitVec 32 := v1113
  let v1119 : BitVec 32 := Scalar.addi v1114 c0_i32_569
  let v1120 : Index := Scalar.indexCast v1119
  let c768_571 : Index := 768#32
  ![2, v1120.toNat, 768]
def k0_off56 (k0_t7 : Fin k0_t7_loop.trips) (c0_i32_579 : BitVec 32) : Fin 3 → Nat :=
  let c3_580 : Index := 3#32
  let c0_i32_482 : BitVec 32 := 0#32
  let c1_i32_484 : BitVec 32 := 1#32
  let arg9 : BitVec 32 := Scf.iv c0_i32_482 c1_i32_484 k0_t7
  let c32_i32 : BitVec 32 := 32#32
  let v1113 : BitVec 32 := Scalar.muli arg9 c32_i32
  let v1114 : BitVec 32 := v1113
  let v1143 : BitVec 32 := Scalar.addi v1114 c0_i32_579
  let v1144 : Index := Scalar.indexCast v1143
  let c768_581 : Index := 768#32
  ![3, v1144.toNat, 768]
def k0_off57 (k0_t7 : Fin k0_t7_loop.trips) (c0_i32_591 : BitVec 32) : Fin 3 → Nat :=
  let c4_592 : Index := 4#32
  let c0_i32_482 : BitVec 32 := 0#32
  let c1_i32_484 : BitVec 32 := 1#32
  let arg9 : BitVec 32 := Scf.iv c0_i32_482 c1_i32_484 k0_t7
  let c32_i32 : BitVec 32 := 32#32
  let v1113 : BitVec 32 := Scalar.muli arg9 c32_i32
  let v1114 : BitVec 32 := v1113
  let v1167 : BitVec 32 := Scalar.addi v1114 c0_i32_591
  let v1168 : Index := Scalar.indexCast v1167
  let c768_593 : Index := 768#32
  ![4, v1168.toNat, 768]
def k0_off58 (k0_t7 : Fin k0_t7_loop.trips) (c0_i32_603 : BitVec 32) : Fin 3 → Nat :=
  let c5_604 : Index := 5#32
  let c0_i32_482 : BitVec 32 := 0#32
  let c1_i32_484 : BitVec 32 := 1#32
  let arg9 : BitVec 32 := Scf.iv c0_i32_482 c1_i32_484 k0_t7
  let c32_i32 : BitVec 32 := 32#32
  let v1113 : BitVec 32 := Scalar.muli arg9 c32_i32
  let v1114 : BitVec 32 := v1113
  let v1191 : BitVec 32 := Scalar.addi v1114 c0_i32_603
  let v1192 : Index := Scalar.indexCast v1191
  let c768_605 : Index := 768#32
  ![5, v1192.toNat, 768]
def k0_off59 (k0_t7 : Fin k0_t7_loop.trips) (c0_i32_615 : BitVec 32) : Fin 3 → Nat :=
  let c6_616 : Index := 6#32
  let c0_i32_482 : BitVec 32 := 0#32
  let c1_i32_484 : BitVec 32 := 1#32
  let arg9 : BitVec 32 := Scf.iv c0_i32_482 c1_i32_484 k0_t7
  let c32_i32 : BitVec 32 := 32#32
  let v1113 : BitVec 32 := Scalar.muli arg9 c32_i32
  let v1114 : BitVec 32 := v1113
  let v1215 : BitVec 32 := Scalar.addi v1114 c0_i32_615
  let v1216 : Index := Scalar.indexCast v1215
  let c768_617 : Index := 768#32
  ![6, v1216.toNat, 768]
def k0_off60 (k0_t7 : Fin k0_t7_loop.trips) (c0_i32_627 : BitVec 32) : Fin 3 → Nat :=
  let c7_628 : Index := 7#32
  let c0_i32_482 : BitVec 32 := 0#32
  let c1_i32_484 : BitVec 32 := 1#32
  let arg9 : BitVec 32 := Scf.iv c0_i32_482 c1_i32_484 k0_t7
  let c32_i32 : BitVec 32 := 32#32
  let v1113 : BitVec 32 := Scalar.muli arg9 c32_i32
  let v1114 : BitVec 32 := v1113
  let v1239 : BitVec 32 := Scalar.addi v1114 c0_i32_627
  let v1240 : Index := Scalar.indexCast v1239
  let c768_629 : Index := 768#32
  ![7, v1240.toNat, 768]
def k0_off61 (k0_t7 : Fin k0_t7_loop.trips) (c8_i32_639 : BitVec 32) : Fin 3 → Nat :=
  let c0_640 : Index := 0#32
  let c0_i32_482 : BitVec 32 := 0#32
  let c1_i32_484 : BitVec 32 := 1#32
  let arg9 : BitVec 32 := Scf.iv c0_i32_482 c1_i32_484 k0_t7
  let c32_i32 : BitVec 32 := 32#32
  let v1113 : BitVec 32 := Scalar.muli arg9 c32_i32
  let v1114 : BitVec 32 := v1113
  let v1263 : BitVec 32 := Scalar.addi v1114 c8_i32_639
  let v1264 : Index := Scalar.indexCast v1263
  let c768_641 : Index := 768#32
  ![0, v1264.toNat, 768]
def k0_off62 (k0_t7 : Fin k0_t7_loop.trips) (c8_i32_651 : BitVec 32) : Fin 3 → Nat :=
  let c1_652 : Index := 1#32
  let c0_i32_482 : BitVec 32 := 0#32
  let c1_i32_484 : BitVec 32 := 1#32
  let arg9 : BitVec 32 := Scf.iv c0_i32_482 c1_i32_484 k0_t7
  let c32_i32 : BitVec 32 := 32#32
  let v1113 : BitVec 32 := Scalar.muli arg9 c32_i32
  let v1114 : BitVec 32 := v1113
  let v1287 : BitVec 32 := Scalar.addi v1114 c8_i32_651
  let v1288 : Index := Scalar.indexCast v1287
  let c768_653 : Index := 768#32
  ![1, v1288.toNat, 768]
def k0_off63 (k0_t7 : Fin k0_t7_loop.trips) (c0_i32_936 : BitVec 32) : Fin 2 → Nat :=
  let c0_i32_482 : BitVec 32 := 0#32
  let c1_i32_484 : BitVec 32 := 1#32
  let arg9 : BitVec 32 := Scf.iv c0_i32_482 c1_i32_484 k0_t7
  let c32_i32 : BitVec 32 := 32#32
  let v1113 : BitVec 32 := Scalar.muli arg9 c32_i32
  let v1114 : BitVec 32 := v1113
  let v1864 : BitVec 32 := Scalar.addi v1114 c0_i32_936
  let v1865 : Index := Scalar.indexCast v1864
  let c768_937 : Index := 768#32
  ![v1865.toNat, 768]
@[reducible] def k0_t8_loop : Scf.Loop 32 :=
  let c0_i32_549 : BitVec 32 := 0#32
  let c16_i32_550 : BitVec 32 := 16#32
  let v1082 : BitVec 32 := Scalar.addi c0_i32_549 c16_i32_550
  let c1_i32_551 : BitVec 32 := 1#32
  ⟨c0_i32_549, v1082, c1_i32_551⟩
def k0_mult8 (k0_t8 : Fin k0_t8_loop.trips) : BitVec 32 :=
  let c0_i32_549 : BitVec 32 := 0#32
  let c1_i32_551 : BitVec 32 := 1#32
  let arg9 : BitVec 32 := Scf.iv c0_i32_549 c1_i32_551 k0_t8
  let c32_i32 : BitVec 32 := 32#32
  let v1113 : BitVec 32 := Scalar.muli arg9 c32_i32
  v1113
def k0_off64 (k0_t8 : Fin k0_t8_loop.trips) (c0_i32_569 : BitVec 32) : Fin 3 → Nat :=
  let c2_570 : Index := 2#32
  let c0_i32_549 : BitVec 32 := 0#32
  let c1_i32_551 : BitVec 32 := 1#32
  let arg9 : BitVec 32 := Scf.iv c0_i32_549 c1_i32_551 k0_t8
  let c32_i32 : BitVec 32 := 32#32
  let v1113 : BitVec 32 := Scalar.muli arg9 c32_i32
  let v1114 : BitVec 32 := v1113
  let v1119 : BitVec 32 := Scalar.addi v1114 c0_i32_569
  let v1120 : Index := Scalar.indexCast v1119
  let c896_571 : Index := 896#32
  ![2, v1120.toNat, 896]
def k0_off65 (k0_t8 : Fin k0_t8_loop.trips) (c0_i32_579 : BitVec 32) : Fin 3 → Nat :=
  let c3_580 : Index := 3#32
  let c0_i32_549 : BitVec 32 := 0#32
  let c1_i32_551 : BitVec 32 := 1#32
  let arg9 : BitVec 32 := Scf.iv c0_i32_549 c1_i32_551 k0_t8
  let c32_i32 : BitVec 32 := 32#32
  let v1113 : BitVec 32 := Scalar.muli arg9 c32_i32
  let v1114 : BitVec 32 := v1113
  let v1143 : BitVec 32 := Scalar.addi v1114 c0_i32_579
  let v1144 : Index := Scalar.indexCast v1143
  let c896_581 : Index := 896#32
  ![3, v1144.toNat, 896]
def k0_off66 (k0_t8 : Fin k0_t8_loop.trips) (c0_i32_591 : BitVec 32) : Fin 3 → Nat :=
  let c4_592 : Index := 4#32
  let c0_i32_549 : BitVec 32 := 0#32
  let c1_i32_551 : BitVec 32 := 1#32
  let arg9 : BitVec 32 := Scf.iv c0_i32_549 c1_i32_551 k0_t8
  let c32_i32 : BitVec 32 := 32#32
  let v1113 : BitVec 32 := Scalar.muli arg9 c32_i32
  let v1114 : BitVec 32 := v1113
  let v1167 : BitVec 32 := Scalar.addi v1114 c0_i32_591
  let v1168 : Index := Scalar.indexCast v1167
  let c896_593 : Index := 896#32
  ![4, v1168.toNat, 896]
def k0_off67 (k0_t8 : Fin k0_t8_loop.trips) (c0_i32_603 : BitVec 32) : Fin 3 → Nat :=
  let c5_604 : Index := 5#32
  let c0_i32_549 : BitVec 32 := 0#32
  let c1_i32_551 : BitVec 32 := 1#32
  let arg9 : BitVec 32 := Scf.iv c0_i32_549 c1_i32_551 k0_t8
  let c32_i32 : BitVec 32 := 32#32
  let v1113 : BitVec 32 := Scalar.muli arg9 c32_i32
  let v1114 : BitVec 32 := v1113
  let v1191 : BitVec 32 := Scalar.addi v1114 c0_i32_603
  let v1192 : Index := Scalar.indexCast v1191
  let c896_605 : Index := 896#32
  ![5, v1192.toNat, 896]
def k0_off68 (k0_t8 : Fin k0_t8_loop.trips) (c0_i32_615 : BitVec 32) : Fin 3 → Nat :=
  let c6_616 : Index := 6#32
  let c0_i32_549 : BitVec 32 := 0#32
  let c1_i32_551 : BitVec 32 := 1#32
  let arg9 : BitVec 32 := Scf.iv c0_i32_549 c1_i32_551 k0_t8
  let c32_i32 : BitVec 32 := 32#32
  let v1113 : BitVec 32 := Scalar.muli arg9 c32_i32
  let v1114 : BitVec 32 := v1113
  let v1215 : BitVec 32 := Scalar.addi v1114 c0_i32_615
  let v1216 : Index := Scalar.indexCast v1215
  let c896_617 : Index := 896#32
  ![6, v1216.toNat, 896]
def k0_off69 (k0_t8 : Fin k0_t8_loop.trips) (c0_i32_627 : BitVec 32) : Fin 3 → Nat :=
  let c7_628 : Index := 7#32
  let c0_i32_549 : BitVec 32 := 0#32
  let c1_i32_551 : BitVec 32 := 1#32
  let arg9 : BitVec 32 := Scf.iv c0_i32_549 c1_i32_551 k0_t8
  let c32_i32 : BitVec 32 := 32#32
  let v1113 : BitVec 32 := Scalar.muli arg9 c32_i32
  let v1114 : BitVec 32 := v1113
  let v1239 : BitVec 32 := Scalar.addi v1114 c0_i32_627
  let v1240 : Index := Scalar.indexCast v1239
  let c896_629 : Index := 896#32
  ![7, v1240.toNat, 896]
def k0_off70 (k0_t8 : Fin k0_t8_loop.trips) (c8_i32_639 : BitVec 32) : Fin 3 → Nat :=
  let c0_640 : Index := 0#32
  let c0_i32_549 : BitVec 32 := 0#32
  let c1_i32_551 : BitVec 32 := 1#32
  let arg9 : BitVec 32 := Scf.iv c0_i32_549 c1_i32_551 k0_t8
  let c32_i32 : BitVec 32 := 32#32
  let v1113 : BitVec 32 := Scalar.muli arg9 c32_i32
  let v1114 : BitVec 32 := v1113
  let v1263 : BitVec 32 := Scalar.addi v1114 c8_i32_639
  let v1264 : Index := Scalar.indexCast v1263
  let c896_641 : Index := 896#32
  ![0, v1264.toNat, 896]
def k0_off71 (k0_t8 : Fin k0_t8_loop.trips) (c8_i32_651 : BitVec 32) : Fin 3 → Nat :=
  let c1_652 : Index := 1#32
  let c0_i32_549 : BitVec 32 := 0#32
  let c1_i32_551 : BitVec 32 := 1#32
  let arg9 : BitVec 32 := Scf.iv c0_i32_549 c1_i32_551 k0_t8
  let c32_i32 : BitVec 32 := 32#32
  let v1113 : BitVec 32 := Scalar.muli arg9 c32_i32
  let v1114 : BitVec 32 := v1113
  let v1287 : BitVec 32 := Scalar.addi v1114 c8_i32_651
  let v1288 : Index := Scalar.indexCast v1287
  let c896_653 : Index := 896#32
  ![1, v1288.toNat, 896]
def k0_off72 (k0_t8 : Fin k0_t8_loop.trips) (c0_i32_936 : BitVec 32) : Fin 2 → Nat :=
  let c0_i32_549 : BitVec 32 := 0#32
  let c1_i32_551 : BitVec 32 := 1#32
  let arg9 : BitVec 32 := Scf.iv c0_i32_549 c1_i32_551 k0_t8
  let c32_i32 : BitVec 32 := 32#32
  let v1113 : BitVec 32 := Scalar.muli arg9 c32_i32
  let v1114 : BitVec 32 := v1113
  let v1864 : BitVec 32 := Scalar.addi v1114 c0_i32_936
  let v1865 : Index := Scalar.indexCast v1864
  let c896_937 : Index := 896#32
  ![v1865.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Wgrad.lean ====
abbrev S16384x4096 : Shape := ⟨2, ![16384, 4096]⟩
abbrev S16384x1024 : Shape := ⟨2, ![16384, 1024]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S16384x4096, .bf16⟩
  | .hbm, ⟨3, _⟩ => ⟨S16384x1024, .bf16⟩
  | .hbm, ⟨4, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S4096x1024, .bf16⟩
  | .local _ .vmem, ⟨5, _⟩ => ⟨S4096x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v13 : BitVec 1 := Scalar.cmpi .eq arg0 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradRefIdeal.lean ====
abbrev S16384x4096 : Shape := ⟨2, ![16384, 4096]⟩
abbrev S16384x1024 : Shape := ⟨2, ![16384, 1024]⟩
abbrev S4096x16384 : Shape := ⟨2, ![4096, 16384]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S4096x16384, .f32⟩
  | .hbm, ⟨3, _⟩ => ⟨S4096x1024, .f32⟩
  | .hbm, ⟨4, _⟩ => ⟨S4096x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Reals.lean ====
module
public import Idealize.ShloMosaic.Lib.Pipeline.ValueKit
public import Idealize.ShloMosaic.Lib.Pointwise
public import Idealize.ShloMosaic.PureOps.Ideal.Laws
@[expose] public section
/-! Real arrays inside the extended reals, and the real forms of the operations the programs use. -/
noncomputable section
namespace Cert.Reals
open Idealize.ShloMosaic

/-- A sum of reals is the real sum. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Division of reals, off zero. -/
theorem div_coe {y : ℝ} (h : y ≠ 0) (x : ℝ) : Ideal.div (x : EReal) (y : EReal) = ((x / y : ℝ) : EReal) := by
  rw [Ideal.div_coe h, ← EReal.coe_mul]; congr 1; ring

theorem div_1024 (x : ℝ) : Ideal.div (x : EReal) ((1024 : ℝ) : EReal) = ((x / 1024 : ℝ) : EReal) := div_coe (by norm_num) x

/-- The reciprocal root of a positive real. -/
theorem rsqrt_coe {x : ℝ} (h : 0 < x) : Ideal.rsqrt (x : EReal) = (((Real.sqrt x)⁻¹ : ℝ) : EReal) := by
  rw [Ideal.rsqrt_coe, if_neg (not_lt.2 h.le), if_neg h.ne']

/-- A normal single-precision word from its sign, exponent and fraction fields. -/
theorem word (b : BitVec 32) (neg : Bool) (ex fr : ℕ) (h1 : (b.extractLsb' 31 1 == 1#1) = neg)
    (h2 : (b.extractLsb' 23 8).toNat = ex) (h3 : (b.extractLsb' 0 23).toNat = fr) (he : ex ≠ 255) (h0 : ex ≠ 0) :
    Ideal.ofBits .f32 b = (((if neg then -1 else 1 : ℝ) * ((2 ^ 23 + fr : ℕ) : ℝ) * (2 : ℝ) ^ ((ex : ℤ) - 127 - 23) : ℝ) : EReal) := by
  unfold Ideal.ofBits Ideal.ieee
  dsimp only
  rw [h1, h2, h3, if_neg (show ¬ ex = 2 ^ 8 - 1 from he), if_neg h0]
  norm_num

/-- The programs' `1e-6`. -/
def eps : ℝ := 8796093 / 2 ^ 43
theorem eps_pos : 0 < eps := by unfold eps; positivity
theorem ofBits_eps : Ideal.ofBits .f32 0x358637BD#32 = (eps : EReal) := by
  rw [word _ false 107 407485 (by decide) (by decide) (by decide) (by decide) (by decide)]
  unfold eps; norm_num [zpow_neg]
theorem ofBits_1024 : Ideal.ofBits .f32 0x44800000#32 = ((1024 : ℝ) : EReal) := by
  rw [word _ false 137 0 (by decide) (by decide) (by decide) (by decide) (by decide)]
  norm_num [zpow_neg]
theorem ofBits_half : Ideal.ofBits .f32 0x3F000000#32 = ((1 / 2 : ℝ) : EReal) := by
  rw [word _ false 126 0 (by decide) (by decide) (by decide) (by decide) (by decide)]
  norm_num [zpow_neg]
theorem ofBits_neg_half : Ideal.ofBits .f32 0xBF000000#32 = ((-(1 / 2) : ℝ) : EReal) := by
  rw [word _ true 126 0 (by decide) (by decide) (by decide) (by decide) (by decide)]
  norm_num [zpow_neg]

theorem ofBits_one : Ideal.ofBits .f32 0x3F800000#32 = ((1 : ℝ) : EReal) := by
  rw [word _ false 127 0 (by decide) (by decide) (by decide) (by decide) (by decide)]
  norm_num [zpow_neg]

/-- The mean square of a row of 1024 entries plus `eps`. -/
def ms (u : Fin 1024 → ℝ) : ℝ := (∑ k, u k * u k) / 1024 + eps
theorem ms_pos (u : Fin 1024 → ℝ) : 0 < ms u :=
  add_pos_of_nonneg_of_pos (div_nonneg (Finset.sum_nonneg fun k _ => mul_self_nonneg (u k)) (by norm_num)) eps_pos
/-- The reciprocal root-mean-square of a row. -/
def rst (u : Fin 1024 → ℝ) : ℝ := (Real.sqrt (ms u))⁻¹
theorem rsqrt_ms (u : Fin 1024 → ℝ) : Ideal.rsqrt (((∑ k, u k * u k) / 1024 + eps : ℝ) : EReal) = (rst u : EReal) :=
  rsqrt_coe (ms_pos u)
/-- `rst` squared is the reciprocal of the mean square. -/
theorem rst_sq (u : Fin 1024 → ℝ) : rst u * rst u = 1 / ms u := by
  unfold rst
  rw [← mul_inv, Real.mul_self_sqrt (ms_pos u).le, one_div]
theorem rst_div (u : Fin 1024 → ℝ) : rst u / ms u = rst u * rst u * rst u := by
  rw [rst_sq]; ring

/-- The gradient of `u ↦ u * rst u` at `u` in direction `q`, as the row programs write it. -/
def rmsBwd (u q : Fin 1024 → ℝ) (j : Fin 1024) : ℝ :=
  rst u * (q j - u j * rst u * ((∑ k, q k * (u k * rst u)) / 1024))
/-- … and as the chain rule through the reciprocal root gives it. -/
theorem rmsBwd_chain (u q : Fin 1024 → ℝ) (j : Fin 1024) :
    q j * rst u + u j * ((∑ k, u k * q k) * (-(1 / 2) * (rst u / ms u)) / 1024) + (∑ k, u k * q k) * (-(1 / 2) * (rst u / ms u)) / 1024 * u j
      = rmsBwd u q j := by
  have h : (∑ k, q k * (u k * rst u)) = (∑ k, u k * q k) * rst u := by
    rw [Finset.sum_mul]; exact Finset.sum_congr rfl fun k _ => by ring
  rw [rmsBwd, rst_div, h]; ring

theorem row8_lt {N T G : ℕ} (h : T * (G * 8) = N) (t : Fin T) (j : Fin G) (o : Fin 8) : t.val * (G * 8) + (j.val * 8 + o.val) < N := by
  have h1 : j.val * 8 + o.val < G * 8 := by omega
  calc _ < t.val * (G * 8) + G * 8 := by omega
    _ = (t.val + 1) * (G * 8) := by ring
    _ ≤ T * (G * 8) := Nat.mul_le_mul_right _ t.isLt
    _ = N := h
/-- Over the rows of block `t`, of `G` groups of 8, the sum of those at place `o` of their group. -/
def part8 {N : ℕ} (T G : ℕ) (h : T * (G * 8) = N) (f : Fin N → ℝ) (o : Fin 8) (t : Fin T) : ℝ :=
  ∑ j : Fin G, f ⟨t.val * (G * 8) + (j.val * 8 + o.val), row8_lt h t j o⟩
/-- A sum over all rows, taken over the places in a group and the blocks. -/
theorem sum_part8 {N : ℕ} (T G : ℕ) (h : T * (G * 8) = N) (f : Fin N → ℝ) : ∑ o : Fin 8, ∑ t : Fin T, part8 T G h f o t = ∑ i, f i := by
  rw [Fin.sum_univ_tiles T (G * 8) h f, Finset.sum_comm]
  refine Finset.sum_congr rfl fun t _ => ?_
  rw [Fin.sum_univ_tiles G 8 rfl, Finset.sum_comm]
  rfl
end Cert.Reals
end
-- ==== Proof.Finite.lean ====
module
public import proofs.«01_k».proof.Proof.Reals
public import Idealize.ShloMosaic.Lib.ReduceAll
public import Idealize.ShloMosaic.Lib.Pointwise
public import Idealize.ShloMosaic.Lib.WordCmp
@[expose] public section
noncomputable section
/-! The printed test "every entry has absolute value below infinity" makes an array one of reals. -/
namespace Cert.Reals
open Idealize.ShloMosaic

instance : Subsingleton (⟨0, ![]⟩ : Shape).Idx := ⟨fun a b => funext fun i => i.elim0⟩

theorem ofBits_inf : Ideal.ofBits .f32 0x7F800000#32 = ⊤ := by
  have h1 : ((0x7F800000#32).extractLsb' 31 1 == 1#1) = false := by decide
  have h2 : ((0x7F800000#32).extractLsb' 23 8).toNat = 2 ^ 8 - 1 := by decide
  have h3 : ((0x7F800000#32).extractLsb' 0 23).toNat = 0 := by decide
  unfold Ideal.ofBits Ideal.ieee
  dsimp only
  rw [h1, h2, h3]
  simp

theorem real_of_abs_lt (x : EReal) (h : Ideal.cmp .olt ((max x (-x))) ⊤ = 1#1) : ∃ r : ℝ, x = (r : EReal) := by
  induction x using EReal.rec with
  | bot => exfalso; revert h; simp [Ideal.cmp]
  | top => exfalso; revert h; simp [Ideal.cmp]
  | coe r => exact ⟨r, rfl⟩

theorem reals_of_all {s : Shape} (x : FVec Ideal s .f32) (hb : (⟨0, ![]⟩ : Shape).BroadcastsInDim s (![] : Fin 0 → Fin s.rank)) {axes} (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32))) (constantI ⟨0, ![]⟩ 1 1#1) h hu j = 1#1) (i : s.Idx) :
    ∃ r : ℝ, x i = (r : EReal) := by
  have := Host.reduce_andi_all _ _ _ _ j e i
  refine real_of_abs_lt _ ?_
  rw [← ofBits_inf]
  exact this

theorem reals1 {n : ℕ} (x : FVec Ideal ⟨1, ![n]⟩ .f32) (h : ∀ i, ∃ r : ℝ, x i = (r : EReal)) : ∃ f : Fin n → ℝ, ∀ i, x (ix1 i) = ((f i : ℝ) : EReal) :=
  ⟨fun i => (h (ix1 i)).choose, fun i => (h (ix1 i)).choose_spec⟩
theorem reals3 {n k l : ℕ} (x : FVec Ideal ⟨3, ![n, k, l]⟩ .f32) (h : ∀ i, ∃ r : ℝ, x i = (r : EReal)) : ∃ f : Fin n → Fin k → Fin l → ℝ, ∀ i j p, x (ix3 i j p) = ((f i j p : ℝ) : EReal) :=
  ⟨fun i j p => (h (ix3 i j p)).choose, fun i j p => (h (ix3 i j p)).choose_spec⟩
theorem reals2 {n k : ℕ} (x : FVec Ideal ⟨2, ![n, k]⟩ .f32) (h : ∀ i, ∃ r : ℝ, x i = (r : EReal)) : ∃ f : Fin n → Fin k → ℝ, ∀ i j, x (ix2 i j) = ((f i j : ℝ) : EReal) :=
  ⟨fun i j => (h (ix2 i j)).choose, fun i j => (h (ix2 i j)).choose_spec⟩
end Cert.Reals
end
-- ==== Proof.Pw2Val.lean ====
module
public import proofs.«01_k».proof.Defs
public import proofs.«01_k».proof.Proof.Reals
public import proofs.«01_k».proof.Proof.Gen.Pw2RefIdeal.Read
public import proofs.«01_k».proof.Proof.Gen.Pw2Ideal.Frame
public import Idealize.ShloMosaic.Lib.Pipeline.ValueKit
public import Idealize.ShloMosaic.Lib.Pointwise
public import Idealize.ShloMosaic.Lib.Claim
@[expose] public section
set_option maxRecDepth 16384
noncomputable section
/-! The `conv_pw2_bwd` call over arrays of reals: the gradient `dm` before the norm, its product with the
weight, and the norm's scale's gradient, summed over rows in groups of eight. -/
namespace Cert.Pw2Val
open Idealize.ShloMosaic Idealize.ShloMosaic.TcCoe Idealize.SL.Sem Cert.Pw2Ideal Cert.Pw2Ideal.Gen Cert.Reals

section Body
variable {v3 : Vec Ideal S512x1024 .f32} {v6 : Vec Ideal S512x1024 .bf16} {v26 : Vec Ideal S1x1024 .f32}
  {q u : Fin 512 → Fin 1024 → ℝ} {γ : Fin 1024 → ℝ}

/-! The body's payloads, entry by entry. -/

theorem pay6 (h6 : ∀ r k, v6 (ix2 r k) = ((u r k : ℝ) : EReal)) (r : Fin 512) (z : Fin 1) :
    k0_pay6 (F := Ideal) v6 (ix2 r z) = ((rst (u r) : ℝ) : EReal) := by
  pointwise [k0_pay6, k0_pay5]
  simp only [h6, ← EReal.coe_mul, sum_coe, ofBits_eps, ofBits_1024, div_1024, ← EReal.coe_add]
  exact rsqrt_ms _
theorem pay1 (h3 : ∀ r k, v3 (ix2 r k) = ((q r k : ℝ) : EReal)) (h6 : ∀ r k, v6 (ix2 r k) = ((u r k : ℝ) : EReal)) (h26 : ∀ k, v26 (ix2 0 k) = ((γ k : ℝ) : EReal)) (r : Fin 512) (z : Fin 1024) :
    k0_pay1 (F := Ideal) (k0_pay6 v6) (k0_pay9 v3 v6 v26) (ix2 r z) = ((rmsBwd (u r) (fun k => q r k * γ k) z : ℝ) : EReal) := by
  pointwise [k0_pay1, k0_pay9, k0_pay7, k0_pay4, k0_pay5]
  simp only [h3, h6, h26, pay6 h6, ← EReal.coe_mul, sum_coe, ofBits_eps, ofBits_1024, div_1024, ← EReal.coe_add, ← EReal.coe_sub]
  rfl
theorem pay8 {v19 : Vec Ideal S8x1024 .f32} (h3 : ∀ r k, v3 (ix2 r k) = ((q r k : ℝ) : EReal)) (h6 : ∀ r k, v6 (ix2 r k) = ((u r k : ℝ) : EReal)) (o : Fin 8) (z : Fin 1024) :
    k0_pay8 (F := Ideal) v3 v6 v19 (ix2 o z) = v19 (ix2 o z) + ((∑ j : Fin 64, q ⟨j * 8 + o, by omega⟩ z * (u ⟨j * 8 + o, by omega⟩ z * rst (u ⟨j * 8 + o, by omega⟩)) : ℝ) : EReal) := by
  pointwise [k0_pay8, k0_pay7, k0_pay4, k0_pay5]
  simp only [h3, h6, pay6 h6, ← EReal.coe_mul, sum_coe]
theorem pay2 {v42 : Vec Ideal S1024x1024 .bf16} {w : Fin 1024 → Fin 1024 → ℝ} (h3 : ∀ r k, v3 (ix2 r k) = ((q r k : ℝ) : EReal)) (h6 : ∀ r k, v6 (ix2 r k) = ((u r k : ℝ) : EReal)) (h26 : ∀ k, v26 (ix2 0 k) = ((γ k : ℝ) : EReal)) (h42 : ∀ k j, v42 (ix2 k j) = ((w k j : ℝ) : EReal)) (r : Fin 512) (z : Fin 1024) :
    k0_pay2 (F := Ideal) (k0_pay6 v6) (k0_pay9 v3 v6 v26) v42 (ix2 r z) = ((∑ j, rmsBwd (u r) (fun k => q r k * γ k) j * w z j : ℝ) : EReal) := by
  pointwise [k0_pay2]
  simp only [pay1 h3 h6 h26, h42, ← EReal.coe_mul, sum_coe]
end Body

/-- The block each window shows at each grid point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![t.val, 0] ∧ t.val < 32 :=
  (by decide +kernel : ∀ t : Fin grid0.N, _)

variable (m : (ℓ : Loc nD τ sig) → Buf (Elt Ideal) ℓ)

/-- The four arguments are arrays of reals. -/
structure Reads (c : Dev nD) (Y : Fin 16384 → Fin 1024 → ℝ) (W : Fin 1024 → Fin 1024 → ℝ) (γ : Fin 1024 → ℝ) (Q : Fin 16384 → Fin 1024 → ℝ) : Prop where
  y : ∀ i k, (show FVec Ideal S16384x1024 .f32 from m ((c : Thread nD τ).loc main_arg0)) (ix2 i k) = ((Y i k : ℝ) : EReal)
  w : ∀ i k, (show FVec Ideal S1024x1024 .f32 from m ((c : Thread nD τ).loc main_arg1)) (ix2 i k) = ((W i k : ℝ) : EReal)
  g : ∀ k, (show FVec Ideal S1024 .f32 from m ((c : Thread nD τ).loc main_arg2)) (ix1 k) = ((γ k : ℝ) : EReal)
  q : ∀ i k, (show FVec Ideal S16384x1024 .f32 from m ((c : Thread nD τ).loc main_arg3)) (ix2 i k) = ((Q i k : ℝ) : EReal)

/-- The product `y @ w`. -/
def prod (Y : Fin 16384 → Fin 1024 → ℝ) (W : Fin 1024 → Fin 1024 → ℝ) (i : Fin 16384) (j : Fin 1024) : ℝ := ∑ k, Y i k * W k j

variable {m} {c : Dev nD} {Y : Fin 16384 → Fin 1024 → ℝ} {W : Fin 1024 → Fin 1024 → ℝ} {γ : Fin 1024 → ℝ} {Q : Fin 16384 → Fin 1024 → ℝ}

/-- The array row of row `r` of block `t`. -/
def row (t : Fin cfg0.N) (r : Fin 512) : Fin 16384 := ⟨t.val * 512 + r.val, by have := (idx t).2.2.2.2.2.2.2; omega⟩

/-! What the staged blocks hold. -/

theorem blk0 (H : Reads m c Y W γ Q) (t : Fin cfg0.N) (r : Fin 512) (k : Fin 1024) : (show FVec Ideal S512x1024 .f32 from iblk m c 0 t) (ix2 r k) = ((Q (row t r) k : ℝ) : EReal) := by
  rw [← H.q]; blk_ext [iblk, V, idx t, row]
theorem blk1 (H : Reads m c Y W γ Q) (t : Fin cfg0.N) (r : Fin 512) (k : Fin 1024) : (show FVec Ideal S512x1024 .bf16 from iblk m c 1 t) (ix2 r k) = ((prod Y W (row t r) k : ℝ) : EReal) := by
  have e : (show FVec Ideal S512x1024 .bf16 from iblk m c 1 t) (ix2 r k) = (show FVec Ideal S16384x1024 .bf16 from V m c main_v1) (ix2 (row t r) k) := by
    blk_ext [iblk, idx t, row]
  rw [e]
  unfold V V0
  rw [show [hostOps0 (F := Ideal)].flatten = hostOps0 from rfl]
  entry_read
  pointwise
  have hy := H.y; have hw := H.w
  simp only [Thread.loc] at hy hw
  simp only [hy, hw, ← EReal.coe_mul, sum_coe]
  rfl
theorem blk2 (H : Reads m c Y W γ Q) (t : Fin cfg0.N) (k : Fin 1024) : (show FVec Ideal S1x1024 .f32 from iblk m c 2 t) (ix2 0 k) = ((γ k : ℝ) : EReal) := by
  have e : (show FVec Ideal S1x1024 .f32 from iblk m c 2 t) (ix2 0 k) = (show FVec Ideal S1x1024 .f32 from V m c main_v2) (ix2 0 k) := by
    blk_ext [iblk, idx t, row]
  rw [e]
  unfold V V0
  rw [show [hostOps0 (F := Ideal)].flatten = hostOps0 from rfl]
  entry_read
  pointwise
  exact H.g _
theorem blk3 (H : Reads m c Y W γ Q) (t : Fin cfg0.N) (k j : Fin 1024) : (show FVec Ideal S1024x1024 .bf16 from iblk m c 3 t) (ix2 k j) = ((W k j : ℝ) : EReal) := by
  have e : (show FVec Ideal S1024x1024 .bf16 from iblk m c 3 t) (ix2 k j) = (show FVec Ideal S1024x1024 .bf16 from V m c main_v3) (ix2 k j) := by
    blk_ext [iblk, idx t, row]
  rw [e]
  unfold V V0
  rw [show [hostOps0 (F := Ideal)].flatten = hostOps0 from rfl]
  entry_read
  pointwise
  exact H.w _ _

/-- The gradient before the norm. -/
def dm (Y : Fin 16384 → Fin 1024 → ℝ) (W : Fin 1024 → Fin 1024 → ℝ) (γ : Fin 1024 → ℝ) (Q : Fin 16384 → Fin 1024 → ℝ) (i : Fin 16384) (j : Fin 1024) : ℝ :=
  rmsBwd (prod Y W i) (fun k => Q i k * γ k) j
/-! The outputs at the end. -/

theorem final4 (H : Reads m c Y W γ Q) : (dats m 0 c).arrAt 4 cfg0.N
    = (fun i => ((dm Y W γ Q (i 0) (i 1) : ℝ) : EReal) : FVec Ideal S16384x1024 .bf16) := by
  refine (dats m 0 c).arrAt_eq_of_covers 4 _ (by decide +kernel) fun t hf y => ?_
  have e (y0 : Fin 512) (y1 : Fin 1024) : ((cfg0.win 4).blk t).view.emb (ix2 y0 y1) = (ix2 (row t y0) y1 : S16384x1024.Idx) := by blk_ext [idx t, row]
  have h : (outsAt0 m c t.val t.isLt).1 = k0_pay1 (k0_pay6 (iblk m c 1 t)) (k0_pay9 (iblk m c 0 t) (iblk m c 1 t) (iblk m c 2 t)) := by
    by_cases h : t.val % 32 = 0
    · rw [outsAt0_A m c t h]; frame_out
    · rw [outsAt0_B m c t h]; frame_out
  blk_simp
  rw [after0_4, h]
  idx_vars y
  rw [e]
  exact pay1 (blk0 H t) (blk1 H t) (blk2 H t) y0 y1

theorem final6 (H : Reads m c Y W γ Q) : (dats m 0 c).arrAt 6 cfg0.N
    = (fun i => ((∑ j, dm Y W γ Q (i 0) j * W (i 1) j : ℝ) : EReal) : FVec Ideal S16384x1024 .bf16) := by
  refine (dats m 0 c).arrAt_eq_of_covers 6 _ (by decide +kernel) fun t hf y => ?_
  have e (y0 : Fin 512) (y1 : Fin 1024) : ((cfg0.win 6).blk t).view.emb (ix2 y0 y1) = (ix2 (row t y0) y1 : S16384x1024.Idx) := by blk_ext [idx t, row]
  have h : (outsAt0 m c t.val t.isLt).2.2 = k0_pay2 (k0_pay6 (iblk m c 1 t)) (k0_pay9 (iblk m c 0 t) (iblk m c 1 t) (iblk m c 2 t)) (iblk m c 3 t) := by
    by_cases h : t.val % 32 = 0
    · rw [outsAt0_A m c t h]; frame_out
    · rw [outsAt0_B m c t h]; frame_out
  blk_simp
  rw [after0_6, h]
  idx_vars y
  rw [e]
  exact pay2 (blk0 H t) (blk1 H t) (blk2 H t) (blk3 H t) y0 y1

/-- One row's term of `dg`. -/
def dgRow (Y : Fin 16384 → Fin 1024 → ℝ) (W : Fin 1024 → Fin 1024 → ℝ) (Q : Fin 16384 → Fin 1024 → ℝ) (j : Fin 1024) (i : Fin 16384) : ℝ :=
  Q i j * (prod Y W i j * rst (prod Y W i))

theorem final5 (H : Reads m c Y W γ Q) : (dats m 0 c).arrAt 5 cfg0.N
    = (fun i => ((∑ t : Fin 32, part8 32 64 rfl (dgRow Y W Q (i 1)) (i 0) t : ℝ) : EReal) : FVec Ideal S8x1024 .f32) := by
  refine (dats m 0 c).arrAt_eq_of_covers 5 _ (by decide +kernel) fun t hf y => ?_
  have e (y0 : Fin 8) (y1 : Fin 1024) : ((cfg0.win 5).blk t).view.emb (ix2 y0 y1) = (ix2 y0 y1 : S8x1024.Idx) := by blk_ext [idx t, row]
  have hz : (k0_pay3 (F := Ideal)) = fun _ => 0 := by funext j; pointwise [k0_pay3]
  have ht := (idx t).2.2.2.2.2.2.2
  blk_simp
  idx_vars y
  rw [e, after0_5, Pipeline.eq_sum_fin_of_reset_step_apply_of_flush (fun n h => (outsAt0 m c n h).2.1) 32 (fun _ => 0)
    (fun p j => ((part8 32 64 rfl (dgRow Y W Q (j 1)) (j 0) ⟨p.val, (idx p).2.2.2.2.2.2.2⟩ : ℝ) : EReal))
    (fun t h j => by
      idx_vars j
      rw [outsAt0_A m c t h]; frame_out
      rw [hz]
      exact pay8 (v19 := fun _ => 0) (blk0 H t) (blk1 H t) j0 j1)
    (fun t h j => by
      idx_vars j
      rw [outsAt0_B m c t h]; frame_out
      exact pay8 (blk0 H t) (blk1 H t) j0 j1)
    t ((flush0_5 t).mp hf) _, zero_add]
  refine (sum_coe _ _).trans (congrArg _ (Finset.sum_congr rfl fun s _ => congrArg _ (Fin.ext ?_)))
  show 32 * (t.val / 32) + s.val = s.val
  omega

/-- The host's sum of the eight rows of window 5 is `dg`. -/
theorem tail5 (H : Reads m c Y W γ Q) : Pipeline.afterTail₀ cfgs (dats m) 0 (V0 m) [hostOps1] c main_v5
    = (fun i => ((∑ r, dgRow Y W Q (i 0) r : ℝ) : EReal) : FVec Ideal S1024 .f32) := by
  have h5 := Pipeline.withArrays_arr (cfgs 0).spec (by decide) c (V0 m c) (fun w => (dats m 0 c).arrAt w (cfgs 0).N) 5
  unfold Pipeline.afterTail₀
  generalize Pipeline.withArrays (cfgs 0).spec c (V0 m c) (fun w => (dats m 0 c).arrAt w (cfgs 0).N) = V' at h5 ⊢
  rw [show [hostOps1 (F := Ideal)].flatten = hostOps1 from rfl]
  entry_read
  rw [show V' (Proc.devRef .tc main_v4_1) = _ from h5.trans (final5 H)]
  funext j
  idx_vars j
  pointwise
  simp only [sum_coe, sum_part8]
end Cert.Pw2Val
end
-- ==== Proof.Pw2Ref.lean ====
module
public import proofs.«01_k».proof.Proof.Reals
public import proofs.«01_k».proof.Proof.Gen.Pw2RefIdeal.Read
public import Idealize.ShloMosaic.Lib.Pipeline.ValueKit
public import Idealize.ShloMosaic.Lib.Pointwise
@[expose] public section
set_option maxRecDepth 16384
noncomputable section
/-! The reference of the `conv_pw2_bwd` call over arrays of reals: `jax.vjp`'s program is `rmsBwd`. -/
namespace Cert.Pw2Ref
open Idealize.ShloMosaic Idealize.ShloMosaic.TcCoe Idealize.SL.Sem Cert.Pw2RefIdeal Cert.Pw2RefIdeal.Read Cert.Reals

variable {y : (⟨S16384x1024, .f32⟩ : BufTy).Contents (Elt Ideal)} {w : (⟨S1024x1024, .f32⟩ : BufTy).Contents (Elt Ideal)}
  {g : (⟨S1024, .f32⟩ : BufTy).Contents (Elt Ideal)} {q : (⟨S16384x1024, .f32⟩ : BufTy).Contents (Elt Ideal)}
  {Y Q : Fin 16384 → Fin 1024 → ℝ} {W : Fin 1024 → Fin 1024 → ℝ} {γ : Fin 1024 → ℝ}
  (hy : ∀ i k, y (ix2 i k) = ((Y i k : ℝ) : EReal)) (hw : ∀ i k, w (ix2 i k) = ((W i k : ℝ) : EReal))
  (hg : ∀ k, g (ix1 k) = ((γ k : ℝ) : EReal)) (hq : ∀ i k, q (ix2 i k) = ((Q i k : ℝ) : EReal))

/-- The product `y @ w`. -/
def prod (Y : Fin 16384 → Fin 1024 → ℝ) (W : Fin 1024 → Fin 1024 → ℝ) (i : Fin 16384) (j : Fin 1024) : ℝ := ∑ k, Y i k * W k j

include hy hw
theorem v0 (i : Fin 16384) (j : Fin 1024) : val_main_v0 (F := Ideal) y w (ix2 i j) = ((prod Y W i j : ℝ) : EReal) := by
  pointwise [val_main_v0]
  simp only [hy, hw, ← EReal.coe_mul, sum_coe]
  rfl
theorem v7 (i : Fin 16384) (z : Fin 1) : val_main_v7 (F := Ideal) y w (ix2 i z) = ((ms (prod Y W i) : ℝ) : EReal) := by
  pointwise [val_main_v7, val_main_v6, val_main_v5, val_main_v4, val_main_v3, val_main_v2, val_main_v1, val_main_cst, val_main_cst_0, val_main_cst_1]
  simp only [v0 hy hw, ← EReal.coe_mul, sum_coe, ofBits_eps, ofBits_1024, div_1024, ← EReal.coe_add]
  rfl
theorem v8 (i : Fin 16384) (z : Fin 1) : val_main_v8 (F := Ideal) y w (ix2 i z) = ((rst (prod Y W i) : ℝ) : EReal) := by
  pointwise [val_main_v8]
  rw [v7 hy hw]
  exact rsqrt_ms _
theorem v11 (i : Fin 16384) (z : Fin 1) : val_main_v11 (F := Ideal) y w (ix2 i z) = ((-(1 / 2) * (rst (prod Y W i) / ms (prod Y W i)) : ℝ) : EReal) := by
  pointwise [val_main_v11, val_main_v10, val_main_v9, val_main_cst_2]
  rw [v7 hy hw, v8 hy hw, div_coe (ms_pos _).ne', ofBits_neg_half, ← EReal.coe_mul]
include hg hq
theorem v36 (i : Fin 16384) (j : Fin 1024) : val_main_v36 (F := Ideal) y w g q (ix2 i j) = ((rmsBwd (prod Y W i) (fun k => Q i k * γ k) j : ℝ) : EReal) := by
  pointwise [val_main_v36, val_main_v35, val_main_v34, val_main_v33, val_main_v32, val_main_v31, val_main_v30, val_main_v29, val_main_v28, val_main_v27, val_main_v26, val_main_v25, val_main_v24, val_main_v23, val_main_v21, val_main_v20, val_main_v14, val_main_cst_5, val_main_cst_6, val_main_cst_7]
  simp only [Finset.univ_unique, Finset.sum_singleton, v0 hy hw, v8 hy hw, v11 hy hw, hq, hg, ← EReal.coe_mul, sum_coe, ofBits_1024, div_1024, ← EReal.coe_add]
  exact congrArg _ (rmsBwd_chain (prod Y W i) (fun k => Q i k * γ k) j)
theorem v37 (i : Fin 16384) (j : Fin 1024) : val_main_v37 (F := Ideal) y w g q (ix2 i j) = ((∑ k, rmsBwd (prod Y W i) (fun k => Q i k * γ k) k * W j k : ℝ) : EReal) := by
  pointwise [val_main_v37]
  simp only [v36 hy hw hg hq, hw, ← EReal.coe_mul, sum_coe]
omit hg
theorem v22 (j : Fin 1024) : val_main_v22 (F := Ideal) y w q (ix1 j) = ((∑ i, Q i j * (prod Y W i j * rst (prod Y W i)) : ℝ) : EReal) := by
  pointwise [val_main_v22, val_main_v19, val_main_v18, val_main_v17, val_main_v13, val_main_v12, val_main_cst_3, val_main_cst_4]
  simp only [Finset.univ_unique, Finset.sum_singleton, v0 hy hw, v8 hy hw, hq, ← EReal.coe_mul, sum_coe]
  exact congrArg _ (Finset.sum_congr rfl fun i _ => mul_comm _ _)
end Cert.Pw2Ref
end
-- ==== Proof.Pw2Claim.lean ====
module
public import proofs.«01_k».proof.Defs
public import proofs.«01_k».proof.Proof.Finite
public import proofs.«01_k».proof.Proof.Pw2Val
public import proofs.«01_k».proof.Proof.Pw2Ref
public import Idealize.ShloMosaic.Lib.Claim
@[expose] public section
set_option maxRecDepth 16384
noncomputable section
/-! The `conv_pw2_bwd` call against `jax.vjp`. -/
namespace Cert.Pw2Val
open Idealize.ShloMosaic Idealize.ShloMosaic.TcCoe Idealize.SL.Sem Cert.Reals

/-- The side conditions of the precondition's operations. -/
instance preFacts : Cert.Pre_finite_pw2.Facts := by constructor <;> decide

/-- Under the precondition the arguments are arrays of reals. -/
theorem reals_of_pre (m : (ℓ : Loc Cert.Pw2Ideal.nD Cert.Pw2Ideal.τ Cert.Pw2Ideal.sig) → Buf (Elt Ideal) ℓ) (h : Cert.Pre_Pw2Ideal_finite_pw2 m) (c : Dev Cert.Pw2Ideal.nD) :
    ∃ Y W γ Q, Reads m c Y W γ Q := by
  have e := congrFun (h c) (fun a => a.elim0)
  unfold Cert.Pre_finite_pw2.fn Cert.Pre_finite_pw2.fn_part1 at e
  obtain ⟨e012, e3⟩ := IntOp.andi_eq_one.mp e
  obtain ⟨e01, e2⟩ := IntOp.andi_eq_one.mp e012
  obtain ⟨e0, e1⟩ := IntOp.andi_eq_one.mp e01
  obtain ⟨Y, hY⟩ := reals2 _ (reals_of_all _ _ _ _ _ e0)
  obtain ⟨W, hW⟩ := reals2 _ (reals_of_all _ _ _ _ _ e1)
  obtain ⟨γ, hγ⟩ := reals1 _ (reals_of_all _ _ _ _ _ e2)
  obtain ⟨Q, hQ⟩ := reals2 _ (reals_of_all _ _ _ _ _ e3)
  exact ⟨Y, W, γ, Q, hY, hW, hγ, hQ⟩

/-- The reference runs and leaves its arguments; it has no semaphores. -/
theorem frameRef : Cert.quiescent_Pw2RefIdeal (hPw2RefIdeal := Cert.Pw2RefIdeal.Gen.facts) := fun m ρ _ =>
  (θ_run Cert.Pw2RefIdeal.defs _ _).mono (fun r h => ⟨fun c => (h c).2.2.2, sem_eq_zero_of_no_sems (by decide) r.2⟩)
    (Cert.Pw2RefIdeal.Value.run m ρ)

/-- The call and the reference have equal results. -/
theorem algebraic : Cert.algebraic_Pw2Ideal_Pw2RefIdeal_pre_finite_pw2 (hPw2Ideal := Cert.Pw2Ideal.Gen.facts) (hPw2RefIdeal := Cert.Pw2RefIdeal.Gen.facts) (hPre_finite_pw2 := preFacts) := by
  pair_intro
  · run_from Cert.Pw2Ideal.Gen.run_main m g
    · exact Cert.Pw2Ideal.Gen.W_main_arg0 m _ c
    · exact Cert.Pw2Ideal.Gen.W_main_arg1 m _ c
    · exact Cert.Pw2Ideal.Gen.W_main_arg2 m _ c
  · run_from Cert.Pw2RefIdeal.Value.run m' g'
    · obtain ⟨Y, W, γ, Q, H⟩ := reals_of_pre m hpre c
      obtain ⟨e0, e1, e2, e3⟩ := hagree c
      rw [Cert.Pw2RefIdeal.Read.val_main_v38_eq, e0, e1, e2, e3, final4 H]
      funext j
      idx_vars j
      exact Pw2Ref.v36 H.y H.w H.g H.q j0 j1
    · obtain ⟨Y, W, γ, Q, H⟩ := reals_of_pre m hpre c
      rw [tail5 H]
      funext j
      idx_vars j
      exact Pw2Ref.v22 H.y H.w H.q j0
    · obtain ⟨Y, W, γ, Q, H⟩ := reals_of_pre m hpre c
      obtain ⟨e0, e1, e2, e3⟩ := hagree c
      rw [Cert.Pw2RefIdeal.Read.val_main_v39_eq, e0, e1, e2, e3, final6 H]
      funext j
      idx_vars j
      exact Pw2Ref.v37 H.y H.w H.g H.q j0 j1
end Cert.Pw2Val
end
-- ==== Proof.SguInVal.lean ====
module
public import proofs.«01_k».proof.Defs
public import proofs.«01_k».proof.Proof.Reals
public import proofs.«01_k».proof.Proof.Gen.SguInIdeal.Frame
public import Idealize.ShloMosaic.Lib.Pipeline.ValueKit
public import Idealize.ShloMosaic.Lib.Pointwise
public import Idealize.ShloMosaic.Lib.Claim
@[expose] public section
set_option maxRecDepth 16384
noncomputable section
/-! The `sgu_in_bwd` call over arrays of reals: the gradient through the projection and the norm, the normed
rows, and the norm's scale's gradient, summed over rows in groups of eight. -/
namespace Cert.SguInVal
open Idealize.ShloMosaic Idealize.ShloMosaic.TcCoe Idealize.SL.Sem Cert.SguInIdeal Cert.SguInIdeal.Gen Cert.Reals

section Body
variable {v3 : Vec Ideal S512x4096 .bf16} {v5 : Vec Ideal S4096x1024 .bf16} {v8 v34 : Vec Ideal S512x1024 .f32} {v9 : Vec Ideal S1x1024 .f32}
  {d : Fin 512 → Fin 4096 → ℝ} {w : Fin 1024 → Fin 4096 → ℝ} {u q : Fin 512 → Fin 1024 → ℝ} {γ : Fin 1024 → ℝ}

/-! The body's payloads, entry by entry. -/

theorem pay3 (h3 : ∀ r k, v3 (ix2 r k) = ((d r k : ℝ) : EReal)) (h5 : ∀ k j, v5 (ix2 k j) = ((w j k : ℝ) : EReal)) (r : Fin 512) (z : Fin 1024) :
    k0_pay3 (F := Ideal) v3 v5 (ix2 r z) = ((∑ k, d r k * w z k : ℝ) : EReal) := by
  pointwise [k0_pay3]
  simp only [h3, h5, ← EReal.coe_mul, sum_coe]
theorem pay5 (h8 : ∀ r k, v8 (ix2 r k) = ((u r k : ℝ) : EReal)) (r : Fin 512) (z : Fin 1) :
    k0_pay5 (F := Ideal) v8 (ix2 r z) = ((rst (u r) : ℝ) : EReal) := by
  pointwise [k0_pay5]
  simp only [h8, ← EReal.coe_mul, sum_coe, ofBits_eps, ofBits_1024, div_1024, ← EReal.coe_add]
  exact rsqrt_ms _
theorem pay6 (h8 : ∀ r k, v8 (ix2 r k) = ((u r k : ℝ) : EReal)) (r : Fin 512) (z : Fin 1024) :
    k0_pay6 (F := Ideal) v8 (ix2 r z) = ((u r z * rst (u r) : ℝ) : EReal) := by
  pointwise [k0_pay6]
  simp only [h8, pay5 h8, ← EReal.coe_mul]
theorem pay7 (h8 : ∀ r k, v8 (ix2 r k) = ((u r k : ℝ) : EReal)) (h9 : ∀ k, v9 (ix2 0 k) = ((γ k : ℝ) : EReal)) (r : Fin 512) (z : Fin 1024) :
    k0_pay7 (F := Ideal) v8 v9 (ix2 r z) = ((u r z * rst (u r) * γ z : ℝ) : EReal) := by
  pointwise [k0_pay7, k0_pay4]
  simp only [h9, pay6 h8, ← EReal.coe_mul]
theorem pay8 {v25 : Vec Ideal S8x1024 .f32} (h3 : ∀ r k, v3 (ix2 r k) = ((d r k : ℝ) : EReal)) (h5 : ∀ k j, v5 (ix2 k j) = ((w j k : ℝ) : EReal)) (h8 : ∀ r k, v8 (ix2 r k) = ((u r k : ℝ) : EReal)) (o : Fin 8) (z : Fin 1024) :
    k0_pay8 (F := Ideal) v3 v5 v8 v25 (ix2 o z) = v25 (ix2 o z) + ((∑ j : Fin 64, (∑ k, d ⟨j * 8 + o, by omega⟩ k * w z k) * (u ⟨j * 8 + o, by omega⟩ z * rst (u ⟨j * 8 + o, by omega⟩)) : ℝ) : EReal) := by
  pointwise [k0_pay8]
  simp only [pay3 h3 h5, pay6 h8, ← EReal.coe_mul, sum_coe]
theorem pay1 (h3 : ∀ r k, v3 (ix2 r k) = ((d r k : ℝ) : EReal)) (h5 : ∀ k j, v5 (ix2 k j) = ((w j k : ℝ) : EReal)) (h8 : ∀ r k, v8 (ix2 r k) = ((u r k : ℝ) : EReal))
    (h9 : ∀ k, v9 (ix2 0 k) = ((γ k : ℝ) : EReal)) (h34 : ∀ r k, v34 (ix2 r k) = ((q r k : ℝ) : EReal)) (r : Fin 512) (z : Fin 1024) :
    k0_pay1 (F := Ideal) (k0_pay5 v8) (k0_pay6 v8) (k0_pay9 v3 v5 v9) v34 (ix2 r z) = ((q r z + rmsBwd (u r) (fun z => (∑ k, d r k * w z k) * γ z) z : ℝ) : EReal) := by
  pointwise [k0_pay1, k0_pay9, k0_pay4]
  simp only [h9, h34, pay3 h3 h5, pay5 h8, pay6 h8, ← EReal.coe_mul, sum_coe, ofBits_1024, div_1024, ← EReal.coe_add, ← EReal.coe_sub]
  rfl
end Body

/-- The block each window shows at each grid point. -/
theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![t.val, 0] ∧ win0_7.index t = ![0, 0] ∧ t.val < 32 :=
  (by decide +kernel : ∀ t : Fin grid0.N, _)

variable (m : (ℓ : Loc nD τ sig) → Buf (Elt Ideal) ℓ)

/-- The five arguments are arrays of reals. -/
structure Reads (c : Dev nD) (X : Fin 16384 → Fin 1024 → ℝ) (γ : Fin 1024 → ℝ) (W : Fin 1024 → Fin 4096 → ℝ) (Q : Fin 16384 → Fin 1024 → ℝ) (Z : Fin 16384 → Fin 4096 → ℝ) : Prop where
  x : ∀ i k, (show FVec Ideal S16384x1024 .f32 from m ((c : Thread nD τ).loc main_arg0)) (ix2 i k) = ((X i k : ℝ) : EReal)
  g : ∀ k, (show FVec Ideal S1024 .f32 from m ((c : Thread nD τ).loc main_arg1)) (ix1 k) = ((γ k : ℝ) : EReal)
  w : ∀ i k, (show FVec Ideal S1024x4096 .f32 from m ((c : Thread nD τ).loc main_arg2)) (ix2 i k) = ((W i k : ℝ) : EReal)
  q : ∀ i k, (show FVec Ideal S16384x1024 .f32 from m ((c : Thread nD τ).loc main_arg3)) (ix2 i k) = ((Q i k : ℝ) : EReal)
  z : ∀ i k, (show FVec Ideal S16384x4096 .f32 from m ((c : Thread nD τ).loc main_arg4)) (ix2 i k) = ((Z i k : ℝ) : EReal)

/-- The product of the cotangent `dz` with the weight's transpose. -/
def dh (W : Fin 1024 → Fin 4096 → ℝ) (Z : Fin 16384 → Fin 4096 → ℝ) (i : Fin 16384) (j : Fin 1024) : ℝ := ∑ k, Z i k * W j k

variable {m} {c : Dev nD} {X Q : Fin 16384 → Fin 1024 → ℝ} {W : Fin 1024 → Fin 4096 → ℝ} {γ : Fin 1024 → ℝ} {Z : Fin 16384 → Fin 4096 → ℝ}

/-- The array row of row `r` of block `t`. -/
def row (t : Fin cfg0.N) (r : Fin 512) : Fin 16384 := ⟨t.val * 512 + r.val, by have := (idx t).2.2.2.2.2.2.2.2; omega⟩

/-! What the staged blocks hold. -/

theorem blk0 (H : Reads m c X γ W Q Z) (t : Fin cfg0.N) (r : Fin 512) (k : Fin 1024) : (show FVec Ideal S512x1024 .f32 from iblk m c 0 t) (ix2 r k) = ((Q (row t r) k : ℝ) : EReal) := by
  rw [← H.q]; blk_ext [iblk, V, idx t, row]
theorem blk1 (H : Reads m c X γ W Q Z) (t : Fin cfg0.N) (r : Fin 512) (k : Fin 1024) : (show FVec Ideal S512x1024 .f32 from iblk m c 1 t) (ix2 r k) = ((X (row t r) k : ℝ) : EReal) := by
  rw [← H.x]; blk_ext [iblk, V, idx t, row]
theorem blk2 (H : Reads m c X γ W Q Z) (t : Fin cfg0.N) (k : Fin 1024) : (show FVec Ideal S1x1024 .f32 from iblk m c 2 t) (ix2 0 k) = ((γ k : ℝ) : EReal) := by
  have e : (show FVec Ideal S1x1024 .f32 from iblk m c 2 t) (ix2 0 k) = (show FVec Ideal S1x1024 .f32 from V m c main_v0) (ix2 0 k) := by
    blk_ext [iblk, idx t]
  rw [e]
  unfold V V0
  rw [show [hostOps0 (F := Ideal)].flatten = hostOps0 from rfl]
  entry_read
  pointwise
  exact H.g _
theorem blk3 (H : Reads m c X γ W Q Z) (t : Fin cfg0.N) (r : Fin 512) (k : Fin 4096) : (show FVec Ideal S512x4096 .bf16 from iblk m c 3 t) (ix2 r k) = ((Z (row t r) k : ℝ) : EReal) := by
  have e : (show FVec Ideal S512x4096 .bf16 from iblk m c 3 t) (ix2 r k) = (show FVec Ideal S16384x4096 .bf16 from V m c main_v1) (ix2 (row t r) k) := by
    blk_ext [iblk, idx t, row]
  rw [e]
  unfold V V0
  rw [show [hostOps0 (F := Ideal)].flatten = hostOps0 from rfl]
  entry_read
  pointwise
  exact H.z _ _
theorem blk4 (H : Reads m c X γ W Q Z) (t : Fin cfg0.N) (k : Fin 4096) (j : Fin 1024) : (show FVec Ideal S4096x1024 .bf16 from iblk m c 4 t) (ix2 k j) = ((W j k : ℝ) : EReal) := by
  have e : (show FVec Ideal S4096x1024 .bf16 from iblk m c 4 t) (ix2 k j) = (show FVec Ideal S4096x1024 .bf16 from V m c main_v3) (ix2 k j) := by
    blk_ext [iblk, idx t]
  rw [e]
  unfold V V0
  rw [show [hostOps0 (F := Ideal)].flatten = hostOps0 from rfl]
  entry_read
  pointwise
  exact H.w _ _

/-- The gradient before the norm. -/
def dx (X : Fin 16384 → Fin 1024 → ℝ) (γ : Fin 1024 → ℝ) (W : Fin 1024 → Fin 4096 → ℝ) (Q : Fin 16384 → Fin 1024 → ℝ) (Z : Fin 16384 → Fin 4096 → ℝ) (i : Fin 16384) (j : Fin 1024) : ℝ :=
  Q i j + rmsBwd (X i) (fun z => dh W Z i z * γ z) j

/-! The outputs at the end. -/

theorem final5 (H : Reads m c X γ W Q Z) : (dats m 0 c).arrAt 5 cfg0.N
    = (fun i => ((dx X γ W Q Z (i 0) (i 1) : ℝ) : EReal) : FVec Ideal S16384x1024 .f32) := by
  refine (dats m 0 c).arrAt_eq_of_covers 5 _ (by decide +kernel) fun t hf y => ?_
  have e (y0 : Fin 512) (y1 : Fin 1024) : ((cfg0.win 5).blk t).view.emb (ix2 y0 y1) = (ix2 (row t y0) y1 : S16384x1024.Idx) := by blk_ext [idx t, row]
  have h : (outsAt0 m c t.val t.isLt).1 = k0_pay1 (k0_pay5 (iblk m c 1 t)) (k0_pay6 (iblk m c 1 t)) (k0_pay9 (iblk m c 3 t) (iblk m c 4 t) (iblk m c 2 t)) (iblk m c 0 t) := by
    by_cases h : t.val % 32 = 0
    · rw [outsAt0_A m c t h]; frame_out
    · rw [outsAt0_B m c t h]; frame_out
  blk_simp
  rw [after0_5, h]
  idx_vars y
  rw [e]
  exact pay1 (blk3 H t) (blk4 H t) (blk1 H t) (blk2 H t) (blk0 H t) y0 y1

theorem final6 (H : Reads m c X γ W Q Z) : (dats m 0 c).arrAt 6 cfg0.N
    = (fun i => ((X (i 0) (i 1) * rst (X (i 0)) * γ (i 1) : ℝ) : EReal) : FVec Ideal S16384x1024 .bf16) := by
  refine (dats m 0 c).arrAt_eq_of_covers 6 _ (by decide +kernel) fun t hf y => ?_
  have e (y0 : Fin 512) (y1 : Fin 1024) : ((cfg0.win 6).blk t).view.emb (ix2 y0 y1) = (ix2 (row t y0) y1 : S16384x1024.Idx) := by blk_ext [idx t, row]
  have h : (outsAt0 m c t.val t.isLt).2.1 = k0_pay7 (iblk m c 1 t) (iblk m c 2 t) := by
    by_cases h : t.val % 32 = 0
    · rw [outsAt0_A m c t h]; frame_out
    · rw [outsAt0_B m c t h]; frame_out
  blk_simp
  rw [after0_6, h]
  idx_vars y
  rw [e]
  exact pay7 (blk1 H t) (blk2 H t) y0 y1

/-- One row's term of the scale's gradient. -/
def dgRow (X : Fin 16384 → Fin 1024 → ℝ) (W : Fin 1024 → Fin 4096 → ℝ) (Z : Fin 16384 → Fin 4096 → ℝ) (j : Fin 1024) (i : Fin 16384) : ℝ :=
  dh W Z i j * (X i j * rst (X i))

theorem final7 (H : Reads m c X γ W Q Z) : (dats m 0 c).arrAt 7 cfg0.N
    = (fun i => ((∑ t : Fin 32, part8 32 64 rfl (dgRow X W Z (i 1)) (i 0) t : ℝ) : EReal) : FVec Ideal S8x1024 .f32) := by
  refine (dats m 0 c).arrAt_eq_of_covers 7 _ (by decide +kernel) fun t hf y => ?_
  have e (y0 : Fin 8) (y1 : Fin 1024) : ((cfg0.win 7).blk t).view.emb (ix2 y0 y1) = (ix2 y0 y1 : S8x1024.Idx) := by blk_ext [idx t, row]
  have hz : (k0_pay2 (F := Ideal)) = fun _ => 0 := by funext j; pointwise [k0_pay2]
  have ht := (idx t).2.2.2.2.2.2.2.2
  blk_simp
  idx_vars y
  rw [e, after0_7, Pipeline.eq_sum_fin_of_reset_step_apply_of_flush (fun n h => (outsAt0 m c n h).2.2) 32 (fun _ => 0)
    (fun p j => ((part8 32 64 rfl (dgRow X W Z (j 1)) (j 0) ⟨p.val, (idx p).2.2.2.2.2.2.2.2⟩ : ℝ) : EReal))
    (fun t h j => by
      idx_vars j
      rw [outsAt0_A m c t h]; frame_out
      rw [hz]
      exact pay8 (v25 := fun _ => 0) (blk3 H t) (blk4 H t) (blk1 H t) j0 j1)
    (fun t h j => by
      idx_vars j
      rw [outsAt0_B m c t h]; frame_out
      exact pay8 (blk3 H t) (blk4 H t) (blk1 H t) j0 j1)
    t ((flush0_7 t).mp hf) _, zero_add]
  refine (sum_coe _ _).trans (congrArg _ (Finset.sum_congr rfl fun s _ => congrArg _ (Fin.ext ?_)))
  show 32 * (t.val / 32) + s.val = s.val
  omega

/-- The host's sum of the eight rows of window 7 is the scale's gradient. -/
theorem tail7 (H : Reads m c X γ W Q Z) : Pipeline.afterTail₀ cfgs (dats m) 0 (V0 m) [hostOps1] c main_v5
    = (fun i => ((∑ r, dgRow X W Z (i 0) r : ℝ) : EReal) : FVec Ideal S1024 .f32) := by
  have h7 := Pipeline.withArrays_arr (cfgs 0).spec (by decide) c (V0 m c) (fun w => (dats m 0 c).arrAt w (cfgs 0).N) 7
  unfold Pipeline.afterTail₀
  generalize Pipeline.withArrays (cfgs 0).spec c (V0 m c) (fun w => (dats m 0 c).arrAt w (cfgs 0).N) = V' at h7 ⊢
  rw [show [hostOps1 (F := Ideal)].flatten = hostOps1 from rfl]
  entry_read
  rw [show V' (Proc.devRef .tc main_v4_2) = _ from h7.trans (final7 H)]
  funext j
  idx_vars j
  pointwise
  simp only [sum_coe, sum_part8]
end Cert.SguInVal
end
-- ==== Proof.SguInRef.lean ====
module
public import proofs.«01_k».proof.Proof.SguInVal
public import proofs.«01_k».proof.Proof.Gen.SguInRefIdeal.Read
@[expose] public section
set_option maxRecDepth 16384
noncomputable section
/-! The reference of the `sgu_in_bwd` call over arrays of reals. -/
namespace Cert.SguInRef
open Idealize.ShloMosaic Idealize.ShloMosaic.TcCoe Idealize.SL.Sem Cert.SguInRefIdeal Cert.SguInRefIdeal.Read Cert.Reals
open Cert.SguInVal (dh)

variable {x : (⟨S16384x1024, .f32⟩ : BufTy).Contents (Elt Ideal)} {w : (⟨S1024x4096, .f32⟩ : BufTy).Contents (Elt Ideal)}
  {g : (⟨S1024, .f32⟩ : BufTy).Contents (Elt Ideal)} {q : (⟨S16384x1024, .f32⟩ : BufTy).Contents (Elt Ideal)} {z : (⟨S16384x4096, .f32⟩ : BufTy).Contents (Elt Ideal)}
  {X Q : Fin 16384 → Fin 1024 → ℝ} {W : Fin 1024 → Fin 4096 → ℝ} {γ : Fin 1024 → ℝ} {Z : Fin 16384 → Fin 4096 → ℝ}
  (hx : ∀ i k, x (ix2 i k) = ((X i k : ℝ) : EReal)) (hw : ∀ i k, w (ix2 i k) = ((W i k : ℝ) : EReal))
  (hg : ∀ k, g (ix1 k) = ((γ k : ℝ) : EReal)) (hq : ∀ i k, q (ix2 i k) = ((Q i k : ℝ) : EReal)) (hz : ∀ i k, z (ix2 i k) = ((Z i k : ℝ) : EReal))

include hx
theorem v6 (i : Fin 16384) (o : Fin 1) : val_main_v6 (F := Ideal) x (ix2 i o) = ((ms (X i) : ℝ) : EReal) := by
  pointwise [val_main_v6, val_main_v5, val_main_v4, val_main_v3, val_main_v2, val_main_v1, val_main_v0, val_main_cst, val_main_cst_0, val_main_cst_1]
  simp only [hx, ← EReal.coe_mul, sum_coe, ofBits_eps, ofBits_1024, div_1024, ← EReal.coe_add]
  rfl
theorem v7 (i : Fin 16384) (o : Fin 1) : val_main_v7 (F := Ideal) x (ix2 i o) = ((rst (X i) : ℝ) : EReal) := by
  pointwise [val_main_v7]
  rw [v6 hx]
  exact rsqrt_ms _
theorem v10 (i : Fin 16384) (o : Fin 1) : val_main_v10 (F := Ideal) x (ix2 i o) = ((-(1 / 2) * (rst (X i) / ms (X i)) : ℝ) : EReal) := by
  pointwise [val_main_v10, val_main_v9, val_main_v8, val_main_cst_2]
  rw [v6 hx, v7 hx, div_coe (ms_pos _).ne', ofBits_neg_half, ← EReal.coe_mul]
include hg in
theorem v15 (i : Fin 16384) (j : Fin 1024) : val_main_v15 (F := Ideal) x g (ix2 i j) = ((X i j * rst (X i) * γ j : ℝ) : EReal) := by
  pointwise [val_main_v15, val_main_v14, val_main_v13, val_main_v12, val_main_v11]
  simp only [hx, v7 hx, hg, ← EReal.coe_mul]
omit hx
include hw hz
theorem v17 (i : Fin 16384) (j : Fin 1024) : val_main_v17 (F := Ideal) w z (ix2 i j) = ((dh W Z i j : ℝ) : EReal) := by
  pointwise [val_main_v17]
  simp only [hw, hz, ← EReal.coe_mul, sum_coe]
  rfl
include hx
theorem v23 (j : Fin 1024) : val_main_v23 (F := Ideal) x w z (ix1 j) = ((∑ i, dh W Z i j * (X i j * rst (X i)) : ℝ) : EReal) := by
  pointwise [val_main_v23, val_main_v20, val_main_v19, val_main_v18, val_main_v12, val_main_v11, val_main_cst_3, val_main_cst_4]
  simp only [Finset.univ_unique, Finset.sum_singleton, hx, v7 hx, v17 hw hz, ← EReal.coe_mul, sum_coe]
  exact congrArg _ (Finset.sum_congr rfl fun i _ => mul_comm _ _)
include hg hq
theorem v38 (i : Fin 16384) (j : Fin 1024) : val_main_v38 (F := Ideal) x g w q z (ix2 i j) = ((Q i j + rmsBwd (X i) (fun k => dh W Z i k * γ k) j : ℝ) : EReal) := by
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v13, val_main_cst_5, val_main_cst_6, val_main_cst_7]
  simp only [Finset.univ_unique, Finset.sum_singleton, hx, v7 hx, v10 hx, v17 hw hz, hq, hg, ← EReal.coe_mul, sum_coe, ofBits_1024, div_1024, ← EReal.coe_add]
  exact congrArg _ (congrArg _ (rmsBwd_chain (X i) (fun k => dh W Z i k * γ k) j))
end Cert.SguInRef
end
-- ==== Proof.SguInClaim.lean ====
module
public import proofs.«01_k».proof.Defs
public import proofs.«01_k».proof.Proof.Finite
public import proofs.«01_k».proof.Proof.SguInVal
public import proofs.«01_k».proof.Proof.SguInRef
public import Idealize.ShloMosaic.Lib.Claim
@[expose] public section
set_option maxRecDepth 16384
noncomputable section
/-! The `sgu_in_bwd` call against `jax.vjp`. -/
namespace Cert.SguInVal
open Idealize.ShloMosaic Idealize.ShloMosaic.TcCoe Idealize.SL.Sem Cert.Reals

/-- The side conditions of the precondition's operations. -/
instance preFacts : Cert.Pre_finite_sgu_in.Facts := by constructor <;> decide

/-- Under the precondition the arguments are arrays of reals. -/
theorem reals_of_pre (m : (ℓ : Loc Cert.SguInIdeal.nD Cert.SguInIdeal.τ Cert.SguInIdeal.sig) → Buf (Elt Ideal) ℓ) (h : Cert.Pre_SguInIdeal_finite_sgu_in m) (c : Dev Cert.SguInIdeal.nD) :
    ∃ X γ W Q Z, Reads m c X γ W Q Z := by
  have e := congrFun (h c) (fun a => a.elim0)
  unfold Cert.Pre_finite_sgu_in.fn Cert.Pre_finite_sgu_in.fn_part1 at e
  obtain ⟨e0123, e4⟩ := IntOp.andi_eq_one.mp e
  obtain ⟨e012, e3⟩ := IntOp.andi_eq_one.mp e0123
  obtain ⟨e01, e2⟩ := IntOp.andi_eq_one.mp e012
  obtain ⟨e0, e1⟩ := IntOp.andi_eq_one.mp e01
  obtain ⟨X, hX⟩ := reals2 _ (reals_of_all _ _ _ _ _ e0)
  obtain ⟨γ, hγ⟩ := reals1 _ (reals_of_all _ _ _ _ _ e1)
  obtain ⟨W, hW⟩ := reals2 _ (reals_of_all _ _ _ _ _ e2)
  obtain ⟨Q, hQ⟩ := reals2 _ (reals_of_all _ _ _ _ _ e3)
  obtain ⟨Z, hZ⟩ := reals2 _ (reals_of_all _ _ _ _ _ e4)
  exact ⟨X, γ, W, Q, Z, hX, hγ, hW, hQ, hZ⟩

/-- The reference runs and leaves its arguments; it has no semaphores. -/
theorem frameRef : Cert.quiescent_SguInRefIdeal (hSguInRefIdeal := Cert.SguInRefIdeal.Gen.facts) := fun m ρ _ =>
  (θ_run Cert.SguInRefIdeal.defs _ _).mono (fun r h => ⟨fun c => (h c).2.2.2, sem_eq_zero_of_no_sems (by decide) r.2⟩)
    (Cert.SguInRefIdeal.Value.run m ρ)

/-- The call and the reference have equal results. -/
theorem algebraic : Cert.algebraic_SguInIdeal_SguInRefIdeal_pre_finite_sgu_in (hSguInIdeal := Cert.SguInIdeal.Gen.facts) (hSguInRefIdeal := Cert.SguInRefIdeal.Gen.facts) (hPre_finite_sgu_in := preFacts) := by
  pair_intro
  · run_from Cert.SguInIdeal.Gen.run_main m g
    · exact Cert.SguInIdeal.Gen.W_main_arg1 m _ c
    · exact Cert.SguInIdeal.Gen.W_main_arg2 m _ c
    · exact Cert.SguInIdeal.Gen.W_main_arg4 m _ c
  · run_from Cert.SguInRefIdeal.Value.run m' g'
    · obtain ⟨X, γ, W, Q, Z, H⟩ := reals_of_pre m hpre c
      obtain ⟨e0, e1, e2, e3, e4⟩ := hagree c
      rw [Cert.SguInRefIdeal.Read.val_main_v38_eq, e0, e1, e2, e3, e4, final5 H]
      funext j
      idx_vars j
      exact SguInRef.v38 H.x H.w H.g H.q H.z j0 j1
    · obtain ⟨X, γ, W, Q, Z, H⟩ := reals_of_pre m hpre c
      obtain ⟨e0, e1, e2, e3, e4⟩ := hagree c
      rw [final6 H]
      funext j
      idx_vars j
      exact SguInRef.v15 H.x H.g j0 j1
    · obtain ⟨X, γ, W, Q, Z, H⟩ := reals_of_pre m hpre c
      obtain ⟨e0, e1, e2, e3, e4⟩ := hagree c
      rw [tail7 H]
      funext j
      idx_vars j
      exact SguInRef.v23 H.x H.w H.z j0
end Cert.SguInVal
end
-- ==== Proof.SguMath.lean ====
module
public import proofs.«01_k».proof.Proof.Reals
public import Idealize.ShloMosaic.Lib.Pointwise
@[expose] public section
noncomputable section
/-! The gated spatial mixer over arrays of reals: its forward lines and their gradients. -/
namespace Cert.Mix
open Idealize.ShloMosaic Cert.Reals

theorem ofBits_2048 : Ideal.ofBits .f32 0x45000000#32 = ((2048 : ℝ) : EReal) := by
  rw [word _ false 138 0 (by decide) (by decide) (by decide) (by decide) (by decide)]
  norm_num [zpow_neg]
theorem div_2048 (x : ℝ) : Ideal.div (x : EReal) ((2048 : ℝ) : EReal) = ((x / 2048 : ℝ) : EReal) := div_coe (by norm_num) x
/-- The programs' `sqrt(2/π)`. -/
def c0 : ℝ := 6693141 / 2 ^ 23
/-- The programs' `0.044715`. -/
def c1 : ℝ := 12003091 / 2 ^ 28
theorem ofBits_c0 : Ideal.ofBits .f32 0x3F4C422A#32 = ((c0 : ℝ) : EReal) := by
  rw [word _ false 126 4997674 (by decide) (by decide) (by decide) (by decide) (by decide)]
  unfold c0; norm_num [zpow_neg]
theorem ofBits_half_c0 : Ideal.ofBits .f32 0x3ECC422A#32 = ((1 / 2 * c0 : ℝ) : EReal) := by
  rw [word _ false 125 4997674 (by decide) (by decide) (by decide) (by decide) (by decide)]
  unfold c0; norm_num [zpow_neg]
theorem ofBits_c1 : Ideal.ofBits .f32 0x3D372713#32 = ((c1 : ℝ) : EReal) := by
  rw [word _ false 122 3614483 (by decide) (by decide) (by decide) (by decide) (by decide)]
  unfold c1; norm_num [zpow_neg]
theorem ofBits_three : Ideal.ofBits .f32 0x40400000#32 = ((3 : ℝ) : EReal) := by
  rw [word _ false 128 4194304 (by decide) (by decide) (by decide) (by decide) (by decide)]
  norm_num [zpow_neg]
theorem c01_eq : ((80338380498831 / 2251799813685248 : ℝ) : EReal) = ((c0 * c1 : ℝ) : EReal) := by
  congr 1; unfold c0 c1; norm_num
theorem c301_eq : ((241015141496493 / 4503599627370496 : ℝ) : EReal) = ((3 / 2 * (c0 * c1) : ℝ) : EReal) := by
  congr 1; unfold c0 c1; norm_num

/-! The activation. -/

def gT (z : ℝ) : ℝ := Real.tanh (z * (c0 + c0 * c1 * (z * z)))
def gP (z : ℝ) : ℝ := 1 / 2 * gT z + 1 / 2
def gel (z : ℝ) : ℝ := z * gP z
/-- The activation's derivative. -/
def gelD (z : ℝ) : ℝ := gP z + z * (1 - gT z * gT z) * (1 / 2 * c0 + 3 / 2 * (c0 * c1) * (z * z))
theorem gT_host (z : ℝ) : Real.tanh (c0 * (z + c1 * (z * z * z))) = gT z := by
  unfold gT; congr 1; ring
theorem gel_host (z : ℝ) : z * (1 / 2 * (1 + gT z)) = gel z := by
  unfold gel gP; ring
theorem gelD_host (z q : ℝ) : q * (1 / 2 * (1 + gT z)) + c0 * (1 / 2 * (z * q) * ((1 + gT z) * (1 - gT z)))
    + c1 * (c0 * (1 / 2 * (z * q) * ((1 + gT z) * (1 - gT z)))) * (3 * (z * z)) = q * gelD z := by
  unfold gelD gP; ring

/-! The norm of a row of 2048 entries. -/

def mean (f : Fin 2048 → ℝ) : ℝ := (∑ k, f k) / 2048
def cen (v : Fin 2048 → ℝ) (j : Fin 2048) : ℝ := v j - mean v
def lms (v : Fin 2048 → ℝ) : ℝ := (∑ k, cen v k * cen v k) / 2048 + eps
def lrs (v : Fin 2048 → ℝ) : ℝ := (Real.sqrt (lms v))⁻¹
def lhat (v : Fin 2048 → ℝ) (j : Fin 2048) : ℝ := cen v j * lrs v
theorem lms_pos (v : Fin 2048 → ℝ) : 0 < lms v :=
  add_pos_of_nonneg_of_pos (div_nonneg (Finset.sum_nonneg fun k _ => mul_self_nonneg (cen v k)) (by norm_num)) eps_pos
theorem rsqrt_lms (v : Fin 2048 → ℝ) : Ideal.rsqrt (((∑ k, cen v k * cen v k) / 2048 + eps : ℝ) : EReal) = (lrs v : EReal) :=
  rsqrt_coe (lms_pos v)
theorem lrs_div (v : Fin 2048 → ℝ) : lrs v / lms v = lrs v * lrs v * lrs v := by
  have h : lrs v * lrs v = 1 / lms v := by
    unfold lrs; rw [← mul_inv, Real.mul_self_sqrt (lms_pos v).le, one_div]
  rw [h]; ring
theorem sum_cen (v : Fin 2048 → ℝ) : ∑ k, cen v k = 0 := by
  unfold cen mean
  rw [Finset.sum_sub_distrib, Finset.sum_const, Finset.card_univ, Fintype.card_fin, nsmul_eq_mul]
  push_cast; ring
/-- The gradient of `lhat` at `v` in direction `q`. -/
def lnBwd (v q : Fin 2048 → ℝ) (j : Fin 2048) : ℝ :=
  lrs v * (q j - mean q - lhat v j * mean fun k => q k * lhat v k)
/-- … as the chain rule through the reciprocal root gives it, before the mean's part. -/
def chain (v q : Fin 2048 → ℝ) (j : Fin 2048) : ℝ :=
  q j * lrs v + cen v j * ((∑ k, cen v k * q k) * (-(1 / 2) * (lrs v / lms v)) / 2048) + (∑ k, cen v k * q k) * (-(1 / 2) * (lrs v / lms v)) / 2048 * cen v j
theorem lnBwd_chain (v q : Fin 2048 → ℝ) (j : Fin 2048) : chain v q j + (∑ k, -chain v q k) / 2048 = lnBwd v q j := by
  have h1 : mean (fun k => q k * lhat v k) = (∑ k, cen v k * q k) * lrs v / 2048 := by
    unfold mean lhat; rw [Finset.sum_mul]; congr 1; exact Finset.sum_congr rfl fun k _ => by ring
  have h2 : ∑ k, -chain v q k = -(lrs v * ∑ k, q k) := by
    generalize hs : (∑ k, cen v k * q k) * (-(1 / 2) * (lrs v / lms v)) / 2048 = s
    have : ∀ k, -chain v q k = -(lrs v * q k + 2 * s * cen v k) := fun k => by unfold chain; rw [hs]; ring
    simp only [this]
    rw [Finset.sum_neg_distrib, Finset.sum_add_distrib, ← Finset.mul_sum, ← Finset.mul_sum, sum_cen]; ring
  rw [h2, lnBwd, h1, chain, lrs_div, lhat]; unfold mean; ring

/-! The mixer: rows come in chunks of 128, columns in groups of 256. -/

/-- Row `k` of the chunk of row `i`. -/
def inChunk (i : Fin 16384) (k : Fin 128) : Fin 16384 := ⟨i.val / 128 * 128 + k.val, by omega⟩
def place (i : Fin 16384) : Fin 128 := ⟨i.val % 128, by omega⟩
def group (j : Fin 2048) : Fin 8 := ⟨j.val / 256, by omega⟩
def uCol (j : Fin 2048) : Fin 4096 := ⟨j.val, by omega⟩
def vCol (j : Fin 2048) : Fin 4096 := ⟨2048 + j.val, by omega⟩

/-- The arguments. -/
structure Args where
  z : Fin 16384 → Fin 4096 → ℝ
  lg : Fin 2048 → ℝ
  lb : Fin 2048 → ℝ
  w : Fin 8 → Fin 128 → Fin 128 → ℝ
  b : Fin 8 → Fin 128 → ℝ
  wo : Fin 2048 → Fin 1024 → ℝ
  g : Fin 1024 → ℝ
  q : Fin 16384 → Fin 1024 → ℝ
namespace Args
variable (a : Args)
def u (i : Fin 16384) (j : Fin 2048) : ℝ := gel (a.z i (uCol j))
def v (i : Fin 16384) (j : Fin 2048) : ℝ := gel (a.z i (vCol j))
def vl (i : Fin 16384) (j : Fin 2048) : ℝ := lhat (a.v i) j * a.lg j + a.lb j
def ws (g : Fin 8) (t s : Fin 128) : ℝ := if s.val ≤ t.val then a.w g t s else 0
def mix (i : Fin 16384) (j : Fin 2048) : ℝ := (∑ k, a.ws (group j) (place i) k * a.vl (inChunk i k) j) + a.b (group j) (place i)
def mm (i : Fin 16384) (k : Fin 1024) : ℝ := ∑ j, a.u i j * a.mix i j * a.wo j k
def dm (i : Fin 16384) (k : Fin 1024) : ℝ := rmsBwd (a.mm i) (fun k => a.q i k * a.g k) k
def dg (k : Fin 1024) (i : Fin 16384) : ℝ := a.q i k * (a.mm i k * rst (a.mm i))
def dgt (i : Fin 16384) (j : Fin 2048) : ℝ := ∑ k, a.dm i k * a.wo j k
def du (i : Fin 16384) (j : Fin 2048) : ℝ := a.dgt i j * a.mix i j
def dmx (i : Fin 16384) (j : Fin 2048) : ℝ := a.dgt i j * a.u i j
def dvl (i : Fin 16384) (j : Fin 2048) : ℝ := ∑ k, a.ws (group j) k (place i) * a.dmx (inChunk i k) j
def dv (i : Fin 16384) (j : Fin 2048) : ℝ := lnBwd (a.v i) (fun k => a.dvl i k * a.lg k) j
def dlg (j : Fin 2048) (i : Fin 16384) : ℝ := a.dvl i j * lhat (a.v i) j
def dlb (j : Fin 2048) (i : Fin 16384) : ℝ := a.dvl i j
/-- The part of chunk `n` and column `d` of the group in the spatial weight's gradient. -/
def dw (g : Fin 8) (t s : Fin 128) (n : Fin 128) (d : Fin 256) : ℝ :=
  a.dmx ⟨n.val * 128 + t.val, by omega⟩ ⟨g.val * 256 + d.val, by omega⟩ * a.vl ⟨n.val * 128 + s.val, by omega⟩ ⟨g.val * 256 + d.val, by omega⟩
/-- The gradient of the activations, before the activation's derivative. -/
def dact (i : Fin 16384) (k : Fin 4096) : ℝ := if h : k.val < 2048 then a.du i ⟨k.val, h⟩ else a.dv i ⟨k.val - 2048, by omega⟩
def dz (i : Fin 16384) (k : Fin 4096) : ℝ := a.dact i k * gelD (a.z i k)
/-- The spatial weight's gradient. -/
def dws (g : Fin 8) (t s : Fin 128) : ℝ := if s.val ≤ t.val then ∑ n, ∑ d, a.dw g t s n d else 0
/-- The part of chunk `n` in the spatial bias's gradient, by column. -/
def db (t : Fin 128) (j : Fin 2048) (n : Fin 128) : ℝ := a.dmx ⟨n.val * 128 + t.val, by omega⟩ j
/-- The spatial bias's gradient. -/
def dbs (g : Fin 8) (t : Fin 128) : ℝ := ∑ n, ∑ d : Fin 256, a.db t ⟨g.val * 256 + d.val, by omega⟩ n
end Args

theorem col_eq (j : Fin 2048) (h : j.val / 256 * 256 + j.val % 256 < 2048) : (⟨j.val / 256 * 256 + j.val % 256, h⟩ : Fin 2048) = j := Fin.ext (Nat.div_add_mod' _ _)
theorem row_eq (j : Fin 16384) (h : j.val / 128 * 128 + j.val % 128 < 16384) : (⟨j.val / 128 * 128 + j.val % 128, h⟩ : Fin 16384) = j := Fin.ext (Nat.div_add_mod' _ _)

/-- A rank-4 array summed over its first and last axes. -/
theorem sum_fiber_0_3 {n0 n1 n2 n3 : ℕ} (h : (⟨4, ![n0, n1, n2, n3]⟩ : Shape).ReducesTo [0, 3] ⟨2, ![n1, n2]⟩) (v : (⟨4, ![n0, n1, n2, n3]⟩ : Shape).Idx → EReal)
    (t : Fin n1) (k : Fin n2) : ∑ i ∈ Finset.univ.filter (fun i => h.drop i = ix2 t k), v i = ∑ n : Fin n0, ∑ d : Fin n3, v (ix4 n t k d) := by
  rw [← Fintype.sum_prod_type']
  refine Finset.sum_filter_eq_sum_of_fiber _ (fun p : Fin n0 × Fin n3 => ix4 p.1 t k p.2) (fun p p' e => Prod.ext (congrFun e 0) (congrFun e 3)) (fun i => ?_) v
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨p, rfl⟩
    funext b
    apply Fin.ext
    match b with
    | ⟨0, _⟩ => rfl
    | ⟨1, _⟩ => rfl

/-- The lower triangle, as the programs' integers compare it. -/
theorem tril (t s : Fin 128) : Scalar.select (IntOp.cmpi CmpIPredicate.sge (IntOp.addi (BitVec.ofNat 32 t.val) 0#32) (BitVec.ofNat 32 s.val)) 1#1 0#1
    = if s.val ≤ t.val then 1#1 else 0#1 := by
  revert t s; decide +kernel
end Cert.Mix
end
-- ==== Proof.SguRef.lean ====
module
public import proofs.«01_k».proof.Proof.SguMath
public import proofs.«01_k».proof.Proof.Gen.SguRefIdeal.Read
public import Idealize.ShloMosaic.Lib.Pointwise
@[expose] public section
set_option maxRecDepth 16384
noncomputable section
/-! The mixer's reference over arrays of reals. -/
namespace Cert.SguRef
open Idealize.ShloMosaic Idealize.ShloMosaic.TcCoe Idealize.SL.Sem Cert.SguRefIdeal Cert.SguRefIdeal.Read Cert.Reals Cert.Mix

/-- The eight arguments are arrays of reals. -/
structure Real (a : Args) (z : (⟨S16384x4096, .f32⟩ : BufTy).Contents (Elt Ideal)) (lg lb : (⟨S2048, .f32⟩ : BufTy).Contents (Elt Ideal))
    (w : (⟨S8x128x128, .f32⟩ : BufTy).Contents (Elt Ideal)) (b : (⟨S8x128, .f32⟩ : BufTy).Contents (Elt Ideal)) (wo : (⟨S2048x1024, .f32⟩ : BufTy).Contents (Elt Ideal))
    (g : (⟨S1024, .f32⟩ : BufTy).Contents (Elt Ideal)) (q : (⟨S16384x1024, .f32⟩ : BufTy).Contents (Elt Ideal)) : Prop where
  z : ∀ i k, z (ix2 i k) = ((a.z i k : ℝ) : EReal)
  lg : ∀ k, lg (ix1 k) = ((a.lg k : ℝ) : EReal)
  lb : ∀ k, lb (ix1 k) = ((a.lb k : ℝ) : EReal)
  w : ∀ i k j, w (ix3 i k j) = ((a.w i k j : ℝ) : EReal)
  b : ∀ i k, b (ix2 i k) = ((a.b i k : ℝ) : EReal)
  wo : ∀ i k, wo (ix2 i k) = ((a.wo i k : ℝ) : EReal)
  g : ∀ k, g (ix1 k) = ((a.g k : ℝ) : EReal)
  q : ∀ i k, q (ix2 i k) = ((a.q i k : ℝ) : EReal)

variable {a : Args} {z : (⟨S16384x4096, .f32⟩ : BufTy).Contents (Elt Ideal)} {lg lb : (⟨S2048, .f32⟩ : BufTy).Contents (Elt Ideal)}
    {w : (⟨S8x128x128, .f32⟩ : BufTy).Contents (Elt Ideal)} {b : (⟨S8x128, .f32⟩ : BufTy).Contents (Elt Ideal)} {wo : (⟨S2048x1024, .f32⟩ : BufTy).Contents (Elt Ideal)}
    {g : (⟨S1024, .f32⟩ : BufTy).Contents (Elt Ideal)} {q : (⟨S16384x1024, .f32⟩ : BufTy).Contents (Elt Ideal)}
    (H : Real a z lg lb w b wo g q)
include H

theorem v10 (i : Fin 16384) (k : Fin 4096) : val_main_v10 (F := Ideal) z (ix2 i k) = ((gT (a.z i k) : ℝ) : EReal) := by
  pointwise [val_main_v10, val_main_v9, val_main_v8, val_main_v7, val_main_v6, val_main_v5, val_main_v1, val_main_v0, val_main_cst_0, val_main_cst_1]
  simp only [H.z, ← EReal.coe_mul, ofBits_c0, ofBits_c1, ← EReal.coe_add, Ideal.tanh_coe, gT_host]
theorem v19 (i : Fin 16384) (k : Fin 4096) : val_main_v19 (F := Ideal) z (ix2 i k) = ((1 / 2 * (1 + gT (a.z i k)) : ℝ) : EReal) := by
  pointwise [val_main_v19, val_main_v18, val_main_v17, val_main_v16, val_main_cst_4, val_main_cst_5]
  simp only [v10 H, ofBits_half, ofBits_one, ← EReal.coe_one, ← EReal.coe_mul, ← EReal.coe_add]
theorem v21 (i : Fin 16384) (j : Fin 2048) : val_main_v21 (F := Ideal) z (ix2 i j) = ((a.u i j : ℝ) : EReal) := by
  pointwise [val_main_v21, val_main_v20]
  simp only [H.z, v19 H, ← EReal.coe_mul, gel_host]
  rfl
theorem v22 (i : Fin 16384) (j : Fin 2048) : val_main_v22 (F := Ideal) z (ix2 i j) = ((a.v i j : ℝ) : EReal) := by
  pointwise [val_main_v22, val_main_v20]
  simp only [H.z, v19 H, ← EReal.coe_mul, gel_host]
  rfl
theorem v28 (i : Fin 16384) (j : Fin 2048) : val_main_v28 (F := Ideal) z (ix2 i j) = ((cen (a.v i) j : ℝ) : EReal) := by
  pointwise [val_main_v28, val_main_v27, val_main_v26, val_main_v25, val_main_v24, val_main_v23, val_main_cst_6, val_main_cst_7]
  simp only [v22 H, sum_coe, ofBits_2048, div_2048, ← EReal.coe_sub]
  rfl
theorem v35 (i : Fin 16384) (o : Fin 1) : val_main_v35 (F := Ideal) z (ix2 i o) = ((lms (a.v i) : ℝ) : EReal) := by
  pointwise [val_main_v35, val_main_v34, val_main_v33, val_main_v32, val_main_v31, val_main_v30, val_main_v29, val_main_cst_8, val_main_cst_9, val_main_cst_10]
  simp only [v28 H, ← EReal.coe_mul, sum_coe, ofBits_2048, div_2048, ofBits_eps, ← EReal.coe_add]
  rfl
theorem v36 (i : Fin 16384) (o : Fin 1) : val_main_v36 (F := Ideal) z (ix2 i o) = ((lrs (a.v i) : ℝ) : EReal) := by
  pointwise [val_main_v36]
  rw [v35 H]
  exact rsqrt_lms _
theorem v39 (i : Fin 16384) (o : Fin 1) : val_main_v39 (F := Ideal) z (ix2 i o) = ((-(1 / 2) * (lrs (a.v i) / lms (a.v i)) : ℝ) : EReal) := by
  pointwise [val_main_v39, val_main_v38, val_main_v37, val_main_cst_11]
  rw [v35 H, v36 H, div_coe (lms_pos _).ne', ofBits_neg_half, ← EReal.coe_mul]
theorem v41 (i : Fin 16384) (j : Fin 2048) : val_main_v41 (F := Ideal) z (ix2 i j) = ((lhat (a.v i) j : ℝ) : EReal) := by
  pointwise [val_main_v41, val_main_v40]
  simp only [v28 H, v36 H, ← EReal.coe_mul]
  rfl
theorem v47 (i : Fin 16384) (j : Fin 2048) : val_main_v47 (F := Ideal) z lg lb (ix2 i j) = ((a.vl i j : ℝ) : EReal) := by
  pointwise [val_main_v47, val_main_v46, val_main_v45, val_main_v44, val_main_v43, val_main_v42]
  simp only [v41 H, H.lg, H.lb, ← EReal.coe_mul, ← EReal.coe_add]
  rfl
theorem v52 (k : Fin 8) (t s : Fin 128) : val_main_v52_0 (F := Ideal) w (ix3 k t s) = ((a.ws k t s : ℝ) : EReal) := by
  pointwise [val_main_v52_0, val_main_v52_1, val_main_v51, val_main_v50, val_main_v49, val_main_c, val_main_call0_v0, val_main_call0_v1, val_main_call0_v2, val_main_call0_v3, val_main_call0_v4, val_main_call0_v5, val_main_call0_c, val_main_call0_c_0, val_main_call1_v0, val_main_call1_v2, val_main_c_12]
  rw [tril, H.w]
  unfold Args.ws
  by_cases h : s.val ≤ t.val
  · rw [if_pos h, if_pos h]; rfl
  · rw [if_neg h, if_neg h]; simp [Scalar.select, FloatOps.sitofp]
theorem v58 (n t : Fin 128) (k : Fin 8) (d : Fin 256) : val_main_v58 (F := Ideal) z lg lb w b (ix4 n t k d)
    = (((∑ s, a.ws k t s * a.vl ⟨n.val * 128 + s.val, by omega⟩ ⟨k.val * 256 + d.val, by omega⟩) + a.b k t : ℝ) : EReal) := by
  pointwise [val_main_v58, val_main_v57, val_main_v56, val_main_v55, val_main_v54, val_main_v53, val_main_v48]
  simp only [v47 H, v52 H, H.b, ← EReal.coe_mul, sum_coe, ← EReal.coe_add]
  exact congrArg _ (congrArg (· + _) (Finset.sum_congr rfl fun s _ => mul_comm _ _))
theorem v59 (i : Fin 16384) (j : Fin 2048) : val_main_v59 (F := Ideal) z lg lb w b (ix2 i j) = ((a.mix i j : ℝ) : EReal) := by
  pointwise [val_main_v59]
  rw [v58 H]
  simp only [col_eq]
  rfl
theorem v61 (i : Fin 16384) (k : Fin 1024) : val_main_v61 (F := Ideal) z lg lb w b wo (ix2 i k) = ((a.mm i k : ℝ) : EReal) := by
  pointwise [val_main_v61, val_main_v60]
  simp only [v21 H, v59 H, H.wo, ← EReal.coe_mul, sum_coe]
  rfl

theorem v69 (i : Fin 16384) (o : Fin 1) : val_main_v69 (F := Ideal) z lg lb w b wo (ix2 i o) = ((rst (a.mm i) : ℝ) : EReal) := by
  pointwise [val_main_v69, val_main_v68, val_main_v67, val_main_v66, val_main_v65, val_main_v64, val_main_v63, val_main_v62, val_main_cst_13, val_main_cst_14, val_main_cst_15]
  simp only [v61 H, ← EReal.coe_mul, sum_coe, ofBits_eps, ofBits_1024, div_1024, ← EReal.coe_add]
  exact rsqrt_ms _
theorem v72 (i : Fin 16384) (o : Fin 1) : val_main_v72 (F := Ideal) z lg lb w b wo (ix2 i o) = ((-(1 / 2) * (rst (a.mm i) / ms (a.mm i)) : ℝ) : EReal) := by
  pointwise [val_main_v72, val_main_v71, val_main_v70, val_main_v68, val_main_v67, val_main_v66, val_main_v65, val_main_v64, val_main_v63, val_main_v62, val_main_cst_13, val_main_cst_14, val_main_cst_15, val_main_cst_16]
  simp only [v61 H, v69 H, ← EReal.coe_mul, sum_coe, ofBits_eps, ofBits_1024, div_1024, ← EReal.coe_add]
  rw [show (∑ k, a.mm i k * a.mm i k) / 1024 + eps = ms (a.mm i) from rfl, div_coe (ms_pos _).ne', ofBits_neg_half, ← EReal.coe_mul]
theorem v83 (k : Fin 1024) : val_main_v83 (F := Ideal) z lg lb w b wo q (ix1 k) = ((∑ i, a.dg k i : ℝ) : EReal) := by
  pointwise [val_main_v83, val_main_v80, val_main_v79, val_main_v78, val_main_v74, val_main_v73, val_main_cst_17, val_main_cst_18]
  simp only [Finset.univ_unique, Finset.sum_singleton, v61 H, v69 H, H.q, ← EReal.coe_mul, sum_coe]
  exact congrArg _ (Finset.sum_congr rfl fun i _ => mul_comm _ _)
theorem v97 (i : Fin 16384) (k : Fin 1024) : val_main_v97 (F := Ideal) z lg lb w b wo g q (ix2 i k) = ((a.dm i k : ℝ) : EReal) := by
  pointwise [val_main_v97, val_main_v96, val_main_v95, val_main_v94, val_main_v93, val_main_v92, val_main_v91, val_main_v90, val_main_v89, val_main_v88, val_main_v87, val_main_v86, val_main_v85, val_main_v84, val_main_v82, val_main_v81, val_main_v75, val_main_cst_19, val_main_cst_20, val_main_cst_21]
  simp only [Finset.univ_unique, Finset.sum_singleton, v61 H, v69 H, v72 H, H.q, H.g, ← EReal.coe_mul, sum_coe, ofBits_1024, div_1024, ← EReal.coe_add]
  exact congrArg _ (rmsBwd_chain (a.mm i) (fun k => a.q i k * a.g k) k)
theorem v156 (i : Fin 16384) (j : Fin 2048) : val_main_v156 (F := Ideal) z lg lb w b (ix2 i j) = ((a.u i j * a.mix i j : ℝ) : EReal) := by
  pointwise [val_main_v156, val_main_v60]
  simp only [v21 H, v59 H, ← EReal.coe_mul]
theorem v157 (i : Fin 16384) (k : Fin 1024) : val_main_v157 (F := Ideal) z lg lb w b wo g q (ix2 i k) = ((a.dm i k : ℝ) : EReal) := by
  pointwise [val_main_v157]
  exact v97 H i k
theorem v98 (i : Fin 16384) (j : Fin 2048) : val_main_v98 (F := Ideal) z lg lb w b wo g q (ix2 i j) = ((a.dgt i j : ℝ) : EReal) := by
  pointwise [val_main_v98]
  simp only [v97 H, H.wo, ← EReal.coe_mul, sum_coe]
  rfl
theorem v99 (i : Fin 16384) (j : Fin 2048) : val_main_v99 (F := Ideal) z lg lb w b wo g q (ix2 i j) = ((a.dmx i j : ℝ) : EReal) := by
  pointwise [val_main_v99]
  rw [v21 H, v98 H, ← EReal.coe_mul, mul_comm]
  rfl
theorem v101 (n t : Fin 128) (k : Fin 8) (d : Fin 256) : val_main_v101 (F := Ideal) z lg lb w b wo g q (ix4 n t k d)
    = ((a.dmx ⟨n.val * 128 + t.val, by omega⟩ ⟨k.val * 256 + d.val, by omega⟩ : ℝ) : EReal) := by
  pointwise [val_main_v101]
  exact v99 H _ _
theorem v102 (t : Fin 128) (k : Fin 8) : val_main_v102 (F := Ideal) z lg lb w b wo g q (ix2 t k) = ((a.dbs k t : ℝ) : EReal) := by
  unfold val_main_v102
  refine (congrArg (_ + ·) (sum_fiber_0_3 _ _ t k)).trans ?_
  simp only [v101 H, sum_coe]
  pointwise [val_main_cst_22]
  rfl
theorem v105 (k : Fin 8) (t : Fin 128) : val_main_v105 (F := Ideal) z lg lb w b wo g q (ix2 k t) = ((a.dbs k t : ℝ) : EReal) := by
  pointwise [val_main_v105]
  unfold val_main_v104
  refine (congrArg (_ + ·) (sum_fiber_0_3 _ _ t k)).trans ?_
  pointwise [val_main_v103, val_main_cst_23]
  simp only [Finset.univ_unique, Finset.sum_singleton]
  exact v102 H t k
theorem v110 (k : Fin 8) (t s : Fin 128) : val_main_v110 (F := Ideal) z lg lb w b wo g q (ix3 k t s) = ((a.dws k t s : ℝ) : EReal) := by
  pointwise [val_main_v110, val_main_v107, val_main_v106, val_main_v48, val_main_v52_1, val_main_v51, val_main_v50, val_main_v49, val_main_c, val_main_call0_v0, val_main_call0_v1, val_main_call0_v2, val_main_call0_v3, val_main_call0_v4, val_main_call0_v5, val_main_call0_c, val_main_call0_c_0, val_main_call2_v0, val_main_call2_cst]
  rw [tril]
  simp only [v101 H, v47 H, ← EReal.coe_mul, sum_coe]
  unfold Args.dws
  by_cases h : s.val ≤ t.val
  · rw [if_pos h, if_pos h]; rfl
  · rw [if_neg h, if_neg h]; rfl
theorem v108 (k : Fin 8) (n : Fin 128) (d : Fin 256) (s : Fin 128) : val_main_v108 (F := Ideal) z lg lb w b wo g q (ix4 k n d s)
    = ((∑ t, a.ws k t s * a.dmx ⟨n.val * 128 + t.val, by omega⟩ ⟨k.val * 256 + d.val, by omega⟩ : ℝ) : EReal) := by
  pointwise [val_main_v108, val_main_v106]
  simp only [v101 H, v52 H, ← EReal.coe_mul, sum_coe]
  exact congrArg _ (Finset.sum_congr rfl fun i _ => mul_comm _ _)
theorem v111 (i : Fin 16384) (j : Fin 2048) : val_main_v111 (F := Ideal) z lg lb w b wo g q (ix2 i j) = ((a.dvl i j : ℝ) : EReal) := by
  pointwise [val_main_v111, val_main_v109]
  rw [v108 H]
  simp only [col_eq]
  rfl
theorem v114 (j : Fin 2048) : val_main_v114 (F := Ideal) z lg lb w b wo g q (ix1 j) = ((∑ i, a.dlb j i : ℝ) : EReal) := by
  pointwise [val_main_v114, val_main_v113, val_main_v112, val_main_cst_24, val_main_cst_25]
  simp only [Finset.univ_unique, Finset.sum_singleton, v111 H, sum_coe]
  rfl
theorem v120 (j : Fin 2048) : val_main_v120 (F := Ideal) z lg lb w b wo g q (ix1 j) = ((∑ i, a.dlg j i : ℝ) : EReal) := by
  pointwise [val_main_v120, val_main_v117, val_main_v116, val_main_v115, val_main_cst_26, val_main_cst_27]
  simp only [Finset.univ_unique, Finset.sum_singleton, v41 H, v111 H, ← EReal.coe_mul, sum_coe]
  exact congrArg _ (Finset.sum_congr rfl fun i _ => mul_comm _ _)
theorem v119 (i : Fin 16384) (j : Fin 2048) : val_main_v119 (F := Ideal) z lg lb w b wo g q (ix2 i j) = ((a.dvl i j * a.lg j : ℝ) : EReal) := by
  pointwise [val_main_v119, val_main_v118, val_main_v42]
  rw [v111 H, H.lg, ← EReal.coe_mul]
theorem v134 (i : Fin 16384) (j : Fin 2048) : val_main_v134 (F := Ideal) z lg lb w b wo g q (ix2 i j) = ((chain (a.v i) (fun k => a.dvl i k * a.lg k) j : ℝ) : EReal) := by
  pointwise [val_main_v134, val_main_v133, val_main_v132, val_main_v131, val_main_v130, val_main_v129, val_main_v128, val_main_v127, val_main_v126, val_main_v125, val_main_v124, val_main_v123, val_main_v122, val_main_v121, val_main_cst_28, val_main_cst_29, val_main_cst_30]
  simp only [Finset.univ_unique, Finset.sum_singleton, v28 H, v36 H, v39 H, v119 H, ← EReal.coe_mul, sum_coe, ofBits_2048, div_2048, ← EReal.coe_add]
  rfl
theorem v142 (i : Fin 16384) (j : Fin 2048) : val_main_v142 (F := Ideal) z lg lb w b wo g q (ix2 i j) = ((a.dv i j : ℝ) : EReal) := by
  pointwise [val_main_v142, val_main_v141, val_main_v140, val_main_v139, val_main_v138, val_main_v137, val_main_v136, val_main_v135, val_main_cst_31, val_main_cst_32, val_main_cst_33]
  simp only [Finset.univ_unique, Finset.sum_singleton, v134 H, ← EReal.coe_neg, sum_coe, ofBits_2048, div_2048, ← EReal.coe_add, lnBwd_chain]
  rfl
theorem v143 (i : Fin 16384) (k : Fin 4096) : val_main_v143 (F := Ideal) z lg lb w b wo g q (ix2 i k) = ((a.dact i k : ℝ) : EReal) := by
  pointwise [val_main_v143]
  unfold Args.dact
  by_cases h : k.val < 2048
  · rw [dif_pos h, dif_pos h]
    pointwise [val_main_v100]
    rw [v98 H, v59 H, ← EReal.coe_mul]
    rfl
  · rw [dif_neg h, dif_neg h]
    exact v142 H _ _
theorem v158 (i : Fin 16384) (k : Fin 4096) : val_main_v158 (F := Ideal) z lg lb w b wo g q (ix2 i k) = ((a.dz i k : ℝ) : EReal) := by
  pointwise [val_main_v158, val_main_v155, val_main_v154, val_main_v153, val_main_v152, val_main_v151, val_main_v150, val_main_v149, val_main_v148, val_main_v147, val_main_v146, val_main_v145, val_main_v144, val_main_v15, val_main_v14, val_main_v13, val_main_v12, val_main_v11, val_main_v4, val_main_v3, val_main_v2, val_main_cst, val_main_cst_2, val_main_cst_3, val_main_cst_34, val_main_cst_35, val_main_cst_36]
  simp only [v143 H, v19 H, v10 H, H.z, ofBits_half, ofBits_one, ofBits_c0, ofBits_c1, ofBits_three, ← EReal.coe_one, ← EReal.coe_mul, ← EReal.coe_add, ← EReal.coe_sub, gelD_host]
  rfl
end Cert.SguRef
end
-- ==== Proof.SguMix.lean ====
module
public import proofs.«01_k».proof.Defs
public import proofs.«01_k».proof.Proof.SguRef
public import proofs.«01_k».proof.Proof.Gen.SguIdeal.Frame
public import Idealize.ShloMosaic.Lib.Pipeline.ValueKit
public import Idealize.ShloMosaic.Lib.Pipeline.ReadBack
public import Idealize.ShloMosaic.Lib.Claim
@[expose] public section
set_option maxRecDepth 16384
noncomputable section
/-! The gating unit's forward call `sgu_mix`. -/
namespace Cert.SguVal
open Idealize.ShloMosaic Idealize.ShloMosaic.TcCoe Idealize.SL.Sem Cert.SguIdeal Cert.SguIdeal.Gen Cert.Reals Cert.Mix

theorem named_c01 : (Named.named κ "gelu_c01" (0x3D122279#32) : Ideal .f32) = ((c0 * c1 : ℝ) : EReal) :=
  (IdealRules.named_const.ideal_named_scalar _ _ _ _ rfl).trans c01_eq

/-- The block each window of the forward call shows at each grid point. -/
theorem idx0 : ∀ t : Fin cfg0.N, win0_0.index t = ![t.val, 0] ∧ win0_1.index t = ![0, 0] ∧ win0_2.index t = ![0, 0] ∧ win0_3.index t = ![0, 0, 0]
    ∧ win0_4.index t = ![0, 0] ∧ win0_5.index t = ![t.val, 0] :=
  (by decide +kernel : ∀ t : Fin grid0.N, _)
theorem lt64' (t : Fin cfg0.N) : t.val < 64 := lt_of_lt_of_eq t.isLt (by decide +kernel)
/-- The array row of row `r` of block `t`. -/
def row0 (t : Fin cfg0.N) (r : Fin 256) : Fin 16384 := ⟨t.val * 256 + r.val, by have := lt64' t; omega⟩

/-- A block of the scratches' shape by its entries. -/
def mat (G : Fin 256 → Fin 2048 → EReal) : S256x2048.Idx → EReal := fun i => G (i 0) (i 1)
theorem mat_apply (G : Fin 256 → Fin 2048 → EReal) (r : Fin 256) (j : Fin 2048) : mat G (ix2 r j) = G r j := rfl
/-- A tile holds the entries of a block where it lies. -/
theorem piece_of {G : Fin 256 → Fin 2048 → EReal} {off : Fin 2 → ℕ} {inb} {f : S128x256.Idx → EReal}
    (h : ∀ (x0 : Fin 128) (x1 : Fin 256) (r : Fin 256) (j : Fin 2048), r.val = off 0 + x0.val → j.val = off 1 + x1.val → f (ix2 x0 x1) = G r j) (x : S128x256.Idx) :
    f x = mat G ((Rect.unit (s := S256x2048) off ![128, 256] inb).emb x) := by
  idx_vars x
  exact h x0 x1 _ _ (ValueKit.rect_emb_unit_val (s := S256x2048) off ![128, 256] inb (ix2 x0 x1) 0) (ValueKit.rect_emb_unit_val (s := S256x2048) off ![128, 256] inb (ix2 x0 x1) 1)

theorem canon_pieces {s : Shape} {e : EltTy} (G : s.Idx → Elt Ideal e) {L : List (View.Piece (Elt Ideal) s e)} (h : View.PiecesOf G L) (y : s.Idx) (hc : ∃ p ∈ L, y ∈ p.1.set) : View.canon L y = G y :=
  View.canon_apply_of_pieces G L h.mem y hc

variable {m : (ℓ : Loc nD τ sig) → Buf (Elt Ideal) ℓ} {ρ : Dev nD → PrngReg} {c : Dev nD} {a : Args}

/-- The eight arguments are arrays of reals. -/
abbrev Reads (m : (ℓ : Loc nD τ sig) → Buf (Elt Ideal) ℓ) (_ρ : Dev nD → PrngReg) (c : Dev nD) (a : Args) : Prop :=
  SguRef.Real a (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-! What the host hands to both calls. -/

theorem tri0 : (show IVec S128x128 1 from W5 m ρ c (Proc.devRef .tc main_v1)) = SguRefIdeal.Read.val_main_v50 (F := Ideal) := by
  rw [show W5 m ρ c (Proc.devRef .tc main_v1) = _ from (W5_of m ρ c main_v1 (by decide)).trans ((W4_of m ρ c main_v1 (by decide)).trans (W3_of m ρ c main_v1 (by decide)))]
  unfold W2 W1 hostOps0_1 hostOps0; entry_read; rfl
theorem ws0 : (show FVec Ideal S8x128x128 .bf16 from W5 m ρ c (Proc.devRef .tc main_v4)) = SguRefIdeal.Read.val_main_v52_0 (F := Ideal) (m ((c : Thread nD τ).loc main_arg3)) := by
  unfold W5 W4 W3 W2 W1 hostOps0_4 hostOps0_3 hostOps0_2 hostOps0_1 hostOps0; entry_read; rfl
theorem h4 (H : Reads m ρ c a) (g : Fin 8) (p s : Fin 128) : (show FVec Ideal S8x128x128 .bf16 from W5 m ρ c (Proc.devRef .tc main_v4)) (ix3 g p s) = ((a.ws g p s : ℝ) : EReal) := by
  rw [ws0]; exact SguRef.v52 H g p s
theorem h5 (H : Reads m ρ c a) (g : Fin 8) (s p : Fin 128) : (show FVec Ideal S8x128x128 .bf16 from W5 m ρ c (Proc.devRef .tc main_v5)) (ix3 g s p) = ((a.ws g p s : ℝ) : EReal) := by
  have e : (show FVec Ideal S8x128x128 .bf16 from W5 m ρ c (Proc.devRef .tc main_v5))
      = transpose S8x128x128 [0, 2, 1] (SguRefIdeal.Read.val_main_v52_0 (F := Ideal) (m ((c : Thread nD τ).loc main_arg3))) transposes_S8x128x128_S8x128x128_0_2_1 := by
    unfold W5 W4 W3 W2 W1 hostOps0_4 hostOps0_3 hostOps0_2 hostOps0_1 hostOps0; entry_read; rfl
  rw [e]; pointwise; exact SguRef.v52 H g p s
theorem h8 (H : Reads m ρ c a) (p : Fin 128) (j : Fin 2048) : (show FVec Ideal S128x2048 .f32 from W5 m ρ c (Proc.devRef .tc main_v8)) (ix2 p j) = ((a.b (group j) p : ℝ) : EReal) := by
  have h : ∀ g p, (show FVec Ideal S8x128 .f32 from W4 m ρ c (Proc.devRef .tc main_arg4)) (ix2 g p) = ((a.b g p : ℝ) : EReal) := fun g p => by
    rw [show W4 m ρ c (Proc.devRef .tc main_arg4) = _ from W4_args m ρ c main_arg4 (by decide)]; exact H.b g p
  unfold W5; generalize W4 m ρ c = V' at h ⊢; unfold hostOps0_4; entry_read; pointwise; exact h _ _
theorem h9 (H : Reads m ρ c a) (i : Fin 16384) (k : Fin 4096) : (show FVec Ideal S16384x4096 .bf16 from W5 m ρ c (Proc.devRef .tc main_v9)) (ix2 i k) = ((a.z i k : ℝ) : EReal) := by
  have h : ∀ i k, (show FVec Ideal S16384x4096 .f32 from W4 m ρ c (Proc.devRef .tc main_arg0)) (ix2 i k) = ((a.z i k : ℝ) : EReal) := fun i k => by
    rw [show W4 m ρ c (Proc.devRef .tc main_arg0) = _ from W4_args m ρ c main_arg0 (by decide)]; exact H.z i k
  unfold W5; generalize W4 m ρ c = V' at h ⊢; unfold hostOps0_4; entry_read; pointwise; exact h _ _
theorem h10 (H : Reads m ρ c a) (z : Fin 1) (j : Fin 2048) : (show FVec Ideal S1x2048 .f32 from W5 m ρ c (Proc.devRef .tc main_v10)) (ix2 z j) = ((a.lg j : ℝ) : EReal) := by
  have h : ∀ j, (show FVec Ideal S2048 .f32 from W4 m ρ c (Proc.devRef .tc main_arg1)) (ix1 j) = ((a.lg j : ℝ) : EReal) := fun j => by
    rw [show W4 m ρ c (Proc.devRef .tc main_arg1) = _ from W4_args m ρ c main_arg1 (by decide)]; exact H.lg j
  unfold W5; generalize W4 m ρ c = V' at h ⊢; unfold hostOps0_4; entry_read; pointwise; exact h _
theorem h11 (H : Reads m ρ c a) (z : Fin 1) (j : Fin 2048) : (show FVec Ideal S1x2048 .f32 from W5 m ρ c (Proc.devRef .tc main_v11)) (ix2 z j) = ((a.lb j : ℝ) : EReal) := by
  have h : ∀ j, (show FVec Ideal S2048 .f32 from W4 m ρ c (Proc.devRef .tc main_arg2)) (ix1 j) = ((a.lb j : ℝ) : EReal) := fun j => by
    rw [show W4 m ρ c (Proc.devRef .tc main_arg2) = _ from W4_args m ρ c main_arg2 (by decide)]; exact H.lb j
  unfold W5; generalize W4 m ρ c = V' at h ⊢; unfold hostOps0_4; entry_read; pointwise; exact h _

/-! The forward call's blocks and its tiles. -/

theorem b0 (H : Reads m ρ c a) (t : Fin cfg0.N) (r : Fin 256) (k : Fin 4096) : (show FVec Ideal S256x4096 .bf16 from iblk0 (V5 m ρ) c 0 t) (ix2 r k) = ((a.z (row0 t r) k : ℝ) : EReal) := by
  rw [← h9 H]; blk_ext [iblk0, idx0 t, row0]
theorem b1 (H : Reads m ρ c a) (t : Fin cfg0.N) (z : Fin 1) (j : Fin 2048) : (show FVec Ideal S1x2048 .f32 from iblk0 (V5 m ρ) c 1 t) (ix2 z j) = ((a.lg j : ℝ) : EReal) := by
  rw [← h10 H z j]; blk_ext [iblk0, idx0 t]
theorem b2 (H : Reads m ρ c a) (t : Fin cfg0.N) (z : Fin 1) (j : Fin 2048) : (show FVec Ideal S1x2048 .f32 from iblk0 (V5 m ρ) c 2 t) (ix2 z j) = ((a.lb j : ℝ) : EReal) := by
  rw [← h11 H z j]; blk_ext [iblk0, idx0 t]
theorem b3 (H : Reads m ρ c a) (t : Fin cfg0.N) (g : Fin 8) (p s : Fin 128) : (show FVec Ideal S8x128x128 .bf16 from iblk0 (V5 m ρ) c 3 t) (ix3 g p s) = ((a.ws g p s : ℝ) : EReal) := by
  rw [← h4 H]; blk_ext [iblk0, idx0 t]
theorem b4 (H : Reads m ρ c a) (t : Fin cfg0.N) (p : Fin 128) (j : Fin 2048) : (show FVec Ideal S128x2048 .f32 from iblk0 (V5 m ρ) c 4 t) (ix2 p j) = ((a.b (group j) p : ℝ) : EReal) := by
  rw [← h8 H]; blk_ext [iblk0, idx0 t]

theorem zero2 : (![0, 0] : Fin 2 → ℕ) = fun _ => 0 := by funext b; match b with | ⟨0, _⟩ => rfl | ⟨1, _⟩ => rfl

section
variable (H : Reads m ρ c a) (t : Fin cfg0.N)
include H
theorem fwd_u (r : Fin 256) (j : Fin 2048) : k0_pay4 (F := Ideal) (iblk0 (V5 m ρ) c 0 t) (ix2 r j) = ((a.u (row0 t r) j : ℝ) : EReal) := by
  pointwise [k0_pay4, k0_pay3]
  simp only [b0 H, named_c01, ofBits_c0, ofBits_half, ← EReal.coe_mul, ← EReal.coe_add, Ideal.tanh_coe]
  rfl
theorem fwd_cen (r : Fin 256) (j : Fin 2048) : k0_pay5 (F := Ideal) (iblk0 (V5 m ρ) c 0 t) (ix2 r j) = ((cen (a.v (row0 t r)) j : ℝ) : EReal) := by
  pointwise [k0_pay5, k0_pay3]
  simp only [b0 H, named_c01, ofBits_c0, ofBits_half, ← EReal.coe_mul, ← EReal.coe_add, Ideal.tanh_coe, sum_coe, ofBits_2048, div_2048, ← EReal.coe_sub]
  rfl
theorem fwd_lrs (r : Fin 256) (j : Fin 2048) : k0_pay6 (F := Ideal) (iblk0 (V5 m ρ) c 0 t) (ix2 r j) = ((lrs (a.v (row0 t r)) : ℝ) : EReal) := by
  pointwise [k0_pay6]
  simp only [fwd_cen H, ← EReal.coe_mul, sum_coe, ofBits_eps, ofBits_2048, div_2048, ← EReal.coe_add]
  exact rsqrt_lms _
theorem fwd_vl (r : Fin 256) (j : Fin 2048) : k0_pay7 (F := Ideal) (k0_pay5 (iblk0 (V5 m ρ) c 0 t)) (k0_pay6 (iblk0 (V5 m ρ) c 0 t)) (iblk0 (V5 m ρ) c 1 t) (iblk0 (V5 m ρ) c 2 t) (ix2 r j)
    = ((a.vl (row0 t r) j : ℝ) : EReal) := by
  pointwise [k0_pay7]
  simp only [fwd_cen H, fwd_lrs H, b1 H, b2 H, ← EReal.coe_mul, ← EReal.coe_add]
  rfl
omit H in
theorem fwd_tile {u vl : Vec Ideal S256x2048 .f32} (hu : ∀ r j, u (ix2 r j) = ((a.u (row0 t r) j : ℝ) : EReal)) (hvl : ∀ r j, vl (ix2 r j) = ((a.vl (row0 t r) j : ℝ) : EReal))
    {ws : Vec Ideal S8x128x128 .bf16} (hws : ∀ g p s, ws (ix3 g p s) = ((a.ws g p s : ℝ) : EReal)) {b : Vec Ideal S128x2048 .f32} (hb : ∀ p j, b (ix2 p j) = ((a.b (group j) p : ℝ) : EReal))
    {g : Fin 8} {p : Fin 128} {r r' : Fin 256} {j j' : Fin 2048} {f : Fin 128 → Fin 256} (hr : r'.val = r.val) (hj : j'.val = j.val) (hp : r.val % 128 = p.val) (hf : ∀ k, (f k).val = r.val / 128 * 128 + k.val) (hg : j.val / 256 = g.val) :
    u (ix2 r j) * (∑ k, ws (ix3 g p k) * vl (ix2 (f k) j) + b (ix2 p j)) = ((a.u (row0 t r') j' * a.mix (row0 t r') j' : ℝ) : EReal) := by
  have eg : group j = g := Fin.ext hg
  have ep : place (row0 t r) = p := Fin.ext (by show (t.val * 256 + r.val) % 128 = p.val; omega)
  have ef : ∀ k, row0 t (f k) = inChunk (row0 t r) k := fun k => Fin.ext (by show t.val * 256 + (f k).val = (t.val * 256 + r.val) / 128 * 128 + k.val; rw [hf]; omega)
  obtain rfl := Fin.ext hr
  obtain rfl := Fin.ext hj
  simp only [hu, hvl, hws, hb, ← EReal.coe_mul, sum_coe, ← EReal.coe_add, ef]
  rw [Args.mix, eg, ep]
omit H in
set_option maxHeartbeats 2000000 in
theorem fwd_of {x0 : Vec Ideal S256x4096 .bf16} {x1 x2 : Vec Ideal S1x2048 .f32} {x3 : Vec Ideal S8x128x128 .bf16} {x4 : Vec Ideal S128x2048 .f32}
    (hu : ∀ r j, k0_pay4 (F := Ideal) x0 (ix2 r j) = ((a.u (row0 t r) j : ℝ) : EReal))
    (hv : ∀ r j, k0_pay7 (F := Ideal) (k0_pay5 x0) (k0_pay6 x0) x1 x2 (ix2 r j) = ((a.vl (row0 t r) j : ℝ) : EReal))
    (h3 : ∀ g p s, x3 (ix3 g p s) = ((a.ws g p s : ℝ) : EReal)) (h4 : ∀ p j, x4 (ix2 p j) = ((a.b (group j) p : ℝ) : EReal)) (r : Fin 256) (j : Fin 2048) :
    out0_5 (F := Ideal) x0 x1 x2 x3 x4 (ix2 r j) = ((a.u (row0 t r) j * a.mix (row0 t r) j : ℝ) : EReal) := by
  unfold_out out0_5
  rw [show View.ld x0 r0_0 = x0 from View.ld_unit_zero zero2 _ _, show View.ld x1 r0_1 = x1 from View.ld_unit_zero zero2 _ _,
    show View.ld x2 r0_1 = x2 from View.ld_unit_zero zero2 _ _]
  unfold k0_pay8 k0_pay9 k0_pay11
  generalize k0_pay4 (F := Ideal) x0 = u at hu ⊢
  generalize k0_pay7 (F := Ideal) (k0_pay5 x0) (k0_pay6 x0) x1 x2 = vl at hv ⊢
  refine canon_pieces (s := S256x2048) (e := .bf16) (mat fun r j => ((a.u (row0 t r) j * a.mix (row0 t r) j : ℝ) : EReal)) ?_ (ix2 r j) ?_
  on_goal 2 => exact View.cover_of_tiled _ ![128, 256] rfl _
  repeat' (refine And.intro ?_ ?_)
  on_goal 17 => exact trivial
  all_goals
    refine piece_of (inb := by decide) fun y0 y1 r j hr hj => ?_
    dsimp only [Matrix.cons_val_zero, Matrix.cons_val_one] at hr hj
    pointwise [k0_pay1, k0_pay2, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
    refine fwd_tile t hu hv h3 h4 ?_ ?_ ?_ (fun k => ?_) ?_
    all_goals (dsimp only; omega)
theorem fwd_out (r : Fin 256) (j : Fin 2048) : out0_5 (F := Ideal) (iblk0 (V5 m ρ) c 0 t) (iblk0 (V5 m ρ) c 1 t) (iblk0 (V5 m ρ) c 2 t) (iblk0 (V5 m ρ) c 3 t) (iblk0 (V5 m ρ) c 4 t) (ix2 r j)
    = ((a.u (row0 t r) j * a.mix (row0 t r) j : ℝ) : EReal) := fwd_of t (fwd_u H t) (fwd_vl H t) (b3 H t) (b4 H t) r j
set_option maxHeartbeats 2000000 in
/-- What the forward call saves. -/
theorem final0 : (dat0 (V5 m ρ) c).arrAt 5 cfg0.N = (fun i => ((a.u (i 0) (i 1) * a.mix (i 0) (i 1) : ℝ) : EReal) : FVec Ideal S16384x2048 .bf16) := by
  refine (dat0 (V5 m ρ) c).arrAt_eq_of_covers 5 _ (by decide +kernel) fun t hf y => ?_
  have e (y0 : Fin 256) (y1 : Fin 2048) : ((cfg0.win 5).blk t).view.emb (ix2 y0 y1) = (ix2 (row0 t y0) y1 : S16384x2048.Idx) := by blk_ext [idx0 t, row0]
  blk_simp
  rw [after0_5]
  idx_vars y
  rw [e]
  exact fwd_out H t y0 y1
end
end Cert.SguVal
end
-- ==== Proof.SguBlk.lean ====
module
public import proofs.«01_k».proof.Proof.SguMix
@[expose] public section
set_option maxRecDepth 16384
noncomputable section
/-! What the blocks staged for the `sgu_mix_bwd` call hold. -/
namespace Cert.SguVal
open Idealize.ShloMosaic Idealize.ShloMosaic.TcCoe Idealize.SL.Sem Cert.SguIdeal Cert.SguIdeal.Gen Cert.Reals Cert.Mix

/-- The block each window shows at each grid point. -/
theorem idx : ∀ t : Fin cfg1.N, win1_0.index t = ![t.val, 0] ∧ win1_1.index t = ![t.val, 0] ∧ win1_2.index t = ![0, 0] ∧ win1_3.index t = ![0, 0]
    ∧ win1_4.index t = ![t.val, 0] ∧ win1_5.index t = ![0, 0] ∧ win1_6.index t = ![0, 0] ∧ win1_7.index t = ![0, 0, 0] ∧ win1_8.index t = ![0, 0, 0] ∧ win1_9.index t = ![0, 0]
    ∧ win1_10.index t = ![t.val, 0] ∧ win1_11.index t = ![0, 0] ∧ win1_12.index t = ![t.val, 0] ∧ win1_13.index t = ![0, 0, 0] ∧ win1_14.index t = ![0, 0] ∧ win1_15.index t = ![0, 0] ∧ win1_16.index t = ![0, 0] :=
  (by decide +kernel : ∀ t : Fin grid1.N, _)
theorem lt64 (t : Fin cfg1.N) : t.val < 64 := lt_of_lt_of_eq t.isLt (by decide +kernel)

/-- The array row of row `r` of block `t`. -/
def row (t : Fin cfg1.N) (r : Fin 256) : Fin 16384 := ⟨t.val * 256 + r.val, by have := lt64 t; omega⟩

variable {m : (ℓ : Loc nD τ sig) → Buf (Elt Ideal) ℓ} {ρ : Dev nD → PrngReg} {c : Dev nD} {a : Args}

/-! What the forward call and the host hand over. -/

/-- What the forward call saved. -/
theorem s12 (H : Reads m ρ c a) (i : Fin 16384) (j : Fin 2048) : (show FVec Ideal S16384x2048 .bf16 from W6 m ρ c (Proc.devRef .tc main_v12)) (ix2 i j) = ((a.u i j * a.mix i j : ℝ) : EReal) := by
  rw [show W6 m ρ c (Proc.devRef .tc main_v12) = _ from (W6_arr m ρ c 5).trans (final0 H)]; rfl
theorem wo6 (H : Reads m ρ c a) (j : Fin 2048) (k : Fin 1024) : (show FVec Ideal S2048x1024 .f32 from W6 m ρ c (Proc.devRef .tc main_arg5)) (ix2 j k) = ((a.wo j k : ℝ) : EReal) := by
  rw [show W6 m ρ c (Proc.devRef .tc main_arg5) = _ from W6_args m ρ c main_arg5 (by decide)]; exact H.wo j k
/-- The host's product. -/
theorem k15 (H : Reads m ρ c a) (i : Fin 16384) (k : Fin 1024) : (show FVec Ideal S16384x1024 .bf16 from W7 m ρ c (Proc.devRef .tc main_v15)) (ix2 i k) = ((a.mm i k : ℝ) : EReal) := by
  have hs := s12 H
  have hw := wo6 H
  unfold W7
  generalize W6 m ρ c = V' at hs hw ⊢
  unfold hostOps1
  entry_read; pointwise
  simp only [hs, hw, ← EReal.coe_mul, sum_coe]; rfl
theorem k16 (H : Reads m ρ c a) (z : Fin 1) (k : Fin 1024) : (show FVec Ideal S1x1024 .f32 from W7 m ρ c (Proc.devRef .tc main_v16)) (ix2 z k) = ((a.g k : ℝ) : EReal) := by
  have h : ∀ k, (show FVec Ideal S1024 .f32 from W6 m ρ c (Proc.devRef .tc main_arg6)) (ix1 k) = ((a.g k : ℝ) : EReal) := fun k => by
    rw [show W6 m ρ c (Proc.devRef .tc main_arg6) = _ from W6_args m ρ c main_arg6 (by decide)]; exact H.g k
  unfold W7
  generalize W6 m ρ c = V' at h ⊢
  unfold hostOps1
  entry_read; pointwise; exact h _
theorem k17 (H : Reads m ρ c a) (j : Fin 2048) (k : Fin 1024) : (show FVec Ideal S2048x1024 .bf16 from W7 m ρ c (Proc.devRef .tc main_v17)) (ix2 j k) = ((a.wo j k : ℝ) : EReal) := by
  have hw := wo6 H
  unfold W7
  generalize W6 m ρ c = V' at hw ⊢
  unfold hostOps1
  entry_read; pointwise; exact hw _ _

theorem k4 (H : Reads m ρ c a) (g : Fin 8) (p s : Fin 128) : (show FVec Ideal S8x128x128 .bf16 from W7 m ρ c (Proc.devRef .tc main_v4)) (ix3 g p s) = ((a.ws g p s : ℝ) : EReal) := by
  rw [show W7 m ρ c (Proc.devRef .tc main_v4) = _ from (W7_of m ρ c main_v4 (by decide)).trans (W6_of m ρ c main_v4 (by decide))]; exact h4 H g p s
theorem k5 (H : Reads m ρ c a) (g : Fin 8) (s p : Fin 128) : (show FVec Ideal S8x128x128 .bf16 from W7 m ρ c (Proc.devRef .tc main_v5)) (ix3 g s p) = ((a.ws g p s : ℝ) : EReal) := by
  rw [show W7 m ρ c (Proc.devRef .tc main_v5) = _ from (W7_of m ρ c main_v5 (by decide)).trans (W6_of m ρ c main_v5 (by decide))]; exact h5 H g s p
theorem k8 (H : Reads m ρ c a) (p : Fin 128) (j : Fin 2048) : (show FVec Ideal S128x2048 .f32 from W7 m ρ c (Proc.devRef .tc main_v8)) (ix2 p j) = ((a.b (group j) p : ℝ) : EReal) := by
  rw [show W7 m ρ c (Proc.devRef .tc main_v8) = _ from (W7_of m ρ c main_v8 (by decide)).trans (W6_of m ρ c main_v8 (by decide))]; exact h8 H p j
theorem k9 (H : Reads m ρ c a) (i : Fin 16384) (k : Fin 4096) : (show FVec Ideal S16384x4096 .bf16 from W7 m ρ c (Proc.devRef .tc main_v9)) (ix2 i k) = ((a.z i k : ℝ) : EReal) := by
  rw [show W7 m ρ c (Proc.devRef .tc main_v9) = _ from (W7_of m ρ c main_v9 (by decide)).trans (W6_of m ρ c main_v9 (by decide))]; exact h9 H i k
theorem k10 (H : Reads m ρ c a) (z : Fin 1) (j : Fin 2048) : (show FVec Ideal S1x2048 .f32 from W7 m ρ c (Proc.devRef .tc main_v10)) (ix2 z j) = ((a.lg j : ℝ) : EReal) := by
  rw [show W7 m ρ c (Proc.devRef .tc main_v10) = _ from (W7_of m ρ c main_v10 (by decide)).trans (W6_of m ρ c main_v10 (by decide))]; exact h10 H z j
theorem k11 (H : Reads m ρ c a) (z : Fin 1) (j : Fin 2048) : (show FVec Ideal S1x2048 .f32 from W7 m ρ c (Proc.devRef .tc main_v11)) (ix2 z j) = ((a.lb j : ℝ) : EReal) := by
  rw [show W7 m ρ c (Proc.devRef .tc main_v11) = _ from (W7_of m ρ c main_v11 (by decide)).trans (W6_of m ρ c main_v11 (by decide))]; exact h11 H z j

/-! What the staged blocks hold. -/

theorem blk0 (H : Reads m ρ c a) (t : Fin cfg1.N) (r : Fin 256) (k : Fin 1024) : (show FVec Ideal S256x1024 .f32 from iblk1 (V7 m ρ) c 0 t) (ix2 r k) = ((a.q (row t r) k : ℝ) : EReal) := by
  have e : (show FVec Ideal S256x1024 .f32 from iblk1 (V7 m ρ) c 0 t) (ix2 r k) = (show FVec Ideal S16384x1024 .f32 from V7 m ρ c main_arg7) (ix2 (row t r) k) := by blk_ext [iblk1, idx t, row]
  rw [e, show V7 m ρ c main_arg7 = _ from W7_args m ρ c main_arg7 (by decide)]; exact H.q _ _
theorem blk1 (H : Reads m ρ c a) (t : Fin cfg1.N) (r : Fin 256) (k : Fin 1024) : (show FVec Ideal S256x1024 .bf16 from iblk1 (V7 m ρ) c 1 t) (ix2 r k) = ((a.mm (row t r) k : ℝ) : EReal) := by
  rw [← k15 H]; blk_ext [iblk1, idx t, row]
theorem blk2 (H : Reads m ρ c a) (t : Fin cfg1.N) (z : Fin 1) (k : Fin 1024) : (show FVec Ideal S1x1024 .f32 from iblk1 (V7 m ρ) c 2 t) (ix2 z k) = ((a.g k : ℝ) : EReal) := by
  rw [← k16 H z k]; blk_ext [iblk1, idx t, row]
theorem blk3 (H : Reads m ρ c a) (t : Fin cfg1.N) (j : Fin 2048) (k : Fin 1024) : (show FVec Ideal S2048x1024 .bf16 from iblk1 (V7 m ρ) c 3 t) (ix2 j k) = ((a.wo j k : ℝ) : EReal) := by
  rw [← k17 H]; blk_ext [iblk1, idx t, row]
theorem blk4 (H : Reads m ρ c a) (t : Fin cfg1.N) (r : Fin 256) (k : Fin 4096) : (show FVec Ideal S256x4096 .bf16 from iblk1 (V7 m ρ) c 4 t) (ix2 r k) = ((a.z (row t r) k : ℝ) : EReal) := by
  rw [← k9 H]; blk_ext [iblk1, idx t, row]
theorem blk5 (H : Reads m ρ c a) (t : Fin cfg1.N) (z : Fin 1) (j : Fin 2048) : (show FVec Ideal S1x2048 .f32 from iblk1 (V7 m ρ) c 5 t) (ix2 z j) = ((a.lg j : ℝ) : EReal) := by
  rw [← k10 H z j]; blk_ext [iblk1, idx t, row]
theorem blk6 (H : Reads m ρ c a) (t : Fin cfg1.N) (z : Fin 1) (j : Fin 2048) : (show FVec Ideal S1x2048 .f32 from iblk1 (V7 m ρ) c 6 t) (ix2 z j) = ((a.lb j : ℝ) : EReal) := by
  rw [← k11 H z j]; blk_ext [iblk1, idx t, row]
theorem blk7 (H : Reads m ρ c a) (t : Fin cfg1.N) (g : Fin 8) (p s : Fin 128) : (show FVec Ideal S8x128x128 .bf16 from iblk1 (V7 m ρ) c 7 t) (ix3 g p s) = ((a.ws g p s : ℝ) : EReal) := by
  rw [← k4 H]; blk_ext [iblk1, idx t, row]
theorem blk8 (H : Reads m ρ c a) (t : Fin cfg1.N) (g : Fin 8) (s p : Fin 128) : (show FVec Ideal S8x128x128 .bf16 from iblk1 (V7 m ρ) c 8 t) (ix3 g s p) = ((a.ws g p s : ℝ) : EReal) := by
  rw [← k5 H]; blk_ext [iblk1, idx t, row]
theorem blk9 (H : Reads m ρ c a) (t : Fin cfg1.N) (p : Fin 128) (j : Fin 2048) : (show FVec Ideal S128x2048 .f32 from iblk1 (V7 m ρ) c 9 t) (ix2 p j) = ((a.b (group j) p : ℝ) : EReal) := by
  rw [← k8 H]; blk_ext [iblk1, idx t, row]
end Cert.SguVal
end
-- ==== Proof.SguPay.lean ====
module
public import proofs.«01_k».proof.Proof.SguBlk
public import Idealize.ShloMosaic.Lib.Pipeline.ReadBack
@[expose] public section
set_option maxRecDepth 16384
noncomputable section
/-! The payloads of the `sgu_mix_bwd` body outside its tiles, entry by entry. -/
namespace Cert.SguVal
open Idealize.ShloMosaic Idealize.ShloMosaic.TcCoe Idealize.SL.Sem Cert.SguIdeal Cert.SguIdeal.Gen Cert.Reals Cert.Mix

theorem named_c301 : (Named.named κ "gelu_3c01" (0x3D5B33B6#32) : Ideal .f32) = ((3 / 2 * (c0 * c1) : ℝ) : EReal) :=
  (IdealRules.named_const.ideal_named_scalar _ _ _ _ rfl).trans c301_eq

variable {m : (ℓ : Loc nD τ sig) → Buf (Elt Ideal) ℓ} {ρ : Dev nD → PrngReg} {c : Dev nD} {a : Args} (H : Reads m ρ c a) (t : Fin cfg1.N)
include H

theorem pay8 (r : Fin 256) (o : Fin 1) : k1_pay8 (F := Ideal) (iblk1 (V7 m ρ) c 1 t) (ix2 r o) = ((rst (a.mm (row t r)) : ℝ) : EReal) := by
  pointwise [k1_pay8, k1_pay7]
  simp only [blk1 H, ← EReal.coe_mul, sum_coe, ofBits_eps, ofBits_1024, div_1024, ← EReal.coe_add]
  exact rsqrt_ms _
theorem pay11 (r : Fin 256) (k : Fin 1024) : k1_pay11 (F := Ideal) (iblk1 (V7 m ρ) c 0 t) (iblk1 (V7 m ρ) c 1 t) (iblk1 (V7 m ρ) c 2 t) (ix2 r k) = ((a.dm (row t r) k : ℝ) : EReal) := by
  pointwise [k1_pay11, k1_pay9, k1_pay7]
  simp only [blk0 H, blk1 H, blk2 H, pay8 H, ← EReal.coe_mul, sum_coe, ofBits_1024, div_1024, ← EReal.coe_sub]
  rfl
theorem pay10 (v17 : Vec Ideal S8x1024 .f32) (o : Fin 8) (k : Fin 1024) : k1_pay10 (F := Ideal) (iblk1 (V7 m ρ) c 0 t) (iblk1 (V7 m ρ) c 1 t) v17 (ix2 o k)
    = v17 (ix2 o k) + ((∑ j : Fin 32, a.dg k (row t ⟨j * 8 + o, by omega⟩) : ℝ) : EReal) := by
  pointwise [k1_pay10, k1_pay9, k1_pay7]
  simp only [blk0 H, blk1 H, pay8 H, ← EReal.coe_mul, sum_coe]
  rfl
theorem pay12 (r : Fin 256) (j : Fin 2048) : k1_pay12 (F := Ideal) (k1_pay11 (iblk1 (V7 m ρ) c 0 t) (iblk1 (V7 m ρ) c 1 t) (iblk1 (V7 m ρ) c 2 t)) (iblk1 (V7 m ρ) c 3 t) (ix2 r j) = ((a.dgt (row t r) j : ℝ) : EReal) := by
  pointwise [k1_pay12]
  simp only [pay11 H, blk3 H, ← EReal.coe_mul, sum_coe]
  rfl
theorem pay14 (r : Fin 256) (j : Fin 2048) : k1_pay14 (F := Ideal) (iblk1 (V7 m ρ) c 4 t) (ix2 r j) = ((a.z (row t r) (uCol j) : ℝ) : EReal) := by
  pointwise [k1_pay14, k1_pay13]
  exact blk4 H t r _
theorem pay15 (r : Fin 256) (j : Fin 2048) : k1_pay15 (F := Ideal) (iblk1 (V7 m ρ) c 4 t) (ix2 r j) = ((a.z (row t r) (vCol j) : ℝ) : EReal) := by
  pointwise [k1_pay15, k1_pay13]
  exact blk4 H t r _
theorem pay17 (r : Fin 256) (j : Fin 2048) : k1_pay17 (F := Ideal) (iblk1 (V7 m ρ) c 4 t) (ix2 r j) = ((gT (a.z (row t r) (uCol j)) : ℝ) : EReal) := by
  pointwise [k1_pay17, k1_pay16]
  simp only [pay14 H, named_c01, ofBits_c0, ← EReal.coe_mul, ← EReal.coe_add, Ideal.tanh_coe]
  rfl
theorem pay18 (r : Fin 256) (j : Fin 2048) : k1_pay18 (F := Ideal) (iblk1 (V7 m ρ) c 4 t) (ix2 r j) = ((gP (a.z (row t r) (uCol j)) : ℝ) : EReal) := by
  pointwise [k1_pay18]
  simp only [pay17 H, ofBits_half, ← EReal.coe_mul, ← EReal.coe_add]
  rfl
theorem pay20 (r : Fin 256) (j : Fin 2048) : k1_pay20 (F := Ideal) (iblk1 (V7 m ρ) c 4 t) (ix2 r j) = ((gT (a.z (row t r) (vCol j)) : ℝ) : EReal) := by
  pointwise [k1_pay20, k1_pay19]
  simp only [pay15 H, named_c01, ofBits_c0, ← EReal.coe_mul, ← EReal.coe_add, Ideal.tanh_coe]
  rfl
theorem pay21 (r : Fin 256) (j : Fin 2048) : k1_pay21 (F := Ideal) (iblk1 (V7 m ρ) c 4 t) (ix2 r j) = ((gP (a.z (row t r) (vCol j)) : ℝ) : EReal) := by
  pointwise [k1_pay21]
  simp only [pay20 H, ofBits_half, ← EReal.coe_mul, ← EReal.coe_add]
  rfl
theorem pay22 (r : Fin 256) (j : Fin 2048) : k1_pay22 (F := Ideal) (iblk1 (V7 m ρ) c 4 t) (ix2 r j) = ((a.u (row t r) j : ℝ) : EReal) := by
  pointwise [k1_pay22]
  simp only [pay14 H, pay18 H, ← EReal.coe_mul]
  rfl
theorem pay23 (r : Fin 256) (j : Fin 2048) : k1_pay23 (F := Ideal) (iblk1 (V7 m ρ) c 4 t) (ix2 r j) = ((a.v (row t r) j : ℝ) : EReal) := by
  pointwise [k1_pay23]
  simp only [pay15 H, pay21 H, ← EReal.coe_mul]
  rfl
theorem pay26 (r : Fin 256) (j : Fin 2048) : k1_pay26 (F := Ideal) (k1_pay23 (iblk1 (V7 m ρ) c 4 t)) (k1_pay24 (iblk1 (V7 m ρ) c 4 t)) k1_pay25 (ix2 r j) = ((cen (a.v (row t r)) j : ℝ) : EReal) := by
  pointwise [k1_pay26, k1_pay24, k1_pay25]
  simp only [pay23 H, sum_coe, ofBits_2048, div_2048, ← EReal.coe_sub]
  rfl
theorem pay27 (r : Fin 256) (o : Fin 1) : k1_pay27 (F := Ideal) (k1_pay23 (iblk1 (V7 m ρ) c 4 t)) (k1_pay24 (iblk1 (V7 m ρ) c 4 t)) k1_pay25 (ix2 r o) = ((lrs (a.v (row t r)) : ℝ) : EReal) := by
  pointwise [k1_pay27]
  simp only [pay26 H, ← EReal.coe_mul, sum_coe, ofBits_eps, ofBits_2048, div_2048, ← EReal.coe_add]
  exact rsqrt_lms _
theorem pay28 (r : Fin 256) (j : Fin 2048) : k1_pay28 (F := Ideal) (k1_pay23 (iblk1 (V7 m ρ) c 4 t)) (k1_pay24 (iblk1 (V7 m ρ) c 4 t)) k1_pay25 (ix2 r j) = ((lhat (a.v (row t r)) j : ℝ) : EReal) := by
  pointwise [k1_pay28]
  simp only [pay26 H, pay27 H, ← EReal.coe_mul]
  rfl
theorem pay29 (r : Fin 256) (j : Fin 2048) : k1_pay29 (F := Ideal) (k1_pay23 (iblk1 (V7 m ρ) c 4 t)) (k1_pay24 (iblk1 (V7 m ρ) c 4 t)) k1_pay25 (iblk1 (V7 m ρ) c 5 t) (iblk1 (V7 m ρ) c 6 t) (ix2 r j) = ((a.vl (row t r) j : ℝ) : EReal) := by
  pointwise [k1_pay29]
  simp only [pay28 H, blk5 H, blk6 H, ← EReal.coe_mul, ← EReal.coe_add]
  rfl

section Dvl
variable {v612 : Vec Ideal S256x2048 .f32} (h : ∀ r j, v612 (ix2 r j) = ((a.dvl (row t r) j : ℝ) : EReal))
include h
theorem pay151 (p : Vec Ideal S8x2048 .f32) (o : Fin 8) (j : Fin 2048) :
    k1_pay151 (F := Ideal) (k1_pay28 (k1_pay23 (iblk1 (V7 m ρ) c 4 t)) (k1_pay24 (iblk1 (V7 m ρ) c 4 t)) k1_pay25) v612 p (ix2 o j) = p (ix2 o j) + ((∑ i : Fin 32, a.dlg j (row t ⟨i * 8 + o, by omega⟩) : ℝ) : EReal) := by
  pointwise [k1_pay151]
  simp only [h, pay28 H, ← EReal.coe_mul, sum_coe]
  rfl
omit H in
theorem pay152 (p : Vec Ideal S8x2048 .f32) (o : Fin 8) (j : Fin 2048) :
    k1_pay152 (F := Ideal) v612 p (ix2 o j) = p (ix2 o j) + ((∑ i : Fin 32, a.dlb j (row t ⟨i * 8 + o, by omega⟩) : ℝ) : EReal) := by
  pointwise [k1_pay152]
  simp only [h, sum_coe]
  rfl
theorem pay156 (r : Fin 256) (j : Fin 2048) :
    k1_pay156 (F := Ideal) (k1_pay27 (k1_pay23 (iblk1 (V7 m ρ) c 4 t)) (k1_pay24 (iblk1 (V7 m ρ) c 4 t)) k1_pay25) (k1_pay28 (k1_pay23 (iblk1 (V7 m ρ) c 4 t)) (k1_pay24 (iblk1 (V7 m ρ) c 4 t)) k1_pay25)
      (k1_pay154 v612 (iblk1 (V7 m ρ) c 5 t)) (k1_pay155 (k1_pay28 (k1_pay23 (iblk1 (V7 m ρ) c 4 t)) (k1_pay24 (iblk1 (V7 m ρ) c 4 t)) k1_pay25) v612 (iblk1 (V7 m ρ) c 5 t)) (ix2 r j) = ((a.dv (row t r) j : ℝ) : EReal) := by
  pointwise [k1_pay156, k1_pay155, k1_pay154, k1_pay153]
  simp only [h, pay27 H, pay28 H, blk5 H, ← EReal.coe_mul, sum_coe, ofBits_2048, div_2048, ← EReal.coe_sub]
  rfl
end Dvl
theorem pay157 {v646 : Vec Ideal S256x2048 .f32} (h : ∀ r j, v646 (ix2 r j) = ((a.du (row t r) j : ℝ) : EReal)) (r : Fin 256) (j : Fin 2048) :
    k1_pay157 (F := Ideal) (k1_pay14 (iblk1 (V7 m ρ) c 4 t)) (k1_pay16 (iblk1 (V7 m ρ) c 4 t)) (k1_pay17 (iblk1 (V7 m ρ) c 4 t)) (k1_pay18 (iblk1 (V7 m ρ) c 4 t)) v646 (ix2 r j)
      = ((a.du (row t r) j * gelD (a.z (row t r) (uCol j)) : ℝ) : EReal) := by
  pointwise [k1_pay157, k1_pay16]
  simp only [h, pay14 H, pay17 H, pay18 H, named_c301, ofBits_half_c0, ofBits_one, ← EReal.coe_one, ← EReal.coe_mul, ← EReal.coe_add, ← EReal.coe_sub]
  rfl
theorem pay1 {v645 : Vec Ideal S256x2048 .f32} (h : ∀ r j, v645 (ix2 r j) = ((a.dv (row t r) j : ℝ) : EReal)) (r : Fin 256) (j : Fin 2048) :
    k1_pay1 (F := Ideal) (k1_pay19 (iblk1 (V7 m ρ) c 4 t)) (k1_pay21 (iblk1 (V7 m ρ) c 4 t)) v645 (k1_pay158 (k1_pay15 (iblk1 (V7 m ρ) c 4 t)) (k1_pay20 (iblk1 (V7 m ρ) c 4 t))) k1_pay159 (ix2 r j)
      = ((a.dv (row t r) j * gelD (a.z (row t r) (vCol j)) : ℝ) : EReal) := by
  pointwise [k1_pay1, k1_pay19, k1_pay158, k1_pay159]
  simp only [h, pay15 H, pay20 H, pay21 H, named_c301, ofBits_half_c0, ofBits_one, ← EReal.coe_one, ← EReal.coe_mul, ← EReal.coe_add, ← EReal.coe_sub]
  rfl
end Cert.SguVal
end
-- ==== Proof.SguTile.lean ====
module
public import proofs.«01_k».proof.Proof.SguPay
@[expose] public section
set_option maxRecDepth 16384
noncomputable section
namespace Cert.SguVal
open Idealize.ShloMosaic Idealize.ShloMosaic.TcCoe Idealize.SL.Sem Cert.SguIdeal Cert.SguIdeal.Gen Cert.Reals Cert.Mix

theorem readCov_pieces {κ : Kind} {sp : Space} (v : View sig κ sp S256x2048 .f32) (G : S256x2048.Idx → EReal) {L : List (View.Piece (Elt Ideal) S256x2048 .f32)}
    {inb : ∀ x, (![0, 0] : Fin 2 → ℕ) x + (![256, 2048] : Fin 2 → ℕ) x ≤ S256x2048.size x} (h : View.PiecesOf (Val := Elt Ideal) G L) (hc : ∀ y : S256x2048.Idx, ∃ p ∈ L, y ∈ p.1.set) :
    v.readCov L (Rect.unit ![0, 0] ![256, 2048] inb).toLoadRect = G := by
  rw [View.readCov_eq_canon']
  funext j
  rw [View.canon_apply_of_pieces (Val := Elt Ideal) G L h.mem _ (hc _)]
  refine congrArg G (funext fun x => Fin.ext ?_)
  match x with
  | ⟨0, _⟩ => refine (ValueKit.rect_emb_unit_val (s := S256x2048) ![0, 0] ![256, 2048] inb j 0).trans ?_; exact Nat.zero_add (j 0).val
  | ⟨1, _⟩ => refine (ValueKit.rect_emb_unit_val (s := S256x2048) ![0, 0] ![256, 2048] inb j 1).trans ?_; exact Nat.zero_add (j 1).val

def wide (G : Fin 256 → Fin 4096 → EReal) : S256x4096.Idx → EReal := fun i => G (i 0) (i 1)
/-- A half of the rows of an output block holds its entries where it lies. -/
theorem half_of {G : S256x4096.Idx → EReal} {off : Fin 2 → ℕ} {inb} {f : S256x2048.Idx → EReal} (h0 : off 0 = 0)
    (h : ∀ (r : Fin 256) (x : Fin 2048) (k : Fin 4096), k.val = off 1 + x.val → f (ix2 r x) = G (ix2 r k)) (x : S256x2048.Idx) :
    f x = G ((Rect.unit (s := S256x4096) off ![256, 2048] inb).emb x) := by
  idx_vars x
  have e : ((Rect.unit (s := S256x4096) off ![256, 2048] inb).emb (ix2 x0 x1)) = ix2 x0 ((Rect.unit (s := S256x4096) off ![256, 2048] inb).emb (ix2 x0 x1) 1) := by
    funext b
    match b with
    | ⟨0, _⟩ => exact Fin.ext ((ValueKit.rect_emb_unit_val (s := S256x4096) off ![256, 2048] inb (ix2 x0 x1) 0).trans (by rw [h0]; exact Nat.zero_add x0.val))
    | ⟨1, _⟩ => rfl
  rw [e]
  exact h x0 x1 _ (ValueKit.rect_emb_unit_val (s := S256x4096) off ![256, 2048] inb (ix2 x0 x1) 1)
theorem dz_u (a : Args) (i : Fin 16384) {k : Fin 4096} {j : Fin 2048} (h : k.val = j.val) : a.du i j * gelD (a.z i (uCol j)) = a.dz i k := by
  obtain rfl : k = uCol j := Fin.ext h
  rw [Args.dz, Args.dact, dif_pos (show (uCol j).val < 2048 from j.isLt)]; rfl
theorem dz_v (a : Args) (i : Fin 16384) {k : Fin 4096} {j : Fin 2048} (h : k.val = 2048 + j.val) : a.dv i j * gelD (a.z i (vCol j)) = a.dz i k := by
  obtain rfl : k = vCol j := Fin.ext h
  rw [Args.dz, Args.dact, dif_neg (show ¬(vCol j).val < 2048 from Nat.not_lt.mpr (Nat.le_add_right 2048 j.val))]
  congr 2
  exact Fin.ext (by show j.val = 2048 + j.val - 2048; omega)

/-- The last eight stores of a list of stores decide, where they tile. -/
theorem canon_pieces8 {s : Shape} {e : EltTy} (G : s.Idx → Elt Ideal e) {p0 p1 p2 p3 p4 p5 p6 p7 : View.Piece (Elt Ideal) s e} {L : List (View.Piece (Elt Ideal) s e)}
    (h : View.PiecesOf G [p0, p1, p2, p3, p4, p5, p6, p7]) (y : s.Idx) (hc : ∃ p ∈ [p0, p1, p2, p3, p4, p5, p6, p7], y ∈ p.1.set) :
    View.canon (p0 :: p1 :: p2 :: p3 :: p4 :: p5 :: p6 :: p7 :: L) y = G y :=
  View.canon_append_of_piecesOf G L [p0, p1, p2, p3, p4, p5, p6, p7] h y hc
/-- A group's columns of the bias sums, where they lie. -/
theorem piece2_of {G : S128x2048.Idx → EReal} {off : Fin 2 → ℕ} {inb} {f : S128x256.Idx → EReal} (h0 : off 0 = 0)
    (h : ∀ (p : Fin 128) (x : Fin 256) (hx : off 1 + x.val < 2048), f (ix2 p x) = G (ix2 p ⟨off 1 + x.val, hx⟩)) (x : S128x256.Idx) :
    f x = G ((Rect.unit (s := S128x2048) off ![128, 256] inb).emb x) := by
  idx_vars x
  have e : ((Rect.unit (s := S128x2048) off ![128, 256] inb).emb (ix2 x0 x1)) = ix2 x0 ((Rect.unit (s := S128x2048) off ![128, 256] inb).emb (ix2 x0 x1) 1) := by
    funext b
    match b with
    | ⟨0, _⟩ => exact Fin.ext ((ValueKit.rect_emb_unit_val (s := S128x2048) off ![128, 256] inb (ix2 x0 x1) 0).trans (by rw [h0]; exact Nat.zero_add x0.val))
    | ⟨1, _⟩ => rfl
  have ev := ValueKit.rect_emb_unit_val (s := S128x2048) off ![128, 256] inb (ix2 x0 x1) 1
  have hx : off 1 + x1.val < 2048 := Nat.lt_of_le_of_lt (Nat.le_of_eq ev.symm) ((Rect.unit (s := S128x2048) off ![128, 256] inb).emb (ix2 x0 x1) 1).isLt
  rw [e, show (Rect.unit (s := S128x2048) off ![128, 256] inb).emb (ix2 x0 x1) 1 = ⟨off 1 + x1.val, hx⟩ from Fin.ext ev]
  exact h x0 x1 hx
/-- A group's square of the weight sums, where it lies. -/
theorem piece3_of {G : S8x128x128.Idx → EReal} {off : Fin 3 → ℕ} {inb} {f : S1x128x128.Idx → EReal} (h1 : off 1 = 0) (h2 : off 2 = 0)
    (h : ∀ (hg : off 0 < 8) (p s : Fin 128), f (ix3 0 p s) = G (ix3 ⟨off 0, hg⟩ p s)) (x : S1x128x128.Idx) :
    f x = G ((Rect.unit (s := S8x128x128) off ![1, 128, 128] inb).emb x) := by
  idx_vars x
  obtain rfl : x0 = 0 := Subsingleton.elim _ _
  have e : ((Rect.unit (s := S8x128x128) off ![1, 128, 128] inb).emb (ix3 0 x1 x2)) = ix3 ((Rect.unit (s := S8x128x128) off ![1, 128, 128] inb).emb (ix3 0 x1 x2) 0) x1 x2 := by
    funext b
    match b with
    | ⟨0, _⟩ => rfl
    | ⟨1, _⟩ => exact Fin.ext ((ValueKit.rect_emb_unit_val (s := S8x128x128) off ![1, 128, 128] inb (ix3 0 x1 x2) 1).trans (by rw [h1]; exact Nat.zero_add x1.val))
    | ⟨2, _⟩ => exact Fin.ext ((ValueKit.rect_emb_unit_val (s := S8x128x128) off ![1, 128, 128] inb (ix3 0 x1 x2) 2).trans (by rw [h2]; exact Nat.zero_add x2.val))
  have ev : _ = off 0 := ValueKit.rect_emb_unit_val (s := S8x128x128) off ![1, 128, 128] inb (ix3 0 x1 x2) 0
  have hg : off 0 < 8 := Nat.lt_of_le_of_lt (Nat.le_of_eq ev.symm) ((Rect.unit (s := S8x128x128) off ![1, 128, 128] inb).emb (ix3 0 x1 x2) 0).isLt
  rw [e, show (Rect.unit (s := S8x128x128) off ![1, 128, 128] inb).emb (ix3 0 x1 x2) 0 = ⟨off 0, hg⟩ from Fin.ext ev]
  exact h hg x1 x2

variable {m : (ℓ : Loc nD τ sig) → Buf (Elt Ideal) ℓ} {ρ : Dev nD → PrngReg} {c : Dev nD} {a : Args} (H : Reads m ρ c a) (t : Fin cfg1.N)
include H
omit H in
theorem du_tile {dg vl : Vec Ideal S256x2048 .f32} (hdg : ∀ r j, dg (ix2 r j) = ((a.dgt (row t r) j : ℝ) : EReal)) (hvl : ∀ r j, vl (ix2 r j) = ((a.vl (row t r) j : ℝ) : EReal))
    {ws : Vec Ideal S8x128x128 .bf16} (hws : ∀ g p s, ws (ix3 g p s) = ((a.ws g p s : ℝ) : EReal)) {b : Vec Ideal S128x2048 .f32} (hb : ∀ p j, b (ix2 p j) = ((a.b (group j) p : ℝ) : EReal))
    {g : Fin 8} {p : Fin 128} {r r' : Fin 256} {j j' : Fin 2048} {f : Fin 128 → Fin 256} (hr : r'.val = r.val) (hj : j'.val = j.val) (hp : r.val % 128 = p.val) (hf : ∀ k, (f k).val = r.val / 128 * 128 + k.val) (hg : j.val / 256 = g.val) :
    dg (ix2 r j) * (∑ k, ws (ix3 g p k) * vl (ix2 (f k) j) + b (ix2 p j)) = ((a.du (row t r') j' : ℝ) : EReal) := by
  have eg : group j = g := Fin.ext hg
  have ep : place (row t r) = p := Fin.ext (by show (t.val * 256 + r.val) % 128 = p.val; omega)
  have ef : ∀ k, row t (f k) = inChunk (row t r) k := fun k => Fin.ext (by show t.val * 256 + (f k).val = (t.val * 256 + r.val) / 128 * 128 + k.val; rw [hf]; omega)
  obtain rfl := Fin.ext hr
  obtain rfl := Fin.ext hj
  simp only [hdg, hvl, hws, hb, ← EReal.coe_mul, sum_coe, ← EReal.coe_add, ef]
  rw [Args.du, Args.mix, eg, ep]
omit H in
theorem dvl_term {g g' : Fin 8} {p p' k : Fin 128} {i i' : Fin 16384} {j j' : Fin 2048} (hg : g.val = g'.val) (hp : p.val = p'.val) (hi : i.val = i'.val) (hj : j.val = j'.val) :
    a.ws g k p * (a.dgt i j * a.u i j) = a.ws g' k p' * a.dmx i' j' := by
  rw [Fin.ext hg, Fin.ext hp, Fin.ext hi, Fin.ext hj]; rfl
/-- The two chunks of block `t`. -/
def chunk (t : Fin cfg1.N) (o : Fin 2) : Fin 128 := ⟨t.val * 2 + o.val, by have := lt64 t; omega⟩
/-- Block `t`'s part of the spatial bias's gradient. -/
def dbT (a : Args) (t : Fin cfg1.N) (p : Fin 128) (j : Fin 2048) : ℝ := a.db p j (chunk t 0) + a.db p j (chunk t 1)
/-- Block `t`'s part of the spatial weight's. -/
def dwT (a : Args) (t : Fin cfg1.N) (g : Fin 8) (p s : Fin 128) : ℝ := ∑ d, a.dw g p s (chunk t 0) d + ∑ d, a.dw g p s (chunk t 1) d
def acc2 (a : Args) (t : Fin cfg1.N) (pv : Vec Ideal S128x2048 .f32) : Vec Ideal S128x2048 .f32 := fun i => pv i + ((dbT a t (i 0) (i 1) : ℝ) : EReal)
def acc3 (a : Args) (t : Fin cfg1.N) (pv : Vec Ideal S8x128x128 .f32) : Vec Ideal S8x128x128 .f32 := fun i => pv i + ((dwT a t (i 0) (i 1) (i 2) : ℝ) : EReal)
omit H in
theorem acc2_apply (pv : Vec Ideal S128x2048 .f32) (p : Fin 128) (j : Fin 2048) :
    acc2 a t pv (ix2 p j) = pv (ix2 p j) + ((a.db p j (chunk t 0) + a.db p j (chunk t 1) : ℝ) : EReal) := rfl
omit H in
theorem acc3_apply (pv : Vec Ideal S8x128x128 .f32) (g : Fin 8) (p s : Fin 128) :
    acc3 a t pv (ix3 g p s) = pv (ix3 g p s) + ((∑ d, a.dw g p s (chunk t 0) d + ∑ d, a.dw g p s (chunk t 1) d : ℝ) : EReal) := rfl
omit H in
theorem db_term {p : Fin 128} {r : Fin 256} {j j' : Fin 2048} {o : Fin 2} (hr : r.val = 128 * o.val + p.val) (hj : j'.val = j.val) : a.dgt (row t r) j * a.u (row t r) j = a.db p j' (chunk t o) := by
  obtain rfl := Fin.ext hj
  unfold Args.db Args.dmx
  rw [show row t r = ⟨(chunk t o).val * 128 + p.val, by omega⟩ from Fin.ext (by show t.val * 256 + r.val = (t.val * 2 + o.val) * 128 + p.val; omega)]
omit H in
theorem dw_term {g : Fin 8} {p s : Fin 128} {r r' : Fin 256} {d : Fin 256} {j : Fin 2048} {o : Fin 2} (hr : r.val = 128 * o.val + p.val) (hs : r'.val = 128 * o.val + s.val) (hj : j.val = g.val * 256 + d.val) :
    a.dgt (row t r) j * a.u (row t r) j * a.vl (row t r') j = a.dw g p s (chunk t o) d := by
  unfold Args.dw Args.dmx
  rw [show row t r = ⟨(chunk t o).val * 128 + p.val, by omega⟩ from Fin.ext (by show t.val * 256 + r.val = (t.val * 2 + o.val) * 128 + p.val; omega),
    show row t r' = ⟨(chunk t o).val * 128 + s.val, by omega⟩ from Fin.ext (by show t.val * 256 + r'.val = (t.val * 2 + o.val) * 128 + s.val; omega),
    show j = ⟨g.val * 256 + d.val, by omega⟩ from Fin.ext hj]
end Cert.SguVal
end
-- ==== Proof.SguVal.lean ====
module
public import proofs.«01_k».proof.Proof.SguTile
@[expose] public section
set_option maxRecDepth 16384
noncomputable section
namespace Cert.SguVal
open Idealize.ShloMosaic Idealize.ShloMosaic.TcCoe Idealize.SL.Sem Cert.SguIdeal Cert.SguIdeal.Gen Cert.Reals Cert.Mix

variable {m : (ℓ : Loc nD τ sig) → Buf (Elt Ideal) ℓ} {ρ : Dev nD → PrngReg} {c : Dev nD} {a : Args} (H : Reads m ρ c a) (t : Fin cfg1.N)
include H
set_option maxHeartbeats 2000000 in
theorem out12 (r : Fin 256) (k : Fin 4096) : (show FVec Ideal S256x4096 .bf16 from (outsAt1 (V7 m ρ) c t.val t.isLt).2.2.1) (ix2 r k) = ((a.dz (row t r) k : ℝ) : EReal) := by
  obtain ⟨rs, e0⟩ : ∃ x, k1_pay27 (F := Ideal) (k1_pay23 (iblk1 (V7 m ρ) c 4 t)) (k1_pay24 (iblk1 (V7 m ρ) c 4 t)) k1_pay25 = x := ⟨_, rfl⟩
  obtain ⟨vh, e2⟩ : ∃ x, k1_pay28 (F := Ideal) (k1_pay23 (iblk1 (V7 m ρ) c 4 t)) (k1_pay24 (iblk1 (V7 m ρ) c 4 t)) k1_pay25 = x := ⟨_, rfl⟩
  obtain ⟨vl, e1⟩ : ∃ x, k1_pay29 (F := Ideal) (k1_pay23 (iblk1 (V7 m ρ) c 4 t)) (k1_pay24 (iblk1 (V7 m ρ) c 4 t)) k1_pay25 (iblk1 (V7 m ρ) c 5 t) (iblk1 (V7 m ρ) c 6 t) = x := ⟨_, rfl⟩
  obtain ⟨dg, e3⟩ : ∃ x, k1_pay12 (F := Ideal) (k1_pay11 (iblk1 (V7 m ρ) c 0 t) (iblk1 (V7 m ρ) c 1 t) (iblk1 (V7 m ρ) c 2 t)) (iblk1 (V7 m ρ) c 3 t) = x := ⟨_, rfl⟩
  have hrs := pay27 H t
  have hvl := pay29 H t
  have hvh := pay28 H t
  have hdg := pay12 H t
  have hu := pay22 H t
  rw [e0] at hrs; rw [e2] at hvh; rw [e1] at hvl; rw [e3] at hdg
  unfold k1_pay29 at e1; rw [e2] at e1; unfold k1_pay28 at e2; rw [e0] at e2; unfold k1_pay27 at e0; unfold k1_pay26 at e0 e2; unfold k1_pay11 k1_pay9 k1_pay8 k1_pay7 at e3
  dsimp only at e0 e1 e2 e3
  obtain ⟨u, e4⟩ : ∃ x, k1_pay22 (F := Ideal) (iblk1 (V7 m ρ) c 4 t) = x := ⟨_, rfl⟩
  rw [e4] at hu
  obtain ⟨w7, e7⟩ : ∃ x : Vec Ideal S8x128x128 .bf16, iblk1 (V7 m ρ) c 7 t = x := ⟨_, rfl⟩
  obtain ⟨w8, e8⟩ : ∃ x : Vec Ideal S8x128x128 .bf16, iblk1 (V7 m ρ) c 8 t = x := ⟨_, rfl⟩
  obtain ⟨w9, e9⟩ : ∃ x : Vec Ideal S128x2048 .f32, iblk1 (V7 m ρ) c 9 t = x := ⟨_, rfl⟩
  have h7 : ∀ g p s, w7 (ix3 g p s) = ((a.ws g p s : ℝ) : EReal) := by rw [← e7]; exact blk7 H t
  have h8 : ∀ g s p, w8 (ix3 g s p) = ((a.ws g p s : ℝ) : EReal) := by rw [← e8]; exact blk8 H t
  have h9 : ∀ p j, w9 (ix2 p j) = ((a.b (group j) p : ℝ) : EReal) := by rw [← e9]; exact blk9 H t
  by_cases h : t.val % 64 = 0
  on_goal 1 => rw [outsAt1_A (V7 m ρ) c t h]
  on_goal 2 => rw [outsAt1_B (V7 m ρ) c t h]
  all_goals
    frame_open; frame_out
    simp only [e0, e2, e1, e3, e4, e7, e8, e9]
    clear e0 e1 e2 e3 e4 e7 e8 e9
    simp (disch := decide) only [↓ View.readCov_skip, ↓ View.readCov_cons_toLoadRect, ↓ View.readCov_fill]
    rw [readCov_pieces (View.whole cc1_scratch0) (mat fun r j => ((a.du (row t r) j : ℝ) : EReal)) ?_ ?_]
    pick_goal 3
    · exact View.cover_of_tiled _ ![128, 256] rfl
    pick_goal 2
    · repeat' (refine And.intro ?_ ?_)
      on_goal 17 => exact trivial
      all_goals
        refine piece_of (inb := by decide) fun x0 x1 r j hr hj => ?_
        dsimp only [Matrix.cons_val_zero, Matrix.cons_val_one] at hr hj
        pointwise
        refine du_tile t hdg hvl h7 h9 ?_ ?_ ?_ (fun k => ?_) ?_
        all_goals (dsimp only; omega)
    rw [readCov_pieces (View.whole cc1_scratch1) (mat fun r j => ((a.dvl (row t r) j : ℝ) : EReal)) ?_ ?_]
    pick_goal 3
    · exact View.cover_of_tiled _ ![128, 256] rfl
    pick_goal 2
    · repeat' (refine And.intro ?_ ?_)
      on_goal 17 => exact trivial
      all_goals
        refine piece_of (inb := by decide) fun x0 x1 r j hr hj => ?_
        dsimp only [Matrix.cons_val_zero, Matrix.cons_val_one] at hr hj
        pointwise
        simp only [hdg, hu, h8, ← EReal.coe_mul, sum_coe]
        refine congrArg (fun x : ℝ => (x : EReal)) ?_
        refine Finset.sum_congr rfl fun k _ => dvl_term ?_ ?_ ?_ ?_
        all_goals (dsimp only [row, inChunk, place, group]; omega)
    refine canon_pieces (s := S256x4096) (e := .bf16) (wide fun r k => ((a.dz (row t r) k : ℝ) : EReal)) ?_ (ix2 r k) (by exact View.cover_of_tiled _ ![256, 2048] rfl _)
    refine And.intro (half_of (inb := by decide) rfl fun r x k hk => ?_) (And.intro (half_of (inb := by decide) rfl fun r x k hk => ?_) trivial)
    · refine (pay1 H t (fun r j => ?_) r x).trans (congrArg (fun x : ℝ => (x : EReal)) (dz_v a _ hk))
      pointwise [k1_pay156]
      simp only [mat_apply, hrs, hvh, blk5 H, ← EReal.coe_mul, sum_coe, ofBits_2048, div_2048, ← EReal.coe_sub]
      rfl
    · exact (pay157 H t (fun r j => rfl) r x).trans (congrArg (fun x : ℝ => (x : EReal)) (dz_u a _ (hk.trans (Nat.zero_add _))))
set_option maxHeartbeats 2000000 in
theorem out15 (pv5 pv6 : Vec Ideal S8x2048 .f32) (hA5 : t.val % 64 = 0 → pv5 = (broadcast S8x2048 (FloatOps.ofBits (F := Ideal) .f32 0#32) : FVec Ideal S8x2048 .f32)) (hB5 : ¬t.val % 64 = 0 → pv5 = (outsAt1 (V7 m ρ) c (t.val - 1) (Nat.lt_of_le_of_lt (Nat.sub_le _ _) t.isLt)).2.2.2.2.2.1)
    (hA6 : t.val % 64 = 0 → pv6 = (broadcast S8x2048 (FloatOps.ofBits (F := Ideal) .f32 0#32) : FVec Ideal S8x2048 .f32)) (hB6 : ¬t.val % 64 = 0 → pv6 = (outsAt1 (V7 m ρ) c (t.val - 1) (Nat.lt_of_le_of_lt (Nat.sub_le _ _) t.isLt)).2.2.2.2.2.2) (o : Fin 8) (j : Fin 2048) :
    (show FVec Ideal S8x2048 .f32 from (outsAt1 (V7 m ρ) c t.val t.isLt).2.2.2.2.2.1) (ix2 o j) = pv5 (ix2 o j) + ((∑ i : Fin 32, a.dlg j (row t ⟨i * 8 + o, by omega⟩) : ℝ) : EReal)
    ∧ (show FVec Ideal S8x2048 .f32 from (outsAt1 (V7 m ρ) c t.val t.isLt).2.2.2.2.2.2) (ix2 o j) = pv6 (ix2 o j) + ((∑ i : Fin 32, a.dlb j (row t ⟨i * 8 + o, by omega⟩) : ℝ) : EReal) := by
  obtain ⟨rs, e0⟩ : ∃ x, k1_pay27 (F := Ideal) (k1_pay23 (iblk1 (V7 m ρ) c 4 t)) (k1_pay24 (iblk1 (V7 m ρ) c 4 t)) k1_pay25 = x := ⟨_, rfl⟩
  obtain ⟨vh, e2⟩ : ∃ x, k1_pay28 (F := Ideal) (k1_pay23 (iblk1 (V7 m ρ) c 4 t)) (k1_pay24 (iblk1 (V7 m ρ) c 4 t)) k1_pay25 = x := ⟨_, rfl⟩
  obtain ⟨vl, e1⟩ : ∃ x, k1_pay29 (F := Ideal) (k1_pay23 (iblk1 (V7 m ρ) c 4 t)) (k1_pay24 (iblk1 (V7 m ρ) c 4 t)) k1_pay25 (iblk1 (V7 m ρ) c 5 t) (iblk1 (V7 m ρ) c 6 t) = x := ⟨_, rfl⟩
  obtain ⟨dg, e3⟩ : ∃ x, k1_pay12 (F := Ideal) (k1_pay11 (iblk1 (V7 m ρ) c 0 t) (iblk1 (V7 m ρ) c 1 t) (iblk1 (V7 m ρ) c 2 t)) (iblk1 (V7 m ρ) c 3 t) = x := ⟨_, rfl⟩
  have hrs := pay27 H t
  have hvl := pay29 H t
  have hvh := pay28 H t
  have hdg := pay12 H t
  have hu := pay22 H t
  rw [e0] at hrs; rw [e2] at hvh; rw [e1] at hvl; rw [e3] at hdg
  unfold k1_pay29 at e1; rw [e2] at e1; unfold k1_pay28 at e2; rw [e0] at e2; unfold k1_pay27 at e0; unfold k1_pay26 at e0 e2; unfold k1_pay11 k1_pay9 k1_pay8 k1_pay7 at e3
  dsimp only at e0 e1 e2 e3
  obtain ⟨u, e4⟩ : ∃ x, k1_pay22 (F := Ideal) (iblk1 (V7 m ρ) c 4 t) = x := ⟨_, rfl⟩
  rw [e4] at hu
  obtain ⟨w7, e7⟩ : ∃ x : Vec Ideal S8x128x128 .bf16, iblk1 (V7 m ρ) c 7 t = x := ⟨_, rfl⟩
  obtain ⟨w8, e8⟩ : ∃ x : Vec Ideal S8x128x128 .bf16, iblk1 (V7 m ρ) c 8 t = x := ⟨_, rfl⟩
  obtain ⟨w9, e9⟩ : ∃ x : Vec Ideal S128x2048 .f32, iblk1 (V7 m ρ) c 9 t = x := ⟨_, rfl⟩
  have h7 : ∀ g p s, w7 (ix3 g p s) = ((a.ws g p s : ℝ) : EReal) := by rw [← e7]; exact blk7 H t
  have h8 : ∀ g s p, w8 (ix3 g s p) = ((a.ws g p s : ℝ) : EReal) := by rw [← e8]; exact blk8 H t
  have h9 : ∀ p j, w9 (ix2 p j) = ((a.b (group j) p : ℝ) : EReal) := by rw [← e9]; exact blk9 H t
  refine ⟨?_, ?_⟩
  all_goals
    by_cases h : t.val % 64 = 0
    on_goal 1 => rw [outsAt1_A (V7 m ρ) c t h]
    on_goal 2 => rw [outsAt1_B (V7 m ρ) c t h]
  all_goals
    frame_open; frame_out
    simp only [e0, e2, e1, e3, e4, e7, e8, e9]
    clear e0 e1 e2 e3 e4 e7 e8 e9
    simp (disch := decide) only [↓ View.readCov_skip, ↓ View.readCov_cons_toLoadRect, ↓ View.readCov_fill]
    rw [readCov_pieces (View.whole cc1_scratch1) (mat fun r j => ((a.dvl (row t r) j : ℝ) : EReal)) ?_ ?_]
    pick_goal 3
    · exact View.cover_of_tiled _ ![128, 256] rfl
    pick_goal 2
    · repeat' (refine And.intro ?_ ?_)
      on_goal 17 => exact trivial
      all_goals
        refine piece_of (inb := by decide) fun x0 x1 r j hr hj => ?_
        dsimp only [Matrix.cons_val_zero, Matrix.cons_val_one] at hr hj
        pointwise
        simp only [hdg, hu, h8, ← EReal.coe_mul, sum_coe]
        refine congrArg (fun x : ℝ => (x : EReal)) ?_
        refine Finset.sum_congr rfl fun k _ => dvl_term ?_ ?_ ?_ ?_
        all_goals (dsimp only [row, inChunk, place, group]; omega)
    first | (rw [← hA5 h]; pointwise; simp only [mat_apply, hvh, ← EReal.coe_mul, sum_coe]; rfl) | (rw [← hB5 h]; pointwise; simp only [mat_apply, hvh, ← EReal.coe_mul, sum_coe]; rfl) | (rw [← hA6 h]; pointwise; simp only [mat_apply, hvh, ← EReal.coe_mul, sum_coe]; rfl) | (rw [← hB6 h]; pointwise; simp only [mat_apply, hvh, ← EReal.coe_mul, sum_coe]; rfl)
set_option maxHeartbeats 2000000 in
theorem out14 (pv4 : Vec Ideal S128x2048 .f32) (hA4 : t.val % 64 = 0 → pv4 = (broadcast S128x2048 (FloatOps.ofBits (F := Ideal) .f32 0#32) : FVec Ideal S128x2048 .f32)) (hB4 : ¬t.val % 64 = 0 → pv4 = (outsAt1 (V7 m ρ) c (t.val - 1) (Nat.lt_of_le_of_lt (Nat.sub_le _ _) t.isLt)).2.2.2.2.1) (p : Fin 128) (j : Fin 2048) :
    (show FVec Ideal S128x2048 .f32 from (outsAt1 (V7 m ρ) c t.val t.isLt).2.2.2.2.1) (ix2 p j) = pv4 (ix2 p j) + ((dbT a t p j : ℝ) : EReal) := by
  obtain ⟨rs, e0⟩ : ∃ x, k1_pay27 (F := Ideal) (k1_pay23 (iblk1 (V7 m ρ) c 4 t)) (k1_pay24 (iblk1 (V7 m ρ) c 4 t)) k1_pay25 = x := ⟨_, rfl⟩
  obtain ⟨vh, e2⟩ : ∃ x, k1_pay28 (F := Ideal) (k1_pay23 (iblk1 (V7 m ρ) c 4 t)) (k1_pay24 (iblk1 (V7 m ρ) c 4 t)) k1_pay25 = x := ⟨_, rfl⟩
  obtain ⟨vl, e1⟩ : ∃ x, k1_pay29 (F := Ideal) (k1_pay23 (iblk1 (V7 m ρ) c 4 t)) (k1_pay24 (iblk1 (V7 m ρ) c 4 t)) k1_pay25 (iblk1 (V7 m ρ) c 5 t) (iblk1 (V7 m ρ) c 6 t) = x := ⟨_, rfl⟩
  obtain ⟨dg, e3⟩ : ∃ x, k1_pay12 (F := Ideal) (k1_pay11 (iblk1 (V7 m ρ) c 0 t) (iblk1 (V7 m ρ) c 1 t) (iblk1 (V7 m ρ) c 2 t)) (iblk1 (V7 m ρ) c 3 t) = x := ⟨_, rfl⟩
  have hrs := pay27 H t
  have hvl := pay29 H t
  have hvh := pay28 H t
  have hdg := pay12 H t
  have hu := pay22 H t
  rw [e0] at hrs; rw [e2] at hvh; rw [e1] at hvl; rw [e3] at hdg
  unfold k1_pay29 at e1; rw [e2] at e1; unfold k1_pay28 at e2; rw [e0] at e2; unfold k1_pay27 at e0; unfold k1_pay26 at e0 e2; unfold k1_pay11 k1_pay9 k1_pay8 k1_pay7 at e3
  dsimp only at e0 e1 e2 e3
  obtain ⟨u, e4⟩ : ∃ x, k1_pay22 (F := Ideal) (iblk1 (V7 m ρ) c 4 t) = x := ⟨_, rfl⟩
  rw [e4] at hu
  obtain ⟨w7, e7⟩ : ∃ x : Vec Ideal S8x128x128 .bf16, iblk1 (V7 m ρ) c 7 t = x := ⟨_, rfl⟩
  obtain ⟨w8, e8⟩ : ∃ x : Vec Ideal S8x128x128 .bf16, iblk1 (V7 m ρ) c 8 t = x := ⟨_, rfl⟩
  obtain ⟨w9, e9⟩ : ∃ x : Vec Ideal S128x2048 .f32, iblk1 (V7 m ρ) c 9 t = x := ⟨_, rfl⟩
  have h7 : ∀ g p s, w7 (ix3 g p s) = ((a.ws g p s : ℝ) : EReal) := by rw [← e7]; exact blk7 H t
  have h8 : ∀ g s p, w8 (ix3 g s p) = ((a.ws g p s : ℝ) : EReal) := by rw [← e8]; exact blk8 H t
  have h9 : ∀ p j, w9 (ix2 p j) = ((a.b (group j) p : ℝ) : EReal) := by rw [← e9]; exact blk9 H t
  by_cases h : t.val % 64 = 0
  on_goal 1 => rw [outsAt1_A (V7 m ρ) c t h]
  on_goal 2 => rw [outsAt1_B (V7 m ρ) c t h]
  all_goals
    frame_open; frame_out
    simp only [e0, e2, e1, e3, e4, e7, e8, e9]
    clear e0 e1 e2 e3 e4 e7 e8 e9
    simp (disch := decide) only [↓ View.readCov_skip, ↓ View.readCov_cons_toLoadRect, ↓ View.readCov_fill]
    first | simp only [← hA4 h] | simp only [← hB4 h]
    refine canon_pieces8 (acc2 a t pv4) ?_ (ix2 p j) (by exact View.cover_of_tiled _ ![128, 256] rfl _)
    repeat' (refine And.intro ?_ ?_)
    on_goal 9 => exact trivial
    all_goals
      refine piece2_of (inb := by decide) rfl fun p x hx => ?_
      pointwise
      simp only [hdg, hu, ← EReal.coe_mul]
      rw [add_assoc, ← EReal.coe_add, acc2_apply]
      refine congrArg (fun y : ℝ => pv4 _ + (y : EReal)) (congrArg₂ (· + ·) (db_term t ?_ ?_) (db_term t ?_ ?_))
      all_goals first | rfl | (dsimp only [Fin.isValue]; omega)
set_option maxHeartbeats 2000000 in
theorem out13 (pv3 : Vec Ideal S8x128x128 .f32) (hA3 : t.val % 64 = 0 → pv3 = (broadcast S8x128x128 (FloatOps.ofBits (F := Ideal) .f32 0#32) : FVec Ideal S8x128x128 .f32)) (hB3 : ¬t.val % 64 = 0 → pv3 = (outsAt1 (V7 m ρ) c (t.val - 1) (Nat.lt_of_le_of_lt (Nat.sub_le _ _) t.isLt)).2.2.2.1) (g : Fin 8) (p s : Fin 128) :
    (show FVec Ideal S8x128x128 .f32 from (outsAt1 (V7 m ρ) c t.val t.isLt).2.2.2.1) (ix3 g p s) = pv3 (ix3 g p s) + ((dwT a t g p s : ℝ) : EReal) := by
  obtain ⟨rs, e0⟩ : ∃ x, k1_pay27 (F := Ideal) (k1_pay23 (iblk1 (V7 m ρ) c 4 t)) (k1_pay24 (iblk1 (V7 m ρ) c 4 t)) k1_pay25 = x := ⟨_, rfl⟩
  obtain ⟨vh, e2⟩ : ∃ x, k1_pay28 (F := Ideal) (k1_pay23 (iblk1 (V7 m ρ) c 4 t)) (k1_pay24 (iblk1 (V7 m ρ) c 4 t)) k1_pay25 = x := ⟨_, rfl⟩
  obtain ⟨vl, e1⟩ : ∃ x, k1_pay29 (F := Ideal) (k1_pay23 (iblk1 (V7 m ρ) c 4 t)) (k1_pay24 (iblk1 (V7 m ρ) c 4 t)) k1_pay25 (iblk1 (V7 m ρ) c 5 t) (iblk1 (V7 m ρ) c 6 t) = x := ⟨_, rfl⟩
  obtain ⟨dg, e3⟩ : ∃ x, k1_pay12 (F := Ideal) (k1_pay11 (iblk1 (V7 m ρ) c 0 t) (iblk1 (V7 m ρ) c 1 t) (iblk1 (V7 m ρ) c 2 t)) (iblk1 (V7 m ρ) c 3 t) = x := ⟨_, rfl⟩
  have hrs := pay27 H t
  have hvl := pay29 H t
  have hvh := pay28 H t
  have hdg := pay12 H t
  have hu := pay22 H t
  rw [e0] at hrs; rw [e2] at hvh; rw [e1] at hvl; rw [e3] at hdg
  unfold k1_pay29 at e1; rw [e2] at e1; unfold k1_pay28 at e2; rw [e0] at e2; unfold k1_pay27 at e0; unfold k1_pay26 at e0 e2; unfold k1_pay11 k1_pay9 k1_pay8 k1_pay7 at e3
  dsimp only at e0 e1 e2 e3
  obtain ⟨u, e4⟩ : ∃ x, k1_pay22 (F := Ideal) (iblk1 (V7 m ρ) c 4 t) = x := ⟨_, rfl⟩
  rw [e4] at hu
  obtain ⟨w7, e7⟩ : ∃ x : Vec Ideal S8x128x128 .bf16, iblk1 (V7 m ρ) c 7 t = x := ⟨_, rfl⟩
  obtain ⟨w8, e8⟩ : ∃ x : Vec Ideal S8x128x128 .bf16, iblk1 (V7 m ρ) c 8 t = x := ⟨_, rfl⟩
  obtain ⟨w9, e9⟩ : ∃ x : Vec Ideal S128x2048 .f32, iblk1 (V7 m ρ) c 9 t = x := ⟨_, rfl⟩
  have h7 : ∀ g p s, w7 (ix3 g p s) = ((a.ws g p s : ℝ) : EReal) := by rw [← e7]; exact blk7 H t
  have h8 : ∀ g s p, w8 (ix3 g s p) = ((a.ws g p s : ℝ) : EReal) := by rw [← e8]; exact blk8 H t
  have h9 : ∀ p j, w9 (ix2 p j) = ((a.b (group j) p : ℝ) : EReal) := by rw [← e9]; exact blk9 H t
  by_cases h : t.val % 64 = 0
  on_goal 1 => rw [outsAt1_A (V7 m ρ) c t h]
  on_goal 2 => rw [outsAt1_B (V7 m ρ) c t h]
  all_goals
    frame_open; frame_out
    simp only [e0, e2, e1, e3, e4, e7, e8, e9]
    clear e0 e1 e2 e3 e4 e7 e8 e9
    simp (disch := decide) only [↓ View.readCov_skip, ↓ View.readCov_cons_toLoadRect, ↓ View.readCov_fill]
    first | simp only [← hA3 h] | simp only [← hB3 h]
    refine canon_pieces8 (acc3 a t pv3) ?_ (ix3 g p s) (by exact View.cover_of_tiled _ ![1, 128, 128] rfl _)
    repeat' (refine And.intro ?_ ?_)
    on_goal 9 => exact trivial
    all_goals
      refine piece3_of (inb := by decide) rfl rfl fun hg p s => ?_
      pointwise
      simp only [hdg, hu, hvl, ← EReal.coe_mul, sum_coe]
      rw [add_assoc, ← EReal.coe_add, acc3_apply]
      refine congrArg (fun y : ℝ => pv3 _ + (y : EReal)) (congrArg₂ (· + ·) (Finset.sum_congr rfl fun d _ => dw_term t ?_ ?_ ?_) (Finset.sum_congr rfl fun d _ => dw_term t ?_ ?_ ?_))
      all_goals first | rfl | (dsimp only [Fin.isValue]; omega)
end Cert.SguVal
end
-- ==== Proof.SguEnd.lean ====
module
public import proofs.«01_k».proof.Proof.SguVal
@[expose] public section
set_option maxRecDepth 16384
noncomputable section
/-! The `sgu_mix_bwd` call's outputs at the end, and what the host makes of them. -/
namespace Cert.SguVal
open Idealize.ShloMosaic Idealize.ShloMosaic.TcCoe Idealize.SL.Sem Cert.SguIdeal Cert.SguIdeal.Gen Cert.Reals Cert.Mix

variable {m : (ℓ : Loc nD τ sig) → Buf (Elt Ideal) ℓ} {ρ : Dev nD → PrngReg} {c : Dev nD} {a : Args} (H : Reads m ρ c a)

/-- Two entries of a row of 128, next to each other. -/
def pair (f : Fin 128 → ℝ) (t : Fin 64) : ℝ := f ⟨t.val * 2 + (0 : Fin 2).val, by omega⟩ + f ⟨t.val * 2 + (1 : Fin 2).val, by omega⟩
theorem sum_pair (f : Fin 128 → ℝ) : ∑ t, pair f t = ∑ n, f n := by
  rw [Fin.sum_univ_tiles 64 2 rfl f]
  refine Finset.sum_congr rfl fun t _ => ?_
  rw [Fin.sum_univ_two]; rfl

/-- The block from the start of the 64 blocks, of a sum over them. -/
theorem at_block (t : ℕ) (s : Fin 64) (h : t < 64) : 64 * (t / 64) + s.val = s.val := by omega

include H
set_option maxHeartbeats 2000000 in
theorem final10 : (dat1 (V7 m ρ) c).arrAt 10 cfg1.N = (fun i => ((a.dm (i 0) (i 1) : ℝ) : EReal) : FVec Ideal S16384x1024 .f32) := by
  refine (dat1 (V7 m ρ) c).arrAt_eq_of_covers 10 _ (by decide +kernel) fun t hf y => ?_
  have e (y0 : Fin 256) (y1 : Fin 1024) : ((cfg1.win 10).blk t).view.emb (ix2 y0 y1) = (ix2 (row t y0) y1 : S16384x1024.Idx) := by blk_ext [idx t, row]
  blk_simp
  rw [after1_10]
  idx_vars y
  rw [e]
  by_cases h : t.val % 64 = 0
  · rw [outsAt1_A (V7 m ρ) c t h]; frame_out; exact pay11 H t y0 y1
  · rw [outsAt1_B (V7 m ρ) c t h]; frame_out; exact pay11 H t y0 y1

set_option maxHeartbeats 2000000 in
theorem final12 : (dat1 (V7 m ρ) c).arrAt 12 cfg1.N = (fun i => ((a.dz (i 0) (i 1) : ℝ) : EReal) : FVec Ideal S16384x4096 .bf16) := by
  refine (dat1 (V7 m ρ) c).arrAt_eq_of_covers 12 _ (by decide +kernel) fun t hf y => ?_
  have e (y0 : Fin 256) (y1 : Fin 4096) : ((cfg1.win 12).blk t).view.emb (ix2 y0 y1) = (ix2 (row t y0) y1 : S16384x4096.Idx) := by blk_ext [idx t, row]
  blk_simp
  rw [after1_12]
  idx_vars y
  rw [e]
  exact out12 H t y0 y1

set_option maxHeartbeats 2000000 in
theorem final11 : (dat1 (V7 m ρ) c).arrAt 11 cfg1.N = (fun i => ((∑ t : Fin 64, part8 64 32 rfl (a.dg (i 1)) (i 0) t : ℝ) : EReal) : FVec Ideal S8x1024 .f32) := by
  refine (dat1 (V7 m ρ) c).arrAt_eq_of_covers 11 _ (by decide +kernel) fun t hf y => ?_
  have e (y0 : Fin 8) (y1 : Fin 1024) : ((cfg1.win 11).blk t).view.emb (ix2 y0 y1) = (ix2 y0 y1 : S8x1024.Idx) := by blk_ext [idx t]
  have hz : (fun _ => 0) = (broadcast S8x1024 (FloatOps.ofBits (F := Ideal) .f32 0#32) : FVec Ideal S8x1024 .f32) := by funext j; pointwise
  blk_simp
  idx_vars y
  rw [e, after1_11, Pipeline.eq_sum_fin_of_reset_step_apply_of_flush (fun n h => (outsAt1 (V7 m ρ) c n h).2.1) 64 (fun _ => 0)
    (fun p j => ((part8 64 32 rfl (a.dg (j 1)) (j 0) ⟨p.val, lt64 p⟩ : ℝ) : EReal))
    (fun t h j => by
      idx_vars j
      rw [outsAt1_A (V7 m ρ) c t h]; frame_out
      rw [← hz]
      exact pay10 H t (fun _ => 0) j0 j1)
    (fun t h j => by
      idx_vars j
      rw [outsAt1_B (V7 m ρ) c t h]; frame_out
      exact pay10 H t _ j0 j1)
    t ((flush1_11 t).mp hf) _, zero_add]
  exact (sum_coe _ _).trans (congrArg (fun x : ℝ => (x : EReal)) (Finset.sum_congr rfl fun s _ => congrArg (part8 64 32 rfl _ _) (Fin.ext (at_block _ s (lt64 t)))))

set_option maxHeartbeats 2000000 in
theorem final15 : (dat1 (V7 m ρ) c).arrAt 15 cfg1.N = (fun i => ((∑ t : Fin 64, part8 64 32 rfl (a.dlg (i 1)) (i 0) t : ℝ) : EReal) : FVec Ideal S8x2048 .f32) := by
  refine (dat1 (V7 m ρ) c).arrAt_eq_of_covers 15 _ (by decide +kernel) fun t hf y => ?_
  have e (y0 : Fin 8) (y1 : Fin 2048) : ((cfg1.win 15).blk t).view.emb (ix2 y0 y1) = (ix2 y0 y1 : S8x2048.Idx) := by blk_ext [idx t]
  have hz : (fun _ => 0) = (broadcast S8x2048 (FloatOps.ofBits (F := Ideal) .f32 0#32) : FVec Ideal S8x2048 .f32) := by funext j; pointwise
  blk_simp
  idx_vars y
  rw [e, after1_15, Pipeline.eq_sum_fin_of_reset_step_apply_of_flush (fun n h => (outsAt1 (V7 m ρ) c n h).2.2.2.2.2.1) 64 (fun _ => 0)
    (fun p j => ((part8 64 32 rfl (a.dlg (j 1)) (j 0) ⟨p.val, lt64 p⟩ : ℝ) : EReal))
    (fun t h j => by
      idx_vars j
      exact (out15 H t (fun _ => 0) (fun _ => 0) (fun _ => hz) (fun g => absurd h g) (fun _ => hz) (fun g => absurd h g) j0 j1).1)
    (fun t h j => by
      idx_vars j
      exact (out15 H t _ _ (fun g => absurd g h) (fun _ => rfl) (fun g => absurd g h) (fun _ => rfl) j0 j1).1)
    t ((flush1_15 t).mp hf) _, zero_add]
  exact (sum_coe _ _).trans (congrArg (fun x : ℝ => (x : EReal)) (Finset.sum_congr rfl fun s _ => congrArg (part8 64 32 rfl _ _) (Fin.ext (at_block _ s (lt64 t)))))

set_option maxHeartbeats 2000000 in
theorem final16 : (dat1 (V7 m ρ) c).arrAt 16 cfg1.N = (fun i => ((∑ t : Fin 64, part8 64 32 rfl (a.dlb (i 1)) (i 0) t : ℝ) : EReal) : FVec Ideal S8x2048 .f32) := by
  refine (dat1 (V7 m ρ) c).arrAt_eq_of_covers 16 _ (by decide +kernel) fun t hf y => ?_
  have e (y0 : Fin 8) (y1 : Fin 2048) : ((cfg1.win 16).blk t).view.emb (ix2 y0 y1) = (ix2 y0 y1 : S8x2048.Idx) := by blk_ext [idx t]
  have hz : (fun _ => 0) = (broadcast S8x2048 (FloatOps.ofBits (F := Ideal) .f32 0#32) : FVec Ideal S8x2048 .f32) := by funext j; pointwise
  blk_simp
  idx_vars y
  rw [e, after1_16, Pipeline.eq_sum_fin_of_reset_step_apply_of_flush (fun n h => (outsAt1 (V7 m ρ) c n h).2.2.2.2.2.2) 64 (fun _ => 0)
    (fun p j => ((part8 64 32 rfl (a.dlb (j 1)) (j 0) ⟨p.val, lt64 p⟩ : ℝ) : EReal))
    (fun t h j => by
      idx_vars j
      exact (out15 H t (fun _ => 0) (fun _ => 0) (fun _ => hz) (fun g => absurd h g) (fun _ => hz) (fun g => absurd h g) j0 j1).2)
    (fun t h j => by
      idx_vars j
      exact (out15 H t _ _ (fun g => absurd g h) (fun _ => rfl) (fun g => absurd g h) (fun _ => rfl) j0 j1).2)
    t ((flush1_16 t).mp hf) _, zero_add]
  exact (sum_coe _ _).trans (congrArg (fun x : ℝ => (x : EReal)) (Finset.sum_congr rfl fun s _ => congrArg (part8 64 32 rfl _ _) (Fin.ext (at_block _ s (lt64 t)))))

set_option maxHeartbeats 2000000 in
theorem final14 : (dat1 (V7 m ρ) c).arrAt 14 cfg1.N = (fun i => ((∑ n, a.db (i 0) (i 1) n : ℝ) : EReal) : FVec Ideal S128x2048 .f32) := by
  refine (dat1 (V7 m ρ) c).arrAt_eq_of_covers 14 _ (by decide +kernel) fun t hf y => ?_
  have e (y0 : Fin 128) (y1 : Fin 2048) : ((cfg1.win 14).blk t).view.emb (ix2 y0 y1) = (ix2 y0 y1 : S128x2048.Idx) := by blk_ext [idx t]
  have hz : (fun _ => 0) = (broadcast S128x2048 (FloatOps.ofBits (F := Ideal) .f32 0#32) : FVec Ideal S128x2048 .f32) := by funext j; pointwise
  blk_simp
  idx_vars y
  rw [e, after1_14, Pipeline.eq_sum_fin_of_reset_step_apply_of_flush (fun n h => (outsAt1 (V7 m ρ) c n h).2.2.2.2.1) 64 (fun _ => 0)
    (fun p j => ((pair (a.db (j 0) (j 1)) ⟨p.val, lt64 p⟩ : ℝ) : EReal))
    (fun t h j => by
      idx_vars j
      exact out14 H t (fun _ => 0) (fun _ => hz) (fun g => absurd h g) j0 j1)
    (fun t h j => by
      idx_vars j
      exact out14 H t _ (fun g => absurd g h) (fun _ => rfl) j0 j1)
    t ((flush1_14 t).mp hf) _, zero_add]
  exact (sum_coe _ _).trans (congrArg (fun x : ℝ => (x : EReal)) ((Finset.sum_congr rfl fun s _ => congrArg (pair _) (Fin.ext (at_block _ s (lt64 t)))).trans (sum_pair _)))

set_option maxHeartbeats 2000000 in
theorem final13 : (dat1 (V7 m ρ) c).arrAt 13 cfg1.N = (fun i => ((∑ n, ∑ d, a.dw (i 0) (i 1) (i 2) n d : ℝ) : EReal) : FVec Ideal S8x128x128 .f32) := by
  refine (dat1 (V7 m ρ) c).arrAt_eq_of_covers 13 _ (by decide +kernel) fun t hf y => ?_
  have e (y0 : Fin 8) (y1 y2 : Fin 128) : ((cfg1.win 13).blk t).view.emb (ix3 y0 y1 y2) = (ix3 y0 y1 y2 : S8x128x128.Idx) := by blk_ext [idx t]
  have hz : (fun _ => 0) = (broadcast S8x128x128 (FloatOps.ofBits (F := Ideal) .f32 0#32) : FVec Ideal S8x128x128 .f32) := by funext j; pointwise
  blk_simp
  idx_vars y
  rw [e, after1_13, Pipeline.eq_sum_fin_of_reset_step_apply_of_flush (fun n h => (outsAt1 (V7 m ρ) c n h).2.2.2.1) 64 (fun _ => 0)
    (fun p j => ((pair (fun n => ∑ d, a.dw (j 0) (j 1) (j 2) n d) ⟨p.val, lt64 p⟩ : ℝ) : EReal))
    (fun t h j => by
      idx_vars j
      exact out13 H t (fun _ => 0) (fun _ => hz) (fun g => absurd h g) j0 j1 j2)
    (fun t h j => by
      idx_vars j
      exact out13 H t _ (fun g => absurd g h) (fun _ => rfl) j0 j1 j2)
    t ((flush1_13 t).mp hf) _, zero_add]
  exact (sum_coe _ _).trans (congrArg (fun x : ℝ => (x : EReal)) ((Finset.sum_congr rfl fun s _ => congrArg (pair _) (Fin.ext (at_block _ s (lt64 t)))).trans (sum_pair _)))
end Cert.SguVal
end
-- ==== Proof.SguTail.lean ====
module
public import proofs.«01_k».proof.Proof.SguEnd
@[expose] public section
set_option maxRecDepth 16384
noncomputable section
/-! What the host makes of the `sgu_mix_bwd` call's sums. -/
namespace Cert.SguVal
open Idealize.ShloMosaic Idealize.ShloMosaic.TcCoe Idealize.SL.Sem Cert.SguIdeal Cert.SguIdeal.Gen Cert.Reals Cert.Mix

variable {m : (ℓ : Loc nD τ sig) → Buf (Elt Ideal) ℓ} {ρ : Dev nD → PrngReg} {c : Dev nD} {a : Args} (H : Reads m ρ c a)

theorem tri (p s : Fin 128) : (show IVec S128x128 1 from W8 m ρ c (Proc.devRef .tc main_v1)) (ix2 p s) = if s.val ≤ p.val then 1#1 else 0#1 := by
  rw [show W8 m ρ c (Proc.devRef .tc main_v1) = _ from (W8_of m ρ c main_v1 (by decide)).trans ((W7_of m ρ c main_v1 (by decide)).trans (W6_of m ρ c main_v1 (by decide))),
    show W5 m ρ c (Proc.devRef .tc main_v1) = _ from tri0]
  pointwise [SguRefIdeal.Read.val_main_v50, SguRefIdeal.Read.val_main_v49, SguRefIdeal.Read.val_main_c, SguRefIdeal.Read.val_main_call0_v0, SguRefIdeal.Read.val_main_call0_v1, SguRefIdeal.Read.val_main_call0_v2, SguRefIdeal.Read.val_main_call0_v3, SguRefIdeal.Read.val_main_call0_v4, SguRefIdeal.Read.val_main_call0_v5, SguRefIdeal.Read.val_main_call0_c, SguRefIdeal.Read.val_main_call0_c_0]
  exact tril p s

include H
theorem tail11 : W11 m ρ c (Proc.devRef .tc main_v24) = (fun i => ((∑ r, a.dg (i 0) r : ℝ) : EReal) : FVec Ideal S1024 .f32) := by
  have h := W8_arr m ρ c 11
  unfold W11 W10 W9
  generalize W8 m ρ c = V' at h ⊢
  unfold hostOps2 hostOps2_1 hostOps2_2
  entry_read
  rw [show V' (Proc.devRef .tc main_v18_1) = _ from h.trans (final11 H)]
  funext j; idx_vars j
  pointwise
  simp only [sum_coe, sum_part8]
theorem tail15 : W11 m ρ c (Proc.devRef .tc main_v25) = (fun i => ((∑ r, a.dlg (i 0) r : ℝ) : EReal) : FVec Ideal S2048 .f32) := by
  have h := W8_arr m ρ c 15
  unfold W11 W10 W9
  generalize W8 m ρ c = V' at h ⊢
  unfold hostOps2 hostOps2_1 hostOps2_2
  entry_read
  rw [show V' (Proc.devRef .tc main_v18_5) = _ from h.trans (final15 H)]
  funext j; idx_vars j
  pointwise
  simp only [sum_coe, sum_part8]
theorem tail16 : W11 m ρ c (Proc.devRef .tc main_v26) = (fun i => ((∑ r, a.dlb (i 0) r : ℝ) : EReal) : FVec Ideal S2048 .f32) := by
  have h := W8_arr m ρ c 16
  unfold W11 W10 W9
  generalize W8 m ρ c = V' at h ⊢
  unfold hostOps2 hostOps2_1 hostOps2_2
  entry_read
  rw [show V' (Proc.devRef .tc main_v18_6) = _ from h.trans (final16 H)]
  funext j; idx_vars j
  pointwise
  simp only [sum_coe, sum_part8]
theorem tail14 : W11 m ρ c (Proc.devRef .tc main_v23) = (fun i => ((a.dbs (i 0) (i 1) : ℝ) : EReal) : FVec Ideal S8x128 .f32) := by
  have h := W8_arr m ρ c 14
  unfold W11 W10 W9
  generalize W8 m ρ c = V' at h ⊢
  unfold hostOps2 hostOps2_1 hostOps2_2
  entry_read
  rw [show V' (Proc.devRef .tc main_v18_4) = _ from h.trans (final14 H)]
  funext j; idx_vars j
  pointwise
  simp only [sum_coe]
  exact congrArg (fun x : ℝ => (x : EReal)) Finset.sum_comm
theorem tail13 : W11 m ρ c (Proc.devRef .tc main_v20) = (fun i => ((a.dws (i 0) (i 1) (i 2) : ℝ) : EReal) : FVec Ideal S8x128x128 .f32) := by
  have h := W8_arr m ρ c 13
  have ht (p s : Fin 128) := tri (m := m) (ρ := ρ) (c := c) p s
  unfold W11 W10 W9
  generalize W8 m ρ c = V' at h ht ⊢
  unfold hostOps2 hostOps2_1 hostOps2_2
  entry_read
  rw [show V' (Proc.devRef .tc main_v18_3) = _ from h.trans (final13 H)]
  funext j; idx_vars j
  show select (broadcastInDim S8x128x128 ![0, 1, 2] bcast_S1x128x128_S8x128x128_0_1_2 (broadcastInDim S1x128x128 ![1, 2] bcast_S128x128_S1x128x128_1_2 (show IVec S128x128 1 from V' (Proc.devRef .tc main_v1))))
    ((fun i => ((∑ n, ∑ d, a.dw (i 0) (i 1) (i 2) n d : ℝ) : EReal)) : FVec Ideal S8x128x128 .f32) (broadcastInDim S8x128x128 ![] bcast_S_S8x128x128 (constant (F := Ideal) S_ .f32 0x00000000#32 : FVec Ideal S_ .f32)) (ix3 j0 j1 j2) = _
  pointwise
  rw [ht]
  unfold Args.dws
  by_cases h : j2.val ≤ j1.val
  · rw [if_pos h, if_pos h]; rfl
  · rw [if_neg h, if_neg h]; rfl
theorem tail10 : W11 m ρ c (Proc.devRef .tc main_v18_0) = (fun i => ((a.dm (i 0) (i 1) : ℝ) : EReal) : FVec Ideal S16384x1024 .bf16) := by
  rw [show W11 m ρ c (Proc.devRef .tc main_v18_0) = _ from (W11_of m ρ c main_v18_0 (by decide)).trans ((W10_of m ρ c main_v18_0 (by decide)).trans (W9_of m ρ c main_v18_0 (by decide)))]
  exact (W8_arr m ρ c 10).trans (final10 H)
theorem tail12 : W11 m ρ c (Proc.devRef .tc main_v18_2) = (fun i => ((a.dz (i 0) (i 1) : ℝ) : EReal) : FVec Ideal S16384x4096 .bf16) := by
  rw [show W11 m ρ c (Proc.devRef .tc main_v18_2) = _ from (W11_of m ρ c main_v18_2 (by decide)).trans ((W10_of m ρ c main_v18_2 (by decide)).trans (W9_of m ρ c main_v18_2 (by decide)))]
  exact (W8_arr m ρ c 12).trans (final12 H)
theorem tail0 : W11 m ρ c (Proc.devRef .tc main_v12) = (fun i => ((a.u (i 0) (i 1) * a.mix (i 0) (i 1) : ℝ) : EReal) : FVec Ideal S16384x2048 .bf16) := by
  rw [show W11 m ρ c (Proc.devRef .tc main_v12) = _ from (W11_of m ρ c main_v12 (by decide)).trans ((W10_of m ρ c main_v12 (by decide)).trans ((W9_of m ρ c main_v12 (by decide)).trans ((W8_of m ρ c main_v12 (by decide)).trans (W7_of m ρ c main_v12 (by decide)))))]
  exact (W6_arr m ρ c 5).trans (final0 H)
end Cert.SguVal
end
-- ==== Proof.SguRun.lean ====
module
public import proofs.«01_k».proof.Defs
public import proofs.«01_k».proof.Proof.Gen.SguIdeal.Frame
@[expose] public section
set_option maxRecDepth 16384
noncomputable section
/-! The run of the gating-unit pair's two calls, with what every array holds at the end. -/
namespace Cert.SguVal
open Idealize.ShloMosaic Idealize.ShloMosaic.TcCoe Idealize.ShloMosaic.Tactic Idealize.SL Idealize.SL.RA Idealize.SL.BI Idealize.SL.BI.BIBase Idealize.SL.BI.Laws Idealize.SL.ProofMode Idealize.SL.Sem Idealize.ShloMosaic.Rounds Cert.SguIdeal Cert.SguIdeal.Gen
open scoped Idealize.SL.BI

variable {F : FTy → Type} [FloatOps F] [Named F]
local notation "𝕄" => MT nD τ sig Unit (Elt F) ℕ (UR sig nD τ) ℕ

set_option backward.isDefEq.respectTransparency.types false in
/-- Every run ends with each array of the program at the last boundary's contents and every counter at zero. -/
theorem run_main (m : (ℓ : Loc nD τ sig) → Buf (Elt F) ℓ) (ρ : Dev nD → PrngReg) : θ_run defs (onTc (τ := τ) (main (F := F))) ⟨m, fun _ => 0, ρ⟩ (fun r => (∀ (c : Dev nD) (b : Ref sig .tc),
      ¬ (Proc.devRef .tc b : DevRef τ sig).isScoped → r.2.mem ((c.tc : Thread nD τ).loc b) = W11 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h hz => ⟨fun c b hb => h c _ (mem_uc b hb), funext fun g => hz g (.inr (no_unscoped g.2))⟩)

/-- Every run leaves the arguments. -/
theorem frame_main (m : (ℓ : Loc nD τ sig) → Buf (Elt F) ℓ) (ρ : Dev nD → PrngReg) (c : Dev nD) : ∀ b ∈ argRefs, W11 m ρ c (Proc.devRef .tc b) = m ((c : Thread nD τ).loc b) :=
  W11_args m ρ c
end Cert.SguVal
end
-- ==== Proof.SguClaim.lean ====
module
public import proofs.«01_k».proof.Defs
public import proofs.«01_k».proof.Proof.Finite
public import proofs.«01_k».proof.Proof.SguTail
public import proofs.«01_k».proof.Proof.SguRun
@[expose] public section
set_option maxRecDepth 16384
noncomputable section
/-! The gating unit's forward and backward calls against its plain lines and `jax.vjp`. -/
namespace Cert.SguVal
open Idealize.ShloMosaic Idealize.ShloMosaic.TcCoe Idealize.SL.Sem Cert.Reals Cert.Mix

/-- The named constants have the values the call's words stand for. -/
theorem preserves : Cert.preserves_Sgu_SguIdeal :=
  ⟨IdealRules.named_const.statement Cert.SguIdeal.κ "gelu_c01" .f32 _ _ rfl, IdealRules.named_const.statement Cert.SguIdeal.κ "gelu_3c01" .f32 _ _ rfl⟩

/-- The side conditions of the precondition's operations. -/
instance preFacts : Cert.Pre_finite_sgu.Facts := by constructor <;> decide

/-- Under the precondition the arguments are arrays of reals. -/
theorem reals_of_pre (m : (ℓ : Loc Cert.SguIdeal.nD Cert.SguIdeal.τ Cert.SguIdeal.sig) → Buf (Elt Ideal) ℓ) (ρ : Dev Cert.SguIdeal.nD → PrngReg) (h : Cert.Pre_SguIdeal_finite_sgu m) (c : Dev Cert.SguIdeal.nD) :
    ∃ a, Reads m ρ c a := by
  have e := congrFun (h c) (fun a => a.elim0)
  unfold Cert.Pre_finite_sgu.fn Cert.Pre_finite_sgu.fn_part1 Cert.Pre_finite_sgu.fn_part2 at e
  obtain ⟨f6, e7⟩ := IntOp.andi_eq_one.mp e
  obtain ⟨f5, e6⟩ := IntOp.andi_eq_one.mp f6
  obtain ⟨f4, e5⟩ := IntOp.andi_eq_one.mp f5
  obtain ⟨f3, e4⟩ := IntOp.andi_eq_one.mp f4
  obtain ⟨f2, e3⟩ := IntOp.andi_eq_one.mp f3
  obtain ⟨f1, e2⟩ := IntOp.andi_eq_one.mp f2
  obtain ⟨e0, e1⟩ := IntOp.andi_eq_one.mp f1
  obtain ⟨z, h0⟩ := reals2 _ (reals_of_all _ _ _ _ _ e0)
  obtain ⟨lg, h1⟩ := reals1 _ (reals_of_all _ _ _ _ _ e1)
  obtain ⟨lb, h2⟩ := reals1 _ (reals_of_all _ _ _ _ _ e2)
  obtain ⟨w, h3⟩ := reals3 _ (reals_of_all _ _ _ _ _ e3)
  obtain ⟨b, h4⟩ := reals2 _ (reals_of_all _ _ _ _ _ e4)
  obtain ⟨wo, h5⟩ := reals2 _ (reals_of_all _ _ _ _ _ e5)
  obtain ⟨g, h6⟩ := reals1 _ (reals_of_all _ _ _ _ _ e6)
  obtain ⟨q, h7⟩ := reals2 _ (reals_of_all _ _ _ _ _ e7)
  exact ⟨⟨z, lg, lb, w, b, wo, g, q⟩, h0, h1, h2, h3, h4, h5, h6, h7⟩

/-- The reference runs and leaves its arguments; it has no semaphores. -/
theorem frameRef : Cert.quiescent_SguRefIdeal (hSguRefIdeal := Cert.SguRefIdeal.Gen.facts) := fun m ρ _ =>
  (θ_run Cert.SguRefIdeal.defs _ _).mono (fun r h => ⟨fun c => (h c).2.2.2.2.2.2.2.2, sem_eq_zero_of_no_sems (by decide) r.2⟩)
    (Cert.SguRefIdeal.Value.run m ρ)

/-- The reference's arguments, as its lines read them, are the call's. -/
theorem agree {m : (ℓ : Loc Cert.SguIdeal.nD Cert.SguIdeal.τ Cert.SguIdeal.sig) → Buf (Elt Ideal) ℓ} {m' : (ℓ : Loc Cert.SguRefIdeal.nD Cert.SguRefIdeal.τ Cert.SguRefIdeal.sig) → Buf (Elt Ideal) ℓ} {c : Dev Cert.SguIdeal.nD}
    (h : m' ((c.tc : Thread Cert.SguRefIdeal.nD Cert.SguRefIdeal.τ).loc Cert.SguRefIdeal.main_arg0) = m ((c.tc : Thread Cert.SguIdeal.nD Cert.SguIdeal.τ).loc Cert.SguIdeal.main_arg0) ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1) ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2) ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3) ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4) ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5) ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6) ∧ m' ((c.tc : Thread Cert.SguRefIdeal.nD Cert.SguRefIdeal.τ).loc Cert.SguRefIdeal.main_arg7) = m ((c.tc : Thread Cert.SguIdeal.nD Cert.SguIdeal.τ).loc Cert.SguIdeal.main_arg7)) :
    StableHlo.launchContents m' c (Proc.devRef .tc Cert.SguRefIdeal.main_arg0) = m ((c.tc : Thread Cert.SguIdeal.nD Cert.SguIdeal.τ).loc Cert.SguIdeal.main_arg0) ∧ StableHlo.launchContents m' c (Proc.devRef .tc Cert.SguRefIdeal.main_arg1) = m ((c.tc : Thread Cert.SguIdeal.nD Cert.SguIdeal.τ).loc Cert.SguIdeal.main_arg1) ∧ StableHlo.launchContents m' c (Proc.devRef .tc Cert.SguRefIdeal.main_arg2) = m ((c.tc : Thread Cert.SguIdeal.nD Cert.SguIdeal.τ).loc Cert.SguIdeal.main_arg2) ∧ StableHlo.launchContents m' c (Proc.devRef .tc Cert.SguRefIdeal.main_arg3) = m ((c.tc : Thread Cert.SguIdeal.nD Cert.SguIdeal.τ).loc Cert.SguIdeal.main_arg3) ∧ StableHlo.launchContents m' c (Proc.devRef .tc Cert.SguRefIdeal.main_arg4) = m ((c.tc : Thread Cert.SguIdeal.nD Cert.SguIdeal.τ).loc Cert.SguIdeal.main_arg4) ∧ StableHlo.launchContents m' c (Proc.devRef .tc Cert.SguRefIdeal.main_arg5) = m ((c.tc : Thread Cert.SguIdeal.nD Cert.SguIdeal.τ).loc Cert.SguIdeal.main_arg5) ∧ StableHlo.launchContents m' c (Proc.devRef .tc Cert.SguRefIdeal.main_arg6) = m ((c.tc : Thread Cert.SguIdeal.nD Cert.SguIdeal.τ).loc Cert.SguIdeal.main_arg6) ∧ StableHlo.launchContents m' c (Proc.devRef .tc Cert.SguRefIdeal.main_arg7) = m ((c.tc : Thread Cert.SguIdeal.nD Cert.SguIdeal.τ).loc Cert.SguIdeal.main_arg7) := h

set_option maxHeartbeats 2000000 in
/-- The call and the reference have equal results. -/
theorem algebraic : Cert.algebraic_SguIdeal_SguRefIdeal_pre_finite_sgu (hSguIdeal := Cert.SguIdeal.Gen.facts) (hSguRefIdeal := Cert.SguRefIdeal.Gen.facts) (hPre_finite_sgu := preFacts) := by
  pair_intro
  · run_from run_main m g
    · exact hc.1 c Cert.SguIdeal.main_v12 (by decide)
    · exact hc.1 c Cert.SguIdeal.main_v18_0 (by decide)
    · exact hc.1 c Cert.SguIdeal.main_v24 (by decide)
    · exact hc.1 c Cert.SguIdeal.main_v18_2 (by decide)
    · exact hc.1 c Cert.SguIdeal.main_v20 (by decide)
    · exact hc.1 c Cert.SguIdeal.main_v23 (by decide)
    · exact hc.1 c Cert.SguIdeal.main_v25 (by decide)
    · exact hc.1 c Cert.SguIdeal.main_v26 (by decide)
    · exact (hc.1 c Cert.SguIdeal.main_arg0 (by decide)).trans (frame_main m g c _ (by decide))
    · exact (hc.1 c Cert.SguIdeal.main_arg1 (by decide)).trans (frame_main m g c _ (by decide))
    · exact (hc.1 c Cert.SguIdeal.main_arg2 (by decide)).trans (frame_main m g c _ (by decide))
    · exact (hc.1 c Cert.SguIdeal.main_arg3 (by decide)).trans (frame_main m g c _ (by decide))
    · exact (hc.1 c Cert.SguIdeal.main_arg4 (by decide)).trans (frame_main m g c _ (by decide))
    · exact (hc.1 c Cert.SguIdeal.main_arg5 (by decide)).trans (frame_main m g c _ (by decide))
    · exact (hc.1 c Cert.SguIdeal.main_arg6 (by decide)).trans (frame_main m g c _ (by decide))
    · exact (hc.1 c Cert.SguIdeal.main_arg7 (by decide)).trans (frame_main m g c _ (by decide))
  · run_from Cert.SguRefIdeal.Value.run m' g'
    · obtain ⟨a, H⟩ := reals_of_pre m g hpre c
      obtain ⟨e0, e1, e2, e3, e4, e5, e6, e7⟩ := agree (hagree c)
      have ev := Cert.SguRefIdeal.Read.val_main_v156_eq (F := Ideal) (StableHlo.launchContents m' c)
      simp only [e0, e1, e2, e3, e4, e5, e6, e7] at ev
      refine ev.trans (Eq.trans ?_ (tail0 H).symm)
      funext j
      idx_vars j
      exact SguRef.v156 H j0 j1
    · obtain ⟨a, H⟩ := reals_of_pre m g hpre c
      obtain ⟨e0, e1, e2, e3, e4, e5, e6, e7⟩ := agree (hagree c)
      have ev := Cert.SguRefIdeal.Read.val_main_v157_eq (F := Ideal) (StableHlo.launchContents m' c)
      simp only [e0, e1, e2, e3, e4, e5, e6, e7] at ev
      refine ev.trans (Eq.trans ?_ (tail10 H).symm)
      funext j
      idx_vars j
      exact SguRef.v157 H j0 j1
    · obtain ⟨a, H⟩ := reals_of_pre m g hpre c
      obtain ⟨e0, e1, e2, e3, e4, e5, e6, e7⟩ := agree (hagree c)
      have ev := Cert.SguRefIdeal.Read.val_main_v83_eq (F := Ideal) (StableHlo.launchContents m' c)
      simp only [e0, e1, e2, e3, e4, e5, e6, e7] at ev
      refine ev.trans (Eq.trans ?_ (tail11 H).symm)
      funext j
      idx_vars j
      exact SguRef.v83 H j0
    · obtain ⟨a, H⟩ := reals_of_pre m g hpre c
      obtain ⟨e0, e1, e2, e3, e4, e5, e6, e7⟩ := agree (hagree c)
      have ev := Cert.SguRefIdeal.Read.val_main_v158_eq (F := Ideal) (StableHlo.launchContents m' c)
      simp only [e0, e1, e2, e3, e4, e5, e6, e7] at ev
      refine ev.trans (Eq.trans ?_ (tail12 H).symm)
      funext j
      idx_vars j
      exact SguRef.v158 H j0 j1
    · obtain ⟨a, H⟩ := reals_of_pre m g hpre c
      obtain ⟨e0, e1, e2, e3, e4, e5, e6, e7⟩ := agree (hagree c)
      have ev := Cert.SguRefIdeal.Read.val_main_v110_eq (F := Ideal) (StableHlo.launchContents m' c)
      simp only [e0, e1, e2, e3, e4, e5, e6, e7] at ev
      refine ev.trans (Eq.trans ?_ (tail13 H).symm)
      funext j
      idx_vars j
      exact SguRef.v110 H j0 j1 j2
    · obtain ⟨a, H⟩ := reals_of_pre m g hpre c
      obtain ⟨e0, e1, e2, e3, e4, e5, e6, e7⟩ := agree (hagree c)
      have ev := Cert.SguRefIdeal.Read.val_main_v105_eq (F := Ideal) (StableHlo.launchContents m' c)
      simp only [e0, e1, e2, e3, e4, e5, e6, e7] at ev
      refine ev.trans (Eq.trans ?_ (tail14 H).symm)
      funext j
      idx_vars j
      exact SguRef.v105 H j0 j1
    · obtain ⟨a, H⟩ := reals_of_pre m g hpre c
      obtain ⟨e0, e1, e2, e3, e4, e5, e6, e7⟩ := agree (hagree c)
      have ev := Cert.SguRefIdeal.Read.val_main_v120_eq (F := Ideal) (StableHlo.launchContents m' c)
      simp only [e0, e1, e2, e3, e4, e5, e6, e7] at ev
      refine ev.trans (Eq.trans ?_ (tail15 H).symm)
      funext j
      idx_vars j
      exact SguRef.v120 H j0
    · obtain ⟨a, H⟩ := reals_of_pre m g hpre c
      obtain ⟨e0, e1, e2, e3, e4, e5, e6, e7⟩ := agree (hagree c)
      have ev := Cert.SguRefIdeal.Read.val_main_v114_eq (F := Ideal) (StableHlo.launchContents m' c)
      simp only [e0, e1, e2, e3, e4, e5, e6, e7] at ev
      refine ev.trans (Eq.trans ?_ (tail16 H).symm)
      funext j
      idx_vars j
      exact SguRef.v114 H j0
end Cert.SguVal
end
-- ==== Proof.FfnMath.lean ====
module
public import proofs.«01_k».proof.Proof.Reals
@[expose] public section
noncomputable section
/-! The gated feed-forward sublayer over arrays of reals: its forward lines and their gradients. -/
namespace Cert.Gated
open Idealize.ShloMosaic Cert.Reals

/-- The logistic function, in the host's form. -/
def sig (z : ℝ) : ℝ := (1 + Real.exp (-z))⁻¹
theorem one_add_exp_ne (z : ℝ) : 1 + Real.exp (-z) ≠ 0 := (add_pos one_pos (Real.exp_pos _)).ne'
theorem div_sig (z : ℝ) : Ideal.div ((1 : ℝ) : EReal) ((1 + Real.exp (-z) : ℝ) : EReal) = ((sig z : ℝ) : EReal) := by
  rw [div_coe (one_add_exp_ne z), sig, one_div]
def silu (z : ℝ) : ℝ := z * sig z
/-- The derivative of `silu`, with the products in the kernel's order. -/
def siluD (z : ℝ) : ℝ := sig z + silu z - silu z * sig z
theorem siluD_host (q z : ℝ) : q * sig z + z * q * (sig z * (1 - sig z)) = q * siluD z := by
  unfold siluD silu; ring

/-- The arguments. -/
structure Args where
  x : Fin 16384 → Fin 1024 → ℝ
  gp : Fin 1024 → ℝ
  wg : Fin 1024 → Fin 2816 → ℝ
  wu : Fin 1024 → Fin 2816 → ℝ
  wd : Fin 2816 → Fin 1024 → ℝ
  go : Fin 1024 → ℝ
  q : Fin 16384 → Fin 1024 → ℝ
namespace Args
variable (a : Args)
def xh (i : Fin 16384) (k : Fin 1024) : ℝ := a.x i k * rst (a.x i)
def h (i : Fin 16384) (k : Fin 1024) : ℝ := a.xh i k * a.gp k
def gate (i : Fin 16384) (j : Fin 2816) : ℝ := ∑ k, a.h i k * a.wg k j
def up (i : Fin 16384) (j : Fin 2816) : ℝ := ∑ k, a.h i k * a.wu k j
def si (i : Fin 16384) (j : Fin 2816) : ℝ := silu (a.gate i j)
/-- What multiplies the gradient of the product to give the gate's. -/
def da (i : Fin 16384) (j : Fin 2816) : ℝ := a.up i j * siluD (a.gate i j)
def act (i : Fin 16384) (j : Fin 2816) : ℝ := a.si i j * a.up i j
def mm (i : Fin 16384) (k : Fin 1024) : ℝ := ∑ j, a.act i j * a.wd j k
/-- The residual's half of the cotangent. -/
def hq (i : Fin 16384) (k : Fin 1024) : ℝ := 1 / 2 * a.q i k
def dm (i : Fin 16384) (k : Fin 1024) : ℝ := rmsBwd (a.mm i) (fun k => a.hq i k * a.go k) k
def dgo (k : Fin 1024) (i : Fin 16384) : ℝ := a.hq i k * (a.mm i k * rst (a.mm i))
def dact (i : Fin 16384) (j : Fin 2816) : ℝ := ∑ k, a.dm i k * a.wd j k
def dup (i : Fin 16384) (j : Fin 2816) : ℝ := a.dact i j * a.si i j
def dgate (i : Fin 16384) (j : Fin 2816) : ℝ := a.dact i j * a.da i j
def dh (i : Fin 16384) (k : Fin 1024) : ℝ := ∑ j, a.dgate i j * a.wg k j + ∑ j, a.dup i j * a.wu k j
def dx (i : Fin 16384) (k : Fin 1024) : ℝ := a.q i k + rmsBwd (a.x i) (fun k => a.dh i k * a.gp k) k
def dgp (k : Fin 1024) (i : Fin 16384) : ℝ := a.dh i k * a.xh i k
end Args
end Cert.Gated
end
-- ==== Proof.FfnRef.lean ====
module
public import proofs.«01_k».proof.Proof.FfnMath
public import proofs.«01_k».proof.Proof.Gen.FfnRefIdeal.Read
public import Idealize.ShloMosaic.Lib.Pointwise
@[expose] public section
set_option maxRecDepth 16384
noncomputable section
/-! The feed-forward sublayer's reference over arrays of reals. -/
namespace Cert.FfnRef
open Idealize.ShloMosaic Idealize.ShloMosaic.TcCoe Idealize.SL.Sem Cert.FfnRefIdeal Cert.FfnRefIdeal.Read Cert.Reals Cert.Gated

/-- The seven arguments are arrays of reals. -/
structure Real (a : Args) (x : (⟨S16384x1024, .f32⟩ : BufTy).Contents (Elt Ideal)) (gp : (⟨S1024, .f32⟩ : BufTy).Contents (Elt Ideal)) (wg wu : (⟨S1024x2816, .f32⟩ : BufTy).Contents (Elt Ideal))
    (wd : (⟨S2816x1024, .f32⟩ : BufTy).Contents (Elt Ideal)) (go : (⟨S1024, .f32⟩ : BufTy).Contents (Elt Ideal)) (q : (⟨S16384x1024, .f32⟩ : BufTy).Contents (Elt Ideal)) : Prop where
  x : ∀ i k, x (ix2 i k) = ((a.x i k : ℝ) : EReal)
  gp : ∀ k, gp (ix1 k) = ((a.gp k : ℝ) : EReal)
  wg : ∀ i k, wg (ix2 i k) = ((a.wg i k : ℝ) : EReal)
  wu : ∀ i k, wu (ix2 i k) = ((a.wu i k : ℝ) : EReal)
  wd : ∀ i k, wd (ix2 i k) = ((a.wd i k : ℝ) : EReal)
  go : ∀ k, go (ix1 k) = ((a.go k : ℝ) : EReal)
  q : ∀ i k, q (ix2 i k) = ((a.q i k : ℝ) : EReal)

variable {a : Args} {x : (⟨S16384x1024, .f32⟩ : BufTy).Contents (Elt Ideal)} {gp : (⟨S1024, .f32⟩ : BufTy).Contents (Elt Ideal)} {wg wu : (⟨S1024x2816, .f32⟩ : BufTy).Contents (Elt Ideal)}
    {wd : (⟨S2816x1024, .f32⟩ : BufTy).Contents (Elt Ideal)} {go : (⟨S1024, .f32⟩ : BufTy).Contents (Elt Ideal)} {q : (⟨S16384x1024, .f32⟩ : BufTy).Contents (Elt Ideal)} (H : Real a x gp wg wu wd go q)
include H

theorem v6 (i : Fin 16384) (o : Fin 1) : val_main_v6 (F := Ideal) x (ix2 i o) = ((ms (a.x i) : ℝ) : EReal) := by
  pointwise [val_main_v6, val_main_v5, val_main_v4, val_main_v3, val_main_v2, val_main_v1, val_main_v0, val_main_cst, val_main_cst_0, val_main_cst_1]
  simp only [H.x, ← EReal.coe_mul, sum_coe, ofBits_eps, ofBits_1024, div_1024, ← EReal.coe_add]
  rfl
theorem v7 (i : Fin 16384) (o : Fin 1) : val_main_v7 (F := Ideal) x (ix2 i o) = ((rst (a.x i) : ℝ) : EReal) := by
  pointwise [val_main_v7]
  rw [v6 H]
  exact rsqrt_ms _
theorem v10 (i : Fin 16384) (o : Fin 1) : val_main_v10 (F := Ideal) x (ix2 i o) = ((-(1 / 2) * (rst (a.x i) / ms (a.x i)) : ℝ) : EReal) := by
  pointwise [val_main_v10, val_main_v9, val_main_v8, val_main_cst_2]
  rw [v6 H, v7 H, div_coe (ms_pos _).ne', ofBits_neg_half, ← EReal.coe_mul]
theorem v12 (i : Fin 16384) (k : Fin 1024) : val_main_v12 (F := Ideal) x (ix2 i k) = ((a.xh i k : ℝ) : EReal) := by
  pointwise [val_main_v12, val_main_v11]
  rw [v7 H, H.x, ← EReal.coe_mul]; rfl
theorem v15 (i : Fin 16384) (k : Fin 1024) : val_main_v15 (F := Ideal) x gp (ix2 i k) = ((a.h i k : ℝ) : EReal) := by
  pointwise [val_main_v15, val_main_v14, val_main_v13]
  rw [v12 H, H.gp, ← EReal.coe_mul]; rfl
theorem v16 (i : Fin 16384) (j : Fin 2816) : val_main_v16 (F := Ideal) x gp wg (ix2 i j) = ((a.gate i j : ℝ) : EReal) := by
  pointwise [val_main_v16]
  simp only [v15 H, H.wg, ← EReal.coe_mul, sum_coe]; rfl
theorem v17 (i : Fin 16384) (j : Fin 2816) : val_main_v17 (F := Ideal) x gp wu (ix2 i j) = ((a.up i j : ℝ) : EReal) := by
  pointwise [val_main_v17]
  simp only [v15 H, H.wu, ← EReal.coe_mul, sum_coe]; rfl
/-- The logistic function of the gate. -/
theorem v18_2 (i : Fin 16384) (j : Fin 2816) : val_main_v18_2 (F := Ideal) x gp wg (ix2 i j) = ((sig (a.gate i j) : ℝ) : EReal) := by
  pointwise [val_main_v18_2, val_main_call0_v4, val_main_call0_v3, val_main_call0_v2, val_main_call0_v1, val_main_call0_v0, val_main_call0_cst, val_main_call0_cst_0]
  simp only [v16 H, ofBits_one, ← EReal.coe_neg, Ideal.exp_coe, ← EReal.coe_one, ← EReal.coe_add, div_sig]
theorem v18_1 (i : Fin 16384) (j : Fin 2816) : val_main_v18_1 (F := Ideal) x gp wg (ix2 i j) = ((sig (a.gate i j) * (1 - sig (a.gate i j)) : ℝ) : EReal) := by
  pointwise [val_main_v18_1, val_main_call0_v7, val_main_call0_v6, val_main_call0_cst_1]
  simp only [v18_2 H, ofBits_one, ← EReal.coe_one, ← EReal.coe_sub, ← EReal.coe_mul]
theorem v18_0 (i : Fin 16384) (j : Fin 2816) : val_main_v18_0 (F := Ideal) x gp wg (ix2 i j) = ((a.si i j : ℝ) : EReal) := by
  pointwise [val_main_v18_0]
  rw [v18_2 H, v16 H, ← EReal.coe_mul]; rfl
theorem v19 (i : Fin 16384) (j : Fin 2816) : val_main_v19 (F := Ideal) x gp wg wu (ix2 i j) = ((a.act i j : ℝ) : EReal) := by
  pointwise [val_main_v19]
  rw [v18_0 H, v17 H, ← EReal.coe_mul]; rfl
theorem v20 (i : Fin 16384) (k : Fin 1024) : val_main_v20 (F := Ideal) x gp wg wu wd (ix2 i k) = ((a.mm i k : ℝ) : EReal) := by
  pointwise [val_main_v20]
  simp only [v19 H, H.wd, ← EReal.coe_mul, sum_coe]; rfl
theorem v27 (i : Fin 16384) (o : Fin 1) : val_main_v27 (F := Ideal) x gp wg wu wd (ix2 i o) = ((ms (a.mm i) : ℝ) : EReal) := by
  pointwise [val_main_v27, val_main_v26, val_main_v25, val_main_v24, val_main_v23, val_main_v22, val_main_v21, val_main_cst_3, val_main_cst_4, val_main_cst_5]
  simp only [v20 H, ← EReal.coe_mul, sum_coe, ofBits_eps, ofBits_1024, div_1024, ← EReal.coe_add]
  rfl
theorem v28 (i : Fin 16384) (o : Fin 1) : val_main_v28 (F := Ideal) x gp wg wu wd (ix2 i o) = ((rst (a.mm i) : ℝ) : EReal) := by
  pointwise [val_main_v28]
  rw [v27 H]
  exact rsqrt_ms _
theorem v31 (i : Fin 16384) (o : Fin 1) : val_main_v31 (F := Ideal) x gp wg wu wd (ix2 i o) = ((-(1 / 2) * (rst (a.mm i) / ms (a.mm i)) : ℝ) : EReal) := by
  pointwise [val_main_v31, val_main_v30, val_main_v29, val_main_cst_6]
  rw [v27 H, v28 H, div_coe (ms_pos _).ne', ofBits_neg_half, ← EReal.coe_mul]
theorem v42 (i : Fin 16384) (k : Fin 1024) : val_main_v42 (F := Ideal) q (ix2 i k) = ((a.hq i k : ℝ) : EReal) := by
  pointwise [val_main_v42, val_main_v41, val_main_v40, val_main_cst_8]
  rw [H.q, ofBits_half, ← EReal.coe_mul]; rfl
theorem v48 (k : Fin 1024) : val_main_v48 (F := Ideal) x gp wg wu wd q (ix1 k) = ((∑ i, a.dgo k i : ℝ) : EReal) := by
  pointwise [val_main_v48, val_main_v45, val_main_v44, val_main_v43, val_main_v33, val_main_v32, val_main_cst_9, val_main_cst_10]
  simp only [Finset.univ_unique, Finset.sum_singleton, v20 H, v28 H, v42 H, ← EReal.coe_mul, sum_coe]
  exact congrArg _ (Finset.sum_congr rfl fun i _ => mul_comm _ _)
theorem v62 (i : Fin 16384) (k : Fin 1024) : val_main_v62 (F := Ideal) x gp wg wu wd go q (ix2 i k) = ((a.dm i k : ℝ) : EReal) := by
  pointwise [val_main_v62, val_main_v61, val_main_v60, val_main_v59, val_main_v58, val_main_v57, val_main_v56, val_main_v55, val_main_v54, val_main_v53, val_main_v52, val_main_v51, val_main_v50, val_main_v49, val_main_v47, val_main_v46, val_main_v34, val_main_cst_11, val_main_cst_12, val_main_cst_13]
  simp only [Finset.univ_unique, Finset.sum_singleton, v20 H, v28 H, v31 H, v42 H, H.go, ← EReal.coe_mul, sum_coe, ofBits_1024, div_1024, ← EReal.coe_add]
  exact congrArg _ (rmsBwd_chain (a.mm i) (fun k => a.hq i k * a.go k) k)
theorem v63 (i : Fin 16384) (j : Fin 2816) : val_main_v63 (F := Ideal) x gp wg wu wd go q (ix2 i j) = ((a.dact i j : ℝ) : EReal) := by
  pointwise [val_main_v63]
  simp only [v62 H, H.wd, ← EReal.coe_mul, sum_coe]; rfl
theorem v64 (i : Fin 16384) (j : Fin 2816) : val_main_v64 (F := Ideal) x gp wg wu wd go q (ix2 i j) = ((a.dup i j : ℝ) : EReal) := by
  pointwise [val_main_v64]
  rw [v63 H, v18_0 H, ← EReal.coe_mul, mul_comm]; rfl
theorem v66 (i : Fin 16384) (j : Fin 2816) : val_main_v66 (F := Ideal) x gp wg wu wd go q (ix2 i j) = ((a.dgate i j : ℝ) : EReal) := by
  pointwise [val_main_v66, val_main_call1_v2, val_main_call1_v1, val_main_call1_v0, val_main_v65]
  simp only [v63 H, v16 H, v17 H, v18_1 H, v18_2 H, ← EReal.coe_mul, ← EReal.coe_add]
  rw [siluD_host, mul_assoc]; rfl
theorem v69 (i : Fin 16384) (k : Fin 1024) : val_main_v69 (F := Ideal) x gp wg wu wd go q (ix2 i k) = ((a.dh i k : ℝ) : EReal) := by
  pointwise [val_main_v69, val_main_v68, val_main_v67]
  simp only [v64 H, v66 H, H.wg, H.wu, ← EReal.coe_mul, sum_coe, ← EReal.coe_add]; rfl
theorem v75 (k : Fin 1024) : val_main_v75 (F := Ideal) x gp wg wu wd go q (ix1 k) = ((∑ i, a.dgp k i : ℝ) : EReal) := by
  pointwise [val_main_v75, val_main_v72, val_main_v71, val_main_v70, val_main_cst_14, val_main_cst_15]
  simp only [Finset.univ_unique, Finset.sum_singleton, v12 H, v69 H, ← EReal.coe_mul, sum_coe]
  exact congrArg _ (Finset.sum_congr rfl fun i _ => mul_comm _ _)
theorem v94 (i : Fin 16384) (k : Fin 1024) : val_main_v94 (F := Ideal) x gp wg wu wd go q (ix2 i k) = ((a.dx i k : ℝ) : EReal) := by
  pointwise [val_main_v94, val_main_v89, val_main_v88, val_main_v87, val_main_v86, val_main_v85, val_main_v84, val_main_v83, val_main_v82, val_main_v81, val_main_v80, val_main_v79, val_main_v78, val_main_v77, val_main_v76, val_main_v74, val_main_v73, val_main_v13, val_main_cst_16, val_main_cst_17, val_main_cst_18]
  simp only [Finset.univ_unique, Finset.sum_singleton, v7 H, v10 H, v69 H, H.gp, H.x, H.q, ← EReal.coe_mul, sum_coe, ofBits_1024, div_1024, ← EReal.coe_add]
  exact congrArg (fun y : ℝ => ((a.q i k + y : ℝ) : EReal)) (rmsBwd_chain (a.x i) (fun k => a.dh i k * a.gp k) k)
theorem v90 (i : Fin 16384) (j : Fin 2816) : val_main_v90 (F := Ideal) x gp wg wu (ix2 i j) = ((a.act i j : ℝ) : EReal) := by
  pointwise [val_main_v90]; exact v19 H i j
theorem v91 (i : Fin 16384) (k : Fin 1024) : val_main_v91 (F := Ideal) x gp wg wu wd go q (ix2 i k) = ((a.dm i k : ℝ) : EReal) := by
  pointwise [val_main_v91]; exact v62 H i k
theorem v92 (i : Fin 16384) (j : Fin 2816) : val_main_v92 (F := Ideal) x gp wg wu wd go q (ix2 i j) = ((a.dgate i j : ℝ) : EReal) := by
  pointwise [val_main_v92]; exact v66 H i j
theorem v93 (i : Fin 16384) (j : Fin 2816) : val_main_v93 (F := Ideal) x gp wg wu wd go q (ix2 i j) = ((a.dup i j : ℝ) : EReal) := by
  pointwise [val_main_v93]; exact v64 H i j
theorem v95 (i : Fin 16384) (k : Fin 1024) : val_main_v95 (F := Ideal) x gp (ix2 i k) = ((a.h i k : ℝ) : EReal) := by
  pointwise [val_main_v95]; exact v15 H i k
end Cert.FfnRef
end
-- ==== Proof.FfnRun.lean ====
module
public import proofs.«01_k».proof.Defs
public import proofs.«01_k».proof.Proof.Gen.FfnIdeal.Frame
@[expose] public section
set_option maxRecDepth 16384
noncomputable section
/-! The run of the feed-forward pair's two calls, with what every array holds at the end. -/
namespace Cert.FfnVal
open Idealize.ShloMosaic Idealize.ShloMosaic.TcCoe Idealize.ShloMosaic.Tactic Idealize.SL Idealize.SL.RA Idealize.SL.BI Idealize.SL.BI.BIBase Idealize.SL.BI.Laws Idealize.SL.ProofMode Idealize.SL.Sem Idealize.ShloMosaic.Rounds Cert.FfnIdeal Cert.FfnIdeal.Gen
open scoped Idealize.SL.BI

variable {F : FTy → Type} [FloatOps F]
local notation "𝕄" => MT nD τ sig Unit (Elt F) ℕ (UR sig nD τ) ℕ

set_option backward.isDefEq.respectTransparency.types false in
/-- Every run ends with each array of the program at the last boundary's contents and every counter at zero. -/
theorem run_main (m : (ℓ : Loc nD τ sig) → Buf (Elt F) ℓ) (ρ : Dev nD → PrngReg) : θ_run defs (onTc (τ := τ) (main (F := F))) ⟨m, fun _ => 0, ρ⟩ (fun r => (∀ (c : Dev nD) (b : Ref sig .tc),
      ¬ (Proc.devRef .tc b : DevRef τ sig).isScoped → r.2.mem ((c.tc : Thread nD τ).loc b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h hz => ⟨fun c b hb => h c _ (mem_uc b hb), funext fun g => hz g (.inr (no_unscoped g.2))⟩)

/-- Every run leaves the arguments. -/
theorem frame_main (m : (ℓ : Loc nD τ sig) → Buf (Elt F) ℓ) (ρ : Dev nD → PrngReg) (c : Dev nD) : ∀ b ∈ argRefs, W5 m ρ c (Proc.devRef .tc b) = m ((c : Thread nD τ).loc b) :=
  W5_args m ρ c
end Cert.FfnVal
end
-- ==== Proof.FfnIn.lean ====
module
public import proofs.«01_k».proof.Proof.FfnRef
public import proofs.«01_k».proof.Proof.FfnRun
public import Idealize.ShloMosaic.Lib.Pipeline.ValueKit
public import Idealize.ShloMosaic.Lib.Pipeline.ReadBack
public import Idealize.ShloMosaic.Lib.Claim
@[expose] public section
set_option maxRecDepth 16384
noncomputable section
/-! The first call of the pair: its blocks, and the three arrays it saves. -/
namespace Cert.FfnVal
open Idealize.ShloMosaic Idealize.ShloMosaic.TcCoe Idealize.SL.Sem Cert.FfnIdeal Cert.FfnIdeal.Gen Cert.Reals Cert.Gated

theorem idx0 : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)
theorem lt32 (t : Fin cfg0.N) : t.val < 32 := lt_of_lt_of_eq t.isLt (by decide +kernel)
/-- The array row of row `r` of block `t`. -/
def row0 (t : Fin cfg0.N) (r : Fin 512) : Fin 16384 := ⟨t.val * 512 + r.val, by have := lt32 t; omega⟩

variable {m : (ℓ : Loc nD τ sig) → Buf (Elt Ideal) ℓ} {ρ : Dev nD → PrngReg} {c : Dev nD} {a : Args}

/-- The seven arguments are arrays of reals. -/
abbrev Reads (m : (ℓ : Loc nD τ sig) → Buf (Elt Ideal) ℓ) (c : Dev nD) (a : Args) : Prop :=
  FfnRef.Real a (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-! What the host hands to the calls. -/

theorem h0 (H : Reads m c a) (z : Fin 1) (k : Fin 1024) : (show FVec Ideal S1x1024 .f32 from W1 m ρ c (Proc.devRef .tc main_v0)) (ix2 z k) = ((a.gp k : ℝ) : EReal) := by
  unfold W1 hostOps0; entry_read; pointwise; exact H.gp _
theorem h2 (H : Reads m c a) (j : Fin 2816) (k : Fin 1024) : (show FVec Ideal S2816x1024 .bf16 from W1 m ρ c (Proc.devRef .tc main_v2)) (ix2 j k) = ((a.wg k j : ℝ) : EReal) := by
  unfold W1 hostOps0; entry_read; pointwise; exact H.wg _ _
theorem h4 (H : Reads m c a) (j : Fin 2816) (k : Fin 1024) : (show FVec Ideal S2816x1024 .bf16 from W1 m ρ c (Proc.devRef .tc main_v4)) (ix2 j k) = ((a.wu k j : ℝ) : EReal) := by
  unfold W1 hostOps0; entry_read; pointwise; exact H.wu _ _
theorem h5 (H : Reads m c a) (j : Fin 2816) (k : Fin 1024) : (show FVec Ideal S2816x1024 .bf16 from W1 m ρ c (Proc.devRef .tc main_v5)) (ix2 j k) = ((a.wd j k : ℝ) : EReal) := by
  unfold W1 hostOps0; entry_read; pointwise; exact H.wd _ _

theorem b0 (H : Reads m c a) (t : Fin cfg0.N) (r : Fin 512) (k : Fin 1024) : (show FVec Ideal S512x1024 .f32 from iblk0 (V1 m ρ) c 0 t) (ix2 r k) = ((a.x (row0 t r) k : ℝ) : EReal) := by
  have e : (show FVec Ideal S512x1024 .f32 from iblk0 (V1 m ρ) c 0 t) (ix2 r k) = (show FVec Ideal S16384x1024 .f32 from V1 m ρ c main_arg0) (ix2 (row0 t r) k) := by blk_ext [iblk0, idx0 t, row0]
  rw [e, show V1 m ρ c main_arg0 = _ from W1_args m ρ c main_arg0 (by decide)]; exact H.x _ _
theorem b1 (H : Reads m c a) (t : Fin cfg0.N) (z : Fin 1) (k : Fin 1024) : (show FVec Ideal S1x1024 .f32 from iblk0 (V1 m ρ) c 1 t) (ix2 z k) = ((a.gp k : ℝ) : EReal) := by
  rw [← h0 (ρ := ρ) H z k]; blk_ext [iblk0, idx0 t]
theorem b2 (H : Reads m c a) (t : Fin cfg0.N) (j : Fin 2816) (k : Fin 1024) : (show FVec Ideal S2816x1024 .bf16 from iblk0 (V1 m ρ) c 2 t) (ix2 j k) = ((a.wg k j : ℝ) : EReal) := by
  rw [← h2 (ρ := ρ) H j k]; blk_ext [iblk0, idx0 t]
theorem b3 (H : Reads m c a) (t : Fin cfg0.N) (j : Fin 2816) (k : Fin 1024) : (show FVec Ideal S2816x1024 .bf16 from iblk0 (V1 m ρ) c 3 t) (ix2 j k) = ((a.wu k j : ℝ) : EReal) := by
  rw [← h4 (ρ := ρ) H j k]; blk_ext [iblk0, idx0 t]

/-! A slice of 256 columns. -/

theorem zero2 : (![0, 0] : Fin 2 → ℕ) = fun _ => 0 := by funext b; match b with | ⟨0, _⟩ => rfl | ⟨1, _⟩ => rfl

/-- Rows of a weight, loaded from `off`. -/
theorem ld_rows {X : Vec Ideal S2816x1024 .bf16} {W : Fin 2816 → Fin 1024 → ℝ} (hX : ∀ j k, X (ix2 j k) = ((W j k : ℝ) : EReal)) {off : Fin 2 → ℕ} {inb} (h1 : off 1 = 0)
    (x : Fin 256) (k : Fin 1024) (j : Fin 2816) (hj : j.val = off 0 + x.val) : View.ld X (Rect.unit (s := S2816x1024) off S256x1024.size inb) (ix2 x k) = ((W j k : ℝ) : EReal) := by
  rw [← hX j k]
  refine congrArg X (funext fun b => Fin.ext ?_)
  match b with
  | ⟨0, _⟩ => exact (ValueKit.rect_emb_unit_val (s := S2816x1024) off S256x1024.size inb (ix2 x k) 0).trans hj.symm
  | ⟨1, _⟩ => exact (ValueKit.rect_emb_unit_val (s := S2816x1024) off S256x1024.size inb (ix2 x k) 1).trans (by rw [h1]; exact Nat.zero_add k.val)
/-- A block written in pieces holds at an index what the piece covering it holds there. -/
theorem canon_pieces {s : Shape} {e : EltTy} (G : s.Idx → Elt Ideal e) {L : List (View.Piece (Elt Ideal) s e)} (h : View.PiecesOf G L) (y : s.Idx) (hc : ∃ p ∈ L, y ∈ p.1.set) : View.canon L y = G y :=
  View.canon_apply_of_pieces G L h.mem y hc
/-- A block of 2816 columns, entry by entry. -/
def wide {n : ℕ} (G : Fin n → Fin 2816 → EReal) : (⟨2, ![n, 2816]⟩ : Shape).Idx → EReal := fun i => G (i 0) (i 1)
/-- A slice of columns holds a block's entries where it lies. -/
theorem cols_of (n : ℕ) {G : Fin n → Fin 2816 → EReal} {off : Fin 2 → ℕ} {inb} {f : (⟨2, ![n, 256]⟩ : Shape).Idx → EReal} (h0 : off 0 = 0)
    (h : ∀ (r : Fin n) (x : Fin 256) (k : Fin 2816), k.val = off 1 + x.val → f (ix2 r x) = G r k) (x : (⟨2, ![n, 256]⟩ : Shape).Idx) :
    f x = wide G ((Rect.unit (s := ⟨2, ![n, 2816]⟩) off ![n, 256] inb).emb x) := by
  obtain ⟨x0, x1, rfl⟩ : ∃ x0 x1, x = ix2 x0 x1 := ⟨x 0, x 1, by funext b; match b with | ⟨0, _⟩ => rfl | ⟨1, _⟩ => rfl⟩
  have e : ((Rect.unit (s := ⟨2, ![n, 2816]⟩) off ![n, 256] inb).emb (ix2 x0 x1)) 0 = x0 :=
    Fin.ext ((ValueKit.rect_emb_unit_val (s := ⟨2, ![n, 2816]⟩) off ![n, 256] inb (ix2 x0 x1) 0).trans (by rw [h0]; exact Nat.zero_add x0.val))
  unfold wide
  rw [e]
  exact h x0 x1 _ (ValueKit.rect_emb_unit_val (s := ⟨2, ![n, 2816]⟩) off ![n, 256] inb (ix2 x0 x1) 1)

section
variable (H : Reads m c a) (t : Fin cfg0.N)
include H
/-- The normed rows. -/
theorem hrow (r : Fin 512) (k : Fin 1024) : k0_pay8 (F := Ideal) (View.ld (iblk0 (V1 m ρ) c 0 t) r0_0) (View.ld (iblk0 (V1 m ρ) c 1 t) r0_1) (ix2 r k) = ((a.h (row0 t r) k : ℝ) : EReal) := by
  rw [show View.ld (iblk0 (V1 m ρ) c 0 t) r0_0 = iblk0 (V1 m ρ) c 0 t from View.ld_unit_zero zero2 _ _, show View.ld (iblk0 (V1 m ρ) c 1 t) r0_1 = iblk0 (V1 m ρ) c 1 t from View.ld_unit_zero zero2 _ _]
  pointwise [k0_pay8]
  simp only [b0 H, b1 H, ← EReal.coe_mul, sum_coe, ofBits_eps, ofBits_1024, div_1024, ← EReal.coe_add]
  rw [rsqrt_ms, ← EReal.coe_mul, ← EReal.coe_mul]; rfl
end

section
variable {h : Vec Ideal S512x1024 .bf16} {i : Fin 512 → Fin 16384} (hh : ∀ r k, h (ix2 r k) = ((a.h (i r) k : ℝ) : EReal))
  {w w' : Vec Ideal S256x1024 .bf16} {x : Fin 256} {j : Fin 2816} (hw : ∀ k, w (ix2 x k) = ((a.wg k j : ℝ) : EReal)) (hw' : ∀ k, w' (ix2 x k) = ((a.wu k j : ℝ) : EReal))
include hh hw
theorem gate_slice (r : Fin 512) : k0_pay1 (F := Ideal) h w (ix2 r x) = ((a.gate (i r) j : ℝ) : EReal) := by
  pointwise [k0_pay1]
  simp only [hh, hw, ← EReal.coe_mul, sum_coe]; rfl
theorem sig_slice (r : Fin 512) : k0_pay3 (F := Ideal) h w (ix2 r x) = ((sig (a.gate (i r) j) : ℝ) : EReal) := by
  pointwise [k0_pay3]
  rw [gate_slice hh hw, Ideal.logistic_coe]; rfl
theorem silu_slice (r : Fin 512) : k0_pay5 (F := Ideal) h w (ix2 r x) = ((a.si (i r) j : ℝ) : EReal) := by
  pointwise [k0_pay5, k0_pay4]
  rw [gate_slice hh hw, sig_slice hh hw, ← EReal.coe_mul]; rfl
include hw'
theorem act_slice (r : Fin 512) : k0_pay6 (F := Ideal) h w w' (ix2 r x) = ((a.act (i r) j : ℝ) : EReal) := by
  have hu : k0_pay2 (F := Ideal) h w' (ix2 r x) = ((a.up (i r) j : ℝ) : EReal) := by
    pointwise [k0_pay2]
    simp only [hh, hw', ← EReal.coe_mul, sum_coe]; rfl
  pointwise [k0_pay6, k0_pay4]
  rw [gate_slice hh hw, sig_slice hh hw, hu, ← EReal.coe_mul, ← EReal.coe_mul]; rfl
theorem da_slice (r : Fin 512) : k0_pay7 (F := Ideal) h w w' (ix2 r x) = ((a.da (i r) j : ℝ) : EReal) := by
  have hu : k0_pay2 (F := Ideal) h w' (ix2 r x) = ((a.up (i r) j : ℝ) : EReal) := by
    pointwise [k0_pay2]
    simp only [hh, hw', ← EReal.coe_mul, sum_coe]; rfl
  pointwise [k0_pay7, k0_pay4]
  rw [gate_slice hh hw, sig_slice hh hw, hu]
  simp only [← EReal.coe_mul, ← EReal.coe_add, ← EReal.coe_sub]; rfl
end

section
variable (H : Reads m c a) (t : Fin cfg0.N)
include H
theorem out4 (r : Fin 512) (j : Fin 2816) : out0_4 (F := Ideal) (iblk0 (V1 m ρ) c 0 t) (iblk0 (V1 m ρ) c 1 t) (iblk0 (V1 m ρ) c 2 t) (iblk0 (V1 m ρ) c 3 t) (ix2 r j) = ((a.si (row0 t r) j : ℝ) : EReal) := by
  have hh := hrow (ρ := ρ) H t
  have hg := b2 (ρ := ρ) H t
  unfold out0_4
  refine canon_pieces (s := S512x2816) (e := .bf16) (wide fun r k => ((a.si (row0 t r) k : ℝ) : EReal)) ?_ (ix2 r j) ?_
  on_goal 2 => exact View.cover_of_tiled _ ![512, 256] rfl _
  repeat' (refine And.intro ?_ ?_)
  on_goal 12 => exact trivial
  all_goals exact cols_of 512 (inb := by decide) rfl fun r x k hk => silu_slice hh (fun k' => ld_rows hg rfl x k' k hk) r
theorem out5 (r : Fin 512) (j : Fin 2816) : out0_5 (F := Ideal) (iblk0 (V1 m ρ) c 0 t) (iblk0 (V1 m ρ) c 1 t) (iblk0 (V1 m ρ) c 2 t) (iblk0 (V1 m ρ) c 3 t) (ix2 r j) = ((a.da (row0 t r) j : ℝ) : EReal) := by
  have hh := hrow (ρ := ρ) H t
  have hg := b2 (ρ := ρ) H t
  have hu := b3 (ρ := ρ) H t
  unfold out0_5
  refine canon_pieces (s := S512x2816) (e := .bf16) (wide fun r k => ((a.da (row0 t r) k : ℝ) : EReal)) ?_ (ix2 r j) ?_
  on_goal 2 => exact View.cover_of_tiled _ ![512, 256] rfl _
  repeat' (refine And.intro ?_ ?_)
  on_goal 12 => exact trivial
  all_goals exact cols_of 512 (inb := by decide) rfl fun r x k hk => da_slice hh (fun k' => ld_rows hg rfl x k' k hk) (fun k' => ld_rows hu rfl x k' k hk) r
theorem out6 (r : Fin 512) (j : Fin 2816) : out0_6 (F := Ideal) (iblk0 (V1 m ρ) c 0 t) (iblk0 (V1 m ρ) c 1 t) (iblk0 (V1 m ρ) c 2 t) (iblk0 (V1 m ρ) c 3 t) (ix2 r j) = ((a.act (row0 t r) j : ℝ) : EReal) := by
  have hh := hrow (ρ := ρ) H t
  have hg := b2 (ρ := ρ) H t
  have hu := b3 (ρ := ρ) H t
  unfold out0_6
  refine canon_pieces (s := S512x2816) (e := .bf16) (wide fun r k => ((a.act (row0 t r) k : ℝ) : EReal)) ?_ (ix2 r j) ?_
  on_goal 2 => exact View.cover_of_tiled _ ![512, 256] rfl _
  repeat' (refine And.intro ?_ ?_)
  on_goal 12 => exact trivial
  all_goals exact cols_of 512 (inb := by decide) rfl fun r x k hk => act_slice hh (fun k' => ld_rows hg rfl x k' k hk) (fun k' => ld_rows hu rfl x k' k hk) r

omit t
theorem final4 : (dat0 (V1 m ρ) c).arrAt 4 cfg0.N = (show FVec Ideal S16384x2816 .bf16 from fun y : S16384x2816.Idx => ((a.si (y 0) (y 1) : ℝ) : EReal)) := by
  refine (dat0 (V1 m ρ) c).arrAt_eq_of_covers 4 _ (by decide +kernel) fun t hf y => ?_
  have e (y0 : Fin 512) (y1 : Fin 2816) : ((cfg0.win 4).blk t).view.emb (ix2 y0 y1) = (ix2 (row0 t y0) y1 : S16384x2816.Idx) := by blk_ext [idx0 t, row0]
  blk_simp
  rw [after0_4]
  idx_vars y
  rw [e]
  exact out4 H t y0 y1
theorem final5 : (dat0 (V1 m ρ) c).arrAt 5 cfg0.N = (show FVec Ideal S16384x2816 .bf16 from fun y : S16384x2816.Idx => ((a.da (y 0) (y 1) : ℝ) : EReal)) := by
  refine (dat0 (V1 m ρ) c).arrAt_eq_of_covers 5 _ (by decide +kernel) fun t hf y => ?_
  have e (y0 : Fin 512) (y1 : Fin 2816) : ((cfg0.win 5).blk t).view.emb (ix2 y0 y1) = (ix2 (row0 t y0) y1 : S16384x2816.Idx) := by blk_ext [idx0 t, row0]
  blk_simp
  rw [after0_5]
  idx_vars y
  rw [e]
  exact out5 H t y0 y1
theorem final6 : (dat0 (V1 m ρ) c).arrAt 6 cfg0.N = (show FVec Ideal S16384x2816 .bf16 from fun y : S16384x2816.Idx => ((a.act (y 0) (y 1) : ℝ) : EReal)) := by
  refine (dat0 (V1 m ρ) c).arrAt_eq_of_covers 6 _ (by decide +kernel) fun t hf y => ?_
  have e (y0 : Fin 512) (y1 : Fin 2816) : ((cfg0.win 6).blk t).view.emb (ix2 y0 y1) = (ix2 (row0 t y0) y1 : S16384x2816.Idx) := by blk_ext [idx0 t, row0]
  blk_simp
  rw [after0_6]
  idx_vars y
  rw [e]
  exact out6 H t y0 y1
end
end Cert.FfnVal
end
-- ==== Proof.FfnBlk.lean ====
module
public import proofs.«01_k».proof.Proof.FfnIn
@[expose] public section
set_option maxRecDepth 16384
noncomputable section
/-! The blocks of the backward call, and what it computes from them. -/
namespace Cert.FfnVal
open Idealize.ShloMosaic Idealize.ShloMosaic.TcCoe Idealize.SL.Sem Cert.FfnIdeal Cert.FfnIdeal.Gen Cert.Reals Cert.Gated

theorem idx1 : ∀ t : Fin cfg1.N, win1_0.index t = ![t.val, 0] ∧ win1_1.index t = ![t.val, 0] ∧ win1_2.index t = ![0, 0] ∧ win1_3.index t = ![0, 0]
    ∧ win1_4.index t = ![t.val, 0] ∧ win1_5.index t = ![t.val, 0] ∧ win1_6.index t = ![t.val, 0] ∧ win1_7.index t = ![0, 0] ∧ win1_8.index t = ![0, 0] ∧ win1_9.index t = ![0, 0]
    ∧ win1_10.index t = ![t.val, 0] ∧ win1_11.index t = ![0, 0] ∧ win1_12.index t = ![t.val, 0] ∧ win1_13.index t = ![t.val, 0]
    ∧ win1_14.index t = ![t.val, 0] ∧ win1_15.index t = ![t.val, 0] ∧ win1_16.index t = ![0, 0] :=
  (by decide +kernel : ∀ t : Fin grid1.N, _)
theorem lt64 (t : Fin cfg1.N) : t.val < 64 := lt_of_lt_of_eq t.isLt (by decide +kernel)
/-- The array row of row `r` of block `t`. -/
def row (t : Fin cfg1.N) (r : Fin 256) : Fin 16384 := ⟨t.val * 256 + r.val, by have := lt64 t; omega⟩

variable {m : (ℓ : Loc nD τ sig) → Buf (Elt Ideal) ℓ} {ρ : Dev nD → PrngReg} {c : Dev nD} {a : Args}

/-! What the first call and the host hand over. -/

theorem s0 (H : Reads m c a) (i : Fin 16384) (j : Fin 2816) : (show FVec Ideal S16384x2816 .bf16 from W2 m ρ c (Proc.devRef .tc main_v6_0)) (ix2 i j) = ((a.si i j : ℝ) : EReal) := by
  rw [show W2 m ρ c (Proc.devRef .tc main_v6_0) = _ from (W2_arr m ρ c 4).trans (final4 H)]; rfl
theorem s1 (H : Reads m c a) (i : Fin 16384) (j : Fin 2816) : (show FVec Ideal S16384x2816 .bf16 from W2 m ρ c (Proc.devRef .tc main_v6_1)) (ix2 i j) = ((a.da i j : ℝ) : EReal) := by
  rw [show W2 m ρ c (Proc.devRef .tc main_v6_1) = _ from (W2_arr m ρ c 5).trans (final5 H)]; rfl
theorem s2 (H : Reads m c a) (i : Fin 16384) (j : Fin 2816) : (show FVec Ideal S16384x2816 .bf16 from W2 m ρ c (Proc.devRef .tc main_v6_2)) (ix2 i j) = ((a.act i j : ℝ) : EReal) := by
  rw [show W2 m ρ c (Proc.devRef .tc main_v6_2) = _ from (W2_arr m ρ c 6).trans (final6 H)]; rfl
theorem k0 (H : Reads m c a) (z : Fin 1) (k : Fin 1024) : (show FVec Ideal S1x1024 .f32 from W3 m ρ c (Proc.devRef .tc main_v0)) (ix2 z k) = ((a.gp k : ℝ) : EReal) := by
  rw [show W3 m ρ c (Proc.devRef .tc main_v0) = _ from (W3_of m ρ c main_v0 (by decide)).trans (W2_of m ρ c main_v0 (by decide))]; exact h0 H z k
theorem k2 (H : Reads m c a) (j : Fin 2816) (k : Fin 1024) : (show FVec Ideal S2816x1024 .bf16 from W3 m ρ c (Proc.devRef .tc main_v2)) (ix2 j k) = ((a.wg k j : ℝ) : EReal) := by
  rw [show W3 m ρ c (Proc.devRef .tc main_v2) = _ from (W3_of m ρ c main_v2 (by decide)).trans (W2_of m ρ c main_v2 (by decide))]; exact h2 H j k
theorem k4 (H : Reads m c a) (j : Fin 2816) (k : Fin 1024) : (show FVec Ideal S2816x1024 .bf16 from W3 m ρ c (Proc.devRef .tc main_v4)) (ix2 j k) = ((a.wu k j : ℝ) : EReal) := by
  rw [show W3 m ρ c (Proc.devRef .tc main_v4) = _ from (W3_of m ρ c main_v4 (by decide)).trans (W2_of m ρ c main_v4 (by decide))]; exact h4 H j k
theorem k5 (H : Reads m c a) (j : Fin 2816) (k : Fin 1024) : (show FVec Ideal S2816x1024 .bf16 from W3 m ρ c (Proc.devRef .tc main_v5)) (ix2 j k) = ((a.wd j k : ℝ) : EReal) := by
  rw [show W3 m ρ c (Proc.devRef .tc main_v5) = _ from (W3_of m ρ c main_v5 (by decide)).trans (W2_of m ρ c main_v5 (by decide))]; exact h5 H j k
theorem k6 (H : Reads m c a) (i : Fin 16384) (j : Fin 2816) : (show FVec Ideal S16384x2816 .bf16 from W3 m ρ c (Proc.devRef .tc main_v6_0)) (ix2 i j) = ((a.si i j : ℝ) : EReal) := by
  rw [show W3 m ρ c (Proc.devRef .tc main_v6_0) = _ from W3_of m ρ c main_v6_0 (by decide)]; exact s0 H i j
theorem k7 (H : Reads m c a) (i : Fin 16384) (j : Fin 2816) : (show FVec Ideal S16384x2816 .bf16 from W3 m ρ c (Proc.devRef .tc main_v6_1)) (ix2 i j) = ((a.da i j : ℝ) : EReal) := by
  rw [show W3 m ρ c (Proc.devRef .tc main_v6_1) = _ from W3_of m ρ c main_v6_1 (by decide)]; exact s1 H i j
/-- The host's product. -/
theorem k9 (H : Reads m c a) (i : Fin 16384) (k : Fin 1024) : (show FVec Ideal S16384x1024 .bf16 from W3 m ρ c (Proc.devRef .tc main_v9)) (ix2 i k) = ((a.mm i k : ℝ) : EReal) := by
  have hs := s2 (ρ := ρ) H
  have hw : ∀ j k, (show FVec Ideal S2816x1024 .f32 from W2 m ρ c (Proc.devRef .tc main_arg4)) (ix2 j k) = ((a.wd j k : ℝ) : EReal) := fun j k => by
    rw [show W2 m ρ c (Proc.devRef .tc main_arg4) = _ from W2_args m ρ c main_arg4 (by decide)]; exact H.wd j k
  unfold W3
  generalize W2 m ρ c = V' at hs hw ⊢
  unfold hostOps1
  entry_read; pointwise
  simp only [hs, hw, ← EReal.coe_mul, sum_coe]; rfl
theorem k10 (H : Reads m c a) (z : Fin 1) (k : Fin 1024) : (show FVec Ideal S1x1024 .f32 from W3 m ρ c (Proc.devRef .tc main_v10)) (ix2 z k) = ((a.go k : ℝ) : EReal) := by
  have hg : ∀ k, (show FVec Ideal S1024 .f32 from W2 m ρ c (Proc.devRef .tc main_arg5)) (ix1 k) = ((a.go k : ℝ) : EReal) := fun k => by
    rw [show W2 m ρ c (Proc.devRef .tc main_arg5) = _ from W2_args m ρ c main_arg5 (by decide)]; exact H.go k
  unfold W3
  generalize W2 m ρ c = V' at hg ⊢
  unfold hostOps1
  entry_read; pointwise
  exact hg _

/-! What the staged blocks hold. -/

theorem c0 (H : Reads m c a) (t : Fin cfg1.N) (r : Fin 256) (k : Fin 1024) : (show FVec Ideal S256x1024 .f32 from iblk1 (V3 m ρ) c 0 t) (ix2 r k) = ((a.q (row t r) k : ℝ) : EReal) := by
  have e : (show FVec Ideal S256x1024 .f32 from iblk1 (V3 m ρ) c 0 t) (ix2 r k) = (show FVec Ideal S16384x1024 .f32 from V3 m ρ c main_arg6) (ix2 (row t r) k) := by blk_ext [iblk1, idx1 t, row]
  rw [e, show V3 m ρ c main_arg6 = _ from W3_args m ρ c main_arg6 (by decide)]; exact H.q _ _
theorem c1 (H : Reads m c a) (t : Fin cfg1.N) (r : Fin 256) (k : Fin 1024) : (show FVec Ideal S256x1024 .bf16 from iblk1 (V3 m ρ) c 1 t) (ix2 r k) = ((a.mm (row t r) k : ℝ) : EReal) := by
  rw [← k9 (ρ := ρ) H]; blk_ext [iblk1, idx1 t, row]
theorem c2 (H : Reads m c a) (t : Fin cfg1.N) (z : Fin 1) (k : Fin 1024) : (show FVec Ideal S1x1024 .f32 from iblk1 (V3 m ρ) c 2 t) (ix2 z k) = ((a.go k : ℝ) : EReal) := by
  rw [← k10 (ρ := ρ) H z k]; blk_ext [iblk1, idx1 t]
theorem c3 (H : Reads m c a) (t : Fin cfg1.N) (j : Fin 2816) (k : Fin 1024) : (show FVec Ideal S2816x1024 .bf16 from iblk1 (V3 m ρ) c 3 t) (ix2 j k) = ((a.wd j k : ℝ) : EReal) := by
  rw [← k5 (ρ := ρ) H j k]; blk_ext [iblk1, idx1 t]
theorem c4 (H : Reads m c a) (t : Fin cfg1.N) (r : Fin 256) (j : Fin 2816) : (show FVec Ideal S256x2816 .bf16 from iblk1 (V3 m ρ) c 4 t) (ix2 r j) = ((a.si (row t r) j : ℝ) : EReal) := by
  rw [← k6 (ρ := ρ) H]; blk_ext [iblk1, idx1 t, row]
theorem c5 (H : Reads m c a) (t : Fin cfg1.N) (r : Fin 256) (j : Fin 2816) : (show FVec Ideal S256x2816 .bf16 from iblk1 (V3 m ρ) c 5 t) (ix2 r j) = ((a.da (row t r) j : ℝ) : EReal) := by
  rw [← k7 (ρ := ρ) H]; blk_ext [iblk1, idx1 t, row]
theorem c6 (H : Reads m c a) (t : Fin cfg1.N) (r : Fin 256) (k : Fin 1024) : (show FVec Ideal S256x1024 .f32 from iblk1 (V3 m ρ) c 6 t) (ix2 r k) = ((a.x (row t r) k : ℝ) : EReal) := by
  have e : (show FVec Ideal S256x1024 .f32 from iblk1 (V3 m ρ) c 6 t) (ix2 r k) = (show FVec Ideal S16384x1024 .f32 from V3 m ρ c main_arg0) (ix2 (row t r) k) := by blk_ext [iblk1, idx1 t, row]
  rw [e, show V3 m ρ c main_arg0 = _ from W3_args m ρ c main_arg0 (by decide)]; exact H.x _ _
theorem c7 (H : Reads m c a) (t : Fin cfg1.N) (z : Fin 1) (k : Fin 1024) : (show FVec Ideal S1x1024 .f32 from iblk1 (V3 m ρ) c 7 t) (ix2 z k) = ((a.gp k : ℝ) : EReal) := by
  rw [← k0 (ρ := ρ) H z k]; blk_ext [iblk1, idx1 t]
theorem c8 (H : Reads m c a) (t : Fin cfg1.N) (j : Fin 2816) (k : Fin 1024) : (show FVec Ideal S2816x1024 .bf16 from iblk1 (V3 m ρ) c 8 t) (ix2 j k) = ((a.wg k j : ℝ) : EReal) := by
  rw [← k2 (ρ := ρ) H j k]; blk_ext [iblk1, idx1 t]
theorem c9 (H : Reads m c a) (t : Fin cfg1.N) (j : Fin 2816) (k : Fin 1024) : (show FVec Ideal S2816x1024 .bf16 from iblk1 (V3 m ρ) c 9 t) (ix2 j k) = ((a.wu k j : ℝ) : EReal) := by
  rw [← k4 (ρ := ρ) H j k]; blk_ext [iblk1, idx1 t]

/-! The payloads. -/

section
variable (H : Reads m c a) (t : Fin cfg1.N)
include H
theorem pay7 (r : Fin 256) (o : Fin 1) : k1_pay7 (F := Ideal) (iblk1 (V3 m ρ) c 1 t) (ix2 r o) = ((rst (a.mm (row t r)) : ℝ) : EReal) := by
  pointwise [k1_pay7, k1_pay6]
  simp only [c1 H, ← EReal.coe_mul, sum_coe, ofBits_eps, ofBits_1024, div_1024, ← EReal.coe_add]
  exact rsqrt_ms _
theorem pay8 (r : Fin 256) (k : Fin 1024) : k1_pay8 (F := Ideal) (iblk1 (V3 m ρ) c 1 t) (ix2 r k) = ((a.mm (row t r) k * rst (a.mm (row t r)) : ℝ) : EReal) := by
  pointwise [k1_pay8, k1_pay6]
  simp only [c1 H, pay7 H, ← EReal.coe_mul]
theorem pay5 (r : Fin 256) (k : Fin 1024) : k1_pay5 (F := Ideal) (iblk1 (V3 m ρ) c 0 t) (ix2 r k) = ((a.hq (row t r) k : ℝ) : EReal) := by
  pointwise [k1_pay5]
  simp only [c0 H, ofBits_half, ← EReal.coe_mul]; rfl
theorem pay9 (p : Vec Ideal S8x1024 .f32) (o : Fin 8) (k : Fin 1024) : k1_pay9 (F := Ideal) (iblk1 (V3 m ρ) c 0 t) (iblk1 (V3 m ρ) c 1 t) p (ix2 o k)
    = p (ix2 o k) + ((∑ j : Fin 32, a.dgo k (row t ⟨j * 8 + o, by omega⟩) : ℝ) : EReal) := by
  pointwise [k1_pay9]
  simp only [pay5 H, pay8 H, ← EReal.coe_mul, sum_coe]
  rfl
theorem pay11 (r : Fin 256) (k : Fin 1024) : k1_pay11 (F := Ideal) (k1_pay7 (iblk1 (V3 m ρ) c 1 t)) (k1_pay10 (iblk1 (V3 m ρ) c 0 t) (iblk1 (V3 m ρ) c 1 t) (iblk1 (V3 m ρ) c 2 t)) (ix2 r k) = ((a.dm (row t r) k : ℝ) : EReal) := by
  pointwise [k1_pay11, k1_pay10]
  simp only [pay5 H, pay7 H, pay8 H, c2 H, ← EReal.coe_mul, sum_coe, ofBits_1024, div_1024, ← EReal.coe_sub]
  rfl
theorem pay48 (r : Fin 256) (o : Fin 1) : k1_pay48 (F := Ideal) (iblk1 (V3 m ρ) c 6 t) (ix2 r o) = ((rst (a.x (row t r)) : ℝ) : EReal) := by
  pointwise [k1_pay48]
  simp only [c6 H, ← EReal.coe_mul, sum_coe, ofBits_eps, ofBits_1024, div_1024, ← EReal.coe_add]
  exact rsqrt_ms _
theorem pay49 (r : Fin 256) (k : Fin 1024) : k1_pay49 (F := Ideal) (iblk1 (V3 m ρ) c 6 t) (ix2 r k) = ((a.xh (row t r) k : ℝ) : EReal) := by
  pointwise [k1_pay49]
  simp only [c6 H, pay48 H, ← EReal.coe_mul]; rfl
theorem pay50 (r : Fin 256) (k : Fin 1024) : k1_pay50 (F := Ideal) (iblk1 (V3 m ρ) c 6 t) (iblk1 (V3 m ρ) c 7 t) (ix2 r k) = ((a.h (row t r) k : ℝ) : EReal) := by
  pointwise [k1_pay50, k1_pay47]
  simp only [pay49 H, c7 H, ← EReal.coe_mul]; rfl
/-- The gradient of the normed rows, from the two gradients that feed it. -/
theorem pay46 {g u : Vec Ideal S256x2816 .bf16} (hg : ∀ r j, g (ix2 r j) = ((a.dgate (row t r) j : ℝ) : EReal)) (hu : ∀ r j, u (ix2 r j) = ((a.dup (row t r) j : ℝ) : EReal)) (r : Fin 256) (k : Fin 1024) :
    k1_pay46 (F := Ideal) g (iblk1 (V3 m ρ) c 8 t) u (iblk1 (V3 m ρ) c 9 t) (ix2 r k) = ((a.dh (row t r) k : ℝ) : EReal) := by
  pointwise [k1_pay46]
  simp only [hg, hu, c8 H, c9 H, ← EReal.coe_mul, sum_coe, ← EReal.coe_add]
  rfl
theorem pay2 {d : Vec Ideal S256x1024 .f32} (hd : ∀ r k, d (ix2 r k) = ((a.dh (row t r) k : ℝ) : EReal)) (r : Fin 256) (k : Fin 1024) :
    k1_pay2 (F := Ideal) (iblk1 (V3 m ρ) c 0 t) d (k1_pay47 (iblk1 (V3 m ρ) c 7 t)) (k1_pay48 (iblk1 (V3 m ρ) c 6 t)) (k1_pay49 (iblk1 (V3 m ρ) c 6 t)) (ix2 r k) = ((a.dx (row t r) k : ℝ) : EReal) := by
  pointwise [k1_pay2, k1_pay47]
  simp only [hd, c0 H, c7 H, pay48 H, pay49 H, ← EReal.coe_mul, sum_coe, ofBits_1024, div_1024, ← EReal.coe_sub, ← EReal.coe_add]
  rfl
theorem pay1 {d : Vec Ideal S256x1024 .f32} (hd : ∀ r k, d (ix2 r k) = ((a.dh (row t r) k : ℝ) : EReal)) (p : Vec Ideal S8x1024 .f32) (o : Fin 8) (k : Fin 1024) :
    k1_pay1 (F := Ideal) d (k1_pay49 (iblk1 (V3 m ρ) c 6 t)) p (ix2 o k) = p (ix2 o k) + ((∑ j : Fin 32, a.dgp k (row t ⟨j * 8 + o, by omega⟩) : ℝ) : EReal) := by
  pointwise [k1_pay1]
  simp only [hd, pay49 H, ← EReal.coe_mul, sum_coe]
  rfl
end
end Cert.FfnVal
end
-- ==== Proof.FfnVal.lean ====
module
public import proofs.«01_k».proof.Proof.FfnBlk
@[expose] public section
set_option maxRecDepth 16384
noncomputable section
/-! What the backward call leaves in the blocks it writes in slices. -/
namespace Cert.FfnVal
open Idealize.ShloMosaic Idealize.ShloMosaic.TcCoe Idealize.SL.Sem Cert.FfnIdeal Cert.FfnIdeal.Gen Cert.Reals Cert.Gated

/-- A read of a block written in pieces. -/
theorem readCov_pieces {κ : Kind} {sp : Space} (v : View sig κ sp S256x2816 .bf16) (G : S256x2816.Idx → EReal) {L : List (View.Piece (Elt Ideal) S256x2816 .bf16)}
    {inb : ∀ x, (![0, 0] : Fin 2 → ℕ) x + (![256, 2816] : Fin 2 → ℕ) x ≤ S256x2816.size x} (h : View.PiecesOf (Val := Elt Ideal) G L) (hc : ∀ y : S256x2816.Idx, ∃ p ∈ L, y ∈ p.1.set) :
    v.readCov L (Rect.unit ![0, 0] ![256, 2816] inb).toLoadRect = G := by
  rw [View.readCov_eq_canon']
  funext j
  rw [View.canon_apply_of_pieces (Val := Elt Ideal) G L h.mem _ (hc _)]
  refine congrArg G (funext fun x => Fin.ext ?_)
  match x with
  | ⟨0, _⟩ => refine (ValueKit.rect_emb_unit_val (s := S256x2816) ![0, 0] ![256, 2816] inb j 0).trans ?_; exact Nat.zero_add (j 0).val
  | ⟨1, _⟩ => refine (ValueKit.rect_emb_unit_val (s := S256x2816) ![0, 0] ![256, 2816] inb j 1).trans ?_; exact Nat.zero_add (j 1).val

/-- Columns of a block, loaded from `off`. -/
theorem ld_cols {X : Vec Ideal S256x2816 .bf16} {S : Fin 256 → Fin 2816 → ℝ} (hX : ∀ r j, X (ix2 r j) = ((S r j : ℝ) : EReal)) {off : Fin 2 → ℕ} {inb} (h0 : off 0 = 0)
    (r : Fin 256) (x : Fin 256) (j : Fin 2816) (hj : j.val = off 1 + x.val) : View.ld X (Rect.unit (s := S256x2816) off S256x256.size inb) (ix2 r x) = ((S r j : ℝ) : EReal) := by
  rw [← hX r j]
  refine congrArg X (funext fun b => Fin.ext ?_)
  match b with
  | ⟨0, _⟩ => exact (ValueKit.rect_emb_unit_val (s := S256x2816) off S256x256.size inb (ix2 r x) 0).trans (by rw [h0]; exact Nat.zero_add r.val)
  | ⟨1, _⟩ => exact (ValueKit.rect_emb_unit_val (s := S256x2816) off S256x256.size inb (ix2 r x) 1).trans hj.symm
/-- A slice of the gradient of the product's left side, times a slice of what was saved. -/
theorem slice {a : Args} {v : Vec Ideal S256x1024 .bf16} {w : Vec Ideal S256x1024 .bf16} {s : Vec Ideal S256x256 .bf16} {i : Fin 256 → Fin 16384} {S : ℝ} {x : Fin 256} {j : Fin 2816} (hv : ∀ r k, v (ix2 r k) = ((a.dm (i r) k : ℝ) : EReal))
    (hw : ∀ k, w (ix2 x k) = ((a.wd j k : ℝ) : EReal)) {r : Fin 256} (hs : s (ix2 r x) = ((S : ℝ) : EReal)) : k1_pay44 (F := Ideal) v w s (ix2 r x) = ((a.dact (i r) j * S : ℝ) : EReal) := by
  pointwise [k1_pay44, k1_pay43]
  simp only [hv, hw, hs, ← EReal.coe_mul, sum_coe]; rfl

variable {m : (ℓ : Loc nD τ sig) → Buf (Elt Ideal) ℓ} {ρ : Dev nD → PrngReg} {c : Dev nD} {a : Args} (H : Reads m c a)
include H
set_option maxHeartbeats 2000000 in
theorem out12 (t : Fin cfg1.N) (r : Fin 256) (j : Fin 2816) : (outsAt1 (V3 m ρ) c t.val t.isLt).2.2.1 (ix2 r j) = ((a.dgate (row t r) j : ℝ) : EReal) := by
  have hv := pay11 (ρ := ρ) H t
  have hw := c3 (ρ := ρ) H t
  have hs := c5 (ρ := ρ) H t
  by_cases h : t.val % 64 = 0
  on_goal 1 => rw [outsAt1_A (V3 m ρ) c t h]
  on_goal 2 => rw [outsAt1_B (V3 m ρ) c t h]
  all_goals
    frame_open; frame_out
    refine canon_pieces (s := S256x2816) (e := .bf16) (wide fun r k => ((a.dgate (row t r) k : ℝ) : EReal)) ?_ (ix2 r j) ?_
    on_goal 2 => exact View.cover_of_tiled _ ![256, 256] rfl _
    repeat' (refine And.intro ?_ ?_)
    on_goal 12 => exact trivial
    all_goals exact cols_of 256 (inb := by decide) rfl fun r x k hk => slice hv (fun k' => ld_rows hw rfl x k' k hk) (ld_cols hs rfl r x k hk)
set_option maxHeartbeats 2000000 in
theorem out13 (t : Fin cfg1.N) (r : Fin 256) (j : Fin 2816) : (outsAt1 (V3 m ρ) c t.val t.isLt).2.2.2.1 (ix2 r j) = ((a.dup (row t r) j : ℝ) : EReal) := by
  have hv := pay11 (ρ := ρ) H t
  have hw := c3 (ρ := ρ) H t
  have hs := c4 (ρ := ρ) H t
  by_cases h : t.val % 64 = 0
  on_goal 1 => rw [outsAt1_A (V3 m ρ) c t h]
  on_goal 2 => rw [outsAt1_B (V3 m ρ) c t h]
  all_goals
    frame_open; frame_out
    refine canon_pieces (s := S256x2816) (e := .bf16) (wide fun r k => ((a.dup (row t r) k : ℝ) : EReal)) ?_ (ix2 r j) ?_
    on_goal 2 => exact View.cover_of_tiled _ ![256, 256] rfl _
    repeat' (refine And.intro ?_ ?_)
    on_goal 12 => exact trivial
    all_goals exact cols_of 256 (inb := by decide) rfl fun r x k hk => slice hv (fun k' => ld_rows hw rfl x k' k hk) (ld_cols hs rfl r x k hk)
set_option maxHeartbeats 2000000 in
theorem out14 (t : Fin cfg1.N) (r : Fin 256) (k : Fin 1024) : (outsAt1 (V3 m ρ) c t.val t.isLt).2.2.2.2.1 (ix2 r k) = ((a.dx (row t r) k : ℝ) : EReal) := by
  have hv := pay11 (ρ := ρ) H t
  have hw := c3 (ρ := ρ) H t
  have hs := c4 (ρ := ρ) H t
  have hd := c5 (ρ := ρ) H t
  by_cases h : t.val % 64 = 0
  on_goal 1 => rw [outsAt1_A (V3 m ρ) c t h]
  on_goal 2 => rw [outsAt1_B (V3 m ρ) c t h]
  all_goals
    frame_open; frame_out
    rw [readCov_pieces _ (wide fun r k => ((a.dgate (row t r) k : ℝ) : EReal)) ?_ ?_]
    pick_goal 3
    · exact View.cover_of_tiled _ ![256, 256] rfl
    pick_goal 2
    · repeat' (refine And.intro ?_ ?_)
      on_goal 12 => exact trivial
      all_goals exact cols_of 256 (inb := by decide) rfl fun r x k hk => slice hv (fun k' => ld_rows hw rfl x k' k hk) (ld_cols hd rfl r x k hk)
    rw [readCov_pieces _ (wide fun r k => ((a.dup (row t r) k : ℝ) : EReal)) ?_ ?_]
    pick_goal 3
    · exact View.cover_of_tiled _ ![256, 256] rfl
    pick_goal 2
    · repeat' (refine And.intro ?_ ?_)
      on_goal 12 => exact trivial
      all_goals exact cols_of 256 (inb := by decide) rfl fun r x k hk => slice hv (fun k' => ld_rows hw rfl x k' k hk) (ld_cols hs rfl r x k hk)
    exact pay2 H t (pay46 H t (fun _ _ => rfl) (fun _ _ => rfl)) r k
set_option maxHeartbeats 2000000 in
theorem reset16 (t : Fin cfg1.N) (h : t.val % 64 = 0) (o : Fin 8) (k : Fin 1024) : (outsAt1 (V3 m ρ) c t.val t.isLt).2.2.2.2.2.2 (ix2 o k)
    = 0 + ((∑ j : Fin 32, a.dgp k (row t ⟨j * 8 + o, by omega⟩) : ℝ) : EReal) := by
  have hv := pay11 (ρ := ρ) H t
  have hw := c3 (ρ := ρ) H t
  have hs := c4 (ρ := ρ) H t
  have hd := c5 (ρ := ρ) H t
  have hz : (fun _ => 0) = (broadcast S8x1024 (FloatOps.ofBits (F := Ideal) .f32 0#32) : FVec Ideal S8x1024 .f32) := by funext j; pointwise
  rw [outsAt1_A (V3 m ρ) c t h]
  frame_open; frame_out
  rw [readCov_pieces _ (wide fun r k => ((a.dgate (row t r) k : ℝ) : EReal)) ?_ ?_]
  pick_goal 3
  · exact View.cover_of_tiled _ ![256, 256] rfl
  pick_goal 2
  · repeat' (refine And.intro ?_ ?_)
    on_goal 12 => exact trivial
    all_goals exact cols_of 256 (inb := by decide) rfl fun r x k hk => slice hv (fun k' => ld_rows hw rfl x k' k hk) (ld_cols hd rfl r x k hk)
  rw [readCov_pieces _ (wide fun r k => ((a.dup (row t r) k : ℝ) : EReal)) ?_ ?_]
  pick_goal 3
  · exact View.cover_of_tiled _ ![256, 256] rfl
  pick_goal 2
  · repeat' (refine And.intro ?_ ?_)
    on_goal 12 => exact trivial
    all_goals exact cols_of 256 (inb := by decide) rfl fun r x k hk => slice hv (fun k' => ld_rows hw rfl x k' k hk) (ld_cols hs rfl r x k hk)
  rw [show k1_pay4 (F := Ideal) = fun _ => 0 from hz.symm]
  exact pay1 H t (pay46 H t (fun _ _ => rfl) (fun _ _ => rfl)) (fun _ => 0) o k
set_option maxHeartbeats 2000000 in
theorem step16 (t : Fin cfg1.N) (h : ¬ t.val % 64 = 0) (o : Fin 8) (k : Fin 1024) : (outsAt1 (V3 m ρ) c t.val t.isLt).2.2.2.2.2.2 (ix2 o k)
    = (outsAt1 (V3 m ρ) c (t.val - 1) (by omega)).2.2.2.2.2.2 (ix2 o k) + ((∑ j : Fin 32, a.dgp k (row t ⟨j * 8 + o, by omega⟩) : ℝ) : EReal) := by
  have hv := pay11 (ρ := ρ) H t
  have hw := c3 (ρ := ρ) H t
  have hs := c4 (ρ := ρ) H t
  have hd := c5 (ρ := ρ) H t
  rw [outsAt1_B (V3 m ρ) c t h]
  frame_open; frame_out
  rw [readCov_pieces _ (wide fun r k => ((a.dgate (row t r) k : ℝ) : EReal)) ?_ ?_]
  pick_goal 3
  · exact View.cover_of_tiled _ ![256, 256] rfl
  pick_goal 2
  · repeat' (refine And.intro ?_ ?_)
    on_goal 12 => exact trivial
    all_goals exact cols_of 256 (inb := by decide) rfl fun r x k hk => slice hv (fun k' => ld_rows hw rfl x k' k hk) (ld_cols hd rfl r x k hk)
  rw [readCov_pieces _ (wide fun r k => ((a.dup (row t r) k : ℝ) : EReal)) ?_ ?_]
  pick_goal 3
  · exact View.cover_of_tiled _ ![256, 256] rfl
  pick_goal 2
  · repeat' (refine And.intro ?_ ?_)
    on_goal 12 => exact trivial
    all_goals exact cols_of 256 (inb := by decide) rfl fun r x k hk => slice hv (fun k' => ld_rows hw rfl x k' k hk) (ld_cols hs rfl r x k hk)
  exact pay1 H t (pay46 H t (fun _ _ => rfl) (fun _ _ => rfl)) _ o k
end Cert.FfnVal
end
-- ==== Proof.FfnEnd.lean ====
module
public import proofs.«01_k».proof.Proof.FfnVal
@[expose] public section
set_option maxRecDepth 16384
noncomputable section
/-! The backward call's outputs at the end, and what the host makes of them. -/
namespace Cert.FfnVal
open Idealize.ShloMosaic Idealize.ShloMosaic.TcCoe Idealize.SL.Sem Cert.FfnIdeal Cert.FfnIdeal.Gen Cert.Reals Cert.Gated

variable {m : (ℓ : Loc nD τ sig) → Buf (Elt Ideal) ℓ} {ρ : Dev nD → PrngReg} {c : Dev nD} {a : Args} (H : Reads m c a)

/-- The block from the start of the 64 blocks, of a sum over them. -/
theorem at_block (t : ℕ) (s : Fin 64) (h : t < 64) : 64 * (t / 64) + s.val = s.val := by omega
theorem zeros : (fun _ => 0) = (broadcast S8x1024 (FloatOps.ofBits (F := Ideal) .f32 0#32) : FVec Ideal S8x1024 .f32) := by funext j; pointwise

include H
set_option maxHeartbeats 2000000 in
theorem end10 : (dat1 (V3 m ρ) c).arrAt 10 cfg1.N = (fun i => ((a.dm (i 0) (i 1) : ℝ) : EReal) : FVec Ideal S16384x1024 .bf16) := by
  refine (dat1 (V3 m ρ) c).arrAt_eq_of_covers 10 _ (by decide +kernel) fun t hf y => ?_
  have e (y0 : Fin 256) (y1 : Fin 1024) : ((cfg1.win 10).blk t).view.emb (ix2 y0 y1) = (ix2 (row t y0) y1 : S16384x1024.Idx) := by blk_ext [idx1 t, row]
  blk_simp
  rw [after1_10]
  idx_vars y
  rw [e]
  by_cases h : t.val % 64 = 0
  · rw [outsAt1_A (V3 m ρ) c t h]; frame_out; exact pay11 H t y0 y1
  · rw [outsAt1_B (V3 m ρ) c t h]; frame_out; exact pay11 H t y0 y1
set_option maxHeartbeats 2000000 in
theorem end15 : (dat1 (V3 m ρ) c).arrAt 15 cfg1.N = (fun i => ((a.h (i 0) (i 1) : ℝ) : EReal) : FVec Ideal S16384x1024 .bf16) := by
  refine (dat1 (V3 m ρ) c).arrAt_eq_of_covers 15 _ (by decide +kernel) fun t hf y => ?_
  have e (y0 : Fin 256) (y1 : Fin 1024) : ((cfg1.win 15).blk t).view.emb (ix2 y0 y1) = (ix2 (row t y0) y1 : S16384x1024.Idx) := by blk_ext [idx1 t, row]
  blk_simp
  rw [after1_15]
  idx_vars y
  rw [e]
  by_cases h : t.val % 64 = 0
  · rw [outsAt1_A (V3 m ρ) c t h]; frame_out; exact pay50 H t y0 y1
  · rw [outsAt1_B (V3 m ρ) c t h]; frame_out; exact pay50 H t y0 y1
set_option maxHeartbeats 2000000 in
theorem end12 : (dat1 (V3 m ρ) c).arrAt 12 cfg1.N = (fun i => ((a.dgate (i 0) (i 1) : ℝ) : EReal) : FVec Ideal S16384x2816 .bf16) := by
  refine (dat1 (V3 m ρ) c).arrAt_eq_of_covers 12 _ (by decide +kernel) fun t hf y => ?_
  have e (y0 : Fin 256) (y1 : Fin 2816) : ((cfg1.win 12).blk t).view.emb (ix2 y0 y1) = (ix2 (row t y0) y1 : S16384x2816.Idx) := by blk_ext [idx1 t, row]
  blk_simp
  rw [after1_12]
  idx_vars y
  rw [e]
  exact out12 H t y0 y1
set_option maxHeartbeats 2000000 in
theorem end13 : (dat1 (V3 m ρ) c).arrAt 13 cfg1.N = (fun i => ((a.dup (i 0) (i 1) : ℝ) : EReal) : FVec Ideal S16384x2816 .bf16) := by
  refine (dat1 (V3 m ρ) c).arrAt_eq_of_covers 13 _ (by decide +kernel) fun t hf y => ?_
  have e (y0 : Fin 256) (y1 : Fin 2816) : ((cfg1.win 13).blk t).view.emb (ix2 y0 y1) = (ix2 (row t y0) y1 : S16384x2816.Idx) := by blk_ext [idx1 t, row]
  blk_simp
  rw [after1_13]
  idx_vars y
  rw [e]
  exact out13 H t y0 y1
set_option maxHeartbeats 2000000 in
theorem end14 : (dat1 (V3 m ρ) c).arrAt 14 cfg1.N = (fun i => ((a.dx (i 0) (i 1) : ℝ) : EReal) : FVec Ideal S16384x1024 .f32) := by
  refine (dat1 (V3 m ρ) c).arrAt_eq_of_covers 14 _ (by decide +kernel) fun t hf y => ?_
  have e (y0 : Fin 256) (y1 : Fin 1024) : ((cfg1.win 14).blk t).view.emb (ix2 y0 y1) = (ix2 (row t y0) y1 : S16384x1024.Idx) := by blk_ext [idx1 t, row]
  blk_simp
  rw [after1_14]
  idx_vars y
  rw [e]
  exact out14 H t y0 y1
set_option maxHeartbeats 2000000 in
theorem end11 : (dat1 (V3 m ρ) c).arrAt 11 cfg1.N = (fun i => ((∑ t : Fin 64, part8 64 32 rfl (a.dgo (i 1)) (i 0) t : ℝ) : EReal) : FVec Ideal S8x1024 .f32) := by
  refine (dat1 (V3 m ρ) c).arrAt_eq_of_covers 11 _ (by decide +kernel) fun t hf y => ?_
  have e (y0 : Fin 8) (y1 : Fin 1024) : ((cfg1.win 11).blk t).view.emb (ix2 y0 y1) = (ix2 y0 y1 : S8x1024.Idx) := by blk_ext [idx1 t]
  blk_simp
  idx_vars y
  rw [e, after1_11, Pipeline.eq_sum_fin_of_reset_step_apply_of_flush (fun n h => (outsAt1 (V3 m ρ) c n h).2.1) 64 (fun _ => 0)
    (fun p j => ((part8 64 32 rfl (a.dgo (j 1)) (j 0) ⟨p.val, lt64 p⟩ : ℝ) : EReal))
    (fun t h j => by
      idx_vars j
      rw [outsAt1_A (V3 m ρ) c t h]; frame_out
      rw [show k1_pay3 (F := Ideal) = fun _ => 0 from zeros.symm]
      exact pay9 H t (fun _ => 0) j0 j1)
    (fun t h j => by
      idx_vars j
      rw [outsAt1_B (V3 m ρ) c t h]; frame_out
      exact pay9 H t _ j0 j1)
    t ((flush1_11 t).mp hf) _, zero_add]
  exact (sum_coe _ _).trans (congrArg (fun x : ℝ => (x : EReal)) (Finset.sum_congr rfl fun s _ => congrArg (part8 64 32 rfl _ _) (Fin.ext (at_block _ s (lt64 t)))))
set_option maxHeartbeats 2000000 in
theorem end16 : (dat1 (V3 m ρ) c).arrAt 16 cfg1.N = (fun i => ((∑ t : Fin 64, part8 64 32 rfl (a.dgp (i 1)) (i 0) t : ℝ) : EReal) : FVec Ideal S8x1024 .f32) := by
  refine (dat1 (V3 m ρ) c).arrAt_eq_of_covers 16 _ (by decide +kernel) fun t hf y => ?_
  have e (y0 : Fin 8) (y1 : Fin 1024) : ((cfg1.win 16).blk t).view.emb (ix2 y0 y1) = (ix2 y0 y1 : S8x1024.Idx) := by blk_ext [idx1 t]
  blk_simp
  idx_vars y
  rw [e, after1_16, Pipeline.eq_sum_fin_of_reset_step_apply_of_flush (fun n h => (outsAt1 (V3 m ρ) c n h).2.2.2.2.2.2) 64 (fun _ => 0)
    (fun p j => ((part8 64 32 rfl (a.dgp (j 1)) (j 0) ⟨p.val, lt64 p⟩ : ℝ) : EReal))
    (fun t h j => by
      idx_vars j
      exact reset16 H t h j0 j1)
    (fun t h j => by
      idx_vars j
      exact step16 H t h j0 j1)
    t ((flush1_16 t).mp hf) _, zero_add]
  exact (sum_coe _ _).trans (congrArg (fun x : ℝ => (x : EReal)) (Finset.sum_congr rfl fun s _ => congrArg (part8 64 32 rfl _ _) (Fin.ext (at_block _ s (lt64 t)))))

/-! At the end of the run. -/

theorem tail10 : W5 m ρ c (Proc.devRef .tc main_v11_0) = (fun i => ((a.dm (i 0) (i 1) : ℝ) : EReal) : FVec Ideal S16384x1024 .bf16) :=
  (W5_of m ρ c main_v11_0 (by decide)).trans ((W4_arr m ρ c 10).trans (end10 H))
theorem tail12 : W5 m ρ c (Proc.devRef .tc main_v11_2) = (fun i => ((a.dgate (i 0) (i 1) : ℝ) : EReal) : FVec Ideal S16384x2816 .bf16) :=
  (W5_of m ρ c main_v11_2 (by decide)).trans ((W4_arr m ρ c 12).trans (end12 H))
theorem tail13 : W5 m ρ c (Proc.devRef .tc main_v11_3) = (fun i => ((a.dup (i 0) (i 1) : ℝ) : EReal) : FVec Ideal S16384x2816 .bf16) :=
  (W5_of m ρ c main_v11_3 (by decide)).trans ((W4_arr m ρ c 13).trans (end13 H))
theorem tail14 : W5 m ρ c (Proc.devRef .tc main_v11_4) = (fun i => ((a.dx (i 0) (i 1) : ℝ) : EReal) : FVec Ideal S16384x1024 .f32) :=
  (W5_of m ρ c main_v11_4 (by decide)).trans ((W4_arr m ρ c 14).trans (end14 H))
theorem tail15 : W5 m ρ c (Proc.devRef .tc main_v11_5) = (fun i => ((a.h (i 0) (i 1) : ℝ) : EReal) : FVec Ideal S16384x1024 .bf16) :=
  (W5_of m ρ c main_v11_5 (by decide)).trans ((W4_arr m ρ c 15).trans (end15 H))
theorem tail6 : W5 m ρ c (Proc.devRef .tc main_v6_2) = (fun i => ((a.act (i 0) (i 1) : ℝ) : EReal) : FVec Ideal S16384x2816 .bf16) :=
  (W5_of m ρ c main_v6_2 (by decide)).trans ((W4_of m ρ c main_v6_2 (by decide)).trans ((W3_of m ρ c main_v6_2 (by decide)).trans ((W2_arr m ρ c 6).trans (final6 H))))
theorem tail11 : W5 m ρ c (Proc.devRef .tc main_v12) = (fun i => ((∑ n, a.dgo (i 0) n : ℝ) : EReal) : FVec Ideal S1024 .f32) := by
  have h := (W4_arr m ρ c 11).trans (end11 H)
  unfold W5
  generalize W4 m ρ c = V' at h ⊢
  unfold hostOps2
  entry_read
  rw [show V' (Proc.devRef .tc main_v11_1) = _ from h]
  funext j
  idx_vars j
  pointwise
  simp only [sum_coe, sum_part8]
theorem tail16 : W5 m ρ c (Proc.devRef .tc main_v13) = (fun i => ((∑ n, a.dgp (i 0) n : ℝ) : EReal) : FVec Ideal S1024 .f32) := by
  have h := (W4_arr m ρ c 16).trans (end16 H)
  unfold W5
  generalize W4 m ρ c = V' at h ⊢
  unfold hostOps2
  entry_read
  rw [show V' (Proc.devRef .tc main_v11_6) = _ from h]
  funext j
  idx_vars j
  pointwise
  simp only [sum_coe, sum_part8]
end Cert.FfnVal
end
-- ==== Proof.FfnClaim.lean ====
module
public import proofs.«01_k».proof.Proof.FfnEnd
public import proofs.«01_k».proof.Proof.Finite
public import proofs.«01_k».proof.Proof.Gen.FfnRefIdeal.Run
@[expose] public section
set_option maxRecDepth 16384
noncomputable section
/-! The feed-forward pair against `jax.vjp`. -/
namespace Cert.FfnVal
open Idealize.ShloMosaic Idealize.ShloMosaic.TcCoe Idealize.SL.Sem Cert.Reals Cert.Gated

/-- The side conditions of the precondition's operations. -/
instance preFacts : Cert.Pre_finite_ffn.Facts := by constructor <;> decide

/-- Under the precondition the arguments are arrays of reals. -/
theorem reals_of_pre (m : (ℓ : Loc Cert.FfnIdeal.nD Cert.FfnIdeal.τ Cert.FfnIdeal.sig) → Buf (Elt Ideal) ℓ) (h : Cert.Pre_FfnIdeal_finite_ffn m) (c : Dev Cert.FfnIdeal.nD) :
    ∃ a, Reads m c a := by
  have e := congrFun (h c) (fun a => a.elim0)
  unfold Cert.Pre_finite_ffn.fn Cert.Pre_finite_ffn.fn_part1 at e
  obtain ⟨f5, e6⟩ := IntOp.andi_eq_one.mp e
  obtain ⟨f4, e5⟩ := IntOp.andi_eq_one.mp f5
  obtain ⟨f3, e4⟩ := IntOp.andi_eq_one.mp f4
  obtain ⟨f2, e3⟩ := IntOp.andi_eq_one.mp f3
  obtain ⟨f1, e2⟩ := IntOp.andi_eq_one.mp f2
  obtain ⟨e0, e1⟩ := IntOp.andi_eq_one.mp f1
  obtain ⟨x, h0⟩ := reals2 _ (reals_of_all _ _ _ _ _ e0)
  obtain ⟨gp, h1⟩ := reals1 _ (reals_of_all _ _ _ _ _ e1)
  obtain ⟨wg, h2⟩ := reals2 _ (reals_of_all _ _ _ _ _ e2)
  obtain ⟨wu, h3⟩ := reals2 _ (reals_of_all _ _ _ _ _ e3)
  obtain ⟨wd, h4⟩ := reals2 _ (reals_of_all _ _ _ _ _ e4)
  obtain ⟨go, h5⟩ := reals1 _ (reals_of_all _ _ _ _ _ e5)
  obtain ⟨q, h6⟩ := reals2 _ (reals_of_all _ _ _ _ _ e6)
  exact ⟨⟨x, gp, wg, wu, wd, go, q⟩, h0, h1, h2, h3, h4, h5, h6⟩

/-- The reference runs and leaves its arguments; it has no semaphores. -/
theorem frameRef : Cert.quiescent_FfnRefIdeal (hFfnRefIdeal := Cert.FfnRefIdeal.Gen.facts) := fun m ρ _ =>
  (θ_run Cert.FfnRefIdeal.defs _ _).mono (fun r h => ⟨fun c => (h c).2.2.2.2.2.2.2.2, sem_eq_zero_of_no_sems (by decide) r.2⟩)
    (Cert.FfnRefIdeal.Value.run m ρ)

/-- The reference's arguments, as its lines read them, are the call's. -/
theorem agree {m : (ℓ : Loc Cert.FfnIdeal.nD Cert.FfnIdeal.τ Cert.FfnIdeal.sig) → Buf (Elt Ideal) ℓ} {m' : (ℓ : Loc Cert.FfnRefIdeal.nD Cert.FfnRefIdeal.τ Cert.FfnRefIdeal.sig) → Buf (Elt Ideal) ℓ} {c : Dev Cert.FfnIdeal.nD}
    (h : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0) ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1) ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2) ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3) ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4) ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5) ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) :
    StableHlo.launchContents m' c (Proc.devRef .tc Cert.FfnRefIdeal.main_arg0) = m ((c.tc : Thread Cert.FfnIdeal.nD Cert.FfnIdeal.τ).loc Cert.FfnIdeal.main_arg0) ∧ StableHlo.launchContents m' c (Proc.devRef .tc Cert.FfnRefIdeal.main_arg1) = m ((c.tc : Thread Cert.FfnIdeal.nD Cert.FfnIdeal.τ).loc Cert.FfnIdeal.main_arg1) ∧ StableHlo.launchContents m' c (Proc.devRef .tc Cert.FfnRefIdeal.main_arg2) = m ((c.tc : Thread Cert.FfnIdeal.nD Cert.FfnIdeal.τ).loc Cert.FfnIdeal.main_arg2) ∧ StableHlo.launchContents m' c (Proc.devRef .tc Cert.FfnRefIdeal.main_arg3) = m ((c.tc : Thread Cert.FfnIdeal.nD Cert.FfnIdeal.τ).loc Cert.FfnIdeal.main_arg3) ∧ StableHlo.launchContents m' c (Proc.devRef .tc Cert.FfnRefIdeal.main_arg4) = m ((c.tc : Thread Cert.FfnIdeal.nD Cert.FfnIdeal.τ).loc Cert.FfnIdeal.main_arg4) ∧ StableHlo.launchContents m' c (Proc.devRef .tc Cert.FfnRefIdeal.main_arg5) = m ((c.tc : Thread Cert.FfnIdeal.nD Cert.FfnIdeal.τ).loc Cert.FfnIdeal.main_arg5) ∧ StableHlo.launchContents m' c (Proc.devRef .tc Cert.FfnRefIdeal.main_arg6) = m ((c.tc : Thread Cert.FfnIdeal.nD Cert.FfnIdeal.τ).loc Cert.FfnIdeal.main_arg6) := h

set_option maxHeartbeats 2000000 in
/-- The calls and the reference have equal results. -/
theorem algebraic : Cert.algebraic_FfnIdeal_FfnRefIdeal_pre_finite_ffn (hFfnIdeal := Cert.FfnIdeal.Gen.facts) (hFfnRefIdeal := Cert.FfnRefIdeal.Gen.facts) (hPre_finite_ffn := preFacts) := by
  pair_intro
  · run_from run_main m g
    · exact hc.1 c Cert.FfnIdeal.main_v6_2 (by decide)
    · exact hc.1 c Cert.FfnIdeal.main_v11_0 (by decide)
    · exact hc.1 c Cert.FfnIdeal.main_v12 (by decide)
    · exact hc.1 c Cert.FfnIdeal.main_v11_2 (by decide)
    · exact hc.1 c Cert.FfnIdeal.main_v11_3 (by decide)
    · exact hc.1 c Cert.FfnIdeal.main_v11_4 (by decide)
    · exact hc.1 c Cert.FfnIdeal.main_v11_5 (by decide)
    · exact hc.1 c Cert.FfnIdeal.main_v13 (by decide)
    · exact (hc.1 c Cert.FfnIdeal.main_arg0 (by decide)).trans (frame_main m g c _ (by decide))
    · exact (hc.1 c Cert.FfnIdeal.main_arg1 (by decide)).trans (frame_main m g c _ (by decide))
    · exact (hc.1 c Cert.FfnIdeal.main_arg2 (by decide)).trans (frame_main m g c _ (by decide))
    · exact (hc.1 c Cert.FfnIdeal.main_arg3 (by decide)).trans (frame_main m g c _ (by decide))
    · exact (hc.1 c Cert.FfnIdeal.main_arg4 (by decide)).trans (frame_main m g c _ (by decide))
    · exact (hc.1 c Cert.FfnIdeal.main_arg5 (by decide)).trans (frame_main m g c _ (by decide))
    · exact (hc.1 c Cert.FfnIdeal.main_arg6 (by decide)).trans (frame_main m g c _ (by decide))
  · run_from Cert.FfnRefIdeal.Value.run m' g'
    · obtain ⟨a, H⟩ := reals_of_pre m hpre c
      obtain ⟨e0, e1, e2, e3, e4, e5, e6⟩ := agree (hagree c)
      have ev := Cert.FfnRefIdeal.Read.val_main_v90_eq (F := Ideal) (StableHlo.launchContents m' c)
      simp only [e0, e1, e2, e3, e4, e5, e6] at ev
      refine ev.trans (Eq.trans ?_ (tail6 (ρ := g) H).symm)
      funext j
      idx_vars j
      exact FfnRef.v90 H j0 j1
    · obtain ⟨a, H⟩ := reals_of_pre m hpre c
      obtain ⟨e0, e1, e2, e3, e4, e5, e6⟩ := agree (hagree c)
      have ev := Cert.FfnRefIdeal.Read.val_main_v91_eq (F := Ideal) (StableHlo.launchContents m' c)
      simp only [e0, e1, e2, e3, e4, e5, e6] at ev
      refine ev.trans (Eq.trans ?_ (tail10 (ρ := g) H).symm)
      funext j
      idx_vars j
      exact FfnRef.v91 H j0 j1
    · obtain ⟨a, H⟩ := reals_of_pre m hpre c
      obtain ⟨e0, e1, e2, e3, e4, e5, e6⟩ := agree (hagree c)
      have ev := Cert.FfnRefIdeal.Read.val_main_v48_eq (F := Ideal) (StableHlo.launchContents m' c)
      simp only [e0, e1, e2, e3, e4, e5, e6] at ev
      refine ev.trans (Eq.trans ?_ (tail11 (ρ := g) H).symm)
      funext j
      idx_vars j
      exact FfnRef.v48 H j0
    · obtain ⟨a, H⟩ := reals_of_pre m hpre c
      obtain ⟨e0, e1, e2, e3, e4, e5, e6⟩ := agree (hagree c)
      have ev := Cert.FfnRefIdeal.Read.val_main_v92_eq (F := Ideal) (StableHlo.launchContents m' c)
      simp only [e0, e1, e2, e3, e4, e5, e6] at ev
      refine ev.trans (Eq.trans ?_ (tail12 (ρ := g) H).symm)
      funext j
      idx_vars j
      exact FfnRef.v92 H j0 j1
    · obtain ⟨a, H⟩ := reals_of_pre m hpre c
      obtain ⟨e0, e1, e2, e3, e4, e5, e6⟩ := agree (hagree c)
      have ev := Cert.FfnRefIdeal.Read.val_main_v93_eq (F := Ideal) (StableHlo.launchContents m' c)
      simp only [e0, e1, e2, e3, e4, e5, e6] at ev
      refine ev.trans (Eq.trans ?_ (tail13 (ρ := g) H).symm)
      funext j
      idx_vars j
      exact FfnRef.v93 H j0 j1
    · obtain ⟨a, H⟩ := reals_of_pre m hpre c
      obtain ⟨e0, e1, e2, e3, e4, e5, e6⟩ := agree (hagree c)
      have ev := Cert.FfnRefIdeal.Read.val_main_v94_eq (F := Ideal) (StableHlo.launchContents m' c)
      simp only [e0, e1, e2, e3, e4, e5, e6] at ev
      refine ev.trans (Eq.trans ?_ (tail14 (ρ := g) H).symm)
      funext j
      idx_vars j
      exact FfnRef.v94 H j0 j1
    · obtain ⟨a, H⟩ := reals_of_pre m hpre c
      obtain ⟨e0, e1, e2, e3, e4, e5, e6⟩ := agree (hagree c)
      have ev := Cert.FfnRefIdeal.Read.val_main_v95_eq (F := Ideal) (StableHlo.launchContents m' c)
      simp only [e0, e1, e2, e3, e4, e5, e6] at ev
      refine ev.trans (Eq.trans ?_ (tail15 (ρ := g) H).symm)
      funext j
      idx_vars j
      exact FfnRef.v95 H j0 j1
    · obtain ⟨a, H⟩ := reals_of_pre m hpre c
      obtain ⟨e0, e1, e2, e3, e4, e5, e6⟩ := agree (hagree c)
      have ev := Cert.FfnRefIdeal.Read.val_main_v75_eq (F := Ideal) (StableHlo.launchContents m' c)
      simp only [e0, e1, e2, e3, e4, e5, e6] at ev
      refine ev.trans (Eq.trans ?_ (tail16 (ρ := g) H).symm)
      funext j
      idx_vars j
      exact FfnRef.v75 H j0
end Cert.FfnVal
end
-- ==== Proof.Pw1Ref.lean ====
module
public import proofs.«01_k».proof.Proof.Reals
public import proofs.«01_k».proof.Proof.Gen.Pw1RefIdeal.Read
public import Idealize.ShloMosaic.Lib.Pointwise
@[expose] public section
set_option maxRecDepth 16384
noncomputable section
/-! The norm and the first pointwise product, and their gradients, over arrays of reals; the reference computes them. -/
namespace Cert.Pw1Ref
open Idealize.ShloMosaic Idealize.ShloMosaic.TcCoe Idealize.SL.Sem Cert.Pw1RefIdeal Cert.Pw1RefIdeal.Read Cert.Reals

/-- The arguments: rows, the norm's scale, the weight, the cotangents of the rows and of the product. -/
structure Args where
  x : Fin 16384 → Fin 1024 → ℝ
  g : Fin 1024 → ℝ
  w : Fin 1024 → Fin 2048 → ℝ
  q : Fin 16384 → Fin 1024 → ℝ
  z : Fin 16384 → Fin 2048 → ℝ
namespace Args
variable (a : Args) (i : Fin 16384)
/-- The normed rows. -/
def h (k : Fin 1024) : ℝ := a.x i k * rst (a.x i) * a.g k
/-- Their product with the weight. -/
def p (j : Fin 2048) : ℝ := ∑ k, a.h i k * a.w k j
/-- The gradient of the normed rows. -/
def dh (k : Fin 1024) : ℝ := ∑ j, a.z i j * a.w k j
/-- The gradient of the rows. -/
def dx (k : Fin 1024) : ℝ := a.q i k + rmsBwd (a.x i) (fun k => a.dh i k * a.g k) k
/-- One row's term of the scale's gradient. -/
def dg (k : Fin 1024) (i : Fin 16384) : ℝ := a.dh i k * (a.x i k * rst (a.x i))
end Args

/-- The five arguments are arrays of reals. -/
structure Real (a : Args) (x : (⟨S16384x1024, .f32⟩ : BufTy).Contents (Elt Ideal)) (g : (⟨S1024, .f32⟩ : BufTy).Contents (Elt Ideal)) (w : (⟨S1024x2048, .f32⟩ : BufTy).Contents (Elt Ideal))
    (q : (⟨S16384x1024, .f32⟩ : BufTy).Contents (Elt Ideal)) (z : (⟨S16384x2048, .f32⟩ : BufTy).Contents (Elt Ideal)) : Prop where
  x : ∀ i k, x (ix2 i k) = ((a.x i k : ℝ) : EReal)
  g : ∀ k, g (ix1 k) = ((a.g k : ℝ) : EReal)
  w : ∀ i k, w (ix2 i k) = ((a.w i k : ℝ) : EReal)
  q : ∀ i k, q (ix2 i k) = ((a.q i k : ℝ) : EReal)
  z : ∀ i k, z (ix2 i k) = ((a.z i k : ℝ) : EReal)

variable {a : Args} {x : (⟨S16384x1024, .f32⟩ : BufTy).Contents (Elt Ideal)} {g : (⟨S1024, .f32⟩ : BufTy).Contents (Elt Ideal)} {w : (⟨S1024x2048, .f32⟩ : BufTy).Contents (Elt Ideal)}
    {q : (⟨S16384x1024, .f32⟩ : BufTy).Contents (Elt Ideal)} {z : (⟨S16384x2048, .f32⟩ : BufTy).Contents (Elt Ideal)} (H : Real a x g w q z)
include H

theorem v6 (i : Fin 16384) (o : Fin 1) : val_main_v6 (F := Ideal) x (ix2 i o) = ((ms (a.x i) : ℝ) : EReal) := by
  pointwise [val_main_v6, val_main_v5, val_main_v4, val_main_v3, val_main_v2, val_main_v1, val_main_v0, val_main_cst, val_main_cst_0, val_main_cst_1]
  simp only [H.x, ← EReal.coe_mul, sum_coe, ofBits_eps, ofBits_1024, div_1024, ← EReal.coe_add]
  rfl
theorem v7 (i : Fin 16384) (o : Fin 1) : val_main_v7 (F := Ideal) x (ix2 i o) = ((rst (a.x i) : ℝ) : EReal) := by
  pointwise [val_main_v7]
  rw [v6 H]
  exact rsqrt_ms _
theorem v10 (i : Fin 16384) (o : Fin 1) : val_main_v10 (F := Ideal) x (ix2 i o) = ((-(1 / 2) * (rst (a.x i) / ms (a.x i)) : ℝ) : EReal) := by
  pointwise [val_main_v10, val_main_v9, val_main_v8, val_main_cst_2]
  rw [v6 H, v7 H, div_coe (ms_pos _).ne', ofBits_neg_half, ← EReal.coe_mul]
theorem v15 (i : Fin 16384) (j : Fin 1024) : val_main_v15 (F := Ideal) x g (ix2 i j) = ((a.h i j : ℝ) : EReal) := by
  pointwise [val_main_v15, val_main_v14, val_main_v13, val_main_v12, val_main_v11]
  simp only [H.x, v7 H, H.g, ← EReal.coe_mul]; rfl
theorem v40 (i : Fin 16384) (j : Fin 1024) : val_main_v40 (F := Ideal) x g (ix2 i j) = ((a.h i j : ℝ) : EReal) := by
  pointwise [val_main_v40]
  exact v15 H i j
theorem v38 (i : Fin 16384) (j : Fin 2048) : val_main_v38 (F := Ideal) x g w (ix2 i j) = ((a.p i j : ℝ) : EReal) := by
  pointwise [val_main_v38, val_main_v16]
  simp only [v15 H, H.w, ← EReal.coe_mul, sum_coe]; rfl
theorem v17 (i : Fin 16384) (j : Fin 1024) : val_main_v17 (F := Ideal) w z (ix2 i j) = ((a.dh i j : ℝ) : EReal) := by
  pointwise [val_main_v17]
  simp only [H.w, H.z, ← EReal.coe_mul, sum_coe]; rfl
theorem v23 (j : Fin 1024) : val_main_v23 (F := Ideal) x w z (ix1 j) = ((∑ i, a.dg j i : ℝ) : EReal) := by
  pointwise [val_main_v23, val_main_v20, val_main_v19, val_main_v18, val_main_v12, val_main_v11, val_main_cst_3, val_main_cst_4]
  simp only [Finset.univ_unique, Finset.sum_singleton, H.x, v7 H, v17 H, ← EReal.coe_mul, sum_coe]
  exact congrArg (fun x : ℝ => (x : EReal)) (Finset.sum_congr rfl fun i _ => mul_comm _ _)
theorem v39 (i : Fin 16384) (j : Fin 1024) : val_main_v39 (F := Ideal) x g w q z (ix2 i j) = ((a.dx i j : ℝ) : EReal) := by
  pointwise [val_main_v39, val_main_v37, val_main_v36, val_main_v35, val_main_v34, val_main_v33, val_main_v32, val_main_v31, val_main_v30, val_main_v29, val_main_v28, val_main_v27, val_main_v26, val_main_v25, val_main_v24, val_main_v22, val_main_v21, val_main_v13, val_main_cst_5, val_main_cst_6, val_main_cst_7]
  simp only [Finset.univ_unique, Finset.sum_singleton, H.x, v7 H, v10 H, v17 H, H.q, H.g, ← EReal.coe_mul, sum_coe, ofBits_1024, div_1024, ← EReal.coe_add]
  exact congrArg (fun x : ℝ => (x : EReal)) (congrArg _ (rmsBwd_chain (a.x i) (fun k => a.dh i k * a.g k) j))
end Cert.Pw1Ref
end
-- ==== Proof.Pw1Run.lean ====
module
public import proofs.«01_k».proof.Defs
public import proofs.«01_k».proof.Proof.Gen.Pw1Ideal.Frame
@[expose] public section
set_option maxRecDepth 16384
noncomputable section
/-! The run of the first pointwise convolution's two calls, with what every array holds at the end. -/
namespace Cert.Pw1Val
open Idealize.ShloMosaic Idealize.ShloMosaic.TcCoe Idealize.ShloMosaic.Tactic Idealize.SL Idealize.SL.RA Idealize.SL.BI Idealize.SL.BI.BIBase Idealize.SL.BI.Laws Idealize.SL.ProofMode Idealize.SL.Sem Idealize.ShloMosaic.Rounds Cert.Pw1Ideal Cert.Pw1Ideal.Gen
open scoped Idealize.SL.BI

variable {F : FTy → Type} [FloatOps F]
local notation "𝕄" => MT nD τ sig Unit (Elt F) ℕ (UR sig nD τ) ℕ

set_option backward.isDefEq.respectTransparency.types false in
/-- Every run ends with each array of the program at the last boundary's contents and every counter at zero. -/
theorem run_main (m : (ℓ : Loc nD τ sig) → Buf (Elt F) ℓ) (ρ : Dev nD → PrngReg) : θ_run defs (onTc (τ := τ) (main (F := F))) ⟨m, fun _ => 0, ρ⟩ (fun r => (∀ (c : Dev nD) (b : Ref sig .tc),
      ¬ (Proc.devRef .tc b : DevRef τ sig).isScoped → r.2.mem ((c.tc : Thread nD τ).loc b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h hz => ⟨fun c b hb => h c _ (mem_uc b hb), funext fun g => hz g (.inr (no_unscoped g.2))⟩)

/-- Every run leaves the arguments. -/
theorem frame_main (m : (ℓ : Loc nD τ sig) → Buf (Elt F) ℓ) (ρ : Dev nD → PrngReg) (c : Dev nD) : ∀ b ∈ argRefs, W5 m ρ c (Proc.devRef .tc b) = m ((c : Thread nD τ).loc b) :=
  W5_args m ρ c
end Cert.Pw1Val
end
-- ==== Proof.Pw1In.lean ====
module
public import proofs.«01_k».proof.Proof.Pw1Ref
public import proofs.«01_k».proof.Proof.Pw1Run
public import Idealize.ShloMosaic.Lib.Pipeline.ValueKit
public import Idealize.ShloMosaic.Lib.Pipeline.ReadBack
public import Idealize.ShloMosaic.Lib.Claim
@[expose] public section
set_option maxRecDepth 16384
noncomputable section
/-! The `conv_pw1` call: what the host hands to it, its blocks, and the product of the normed rows with the weight. -/
namespace Cert.Pw1Val
open Idealize.ShloMosaic Idealize.ShloMosaic.TcCoe Idealize.SL.Sem Cert.Pw1Ideal Cert.Pw1Ideal.Gen Cert.Reals
open Cert.Pw1Ref (Args)

theorem idx0 : ∀ t : Fin cfg0.N, win0_0.index t = ![t.val, 0] ∧ win0_1.index t = ![0, 0] ∧ win0_2.index t = ![0, 0] ∧ win0_3.index t = ![t.val, 0] :=
  (by decide +kernel : ∀ t : Fin grid0.N, _)
theorem lt0 (t : Fin cfg0.N) : t.val < 32 := lt_of_lt_of_eq t.isLt (by decide +kernel)
/-- The array row of row `r` of block `t`. -/
def row0 (t : Fin cfg0.N) (r : Fin 512) : Fin 16384 := ⟨t.val * 512 + r.val, by have := lt0 t; omega⟩

variable {m : (ℓ : Loc nD τ sig) → Buf (Elt Ideal) ℓ} {ρ : Dev nD → PrngReg} {c : Dev nD} {a : Args}

/-- The five arguments are arrays of reals. -/
abbrev Reads (m : (ℓ : Loc nD τ sig) → Buf (Elt Ideal) ℓ) (c : Dev nD) (a : Args) : Prop :=
  Pw1Ref.Real a (m ((c : Thread nD τ).loc main_arg0)) (m ((c : Thread nD τ).loc main_arg1)) (m ((c : Thread nD τ).loc main_arg2)) (m ((c : Thread nD τ).loc main_arg3)) (m ((c : Thread nD τ).loc main_arg4))

theorem h1 (H : Reads m c a) (j : Fin 2048) (k : Fin 1024) : (show FVec Ideal S2048x1024 .bf16 from W1 m ρ c (Proc.devRef .tc main_v1)) (ix2 j k) = ((a.w k j : ℝ) : EReal) := by
  unfold W1 hostOps0; entry_read; pointwise; exact H.w _ _
theorem h2 (H : Reads m c a) (z : Fin 1) (k : Fin 1024) : (show FVec Ideal S1x1024 .f32 from W1 m ρ c (Proc.devRef .tc main_v2)) (ix2 z k) = ((a.g k : ℝ) : EReal) := by
  unfold W1 hostOps0; entry_read; pointwise; exact H.g _

theorem b0 (H : Reads m c a) (t : Fin cfg0.N) (r : Fin 512) (k : Fin 1024) : (show FVec Ideal S512x1024 .f32 from iblk0 (V1 m ρ) c 0 t) (ix2 r k) = ((a.x (row0 t r) k : ℝ) : EReal) := by
  have e : (show FVec Ideal S512x1024 .f32 from iblk0 (V1 m ρ) c 0 t) (ix2 r k) = (show FVec Ideal S16384x1024 .f32 from V1 m ρ c main_arg0) (ix2 (row0 t r) k) := by blk_ext [iblk0, idx0 t, row0]
  rw [e, show V1 m ρ c main_arg0 = _ from W1_args m ρ c main_arg0 (by decide)]; exact H.x _ _
theorem b1 (H : Reads m c a) (t : Fin cfg0.N) (z : Fin 1) (k : Fin 1024) : (show FVec Ideal S1x1024 .f32 from iblk0 (V1 m ρ) c 1 t) (ix2 z k) = ((a.g k : ℝ) : EReal) := by
  rw [← h2 (ρ := ρ) H z k]; blk_ext [iblk0, idx0 t]
theorem b2 (H : Reads m c a) (t : Fin cfg0.N) (j : Fin 2048) (k : Fin 1024) : (show FVec Ideal S2048x1024 .bf16 from iblk0 (V1 m ρ) c 2 t) (ix2 j k) = ((a.w k j : ℝ) : EReal) := by
  rw [← h1 (ρ := ρ) H j k]; blk_ext [iblk0, idx0 t]

/-! A block of 1024 columns of the product. -/

theorem zero2 : (![0, 0] : Fin 2 → ℕ) = fun _ => 0 := by funext b; match b with | ⟨0, _⟩ => rfl | ⟨1, _⟩ => rfl

/-- Rows of the weight, loaded from `off`. -/
theorem ld_rows {X : Vec Ideal S2048x1024 .bf16} {W : Fin 2048 → Fin 1024 → ℝ} (hX : ∀ j k, X (ix2 j k) = ((W j k : ℝ) : EReal)) {off : Fin 2 → ℕ} {inb} (h1 : off 1 = 0)
    (x : Fin 1024) (k : Fin 1024) (j : Fin 2048) (hj : j.val = off 0 + x.val) : View.ld X (Rect.unit (s := S2048x1024) off S1024x1024.size inb) (ix2 x k) = ((W j k : ℝ) : EReal) := by
  rw [← hX j k]
  refine congrArg X (funext fun b => Fin.ext ?_)
  match b with
  | ⟨0, _⟩ => exact (ValueKit.rect_emb_unit_val (s := S2048x1024) off S1024x1024.size inb (ix2 x k) 0).trans hj.symm
  | ⟨1, _⟩ => exact (ValueKit.rect_emb_unit_val (s := S2048x1024) off S1024x1024.size inb (ix2 x k) 1).trans (by rw [h1]; exact Nat.zero_add k.val)
/-- A block written in pieces holds at an index what the piece covering it holds there. -/
theorem canon_pieces {s : Shape} {e : EltTy} (G : s.Idx → Elt Ideal e) {L : List (View.Piece (Elt Ideal) s e)} (h : View.PiecesOf G L) (y : s.Idx) (hc : ∃ p ∈ L, y ∈ p.1.set) : View.canon L y = G y :=
  View.canon_apply_of_pieces G L h.mem y hc
/-- A block of columns holds the whole block's entries where it lies. -/
theorem cols_of {G : Fin 512 → Fin 2048 → EReal} {off : Fin 2 → ℕ} {inb} {f : S512x1024.Idx → EReal} (h0 : off 0 = 0)
    (h : ∀ (r : Fin 512) (x : Fin 1024) (k : Fin 2048), k.val = off 1 + x.val → f (ix2 r x) = G r k) (x : S512x1024.Idx) :
    f x = (fun i : S512x2048.Idx => G (i 0) (i 1)) ((Rect.unit (s := S512x2048) off ![512, 1024] inb).emb x) := by
  obtain ⟨x0, x1, rfl⟩ : ∃ x0 x1, x = ix2 x0 x1 := ⟨x 0, x 1, by funext b; match b with | ⟨0, _⟩ => rfl | ⟨1, _⟩ => rfl⟩
  have e : ((Rect.unit (s := S512x2048) off ![512, 1024] inb).emb (ix2 x0 x1)) 0 = x0 :=
    Fin.ext ((ValueKit.rect_emb_unit_val (s := S512x2048) off ![512, 1024] inb (ix2 x0 x1) 0).trans (by rw [h0]; exact Nat.zero_add x0.val))
  dsimp only
  rw [e]
  exact h x0 x1 _ (ValueKit.rect_emb_unit_val (s := S512x2048) off ![512, 1024] inb (ix2 x0 x1) 1)

section
variable {X : Vec Ideal S512x1024 .f32} {G : Vec Ideal S1x1024 .f32} {i : Fin 512 → Fin 16384} (hX : ∀ r k, X (ix2 r k) = ((a.x (i r) k : ℝ) : EReal)) (hG : ∀ k, G (ix2 0 k) = ((a.g k : ℝ) : EReal))
include hX hG
/-- The normed rows. -/
theorem hrow (r : Fin 512) (k : Fin 1024) : k0_pay1 (F := Ideal) X G (ix2 r k) = ((a.h (i r) k : ℝ) : EReal) := by
  pointwise [k0_pay1]
  simp only [hX, hG, ← EReal.coe_mul, sum_coe, ofBits_eps, ofBits_1024, div_1024, ← EReal.coe_add]
  rw [rsqrt_ms, ← EReal.coe_mul, ← EReal.coe_mul]; rfl
variable {w : Vec Ideal S1024x1024 .bf16} {x : Fin 1024} {j : Fin 2048} (hw : ∀ k, w (ix2 x k) = ((a.w k j : ℝ) : EReal))
include hw
theorem lo (r : Fin 512) : k0_pay2 (F := Ideal) X G w (ix2 r x) = ((a.p (i r) j : ℝ) : EReal) := by
  pointwise [k0_pay2]
  simp only [hrow hX hG, hw, ← EReal.coe_mul, sum_coe]; rfl
theorem hi (r : Fin 512) : k0_pay3 (F := Ideal) X G w (ix2 r x) = ((a.p (i r) j : ℝ) : EReal) := by
  pointwise [k0_pay3]
  simp only [hrow hX hG, hw, ← EReal.coe_mul, sum_coe]; rfl
end

theorem out_of {X : Vec Ideal S512x1024 .f32} {G : Vec Ideal S1x1024 .f32} {T : Vec Ideal S2048x1024 .bf16} {i : Fin 512 → Fin 16384} (hX : ∀ r k, X (ix2 r k) = ((a.x (i r) k : ℝ) : EReal)) (hG : ∀ k, G (ix2 0 k) = ((a.g k : ℝ) : EReal))
    (hT : ∀ j k, T (ix2 j k) = ((a.w k j : ℝ) : EReal)) (r : Fin 512) (j : Fin 2048) : out0_3 (F := Ideal) X G T (ix2 r j) = ((a.p (i r) j : ℝ) : EReal) := by
  unfold out0_3
  rw [show View.ld X r0_0 = X from View.ld_unit_zero zero2 _ _, show View.ld G r0_1 = G from View.ld_unit_zero zero2 _ _]
  refine canon_pieces (s := S512x2048) (e := .bf16) (fun y : S512x2048.Idx => ((a.p (i (y 0)) (y 1) : ℝ) : EReal)) ?_ (ix2 r j) ?_
  on_goal 2 => exact View.cover_of_tiled _ ![512, 1024] rfl _
  refine And.intro ?_ (And.intro ?_ trivial)
  · exact cols_of (G := fun r j => ((a.p (i r) j : ℝ) : EReal)) (inb := by decide) rfl fun r x k hk => hi hX hG (fun k' => ld_rows hT rfl x k' k hk) r
  · exact cols_of (G := fun r j => ((a.p (i r) j : ℝ) : EReal)) (inb := by decide) rfl fun r x k hk => lo hX hG (fun k' => ld_rows hT rfl x k' k hk) r

set_option maxHeartbeats 2000000 in
theorem final3 (H : Reads m c a) : (dat0 (V1 m ρ) c).arrAt 3 cfg0.N = (show FVec Ideal S16384x2048 .bf16 from fun y : S16384x2048.Idx => ((a.p (y 0) (y 1) : ℝ) : EReal)) := by
  refine (dat0 (V1 m ρ) c).arrAt_eq_of_covers 3 _ (by decide +kernel) fun t hf y => ?_
  have e (y0 : Fin 512) (y1 : Fin 2048) : ((cfg0.win 3).blk t).view.emb (ix2 y0 y1) = (ix2 (row0 t y0) y1 : S16384x2048.Idx) := by blk_ext [idx0 t, row0]
  blk_simp
  rw [after0_3]
  idx_vars y
  rw [e]
  exact out_of (b0 H t) (b1 H t 0) (b2 H t) y0 y1
end Cert.Pw1Val
end
-- ==== Proof.Pw1Val.lean ====
module
public import proofs.«01_k».proof.Proof.Pw1In
@[expose] public section
set_option maxRecDepth 16384
noncomputable section
/-! The `conv_pw1_bwd` call over arrays of reals, and what every result holds at the end. -/
namespace Cert.Pw1Val
open Idealize.ShloMosaic Idealize.ShloMosaic.TcCoe Idealize.SL.Sem Cert.Pw1Ideal Cert.Pw1Ideal.Gen Cert.Reals
open Cert.Pw1Ref (Args)

theorem idx1 : ∀ t : Fin cfg1.N, win1_0.index t = ![t.val, 0] ∧ win1_1.index t = ![t.val, 0] ∧ win1_2.index t = ![0, 0] ∧ win1_3.index t = ![t.val, 0]
    ∧ win1_4.index t = ![0, 0] ∧ win1_5.index t = ![t.val, 0] ∧ win1_6.index t = ![t.val, 0] ∧ win1_7.index t = ![0, 0] :=
  (by decide +kernel : ∀ t : Fin grid1.N, _)
theorem lt1 (t : Fin cfg1.N) : t.val < 32 := lt_of_lt_of_eq t.isLt (by decide +kernel)
/-- The array row of row `r` of block `t`. -/
def row (t : Fin cfg1.N) (r : Fin 512) : Fin 16384 := ⟨t.val * 512 + r.val, by have := lt1 t; omega⟩

variable {m : (ℓ : Loc nD τ sig) → Buf (Elt Ideal) ℓ} {ρ : Dev nD → PrngReg} {c : Dev nD} {a : Args} (H : Reads m c a)

/-! What the staged blocks hold. -/
include H
theorem k1 (j : Fin 2048) (k : Fin 1024) : (show FVec Ideal S2048x1024 .bf16 from W3 m ρ c (Proc.devRef .tc main_v1)) (ix2 j k) = ((a.w k j : ℝ) : EReal) := by
  rw [show W3 m ρ c (Proc.devRef .tc main_v1) = _ from (W3_of m ρ c main_v1 (by decide)).trans (W2_of m ρ c main_v1 (by decide))]; exact h1 H j k
theorem k2 (z : Fin 1) (k : Fin 1024) : (show FVec Ideal S1x1024 .f32 from W3 m ρ c (Proc.devRef .tc main_v2)) (ix2 z k) = ((a.g k : ℝ) : EReal) := by
  rw [show W3 m ρ c (Proc.devRef .tc main_v2) = _ from (W3_of m ρ c main_v2 (by decide)).trans (W2_of m ρ c main_v2 (by decide))]; exact h2 H z k
theorem k4 (i : Fin 16384) (j : Fin 2048) : (show FVec Ideal S16384x2048 .bf16 from W3 m ρ c (Proc.devRef .tc main_v4)) (ix2 i j) = ((a.z i j : ℝ) : EReal) := by
  have hz : ∀ i j, (show FVec Ideal S16384x2048 .f32 from W2 m ρ c (Proc.devRef .tc main_arg4)) (ix2 i j) = ((a.z i j : ℝ) : EReal) := fun i j => by
    rw [show W2 m ρ c (Proc.devRef .tc main_arg4) = _ from W2_args m ρ c main_arg4 (by decide)]; exact H.z i j
  unfold W3
  generalize W2 m ρ c = V' at hz ⊢
  unfold hostOps1
  entry_read; pointwise
  exact hz _ _

variable (t : Fin cfg1.N)
theorem blk0 (r : Fin 512) (k : Fin 1024) : (show FVec Ideal S512x1024 .f32 from iblk1 (V3 m ρ) c 0 t) (ix2 r k) = ((a.q (row t r) k : ℝ) : EReal) := by
  have e : (show FVec Ideal S512x1024 .f32 from iblk1 (V3 m ρ) c 0 t) (ix2 r k) = (show FVec Ideal S16384x1024 .f32 from V3 m ρ c main_arg3) (ix2 (row t r) k) := by blk_ext [iblk1, idx1 t, row]
  rw [e, show V3 m ρ c main_arg3 = _ from W3_args m ρ c main_arg3 (by decide)]; exact H.q _ _
theorem blk1 (r : Fin 512) (k : Fin 1024) : (show FVec Ideal S512x1024 .f32 from iblk1 (V3 m ρ) c 1 t) (ix2 r k) = ((a.x (row t r) k : ℝ) : EReal) := by
  have e : (show FVec Ideal S512x1024 .f32 from iblk1 (V3 m ρ) c 1 t) (ix2 r k) = (show FVec Ideal S16384x1024 .f32 from V3 m ρ c main_arg0) (ix2 (row t r) k) := by blk_ext [iblk1, idx1 t, row]
  rw [e, show V3 m ρ c main_arg0 = _ from W3_args m ρ c main_arg0 (by decide)]; exact H.x _ _
theorem blk2 (k : Fin 1024) : (show FVec Ideal S1x1024 .f32 from iblk1 (V3 m ρ) c 2 t) (ix2 0 k) = ((a.g k : ℝ) : EReal) := by
  rw [← k2 (ρ := ρ) H 0 k]; blk_ext [iblk1, idx1 t]
theorem blk3 (r : Fin 512) (k : Fin 2048) : (show FVec Ideal S512x2048 .bf16 from iblk1 (V3 m ρ) c 3 t) (ix2 r k) = ((a.z (row t r) k : ℝ) : EReal) := by
  rw [← k4 (ρ := ρ) H (row t r) k]; blk_ext [iblk1, idx1 t, row]
theorem blk4 (k : Fin 2048) (j : Fin 1024) : (show FVec Ideal S2048x1024 .bf16 from iblk1 (V3 m ρ) c 4 t) (ix2 k j) = ((a.w j k : ℝ) : EReal) := by
  rw [← k1 (ρ := ρ) H k j]; blk_ext [iblk1, idx1 t]
omit H t

section Body
variable {Z : Vec Ideal S512x2048 .bf16} {T : Vec Ideal S2048x1024 .bf16} {X Q : Vec Ideal S512x1024 .f32} {G : Vec Ideal S1x1024 .f32} {i : Fin 512 → Fin 16384}
  (hZ : ∀ r k, Z (ix2 r k) = ((a.z (i r) k : ℝ) : EReal)) (hT : ∀ k j, T (ix2 k j) = ((a.w j k : ℝ) : EReal)) (hX : ∀ r k, X (ix2 r k) = ((a.x (i r) k : ℝ) : EReal))
  (hG : ∀ k, G (ix2 0 k) = ((a.g k : ℝ) : EReal)) (hQ : ∀ r k, Q (ix2 r k) = ((a.q (i r) k : ℝ) : EReal))

/-! The body's payloads, entry by entry. -/

include hZ hT in
theorem pay3 (r : Fin 512) (k : Fin 1024) : k1_pay3 (F := Ideal) Z T (ix2 r k) = ((a.dh (i r) k : ℝ) : EReal) := by
  pointwise [k1_pay3]
  simp only [hZ, hT, ← EReal.coe_mul, sum_coe]; rfl
include hX
theorem pay5 (r : Fin 512) (z : Fin 1) : k1_pay5 (F := Ideal) X (ix2 r z) = ((rst (a.x (i r)) : ℝ) : EReal) := by
  pointwise [k1_pay5]
  simp only [hX, ← EReal.coe_mul, sum_coe, ofBits_eps, ofBits_1024, div_1024, ← EReal.coe_add]
  exact rsqrt_ms _
theorem pay6 (r : Fin 512) (k : Fin 1024) : k1_pay6 (F := Ideal) X (ix2 r k) = ((a.x (i r) k * rst (a.x (i r)) : ℝ) : EReal) := by
  pointwise [k1_pay6]
  simp only [hX, pay5 hX, ← EReal.coe_mul]
include hG in
theorem pay7 (r : Fin 512) (k : Fin 1024) : k1_pay7 (F := Ideal) X G (ix2 r k) = ((a.h (i r) k : ℝ) : EReal) := by
  pointwise [k1_pay7, k1_pay4]
  simp only [hG, pay6 hX, ← EReal.coe_mul]; rfl
include hZ hT
theorem pay8 {A : Vec Ideal S8x1024 .f32} (o : Fin 8) (k : Fin 1024) :
    k1_pay8 (F := Ideal) Z T X A (ix2 o k) = A (ix2 o k) + ((∑ j : Fin 64, a.dg k (i ⟨j * 8 + o, by omega⟩) : ℝ) : EReal) := by
  pointwise [k1_pay8]
  simp only [pay3 hZ hT, pay6 hX, ← EReal.coe_mul, sum_coe]; rfl
include hG hQ
theorem pay1 (r : Fin 512) (k : Fin 1024) : k1_pay1 (F := Ideal) (k1_pay5 X) (k1_pay6 X) (k1_pay9 Z T G) Q (ix2 r k) = ((a.dx (i r) k : ℝ) : EReal) := by
  pointwise [k1_pay1, k1_pay9, k1_pay4]
  simp only [hG, hQ, pay3 hZ hT, pay5 hX, pay6 hX, ← EReal.coe_mul, sum_coe, ofBits_1024, div_1024, ← EReal.coe_add, ← EReal.coe_sub]
  rfl
end Body

/-! The outputs at the end. -/
include H
set_option maxHeartbeats 2000000 in
theorem end5 : (dat1 (V3 m ρ) c).arrAt 5 cfg1.N = (fun i => ((a.dx (i 0) (i 1) : ℝ) : EReal) : FVec Ideal S16384x1024 .f32) := by
  refine (dat1 (V3 m ρ) c).arrAt_eq_of_covers 5 _ (by decide +kernel) fun t hf y => ?_
  have e (y0 : Fin 512) (y1 : Fin 1024) : ((cfg1.win 5).blk t).view.emb (ix2 y0 y1) = (ix2 (row t y0) y1 : S16384x1024.Idx) := by blk_ext [idx1 t, row]
  blk_simp
  rw [after1_5]
  idx_vars y
  rw [e]
  by_cases h : t.val % 32 = 0
  · rw [outsAt1_A (V3 m ρ) c t h]; frame_out; exact pay1 (blk3 H t) (blk4 H t) (blk1 H t) (blk2 H t) (blk0 H t) y0 y1
  · rw [outsAt1_B (V3 m ρ) c t h]; frame_out; exact pay1 (blk3 H t) (blk4 H t) (blk1 H t) (blk2 H t) (blk0 H t) y0 y1
set_option maxHeartbeats 2000000 in
theorem end6 : (dat1 (V3 m ρ) c).arrAt 6 cfg1.N = (fun i => ((a.h (i 0) (i 1) : ℝ) : EReal) : FVec Ideal S16384x1024 .bf16) := by
  refine (dat1 (V3 m ρ) c).arrAt_eq_of_covers 6 _ (by decide +kernel) fun t hf y => ?_
  have e (y0 : Fin 512) (y1 : Fin 1024) : ((cfg1.win 6).blk t).view.emb (ix2 y0 y1) = (ix2 (row t y0) y1 : S16384x1024.Idx) := by blk_ext [idx1 t, row]
  blk_simp
  rw [after1_6]
  idx_vars y
  rw [e]
  by_cases h : t.val % 32 = 0
  · rw [outsAt1_A (V3 m ρ) c t h]; frame_out; exact pay7 (blk1 H t) (blk2 H t) y0 y1
  · rw [outsAt1_B (V3 m ρ) c t h]; frame_out; exact pay7 (blk1 H t) (blk2 H t) y0 y1
set_option maxHeartbeats 2000000 in
theorem end7 : (dat1 (V3 m ρ) c).arrAt 7 cfg1.N = (fun i => ((∑ t : Fin 32, part8 32 64 rfl (a.dg (i 1)) (i 0) t : ℝ) : EReal) : FVec Ideal S8x1024 .f32) := by
  refine (dat1 (V3 m ρ) c).arrAt_eq_of_covers 7 _ (by decide +kernel) fun t hf y => ?_
  have e (y0 : Fin 8) (y1 : Fin 1024) : ((cfg1.win 7).blk t).view.emb (ix2 y0 y1) = (ix2 y0 y1 : S8x1024.Idx) := by blk_ext [idx1 t, row]
  have hz : (k1_pay2 (F := Ideal)) = fun _ => 0 := by funext j; pointwise [k1_pay2]
  have ht := lt1 t
  blk_simp
  idx_vars y
  rw [e, after1_7, Pipeline.eq_sum_fin_of_reset_step_apply_of_flush (fun n h => (outsAt1 (V3 m ρ) c n h).2.2) 32 (fun _ => 0)
    (fun p j => ((part8 32 64 rfl (a.dg (j 1)) (j 0) ⟨p.val, lt1 p⟩ : ℝ) : EReal))
    (fun t h j => by
      idx_vars j
      rw [outsAt1_A (V3 m ρ) c t h]; frame_out
      rw [hz]
      exact pay8 (A := fun _ => 0) (blk3 H t) (blk4 H t) (blk1 H t) j0 j1)
    (fun t h j => by
      idx_vars j
      rw [outsAt1_B (V3 m ρ) c t h]; frame_out
      exact pay8 (blk3 H t) (blk4 H t) (blk1 H t) j0 j1)
    t ((flush1_7 t).mp hf) _, zero_add]
  refine (sum_coe _ _).trans (congrArg (fun x : ℝ => (x : EReal)) (Finset.sum_congr rfl fun s _ => congrArg (part8 32 64 rfl _ _) (Fin.ext ?_)))
  show 32 * (t.val / 32) + s.val = s.val
  omega

/-! At the end of the run. -/

theorem tail3 : W5 m ρ c (Proc.devRef .tc main_v3) = (fun i => ((a.p (i 0) (i 1) : ℝ) : EReal) : FVec Ideal S16384x2048 .bf16) :=
  (W5_of m ρ c main_v3 (by decide)).trans ((W4_of m ρ c main_v3 (by decide)).trans ((W3_of m ρ c main_v3 (by decide)).trans ((W2_arr m ρ c 3).trans (final3 H))))
theorem tail5 : W5 m ρ c (Proc.devRef .tc main_v5_0) = (fun i => ((a.dx (i 0) (i 1) : ℝ) : EReal) : FVec Ideal S16384x1024 .f32) :=
  (W5_of m ρ c main_v5_0 (by decide)).trans ((W4_arr m ρ c 5).trans (end5 H))
theorem tail6 : W5 m ρ c (Proc.devRef .tc main_v5_1) = (fun i => ((a.h (i 0) (i 1) : ℝ) : EReal) : FVec Ideal S16384x1024 .bf16) :=
  (W5_of m ρ c main_v5_1 (by decide)).trans ((W4_arr m ρ c 6).trans (end6 H))
theorem tail7 : W5 m ρ c (Proc.devRef .tc main_v6) = (fun i => ((∑ n, a.dg (i 0) n : ℝ) : EReal) : FVec Ideal S1024 .f32) := by
  have h := (W4_arr m ρ c 7).trans (end7 H)
  unfold W5
  generalize W4 m ρ c = V' at h ⊢
  unfold hostOps2
  entry_read
  rw [show V' (Proc.devRef .tc main_v5_2) = _ from h]
  funext j
  idx_vars j
  pointwise
  simp only [sum_coe, sum_part8]
end Cert.Pw1Val
end
-- ==== Proof.Pw1Claim.lean ====
module
public import proofs.«01_k».proof.Defs
public import proofs.«01_k».proof.Proof.Finite
public import proofs.«01_k».proof.Proof.Pw1Val
public import proofs.«01_k».proof.Proof.Gen.Pw1RefIdeal.Run
public import Idealize.ShloMosaic.Lib.Claim
@[expose] public section
set_option maxRecDepth 16384
noncomputable section
/-! The `conv_pw1` and `conv_pw1_bwd` calls against plain maths and `jax.vjp`. -/
namespace Cert.Pw1Val
open Idealize.ShloMosaic Idealize.ShloMosaic.TcCoe Idealize.SL.Sem Cert.Reals

/-- The side conditions of the precondition's operations. -/
instance preFacts : Cert.Pre_finite_pw1.Facts := by constructor <;> decide

/-- Under the precondition the arguments are arrays of reals. -/
theorem reals_of_pre (m : (ℓ : Loc Cert.Pw1Ideal.nD Cert.Pw1Ideal.τ Cert.Pw1Ideal.sig) → Buf (Elt Ideal) ℓ) (h : Cert.Pre_Pw1Ideal_finite_pw1 m) (c : Dev Cert.Pw1Ideal.nD) :
    ∃ a, Reads m c a := by
  have e := congrFun (h c) (fun a => a.elim0)
  unfold Cert.Pre_finite_pw1.fn Cert.Pre_finite_pw1.fn_part1 at e
  obtain ⟨e0123, e4⟩ := IntOp.andi_eq_one.mp e
  obtain ⟨e012, e3⟩ := IntOp.andi_eq_one.mp e0123
  obtain ⟨e01, e2⟩ := IntOp.andi_eq_one.mp e012
  obtain ⟨e0, e1⟩ := IntOp.andi_eq_one.mp e01
  obtain ⟨x, hx⟩ := reals2 _ (reals_of_all _ _ _ _ _ e0)
  obtain ⟨g, hg⟩ := reals1 _ (reals_of_all _ _ _ _ _ e1)
  obtain ⟨w, hw⟩ := reals2 _ (reals_of_all _ _ _ _ _ e2)
  obtain ⟨q, hq⟩ := reals2 _ (reals_of_all _ _ _ _ _ e3)
  obtain ⟨z, hz⟩ := reals2 _ (reals_of_all _ _ _ _ _ e4)
  exact ⟨⟨x, g, w, q, z⟩, hx, hg, hw, hq, hz⟩

/-- The reference runs and leaves its arguments; it has no semaphores. -/
theorem frameRef : Cert.quiescent_Pw1RefIdeal (hPw1RefIdeal := Cert.Pw1RefIdeal.Gen.facts) := fun m ρ _ =>
  (θ_run Cert.Pw1RefIdeal.defs _ _).mono (fun r h => ⟨fun c => (h c).2.2.2.2, sem_eq_zero_of_no_sems (by decide) r.2⟩)
    (Cert.Pw1RefIdeal.Value.run m ρ)

set_option maxHeartbeats 2000000 in
/-- The calls and the reference have equal results. -/
theorem algebraic : Cert.algebraic_Pw1Ideal_Pw1RefIdeal_pre_finite_pw1 (hPw1Ideal := Cert.Pw1Ideal.Gen.facts) (hPw1RefIdeal := Cert.Pw1RefIdeal.Gen.facts) (hPre_finite_pw1 := preFacts) := by
  pair_intro
  · run_from run_main m g
    · exact hc.1 c Cert.Pw1Ideal.main_v3 (by decide)
    · exact hc.1 c Cert.Pw1Ideal.main_v5_0 (by decide)
    · exact hc.1 c Cert.Pw1Ideal.main_v5_1 (by decide)
    · exact hc.1 c Cert.Pw1Ideal.main_v6 (by decide)
    · exact (hc.1 c Cert.Pw1Ideal.main_arg0 (by decide)).trans (frame_main m g c _ (by decide))
    · exact (hc.1 c Cert.Pw1Ideal.main_arg1 (by decide)).trans (frame_main m g c _ (by decide))
    · exact (hc.1 c Cert.Pw1Ideal.main_arg2 (by decide)).trans (frame_main m g c _ (by decide))
    · exact (hc.1 c Cert.Pw1Ideal.main_arg3 (by decide)).trans (frame_main m g c _ (by decide))
    · exact (hc.1 c Cert.Pw1Ideal.main_arg4 (by decide)).trans (frame_main m g c _ (by decide))
  · run_from Cert.Pw1RefIdeal.Value.run m' g'
    · obtain ⟨a, H⟩ := reals_of_pre m hpre c
      refine Eq.trans ?_ (tail3 (ρ := g) H).symm
      funext j
      idx_vars j
      exact Pw1Ref.v38 H j0 j1
    · obtain ⟨a, H⟩ := reals_of_pre m hpre c
      obtain ⟨e0, e1, e2, e3, e4⟩ := hagree c
      rw [Cert.Pw1RefIdeal.Read.val_main_v39_eq, e0, e1, e2, e3, e4]
      refine Eq.trans ?_ (tail5 (ρ := g) H).symm
      funext j
      idx_vars j
      exact Pw1Ref.v39 H j0 j1
    · obtain ⟨a, H⟩ := reals_of_pre m hpre c
      refine Eq.trans ?_ (tail6 (ρ := g) H).symm
      funext j
      idx_vars j
      exact Pw1Ref.v40 H j0 j1
    · obtain ⟨a, H⟩ := reals_of_pre m hpre c
      refine Eq.trans ?_ (tail7 (ρ := g) H).symm
      funext j
      idx_vars j
      exact Pw1Ref.v23 H j0
end Cert.Pw1Val
end
-- ==== Proof.ConvBwdIdealFrame.lean ====
module

public import proofs.«01_k».proof.Proof.Gen.ConvBwdIdeal.Frame
public import proofs.«01_k».proof.Proof.Gen.ConvBwdIdeal.Skeleton
public import proofs.«01_k».proof.Proof.Gen.ConvBwdIdeal.Loops
public import Idealize.ShloMosaic.Lib.Claim

@[expose] public section

set_option maxRecDepth 16384

noncomputable section
/-! The frame of the backward convolution's program, as the value claims read it. -/
namespace Cert.ConvBwdIdealFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.ConvBwdIdeal Cert.ConvBwdIdeal.Gen

variable {F : FTy → Type} [FloatOps F]

local notation "𝕄" => MT nD τ sig Unit (Elt F) ℕ (UR sig nD τ) ℕ

/-! ## The body -/

/-- The body's two conditions, as it computes them: the first grid point, and any later one. -/
abbrev first (i : grid0.Coords) : Prop :=
  Scalar.cmpi .ne (Scalar.extui (Scalar.cmpi .eq (BitVec.ofNat 32 (i 0).val) 0#32)) 0#32 = 1#1
abbrev later (i : grid0.Coords) : Prop :=
  Scalar.cmpi .ne (Scalar.extui (Scalar.cmpi .sgt (BitVec.ofNat 32 (i 0).val) 0#32)) 0#32 = 1#1

/-- Exactly one of them holds at each point. -/
theorem first_or_later : ∀ t : Fin grid0.N,
    first (grid0.coords t) ∧ ¬ later (grid0.coords t) ∨ ¬ first (grid0.coords t) ∧ later (grid0.coords t) := by
  decide +kernel

set_option maxHeartbeats 2000000 in
/-- From any contents of its windows and of its scratch the body runs to its end, the loads of scratch rows that no store has
    reached included, and leaves some contents in each. -/
theorem body (c : Dev nD) (E : Set ℕ) (i : grid0.Coords) (arg1 : Memref sig .tc .vmem S512x1024 .bf16) (harg1 : arg1.IsWhole) (arg2 : Memref sig .tc .vmem S512x1024 .f32) (harg2 : arg2.IsWhole) (arg3 : Memref sig .tc .vmem S512x2048 .bf16) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x2048 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x544x1024 .f32) (harg12 : arg12.IsWhole) (arg13 : Memref sig .tc .vmem S512x1024 .f32) (harg13 : arg13.IsWhole) (arg14 : Memref sig .tc .vmem S512x1024 .f32) (harg14 : arg14.IsWhole)
    (h : first i ∧ ¬ later i ∨ ¬ first i ∧ later i) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E
          (cc0_conv_mid_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_conv_mid_bwd_eq_skeleton]; unfold cc0_conv_mid_bwd_skel
  simp only [
    k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton,
    k0_part46_eq_skeleton, k0_part47_eq_skeleton, k0_part48_eq_skeleton, k0_part49_eq_skeleton, k0_part50_eq_skeleton,
    k0_part51_eq_skeleton, k0_part52_eq_skeleton, k0_part53_eq_skeleton, k0_part54_eq_skeleton, k0_part55_eq_skeleton,
    k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton,
    k0_part66_eq_skeleton, k0_part67_eq_skeleton, k0_part68_eq_skeleton, k0_part69_eq_skeleton, k0_part70_eq_skeleton,
    k0_part71_eq_skeleton, k0_part72_eq_skeleton, k0_part73_eq_skeleton, k0_part74_eq_skeleton, k0_part75_eq_skeleton,
    k0_part76_eq_skeleton, k0_part77_eq_skeleton, k0_part78_eq_skeleton, k0_part79_eq_skeleton, k0_part80_eq_skeleton,
    k0_part81_eq_skeleton, k0_part82_eq_skeleton, k0_part83_eq_skeleton, k0_part84_eq_skeleton, k0_part85_eq_skeleton,
    k0_part86_eq_skeleton, k0_part87_eq_skeleton, k0_part88_eq_skeleton, k0_part89_eq_skeleton, k0_part90_eq_skeleton,
    k0_part91_eq_skeleton, k0_part92_eq_skeleton, k0_part93_eq_skeleton, k0_part94_eq_skeleton, k0_part95_eq_skeleton,
    k0_part96_eq_skeleton, k0_part97_eq_skeleton, k0_part98_eq_skeleton, k0_part99_eq_skeleton, k0_part100_eq_skeleton,
    k0_part101_eq_skeleton, k0_part102_eq_skeleton, k0_part103_eq_skeleton, k0_part104_eq_skeleton, k0_part105_eq_skeleton,
    k0_part106_eq_skeleton, k0_part107_eq_skeleton, k0_part108_eq_skeleton, k0_part109_eq_skeleton, k0_part110_eq_skeleton,
    k0_part111_eq_skeleton, k0_part112_eq_skeleton, k0_part113_eq_skeleton, k0_part114_eq_skeleton, k0_part115_eq_skeleton,
    k0_part116_eq_skeleton, k0_part117_eq_skeleton, k0_part118_eq_skeleton, k0_part119_eq_skeleton, k0_part120_eq_skeleton,
    k0_part121_eq_skeleton, k0_part122_eq_skeleton, k0_part123_eq_skeleton, k0_part124_eq_skeleton, k0_part125_eq_skeleton,
    k0_part126_eq_skeleton, k0_part127_eq_skeleton, k0_part128_eq_skeleton, k0_part129_eq_skeleton, k0_part130_eq_skeleton,
    k0_part131_eq_skeleton, k0_part132_eq_skeleton, k0_part133_eq_skeleton, k0_part134_eq_skeleton, k0_part135_eq_skeleton,
    k0_part136_eq_skeleton, k0_part137_eq_skeleton, k0_part138_eq_skeleton, k0_part139_eq_skeleton, k0_part140_eq_skeleton,
    k0_part141_eq_skeleton, k0_part142_eq_skeleton, k0_part143_eq_skeleton, k0_part144_eq_skeleton, k0_part145_eq_skeleton,
    k0_part146_eq_skeleton, k0_part147_eq_skeleton, k0_part148_eq_skeleton, k0_part149_eq_skeleton, k0_part150_eq_skeleton,
    k0_part151_eq_skeleton, k0_part152_eq_skeleton, k0_part153_eq_skeleton, k0_part154_eq_skeleton, k0_part155_eq_skeleton,
    k0_part156_eq_skeleton, k0_part157_eq_skeleton, k0_part158_eq_skeleton, k0_part159_eq_skeleton, k0_part160_eq_skeleton,
    k0_part161_eq_skeleton, k0_part162_eq_skeleton, k0_part163_eq_skeleton, k0_part164_eq_skeleton, k0_part165_eq_skeleton,
    k0_part166_eq_skeleton, k0_part167_eq_skeleton, k0_part168_eq_skeleton, k0_part169_eq_skeleton, k0_part170_eq_skeleton,
    k0_part171_eq_skeleton, k0_part172_eq_skeleton, k0_part173_eq_skeleton, k0_part174_eq_skeleton, k0_part175_eq_skeleton,
    k0_part176_eq_skeleton, k0_part177_eq_skeleton, k0_part178_eq_skeleton, k0_part179_eq_skeleton, k0_part180_eq_skeleton,
    k0_part181_eq_skeleton, k0_part182_eq_skeleton, k0_part183_eq_skeleton, k0_part184_eq_skeleton, k0_part185_eq_skeleton,
    k0_part186_eq_skeleton, k0_part187_eq_skeleton, k0_part188_eq_skeleton, k0_part189_eq_skeleton, k0_part190_eq_skeleton,
    k0_part191_eq_skeleton, k0_part192_eq_skeleton, k0_part193_eq_skeleton, k0_part194_eq_skeleton, k0_part195_eq_skeleton,
    k0_part196_eq_skeleton, k0_part197_eq_skeleton, k0_part198_eq_skeleton, k0_part199_eq_skeleton, k0_part200_eq_skeleton,
    k0_part201_eq_skeleton, k0_part202_eq_skeleton, k0_part203_eq_skeleton, k0_part204_eq_skeleton, k0_part205_eq_skeleton,
    k0_part206_eq_skeleton, k0_part207_eq_skeleton, k0_part208_eq_skeleton, k0_part209_eq_skeleton, k0_part210_eq_skeleton,
    k0_part211_eq_skeleton, k0_part212_eq_skeleton, k0_part213_eq_skeleton, k0_part214_eq_skeleton, k0_part215_eq_skeleton,
    k0_part216_eq_skeleton, k0_part217_eq_skeleton, k0_part218_eq_skeleton, k0_part219_eq_skeleton, k0_part220_eq_skeleton,
    k0_part221_eq_skeleton, k0_part222_eq_skeleton, k0_part223_eq_skeleton, k0_part224_eq_skeleton, k0_part225_eq_skeleton,
    k0_part226_eq_skeleton, k0_part227_eq_skeleton, k0_part228_eq_skeleton, k0_part229_eq_skeleton, k0_part230_eq_skeleton,
    k0_part231_eq_skeleton, k0_part232_eq_skeleton, k0_part233_eq_skeleton, k0_part234_eq_skeleton, k0_part235_eq_skeleton,
    k0_part236_eq_skeleton, k0_part237_eq_skeleton, k0_part238_eq_skeleton, k0_part239_eq_skeleton, k0_part240_eq_skeleton,
    k0_part241_eq_skeleton, k0_part242_eq_skeleton, k0_part243_eq_skeleton, k0_part244_eq_skeleton, k0_part245_eq_skeleton,
    k0_part246_eq_skeleton, k0_part247_eq_skeleton, k0_part248_eq_skeleton, k0_part249_eq_skeleton, k0_part250_eq_skeleton,
    k0_part251_eq_skeleton, k0_part252_eq_skeleton, k0_part253_eq_skeleton, k0_part254_eq_skeleton, k0_part255_eq_skeleton,
    k0_part256_eq_skeleton, k0_part257_eq_skeleton, k0_part258_eq_skeleton, k0_part259_eq_skeleton, k0_part260_eq_skeleton,
    k0_part261_eq_skeleton, k0_part262_eq_skeleton, k0_part263_eq_skeleton, k0_part264_eq_skeleton, k0_part265_eq_skeleton,
    k0_part266_eq_skeleton, k0_part267_eq_skeleton, k0_part268_eq_skeleton, k0_part269_eq_skeleton, k0_part270_eq_skeleton,
    k0_part271_eq_skeleton, k0_part272_eq_skeleton, k0_part273_eq_skeleton, k0_part274_eq_skeleton, k0_part275_eq_skeleton,
    k0_part276_eq_skeleton, k0_part277_eq_skeleton]
  unfold owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  rcases h with ⟨h0, h1⟩ | ⟨h0, h1⟩
  all_goals
    sl_exec (disch := first | sl_exact h0 | sl_exact h1)
    sl_step
    iapply Hk
    isplitl [H0]
    · iexists _, _; isplitr; swap; · iexact H0
      ipureintro; rfl
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

/-! ## The launch -/

variable (m : (ℓ : Loc nD τ sig) → Buf (Elt F) ℓ) (ρ : Dev nD → PrngReg)

/-- No window's contents are followed. -/
def forgets : Fin 11 → Bool := fun _ => true

/-- The arrays as the call finds them, the scratch and the generator at anything between points, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem inv_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ ∃ r, prngReg c r) := by
  unfold Pipeline.ΦA; rw [scopedRest0_eq]; simp only [owns_whole]; try rfl

/-- What the body is called with at point `t`, and returns. -/
def held (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d))

theorem held_body (c : Dev nD) (t : Fin cfg0.N) :
    held m c t ⊢ wp frame (wpE (defs₀ (F := F)) Variants.none c none) Set.univ (bodyAt0 t) (fun _ => held m c t) := by
  unfold held bodyAt0
  rw [show (dats m 0 c).Φ t.castSucc = Pipeline.ΦA spec0 c from rfl, inv_eq]
  iintro ⟨⟨⟨H11, H12, H13⟩, Hg⟩, Ho, H0, H1, H2, H3, H4, H5, H6, H7, H8, H9, H10⟩
  iapply (body c Set.univ (grid0.coords t) _ _ _ _ _ _ _ _ _ _ _ _ _ _ _ _ _ _ _ _ _ _ _ _ _ _ _ _ (first_or_later t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [Hg H11 H12 H13]
  · isplitr [Hg]; swap; · iexact Hg
    isplitl [H11]; · iexact H11
    isplitl [H12]; · iexact H12
    iexact H13
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem table_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, table_row]
  exact triple_restated (held_body m c t) rfl .rfl fun _ => .rfl

/-- The buffers the lines after the call write: nothing is said of them. -/
def T0 : Finset (Ref sig .tc) := {main_v238, main_cst_3, main_v239, main_v240, main_cst_4, main_v241, main_cst_5, main_v242, main_cst_6, main_v243}

theorem tail_writes : ∀ ops ∈ ([hostOps1] : List (List (HloOp τ sig (Elt F)))), ∀ op ∈ ops,
    ∀ b : Ref sig .tc, Proc.devRef .tc b ∈ op.writes → b ∈ T0 := by
  intro ops hops op hop
  rw [List.mem_singleton.mp hops] at hop
  simp only [hostOps1, List.mem_cons, List.mem_nil_iff, or_false] at hop
  rcases hop with rfl | rfl | rfl | rfl | rfl | rfl | rfl | rfl | rfl | rfl
  all_goals
    intro b hb
    simp only [StableHlo.nullary_writes, StableHlo.unary_writes, StableHlo.binary_writes, StableHlo.reshape_writes,
      Finset.mem_singleton] at hb
    rw [Proc.devRef_injective _ hb]
    decide

set_option backward.isDefEq.respectTransparency.types false in
set_option maxHeartbeats 800000 in
theorem run_main : θ_run defs (onTc (τ := τ) (main (F := F))) (s₀ m ρ) (fun r =>
    Pipeline.RDat.FramePostR (cfgs 0) (fun c => (dats (F := F) m 0 c).toRForget forgets) T0 (fun c b => V0 m c (Proc.devRef .tc b)) r
      ∧ r.2.sem = fun _ => 0) :=
  Pipeline.θ_run_frame_around_T_forget (Q' := _) cfgs (dats m) (0 : Fin 1) launch0 defs₀ Variants.none forgets T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hT := tail_writes) (hmain := hmain m Variants.none) (hA := fun _ _ => rfl) (hΦ := fun _ _ => rfl)

/-- A buffer no window stages and no later line writes ends as the call found it. -/
theorem kept {r : PUnit × MemSt nD τ sig (Elt F)}
    (h : Pipeline.RDat.FramePostR (cfgs 0) (fun c => (dats (F := F) m 0 c).toRForget forgets) T0 (fun c b => V0 m c (Proc.devRef .tc b)) r) (c : Dev nD) (b : Ref sig .tc)
    (hb : b ∈ Pipeline.restRefs sig spec0 \ T0) : r.2.mem ((c : Thread nD τ).loc b) = V m c b := (h c).2 b hb

/-- Every weakly fair execution ends, with the arguments as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(kept m h.1 c main_arg0 (Finset.mem_sdiff.mpr ⟨Pipeline.mem_restRefs_of main_arg0 (by decide) (by decide), by decide⟩)).trans
        (V_main_arg0 m c),
      (kept m h.1 c main_arg1 (Finset.mem_sdiff.mpr ⟨Pipeline.mem_restRefs_of main_arg1 (by decide) (by decide), by decide⟩)).trans
        (V_main_arg1 m c),
      (kept m h.1 c main_arg2 (Finset.mem_sdiff.mpr ⟨Pipeline.mem_restRefs_of main_arg2 (by decide) (by decide), by decide⟩)).trans
        (V_main_arg2 m c),
      (kept m h.1 c main_arg3 (Finset.mem_sdiff.mpr ⟨Pipeline.mem_restRefs_of main_arg3 (by decide) (by decide), by decide⟩)).trans
        (V_main_arg3 m c),
      (kept m h.1 c main_arg4 (Finset.mem_sdiff.mpr ⟨Pipeline.mem_restRefs_of main_arg4 (by decide) (by decide), by decide⟩)).trans
        (V_main_arg4 m c),
      (kept m h.1 c main_arg5 (Finset.mem_sdiff.mpr ⟨Pipeline.mem_restRefs_of main_arg5 (by decide) (by decide), by decide⟩)).trans
        (V_main_arg5 m c)⟩, h.2⟩)
    (run_main m ρ)

end Cert.ConvBwdIdealFrame

end
-- ==== Proof.OutVal.lean ====
module
public import proofs.«01_k».proof.Defs
public import proofs.«01_k».proof.Proof.Reals
public import proofs.«01_k».proof.Proof.Finite
public import proofs.«01_k».proof.Proof.Gen.OutIdeal.Frame
public import proofs.«01_k».proof.Proof.Gen.OutRefIdeal.Read
public import Idealize.ShloMosaic.Lib.Pipeline.ValueKit
public import Idealize.ShloMosaic.Lib.Pointwise
public import Idealize.ShloMosaic.Lib.Claim
@[expose] public section
set_option maxRecDepth 16384
noncomputable section
/-! The `ffn_out` call and its reference over arrays of reals: a product, and the residual with half its norm. -/
namespace Cert.OutVal
open Idealize.ShloMosaic Idealize.ShloMosaic.TcCoe Idealize.SL.Sem Cert.Reals

/-- The arguments: the residual's rows, the product's rows and weight, the norm's scale. -/
structure Args where
  x : Fin 16384 → Fin 1024 → ℝ
  a : Fin 16384 → Fin 2816 → ℝ
  w : Fin 2816 → Fin 1024 → ℝ
  g : Fin 1024 → ℝ
namespace Args
variable (A : Args) (i : Fin 16384) (j : Fin 1024)
/-- The product. -/
def m : ℝ := ∑ k, A.a i k * A.w k j
/-- The residual with half the product's norm. -/
def y : ℝ := A.x i j + 1 / 2 * (A.m i j * rst (A.m i) * A.g j)
end Args

/-- The four arguments are arrays of reals. -/
structure Real (A : Args) (x : (⟨⟨2, ![16384, 1024]⟩, .f32⟩ : BufTy).Contents (Elt Ideal)) (a : (⟨⟨2, ![16384, 2816]⟩, .f32⟩ : BufTy).Contents (Elt Ideal)) (w : (⟨⟨2, ![2816, 1024]⟩, .f32⟩ : BufTy).Contents (Elt Ideal))
    (g : (⟨⟨1, ![1024]⟩, .f32⟩ : BufTy).Contents (Elt Ideal)) : Prop where
  x : ∀ i k, x (ix2 i k) = ((A.x i k : ℝ) : EReal)
  a : ∀ i k, a (ix2 i k) = ((A.a i k : ℝ) : EReal)
  w : ∀ i k, w (ix2 i k) = ((A.w i k : ℝ) : EReal)
  g : ∀ k, g (ix1 k) = ((A.g k : ℝ) : EReal)

namespace Ref
open Cert.OutRefIdeal Cert.OutRefIdeal.Read
variable {A : Args} {x : (⟨S16384x1024, .f32⟩ : BufTy).Contents (Elt Ideal)} {a : (⟨S16384x2816, .f32⟩ : BufTy).Contents (Elt Ideal)} {w : (⟨S2816x1024, .f32⟩ : BufTy).Contents (Elt Ideal)}
    {g : (⟨S1024, .f32⟩ : BufTy).Contents (Elt Ideal)} (H : Real A x a w g)
include H
theorem v0 (i : Fin 16384) (j : Fin 1024) : val_main_v0 (F := Ideal) a w (ix2 i j) = ((A.m i j : ℝ) : EReal) := by
  pointwise [val_main_v0]
  simp only [H.a, H.w, ← EReal.coe_mul, sum_coe]; rfl
theorem v8 (i : Fin 16384) (o : Fin 1) : val_main_v8 (F := Ideal) a w (ix2 i o) = ((rst (A.m i) : ℝ) : EReal) := by
  pointwise [val_main_v8, val_main_v7, val_main_v6, val_main_v5, val_main_v4, val_main_v3, val_main_v2, val_main_v1, val_main_cst, val_main_cst_0, val_main_cst_1]
  simp only [v0 H, ← EReal.coe_mul, sum_coe, ofBits_eps, ofBits_1024, div_1024, ← EReal.coe_add]
  exact rsqrt_ms _
theorem v16 (i : Fin 16384) (j : Fin 1024) : val_main_v16 (F := Ideal) x a w g (ix2 i j) = ((A.y i j : ℝ) : EReal) := by
  pointwise [val_main_v16, val_main_v15, val_main_v14, val_main_v13, val_main_v12, val_main_v11, val_main_v10, val_main_v9, val_main_cst_2]
  simp only [v0 H, v8 H, H.x, H.g, ofBits_half, ← EReal.coe_mul, ← EReal.coe_add]; rfl
end Ref

open Cert.OutIdeal Cert.OutIdeal.Gen
section Body
variable {A : Args} {a : Vec Ideal S1024x2816 .bf16} {w : Vec Ideal S2816x1024 .bf16} {x : Vec Ideal S1024x1024 .f32} {g : Vec Ideal S1x1024 .f32} {i : Fin 1024 → Fin 16384}
  (ha : ∀ r k, a (ix2 r k) = ((A.a (i r) k : ℝ) : EReal)) (hw : ∀ k j, w (ix2 k j) = ((A.w k j : ℝ) : EReal)) (hx : ∀ r k, x (ix2 r k) = ((A.x (i r) k : ℝ) : EReal)) (hg : ∀ k, g (ix2 0 k) = ((A.g k : ℝ) : EReal))

/-! The body's payloads, entry by entry. -/

include ha hw
theorem pay1 (r : Fin 1024) (j : Fin 1024) : k0_pay1 (F := Ideal) a w (ix2 r j) = ((A.m (i r) j : ℝ) : EReal) := by
  pointwise [k0_pay1]
  simp only [ha, hw, ← EReal.coe_mul, sum_coe]; rfl
theorem pay2 (r : Fin 1024) (j : Fin 1024) : k0_pay2 (F := Ideal) a w (ix2 r j) = ((A.m (i r) j : ℝ) : EReal) := by
  pointwise [k0_pay2]
  exact pay1 ha hw r j
include hx hg
theorem pay3 (r : Fin 1024) (j : Fin 1024) : k0_pay3 (F := Ideal) a w x g (ix2 r j) = ((A.y (i r) j : ℝ) : EReal) := by
  pointwise [k0_pay3]
  simp only [pay1 ha hw, hx, hg, ← EReal.coe_mul, sum_coe, ofBits_eps, ofBits_1024, ofBits_half, div_1024, ← EReal.coe_add]
  rw [rsqrt_ms]
  simp only [← EReal.coe_mul, ← EReal.coe_add]; rfl
end Body

/-- The block each window shows at each grid point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ t.val < 16 :=
  (by decide +kernel : ∀ t : Fin grid0.N, _)
/-- The array row of row `r` of block `t`. -/
def row (t : Fin cfg0.N) (r : Fin 1024) : Fin 16384 := ⟨t.val * 1024 + r.val, by have := (idx t).2.2.2.2.2.2; omega⟩

variable {m : (ℓ : Loc nD τ sig) → Buf (Elt Ideal) ℓ} {c : Dev nD} {A : Args}

/-- The call's arguments are arrays of reals. -/
abbrev Reads (m : (ℓ : Loc nD τ sig) → Buf (Elt Ideal) ℓ) (c : Dev nD) (A : Args) : Prop :=
  Real A (m ((c : Thread nD τ).loc main_arg0)) (m ((c : Thread nD τ).loc main_arg1)) (m ((c : Thread nD τ).loc main_arg2)) (m ((c : Thread nD τ).loc main_arg3))

variable (H : Reads m c A)
include H

/-! What the staged blocks hold. -/

theorem blk0 (t : Fin cfg0.N) (r k : Fin 1024) : (show FVec Ideal S1024x1024 .f32 from iblk m c 0 t) (ix2 r k) = ((A.x (row t r) k : ℝ) : EReal) := by
  rw [← H.x]; blk_ext [iblk, V, idx t, row]
theorem blk1 (t : Fin cfg0.N) (r : Fin 1024) (k : Fin 2816) : (show FVec Ideal S1024x2816 .bf16 from iblk m c 1 t) (ix2 r k) = ((A.a (row t r) k : ℝ) : EReal) := by
  have e : (show FVec Ideal S1024x2816 .bf16 from iblk m c 1 t) (ix2 r k) = (show FVec Ideal S16384x2816 .bf16 from V m c main_v0) (ix2 (row t r) k) := by
    blk_ext [iblk, idx t, row]
  rw [e]
  unfold V hostOps0
  entry_read
  pointwise
  exact H.a _ _
theorem blk2 (t : Fin cfg0.N) (k : Fin 2816) (j : Fin 1024) : (show FVec Ideal S2816x1024 .bf16 from iblk m c 2 t) (ix2 k j) = ((A.w k j : ℝ) : EReal) := by
  have e : (show FVec Ideal S2816x1024 .bf16 from iblk m c 2 t) (ix2 k j) = (show FVec Ideal S2816x1024 .bf16 from V m c main_v1) (ix2 k j) := by
    blk_ext [iblk, idx t]
  rw [e]
  unfold V hostOps0
  entry_read
  pointwise
  exact H.w _ _
theorem blk3 (t : Fin cfg0.N) (k : Fin 1024) : (show FVec Ideal S1x1024 .f32 from iblk m c 3 t) (ix2 0 k) = ((A.g k : ℝ) : EReal) := by
  have e : (show FVec Ideal S1x1024 .f32 from iblk m c 3 t) (ix2 0 k) = (show FVec Ideal S1x1024 .f32 from V m c main_v2) (ix2 0 k) := by
    blk_ext [iblk, idx t]
  rw [e]
  unfold V hostOps0
  entry_read
  pointwise
  exact H.g _

/-! The outputs at the end. -/

set_option maxHeartbeats 2000000 in
theorem final4 : (dats m 0 c).arrAt 4 cfg0.N = (fun i => ((A.y (i 0) (i 1) : ℝ) : EReal) : FVec Ideal S16384x1024 .f32) := by
  refine (dats m 0 c).arrAt_eq_of_covers 4 _ (by decide +kernel) fun t hf y => ?_
  have e (y0 y1 : Fin 1024) : ((cfg0.win 4).blk t).view.emb (ix2 y0 y1) = (ix2 (row t y0) y1 : S16384x1024.Idx) := by blk_ext [idx t, row]
  blk_simp
  rw [after0_4]
  idx_vars y
  rw [e]
  unfold out0_4
  frame_out
  exact pay3 (blk1 H t) (blk2 H t) (blk0 H t) (blk3 H t) y0 y1
set_option maxHeartbeats 2000000 in
theorem final5 : (dats m 0 c).arrAt 5 cfg0.N = (fun i => ((A.m (i 0) (i 1) : ℝ) : EReal) : FVec Ideal S16384x1024 .bf16) := by
  refine (dats m 0 c).arrAt_eq_of_covers 5 _ (by decide +kernel) fun t hf y => ?_
  have e (y0 y1 : Fin 1024) : ((cfg0.win 5).blk t).view.emb (ix2 y0 y1) = (ix2 (row t y0) y1 : S16384x1024.Idx) := by blk_ext [idx t, row]
  blk_simp
  rw [after0_5]
  idx_vars y
  rw [e]
  unfold out0_5
  frame_out
  exact pay2 (blk1 H t) (blk2 H t) y0 y1
end Cert.OutVal
end
-- ==== Proof.OutClaim.lean ====
module
public import proofs.«01_k».proof.Proof.OutVal
public import proofs.«01_k».proof.Proof.Gen.OutRefIdeal.Run
@[expose] public section
set_option maxRecDepth 16384
noncomputable section
/-! The `ffn_out` call against plain maths. -/
namespace Cert.OutVal
open Idealize.ShloMosaic Idealize.ShloMosaic.TcCoe Idealize.SL.Sem Cert.Reals

/-- The side conditions of the precondition's operations. -/
instance preFacts : Cert.Pre_finite_out.Facts := by constructor <;> decide

/-- Under the precondition the arguments are arrays of reals. -/
theorem reals_of_pre (m : (ℓ : Loc Cert.OutIdeal.nD Cert.OutIdeal.τ Cert.OutIdeal.sig) → Buf (Elt Ideal) ℓ) (h : Cert.Pre_OutIdeal_finite_out m) (c : Dev Cert.OutIdeal.nD) :
    ∃ A, Reads m c A := by
  have e := congrFun (h c) (fun a => a.elim0)
  unfold Cert.Pre_finite_out.fn Cert.Pre_finite_out.fn_part1 at e
  obtain ⟨e012, e3⟩ := IntOp.andi_eq_one.mp e
  obtain ⟨e01, e2⟩ := IntOp.andi_eq_one.mp e012
  obtain ⟨e0, e1⟩ := IntOp.andi_eq_one.mp e01
  obtain ⟨x, hx⟩ := reals2 _ (reals_of_all _ _ _ _ _ e0)
  obtain ⟨a, ha⟩ := reals2 _ (reals_of_all _ _ _ _ _ e1)
  obtain ⟨w, hw⟩ := reals2 _ (reals_of_all _ _ _ _ _ e2)
  obtain ⟨g, hg⟩ := reals1 _ (reals_of_all _ _ _ _ _ e3)
  exact ⟨⟨x, a, w, g⟩, hx, ha, hw, hg⟩

/-- The reference runs and leaves its arguments; it has no semaphores. -/
theorem frameRef : Cert.quiescent_OutRefIdeal (hOutRefIdeal := Cert.OutRefIdeal.Gen.facts) := fun m ρ _ =>
  (θ_run Cert.OutRefIdeal.defs _ _).mono (fun r h => ⟨fun c => (h c).2.2, sem_eq_zero_of_no_sems (by decide) r.2⟩)
    (Cert.OutRefIdeal.Value.run m ρ)

/-- The call and the reference have equal results. -/
theorem algebraic : Cert.algebraic_OutIdeal_OutRefIdeal_pre_finite_out (hOutIdeal := Cert.OutIdeal.Gen.facts) (hOutRefIdeal := Cert.OutRefIdeal.Gen.facts) (hPre_finite_out := preFacts) := by
  pair_intro
  · run_from Cert.OutIdeal.Gen.run_main m g
  · run_from Cert.OutRefIdeal.Value.run m' g'
    · obtain ⟨A, H⟩ := reals_of_pre m hpre c
      rw [Cert.OutRefIdeal.Read.val_main_v16_eq, final4 H]
      funext j
      idx_vars j
      exact Ref.v16 H j0 j1
    · obtain ⟨A, H⟩ := reals_of_pre m hpre c
      rw [final5 H]
      funext j
      idx_vars j
      exact Ref.v0 H j0 j1
end Cert.OutVal
end
-- ==== Proof.OutLossVal.lean ====
module
public import proofs.«01_k».proof.Proof.OutVal
public import proofs.«01_k».proof.Proof.Gen.OutLossIdeal.Frame
public import proofs.«01_k».proof.Proof.Gen.OutLossRefIdeal.Read
@[expose] public section
set_option maxRecDepth 16384
noncomputable section
/-! The `ffn_out_loss` call and its reference over arrays of reals: the residual with half the product's norm,
its difference from the target, and half the sum over rows of the difference's mean square. -/
namespace Cert.OutLossVal
open Idealize.ShloMosaic Idealize.ShloMosaic.TcCoe Idealize.SL.Sem Cert.Reals Cert.OutVal

theorem ofBits_two : Ideal.ofBits .f32 0x40000000#32 = ((2 : ℝ) : EReal) := by
  rw [word _ false 128 0 (by decide) (by decide) (by decide) (by decide) (by decide)]
  norm_num [zpow_neg]
theorem ofBits_recip : Ideal.ofBits .f32 0x3A800000#32 = ((1 / 1024 : ℝ) : EReal) := by
  rw [word _ false 117 0 (by decide) (by decide) (by decide) (by decide) (by decide)]
  norm_num [zpow_neg]

/-- The difference from the target. -/
def err (A : Args) (T : Fin 16384 → Fin 1024 → ℝ) (i : Fin 16384) (j : Fin 1024) : ℝ := A.y i j - T i j
/-- Half the sum over rows of the difference's mean square. -/
def loss (A : Args) (T : Fin 16384 → Fin 1024 → ℝ) : ℝ := 1 / 2 * ∑ i, (∑ j, err A T i j * err A T i j) / 1024

namespace Ref
open Cert.OutLossRefIdeal Cert.OutLossRefIdeal.Read
variable {A : Args} {T : Fin 16384 → Fin 1024 → ℝ} {x : (⟨S16384x1024, .f32⟩ : BufTy).Contents (Elt Ideal)} {a : (⟨S16384x2816, .f32⟩ : BufTy).Contents (Elt Ideal)} {w : (⟨S2816x1024, .f32⟩ : BufTy).Contents (Elt Ideal)}
    {g : (⟨S1024, .f32⟩ : BufTy).Contents (Elt Ideal)} {t : (⟨S16384x1024, .f32⟩ : BufTy).Contents (Elt Ideal)} (H : Real A x a w g)
    (ht : ∀ i k, t (ix2 i k) = ((T i k : ℝ) : EReal))
include H
theorem v32 (i : Fin 16384) (j : Fin 1024) : val_main_v32 (F := Ideal) a w (ix2 i j) = ((A.m i j : ℝ) : EReal) := by
  pointwise [val_main_v32]
  exact Cert.OutVal.Ref.v0 H i j
include ht
theorem v17 (i : Fin 16384) (j : Fin 1024) : val_main_v17 (F := Ideal) x a w g t (ix2 i j) = ((err A T i j : ℝ) : EReal) := by
  have e : val_main_v16 (F := Ideal) x a w g (ix2 i j) = ((A.y i j : ℝ) : EReal) := Cert.OutVal.Ref.v16 H i j
  pointwise [val_main_v17]
  rw [e, ht, ← EReal.coe_sub]; rfl
theorem v31 (i : Fin 16384) (j : Fin 1024) : val_main_v31 (F := Ideal) x a w g t (ix2 i j) = ((err A T i j * (1 / 1024) : ℝ) : EReal) := by
  pointwise [val_main_v31, val_main_v30, val_main_v29, val_main_v28, val_main_v27, val_main_v26, val_main_v20, val_main_v19, val_main_cst_3, val_main_cst_8, val_main_cst_9, val_main_cst_10]
  simp only [v17 H ht, ofBits_half, ofBits_one, ofBits_two, ofBits_1024, ← EReal.coe_mul, div_1024]
  congr 1; ring
theorem v25 (o : S_.Idx) : val_main_v25 (F := Ideal) x a w g t o = ((loss A T : ℝ) : EReal) := by
  pointwise [val_main_v25, val_main_v24, val_main_v23, val_main_v22, val_main_v21, val_main_v18, val_main_cst_4, val_main_cst_5, val_main_cst_6, val_main_cst_7]
  simp only [v17 H ht, ofBits_half, ofBits_1024, ← EReal.coe_mul, sum_coe, div_1024]; rfl
end Ref

open Cert.OutLossIdeal Cert.OutLossIdeal.Gen
section Body
variable {A : Args} {T : Fin 16384 → Fin 1024 → ℝ} {a : Vec Ideal S512x2816 .bf16} {w : Vec Ideal S2816x1024 .bf16} {x t : Vec Ideal S512x1024 .f32} {g : Vec Ideal S1x1024 .f32} {i : Fin 512 → Fin 16384}
  (ha : ∀ r k, a (ix2 r k) = ((A.a (i r) k : ℝ) : EReal)) (hw : ∀ k j, w (ix2 k j) = ((A.w k j : ℝ) : EReal)) (hx : ∀ r k, x (ix2 r k) = ((A.x (i r) k : ℝ) : EReal)) (hg : ∀ k, g (ix2 0 k) = ((A.g k : ℝ) : EReal))
  (ht : ∀ r k, t (ix2 r k) = ((T (i r) k : ℝ) : EReal))

/-! The body's payloads, entry by entry. -/

include ha hw
theorem pay3 (r : Fin 512) (j : Fin 1024) : k0_pay3 (F := Ideal) a w (ix2 r j) = ((A.m (i r) j : ℝ) : EReal) := by
  pointwise [k0_pay3]
  simp only [ha, hw, ← EReal.coe_mul, sum_coe]; rfl
theorem pay4 (r : Fin 512) (j : Fin 1024) : k0_pay4 (F := Ideal) a w (ix2 r j) = ((A.m (i r) j : ℝ) : EReal) := by
  pointwise [k0_pay4]
  exact pay3 ha hw r j
include hx hg ht
theorem pay5 (r : Fin 512) (j : Fin 1024) : k0_pay5 (F := Ideal) a w x g t (ix2 r j) = ((err A T (i r) j : ℝ) : EReal) := by
  pointwise [k0_pay5]
  simp only [pay3 ha hw, hx, hg, ht, ← EReal.coe_mul, sum_coe, ofBits_eps, ofBits_1024, ofBits_half, div_1024, ← EReal.coe_add]
  rw [rsqrt_ms]
  simp only [← EReal.coe_mul, ← EReal.coe_add, ← EReal.coe_sub]; rfl
theorem pay6 (r : Fin 512) (j : Fin 1024) : k0_pay6 (F := Ideal) a w x g t (ix2 r j) = ((err A T (i r) j * (1 / 1024) : ℝ) : EReal) := by
  pointwise [k0_pay6]
  rw [pay5 ha hw hx hg ht, ofBits_recip, ← EReal.coe_mul]
theorem pay1 {s : Vec Ideal S8x1024 .f32} (o : Fin 8) (j : Fin 1024) :
    k0_pay1 (F := Ideal) (k0_pay5 a w x g t) s (ix2 o j) = s (ix2 o j) + ((∑ k : Fin 64, err A T (i ⟨k * 8 + o, by omega⟩) j * err A T (i ⟨k * 8 + o, by omega⟩) j : ℝ) : EReal) := by
  pointwise [k0_pay1]
  simp only [pay5 ha hw hx hg ht, ← EReal.coe_mul, sum_coe]
end Body

/-- The block each window shows at each grid point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![0, 0] ∧ t.val < 32 :=
  (by decide +kernel : ∀ t : Fin grid0.N, _)
theorem lt (t : Fin cfg0.N) : t.val < 32 := (idx t).2.2.2.2.2.2.2.2
/-- The array row of row `r` of block `t`. -/
def row (t : Fin cfg0.N) (r : Fin 512) : Fin 16384 := ⟨t.val * 512 + r.val, by have := lt t; omega⟩

variable {m : (ℓ : Loc nD τ sig) → Buf (Elt Ideal) ℓ} {c : Dev nD} {A : Args} {T : Fin 16384 → Fin 1024 → ℝ}

/-- The call's arguments are arrays of reals. -/
structure Reads (m : (ℓ : Loc nD τ sig) → Buf (Elt Ideal) ℓ) (c : Dev nD) (A : Args) (T : Fin 16384 → Fin 1024 → ℝ) : Prop where
  call : Real A (m ((c : Thread nD τ).loc main_arg0)) (m ((c : Thread nD τ).loc main_arg1)) (m ((c : Thread nD τ).loc main_arg2)) (m ((c : Thread nD τ).loc main_arg3))
  t : ∀ i k, (show FVec Ideal S16384x1024 .f32 from m ((c : Thread nD τ).loc main_arg4)) (ix2 i k) = ((T i k : ℝ) : EReal)

variable (H : Reads m c A T)
include H

/-! What the staged blocks hold. -/

theorem blk0 (t : Fin cfg0.N) (r : Fin 512) (k : Fin 1024) : (show FVec Ideal S512x1024 .f32 from iblk m c 0 t) (ix2 r k) = ((A.x (row t r) k : ℝ) : EReal) := by
  rw [← H.call.x]; blk_ext [iblk, V, idx t, row]
theorem blk1 (t : Fin cfg0.N) (r : Fin 512) (k : Fin 2816) : (show FVec Ideal S512x2816 .bf16 from iblk m c 1 t) (ix2 r k) = ((A.a (row t r) k : ℝ) : EReal) := by
  have e : (show FVec Ideal S512x2816 .bf16 from iblk m c 1 t) (ix2 r k) = (show FVec Ideal S16384x2816 .bf16 from V m c main_v0) (ix2 (row t r) k) := by
    blk_ext [iblk, idx t, row]
  rw [e]
  unfold V V0
  rw [show [hostOps0 (F := Ideal)].flatten = hostOps0 from rfl]
  entry_read
  pointwise
  exact H.call.a _ _
theorem blk2 (t : Fin cfg0.N) (k : Fin 2816) (j : Fin 1024) : (show FVec Ideal S2816x1024 .bf16 from iblk m c 2 t) (ix2 k j) = ((A.w k j : ℝ) : EReal) := by
  have e : (show FVec Ideal S2816x1024 .bf16 from iblk m c 2 t) (ix2 k j) = (show FVec Ideal S2816x1024 .bf16 from V m c main_v1) (ix2 k j) := by
    blk_ext [iblk, idx t]
  rw [e]
  unfold V V0
  rw [show [hostOps0 (F := Ideal)].flatten = hostOps0 from rfl]
  entry_read
  pointwise
  exact H.call.w _ _
theorem blk3 (t : Fin cfg0.N) (k : Fin 1024) : (show FVec Ideal S1x1024 .f32 from iblk m c 3 t) (ix2 0 k) = ((A.g k : ℝ) : EReal) := by
  have e : (show FVec Ideal S1x1024 .f32 from iblk m c 3 t) (ix2 0 k) = (show FVec Ideal S1x1024 .f32 from V m c main_v2) (ix2 0 k) := by
    blk_ext [iblk, idx t]
  rw [e]
  unfold V V0
  rw [show [hostOps0 (F := Ideal)].flatten = hostOps0 from rfl]
  entry_read
  pointwise
  exact H.call.g _
theorem blk4 (t : Fin cfg0.N) (r : Fin 512) (k : Fin 1024) : (show FVec Ideal S512x1024 .f32 from iblk m c 4 t) (ix2 r k) = ((T (row t r) k : ℝ) : EReal) := by
  rw [← H.t]; blk_ext [iblk, V, idx t, row]

/-! The outputs at the end. -/

theorem final5 : (dats m 0 c).arrAt 5 cfg0.N = (fun i => ((err A T (i 0) (i 1) * (1 / 1024) : ℝ) : EReal) : FVec Ideal S16384x1024 .f32) := by
  refine (dats m 0 c).arrAt_eq_of_covers 5 _ (by decide +kernel) fun t hf y => ?_
  have e (y0 : Fin 512) (y1 : Fin 1024) : ((cfg0.win 5).blk t).view.emb (ix2 y0 y1) = (ix2 (row t y0) y1 : S16384x1024.Idx) := by blk_ext [idx t, row]
  have h : (outsAt0 m c t.val t.isLt).1 = k0_pay6 (iblk m c 1 t) (iblk m c 2 t) (iblk m c 0 t) (iblk m c 3 t) (iblk m c 4 t) := by
    by_cases h : t.val % 32 = 0
    · rw [outsAt0_A m c t h]; frame_out
    · rw [outsAt0_B m c t h]; frame_out
  blk_simp
  rw [after0_5, h]
  idx_vars y
  rw [e]
  exact pay6 (blk1 H t) (blk2 H t) (blk0 H t) (blk3 H t) (blk4 H t) y0 y1
theorem final6 : (dats m 0 c).arrAt 6 cfg0.N = (fun i => ((A.m (i 0) (i 1) : ℝ) : EReal) : FVec Ideal S16384x1024 .bf16) := by
  refine (dats m 0 c).arrAt_eq_of_covers 6 _ (by decide +kernel) fun t hf y => ?_
  have e (y0 : Fin 512) (y1 : Fin 1024) : ((cfg0.win 6).blk t).view.emb (ix2 y0 y1) = (ix2 (row t y0) y1 : S16384x1024.Idx) := by blk_ext [idx t, row]
  have h : (outsAt0 m c t.val t.isLt).2.1 = k0_pay4 (iblk m c 1 t) (iblk m c 2 t) := by
    by_cases h : t.val % 32 = 0
    · rw [outsAt0_A m c t h]; frame_out
    · rw [outsAt0_B m c t h]; frame_out
  blk_simp
  rw [after0_6, h]
  idx_vars y
  rw [e]
  exact pay4 (blk1 H t) (blk2 H t) y0 y1
theorem final7 : (dats m 0 c).arrAt 7 cfg0.N
    = (fun i => ((∑ t : Fin 32, part8 32 64 rfl (fun r => err A T r (i 1) * err A T r (i 1)) (i 0) t : ℝ) : EReal) : FVec Ideal S8x1024 .f32) := by
  refine (dats m 0 c).arrAt_eq_of_covers 7 _ (by decide +kernel) fun t hf y => ?_
  have e (y0 : Fin 8) (y1 : Fin 1024) : ((cfg0.win 7).blk t).view.emb (ix2 y0 y1) = (ix2 y0 y1 : S8x1024.Idx) := by blk_ext [idx t, row]
  have hz : (k0_pay2 (F := Ideal)) = fun _ => 0 := by funext j; pointwise [k0_pay2]
  have ht := lt t
  blk_simp
  idx_vars y
  rw [e, after0_7, Pipeline.eq_sum_fin_of_reset_step_apply_of_flush (fun n h => (outsAt0 m c n h).2.2) 32 (fun _ => 0)
    (fun p j => ((part8 32 64 rfl (fun r => err A T r (j 1) * err A T r (j 1)) (j 0) ⟨p.val, lt p⟩ : ℝ) : EReal))
    (fun t h j => by
      idx_vars j
      rw [outsAt0_A m c t h]; frame_out
      rw [hz]
      exact pay1 (s := fun _ => 0) (blk1 H t) (blk2 H t) (blk0 H t) (blk3 H t) (blk4 H t) j0 j1)
    (fun t h j => by
      idx_vars j
      rw [outsAt0_B m c t h]; frame_out
      exact pay1 (blk1 H t) (blk2 H t) (blk0 H t) (blk3 H t) (blk4 H t) j0 j1)
    t ((flush0_7 t).mp hf) _, zero_add]
  refine (sum_coe _ _).trans (congrArg _ (Finset.sum_congr rfl fun s _ => congrArg _ (Fin.ext ?_)))
  show 32 * (t.val / 32) + s.val = s.val
  omega

/-- The host's half mean of the sum of window 7 is the loss. -/
theorem tail7 : Pipeline.afterTail₀ cfgs (dats m) 0 (V0 m) [hostOps1] c main_v6
    = (fun _ => ((loss A T : ℝ) : EReal) : FVec Ideal S_ .f32) := by
  have h7 := Pipeline.withArrays_arr (cfgs 0).spec (by decide) c (V0 m c) (fun w => (dats m 0 c).arrAt w (cfgs 0).N) 7
  unfold Pipeline.afterTail₀
  generalize Pipeline.withArrays (cfgs 0).spec c (V0 m c) (fun w => (dats m 0 c).arrAt w (cfgs 0).N) = V' at h7 ⊢
  rw [show [hostOps1 (F := Ideal)].flatten = hostOps1 from rfl]
  entry_read
  rw [show V' (Proc.devRef .tc main_v3_2) = _ from h7.trans (final7 H)]
  funext j
  pointwise
  simp only [sum_coe, ofBits_half, ofBits_1024, ← EReal.coe_mul, div_1024]
  congr 1
  have e : ∑ k : Fin 8, ∑ j : Fin 1024, ∑ t : Fin 32, part8 32 64 rfl (fun r => err A T r j * err A T r j) k t = ∑ i, ∑ j, err A T i j * err A T i j := by
    rw [Finset.sum_comm, Finset.sum_comm (s := Finset.univ (α := Fin 16384))]
    exact Finset.sum_congr rfl fun j _ => sum_part8 32 64 rfl _
  refine (congrArg (fun s : ℝ => 1 / 2 * s / 1024) e).trans ?_
  unfold loss
  rw [← Finset.sum_div, mul_div_assoc]
end Cert.OutLossVal
end
-- ==== Proof.OutLossClaim.lean ====
module
public import proofs.«01_k».proof.Proof.OutLossVal
public import proofs.«01_k».proof.Proof.Gen.OutLossRefIdeal.Run
@[expose] public section
set_option maxRecDepth 16384
noncomputable section
/-! The `ffn_out_loss` call against plain maths. -/
namespace Cert.OutLossVal
open Idealize.ShloMosaic Idealize.ShloMosaic.TcCoe Idealize.SL.Sem Cert.Reals

/-- The side conditions of the precondition's operations. -/
instance preFacts : Cert.Pre_finite_out_loss.Facts := by constructor <;> decide

/-- Under the precondition the arguments are arrays of reals. -/
theorem reals_of_pre (m : (ℓ : Loc Cert.OutLossIdeal.nD Cert.OutLossIdeal.τ Cert.OutLossIdeal.sig) → Buf (Elt Ideal) ℓ) (h : Cert.Pre_OutLossIdeal_finite_out_loss m) (c : Dev Cert.OutLossIdeal.nD) :
    ∃ A T, Reads m c A T := by
  have e := congrFun (h c) (fun a => a.elim0)
  unfold Cert.Pre_finite_out_loss.fn Cert.Pre_finite_out_loss.fn_part1 at e
  obtain ⟨e0123, e4⟩ := IntOp.andi_eq_one.mp e
  obtain ⟨e012, e3⟩ := IntOp.andi_eq_one.mp e0123
  obtain ⟨e01, e2⟩ := IntOp.andi_eq_one.mp e012
  obtain ⟨e0, e1⟩ := IntOp.andi_eq_one.mp e01
  obtain ⟨x, hx⟩ := reals2 _ (reals_of_all _ _ _ _ _ e0)
  obtain ⟨a, ha⟩ := reals2 _ (reals_of_all _ _ _ _ _ e1)
  obtain ⟨w, hw⟩ := reals2 _ (reals_of_all _ _ _ _ _ e2)
  obtain ⟨g, hg⟩ := reals1 _ (reals_of_all _ _ _ _ _ e3)
  obtain ⟨t, ht⟩ := reals2 _ (reals_of_all _ _ _ _ _ e4)
  exact ⟨⟨x, a, w, g⟩, t, ⟨hx, ha, hw, hg⟩, ht⟩

/-- The reference runs and leaves its arguments; it has no semaphores. -/
theorem frameRef : Cert.quiescent_OutLossRefIdeal (hOutLossRefIdeal := Cert.OutLossRefIdeal.Gen.facts) := fun m ρ _ =>
  (θ_run Cert.OutLossRefIdeal.defs _ _).mono (fun r h => ⟨fun c => (h c).2.2.2, sem_eq_zero_of_no_sems (by decide) r.2⟩)
    (Cert.OutLossRefIdeal.Value.run m ρ)

set_option maxRecDepth 200000 in
/-- The call and the reference have equal results. -/
theorem algebraic : Cert.algebraic_OutLossIdeal_OutLossRefIdeal_pre_finite_out_loss (hOutLossIdeal := Cert.OutLossIdeal.Gen.facts) (hOutLossRefIdeal := Cert.OutLossRefIdeal.Gen.facts) (hPre_finite_out_loss := preFacts) := by
  pair_intro
  · run_from Cert.OutLossIdeal.Gen.run_main m g
    · exact Cert.OutLossIdeal.Gen.W_main_arg1 m _ c
    · exact Cert.OutLossIdeal.Gen.W_main_arg2 m _ c
    · exact Cert.OutLossIdeal.Gen.W_main_arg3 m _ c
  · run_from Cert.OutLossRefIdeal.Value.run m' g'
    · obtain ⟨A, T, H⟩ := reals_of_pre m hpre c
      rw [Cert.OutLossRefIdeal.Read.val_main_v31_eq, final5 H]
      funext j
      idx_vars j
      exact Ref.v31 H.call H.t j0 j1
    · obtain ⟨A, T, H⟩ := reals_of_pre m hpre c
      rw [final6 H]
      funext j
      idx_vars j
      exact Ref.v32 H.call j0 j1
    · obtain ⟨A, T, H⟩ := reals_of_pre m hpre c
      rw [tail7 H]
      funext j
      exact Ref.v25 H.call H.t j
end Cert.OutLossVal
end
-- ==== Proof.ResMath.lean ====
module
public import proofs.«01_k».proof.Proof.Reals
public import proofs.«01_k».proof.Proof.Finite
public import Idealize.ShloMosaic.Lib.Pointwise
@[expose] public section
noncomputable section
/-! A product, and the residual with its norm, over arrays of reals; the product is over `K` columns. -/
namespace Cert.Res
open Idealize.ShloMosaic Cert.Reals

/-- The arguments: the residual's rows, the product's rows and weight, the norm's scale. -/
structure Args (K : ℕ) where
  x : Fin 16384 → Fin 1024 → ℝ
  a : Fin 16384 → Fin K → ℝ
  w : Fin K → Fin 1024 → ℝ
  g : Fin 1024 → ℝ
namespace Args
variable {K : ℕ} (A : Args K) (i : Fin 16384) (j : Fin 1024)
/-- The product. -/
def m : ℝ := ∑ k, A.a i k * A.w k j
/-- The residual with the product's norm. -/
def y : ℝ := A.x i j + A.m i j * rst (A.m i) * A.g j
end Args

/-- The four arguments are arrays of reals. -/
structure Real {K : ℕ} (A : Args K) (x : (⟨⟨2, ![16384, 1024]⟩, .f32⟩ : BufTy).Contents (Elt Ideal)) (a : (⟨⟨2, ![16384, K]⟩, .f32⟩ : BufTy).Contents (Elt Ideal)) (w : (⟨⟨2, ![K, 1024]⟩, .f32⟩ : BufTy).Contents (Elt Ideal))
    (g : (⟨⟨1, ![1024]⟩, .f32⟩ : BufTy).Contents (Elt Ideal)) : Prop where
  x : ∀ i k, x (ix2 i k) = ((A.x i k : ℝ) : EReal)
  a : ∀ i k, a (ix2 i k) = ((A.a i k : ℝ) : EReal)
  w : ∀ i k, w (ix2 i k) = ((A.w i k : ℝ) : EReal)
  g : ∀ k, g (ix1 k) = ((A.g k : ℝ) : EReal)

/-- Four arrays whose entries are all below infinity in size are arrays of reals. -/
theorem real_of_finite {K : ℕ} (x : FVec Ideal ⟨2, ![16384, 1024]⟩ .f32) (a : FVec Ideal ⟨2, ![16384, K]⟩ .f32) (w : FVec Ideal ⟨2, ![K, 1024]⟩ .f32) (g : FVec Ideal ⟨1, ![1024]⟩ .f32)
    (hx : ∀ i, ∃ r : ℝ, x i = (r : EReal)) (ha : ∀ i, ∃ r : ℝ, a i = (r : EReal)) (hw : ∀ i, ∃ r : ℝ, w i = (r : EReal)) (hg : ∀ i, ∃ r : ℝ, g i = (r : EReal)) :
    ∃ A : Args K, Real A x a w g := by
  obtain ⟨x', hx⟩ := reals2 _ hx
  obtain ⟨a', ha⟩ := reals2 _ ha
  obtain ⟨w', hw⟩ := reals2 _ hw
  obtain ⟨g', hg⟩ := reals1 _ hg
  exact ⟨⟨x', a', w', g'⟩, hx, ha, hw, hg⟩
end Cert.Res
end
-- ==== Proof.Pw2OutClaim.lean ====
module
public import proofs.«01_k».proof.Defs
public import proofs.«01_k».proof.Proof.ResMath
public import proofs.«01_k».proof.Proof.Gen.Pw2OutIdeal.Frame
public import proofs.«01_k».proof.Proof.Gen.Pw2OutRefIdeal.Read
public import proofs.«01_k».proof.Proof.Gen.Pw2OutRefIdeal.Run
public import Idealize.ShloMosaic.Lib.Pipeline.ValueKit
public import Idealize.ShloMosaic.Lib.Pointwise
public import Idealize.ShloMosaic.Lib.Claim
@[expose] public section
set_option maxRecDepth 16384
noncomputable section
/-! The `conv_pw2` call against plain maths: a product, and the residual with its norm. -/
namespace Cert.Pw2OutVal
open Idealize.ShloMosaic Idealize.ShloMosaic.TcCoe Idealize.SL.Sem Cert.Reals Cert.Res

namespace Ref
open Cert.Pw2OutRefIdeal Cert.Pw2OutRefIdeal.Read
variable {A : Args 1024} {x a : (⟨S16384x1024, .f32⟩ : BufTy).Contents (Elt Ideal)} {w : (⟨S1024x1024, .f32⟩ : BufTy).Contents (Elt Ideal)} {g : (⟨S1024, .f32⟩ : BufTy).Contents (Elt Ideal)} (H : Real A x a w g)
include H
theorem v0 (i : Fin 16384) (j : Fin 1024) : val_main_v0 (F := Ideal) a w (ix2 i j) = ((A.m i j : ℝ) : EReal) := by
  pointwise [val_main_v0]
  simp only [H.a, H.w, ← EReal.coe_mul, sum_coe]; rfl
theorem v14 (i : Fin 16384) (j : Fin 1024) : val_main_v14 (F := Ideal) x a w g (ix2 i j) = ((A.y i j : ℝ) : EReal) := by
  pointwise [val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  simp only [v0 H, H.x, H.g, ← EReal.coe_mul, sum_coe, ofBits_eps, ofBits_1024, div_1024, ← EReal.coe_add]
  rw [rsqrt_ms, ← EReal.coe_mul, ← EReal.coe_mul, ← EReal.coe_add]; rfl
end Ref

open Cert.Pw2OutIdeal Cert.Pw2OutIdeal.Gen
section Body
variable {A : Args 1024} {a w : Vec Ideal S1024x1024 .bf16} {x : Vec Ideal S1024x1024 .f32} {g : Vec Ideal S1x1024 .f32} {i : Fin 1024 → Fin 16384}
  (ha : ∀ r k, a (ix2 r k) = ((A.a (i r) k : ℝ) : EReal)) (hw : ∀ k j, w (ix2 k j) = ((A.w k j : ℝ) : EReal)) (hx : ∀ r k, x (ix2 r k) = ((A.x (i r) k : ℝ) : EReal)) (hg : ∀ k, g (ix2 0 k) = ((A.g k : ℝ) : EReal))

/-! The body's payloads, entry by entry. -/

include ha hw
theorem pay1 (r : Fin 1024) (j : Fin 1024) : k0_pay1 (F := Ideal) a w (ix2 r j) = ((A.m (i r) j : ℝ) : EReal) := by
  pointwise [k0_pay1]
  simp only [ha, hw, ← EReal.coe_mul, sum_coe]; rfl
theorem pay2 (r : Fin 1024) (j : Fin 1024) : k0_pay2 (F := Ideal) a w (ix2 r j) = ((A.m (i r) j : ℝ) : EReal) := by
  pointwise [k0_pay2]
  exact pay1 ha hw r j
include hx hg
theorem pay3 (r : Fin 1024) (j : Fin 1024) : k0_pay3 (F := Ideal) a w x g (ix2 r j) = ((A.y (i r) j : ℝ) : EReal) := by
  pointwise [k0_pay3]
  simp only [pay1 ha hw, hx, hg, ← EReal.coe_mul, sum_coe, ofBits_eps, ofBits_1024, ofBits_one, div_1024, ← EReal.coe_add]
  rw [rsqrt_ms]
  simp only [← EReal.coe_mul, ← EReal.coe_add, one_mul]; rfl
end Body

/-- The block each window shows at each grid point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ t.val < 16 :=
  (by decide +kernel : ∀ t : Fin grid0.N, _)
/-- The array row of row `r` of block `t`. -/
def row (t : Fin cfg0.N) (r : Fin 1024) : Fin 16384 := ⟨t.val * 1024 + r.val, by have := (idx t).2.2.2.2.2.2; omega⟩

variable {m : (ℓ : Loc nD τ sig) → Buf (Elt Ideal) ℓ} {c : Dev nD} {A : Args 1024}

/-- The call's arguments are arrays of reals. -/
abbrev Reads (m : (ℓ : Loc nD τ sig) → Buf (Elt Ideal) ℓ) (c : Dev nD) (A : Args 1024) : Prop :=
  Real A (m ((c : Thread nD τ).loc main_arg0)) (m ((c : Thread nD τ).loc main_arg1)) (m ((c : Thread nD τ).loc main_arg2)) (m ((c : Thread nD τ).loc main_arg3))

variable (H : Reads m c A)
include H

/-! What the staged blocks hold. -/

theorem host0 (i : Fin 16384) (k : Fin 1024) : (show FVec Ideal S16384x1024 .bf16 from V m c main_v0) (ix2 i k) = ((A.a i k : ℝ) : EReal) := by
  unfold V hostOps0; entry_read; pointwise; exact H.a _ _
theorem host1 (k j : Fin 1024) : (show FVec Ideal S1024x1024 .bf16 from V m c main_v1) (ix2 k j) = ((A.w k j : ℝ) : EReal) := by
  unfold V hostOps0; entry_read; pointwise; exact H.w _ _
theorem host2 (k : Fin 1024) : (show FVec Ideal S1x1024 .f32 from V m c main_v2) (ix2 0 k) = ((A.g k : ℝ) : EReal) := by
  unfold V hostOps0; entry_read; pointwise; exact H.g _
theorem blk0 (t : Fin cfg0.N) (r k : Fin 1024) : (show FVec Ideal S1024x1024 .f32 from iblk m c 0 t) (ix2 r k) = ((A.x (row t r) k : ℝ) : EReal) := by
  rw [← H.x]; blk_ext [iblk, V, idx t, row]
theorem blk1 (t : Fin cfg0.N) (r k : Fin 1024) : (show FVec Ideal S1024x1024 .bf16 from iblk m c 1 t) (ix2 r k) = ((A.a (row t r) k : ℝ) : EReal) := by
  rw [← host0 H]; blk_ext [iblk, idx t, row]
theorem blk2 (t : Fin cfg0.N) (k j : Fin 1024) : (show FVec Ideal S1024x1024 .bf16 from iblk m c 2 t) (ix2 k j) = ((A.w k j : ℝ) : EReal) := by
  rw [← host1 H]; blk_ext [iblk, idx t]
theorem blk3 (t : Fin cfg0.N) (k : Fin 1024) : (show FVec Ideal S1x1024 .f32 from iblk m c 3 t) (ix2 0 k) = ((A.g k : ℝ) : EReal) := by
  rw [← host2 H]; blk_ext [iblk, idx t]

/-! The outputs at the end. -/

set_option maxHeartbeats 2000000 in
theorem final4 : (dats m 0 c).arrAt 4 cfg0.N = (fun i => ((A.y (i 0) (i 1) : ℝ) : EReal) : FVec Ideal S16384x1024 .f32) := by
  refine (dats m 0 c).arrAt_eq_of_covers 4 _ (by decide +kernel) fun t hf y => ?_
  have e (y0 y1 : Fin 1024) : ((cfg0.win 4).blk t).view.emb (ix2 y0 y1) = (ix2 (row t y0) y1 : S16384x1024.Idx) := by blk_ext [idx t, row]
  blk_simp
  rw [after0_4]
  idx_vars y
  rw [e]
  unfold out0_4
  frame_out
  exact pay3 (blk1 H t) (blk2 H t) (blk0 H t) (blk3 H t) y0 y1
set_option maxHeartbeats 2000000 in
theorem final5 : (dats m 0 c).arrAt 5 cfg0.N = (fun i => ((A.m (i 0) (i 1) : ℝ) : EReal) : FVec Ideal S16384x1024 .bf16) := by
  refine (dats m 0 c).arrAt_eq_of_covers 5 _ (by decide +kernel) fun t hf y => ?_
  have e (y0 y1 : Fin 1024) : ((cfg0.win 5).blk t).view.emb (ix2 y0 y1) = (ix2 (row t y0) y1 : S16384x1024.Idx) := by blk_ext [idx t, row]
  blk_simp
  rw [after0_5]
  idx_vars y
  rw [e]
  unfold out0_5
  frame_out
  exact pay2 (blk1 H t) (blk2 H t) y0 y1
omit H

/-- The side conditions of the precondition's operations. -/
instance preFacts : Cert.Pre_finite_pw2_out.Facts := by constructor <;> decide

/-- Under the precondition the arguments are arrays of reals. -/
theorem reals_of_pre (m : (ℓ : Loc nD τ sig) → Buf (Elt Ideal) ℓ) (h : Cert.Pre_Pw2OutIdeal_finite_pw2_out m) (c : Dev nD) : ∃ A, Reads m c A := by
  have e := congrFun (h c) (fun a => a.elim0)
  unfold Cert.Pre_finite_pw2_out.fn Cert.Pre_finite_pw2_out.fn_part1 at e
  obtain ⟨e012, e3⟩ := IntOp.andi_eq_one.mp e
  obtain ⟨e01, e2⟩ := IntOp.andi_eq_one.mp e012
  obtain ⟨e0, e1⟩ := IntOp.andi_eq_one.mp e01
  exact real_of_finite _ _ _ _ (reals_of_all _ _ _ _ _ e0) (reals_of_all _ _ _ _ _ e1) (reals_of_all _ _ _ _ _ e2) (reals_of_all _ _ _ _ _ e3)

/-- The reference runs and leaves its arguments; it has no semaphores. -/
theorem frameRef : Cert.quiescent_Pw2OutRefIdeal (hPw2OutRefIdeal := Cert.Pw2OutRefIdeal.Gen.facts) := fun m ρ _ =>
  (θ_run Cert.Pw2OutRefIdeal.defs _ _).mono (fun r h => ⟨fun c => (h c).2.2, sem_eq_zero_of_no_sems (by decide) r.2⟩)
    (Cert.Pw2OutRefIdeal.Value.run m ρ)

/-- The call and the reference have equal results. -/
theorem algebraic : Cert.algebraic_Pw2OutIdeal_Pw2OutRefIdeal_pre_finite_pw2_out (hPw2OutIdeal := Cert.Pw2OutIdeal.Gen.facts) (hPw2OutRefIdeal := Cert.Pw2OutRefIdeal.Gen.facts) (hPre_finite_pw2_out := preFacts) := by
  pair_intro
  · run_from Cert.Pw2OutIdeal.Gen.run_main m g
  · run_from Cert.Pw2OutRefIdeal.Value.run m' g'
    · obtain ⟨A, H⟩ := reals_of_pre m hpre c
      rw [Cert.Pw2OutRefIdeal.Read.val_main_v14_eq, final4 H]
      funext j
      idx_vars j
      exact Ref.v14 H j0 j1
    · obtain ⟨A, H⟩ := reals_of_pre m hpre c
      rw [final5 H]
      funext j
      idx_vars j
      exact Ref.v0 H j0 j1
end Cert.Pw2OutVal
end
-- ==== Proof.SguOutClaim.lean ====
module
public import proofs.«01_k».proof.Defs
public import proofs.«01_k».proof.Proof.ResMath
public import proofs.«01_k».proof.Proof.Gen.SguOutIdeal.Frame
public import proofs.«01_k».proof.Proof.Gen.SguOutRefIdeal.Read
public import proofs.«01_k».proof.Proof.Gen.SguOutRefIdeal.Run
public import Idealize.ShloMosaic.Lib.Pipeline.ValueKit
public import Idealize.ShloMosaic.Lib.Pointwise
public import Idealize.ShloMosaic.Lib.Claim
@[expose] public section
set_option maxRecDepth 16384
noncomputable section
/-! The `sgu_out` call against plain maths: a product, and the residual with its norm. -/
namespace Cert.SguOutVal
open Idealize.ShloMosaic Idealize.ShloMosaic.TcCoe Idealize.SL.Sem Cert.Reals Cert.Res

namespace Ref
open Cert.SguOutRefIdeal Cert.SguOutRefIdeal.Read
variable {A : Args 2048} {x : (⟨S16384x1024, .f32⟩ : BufTy).Contents (Elt Ideal)} {a : (⟨S16384x2048, .f32⟩ : BufTy).Contents (Elt Ideal)} {w : (⟨S2048x1024, .f32⟩ : BufTy).Contents (Elt Ideal)} {g : (⟨S1024, .f32⟩ : BufTy).Contents (Elt Ideal)} (H : Real A x a w g)
include H
theorem v0 (i : Fin 16384) (j : Fin 1024) : val_main_v0 (F := Ideal) a w (ix2 i j) = ((A.m i j : ℝ) : EReal) := by
  pointwise [val_main_v0]
  simp only [H.a, H.w, ← EReal.coe_mul, sum_coe]; rfl
theorem v14 (i : Fin 16384) (j : Fin 1024) : val_main_v14 (F := Ideal) x a w g (ix2 i j) = ((A.y i j : ℝ) : EReal) := by
  pointwise [val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  simp only [v0 H, H.x, H.g, ← EReal.coe_mul, sum_coe, ofBits_eps, ofBits_1024, div_1024, ← EReal.coe_add]
  rw [rsqrt_ms, ← EReal.coe_mul, ← EReal.coe_mul, ← EReal.coe_add]; rfl
end Ref

open Cert.SguOutIdeal Cert.SguOutIdeal.Gen
section Body
variable {A : Args 2048} {a : Vec Ideal S1024x2048 .bf16} {w : Vec Ideal S2048x1024 .bf16} {x : Vec Ideal S1024x1024 .f32} {g : Vec Ideal S1x1024 .f32} {i : Fin 1024 → Fin 16384}
  (ha : ∀ r k, a (ix2 r k) = ((A.a (i r) k : ℝ) : EReal)) (hw : ∀ k j, w (ix2 k j) = ((A.w k j : ℝ) : EReal)) (hx : ∀ r k, x (ix2 r k) = ((A.x (i r) k : ℝ) : EReal)) (hg : ∀ k, g (ix2 0 k) = ((A.g k : ℝ) : EReal))

/-! The body's payloads, entry by entry. -/

include ha hw
theorem pay1 (r : Fin 1024) (j : Fin 1024) : k0_pay1 (F := Ideal) a w (ix2 r j) = ((A.m (i r) j : ℝ) : EReal) := by
  pointwise [k0_pay1]
  simp only [ha, hw, ← EReal.coe_mul, sum_coe]; rfl
theorem pay2 (r : Fin 1024) (j : Fin 1024) : k0_pay2 (F := Ideal) a w (ix2 r j) = ((A.m (i r) j : ℝ) : EReal) := by
  pointwise [k0_pay2]
  exact pay1 ha hw r j
include hx hg
theorem pay3 (r : Fin 1024) (j : Fin 1024) : k0_pay3 (F := Ideal) a w x g (ix2 r j) = ((A.y (i r) j : ℝ) : EReal) := by
  pointwise [k0_pay3]
  simp only [pay1 ha hw, hx, hg, ← EReal.coe_mul, sum_coe, ofBits_eps, ofBits_1024, ofBits_one, div_1024, ← EReal.coe_add]
  rw [rsqrt_ms]
  simp only [← EReal.coe_mul, ← EReal.coe_add, one_mul]; rfl
end Body

/-- The block each window shows at each grid point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ t.val < 16 :=
  (by decide +kernel : ∀ t : Fin grid0.N, _)
/-- The array row of row `r` of block `t`. -/
def row (t : Fin cfg0.N) (r : Fin 1024) : Fin 16384 := ⟨t.val * 1024 + r.val, by have := (idx t).2.2.2.2.2.2; omega⟩

variable {m : (ℓ : Loc nD τ sig) → Buf (Elt Ideal) ℓ} {c : Dev nD} {A : Args 2048}

/-- The call's arguments are arrays of reals. -/
abbrev Reads (m : (ℓ : Loc nD τ sig) → Buf (Elt Ideal) ℓ) (c : Dev nD) (A : Args 2048) : Prop :=
  Real A (m ((c : Thread nD τ).loc main_arg0)) (m ((c : Thread nD τ).loc main_arg1)) (m ((c : Thread nD τ).loc main_arg2)) (m ((c : Thread nD τ).loc main_arg3))

variable (H : Reads m c A)
include H

/-! What the staged blocks hold. -/

theorem host0 (i : Fin 16384) (k : Fin 2048) : (show FVec Ideal S16384x2048 .bf16 from V m c main_v0) (ix2 i k) = ((A.a i k : ℝ) : EReal) := by
  unfold V hostOps0; entry_read; pointwise; exact H.a _ _
theorem host1 (k : Fin 2048) (j : Fin 1024) : (show FVec Ideal S2048x1024 .bf16 from V m c main_v1) (ix2 k j) = ((A.w k j : ℝ) : EReal) := by
  unfold V hostOps0; entry_read; pointwise; exact H.w _ _
theorem host2 (k : Fin 1024) : (show FVec Ideal S1x1024 .f32 from V m c main_v2) (ix2 0 k) = ((A.g k : ℝ) : EReal) := by
  unfold V hostOps0; entry_read; pointwise; exact H.g _
theorem blk0 (t : Fin cfg0.N) (r k : Fin 1024) : (show FVec Ideal S1024x1024 .f32 from iblk m c 0 t) (ix2 r k) = ((A.x (row t r) k : ℝ) : EReal) := by
  rw [← H.x]; blk_ext [iblk, V, idx t, row]
theorem blk1 (t : Fin cfg0.N) (r : Fin 1024) (k : Fin 2048) : (show FVec Ideal S1024x2048 .bf16 from iblk m c 1 t) (ix2 r k) = ((A.a (row t r) k : ℝ) : EReal) := by
  rw [← host0 H]; blk_ext [iblk, idx t, row]
theorem blk2 (t : Fin cfg0.N) (k : Fin 2048) (j : Fin 1024) : (show FVec Ideal S2048x1024 .bf16 from iblk m c 2 t) (ix2 k j) = ((A.w k j : ℝ) : EReal) := by
  rw [← host1 H]; blk_ext [iblk, idx t]
theorem blk3 (t : Fin cfg0.N) (k : Fin 1024) : (show FVec Ideal S1x1024 .f32 from iblk m c 3 t) (ix2 0 k) = ((A.g k : ℝ) : EReal) := by
  rw [← host2 H]; blk_ext [iblk, idx t]

/-! The outputs at the end. -/

set_option maxHeartbeats 2000000 in
theorem final4 : (dats m 0 c).arrAt 4 cfg0.N = (fun i => ((A.y (i 0) (i 1) : ℝ) : EReal) : FVec Ideal S16384x1024 .f32) := by
  refine (dats m 0 c).arrAt_eq_of_covers 4 _ (by decide +kernel) fun t hf y => ?_
  have e (y0 y1 : Fin 1024) : ((cfg0.win 4).blk t).view.emb (ix2 y0 y1) = (ix2 (row t y0) y1 : S16384x1024.Idx) := by blk_ext [idx t, row]
  blk_simp
  rw [after0_4]
  idx_vars y
  rw [e]
  unfold out0_4
  frame_out
  exact pay3 (blk1 H t) (blk2 H t) (blk0 H t) (blk3 H t) y0 y1
set_option maxHeartbeats 2000000 in
theorem final5 : (dats m 0 c).arrAt 5 cfg0.N = (fun i => ((A.m (i 0) (i 1) : ℝ) : EReal) : FVec Ideal S16384x1024 .bf16) := by
  refine (dats m 0 c).arrAt_eq_of_covers 5 _ (by decide +kernel) fun t hf y => ?_
  have e (y0 y1 : Fin 1024) : ((cfg0.win 5).blk t).view.emb (ix2 y0 y1) = (ix2 (row t y0) y1 : S16384x1024.Idx) := by blk_ext [idx t, row]
  blk_simp
  rw [after0_5]
  idx_vars y
  rw [e]
  unfold out0_5
  frame_out
  exact pay2 (blk1 H t) (blk2 H t) y0 y1
omit H

/-- The side conditions of the precondition's operations. -/
instance preFacts : Cert.Pre_finite_sgu_out.Facts := by constructor <;> decide

/-- Under the precondition the arguments are arrays of reals. -/
theorem reals_of_pre (m : (ℓ : Loc nD τ sig) → Buf (Elt Ideal) ℓ) (h : Cert.Pre_SguOutIdeal_finite_sgu_out m) (c : Dev nD) : ∃ A, Reads m c A := by
  have e := congrFun (h c) (fun a => a.elim0)
  unfold Cert.Pre_finite_sgu_out.fn Cert.Pre_finite_sgu_out.fn_part1 at e
  obtain ⟨e012, e3⟩ := IntOp.andi_eq_one.mp e
  obtain ⟨e01, e2⟩ := IntOp.andi_eq_one.mp e012
  obtain ⟨e0, e1⟩ := IntOp.andi_eq_one.mp e01
  exact real_of_finite _ _ _ _ (reals_of_all _ _ _ _ _ e0) (reals_of_all _ _ _ _ _ e1) (reals_of_all _ _ _ _ _ e2) (reals_of_all _ _ _ _ _ e3)

/-- The reference runs and leaves its arguments; it has no semaphores. -/
theorem frameRef : Cert.quiescent_SguOutRefIdeal (hSguOutRefIdeal := Cert.SguOutRefIdeal.Gen.facts) := fun m ρ _ =>
  (θ_run Cert.SguOutRefIdeal.defs _ _).mono (fun r h => ⟨fun c => (h c).2.2, sem_eq_zero_of_no_sems (by decide) r.2⟩)
    (Cert.SguOutRefIdeal.Value.run m ρ)

/-- The call and the reference have equal results. -/
theorem algebraic : Cert.algebraic_SguOutIdeal_SguOutRefIdeal_pre_finite_sgu_out (hSguOutIdeal := Cert.SguOutIdeal.Gen.facts) (hSguOutRefIdeal := Cert.SguOutRefIdeal.Gen.facts) (hPre_finite_sgu_out := preFacts) := by
  pair_intro
  · run_from Cert.SguOutIdeal.Gen.run_main m g
  · run_from Cert.SguOutRefIdeal.Value.run m' g'
    · obtain ⟨A, H⟩ := reals_of_pre m hpre c
      rw [Cert.SguOutRefIdeal.Read.val_main_v14_eq, final4 H]
      funext j
      idx_vars j
      exact Ref.v14 H j0 j1
    · obtain ⟨A, H⟩ := reals_of_pre m hpre c
      rw [final5 H]
      funext j
      idx_vars j
      exact Ref.v0 H j0 j1
end Cert.SguOutVal
end
-- ==== Proof.SguInFwdClaim.lean ====
module
public import proofs.«01_k».proof.Defs
public import proofs.«01_k».proof.Proof.Reals
public import proofs.«01_k».proof.Proof.Finite
public import proofs.«01_k».proof.Proof.Gen.SguInFwdIdeal.Frame
public import proofs.«01_k».proof.Proof.Gen.SguInFwdRefIdeal.Read
public import proofs.«01_k».proof.Proof.Gen.SguInFwdRefIdeal.Run
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
/-! The `sgu_in` call against plain maths: the product of the normed rows with a weight, in four blocks of columns. -/
namespace Cert.SguInFwdVal
open Idealize.ShloMosaic Idealize.ShloMosaic.TcCoe Idealize.SL.Sem Cert.Reals

/-- The arguments: rows, the norm's scale, the weight. -/
structure Args where
  x : Fin 16384 → Fin 1024 → ℝ
  g : Fin 1024 → ℝ
  w : Fin 1024 → Fin 4096 → ℝ
namespace Args
variable (A : Args) (i : Fin 16384)
/-- The normed rows. -/
def h (k : Fin 1024) : ℝ := A.x i k * rst (A.x i) * A.g k
/-- Their product with the weight. -/
def z (j : Fin 4096) : ℝ := ∑ k, A.h i k * A.w k j
end Args

/-- The three arguments are arrays of reals. -/
structure Real (A : Args) (x : (⟨⟨2, ![16384, 1024]⟩, .f32⟩ : BufTy).Contents (Elt Ideal)) (g : (⟨⟨1, ![1024]⟩, .f32⟩ : BufTy).Contents (Elt Ideal)) (w : (⟨⟨2, ![1024, 4096]⟩, .f32⟩ : BufTy).Contents (Elt Ideal)) : Prop where
  x : ∀ i k, x (ix2 i k) = ((A.x i k : ℝ) : EReal)
  g : ∀ k, g (ix1 k) = ((A.g k : ℝ) : EReal)
  w : ∀ i k, w (ix2 i k) = ((A.w i k : ℝ) : EReal)

namespace Ref
open Cert.SguInFwdRefIdeal Cert.SguInFwdRefIdeal.Read
variable {A : Args} {x : (⟨S16384x1024, .f32⟩ : BufTy).Contents (Elt Ideal)} {g : (⟨S1024, .f32⟩ : BufTy).Contents (Elt Ideal)} {w : (⟨S1024x4096, .f32⟩ : BufTy).Contents (Elt Ideal)} (H : Real A x g w)
include H
theorem v12 (i : Fin 16384) (k : Fin 1024) : val_main_v12 (F := Ideal) x g (ix2 i k) = ((A.h i k : ℝ) : EReal) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [H.x, H.g, ← EReal.coe_mul, sum_coe, ofBits_eps, ofBits_1024, div_1024, ← EReal.coe_add]
  rw [rsqrt_ms, ← EReal.coe_mul, ← EReal.coe_mul]; rfl
theorem v14 (i : Fin 16384) (j : Fin 4096) : val_main_v14 (F := Ideal) x g w (ix2 i j) = ((A.z i j : ℝ) : EReal) := by
  pointwise [val_main_v14, val_main_v13]
  simp only [v12 H, H.w, ← EReal.coe_mul, sum_coe]; rfl
end Ref

open Cert.SguInFwdIdeal Cert.SguInFwdIdeal.Gen

/-! A block of 1024 columns of the product. -/

theorem zero2 : (![0, 0] : Fin 2 → ℕ) = fun _ => 0 := by funext b; match b with | ⟨0, _⟩ => rfl | ⟨1, _⟩ => rfl
/-- Rows of the weight, loaded from `off`. -/
theorem ld_rows {X : Vec Ideal S4096x1024 .bf16} {W : Fin 4096 → Fin 1024 → ℝ} (hX : ∀ j k, X (ix2 j k) = ((W j k : ℝ) : EReal)) {off : Fin 2 → ℕ} {inb} (h1 : off 1 = 0)
    (x : Fin 1024) (k : Fin 1024) (j : Fin 4096) (hj : j.val = off 0 + x.val) : View.ld X (Rect.unit (s := S4096x1024) off S1024x1024.size inb) (ix2 x k) = ((W j k : ℝ) : EReal) := by
  rw [← hX j k]
  refine congrArg X (funext fun b => Fin.ext ?_)
  match b with
  | ⟨0, _⟩ => exact (ValueKit.rect_emb_unit_val (s := S4096x1024) off S1024x1024.size inb (ix2 x k) 0).trans hj.symm
  | ⟨1, _⟩ => exact (ValueKit.rect_emb_unit_val (s := S4096x1024) off S1024x1024.size inb (ix2 x k) 1).trans (by rw [h1]; exact Nat.zero_add k.val)
/-- A block written in pieces holds at an index what the piece covering it holds there. -/
theorem canon_pieces {s : Shape} {e : EltTy} (G : s.Idx → Elt Ideal e) {L : List (View.Piece (Elt Ideal) s e)} (h : View.PiecesOf G L) (y : s.Idx) (hc : ∃ p ∈ L, y ∈ p.1.set) : View.canon L y = G y :=
  View.canon_apply_of_pieces G L h.mem y hc
/-- A block of columns holds the whole block's entries where it lies. -/
theorem cols_of {G : Fin 512 → Fin 4096 → EReal} {off : Fin 2 → ℕ} {inb} {f : S512x1024.Idx → EReal} (h0 : off 0 = 0)
    (h : ∀ (r : Fin 512) (x : Fin 1024) (k : Fin 4096), k.val = off 1 + x.val → f (ix2 r x) = G r k) (x : S512x1024.Idx) :
    f x = (fun i : S512x4096.Idx => G (i 0) (i 1)) ((Rect.unit (s := S512x4096) off ![512, 1024] inb).emb x) := by
  obtain ⟨x0, x1, rfl⟩ : ∃ x0 x1, x = ix2 x0 x1 := ⟨x 0, x 1, by funext b; match b with | ⟨0, _⟩ => rfl | ⟨1, _⟩ => rfl⟩
  have e : ((Rect.unit (s := S512x4096) off ![512, 1024] inb).emb (ix2 x0 x1)) 0 = x0 :=
    Fin.ext ((ValueKit.rect_emb_unit_val (s := S512x4096) off ![512, 1024] inb (ix2 x0 x1) 0).trans (by rw [h0]; exact Nat.zero_add x0.val))
  dsimp only
  rw [e]
  exact h x0 x1 _ (ValueKit.rect_emb_unit_val (s := S512x4096) off ![512, 1024] inb (ix2 x0 x1) 1)

section Body
variable {A : Args} {X : Vec Ideal S512x1024 .f32} {G : Vec Ideal S1x1024 .f32} {i : Fin 512 → Fin 16384} (hX : ∀ r k, X (ix2 r k) = ((A.x (i r) k : ℝ) : EReal)) (hG : ∀ k, G (ix2 0 k) = ((A.g k : ℝ) : EReal))
include hX hG
/-- The normed rows. -/
theorem hrow (r : Fin 512) (k : Fin 1024) : k0_pay2 (F := Ideal) X G (ix2 r k) = ((A.h (i r) k : ℝ) : EReal) := by
  pointwise [k0_pay2]
  simp only [hX, hG, ← EReal.coe_mul, sum_coe, ofBits_eps, ofBits_1024, div_1024, ← EReal.coe_add]
  rw [rsqrt_ms, ← EReal.coe_mul, ← EReal.coe_mul]; rfl
/-- A column of the product, from the weight's row. -/
theorem col {w : Vec Ideal S1024x1024 .bf16} {x : Fin 1024} {j : Fin 4096} (hw : ∀ k, w (ix2 x k) = ((A.w k j : ℝ) : EReal)) (r : Fin 512) : k0_pay3 (F := Ideal) X G w (ix2 r x) = ((A.z (i r) j : ℝ) : EReal) := by
  pointwise [k0_pay3]
  simp only [hrow hX hG, hw, ← EReal.coe_mul, sum_coe]; rfl
/-- The four blocks of columns make up the whole block. -/
theorem out_of {T : Vec Ideal S4096x1024 .bf16} (hT : ∀ j k, T (ix2 j k) = ((A.w k j : ℝ) : EReal)) (r : Fin 512) (j : Fin 4096) : out0_3 (F := Ideal) X G T (ix2 r j) = ((A.z (i r) j : ℝ) : EReal) := by
  unfold out0_3
  rw [show View.ld X r0_0 = X from View.ld_unit_zero zero2 _ _, show View.ld G r0_1 = G from View.ld_unit_zero zero2 _ _]
  refine canon_pieces (s := S512x4096) (e := .bf16) (fun y : S512x4096.Idx => ((A.z (i (y 0)) (y 1) : ℝ) : EReal)) ?_ (ix2 r j) ?_
  on_goal 2 => exact View.cover_of_tiled _ ![512, 1024] rfl _
  refine And.intro ?_ (And.intro ?_ (And.intro ?_ (And.intro ?_ trivial)))
  all_goals exact cols_of (G := fun r j => ((A.z (i r) j : ℝ) : EReal)) (inb := by decide) rfl fun r x k hk => col hX hG (fun k' => ld_rows hT rfl x k' k hk) r
end Body

/-- The block each window shows at each grid point. -/
theorem idx : ∀ t : Fin cfg0.N, win0_0.index t = ![t.val, 0] ∧ win0_1.index t = ![0, 0] ∧ win0_2.index t = ![0, 0] ∧ win0_3.index t = ![t.val, 0] ∧ t.val < 32 :=
  (by decide +kernel : ∀ t : Fin grid0.N, _)
/-- The array row of row `r` of block `t`. -/
def row (t : Fin cfg0.N) (r : Fin 512) : Fin 16384 := ⟨t.val * 512 + r.val, by have := (idx t).2.2.2.2; omega⟩

variable {m : (ℓ : Loc nD τ sig) → Buf (Elt Ideal) ℓ} {c : Dev nD} {A : Args}

/-- The call's arguments are arrays of reals. -/
abbrev Reads (m : (ℓ : Loc nD τ sig) → Buf (Elt Ideal) ℓ) (c : Dev nD) (A : Args) : Prop :=
  Real A (m ((c : Thread nD τ).loc main_arg0)) (m ((c : Thread nD τ).loc main_arg1)) (m ((c : Thread nD τ).loc main_arg2))

section
variable (H : Reads m c A)
include H

/-! What the staged blocks hold. -/

theorem host0 (k : Fin 1024) : (show FVec Ideal S1x1024 .f32 from V m c main_v0) (ix2 0 k) = ((A.g k : ℝ) : EReal) := by
  unfold V hostOps0; entry_read; pointwise; exact H.g _
theorem host2 (j : Fin 4096) (k : Fin 1024) : (show FVec Ideal S4096x1024 .bf16 from V m c main_v2) (ix2 j k) = ((A.w k j : ℝ) : EReal) := by
  unfold V hostOps0; entry_read; pointwise; exact H.w _ _
theorem blk0 (t : Fin cfg0.N) (r : Fin 512) (k : Fin 1024) : (show FVec Ideal S512x1024 .f32 from iblk m c 0 t) (ix2 r k) = ((A.x (row t r) k : ℝ) : EReal) := by
  rw [← H.x]; blk_ext [iblk, V, idx t, row]
theorem blk1 (t : Fin cfg0.N) (k : Fin 1024) : (show FVec Ideal S1x1024 .f32 from iblk m c 1 t) (ix2 0 k) = ((A.g k : ℝ) : EReal) := by
  rw [← host0 H]; blk_ext [iblk, idx t]
theorem blk2 (t : Fin cfg0.N) (j : Fin 4096) (k : Fin 1024) : (show FVec Ideal S4096x1024 .bf16 from iblk m c 2 t) (ix2 j k) = ((A.w k j : ℝ) : EReal) := by
  rw [← host2 H]; blk_ext [iblk, idx t]

set_option maxHeartbeats 2000000 in
/-- The output at the end. -/
theorem final3 : (dats m 0 c).arrAt 3 cfg0.N = (fun i => ((A.z (i 0) (i 1) : ℝ) : EReal) : FVec Ideal S16384x4096 .bf16) := by
  refine (dats m 0 c).arrAt_eq_of_covers 3 _ (by decide +kernel) fun t hf y => ?_
  have e (y0 : Fin 512) (y1 : Fin 4096) : ((cfg0.win 3).blk t).view.emb (ix2 y0 y1) = (ix2 (row t y0) y1 : S16384x4096.Idx) := by blk_ext [idx t, row]
  blk_simp
  rw [after0_3]
  idx_vars y
  rw [e]
  exact out_of (blk0 H t) (blk1 H t) (blk2 H t) y0 y1
end

/-- The side conditions of the precondition's operations. -/
instance preFacts : Cert.Pre_finite_sgu_in_fwd.Facts := by constructor <;> decide

/-- Under the precondition the arguments are arrays of reals. -/
theorem reals_of_pre (m : (ℓ : Loc nD τ sig) → Buf (Elt Ideal) ℓ) (h : Cert.Pre_SguInFwdIdeal_finite_sgu_in_fwd m) (c : Dev nD) : ∃ A, Reads m c A := by
  have e := congrFun (h c) (fun a => a.elim0)
  unfold Cert.Pre_finite_sgu_in_fwd.fn at e
  obtain ⟨e01, e2⟩ := IntOp.andi_eq_one.mp e
  obtain ⟨e0, e1⟩ := IntOp.andi_eq_one.mp e01
  obtain ⟨x, hx⟩ := reals2 _ (reals_of_all _ _ _ _ _ e0)
  obtain ⟨g, hg⟩ := reals1 _ (reals_of_all _ _ _ _ _ e1)
  obtain ⟨w, hw⟩ := reals2 _ (reals_of_all _ _ _ _ _ e2)
  exact ⟨⟨x, g, w⟩, hx, hg, hw⟩

/-- The reference runs and leaves its arguments; it has no semaphores. -/
theorem frameRef : Cert.quiescent_SguInFwdRefIdeal (hSguInFwdRefIdeal := Cert.SguInFwdRefIdeal.Gen.facts) := fun m ρ _ =>
  (θ_run Cert.SguInFwdRefIdeal.defs _ _).mono (fun r h => ⟨fun c => (h c).2, sem_eq_zero_of_no_sems (by decide) r.2⟩)
    (Cert.SguInFwdRefIdeal.Value.run m ρ)

/-- The call and the reference have equal results. -/
theorem algebraic : Cert.algebraic_SguInFwdIdeal_SguInFwdRefIdeal_pre_finite_sgu_in_fwd (hSguInFwdIdeal := Cert.SguInFwdIdeal.Gen.facts) (hSguInFwdRefIdeal := Cert.SguInFwdRefIdeal.Gen.facts) (hPre_finite_sgu_in_fwd := preFacts) := by
  pair_intro
  · run_from Cert.SguInFwdIdeal.Gen.run_main m g
  · run_from Cert.SguInFwdRefIdeal.Value.run m' g'
    · obtain ⟨A, H⟩ := reals_of_pre m hpre c
      rw [Cert.SguInFwdRefIdeal.Read.val_main_v14_eq, final3 H]
      funext j
      idx_vars j
      exact Ref.v14 H j0 j1
end Cert.SguInFwdVal
end
-- ==== Proof.ConvFwdIdealFrame.lean ====
module

public import proofs.«01_k».proof.Proof.Gen.ConvFwdIdeal.Frame
public import proofs.«01_k».proof.Proof.Gen.ConvFwdIdeal.Skeleton
public import proofs.«01_k».proof.Proof.Gen.ConvFwdIdeal.Loops
public import Idealize.ShloMosaic.Lib.Claim

@[expose] public section

set_option maxRecDepth 16384

noncomputable section
/-! The frame of the forward convolution's program, as the value claims read it. -/
namespace Cert.ConvFwdIdealFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.ConvFwdIdeal Cert.ConvFwdIdeal.Gen

variable {F : FTy → Type} [FloatOps F]

local notation "𝕄" => MT nD τ sig Unit (Elt F) ℕ (UR sig nD τ) ℕ

/-! ## The body -/

/-- The body's two conditions, as it computes them: the first grid point, and any later one. -/
abbrev first (i : grid0.Coords) : Prop :=
  Scalar.cmpi .ne (Scalar.extui (Scalar.cmpi .eq (BitVec.ofNat 32 (i 0).val) 0#32)) 0#32 = 1#1
abbrev later (i : grid0.Coords) : Prop :=
  Scalar.cmpi .ne (Scalar.extui (Scalar.cmpi .sgt (BitVec.ofNat 32 (i 0).val) 0#32)) 0#32 = 1#1

/-- Exactly one of them holds at each point. -/
theorem first_or_later : ∀ t : Fin grid0.N,
    first (grid0.coords t) ∧ ¬ later (grid0.coords t) ∨ ¬ first (grid0.coords t) ∧ later (grid0.coords t) := by
  decide +kernel

set_option maxHeartbeats 2000000 in
/-- From any contents of its windows and of its scratch the body runs to its end, the loads of scratch rows that no store has
    reached included, and leaves some contents in each. -/
theorem body (c : Dev nD) (E : Set ℕ) (i : grid0.Coords) (arg1 : Memref sig .tc .vmem S512x2048 .bf16) (harg1 : arg1.IsWhole) (arg2 : Memref sig .tc .vmem S32x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S8x544x1024 .f32) (harg8 : arg8.IsWhole)
    (h : first i ∧ ¬ later i ∨ ¬ first i ∧ later i) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E
          (cc0_conv_mid i arg1 harg1 arg2 harg2 arg3 harg3 arg4 harg4 arg5 harg5 arg6 harg6 arg7 harg7 arg8 harg8) K := by
  simp only [cc0_conv_mid_eq_skeleton]; unfold cc0_conv_mid_skel
  simp only [
    k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton,
    k0_part46_eq_skeleton, k0_part47_eq_skeleton, k0_part48_eq_skeleton, k0_part49_eq_skeleton, k0_part50_eq_skeleton,
    k0_part51_eq_skeleton, k0_part52_eq_skeleton, k0_part53_eq_skeleton, k0_part54_eq_skeleton, k0_part55_eq_skeleton,
    k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton,
    k0_part66_eq_skeleton, k0_part67_eq_skeleton, k0_part68_eq_skeleton, k0_part69_eq_skeleton, k0_part70_eq_skeleton,
    k0_part71_eq_skeleton, k0_part72_eq_skeleton, k0_part73_eq_skeleton, k0_part74_eq_skeleton, k0_part75_eq_skeleton,
    k0_part76_eq_skeleton, k0_part77_eq_skeleton, k0_part78_eq_skeleton, k0_part79_eq_skeleton, k0_part80_eq_skeleton,
    k0_part81_eq_skeleton, k0_part82_eq_skeleton, k0_part83_eq_skeleton, k0_part84_eq_skeleton, k0_part85_eq_skeleton,
    k0_part86_eq_skeleton, k0_part87_eq_skeleton, k0_part88_eq_skeleton, k0_part89_eq_skeleton, k0_part90_eq_skeleton,
    k0_part91_eq_skeleton, k0_part92_eq_skeleton, k0_part93_eq_skeleton, k0_part94_eq_skeleton, k0_part95_eq_skeleton,
    k0_part96_eq_skeleton, k0_part97_eq_skeleton, k0_part98_eq_skeleton, k0_part99_eq_skeleton, k0_part100_eq_skeleton,
    k0_part101_eq_skeleton, k0_part102_eq_skeleton, k0_part103_eq_skeleton, k0_part104_eq_skeleton, k0_part105_eq_skeleton,
    k0_part106_eq_skeleton, k0_part107_eq_skeleton, k0_part108_eq_skeleton, k0_part109_eq_skeleton, k0_part110_eq_skeleton,
    k0_part111_eq_skeleton, k0_part112_eq_skeleton, k0_part113_eq_skeleton, k0_part114_eq_skeleton, k0_part115_eq_skeleton,
    k0_part116_eq_skeleton, k0_part117_eq_skeleton, k0_part118_eq_skeleton, k0_part119_eq_skeleton, k0_part120_eq_skeleton,
    k0_part121_eq_skeleton, k0_part122_eq_skeleton, k0_part123_eq_skeleton, k0_part124_eq_skeleton, k0_part125_eq_skeleton,
    k0_part126_eq_skeleton, k0_part127_eq_skeleton, k0_part128_eq_skeleton, k0_part129_eq_skeleton, k0_part130_eq_skeleton,
    k0_part131_eq_skeleton, k0_part132_eq_skeleton, k0_part133_eq_skeleton, k0_part134_eq_skeleton, k0_part135_eq_skeleton,
    k0_part136_eq_skeleton, k0_part137_eq_skeleton, k0_part138_eq_skeleton, k0_part139_eq_skeleton, k0_part140_eq_skeleton,
    k0_part141_eq_skeleton, k0_part142_eq_skeleton, k0_part143_eq_skeleton, k0_part144_eq_skeleton, k0_part145_eq_skeleton,
    k0_part146_eq_skeleton, k0_part147_eq_skeleton, k0_part148_eq_skeleton, k0_part149_eq_skeleton, k0_part150_eq_skeleton,
    k0_part151_eq_skeleton, k0_part152_eq_skeleton, k0_part153_eq_skeleton, k0_part154_eq_skeleton, k0_part155_eq_skeleton,
    k0_part156_eq_skeleton, k0_part157_eq_skeleton, k0_part158_eq_skeleton, k0_part159_eq_skeleton, k0_part160_eq_skeleton,
    k0_part161_eq_skeleton, k0_part162_eq_skeleton, k0_part163_eq_skeleton, k0_part164_eq_skeleton, k0_part165_eq_skeleton,
    k0_part166_eq_skeleton, k0_part167_eq_skeleton, k0_part168_eq_skeleton, k0_part169_eq_skeleton, k0_part170_eq_skeleton,
    k0_part171_eq_skeleton, k0_part172_eq_skeleton, k0_part173_eq_skeleton, k0_part174_eq_skeleton, k0_part175_eq_skeleton,
    k0_part176_eq_skeleton, k0_part177_eq_skeleton, k0_part178_eq_skeleton, k0_part179_eq_skeleton, k0_part180_eq_skeleton,
    k0_part181_eq_skeleton]
  unfold owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  rcases h with ⟨h0, h1⟩ | ⟨h0, h1⟩
  all_goals
    sl_exec (disch := first | sl_exact h0 | sl_exact h1)
    sl_step
    iapply Hk
    isplitl [H0]
    · iexists _, _; isplitr; swap; · iexact H0
      ipureintro; rfl
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact H7
    ipureintro; rfl

/-! ## The launch -/

variable (m : (ℓ : Loc nD τ sig) → Buf (Elt F) ℓ) (ρ : Dev nD → PrngReg)

/-- No window's contents are followed. -/
def forgets : Fin 7 → Bool := fun _ => true

/-- The arrays as the call finds them, the scratch and the generator at anything between points, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem inv_eq (c : Dev nD) : (Pipeline.ΦA spec0 c : sProp 𝕄)
    = iprop(iprop((∃ d, owns (c : Thread nD τ) (Memref.whole cc0_scratch0) fullShare d)) ∗ ∃ r, prngReg c r) := by
  unfold Pipeline.ΦA; rw [scopedRest0_eq]; simp only [owns_whole]; try rfl

/-- What the body is called with at point `t`, and returns. -/
def held (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d))

theorem held_body (c : Dev nD) (t : Fin cfg0.N) :
    held m c t ⊢ wp frame (wpE (defs₀ (F := F)) Variants.none c none) Set.univ (bodyAt0 t) (fun _ => held m c t) := by
  unfold held bodyAt0
  rw [show (dats m 0 c).Φ t.castSucc = Pipeline.ΦA spec0 c from rfl, inv_eq]
  iintro ⟨⟨⟨H7⟩, Hg⟩, Ho, H0, H1, H2, H3, H4, H5, H6⟩
  iapply (body c Set.univ (grid0.coords t) _ _ _ _ _ _ _ _ _ _ _ _ _ _ _ _ (first_or_later t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [Hg H7]
  · isplitr [Hg]; swap; · iexact Hg
    iexact H7
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem table_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, table_row]
  exact triple_restated (held_body m c t) rfl .rfl fun _ => .rfl

set_option backward.isDefEq.respectTransparency.types false in
set_option maxHeartbeats 800000 in
theorem run_main : θ_run defs (onTc (τ := τ) (main (F := F))) (s₀ m ρ) (fun r =>
    Pipeline.RDat.FramePost (cfgs 0) (fun c => (dats (F := F) m 0 c).toRForget forgets) (V m) r
      ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- A buffer no window stages and no later line writes ends as the call found it. -/
theorem kept {r : PUnit × MemSt nD τ sig (Elt F)}
    (h : Pipeline.RDat.FramePost (cfgs 0) (fun c => (dats (F := F) m 0 c).toRForget forgets) (V m) r) (c : Dev nD) (b : Ref sig .tc)
    (hb : b ∈ Pipeline.restRefs sig spec0) : r.2.mem ((c : Thread nD τ).loc b) = V m c b := (h c).2 b hb

/-- Every weakly fair execution ends, with the arguments as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(kept m h.1 c main_arg0 (Pipeline.mem_restRefs_of main_arg0 (by decide) (by decide))).trans
        (V_main_arg0 m c),
      (kept m h.1 c main_arg1 (Pipeline.mem_restRefs_of main_arg1 (by decide) (by decide))).trans
        (V_main_arg1 m c),
      (kept m h.1 c main_arg2 (Pipeline.mem_restRefs_of main_arg2 (by decide) (by decide))).trans
        (V_main_arg2 m c),
      (kept m h.1 c main_arg3 (Pipeline.mem_restRefs_of main_arg3 (by decide) (by decide))).trans
        (V_main_arg3 m c),
      (kept m h.1 c main_arg4 (Pipeline.mem_restRefs_of main_arg4 (by decide) (by decide))).trans
        (V_main_arg4 m c)⟩, h.2⟩)
    (run_main m ρ)

end Cert.ConvFwdIdealFrame

end
-- ==== Proof.WgradClaim.lean ====
module
public import proofs.«01_k».proof.Defs
public import proofs.«01_k».proof.Proof.Reals
public import proofs.«01_k».proof.Proof.Gen.WgradRefIdeal.Run
public import proofs.«01_k».proof.Proof.Gen.WgradIdeal.Frame
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 16384
noncomputable section
/-! The `wgrad_sgu_in` call, `aᵀ @ b` added up over blocks of 512 rows in a scratch array, against the product on the
host. Sums over the extended reals may be regrouped, so no precondition is needed. -/
namespace Cert.WgradVal
open Idealize.ShloMosaic Idealize.ShloMosaic.TcCoe Idealize.SL.Sem Cert.WgradIdeal Cert.WgradIdeal.Gen Cert.Reals

/-- The block each window shows at each grid point. -/
theorem idx : ∀ t : Fin cfg0.N, win0_0.index t = ![t.val, 0] ∧ win0_1.index t = ![t.val, 0] ∧ win0_2.index t = ![0, 0] ∧ t.val < 32 :=
  (by decide +kernel : ∀ t : Fin grid0.N, _)

theorem pay2 (v3 : Vec Ideal S4096x1024 .f32) (v4 : Vec Ideal S512x4096 .bf16) (v6 : Vec Ideal S512x1024 .bf16) (i : Fin 4096) (j : Fin 1024) :
    k0_pay2 (F := Ideal) v3 v4 v6 (ix2 i j) = v3 (ix2 i j) + ∑ r : Fin 512, v4 (ix2 r i) * v6 (ix2 r j) := by
  pointwise [k0_pay2]

variable (m : (ℓ : Loc nD τ sig) → Buf (Elt Ideal) ℓ) (c : Dev nD)

/-- The two arguments, read as arrays. -/
def argA (i : Fin 16384) (k : Fin 4096) : EReal := (show FVec Ideal S16384x4096 .f32 from m ((c : Thread nD τ).loc main_arg0)) (ix2 i k)
def argB (i : Fin 16384) (k : Fin 1024) : EReal := (show FVec Ideal S16384x1024 .f32 from m ((c : Thread nD τ).loc main_arg1)) (ix2 i k)

/-- The array row of row `r` of block `t`. -/
def row (t : Fin cfg0.N) (r : Fin 512) : Fin 16384 := ⟨t.val * 512 + r.val, by have := (idx t).2.2.2; omega⟩

theorem blk0 (t : Fin cfg0.N) (r : Fin 512) (k : Fin 4096) : (show FVec Ideal S512x4096 .bf16 from iblk m c 0 t) (ix2 r k) = argA m c (row t r) k := by
  have e : (show FVec Ideal S512x4096 .bf16 from iblk m c 0 t) (ix2 r k) = (show FVec Ideal S16384x4096 .bf16 from V m c main_v0) (ix2 (row t r) k) := by
    blk_ext [iblk, idx t, row]
  rw [e]
  unfold V hostOps0
  entry_read
  pointwise
  rfl
theorem blk1 (t : Fin cfg0.N) (r : Fin 512) (k : Fin 1024) : (show FVec Ideal S512x1024 .bf16 from iblk m c 1 t) (ix2 r k) = argB m c (row t r) k := by
  have e : (show FVec Ideal S512x1024 .bf16 from iblk m c 1 t) (ix2 r k) = (show FVec Ideal S16384x1024 .bf16 from V m c main_v1) (ix2 (row t r) k) := by
    blk_ext [iblk, idx t, row]
  rw [e]
  unfold V hostOps0
  entry_read
  pointwise
  rfl

/-- What the rows of block `t` add to entry `j`. -/
def term (t : Fin cfg0.N) (j : S4096x1024.Idx) : EReal := ∑ r : Fin 512, argA m c (row t r) (j 0) * argB m c (row t r) (j 1)

theorem step (v3 : Vec Ideal S4096x1024 .f32) (t : Fin cfg0.N) (i : Fin 4096) (j : Fin 1024) :
    k0_pay2 (F := Ideal) v3 (iblk m c 0 t) (iblk m c 1 t) (ix2 i j) = v3 (ix2 i j) + term m c t (ix2 i j) := by
  rw [pay2]
  exact congrArg (v3 (ix2 i j) + ·) (Finset.sum_congr rfl fun r _ => congrArg₂ (· * ·) (blk0 m c t r i) (blk1 m c t r j))

/-- The scratch array at the last point holds the sum over all blocks. -/
theorem scratch (t : Fin cfg0.N) (hr : t.val % 32 = 31) (j : S4096x1024.Idx) :
    (outsAt0 m c t.val t.isLt).2 j = ∑ s : Fin 32, term m c ⟨32 * (t.val / 32) + s.val, Pipeline.run_point_lt_of_flush t hr s⟩ j := by
  have hz : (k0_pay1 (F := Ideal)) = fun _ => 0 := by funext j; pointwise [k0_pay1]
  rw [Pipeline.eq_sum_fin_of_reset_step_apply_of_flush (fun n h => (outsAt0 m c n h).2) 32 (fun _ => 0) (term m c)
    (fun t h j => by
      idx_vars j
      rw [outsAt0_A m c t h (by omega)]; frame_out
      rw [hz]
      exact step m c (fun _ => 0) t j0 j1)
    (fun t h j => by
      idx_vars j
      by_cases h1 : t.val % 32 = 31
      · rw [outsAt0_C m c t h h1]; frame_out
        rw [read_unread_whole]
        exact step m c _ t j0 j1
      · rw [outsAt0_B m c t h h1]; frame_out
        rw [read_unread_whole]
        exact step m c _ t j0 j1)
    t hr j, zero_add]

theorem total (t : Fin cfg0.N) (hr : t.val % 32 = 31) (i : Fin 4096) (j : Fin 1024) :
    ∑ s : Fin 32, term m c ⟨32 * (t.val / 32) + s.val, Pipeline.run_point_lt_of_flush t hr s⟩ (ix2 i j) = ∑ k : Fin 16384, argA m c k i * argB m c k j := by
  have ht := (idx t).2.2.2
  rw [Fin.sum_univ_tiles 32 512 rfl fun k => argA m c k i * argB m c k j]
  refine Finset.sum_congr rfl fun s _ => Finset.sum_congr rfl fun r _ => ?_
  have : row ⟨32 * (t.val / 32) + s.val, Pipeline.run_point_lt_of_flush t hr s⟩ r = ⟨s.val * 512 + r.val, by omega⟩ := Fin.ext (by show (32 * (t.val / 32) + s.val) * 512 + r.val = s.val * 512 + r.val; omega)
  rw [this]; rfl

theorem final2 : (dats m 0 c).arrAt 2 cfg0.N
    = (fun i => ∑ k : Fin 16384, argA m c k (i 0) * argB m c k (i 1) : FVec Ideal S4096x1024 .bf16) := by
  refine (dats m 0 c).arrAt_eq_of_covers 2 _ (by decide +kernel) fun t hf y => ?_
  have e (y0 : Fin 4096) (y1 : Fin 1024) : ((cfg0.win 2).blk t).view.emb (ix2 y0 y1) = (ix2 y0 y1 : S4096x1024.Idx) := by blk_ext [idx t]
  have hr : t.val % 32 = 31 := (flush0_2 t).mp hf
  have ht := (idx t).2.2.2
  have h : (outsAt0 m c t.val t.isLt).1 = k0_pay3 (outsAt0 m c t.val t.isLt).2 := by
    rw [outsAt0_C m c t (by omega) hr]; frame_out
  blk_simp
  rw [after0_2, h]
  idx_vars y
  rw [e]
  have p3 : k0_pay3 (F := Ideal) (outsAt0 m c t.val t.isLt).2 (ix2 y0 y1) = (outsAt0 m c t.val t.isLt).2 (ix2 y0 y1) := by pointwise [k0_pay3]
  rw [p3, scratch m c t hr]
  exact total m c t hr y0 y1

/-- The reference runs and leaves its arguments; it has no semaphores. -/
theorem frameRef : Cert.quiescent_WgradRefIdeal (hWgradRefIdeal := Cert.WgradRefIdeal.Gen.facts) := fun m ρ _ =>
  (θ_run Cert.WgradRefIdeal.defs _ _).mono (fun r h => ⟨fun c => (h c).2, sem_eq_zero_of_no_sems (by decide) r.2⟩)
    (Cert.WgradRefIdeal.Value.run m ρ)

/-- The call and the reference have equal results. -/
theorem algebraic : Cert.algebraic_WgradIdeal_WgradRefIdeal (hWgradIdeal := Cert.WgradIdeal.Gen.facts) (hWgradRefIdeal := Cert.WgradRefIdeal.Gen.facts) := by
  pair_intro
  · run_from Cert.WgradIdeal.Gen.run_main m g
  · refine (θ_run Cert.WgradRefIdeal.defs _ _).mono (fun r h c => ⟨(h c).1.trans ?_, (h c).2⟩) (Cert.WgradRefIdeal.Value.run m' g')
    have e := hagree c
    rw [e.1, e.2, final2]
    funext j
    idx_vars j
    pointwise
    rfl
end Cert.WgradVal
end
-- ==== Proof.lean ====
module

public import proofs.«01_k».proof.Defs
public import proofs.«01_k».proof.Proof.Pw2Claim
public import proofs.«01_k».proof.Proof.Gen.Pw2
public import proofs.«01_k».proof.Proof.Gen.Pw2.Frame
public import proofs.«01_k».proof.Proof.Gen.Pw2Ideal
public import proofs.«01_k».proof.Proof.Gen.Pw2Ideal.Frame
public import proofs.«01_k».proof.Proof.Gen.Pw2RefIdeal
public import proofs.«01_k».proof.Proof.SguInClaim
public import proofs.«01_k».proof.Proof.Gen.SguIn
public import proofs.«01_k».proof.Proof.Gen.SguIn.Frame
public import proofs.«01_k».proof.Proof.Gen.SguInIdeal
public import proofs.«01_k».proof.Proof.Gen.SguInIdeal.Frame
public import proofs.«01_k».proof.Proof.Gen.SguInRefIdeal
public import proofs.«01_k».proof.Proof.SguClaim
public import proofs.«01_k».proof.Proof.Gen.Sgu
public import proofs.«01_k».proof.Proof.Gen.Sgu.Frame
public import proofs.«01_k».proof.Proof.Gen.SguIdeal
public import proofs.«01_k».proof.Proof.Gen.SguIdeal.Frame
public import proofs.«01_k».proof.Proof.Gen.SguRefIdeal
public import proofs.«01_k».proof.Proof.FfnClaim
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Pw1Claim
public import proofs.«01_k».proof.Proof.Gen.Pw1
public import proofs.«01_k».proof.Proof.Gen.Pw1.Frame
public import proofs.«01_k».proof.Proof.Gen.Pw1Ideal
public import proofs.«01_k».proof.Proof.Gen.Pw1Ideal.Frame
public import proofs.«01_k».proof.Proof.Gen.Pw1RefIdeal
public import proofs.«01_k».proof.Proof.ConvBwdFrame
public import proofs.«01_k».proof.Proof.ConvBwdIdealFrame
public import proofs.«01_k».proof.Proof.OutClaim
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.OutLossClaim
public import proofs.«01_k».proof.Proof.Gen.OutLoss
public import proofs.«01_k».proof.Proof.Gen.OutLoss.Frame
public import proofs.«01_k».proof.Proof.Gen.OutLossIdeal
public import proofs.«01_k».proof.Proof.Gen.OutLossIdeal.Frame
public import proofs.«01_k».proof.Proof.Gen.OutLossRefIdeal
public import proofs.«01_k».proof.Proof.Pw2OutClaim
public import proofs.«01_k».proof.Proof.Gen.Pw2Out
public import proofs.«01_k».proof.Proof.Gen.Pw2Out.Frame
public import proofs.«01_k».proof.Proof.Gen.Pw2OutIdeal
public import proofs.«01_k».proof.Proof.Gen.Pw2OutIdeal.Frame
public import proofs.«01_k».proof.Proof.Gen.Pw2OutRefIdeal
public import proofs.«01_k».proof.Proof.SguOutClaim
public import proofs.«01_k».proof.Proof.Gen.SguOut
public import proofs.«01_k».proof.Proof.Gen.SguOut.Frame
public import proofs.«01_k».proof.Proof.Gen.SguOutIdeal
public import proofs.«01_k».proof.Proof.Gen.SguOutIdeal.Frame
public import proofs.«01_k».proof.Proof.Gen.SguOutRefIdeal
public import proofs.«01_k».proof.Proof.SguInFwdClaim
public import proofs.«01_k».proof.Proof.Gen.SguInFwd
public import proofs.«01_k».proof.Proof.Gen.SguInFwd.Frame
public import proofs.«01_k».proof.Proof.Gen.SguInFwdIdeal
public import proofs.«01_k».proof.Proof.Gen.SguInFwdIdeal.Frame
public import proofs.«01_k».proof.Proof.Gen.SguInFwdRefIdeal
public import proofs.«01_k».proof.Proof.ConvFwdFrame
public import proofs.«01_k».proof.Proof.ConvFwdIdealFrame
public import proofs.«01_k».proof.Proof.WgradClaim
public import proofs.«01_k».proof.Proof.Gen.Wgrad
public import proofs.«01_k».proof.Proof.Gen.Wgrad.Frame
public import proofs.«01_k».proof.Proof.Gen.WgradIdeal
public import proofs.«01_k».proof.Proof.Gen.WgradIdeal.Frame
public import proofs.«01_k».proof.Proof.Gen.WgradRefIdeal

@[expose] public section

noncomputable section
/-! Every claim, from the modules of the calls. -/
namespace Cert.Proof

open Idealize.ShloMosaic Idealize.SL.Sem

theorem claim : Cert.Claim := ⟨Cert.Pw2.Gen.facts, Cert.Pw2Ideal.Gen.facts, Cert.Pw2RefIdeal.Gen.facts, Cert.SguIn.Gen.facts, Cert.SguInIdeal.Gen.facts, Cert.SguInRefIdeal.Gen.facts, Cert.Sgu.Gen.facts, Cert.SguIdeal.Gen.facts, Cert.SguRefIdeal.Gen.facts, Cert.Ffn.Gen.facts, Cert.FfnIdeal.Gen.facts, Cert.FfnRefIdeal.Gen.facts, Cert.Pw1.Gen.facts, Cert.Pw1Ideal.Gen.facts, Cert.Pw1RefIdeal.Gen.facts, Cert.ConvBwd.Gen.facts, Cert.ConvBwdIdeal.Gen.facts, Cert.Out.Gen.facts, Cert.OutIdeal.Gen.facts, Cert.OutRefIdeal.Gen.facts, Cert.OutLoss.Gen.facts, Cert.OutLossIdeal.Gen.facts, Cert.OutLossRefIdeal.Gen.facts, Cert.Pw2Out.Gen.facts, Cert.Pw2OutIdeal.Gen.facts, Cert.Pw2OutRefIdeal.Gen.facts, Cert.SguOut.Gen.facts, Cert.SguOutIdeal.Gen.facts, Cert.SguOutRefIdeal.Gen.facts, Cert.SguInFwd.Gen.facts, Cert.SguInFwdIdeal.Gen.facts, Cert.SguInFwdRefIdeal.Gen.facts, Cert.ConvFwd.Gen.facts, Cert.ConvFwdIdeal.Gen.facts, Cert.Wgrad.Gen.facts, Cert.WgradIdeal.Gen.facts, Cert.WgradRefIdeal.Gen.facts, Cert.Pw2Val.preFacts, Cert.SguInVal.preFacts, Cert.SguVal.preFacts, Cert.FfnVal.preFacts, Cert.Pw1Val.preFacts, Cert.OutVal.preFacts, Cert.OutLossVal.preFacts, Cert.Pw2OutVal.preFacts, Cert.SguOutVal.preFacts, Cert.SguInFwdVal.preFacts,
  fun m ρ _ => Cert.Pw2.Gen.frame m ρ,
  fun m ρ _ => Cert.Pw2Ideal.Gen.frame m ρ,
  fun m ρ _ => Cert.Pw2Ideal.Gen.frame m ρ,
  Cert.Pw2Val.frameRef,
  fun m ρ _ => Cert.Pw2Val.frameRef m ρ trivial,
  fun m ρ _ => Cert.SguIn.Gen.frame m ρ,
  fun m ρ _ => Cert.SguInIdeal.Gen.frame m ρ,
  fun m ρ _ => Cert.SguInIdeal.Gen.frame m ρ,
  Cert.SguInVal.frameRef,
  fun m ρ _ => Cert.SguInVal.frameRef m ρ trivial,
  fun m ρ _ => Cert.Sgu.Gen.frame m ρ,
  fun m ρ _ => Cert.SguIdeal.Gen.frame m ρ,
  fun m ρ _ => Cert.SguIdeal.Gen.frame m ρ,
  Cert.SguVal.frameRef,
  fun m ρ _ => Cert.SguVal.frameRef m ρ trivial,
  fun m ρ _ => Cert.Ffn.Gen.frame m ρ,
  fun m ρ _ => Cert.FfnIdeal.Gen.frame m ρ,
  fun m ρ _ => Cert.FfnIdeal.Gen.frame m ρ,
  Cert.FfnVal.frameRef,
  fun m ρ _ => Cert.FfnVal.frameRef m ρ trivial,
  fun m ρ _ => Cert.Pw1.Gen.frame m ρ,
  fun m ρ _ => Cert.Pw1Ideal.Gen.frame m ρ,
  fun m ρ _ => Cert.Pw1Ideal.Gen.frame m ρ,
  Cert.Pw1Val.frameRef,
  fun m ρ _ => Cert.Pw1Val.frameRef m ρ trivial,
  fun m ρ _ => Cert.ConvBwdFrame.frame m ρ,
  fun m ρ _ => Cert.ConvBwdIdealFrame.frame m ρ,
  fun m ρ _ => Cert.Out.Gen.frame m ρ,
  fun m ρ _ => Cert.OutIdeal.Gen.frame m ρ,
  fun m ρ _ => Cert.OutIdeal.Gen.frame m ρ,
  Cert.OutVal.frameRef,
  fun m ρ _ => Cert.OutVal.frameRef m ρ trivial,
  fun m ρ _ => Cert.OutLoss.Gen.frame m ρ,
  fun m ρ _ => Cert.OutLossIdeal.Gen.frame m ρ,
  fun m ρ _ => Cert.OutLossIdeal.Gen.frame m ρ,
  Cert.OutLossVal.frameRef,
  fun m ρ _ => Cert.OutLossVal.frameRef m ρ trivial,
  fun m ρ _ => Cert.Pw2Out.Gen.frame m ρ,
  fun m ρ _ => Cert.Pw2OutIdeal.Gen.frame m ρ,
  fun m ρ _ => Cert.Pw2OutIdeal.Gen.frame m ρ,
  Cert.Pw2OutVal.frameRef,
  fun m ρ _ => Cert.Pw2OutVal.frameRef m ρ trivial,
  fun m ρ _ => Cert.SguOut.Gen.frame m ρ,
  fun m ρ _ => Cert.SguOutIdeal.Gen.frame m ρ,
  fun m ρ _ => Cert.SguOutIdeal.Gen.frame m ρ,
  Cert.SguOutVal.frameRef,
  fun m ρ _ => Cert.SguOutVal.frameRef m ρ trivial,
  fun m ρ _ => Cert.SguInFwd.Gen.frame m ρ,
  fun m ρ _ => Cert.SguInFwdIdeal.Gen.frame m ρ,
  fun m ρ _ => Cert.SguInFwdIdeal.Gen.frame m ρ,
  Cert.SguInFwdVal.frameRef,
  fun m ρ _ => Cert.SguInFwdVal.frameRef m ρ trivial,
  fun m ρ _ => Cert.ConvFwdFrame.frame m ρ,
  fun m ρ _ => Cert.ConvFwdIdealFrame.frame m ρ,
  fun m ρ _ => Cert.Wgrad.Gen.frame m ρ,
  fun m ρ _ => Cert.WgradIdeal.Gen.frame m ρ,
  Cert.WgradVal.frameRef,
  trivial,
  Cert.Pw2Val.algebraic,
  trivial,
  Cert.SguInVal.algebraic,
  Cert.SguVal.preserves,
  Cert.SguVal.algebraic,
  trivial,
  Cert.FfnVal.algebraic,
  trivial,
  Cert.Pw1Val.algebraic,
  trivial,
  trivial,
  Cert.OutVal.algebraic,
  trivial,
  Cert.OutLossVal.algebraic,
  trivial,
  Cert.Pw2OutVal.algebraic,
  trivial,
  Cert.SguOutVal.algebraic,
  trivial,
  Cert.SguInFwdVal.algebraic,
  trivial,
  trivial,
  Cert.WgradVal.algebraic⟩

end Cert.Proof

end
